-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9)
      ∧ r.2.mem ((c.tc : Thread Cert.Kernel15.nD Cert.Kernel15.τ).loc Cert.Kernel15.main_arg10) = m ((c.tc : Thread Cert.Kernel15.nD Cert.Kernel15.τ).loc Cert.Kernel15.main_arg10))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
      ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9)
      ∧ r.2.mem ((c.tc : Thread Cert.Reference15Ideal.nD Cert.Reference15Ideal.τ).loc Cert.Reference15Ideal.main_arg10) = m ((c.tc : Thread Cert.Reference15Ideal.nD Cert.Reference15Ideal.τ).loc Cert.Reference15Ideal.main_arg10))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v23_6) = v2 c
          ∧ r.2.mem ((c.tc : Thread Cert.ReferenceIdeal.nD Cert.ReferenceIdeal.τ).loc Cert.ReferenceIdeal.main_v23_7) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_v5) = v1 c
          ∧ r.2.mem ((c.tc : Thread Cert.Reference13Ideal.nD Cert.Reference13Ideal.τ).loc Cert.Reference13Ideal.main_v8) = v2 c
          ∧ r.2.mem ((c.tc : Thread Cert.Reference13Ideal.nD Cert.Reference13Ideal.τ).loc Cert.Reference13Ideal.main_v11) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v2_0)) (v1 : (c : Dev Cert.Kernel14Ideal.nD) → Buf (Elt Ideal) ((c.tc : Thread Cert.Kernel14Ideal.nD Cert.Kernel14Ideal.τ).loc Cert.Kernel14Ideal.main_v2_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2_0) = v0 c
          ∧ r.2.mem ((c.tc : Thread Cert.Kernel14Ideal.nD Cert.Kernel14Ideal.τ).loc Cert.Kernel14Ideal.main_v2_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v41) = v0 c
          ∧ r.2.mem ((c.tc : Thread Cert.Reference14Ideal.nD Cert.Reference14Ideal.τ).loc Cert.Reference14Ideal.main_v24) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)
      ∧ m' ((c.tc : Thread Cert.Reference15Ideal.nD Cert.Reference15Ideal.τ).loc Cert.Reference15Ideal.main_arg10) = m ((c.tc : Thread Cert.Kernel15Ideal.nD Cert.Kernel15Ideal.τ).loc Cert.Kernel15Ideal.main_arg10)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
          ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v50) = v0 c
          ∧ r.2.mem ((c.tc : Thread Cert.Reference15Ideal.nD Cert.Reference15Ideal.τ).loc Cert.Reference15Ideal.main_v33) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9)
          ∧ r.2.mem ((c.tc : Thread Cert.Reference15Ideal.nD Cert.Reference15Ideal.τ).loc Cert.Reference15Ideal.main_arg10) = m' ((c.tc : Thread Cert.Reference15Ideal.nD Cert.Reference15Ideal.τ).loc Cert.Reference15Ideal.main_arg10))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_v18) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v3_0)) (v1 : (c : Dev Cert.Kernel17Ideal.nD) → Buf (Elt Ideal) ((c.tc : Thread Cert.Kernel17Ideal.nD Cert.Kernel17Ideal.τ).loc Cert.Kernel17Ideal.main_v3_1)) (v2 : (c : Dev Cert.Kernel17Ideal.nD) → Buf (Elt Ideal) ((c.tc : Thread Cert.Kernel17Ideal.nD Cert.Kernel17Ideal.τ).loc Cert.Kernel17Ideal.main_v3_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3_0) = v0 c
          ∧ r.2.mem ((c.tc : Thread Cert.Kernel17Ideal.nD Cert.Kernel17Ideal.τ).loc Cert.Kernel17Ideal.main_v3_1) = v1 c
          ∧ r.2.mem ((c.tc : Thread Cert.Kernel17Ideal.nD Cert.Kernel17Ideal.τ).loc Cert.Kernel17Ideal.main_v3_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v54) = v0 c
          ∧ r.2.mem ((c.tc : Thread Cert.Reference17Ideal.nD Cert.Reference17Ideal.τ).loc Cert.Reference17Ideal.main_v53) = v1 c
          ∧ r.2.mem ((c.tc : Thread Cert.Reference17Ideal.nD Cert.Reference17Ideal.τ).loc Cert.Reference17Ideal.main_v37) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v6) = v2 c
          ∧ r.2.mem ((c.tc : Thread Cert.Reference20Ideal.nD Cert.Reference20Ideal.τ).loc Cert.Reference20Ideal.main_v12) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v6) = v2 c
          ∧ r.2.mem ((c.tc : Thread Cert.Reference21Ideal.nD Cert.Reference21Ideal.τ).loc Cert.Reference21Ideal.main_v12) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_v24) = v1 c
          ∧ r.2.mem ((c.tc : Thread Cert.Reference22Ideal.nD Cert.Reference22Ideal.τ).loc Cert.Reference22Ideal.main_v5) = v2 c
          ∧ r.2.mem ((c.tc : Thread Cert.Reference22Ideal.nD Cert.Reference22Ideal.τ).loc Cert.Reference22Ideal.main_v11) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_v24) = v1 c
          ∧ r.2.mem ((c.tc : Thread Cert.Reference23Ideal.nD Cert.Reference23Ideal.τ).loc Cert.Reference23Ideal.main_v5) = v2 c
          ∧ r.2.mem ((c.tc : Thread Cert.Reference23Ideal.nD Cert.Reference23Ideal.τ).loc Cert.Reference23Ideal.main_v11) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v38) = v0 c
          ∧ r.2.mem ((c.tc : Thread Cert.Reference24Ideal.nD Cert.Reference24Ideal.τ).loc Cert.Reference24Ideal.main_v40) = v1 c
          ∧ r.2.mem ((c.tc : Thread Cert.Reference24Ideal.nD Cert.Reference24Ideal.τ).loc Cert.Reference24Ideal.main_v20) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v14) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v12) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v41) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Kernel.lean ====
abbrev S128x128x256 : Shape := ⟨3, ![128, 128, 256]⟩
abbrev S128x256 : Shape := ⟨2, ![128, 256]⟩
abbrev S128x64x256 : Shape := ⟨3, ![128, 64, 256]⟩
abbrev S64x256 : Shape := ⟨2, ![64, 256]⟩
abbrev S64x128 : Shape := ⟨2, ![64, 128]⟩
abbrev S1x64x128 : Shape := ⟨3, ![1, 64, 128]⟩
abbrev S128x32x256 : Shape := ⟨3, ![128, 32, 256]⟩
abbrev S32x256 : Shape := ⟨2, ![32, 256]⟩
abbrev S32x128 : Shape := ⟨2, ![32, 128]⟩
abbrev S1x32x128 : Shape := ⟨3, ![1, 32, 128]⟩

abbrev nBuf : Space → Nat
  | .hbm => 8
  | .vmem => 22
  | .smem => 0
  | _ => 0

abbrev bufTy : (tb : Table) → Fin (tcTables nBuf tb) → BufTy
  | .hbm, ⟨0, _⟩ => ⟨S128x128x256, .f32⟩
  | .hbm, ⟨1, _⟩ => ⟨S128x256, .f32⟩
  | .hbm, ⟨2, _⟩ => ⟨S128x256, .f32⟩
  | .hbm, ⟨3, _⟩ => ⟨S128x128x256, .f32⟩
  | .hbm, ⟨4, _⟩ => ⟨S128x128x256, .f32⟩
  | .hbm, ⟨5, _⟩ => ⟨S128x128x256, .f32⟩
  | .hbm, ⟨6, _⟩ => ⟨S128x256, .f32⟩
  | .hbm, ⟨7, _⟩ => ⟨S128x256, .f32⟩
  | .local _ .vmem, ⟨0, _⟩ => ⟨S128x64x256, .f32⟩
  | .local _ .vmem, ⟨1, _⟩ => ⟨S128x64x256, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S128x64x256, .f32⟩
  | .local _ .vmem, ⟨7, _⟩ => ⟨S128x64x256, .f32⟩
  | .local _ .vmem, ⟨8, _⟩ => ⟨S128x32x256, .f32⟩
  | .local _ .vmem, ⟨9, _⟩ => ⟨S128x32x256, .f32⟩
  | .local _ .vmem, ⟨10, _⟩ => ⟨S128x32x256, .f32⟩
  | .local _ .vmem, ⟨11, _⟩ => ⟨S128x32x256, .f32⟩
  | .local _ .vmem, ⟨12, _⟩ => ⟨S32x256, .f32⟩
  | .local _ .vmem, ⟨13, _⟩ => ⟨S32x256, .f32⟩
  | .local _ .vmem, ⟨14, _⟩ => ⟨S32x256, .f32⟩
  | .local _ .vmem, ⟨15, _⟩ => ⟨S32x256, .f32⟩
  | .local _ .vmem, ⟨16, _⟩ => ⟨S128x32x256, .f32⟩
  | .local _ .vmem, ⟨17, _⟩ => ⟨S128x32x256, .f32⟩
  | .local _ .vmem, ⟨18, _⟩ => ⟨S32x256, .f32⟩
  | .local _ .vmem, ⟨19, _⟩ => ⟨S32x256, .f32⟩
  | .local _ .vmem, ⟨20, _⟩ => ⟨S32x256, .f32⟩
  | .local _ .vmem, ⟨21, _⟩ => ⟨S32x256, .f32⟩
  | _, _ => ⟨S128x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c128_i32 : BitVec 32 := 128#32
  let v5 : BitVec 32 := Scalar.addi c0_i32 c128_i32
  let c1_i32 : BitVec 32 := 1#32
  ⟨c0_i32, v5, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let v7 : Index := Scalar.indexCast arg5
  let c0_7 : Index := 0#32
  let c0_8 : Index := 0#32
  ![v7.toNat, 0, 0]
def k0_off2 (k0_t1 : Fin k0_t1_loop.trips) : Fin 3 → Nat :=
  let c127_i32 : BitVec 32 := 127#32
  let c0_i32 : BitVec 32 := 0#32
  let c1_i32 : BitVec 32 := 1#32
  let arg5 : BitVec 32 := Scf.iv c0_i32 c1_i32 k0_t1
  let v19 : BitVec 32 := Scalar.subi c127_i32 arg5
  let v20 : Index := Scalar.indexCast v19
  let c0_11 : Index := 0#32
  let c128_12 : Index := 128#32
  ![v20.toNat, 0, 128]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

@[reducible] def k1_t1_loop : Scf.Loop 32 :=
  let c0_i32 : BitVec 32 := 0#32
  let c128_i32 : BitVec 32 := 128#32
  let v5 : BitVec 32 := Scalar.addi c0_i32 c128_i32
  let c1_i32 : BitVec 32 := 1#32
  ⟨c0_i32, v5, c1_i32⟩
def k1_off1 (k1_t1 : Fin k1_t1_loop.trips) : Fin 3 → Nat :=
  let c127_i32 : BitVec 32 := 127#32
  let c0_i32 : BitVec 32 := 0#32
  let c1_i32 : BitVec 32 := 1#32
  let arg8 : BitVec 32 := Scf.iv c0_i32 c1_i32 k1_t1
  let v11 : BitVec 32 := Scalar.subi c127_i32 arg8
  let v12 : Index := Scalar.indexCast v11
  let c0_15 : Index := 0#32
  let c0_16 : Index := 0#32
  ![v12.toNat, 0, 0]
def k1_off2 (k1_t1 : Fin k1_t1_loop.trips) : Fin 3 → Nat :=
  let c0_i32 : BitVec 32 := 0#32
  let c1_i32 : BitVec 32 := 1#32
  let arg8 : BitVec 32 := Scf.iv c0_i32 c1_i32 k1_t1
  let v32 : Index := Scalar.indexCast arg8
  let c0_22 : Index := 0#32
  let c128_23 : Index := 128#32
  ![v32.toNat, 0, 128]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x32x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x32x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x32x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S32x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S32x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S128x128x256 : Shape := ⟨3, ![128, 128, 256]⟩
abbrev S128x256 : Shape := ⟨2, ![128, 256]⟩
abbrev S_ : Shape := ⟨0, ![]⟩
abbrev S128x128x128 : Shape := ⟨3, ![128, 128, 128]⟩
abbrev S1x128x256 : Shape := ⟨3, ![1, 128, 256]⟩
abbrev S128x2x2x64 : Shape := ⟨4, ![128, 2, 2, 64]⟩

abbrev nBuf : Space → Nat
  | .hbm => 121
  | .vmem => 0
  | .smem => 0
  | _ => 0

abbrev bufTy : (tb : Table) → Fin (tcTables nBuf tb) → BufTy
  | .hbm, ⟨0, _⟩ => ⟨S128x128x256, .f32⟩
  | .hbm, ⟨1, _⟩ => ⟨S128x256, .f32⟩
  | .hbm, ⟨2, _⟩ => ⟨S128x256, .f32⟩
  | .hbm, ⟨3, _⟩ => ⟨S128x128x256, .f32⟩
  | .hbm, ⟨4, _⟩ => ⟨S_, .f32⟩
  | .hbm, ⟨5, _⟩ => ⟨S128x256, .f32⟩
  | .hbm, ⟨6, _⟩ => ⟨S128x128x128, .f32⟩
  | .hbm, ⟨7, _⟩ => ⟨S128x128x128, .f32⟩
  | .hbm, ⟨8, _⟩ => ⟨S128x128x128, .f32⟩
  | .hbm, ⟨9, _⟩ => ⟨S128x128x256, .f32⟩
  | .hbm, ⟨10, _⟩ => ⟨S_, .f32⟩
  | .hbm, ⟨11, _⟩ => ⟨S128x128x256, .f32⟩
  | .hbm, ⟨12, _⟩ => ⟨S_, .f32⟩
  | .hbm, ⟨13, _⟩ => ⟨S128x128x256, .f32⟩
  | .hbm, ⟨14, _⟩ => ⟨S_, .i32⟩
  | .hbm, ⟨15, _⟩ => ⟨S128x128x256, .f32⟩
  | .hbm, ⟨16, _⟩ => ⟨S128x256, .f32⟩
  | .hbm, ⟨17, _⟩ => ⟨S128x256, .f32⟩
  | .hbm, ⟨18, _⟩ => ⟨S_, .i32⟩
  | .hbm, ⟨19, _⟩ => ⟨S128x256, .f32⟩
  | .hbm, ⟨20, _⟩ => ⟨S128x128x256, .f32⟩
  | .hbm, ⟨21, _⟩ => ⟨S128x128x256, .f32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S1x128x256, .f32⟩
  | .hbm, ⟨27, _⟩ => ⟨S128x256, .f32⟩
  | .hbm, ⟨28, _⟩ => ⟨S128x2x2x64, .f32⟩
  | .hbm, ⟨29, _⟩ => ⟨S128x2x2x64, .f32⟩
  | .hbm, ⟨30, _⟩ => ⟨S128x256, .f32⟩
  | .hbm, ⟨31, _⟩ => ⟨S128x256, .f32⟩
  | .hbm, ⟨32, _⟩ => ⟨S128x256, .f32⟩
  | .hbm, ⟨33, _⟩ => ⟨S128x256, .f32⟩
  | .hbm, ⟨34, _⟩ => ⟨S128x256, .f32⟩
  | .hbm, ⟨35, _⟩ => ⟨S1x128x256, .f32⟩
  | .hbm, ⟨36, _⟩ => ⟨S_, .i32⟩
  | .hbm, ⟨37, _⟩ => ⟨S_, .i32⟩
  | .hbm, ⟨38, _⟩ => ⟨S128x128x256, .f32⟩
  | .hbm, ⟨39, _⟩ => ⟨S1x128x256, .f32⟩
  | .hbm, ⟨40, _⟩ => ⟨S_, .i32⟩
  | .hbm, ⟨41, _⟩ => ⟨S_, .i32⟩
  | .hbm, ⟨42, _⟩ => ⟨S128x128x256, .f32⟩
  | .hbm, ⟨43, _⟩ => ⟨S_, .i32⟩
  | .hbm, ⟨44, _⟩ => ⟨S_, .i32⟩
  | .hbm, ⟨45, _⟩ => ⟨S128x128x128, .f32⟩
  | .hbm, ⟨46, _⟩ => ⟨S128x128x128, .f32⟩
  | .hbm, ⟨47, _⟩ => ⟨S128x128x128, .f32⟩
  | .hbm, ⟨48, _⟩ => ⟨S128x128x256, .f32⟩
  | .hbm, ⟨49, _⟩ => ⟨S_, .f32⟩
  | .hbm, ⟨50, _⟩ => ⟨S128x256, .f32⟩
  | .hbm, ⟨51, _⟩ => ⟨S128x128x128, .f32⟩
  | .hbm, ⟨52, _⟩ => ⟨S128x128x128, .f32⟩
  | .hbm, ⟨53, _⟩ => ⟨S128x128x128, .f32⟩
  | .hbm, ⟨54, _⟩ => ⟨S_, .f32⟩
  | .hbm, ⟨55, _⟩ => ⟨S128x128x256, .f32⟩
  | .hbm, ⟨56, _⟩ => ⟨S_, .f32⟩
  | .hbm, ⟨57, _⟩ => ⟨S128x128x256, .f32⟩
  | .hbm, ⟨58, _⟩ => ⟨S128x128x256, .f32⟩
  | .hbm, ⟨59, _⟩ => ⟨S_, .f32⟩
  | .hbm, ⟨60, _⟩ => ⟨S128x256, .f32⟩
  | .hbm, ⟨61, _⟩ => ⟨S_, .f32⟩
  | .hbm, ⟨62, _⟩ => ⟨S128x256, .f32⟩
  | .hbm, ⟨63, _⟩ => ⟨S_, .f32⟩
  | .hbm, ⟨64, _⟩ => ⟨S128x256, .f32⟩
  | .hbm, ⟨65, _⟩ => ⟨S_, .f32⟩
  | .hbm, ⟨66, _⟩ => ⟨S128x128x256, .f32⟩
  | .hbm, ⟨67, _⟩ => ⟨S_, .i32⟩
  | .hbm, ⟨68, _⟩ => ⟨S128x128x256, .f32⟩
  | .hbm, ⟨69, _⟩ => ⟨S128x128x256, .f32⟩
  | .hbm, ⟨70, _⟩ => ⟨S128x128x256, .f32⟩
  | .hbm, ⟨71, _⟩ => ⟨S128x256, .f32⟩
  | .hbm, ⟨72, _⟩ => ⟨S128x256, .f32⟩
  | .hbm, ⟨73, _⟩ => ⟨S_, .i32⟩
  | .hbm, ⟨74, _⟩ => ⟨S128x256, .f32⟩
  | .hbm, ⟨75, _⟩ => ⟨S128x256, .f32⟩
  | .hbm, ⟨76, _⟩ => ⟨S128x256, .f32⟩
  | .hbm, ⟨77, _⟩ => ⟨S128x128x256, .f32⟩
  | .hbm, ⟨78, _⟩ => ⟨S_, .i32⟩
  | .hbm, ⟨79, _⟩ => ⟨S_, .i1⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S1x128x256, .f32⟩
  | .hbm, ⟨87, _⟩ => ⟨S128x256, .f32⟩
  | .hbm, ⟨88, _⟩ => ⟨S_, .i32⟩
  | .hbm, ⟨89, _⟩ => ⟨S_, .i32⟩
  | .hbm, ⟨90, _⟩ => ⟨S1x128x256, .f32⟩
  | .hbm, ⟨91, _⟩ => ⟨S128x256, .f32⟩
  | .hbm, ⟨92, _⟩ => ⟨S_, .i32⟩
  | .hbm, ⟨93, _⟩ => ⟨S_, .i32⟩
  | .hbm, ⟨94, _⟩ => ⟨S1x128x256, .f32⟩
  | .hbm, ⟨95, _⟩ => ⟨S128x256, .f32⟩
  | .hbm, ⟨96, _⟩ => ⟨S128x256, .f32⟩
  | .hbm, ⟨97, _⟩ => ⟨S128x256, .f32⟩
  | .hbm, ⟨98, _⟩ => ⟨S128x256, .f32⟩
  | .hbm, ⟨99, _⟩ => ⟨S128x256, .f32⟩
  | .hbm, ⟨100, _⟩ => ⟨S128x256, .f32⟩
  | .hbm, ⟨101, _⟩ => ⟨S128x256, .f32⟩
  | .hbm, ⟨102, _⟩ => ⟨S128x256, .f32⟩
  | .hbm, ⟨103, _⟩ => ⟨S128x2x2x64, .f32⟩
  | .hbm, ⟨104, _⟩ => ⟨S128x2x2x64, .f32⟩
  | .hbm, ⟨105, _⟩ => ⟨S128x256, .f32⟩
  | .hbm, ⟨106, _⟩ => ⟨S128x256, .f32⟩
  | .hbm, ⟨107, _⟩ => ⟨S1x128x256, .f32⟩
  | .hbm, ⟨108, _⟩ => ⟨S_, .i32⟩
  | .hbm, ⟨109, _⟩ => ⟨S_, .i32⟩
  | .hbm, ⟨110, _⟩ => ⟨S128x128x256, .f32⟩
  | .hbm, ⟨111, _⟩ => ⟨S_, .i32⟩
  | .hbm, ⟨112, _⟩ => ⟨S_, .i32⟩
  | .hbm, ⟨113, _⟩ => ⟨S128x128x128, .f32⟩
  | .hbm, ⟨114, _⟩ => ⟨S128x128x128, .f32⟩
  | .hbm, ⟨115, _⟩ => ⟨S128x128x128, .f32⟩
  | .hbm, ⟨116, _⟩ => ⟨S_, .f32⟩
  | .hbm, ⟨117, _⟩ => ⟨S128x128x256, .f32⟩
  | .hbm, ⟨118, _⟩ => ⟨S_, .f32⟩
  | .hbm, ⟨119, _⟩ => ⟨S128x128x256, .f32⟩
  | .hbm, ⟨120, _⟩ => ⟨S128x128x256, .f32⟩
  | _, _ => ⟨S128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_c : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev main_v7_6 : Ref sig .tc := ⟨.hbm, 21, rfl⟩
abbrev main_while0c_c_18 : Ref sig .tc := ⟨.hbm, 22, rfl⟩
abbrev main_while0c_v30 : Ref sig .tc := ⟨.hbm, 23, rfl⟩
abbrev main_while0b_call0_c : Ref sig .tc := ⟨.hbm, 24, rfl⟩
abbrev main_while0b_call0_c_0 : Ref sig .tc := ⟨.hbm, 25, rfl⟩
abbrev main_while0b_call0_v0 : Ref sig .tc := ⟨.hbm, 26, rfl⟩
abbrev main_while0b_v30 : Ref sig .tc := ⟨.hbm, 27, rfl⟩
abbrev main_while0b_v31 : Ref sig .tc := ⟨.hbm, 28, rfl⟩
abbrev main_while0b_v32 : Ref sig .tc := ⟨.hbm, 29, rfl⟩
abbrev main_while0b_v33 : Ref sig .tc := ⟨.hbm, 30, rfl⟩
abbrev main_while0b_v34 : Ref sig .tc := ⟨.hbm, 31, rfl⟩
abbrev main_while0b_v35 : Ref sig .tc := ⟨.hbm, 32, rfl⟩
abbrev main_while0b_v36 : Ref sig .tc := ⟨.hbm, 33, rfl⟩
abbrev main_while0b_v37 : Ref sig .tc := ⟨.hbm, 34, rfl⟩
abbrev main_while0b_call1_v0 : Ref sig .tc := ⟨.hbm, 35, rfl⟩
abbrev main_while0b_call1_c : Ref sig .tc := ⟨.hbm, 36, rfl⟩
abbrev main_while0b_call1_c_0 : Ref sig .tc := ⟨.hbm, 37, rfl⟩
abbrev main_while0b_v38 : Ref sig .tc := ⟨.hbm, 38, rfl⟩
abbrev main_while0b_call2_v0 : Ref sig .tc := ⟨.hbm, 39, rfl⟩
abbrev main_while0b_call2_c : Ref sig .tc := ⟨.hbm, 40, rfl⟩
abbrev main_while0b_call2_c_0 : Ref sig .tc := ⟨.hbm, 41, rfl⟩
abbrev main_while0b_v39 : Ref sig .tc := ⟨.hbm, 42, rfl⟩
abbrev main_while0b_c_18 : Ref sig .tc := ⟨.hbm, 43, rfl⟩
abbrev main_while0b_v40 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_cst_2 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_3 : Ref sig .tc := ⟨.hbm, 54, rfl⟩
abbrev main_v16 : Ref sig .tc := ⟨.hbm, 55, rfl⟩
abbrev main_cst_4 : Ref sig .tc := ⟨.hbm, 56, rfl⟩
abbrev main_v17 : Ref sig .tc := ⟨.hbm, 57, rfl⟩
abbrev main_v18 : Ref sig .tc := ⟨.hbm, 58, rfl⟩
abbrev main_cst_5 : Ref sig .tc := ⟨.hbm, 59, rfl⟩
abbrev main_v19 : Ref sig .tc := ⟨.hbm, 60, rfl⟩
abbrev main_cst_6 : Ref sig .tc := ⟨.hbm, 61, rfl⟩
abbrev main_v20 : Ref sig .tc := ⟨.hbm, 62, rfl⟩
abbrev main_cst_7 : Ref sig .tc := ⟨.hbm, 63, rfl⟩
abbrev main_v21 : Ref sig .tc := ⟨.hbm, 64, rfl⟩
abbrev main_cst_8 : Ref sig .tc := ⟨.hbm, 65, rfl⟩
abbrev main_v22 : Ref sig .tc := ⟨.hbm, 66, rfl⟩
abbrev main_c_9 : Ref sig .tc := ⟨.hbm, 67, rfl⟩
abbrev main_v23_0 : Ref sig .tc := ⟨.hbm, 68, rfl⟩
abbrev main_v23_1 : Ref sig .tc := ⟨.hbm, 69, rfl⟩
abbrev main_v23_2 : Ref sig .tc := ⟨.hbm, 70, rfl⟩
abbrev main_v23_3 : Ref sig .tc := ⟨.hbm, 71, rfl⟩
abbrev main_v23_4 : Ref sig .tc := ⟨.hbm, 72, rfl⟩
abbrev main_v23_5 : Ref sig .tc := ⟨.hbm, 73, rfl⟩
abbrev main_v23_6 : Ref sig .tc := ⟨.hbm, 74, rfl⟩
abbrev main_v23_7 : Ref sig .tc := ⟨.hbm, 75, rfl⟩
abbrev main_v23_8 : Ref sig .tc := ⟨.hbm, 76, rfl⟩
abbrev main_v23_9 : Ref sig .tc := ⟨.hbm, 77, rfl⟩
abbrev main_while1c_c_21 : Ref sig .tc := ⟨.hbm, 78, rfl⟩
abbrev main_while1c_v30 : Ref sig .tc := ⟨.hbm, 79, rfl⟩
abbrev main_while1b_c_21 : Ref sig .tc := ⟨.hbm, 80, rfl⟩
abbrev main_while1b_v30 : Ref sig .tc := ⟨.hbm, 81, rfl⟩
abbrev main_while1b_c_22 : Ref sig .tc := ⟨.hbm, 82, rfl⟩
abbrev main_while1b_v31 : Ref sig .tc := ⟨.hbm, 83, rfl⟩
abbrev main_while1b_call3_c : Ref sig .tc := ⟨.hbm, 84, rfl⟩
abbrev main_while1b_call3_c_0 : Ref sig .tc := ⟨.hbm, 85, rfl⟩
abbrev main_while1b_call3_v0 : Ref sig .tc := ⟨.hbm, 86, rfl⟩
abbrev main_while1b_v32 : Ref sig .tc := ⟨.hbm, 87, rfl⟩
abbrev main_while1b_call4_c : Ref sig .tc := ⟨.hbm, 88, rfl⟩
abbrev main_while1b_call4_c_0 : Ref sig .tc := ⟨.hbm, 89, rfl⟩
abbrev main_while1b_call4_v0 : Ref sig .tc := ⟨.hbm, 90, rfl⟩
abbrev main_while1b_v33 : Ref sig .tc := ⟨.hbm, 91, rfl⟩
abbrev main_while1b_call5_c : Ref sig .tc := ⟨.hbm, 92, rfl⟩
abbrev main_while1b_call5_c_0 : Ref sig .tc := ⟨.hbm, 93, rfl⟩
abbrev main_while1b_call5_v0 : Ref sig .tc := ⟨.hbm, 94, rfl⟩
abbrev main_while1b_v34 : Ref sig .tc := ⟨.hbm, 95, rfl⟩
abbrev main_while1b_v35 : Ref sig .tc := ⟨.hbm, 96, rfl⟩
abbrev main_while1b_v36 : Ref sig .tc := ⟨.hbm, 97, rfl⟩
abbrev main_while1b_v37 : Ref sig .tc := ⟨.hbm, 98, rfl⟩
abbrev main_while1b_v38 : Ref sig .tc := ⟨.hbm, 99, rfl⟩
abbrev main_while1b_v39 : Ref sig .tc := ⟨.hbm, 100, rfl⟩
abbrev main_while1b_v40 : Ref sig .tc := ⟨.hbm, 101, rfl⟩
abbrev main_while1b_v41 : Ref sig .tc := ⟨.hbm, 102, rfl⟩
abbrev main_while1b_v42 : Ref sig .tc := ⟨.hbm, 103, rfl⟩
abbrev main_while1b_v43 : Ref sig .tc := ⟨.hbm, 104, rfl⟩
abbrev main_while1b_v44 : Ref sig .tc := ⟨.hbm, 105, rfl⟩
abbrev main_while1b_v45 : Ref sig .tc := ⟨.hbm, 106, rfl⟩
abbrev main_while1b_call6_v0 : Ref sig .tc := ⟨.hbm, 107, rfl⟩
abbrev main_while1b_call6_c : Ref sig .tc := ⟨.hbm, 108, rfl⟩
abbrev main_while1b_call6_c_0 : Ref sig .tc := ⟨.hbm, 109, rfl⟩
abbrev main_while1b_v46 : Ref sig .tc := ⟨.hbm, 110, rfl⟩
abbrev main_while1b_c_23 : Ref sig .tc := ⟨.hbm, 111, rfl⟩
abbrev main_while1b_v47 : Ref sig .tc := ⟨.hbm, 112, rfl⟩
abbrev main_v24 : Ref sig .tc := ⟨.hbm, 113, rfl⟩
abbrev main_v25 : Ref sig .tc := ⟨.hbm, 114, rfl⟩
abbrev main_v26 : Ref sig .tc := ⟨.hbm, 115, rfl⟩
abbrev main_cst_10 : Ref sig .tc := ⟨.hbm, 116, rfl⟩
abbrev main_v27 : Ref sig .tc := ⟨.hbm, 117, rfl⟩
abbrev main_cst_11 : Ref sig .tc := ⟨.hbm, 118, rfl⟩
abbrev main_v28 : Ref sig .tc := ⟨.hbm, 119, rfl⟩
abbrev main_v29 : Ref sig .tc := ⟨.hbm, 120, rfl⟩

abbrev nD : Nat := 1
abbrev τ : Topo := Topo.v7x

variable {F : FTy → Type} [FloatOps F]

abbrev main_while0_count : Scf.Loop 32 := ⟨0#32, 128#32, 1#32⟩

abbrev main_while1_count : Scf.Loop 32 := ⟨0#32, 128#32, 1#32⟩
-- ==== Kernel2.lean ====
abbrev S8192x1024 : Shape := ⟨2, ![8192, 1024]⟩
abbrev S8192x3072 : Shape := ⟨2, ![8192, 3072]⟩
abbrev S4x1024x768 : Shape := ⟨3, ![4, 1024, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S4x1024x768, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .f32⟩
  | .local _ .vmem, ⟨5, _⟩ => ⟨S1x1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x4x768, .f32⟩
  | .hbm, ⟨10, _⟩ => ⟨S4x1024x768, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S8192x3072 : Shape := ⟨2, ![8192, 3072]⟩
abbrev S8192x1024 : Shape := ⟨2, ![8192, 1024]⟩
abbrev S3072x1024 : Shape := ⟨2, ![3072, 1024]⟩
abbrev S2048x1536 : Shape := ⟨2, ![2048, 1536]⟩
abbrev S2048x1024 : Shape := ⟨2, ![2048, 1024]⟩
abbrev S1536x1024 : Shape := ⟨2, ![1536, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S3072x1024, .f32⟩
  | .local _ .vmem, ⟨0, _⟩ => ⟨S2048x1536, .bf16⟩
  | .local _ .vmem, ⟨1, _⟩ => ⟨S2048x1536, .bf16⟩
  | .local _ .vmem, ⟨2, _⟩ => ⟨S2048x1024, .f32⟩
  | .local _ .vmem, ⟨3, _⟩ => ⟨S2048x1024, .f32⟩
  | .local _ .vmem, ⟨4, _⟩ => ⟨S1536x1024, .f32⟩
  | .local _ .vmem, ⟨5, _⟩ => ⟨S1536x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x3072 : Shape := ⟨2, ![8192, 3072]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 8
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S_, .f32⟩
  | .hbm, ⟨3, _⟩ => ⟨S3072x1024, .f32⟩
  | .hbm, ⟨4, _⟩ => ⟨S8192x3072, .f32⟩
  | .hbm, ⟨5, _⟩ => ⟨S8192x1024, .f32⟩
  | .hbm, ⟨6, _⟩ => ⟨S1024x3072, .f32⟩
  | .hbm, ⟨7, _⟩ => ⟨S3072x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x1024 : Shape := ⟨2, ![8192, 1024]⟩
abbrev S4x704x1024 : Shape := ⟨3, ![4, 704, 1024]⟩
abbrev S_ : Shape := ⟨0, ![]⟩
abbrev S4x768x1024 : Shape := ⟨3, ![4, 768, 1024]⟩
abbrev S3072x1024 : Shape := ⟨2, ![3072, 1024]⟩
abbrev S8192x3072 : Shape := ⟨2, ![8192, 3072]⟩
abbrev S1024x1024 : Shape := ⟨2, ![1024, 1024]⟩
abbrev S1536x1024 : Shape := ⟨2, ![1536, 1024]⟩
abbrev S1024x1536 : Shape := ⟨2, ![1024, 1536]⟩

abbrev nBuf : Space → Nat
  | .hbm => 8
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S4x704x1024, .f32⟩
  | .hbm, ⟨2, _⟩ => ⟨S4x704x1024, .bf16⟩
  | .hbm, ⟨3, _⟩ => ⟨S_, .i32⟩
  | .hbm, ⟨4, _⟩ => ⟨S_, .bf16⟩
  | .hbm, ⟨5, _⟩ => ⟨S4x768x1024, .bf16⟩
  | .hbm, ⟨6, _⟩ => ⟨S3072x1024, .bf16⟩
  | .hbm, ⟨7, _⟩ => ⟨S8192x3072, .bf16⟩
  | .local _ .vmem, ⟨0, _⟩ => ⟨S1024x1024, .f32⟩
  | .local _ .vmem, ⟨1, _⟩ => ⟨S1024x1024, .f32⟩
  | .local _ .vmem, ⟨2, _⟩ => ⟨S1536x1024, .bf16⟩
  | .local _ .vmem, ⟨3, _⟩ => ⟨S1536x1024, .bf16⟩
  | .local _ .vmem, ⟨4, _⟩ => ⟨S1024x1536, .bf16⟩
  | .local _ .vmem, ⟨5, _⟩ => ⟨S1024x1536, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x1024 : Shape := ⟨2, ![8192, 1024]⟩
abbrev S4x704x1024 : Shape := ⟨3, ![4, 704, 1024]⟩
abbrev S_ : Shape := ⟨0, ![]⟩
abbrev S4x768x1024 : Shape := ⟨3, ![4, 768, 1024]⟩
abbrev S3072x1024 : Shape := ⟨2, ![3072, 1024]⟩
abbrev S8192x3072 : Shape := ⟨2, ![8192, 3072]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x704x1024, .f32⟩
  | .hbm, ⟨2, _⟩ => ⟨S_, .i32⟩
  | .hbm, ⟨3, _⟩ => ⟨S_, .f32⟩
  | .hbm, ⟨4, _⟩ => ⟨S4x768x1024, .f32⟩
  | .hbm, ⟨5, _⟩ => ⟨S3072x1024, .f32⟩
  | .hbm, ⟨6, _⟩ => ⟨S_, .f32⟩
  | .hbm, ⟨7, _⟩ => ⟨S8192x3072, .f32⟩
  | .hbm, ⟨8, _⟩ => ⟨S8192x1024, .f32⟩
  | .hbm, ⟨9, _⟩ => ⟨S8192x3072, .f32⟩
  | .hbm, ⟨10, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel5.lean ====
abbrev S8192x1024 : Shape := ⟨2, ![8192, 1024]⟩
abbrev S1536x1024 : Shape := ⟨2, ![1536, 1024]⟩
abbrev S8192x1536 : Shape := ⟨2, ![8192, 1536]⟩
abbrev S1024x1024 : Shape := ⟨2, ![1024, 1024]⟩
abbrev S1024x1536 : Shape := ⟨2, ![1024, 1536]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1536x1024, .f32⟩
  | .hbm, ⟨2, _⟩ => ⟨S1536x1024, .bf16⟩
  | .hbm, ⟨3, _⟩ => ⟨S8192x1536, .f32⟩
  | .local _ .vmem, ⟨0, _⟩ => ⟨S1024x1024, .f32⟩
  | .local _ .vmem, ⟨1, _⟩ => ⟨S1024x1024, .f32⟩
  | .local _ .vmem, ⟨2, _⟩ => ⟨S1536x1024, .bf16⟩
  | .local _ .vmem, ⟨3, _⟩ => ⟨S1024x1536, .f32⟩
  | .local _ .vmem, ⟨4, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x1024 : Shape := ⟨2, ![8192, 1024]⟩
abbrev S1536x1024 : Shape := ⟨2, ![1536, 1024]⟩
abbrev S_ : Shape := ⟨0, ![]⟩
abbrev S8192x1536 : Shape := ⟨2, ![8192, 1536]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1536x1024, .f32⟩
  | .hbm, ⟨2, _⟩ => ⟨S_, .f32⟩
  | .hbm, ⟨3, _⟩ => ⟨S8192x1536, .f32⟩
  | .hbm, ⟨4, _⟩ => ⟨S8192x1024, .f32⟩
  | .hbm, ⟨5, _⟩ => ⟨S8192x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .f32⟩
  | .hbm, ⟨2, _⟩ => ⟨S1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S2048x1024, .f32⟩
  | .hbm, ⟨7, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S_, .f32⟩
  | .hbm, ⟨3, _⟩ => ⟨S1024x512, .f32⟩
  | .hbm, ⟨4, _⟩ => ⟨S8192x1024, .f32⟩
  | .hbm, ⟨5, _⟩ => ⟨S8192x512, .f32⟩
  | .hbm, ⟨6, _⟩ => ⟨S512x1024, .f32⟩
  | .hbm, ⟨7, _⟩ => ⟨S1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x1024 : Shape := ⟨2, ![8192, 1024]⟩
abbrev S8192x32 : Shape := ⟨2, ![8192, 32]⟩
abbrev S1024x32 : Shape := ⟨2, ![1024, 32]⟩
abbrev S2048x1024 : Shape := ⟨2, ![2048, 1024]⟩
abbrev S2048x32 : Shape := ⟨2, ![2048, 32]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x32, .f32⟩
  | .hbm, ⟨2, _⟩ => ⟨S1024x32, .f32⟩
  | .local _ .vmem, ⟨0, _⟩ => ⟨S2048x1024, .bf16⟩
  | .local _ .vmem, ⟨1, _⟩ => ⟨S2048x1024, .bf16⟩
  | .local _ .vmem, ⟨2, _⟩ => ⟨S2048x32, .f32⟩
  | .local _ .vmem, ⟨3, _⟩ => ⟨S2048x32, .f32⟩
  | .local _ .vmem, ⟨4, _⟩ => ⟨S1024x32, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S8192x32 : Shape := ⟨2, ![8192, 32]⟩
abbrev S_ : Shape := ⟨0, ![]⟩
abbrev S1024x32 : Shape := ⟨2, ![1024, 32]⟩
abbrev S32x1024 : Shape := ⟨2, ![32, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x32, .f32⟩
  | .hbm, ⟨2, _⟩ => ⟨S_, .f32⟩
  | .hbm, ⟨3, _⟩ => ⟨S1024x32, .f32⟩
  | .hbm, ⟨4, _⟩ => ⟨S8192x1024, .f32⟩
  | .hbm, ⟨5, _⟩ => ⟨S8192x32, .f32⟩
  | .hbm, ⟨6, _⟩ => ⟨S32x1024, .f32⟩
  | .hbm, ⟨7, _⟩ => ⟨S1024x32, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x1024, .f32⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S1024x512, .f32⟩
  | .hbm, ⟨7, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S8192x1024 : Shape := ⟨2, ![8192, 1024]⟩
abbrev S8x1024x704 : Shape := ⟨3, ![8, 1024, 704]⟩
abbrev S_ : Shape := ⟨0, ![]⟩
abbrev S8x1024x768 : Shape := ⟨3, ![8, 1024, 768]⟩
abbrev S8192x6144 : Shape := ⟨2, ![8192, 6144]⟩
abbrev S2048x1024 : Shape := ⟨2, ![2048, 1024]⟩
abbrev S1x1024x768 : Shape := ⟨3, ![1, 1024, 768]⟩
abbrev S2048x768 : Shape := ⟨2, ![2048, 768]⟩
abbrev S1024x768 : Shape := ⟨2, ![1024, 768]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8x1024x704, .f32⟩
  | .hbm, ⟨2, _⟩ => ⟨S8x1024x704, .bf16⟩
  | .hbm, ⟨3, _⟩ => ⟨S_, .i32⟩
  | .hbm, ⟨4, _⟩ => ⟨S_, .bf16⟩
  | .hbm, ⟨5, _⟩ => ⟨S8x1024x768, .bf16⟩
  | .hbm, ⟨6, _⟩ => ⟨S8192x6144, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x768, .bf16⟩
  | .local _ .vmem, ⟨5, _⟩ => ⟨S2048x768, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S8192x1024 : Shape := ⟨2, ![8192, 1024]⟩
abbrev S8x1024x704 : Shape := ⟨3, ![8, 1024, 704]⟩
abbrev S_ : Shape := ⟨0, ![]⟩
abbrev S8x1024x768 : Shape := ⟨3, ![8, 1024, 768]⟩
abbrev S1024x8x768 : Shape := ⟨3, ![1024, 8, 768]⟩
abbrev S1024x6144 : Shape := ⟨2, ![1024, 6144]⟩
abbrev S8192x6144 : Shape := ⟨2, ![8192, 6144]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8x1024x704, .f32⟩
  | .hbm, ⟨2, _⟩ => ⟨S_, .i32⟩
  | .hbm, ⟨3, _⟩ => ⟨S_, .f32⟩
  | .hbm, ⟨4, _⟩ => ⟨S8x1024x768, .f32⟩
  | .hbm, ⟨5, _⟩ => ⟨S1024x8x768, .f32⟩
  | .hbm, ⟨6, _⟩ => ⟨S1024x6144, .f32⟩
  | .hbm, ⟨7, _⟩ => ⟨S8192x1024, .f32⟩
  | .hbm, ⟨8, _⟩ => ⟨S8192x6144, .f32⟩
  | .hbm, ⟨9, _⟩ => ⟨S8192x6144, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S1024x2048 : Shape := ⟨2, ![1024, 2048]⟩
abbrev S1024x32 : Shape := ⟨2, ![1024, 32]⟩
abbrev S1024x512 : Shape := ⟨2, ![1024, 512]⟩
abbrev S8192x2048 : Shape := ⟨2, ![8192, 2048]⟩
abbrev S8192x32 : Shape := ⟨2, ![8192, 32]⟩
abbrev S8192x512 : Shape := ⟨2, ![8192, 512]⟩
abbrev S512x1024 : Shape := ⟨2, ![512, 1024]⟩
abbrev S512x2048 : Shape := ⟨2, ![512, 2048]⟩
abbrev S512x32 : Shape := ⟨2, ![512, 32]⟩
abbrev S512x512 : Shape := ⟨2, ![512, 512]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x2048, .bf16⟩
  | .hbm, ⟨3, _⟩ => ⟨S1024x32, .bf16⟩
  | .hbm, ⟨4, _⟩ => ⟨S1024x512, .bf16⟩
  | .hbm, ⟨5, _⟩ => ⟨S8192x1024, .f32⟩
  | .hbm, ⟨6, _⟩ => ⟨S8192x2048, .f32⟩
  | .hbm, ⟨7, _⟩ => ⟨S8192x32, .f32⟩
  | .hbm, ⟨8, _⟩ => ⟨S8192x512, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x2048, .bf16⟩
  | .local _ .vmem, ⟨4, _⟩ => ⟨S1024x32, .bf16⟩
  | .local _ .vmem, ⟨5, _⟩ => ⟨S1024x512, .bf16⟩
  | .local _ .vmem, ⟨6, _⟩ => ⟨S512x1024, .f32⟩
  | .local _ .vmem, ⟨7, _⟩ => ⟨S512x1024, .f32⟩
  | .local _ .vmem, ⟨8, _⟩ => ⟨S512x2048, .f32⟩
  | .local _ .vmem, ⟨9, _⟩ => ⟨S512x2048, .f32⟩
  | .local _ .vmem, ⟨10, _⟩ => ⟨S512x32, .f32⟩
  | .local _ .vmem, ⟨11, _⟩ => ⟨S512x32, .f32⟩
  | .local _ .vmem, ⟨12, _⟩ => ⟨S512x512, .f32⟩
  | .local _ .vmem, ⟨13, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S8192x1024 : Shape := ⟨2, ![8192, 1024]⟩
abbrev S1024x1024 : Shape := ⟨2, ![1024, 1024]⟩
abbrev S1024x2048 : Shape := ⟨2, ![1024, 2048]⟩
abbrev S1024x32 : Shape := ⟨2, ![1024, 32]⟩
abbrev S1024x512 : Shape := ⟨2, ![1024, 512]⟩
abbrev S8192x2048 : Shape := ⟨2, ![8192, 2048]⟩
abbrev S8192x32 : Shape := ⟨2, ![8192, 32]⟩
abbrev S8192x512 : Shape := ⟨2, ![8192, 512]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x2048, .bf16⟩
  | .hbm, ⟨3, _⟩ => ⟨S1024x32, .bf16⟩
  | .hbm, ⟨4, _⟩ => ⟨S1024x512, .bf16⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S1024x2048, .f32⟩
  | .hbm, ⟨10, _⟩ => ⟨S8192x2048, .f32⟩
  | .hbm, ⟨11, _⟩ => ⟨S8192x1024, .f32⟩
  | .hbm, ⟨12, _⟩ => ⟨S1024x32, .f32⟩
  | .hbm, ⟨13, _⟩ => ⟨S8192x32, .f32⟩
  | .hbm, ⟨14, _⟩ => ⟨S8192x1024, .f32⟩
  | .hbm, ⟨15, _⟩ => ⟨S1024x512, .f32⟩
  | .hbm, ⟨16, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel14.lean ====
abbrev S8192x3072 : Shape := ⟨2, ![8192, 3072]⟩
abbrev S8x1024x704 : Shape := ⟨3, ![8, 1024, 704]⟩
abbrev S8192x1024 : Shape := ⟨2, ![8192, 1024]⟩
abbrev S1x1024 : Shape := ⟨2, ![1, 1024]⟩
abbrev S_ : Shape := ⟨0, ![]⟩
abbrev S8x1024x768 : Shape := ⟨3, ![8, 1024, 768]⟩
abbrev S512x768 : Shape := ⟨2, ![512, 768]⟩
abbrev S1x1024x768 : Shape := ⟨3, ![1, 1024, 768]⟩
abbrev S512x1024 : Shape := ⟨2, ![512, 1024]⟩
abbrev S1024x768 : Shape := ⟨2, ![1024, 768]⟩
abbrev S512 : Shape := ⟨1, ![512]⟩
abbrev S512x1 : Shape := ⟨2, ![512, 1]⟩
abbrev S1024 : Shape := ⟨1, ![1024]⟩

abbrev nBuf : Space → Nat
  | .hbm => 12
  | .vmem => 32
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .bf16⟩
  | .hbm, ⟨2, _⟩ => ⟨S8x1024x704, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8x1024x704, .bf16⟩
  | .hbm, ⟨7, _⟩ => ⟨S_, .i32⟩
  | .hbm, ⟨8, _⟩ => ⟨S_, .bf16⟩
  | .hbm, ⟨9, _⟩ => ⟨S8x1024x768, .bf16⟩
  | .hbm, ⟨10, _⟩ => ⟨S8192x1024, .f32⟩
  | .hbm, ⟨11, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S512x768, .bf16⟩
  | .local _ .vmem, ⟨9, _⟩ => ⟨S512x768, .bf16⟩
  | .local _ .vmem, ⟨10, _⟩ => ⟨S512x768, .bf16⟩
  | .local _ .vmem, ⟨11, _⟩ => ⟨S512x768, .bf16⟩
  | .local _ .vmem, ⟨12, _⟩ => ⟨S512x768, .bf16⟩
  | .local _ .vmem, ⟨13, _⟩ => ⟨S512x768, .bf16⟩
  | .local _ .vmem, ⟨14, _⟩ => ⟨S512x768, .bf16⟩
  | .local _ .vmem, ⟨15, _⟩ => ⟨S512x768, .bf16⟩
  | .local _ .vmem, ⟨16, _⟩ => ⟨S1x1024x768, .bf16⟩
  | .local _ .vmem, ⟨17, _⟩ => ⟨S1x1024x768, .bf16⟩
  | .local _ .vmem, ⟨18, _⟩ => ⟨S1x1024x768, .bf16⟩
  | .local _ .vmem, ⟨19, _⟩ => ⟨S1x1024x768, .bf16⟩
  | .local _ .vmem, ⟨20, _⟩ => ⟨S1x1024x768, .bf16⟩
  | .local _ .vmem, ⟨21, _⟩ => ⟨S1x1024x768, .bf16⟩
  | .local _ .vmem, ⟨22, _⟩ => ⟨S1x1024x768, .bf16⟩
  | .local _ .vmem, ⟨23, _⟩ => ⟨S1x1024x768, .bf16⟩
  | .local _ .vmem, ⟨24, _⟩ => ⟨S512x1024, .f32⟩
  | .local _ .vmem, ⟨25, _⟩ => ⟨S512x1024, .f32⟩
  | .local _ .vmem, ⟨26, _⟩ => ⟨S1x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S1x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![c4_i32.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![c5_i32.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  ![c6_i32.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  ![c7_i32.toNat, arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 1 → Memref sig .tc .vmem S1x1024x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 1 → Memref sig .tc .vmem S1x1024x768 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true]

abbrev stage0_11 : Fin 1 → Memref sig .tc .vmem S1x1024x768 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true]

abbrev stage0_12 : Fin 1 → Memref sig .tc .vmem S1x1024x768 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, true]

abbrev stage0_13 : Fin 1 → Memref sig .tc .vmem S1x1024x768 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, true]

abbrev stage0_14 : Fin 1 → Memref sig .tc .vmem S1x1024x768 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, true]

abbrev stage0_15 : Fin 1 → Memref sig .tc .vmem S1x1024x768 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]
-- ==== Reference14Ideal.lean ====
abbrev S8192x3072 : Shape := ⟨2, ![8192, 3072]⟩
abbrev S8x1024x704 : Shape := ⟨3, ![8, 1024, 704]⟩
abbrev S8192x1024 : Shape := ⟨2, ![8192, 1024]⟩
abbrev S1x1024 : Shape := ⟨2, ![1, 1024]⟩
abbrev S_ : Shape := ⟨0, ![]⟩
abbrev S8x1024x768 : Shape := ⟨3, ![8, 1024, 768]⟩
abbrev S1024x8x768 : Shape := ⟨3, ![1024, 8, 768]⟩
abbrev S1024x6144 : Shape := ⟨2, ![1024, 6144]⟩
abbrev S8192x6144 : Shape := ⟨2, ![8192, 6144]⟩
abbrev S8192 : Shape := ⟨1, ![8192]⟩
abbrev S8192x1 : Shape := ⟨2, ![8192, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .bf16⟩
  | .hbm, ⟨2, _⟩ => ⟨S8x1024x704, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S_, .i32⟩
  | .hbm, ⟨7, _⟩ => ⟨S_, .f32⟩
  | .hbm, ⟨8, _⟩ => ⟨S8x1024x768, .f32⟩
  | .hbm, ⟨9, _⟩ => ⟨S1024x8x768, .f32⟩
  | .hbm, ⟨10, _⟩ => ⟨S1024x6144, .f32⟩
  | .hbm, ⟨11, _⟩ => ⟨S8192x6144, .bf16⟩
  | .hbm, ⟨12, _⟩ => ⟨S8192x6144, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x6144, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel15.lean ====
abbrev S8192x1024 : Shape := ⟨2, ![8192, 1024]⟩
abbrev S8192x2048 : Shape := ⟨2, ![8192, 2048]⟩
abbrev S8192x32 : Shape := ⟨2, ![8192, 32]⟩
abbrev S8192x512 : Shape := ⟨2, ![8192, 512]⟩
abbrev S1024x1024 : Shape := ⟨2, ![1024, 1024]⟩
abbrev S1024x2048 : Shape := ⟨2, ![1024, 2048]⟩
abbrev S1024x32 : Shape := ⟨2, ![1024, 32]⟩
abbrev S1024x512 : Shape := ⟨2, ![1024, 512]⟩
abbrev S1x1024 : Shape := ⟨2, ![1, 1024]⟩
abbrev S512x1024 : Shape := ⟨2, ![512, 1024]⟩
abbrev S512x2048 : Shape := ⟨2, ![512, 2048]⟩
abbrev S512x32 : Shape := ⟨2, ![512, 32]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 13
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .f32⟩
  | .hbm, ⟨2, _⟩ => ⟨S8192x32, .f32⟩
  | .hbm, ⟨3, _⟩ => ⟨S8192x512, .f32⟩
  | .hbm, ⟨4, _⟩ => ⟨S1024x1024, .bf16⟩
  | .hbm, ⟨5, _⟩ => ⟨S1024x2048, .bf16⟩
  | .hbm, ⟨6, _⟩ => ⟨S1024x32, .bf16⟩
  | .hbm, ⟨7, _⟩ => ⟨S1024x512, .bf16⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x2048, .f32⟩
  | .local _ .vmem, ⟨3, _⟩ => ⟨S512x2048, .f32⟩
  | .local _ .vmem, ⟨4, _⟩ => ⟨S512x32, .f32⟩
  | .local _ .vmem, ⟨5, _⟩ => ⟨S512x32, .f32⟩
  | .local _ .vmem, ⟨6, _⟩ => ⟨S512x512, .f32⟩
  | .local _ .vmem, ⟨7, _⟩ => ⟨S512x512, .f32⟩
  | .local _ .vmem, ⟨8, _⟩ => ⟨S1024x1024, .bf16⟩
  | .local _ .vmem, ⟨9, _⟩ => ⟨S1024x2048, .bf16⟩
  | .local _ .vmem, ⟨10, _⟩ => ⟨S1024x32, .bf16⟩
  | .local _ .vmem, ⟨11, _⟩ => ⟨S1024x512, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1024x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference15Ideal.lean ====
abbrev S8192x1024 : Shape := ⟨2, ![8192, 1024]⟩
abbrev S8192x2048 : Shape := ⟨2, ![8192, 2048]⟩
abbrev S8192x32 : Shape := ⟨2, ![8192, 32]⟩
abbrev S8192x512 : Shape := ⟨2, ![8192, 512]⟩
abbrev S1024x1024 : Shape := ⟨2, ![1024, 1024]⟩
abbrev S1024x2048 : Shape := ⟨2, ![1024, 2048]⟩
abbrev S1024x32 : Shape := ⟨2, ![1024, 32]⟩
abbrev S1024x512 : Shape := ⟨2, ![1024, 512]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .f32⟩
  | .hbm, ⟨2, _⟩ => ⟨S8192x32, .f32⟩
  | .hbm, ⟨3, _⟩ => ⟨S8192x512, .f32⟩
  | .hbm, ⟨4, _⟩ => ⟨S1024x1024, .bf16⟩
  | .hbm, ⟨5, _⟩ => ⟨S1024x2048, .bf16⟩
  | .hbm, ⟨6, _⟩ => ⟨S1024x32, .bf16⟩
  | .hbm, ⟨7, _⟩ => ⟨S1024x512, .bf16⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S1024x1024, .f32⟩
  | .hbm, ⟨31, _⟩ => ⟨S8192x1024, .f32⟩
  | .hbm, ⟨32, _⟩ => ⟨S1024x2048, .f32⟩
  | .hbm, ⟨33, _⟩ => ⟨S8192x2048, .f32⟩
  | .hbm, ⟨34, _⟩ => ⟨S1024x32, .f32⟩
  | .hbm, ⟨35, _⟩ => ⟨S8192x32, .f32⟩
  | .hbm, ⟨36, _⟩ => ⟨S1024x512, .f32⟩
  | .hbm, ⟨37, _⟩ => ⟨S8192x512, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel16.lean ====
abbrev S8192x1024 : Shape := ⟨2, ![8192, 1024]⟩
abbrev S8192x512 : Shape := ⟨2, ![8192, 512]⟩
abbrev S1024x1024 : Shape := ⟨2, ![1024, 1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x1024, .bf16⟩
  | .hbm, ⟨3, _⟩ => ⟨S512x1024, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference16Ideal.lean ====
abbrev S8192x1024 : Shape := ⟨2, ![8192, 1024]⟩
abbrev S8192x512 : Shape := ⟨2, ![8192, 512]⟩
abbrev S1024x1024 : Shape := ⟨2, ![1024, 1024]⟩
abbrev S512x1024 : Shape := ⟨2, ![512, 1024]⟩
abbrev S1x1024 : Shape := ⟨2, ![1, 1024]⟩
abbrev S8192x1536 : Shape := ⟨2, ![8192, 1536]⟩
abbrev S1536x1024 : Shape := ⟨2, ![1536, 1024]⟩
abbrev S_ : Shape := ⟨0, ![]⟩
abbrev S8192 : Shape := ⟨1, ![8192]⟩
abbrev S8192x1 : Shape := ⟨2, ![8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x1024, .bf16⟩
  | .hbm, ⟨3, _⟩ => ⟨S512x1024, .bf16⟩
  | .hbm, ⟨4, _⟩ => ⟨S8192x1024, .f32⟩
  | .hbm, ⟨5, _⟩ => ⟨S1x1024, .f32⟩
  | .hbm, ⟨6, _⟩ => ⟨S8192x1536, .bf16⟩
  | .hbm, ⟨7, _⟩ => ⟨S1536x1024, .bf16⟩
  | .hbm, ⟨8, _⟩ => ⟨S8192x1536, .f32⟩
  | .hbm, ⟨9, _⟩ => ⟨S1536x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel17.lean ====
abbrev S8192x1024 : Shape := ⟨2, ![8192, 1024]⟩
abbrev S1x1024 : Shape := ⟨2, ![1, 1024]⟩
abbrev S8192x3072 : Shape := ⟨2, ![8192, 3072]⟩
abbrev S4x704x1024 : Shape := ⟨3, ![4, 704, 1024]⟩
abbrev S_ : Shape := ⟨0, ![]⟩
abbrev S4x768x1024 : Shape := ⟨3, ![4, 768, 1024]⟩
abbrev S3072x1024 : Shape := ⟨2, ![3072, 1024]⟩
abbrev S1x1 : Shape := ⟨2, ![1, 1]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1024 : Shape := ⟨1, ![1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 13
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x3072, .bf16⟩
  | .hbm, ⟨4, _⟩ => ⟨S4x704x1024, .f32⟩
  | .hbm, ⟨5, _⟩ => ⟨S4x704x1024, .bf16⟩
  | .hbm, ⟨6, _⟩ => ⟨S_, .i32⟩
  | .hbm, ⟨7, _⟩ => ⟨S_, .bf16⟩
  | .hbm, ⟨8, _⟩ => ⟨S4x768x1024, .bf16⟩
  | .hbm, ⟨9, _⟩ => ⟨S3072x1024, .bf16⟩
  | .hbm, ⟨10, _⟩ => ⟨S1x1, .f32⟩
  | .hbm, ⟨11, _⟩ => ⟨S8192x1024, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x3072, .bf16⟩
  | .local _ .vmem, ⟨6, _⟩ => ⟨S512x3072, .bf16⟩
  | .local _ .vmem, ⟨7, _⟩ => ⟨S3072x1024, .bf16⟩
  | .local _ .vmem, ⟨8, _⟩ => ⟨S1x1, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3072x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference17Ideal.lean ====
abbrev S8192x1024 : Shape := ⟨2, ![8192, 1024]⟩
abbrev S1x1024 : Shape := ⟨2, ![1, 1024]⟩
abbrev S8192x3072 : Shape := ⟨2, ![8192, 3072]⟩
abbrev S4x704x1024 : Shape := ⟨3, ![4, 704, 1024]⟩
abbrev S_ : Shape := ⟨0, ![]⟩
abbrev S4x768x1024 : Shape := ⟨3, ![4, 768, 1024]⟩
abbrev S3072x1024 : Shape := ⟨2, ![3072, 1024]⟩
abbrev S8192 : Shape := ⟨1, ![8192]⟩
abbrev S8192x1 : Shape := ⟨2, ![8192, 1]⟩
abbrev S1024 : Shape := ⟨1, ![1024]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x3072, .bf16⟩
  | .hbm, ⟨4, _⟩ => ⟨S4x704x1024, .f32⟩
  | .hbm, ⟨5, _⟩ => ⟨S_, .i32⟩
  | .hbm, ⟨6, _⟩ => ⟨S_, .f32⟩
  | .hbm, ⟨7, _⟩ => ⟨S4x768x1024, .f32⟩
  | .hbm, ⟨8, _⟩ => ⟨S3072x1024, .f32⟩
  | .hbm, ⟨9, _⟩ => ⟨S8192x3072, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S1x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_cst_8 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_cst_10 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_11 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_12 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_13 : Ref sig .tc := ⟨.hbm, 67, rfl⟩
abbrev main_v46 : Ref sig .tc := ⟨.hbm, 68, rfl⟩
abbrev main_v47 : Ref sig .tc := ⟨.hbm, 69, rfl⟩
abbrev main_cst_14 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]
-- ==== Kernel18.lean ====
abbrev S8x1024x452 : Shape := ⟨3, ![8, 1024, 452]⟩
abbrev S1024x452 : Shape := ⟨2, ![1024, 452]⟩
abbrev S8x256x452 : Shape := ⟨3, ![8, 256, 452]⟩
abbrev S256x452 : Shape := ⟨2, ![256, 452]⟩
abbrev S1x256x452 : Shape := ⟨3, ![1, 256, 452]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x452, .bf16⟩
  | .hbm, ⟨1, _⟩ => ⟨S1024x452, .f32⟩
  | .hbm, ⟨2, _⟩ => ⟨S1024x452, .f32⟩
  | .hbm, ⟨3, _⟩ => ⟨S1024x452, .f32⟩
  | .hbm, ⟨4, _⟩ => ⟨S1024x452, .f32⟩
  | .hbm, ⟨5, _⟩ => ⟨S1024x452, .f32⟩
  | .hbm, ⟨6, _⟩ => ⟨S1024x452, .f32⟩
  | .hbm, ⟨7, _⟩ => ⟨S1024x452, .f32⟩
  | .local _ .vmem, ⟨0, _⟩ => ⟨S8x256x452, .bf16⟩
  | .local _ .vmem, ⟨1, _⟩ => ⟨S8x256x452, .bf16⟩
  | .local _ .vmem, ⟨2, _⟩ => ⟨S256x452, .f32⟩
  | .local _ .vmem, ⟨3, _⟩ => ⟨S256x452, .f32⟩
  | .local _ .vmem, ⟨4, _⟩ => ⟨S256x452, .f32⟩
  | .local _ .vmem, ⟨5, _⟩ => ⟨S256x452, .f32⟩
  | .local _ .vmem, ⟨6, _⟩ => ⟨S256x452, .f32⟩
  | .local _ .vmem, ⟨7, _⟩ => ⟨S256x452, .f32⟩
  | .local _ .vmem, ⟨8, _⟩ => ⟨S256x452, .f32⟩
  | .local _ .vmem, ⟨9, _⟩ => ⟨S256x452, .f32⟩
  | .local _ .vmem, ⟨10, _⟩ => ⟨S256x452, .f32⟩
  | .local _ .vmem, ⟨11, _⟩ => ⟨S256x452, .f32⟩
  | .local _ .vmem, ⟨12, _⟩ => ⟨S256x452, .f32⟩
  | .local _ .vmem, ⟨13, _⟩ => ⟨S256x452, .f32⟩
  | .local _ .vmem, ⟨14, _⟩ => ⟨S256x452, .f32⟩
  | .local _ .vmem, ⟨15, _⟩ => ⟨S256x452, .f32⟩
  | _, _ => ⟨S8x1024x452, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x452 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x452 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x452 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x452 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x452 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x452 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x452 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x452 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S8x1024x452 : Shape := ⟨3, ![8, 1024, 452]⟩
abbrev S1024x452 : Shape := ⟨2, ![1024, 452]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x452, .bf16⟩
  | .hbm, ⟨1, _⟩ => ⟨S1024x452, .f32⟩
  | .hbm, ⟨2, _⟩ => ⟨S1024x452, .f32⟩
  | .hbm, ⟨3, _⟩ => ⟨S1024x452, .f32⟩
  | .hbm, ⟨4, _⟩ => ⟨S8x1024x452, .f32⟩
  | .hbm, ⟨5, _⟩ => ⟨S_, .f32⟩
  | .hbm, ⟨6, _⟩ => ⟨S1024x452, .f32⟩
  | .hbm, ⟨7, _⟩ => ⟨S_, .f32⟩
  | .hbm, ⟨8, _⟩ => ⟨S1024x452, .f32⟩
  | .hbm, ⟨9, _⟩ => ⟨S1024x452, .f32⟩
  | .hbm, ⟨10, _⟩ => ⟨S_, .f32⟩
  | .hbm, ⟨11, _⟩ => ⟨S1024x452, .f32⟩
  | .hbm, ⟨12, _⟩ => ⟨S1024x452, .f32⟩
  | .hbm, ⟨13, _⟩ => ⟨S1024x452, .f32⟩
  | .hbm, ⟨14, _⟩ => ⟨S_, .f32⟩
  | .hbm, ⟨15, _⟩ => ⟨S1024x452, .f32⟩
  | .hbm, ⟨16, _⟩ => ⟨S1024x452, .f32⟩
  | .hbm, ⟨17, _⟩ => ⟨S1024x452, .f32⟩
  | .hbm, ⟨18, _⟩ => ⟨S_, .f32⟩
  | .hbm, ⟨19, _⟩ => ⟨S1024x452, .f32⟩
  | .hbm, ⟨20, _⟩ => ⟨S1024x452, .f32⟩
  | .hbm, ⟨21, _⟩ => ⟨S1024x452, .f32⟩
  | .hbm, ⟨22, _⟩ => ⟨S_, .f32⟩
  | .hbm, ⟨23, _⟩ => ⟨S1024x452, .f32⟩
  | .hbm, ⟨24, _⟩ => ⟨S1024x452, .f32⟩
  | .hbm, ⟨25, _⟩ => ⟨S_, .f32⟩
  | .hbm, ⟨26, _⟩ => ⟨S1024x452, .f32⟩
  | .hbm, ⟨27, _⟩ => ⟨S1024x452, .f32⟩
  | .hbm, ⟨28, _⟩ => ⟨S1024x452, .f32⟩
  | .hbm, ⟨29, _⟩ => ⟨S_, .f32⟩
  | .hbm, ⟨30, _⟩ => ⟨S1024x452, .f32⟩
  | .hbm, ⟨31, _⟩ => ⟨S1024x452, .f32⟩
  | .hbm, ⟨32, _⟩ => ⟨S1024x452, .f32⟩
  | .hbm, ⟨33, _⟩ => ⟨S_, .f32⟩
  | .hbm, ⟨34, _⟩ => ⟨S1024x452, .f32⟩
  | .hbm, ⟨35, _⟩ => ⟨S1024x452, .f32⟩
  | .hbm, ⟨36, _⟩ => ⟨S1024x452, .f32⟩
  | .hbm, ⟨37, _⟩ => ⟨S_, .f32⟩
  | .hbm, ⟨38, _⟩ => ⟨S1024x452, .f32⟩
  | .hbm, ⟨39, _⟩ => ⟨S1024x452, .f32⟩
  | _, _ => ⟨S8x1024x452, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel19.lean ====
abbrev S8x192x1024 : Shape := ⟨3, ![8, 192, 1024]⟩
abbrev S192x1024 : Shape := ⟨2, ![192, 1024]⟩
abbrev S1x192x1024 : Shape := ⟨3, ![1, 192, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x192x1024, .bf16⟩
  | .hbm, ⟨1, _⟩ => ⟨S192x1024, .f32⟩
  | .hbm, ⟨2, _⟩ => ⟨S192x1024, .f32⟩
  | .hbm, ⟨3, _⟩ => ⟨S192x1024, .f32⟩
  | .hbm, ⟨4, _⟩ => ⟨S192x1024, .f32⟩
  | .hbm, ⟨5, _⟩ => ⟨S192x1024, .f32⟩
  | .hbm, ⟨6, _⟩ => ⟨S192x1024, .f32⟩
  | .hbm, ⟨7, _⟩ => ⟨S192x1024, .f32⟩
  | .local _ .vmem, ⟨0, _⟩ => ⟨S8x192x1024, .bf16⟩
  | .local _ .vmem, ⟨1, _⟩ => ⟨S192x1024, .f32⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S192x1024, .f32⟩
  | _, _ => ⟨S8x192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S192x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S192x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S192x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S192x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S192x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference19Ideal.lean ====
abbrev S8x192x1024 : Shape := ⟨3, ![8, 192, 1024]⟩
abbrev S192x1024 : Shape := ⟨2, ![192, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x192x1024, .bf16⟩
  | .hbm, ⟨1, _⟩ => ⟨S192x1024, .f32⟩
  | .hbm, ⟨2, _⟩ => ⟨S192x1024, .f32⟩
  | .hbm, ⟨3, _⟩ => ⟨S192x1024, .f32⟩
  | .hbm, ⟨4, _⟩ => ⟨S8x192x1024, .f32⟩
  | .hbm, ⟨5, _⟩ => ⟨S_, .f32⟩
  | .hbm, ⟨6, _⟩ => ⟨S192x1024, .f32⟩
  | .hbm, ⟨7, _⟩ => ⟨S_, .f32⟩
  | .hbm, ⟨8, _⟩ => ⟨S192x1024, .f32⟩
  | .hbm, ⟨9, _⟩ => ⟨S192x1024, .f32⟩
  | .hbm, ⟨10, _⟩ => ⟨S_, .f32⟩
  | .hbm, ⟨11, _⟩ => ⟨S192x1024, .f32⟩
  | .hbm, ⟨12, _⟩ => ⟨S192x1024, .f32⟩
  | .hbm, ⟨13, _⟩ => ⟨S192x1024, .f32⟩
  | .hbm, ⟨14, _⟩ => ⟨S_, .f32⟩
  | .hbm, ⟨15, _⟩ => ⟨S192x1024, .f32⟩
  | .hbm, ⟨16, _⟩ => ⟨S192x1024, .f32⟩
  | .hbm, ⟨17, _⟩ => ⟨S192x1024, .f32⟩
  | .hbm, ⟨18, _⟩ => ⟨S_, .f32⟩
  | .hbm, ⟨19, _⟩ => ⟨S192x1024, .f32⟩
  | .hbm, ⟨20, _⟩ => ⟨S192x1024, .f32⟩
  | .hbm, ⟨21, _⟩ => ⟨S192x1024, .f32⟩
  | .hbm, ⟨22, _⟩ => ⟨S_, .f32⟩
  | .hbm, ⟨23, _⟩ => ⟨S192x1024, .f32⟩
  | .hbm, ⟨24, _⟩ => ⟨S192x1024, .f32⟩
  | .hbm, ⟨25, _⟩ => ⟨S_, .f32⟩
  | .hbm, ⟨26, _⟩ => ⟨S192x1024, .f32⟩
  | .hbm, ⟨27, _⟩ => ⟨S192x1024, .f32⟩
  | .hbm, ⟨28, _⟩ => ⟨S192x1024, .f32⟩
  | .hbm, ⟨29, _⟩ => ⟨S_, .f32⟩
  | .hbm, ⟨30, _⟩ => ⟨S192x1024, .f32⟩
  | .hbm, ⟨31, _⟩ => ⟨S192x1024, .f32⟩
  | .hbm, ⟨32, _⟩ => ⟨S192x1024, .f32⟩
  | .hbm, ⟨33, _⟩ => ⟨S_, .f32⟩
  | .hbm, ⟨34, _⟩ => ⟨S192x1024, .f32⟩
  | .hbm, ⟨35, _⟩ => ⟨S192x1024, .f32⟩
  | .hbm, ⟨36, _⟩ => ⟨S192x1024, .f32⟩
  | .hbm, ⟨37, _⟩ => ⟨S_, .f32⟩
  | .hbm, ⟨38, _⟩ => ⟨S192x1024, .f32⟩
  | .hbm, ⟨39, _⟩ => ⟨S192x1024, .f32⟩
  | _, _ => ⟨S8x192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel20.lean ====
abbrev S8x1024x704 : Shape := ⟨3, ![8, 1024, 704]⟩
abbrev S1024x704 : Shape := ⟨2, ![1024, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S8x1024x704 : Shape := ⟨3, ![8, 1024, 704]⟩
abbrev S1024x704 : Shape := ⟨2, ![1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S8x1024x704, .f32⟩
  | .hbm, ⟨5, _⟩ => ⟨S_, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel21.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel22.lean ====
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .local _ .vmem, ⟨0, _⟩ => ⟨S8x8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S8x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference22Ideal.lean ====
abbrev S8x8x128 : Shape := ⟨3, ![8, 8, 128]⟩
abbrev S8x128 : Shape := ⟨2, ![8, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S_, .f32⟩
  | .hbm, ⟨7, _⟩ => ⟨S8x128, .f32⟩
  | .hbm, ⟨8, _⟩ => ⟨S8x128, .f32⟩
  | .hbm, ⟨9, _⟩ => ⟨S_, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S_, .f32⟩
  | .hbm, ⟨14, _⟩ => ⟨S8x128, .f32⟩
  | .hbm, ⟨15, _⟩ => ⟨S8x128, .f32⟩
  | .hbm, ⟨16, _⟩ => ⟨S8x128, .f32⟩
  | .hbm, ⟨17, _⟩ => ⟨S_, .f32⟩
  | .hbm, ⟨18, _⟩ => ⟨S8x128, .f32⟩
  | .hbm, ⟨19, _⟩ => ⟨S8x128, .f32⟩
  | .hbm, ⟨20, _⟩ => ⟨S8x128, .f32⟩
  | .hbm, ⟨21, _⟩ => ⟨S_, .f32⟩
  | .hbm, ⟨22, _⟩ => ⟨S8x128, .f32⟩
  | .hbm, ⟨23, _⟩ => ⟨S8x128, .f32⟩
  | .hbm, ⟨24, _⟩ => ⟨S_, .f32⟩
  | .hbm, ⟨25, _⟩ => ⟨S8x128, .f32⟩
  | .hbm, ⟨26, _⟩ => ⟨S8x128, .f32⟩
  | .hbm, ⟨27, _⟩ => ⟨S8x128, .f32⟩
  | .hbm, ⟨28, _⟩ => ⟨S_, .f32⟩
  | .hbm, ⟨29, _⟩ => ⟨S8x128, .f32⟩
  | .hbm, ⟨30, _⟩ => ⟨S8x128, .f32⟩
  | .hbm, ⟨31, _⟩ => ⟨S8x128, .f32⟩
  | .hbm, ⟨32, _⟩ => ⟨S_, .f32⟩
  | .hbm, ⟨33, _⟩ => ⟨S8x128, .f32⟩
  | .hbm, ⟨34, _⟩ => ⟨S8x128, .f32⟩
  | .hbm, ⟨35, _⟩ => ⟨S8x128, .f32⟩
  | .hbm, ⟨36, _⟩ => ⟨S_, .f32⟩
  | .hbm, ⟨37, _⟩ => ⟨S8x128, .f32⟩
  | .hbm, ⟨38, _⟩ => ⟨S8x128, .f32⟩
  | _, _ => ⟨S8x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel23.lean ====
abbrev S8x2048x128 : Shape := ⟨3, ![8, 2048, 128]⟩
abbrev S2048x128 : Shape := ⟨2, ![2048, 128]⟩
abbrev S8x1024x128 : Shape := ⟨3, ![8, 1024, 128]⟩
abbrev S1024x128 : Shape := ⟨2, ![1024, 128]⟩
abbrev S1x1024x128 : Shape := ⟨3, ![1, 1024, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .local _ .vmem, ⟨0, _⟩ => ⟨S8x1024x128, .f32⟩
  | .local _ .vmem, ⟨1, _⟩ => ⟨S8x1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S8x2048x128 : Shape := ⟨3, ![8, 2048, 128]⟩
abbrev S2048x128 : Shape := ⟨2, ![2048, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S_, .f32⟩
  | .hbm, ⟨5, _⟩ => ⟨S2048x128, .f32⟩
  | .hbm, ⟨6, _⟩ => ⟨S_, .f32⟩
  | .hbm, ⟨7, _⟩ => ⟨S2048x128, .f32⟩
  | .hbm, ⟨8, _⟩ => ⟨S2048x128, .f32⟩
  | .hbm, ⟨9, _⟩ => ⟨S_, .f32⟩
  | .hbm, ⟨10, _⟩ => ⟨S2048x128, .f32⟩
  | .hbm, ⟨11, _⟩ => ⟨S2048x128, .f32⟩
  | .hbm, ⟨12, _⟩ => ⟨S2048x128, .f32⟩
  | .hbm, ⟨13, _⟩ => ⟨S_, .f32⟩
  | .hbm, ⟨14, _⟩ => ⟨S2048x128, .f32⟩
  | .hbm, ⟨15, _⟩ => ⟨S2048x128, .f32⟩
  | .hbm, ⟨16, _⟩ => ⟨S2048x128, .f32⟩
  | .hbm, ⟨17, _⟩ => ⟨S_, .f32⟩
  | .hbm, ⟨18, _⟩ => ⟨S2048x128, .f32⟩
  | .hbm, ⟨19, _⟩ => ⟨S2048x128, .f32⟩
  | .hbm, ⟨20, _⟩ => ⟨S2048x128, .f32⟩
  | .hbm, ⟨21, _⟩ => ⟨S_, .f32⟩
  | .hbm, ⟨22, _⟩ => ⟨S2048x128, .f32⟩
  | .hbm, ⟨23, _⟩ => ⟨S2048x128, .f32⟩
  | .hbm, ⟨24, _⟩ => ⟨S_, .f32⟩
  | .hbm, ⟨25, _⟩ => ⟨S2048x128, .f32⟩
  | .hbm, ⟨26, _⟩ => ⟨S2048x128, .f32⟩
  | .hbm, ⟨27, _⟩ => ⟨S2048x128, .f32⟩
  | .hbm, ⟨28, _⟩ => ⟨S_, .f32⟩
  | .hbm, ⟨29, _⟩ => ⟨S2048x128, .f32⟩
  | .hbm, ⟨30, _⟩ => ⟨S2048x128, .f32⟩
  | .hbm, ⟨31, _⟩ => ⟨S2048x128, .f32⟩
  | .hbm, ⟨32, _⟩ => ⟨S_, .f32⟩
  | .hbm, ⟨33, _⟩ => ⟨S2048x128, .f32⟩
  | .hbm, ⟨34, _⟩ => ⟨S2048x128, .f32⟩
  | .hbm, ⟨35, _⟩ => ⟨S2048x128, .f32⟩
  | .hbm, ⟨36, _⟩ => ⟨S_, .f32⟩
  | .hbm, ⟨37, _⟩ => ⟨S2048x128, .f32⟩
  | .hbm, ⟨38, _⟩ => ⟨S2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel24.lean ====
abbrev S8192x1024 : Shape := ⟨2, ![8192, 1024]⟩
abbrev S1x1024 : Shape := ⟨2, ![1, 1024]⟩
abbrev S8192x1536 : Shape := ⟨2, ![8192, 1536]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1536, .f32⟩
  | .hbm, ⟨4, _⟩ => ⟨S8192x1024, .f32⟩
  | .hbm, ⟨5, _⟩ => ⟨S8192x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference24Ideal.lean ====
abbrev S8192x1024 : Shape := ⟨2, ![8192, 1024]⟩
abbrev S1x1024 : Shape := ⟨2, ![1, 1024]⟩
abbrev S8192x1536 : Shape := ⟨2, ![8192, 1536]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1536, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v39 : Ref sig .tc := ⟨.hbm, 66, rfl⟩
abbrev main_v40 : Ref sig .tc := ⟨.hbm, 67, rfl⟩

abbrev nD : Nat := 1
abbrev τ : Topo := Topo.v7x

variable {F : FTy → Type} [FloatOps F]
-- ==== Kernel25.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference25Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩

abbrev nD : Nat := 1
abbrev τ : Topo := Topo.v7x

variable {F : FTy → Type} [FloatOps F]
-- ==== Kernel26.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference26Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel27.lean ====
abbrev S8192x2048 : Shape := ⟨2, ![8192, 2048]⟩
abbrev S5x2048 : Shape := ⟨2, ![5, 2048]⟩
abbrev S1x2048 : Shape := ⟨2, ![1, 2048]⟩
abbrev S2048x256 : Shape := ⟨2, ![2048, 256]⟩
abbrev S5x256 : Shape := ⟨2, ![5, 256]⟩
abbrev S1x256 : Shape := ⟨2, ![1, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S5x2048, .f32⟩
  | .hbm, ⟨2, _⟩ => ⟨S1x2048, .f32⟩
  | .hbm, ⟨3, _⟩ => ⟨S8192x2048, .f32⟩
  | .local _ .vmem, ⟨0, _⟩ => ⟨S2048x256, .f32⟩
  | .local _ .vmem, ⟨1, _⟩ => ⟨S2048x256, .f32⟩
  | .local _ .vmem, ⟨2, _⟩ => ⟨S5x256, .f32⟩
  | .local _ .vmem, ⟨3, _⟩ => ⟨S5x256, .f32⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference27Ideal.lean ====
abbrev S8192x2048 : Shape := ⟨2, ![8192, 2048]⟩
abbrev S5x2048 : Shape := ⟨2, ![5, 2048]⟩
abbrev S1x2048 : Shape := ⟨2, ![1, 2048]⟩
abbrev S4x2048x2048 : Shape := ⟨3, ![4, 2048, 2048]⟩
abbrev S2048 : Shape := ⟨1, ![2048]⟩
abbrev S_ : Shape := ⟨0, ![]⟩
abbrev S4x2052x2048 : Shape := ⟨3, ![4, 2052, 2048]⟩
abbrev S1x1x2048 : Shape := ⟨3, ![1, 1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S5x2048, .f32⟩
  | .hbm, ⟨2, _⟩ => ⟨S1x2048, .f32⟩
  | .hbm, ⟨3, _⟩ => ⟨S4x2048x2048, .f32⟩
  | .hbm, ⟨4, _⟩ => ⟨S2048, .f32⟩
  | .hbm, ⟨5, _⟩ => ⟨S_, .i32⟩
  | .hbm, ⟨6, _⟩ => ⟨S_, .f32⟩
  | .hbm, ⟨7, _⟩ => ⟨S4x2052x2048, .f32⟩
  | .hbm, ⟨8, _⟩ => ⟨S1x2048, .f32⟩
  | .hbm, ⟨9, _⟩ => ⟨S2048, .f32⟩
  | .hbm, ⟨10, _⟩ => ⟨S4x2048x2048, .f32⟩
  | .hbm, ⟨11, _⟩ => ⟨S1x1x2048, .f32⟩
  | .hbm, ⟨12, _⟩ => ⟨S4x2048x2048, .f32⟩
  | .hbm, ⟨13, _⟩ => ⟨S4x2048x2048, .f32⟩
  | .hbm, ⟨14, _⟩ => ⟨S1x2048, .f32⟩
  | .hbm, ⟨15, _⟩ => ⟨S2048, .f32⟩
  | .hbm, ⟨16, _⟩ => ⟨S4x2048x2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S1x2048, .f32⟩
  | .hbm, ⟨21, _⟩ => ⟨S2048, .f32⟩
  | .hbm, ⟨22, _⟩ => ⟨S4x2048x2048, .f32⟩
  | .hbm, ⟨23, _⟩ => ⟨S1x1x2048, .f32⟩
  | .hbm, ⟨24, _⟩ => ⟨S4x2048x2048, .f32⟩
  | .hbm, ⟨25, _⟩ => ⟨S4x2048x2048, .f32⟩
  | .hbm, ⟨26, _⟩ => ⟨S1x2048, .f32⟩
  | .hbm, ⟨27, _⟩ => ⟨S2048, .f32⟩
  | .hbm, ⟨28, _⟩ => ⟨S4x2048x2048, .f32⟩
  | .hbm, ⟨29, _⟩ => ⟨S1x1x2048, .f32⟩
  | .hbm, ⟨30, _⟩ => ⟨S4x2048x2048, .f32⟩
  | .hbm, ⟨31, _⟩ => ⟨S4x2048x2048, .f32⟩
  | .hbm, ⟨32, _⟩ => ⟨S1x2048, .f32⟩
  | .hbm, ⟨33, _⟩ => ⟨S2048, .f32⟩
  | .hbm, ⟨34, _⟩ => ⟨S4x2048x2048, .f32⟩
  | .hbm, ⟨35, _⟩ => ⟨S1x1x2048, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S1x1x2048, .f32⟩
  | .hbm, ⟨43, _⟩ => ⟨S4x2048x2048, .f32⟩
  | .hbm, ⟨44, _⟩ => ⟨S4x2048x2048, .f32⟩
  | .hbm, ⟨45, _⟩ => ⟨S4x2048x2048, .f32⟩
  | .hbm, ⟨46, _⟩ => ⟨S4x2048x2048, .f32⟩
  | .hbm, ⟨47, _⟩ => ⟨S_, .f32⟩
  | .hbm, ⟨48, _⟩ => ⟨S4x2048x2048, .f32⟩
  | .hbm, ⟨49, _⟩ => ⟨S4x2048x2048, .f32⟩
  | .hbm, ⟨50, _⟩ => ⟨S_, .f32⟩
  | .hbm, ⟨51, _⟩ => ⟨S4x2048x2048, .f32⟩
  | .hbm, ⟨52, _⟩ => ⟨S4x2048x2048, .f32⟩
  | .hbm, ⟨53, _⟩ => ⟨S4x2048x2048, .f32⟩
  | .hbm, ⟨54, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Proof.CarrySpec.lean ====
/- The recurrence over chunks and its gradient as plain functions on arrays of extended reals: what both the kernel and the
   reference compute. A column of an array is one of 256: the first 128 carry the forward direction, the last 128 the
   backward one, and within each half columns `j` and `j ± 64` are the real and the imaginary part of one complex state. -/
module

public import Idealize.ShloMosaic.Lib.ValueIdx

@[expose] public section

noncomputable section

namespace Cert.Carry

open Idealize.ShloMosaic Idealize.ShloMosaic.ValueIdx

/-- The column holding the other part of the same complex state. -/
def sw (j : Fin 256) : Fin 256 := ⟨if j.val % 128 < 64 then j.val + 64 else j.val - 64, by have := j.isLt; split <;> omega⟩

/-- The chunk a column's direction visits at step `k`. -/
def tm (j : Fin 256) (k : ℕ) : Fin 128 := ⟨(if j.val < 128 then k else 127 - k) % 128, Nat.mod_lt _ (by decide)⟩

/-- Column `j` of the forward direction, and of the backward one. -/
def lo (j : Fin 128) : Fin 256 := ⟨j.val, by omega⟩
def hi (j : Fin 128) : Fin 256 := ⟨128 + j.val, by omega⟩
/-- The other part's column within one direction. -/
def rot (j : Fin 128) : Fin 128 := ⟨(j.val + 64) % 128, Nat.mod_lt _ (by decide)⟩

theorem sw_lo (j : Fin 128) : sw (lo j) = lo (rot j) := by
  apply Fin.ext; show (if j.val % 128 < 64 then j.val + 64 else j.val - 64) = (j.val + 64) % 128
  have := j.isLt; split <;> omega
theorem sw_hi (j : Fin 128) : sw (hi j) = hi (rot j) := by
  apply Fin.ext
  show (if (128 + j.val) % 128 < 64 then 128 + j.val + 64 else 128 + j.val - 64) = 128 + (j.val + 64) % 128
  have := j.isLt; split <;> omega
theorem sw_sw (j : Fin 256) : sw (sw j) = j := by
  apply Fin.ext
  have hs : (sw j).val = if j.val % 128 < 64 then j.val + 64 else j.val - 64 := rfl
  show (if (sw j).val % 128 < 64 then (sw j).val + 64 else (sw j).val - 64) = j.val
  have := j.isLt; split at hs <;> split <;> omega
theorem sw_lt (j : Fin 256) : (sw j).val < 128 ↔ j.val < 128 := by
  have hs : (sw j).val = if j.val % 128 < 64 then j.val + 64 else j.val - 64 := rfl
  have := j.isLt; split at hs <;> omega
theorem tm_sw (j : Fin 256) (k : ℕ) : tm (sw j) k = tm j k := by
  apply Fin.ext
  show (if (sw j).val < 128 then k else 127 - k) % 128 = (if j.val < 128 then k else 127 - k) % 128
  have := sw_lt j; split <;> split <;> first | rfl | omega
theorem tm_lo (j : Fin 128) {k : ℕ} (h : k < 128) : tm (lo j) k = ⟨k, h⟩ := by
  apply Fin.ext; show (if j.val < 128 then k else 127 - k) % 128 = k
  rw [if_pos j.isLt]; omega
theorem tm_hi (j : Fin 128) {k : ℕ} (h : k < 128) : tm (hi j) k = ⟨127 - k, by omega⟩ := by
  apply Fin.ext; show (if 128 + j.val < 128 then k else 127 - k) % 128 = 127 - k
  rw [if_neg (by omega)]; omega
theorem e_lo (j : Fin 128) {k : ℕ} (h : k < 128) : tm (lo j) (127 - k) = ⟨127 - k, by omega⟩ := tm_lo j (by omega)
theorem e_hi (j : Fin 128) {k : ℕ} (h : k < 128) : tm (hi j) (127 - k) = ⟨k, h⟩ :=
  (tm_hi j (by omega)).trans (Fin.ext (by show 127 - (127 - k) = k; omega))
theorem tm_tm (j : Fin 256) (q : Fin 128) : tm j (tm j q.val).val = q := by
  apply Fin.ext
  have hs : (tm j q.val).val = (if j.val < 128 then q.val else 127 - q.val) % 128 := rfl
  show (if j.val < 128 then (tm j q.val).val else 127 - (tm j q.val).val) % 128 = q.val
  have := q.isLt; split at hs <;> split <;> omega

/-- Every column is in one of the two halves. -/
theorem lo_or_hi (j : Fin 256) : (∃ i, j = lo i) ∨ ∃ i, j = hi i := by
  by_cases h : j.val < 128
  · exact .inl ⟨⟨j.val, h⟩, rfl⟩
  · exact .inr ⟨⟨j.val - 128, by omega⟩, Fin.ext (by show j.val = 128 + (j.val - 128); omega)⟩

/-- A coefficient or gradient array over `n` rows, and an array with one of them per chunk. -/
abbrev Mat (n : ℕ) := (⟨2, ![n, 256]⟩ : Shape).Idx → EReal
abbrev Arr (n : ℕ) := (⟨3, ![128, n, 256]⟩ : Shape).Idx → EReal

variable {n : ℕ}

/-- The state entering step `k`: zero, then `a·h + b·(other part of h) + s`. -/
def H (a b : Mat n) (s : Arr n) : ℕ → Fin n → Fin 256 → EReal
  | 0 => fun _ _ => 0
  | k + 1 => fun r j => a (ix2 r j) * H a b s k r j + b (ix2 r j) * H a b s k r (sw j) + s (ix3 (tm j k) r j)

theorem H_succ (a b : Mat n) (s : Arr n) (k : ℕ) (r : Fin n) (j : Fin 256) : H a b s (k + 1) r j
    = a (ix2 r j) * H a b s k r j + b (ix2 r j) * H a b s k r (sw j) + s (ix3 (tm j k) r j) := rfl

/-- The states entering the chunks, laid out as the input is. -/
def hin (a b : Mat n) (s : Arr n) : Arr n := fun y => H a b s (tm (y 2) (y 0).val).val (y 1) (y 2)

/-- The gradient of the state, `k` steps from the end: zero, then the state's own cotangent and the step's transpose. -/
def G (a b : Mat n) (dh : Arr n) : ℕ → Fin n → Fin 256 → EReal
  | 0 => fun _ _ => 0
  | k + 1 => fun r j => dh (ix3 (tm j (127 - k)) r j) + a (ix2 r j) * G a b dh k r j
      + b (ix2 r (sw j)) * G a b dh k r (sw j)

theorem G_succ (a b : Mat n) (dh : Arr n) (k : ℕ) (r : Fin n) (j : Fin 256) : G a b dh (k + 1) r j
    = dh (ix3 (tm j (127 - k)) r j) + a (ix2 r j) * G a b dh k r j + b (ix2 r (sw j)) * G a b dh k r (sw j) := rfl

/-- The gradient of the chunks' inputs. -/
def ds (a b : Mat n) (dh : Arr n) : Arr n := fun y => G a b dh (127 - (tm (y 2) (y 0).val).val) (y 1) (y 2)

/-- The two coefficients' gradients after `k` steps from the end. -/
def GA (a b : Mat n) (h dh : Arr n) : ℕ → Fin n → Fin 256 → EReal
  | 0 => fun _ _ => 0
  | k + 1 => fun r j => GA a b h dh k r j + G a b dh k r j * h (ix3 (tm j (127 - k)) r j)
def GB (a b : Mat n) (h dh : Arr n) : ℕ → Fin n → Fin 256 → EReal
  | 0 => fun _ _ => 0
  | k + 1 => fun r j => GB a b h dh k r j + G a b dh k r j * h (ix3 (tm j (127 - k)) r (sw j))

theorem GA_succ (a b : Mat n) (h dh : Arr n) (k : ℕ) (r : Fin n) (j : Fin 256) : GA a b h dh (k + 1) r j
    = GA a b h dh k r j + G a b dh k r j * h (ix3 (tm j (127 - k)) r j) := rfl
theorem GB_succ (a b : Mat n) (h dh : Arr n) (k : ℕ) (r : Fin n) (j : Fin 256) : GB a b h dh (k + 1) r j
    = GB a b h dh k r j + G a b dh k r j * h (ix3 (tm j (127 - k)) r (sw j)) := rfl

/-! Each row on its own: a block of rows of the arrays gives the same rows of the results. -/

variable {m : ℕ} (f : Fin m → Fin n) {a b : Mat n} {a' b' : Mat m} {s h dh : Arr n} {s' h' dh' : Arr m}

theorem H_rows (ha : ∀ r j, a' (ix2 r j) = a (ix2 (f r) j)) (hb : ∀ r j, b' (ix2 r j) = b (ix2 (f r) j))
    (hs : ∀ q r j, s' (ix3 q r j) = s (ix3 q (f r) j)) : ∀ k r j, H a' b' s' k r j = H a b s k (f r) j
  | 0, _, _ => rfl
  | k + 1, r, j => by simp only [H, ha, hb, hs, H_rows ha hb hs k]

theorem G_rows (ha : ∀ r j, a' (ix2 r j) = a (ix2 (f r) j)) (hb : ∀ r j, b' (ix2 r j) = b (ix2 (f r) j))
    (hd : ∀ q r j, dh' (ix3 q r j) = dh (ix3 q (f r) j)) : ∀ k r j, G a' b' dh' k r j = G a b dh k (f r) j
  | 0, _, _ => rfl
  | k + 1, r, j => by simp only [G, ha, hb, hd, G_rows ha hb hd k]

theorem GA_rows (ha : ∀ r j, a' (ix2 r j) = a (ix2 (f r) j)) (hb : ∀ r j, b' (ix2 r j) = b (ix2 (f r) j))
    (hh : ∀ q r j, h' (ix3 q r j) = h (ix3 q (f r) j)) (hd : ∀ q r j, dh' (ix3 q r j) = dh (ix3 q (f r) j)) :
    ∀ k r j, GA a' b' h' dh' k r j = GA a b h dh k (f r) j
  | 0, _, _ => rfl
  | k + 1, r, j => by simp only [GA, hh, GA_rows ha hb hh hd k, G_rows f ha hb hd k]

theorem GB_rows (ha : ∀ r j, a' (ix2 r j) = a (ix2 (f r) j)) (hb : ∀ r j, b' (ix2 r j) = b (ix2 (f r) j))
    (hh : ∀ q r j, h' (ix3 q r j) = h (ix3 q (f r) j)) (hd : ∀ q r j, dh' (ix3 q r j) = dh (ix3 q (f r) j)) :
    ∀ k r j, GB a' b' h' dh' k r j = GB a b h dh k (f r) j
  | 0, _, _ => rfl
  | k + 1, r, j => by simp only [GB, hh, GB_rows ha hb hh hd k, G_rows f ha hb hd k]

end Cert.Carry

end
-- ==== Proof.CarryFwd.lean ====
/- The forward call of the recurrence: what its loop over chunks leaves in one block of 64 rows. -/
module

public import proofs.«01_k».proof.Proof.CarrySpec
public import proofs.«01_k».proof.Proof.Gen.KernelIdeal.Frame
public import Idealize.ShloMosaic.Lib.Pipeline.Value
public import Idealize.ShloMosaic.Lib.Pipeline.ValueKit.Basic
public import Idealize.ShloMosaic.Lib.Pipeline.ValueKit.Tiles
public import Idealize.ShloMosaic.Lib.KernelVsHost

@[expose] public section

set_option maxRecDepth 16384

noncomputable section

namespace Cert.Carry

open Idealize.ShloMosaic Idealize.ShloMosaic.TcCoe Idealize.ShloMosaic.Tactic Idealize.ShloMosaic.ValueIdx
open Cert.KernelIdeal Cert.KernelIdeal.Gen

/-- The first loop's rectangles: chunk `k`'s forward half, and chunk `127 - k`'s backward half. -/
theorem emb_off1 (k : Fin k0_t1_loop.trips) (h) (x : (⟨3, ![1, 64, 128]⟩ : Shape).Idx) :
    (Rect.unit (s := S128x64x256) (k0_off1 k) S1x64x128.size h).idx x = ix3 (⟨k.val, k.isLt⟩ : Fin 128) (x 1 : Fin 64) (lo (x 2)) := by
  have h0 : (x 0).val = 0 := by have := (x 0).isLt; simp at this; omega
  funext a; apply Fin.ext; rw [Rect.idx_unit_val, congrFun (k0_off1_eq k) a]
  fin_cases a <;> simp [lo, h0]
theorem emb_off2 (k : Fin k0_t1_loop.trips) (h) (x : (⟨3, ![1, 64, 128]⟩ : Shape).Idx) :
    (Rect.unit (s := S128x64x256) (k0_off2 k) S1x64x128.size h).idx x = ix3 (⟨127 - k.val, by omega⟩ : Fin 128) (x 1 : Fin 64) (hi (x 2)) := by
  have h0 : (x 0).val = 0 := by have := (x 0).isLt; simp at this; omega
  have hk : k.val < 128 := k.isLt
  funext a; apply Fin.ext; rw [Rect.idx_unit_val, congrFun (k0_off2_eq k) a]
  fin_cases a <;> simp [hi, h0]

/-- The two halves of a coefficient block. -/
theorem emb_lo (h) (r : Fin 64) (j : Fin 128) :
    (Rect.unit (s := S64x256) ![0, 0] ![64, 128] h).idx (ix2 r j) = ix2 r (lo j) := by
  funext a; apply Fin.ext; rw [Rect.idx_unit_val]; fin_cases a <;> simp [lo]
theorem emb_hi (h) (r : Fin 64) (j : Fin 128) :
    (Rect.unit (s := S64x256) ![0, 128] ![64, 128] h).idx (ix2 r j) = ix2 r (hi j) := by
  funext a; apply Fin.ext; rw [Rect.idx_unit_val]; fin_cases a <;> simp [hi]

variable (𝒱 : Variants) (c : Dev nD) (bd : Option 𝒱.V) (i : grid0.Coords) (arg1 : Memref sig .tc .vmem S128x64x256 .f32) (harg1 : arg1.IsWhole) (arg2 : Memref sig .tc .vmem S64x256 .f32) (harg2 : arg2.IsWhole) (arg3 : Memref sig .tc .vmem S64x256 .f32) (harg3 : arg3.IsWhole) (arg4 : Memref sig .tc .vmem S128x64x256 .f32) (harg4 : arg4.IsWhole)

/-- One trip: the new states of both directions, and the two states it stores. -/
theorem tripR0 (v0 v1 v2 v3 : Vec Ideal S64x128 .f32) (X : BufTy.Contents (Elt Ideal) arg1.view.ty) (k : Fin k0_t1_loop.trips)
    (acc : FVec Ideal S64x128 .f32 × FVec Ideal S64x128 .f32) :
    tripR_k0_t1 (F := Ideal) 𝒱 c bd i arg1 harg1 arg2 harg2 arg3 harg3 arg4 harg4 v0 v1 v2 v3 X k acc
      = (k0_pay3 v0 v1 acc.1 (View.readAt (Elt Ideal) arg1.view (Rect.unit (s := S128x64x256) (k0_off1 k) S1x64x128.size (k0_off1_inb k)).toLoadRect X),
         k0_pay5 v2 v3 acc.2 (View.readAt (Elt Ideal) arg1.view (Rect.unit (s := S128x64x256) (k0_off2 k) S1x64x128.size (k0_off2_inb k)).toLoadRect X)) := by
  unfold tripR_k0_t1 trip_k0_t1; rfl
theorem tripL0 (v0 v1 v2 v3 : Vec Ideal S64x128 .f32) (X : BufTy.Contents (Elt Ideal) arg1.view.ty) (k : Fin k0_t1_loop.trips)
    (acc : FVec Ideal S64x128 .f32 × FVec Ideal S64x128 .f32) :
    tripL_k0_t1 (F := Ideal) 𝒱 c bd i arg1 harg1 arg2 harg2 arg3 harg3 arg4 harg4 v0 v1 v2 v3 X k acc
      = [⟨Rect.unit (s := S128x64x256) (k0_off2 k) S1x64x128.size (k0_off2_inb k), k0_pay4 acc.2⟩, ⟨Rect.unit (s := S128x64x256) (k0_off1 k) S1x64x128.size (k0_off1_inb k), k0_pay2 acc.1⟩] := by
  unfold tripL_k0_t1 trip_k0_t1; rfl

theorem rot64 (x : FVec Ideal S64x128 .f32) (r : Fin 64) (j : Fin 128) :
    dynamicRotate 1 64#32 none x rotates_S64x128_d1 (ix2 r j) = x (ix2 r (rot j)) := by
  refine dynamicRotate_apply _ _ _ _ _ _ fun b => ?_
  have := j.isLt
  fin_cases b <;> simp [rot]

variable {x0 : Arr 64} {x1 x2 : Mat 64}

/-- What a trip loads, as elements of the input block. -/
theorem ld0_lo {X : BufTy.Contents (Elt Ideal) arg1.view.ty} (hX : arg1.view.read (Elt Ideal) X = x0) (k : Fin k0_t1_loop.trips) (r : Fin 64) (j : Fin 128) :
    shapeCast S64x128 (View.readAt (Elt Ideal) arg1.view (Rect.unit (s := S128x64x256) (k0_off1 k) S1x64x128.size (k0_off1_inb k)).toLoadRect X)
      shapeCasts_S1x64x128_S64x128 (ix2 r j) = x0 (ix3 (⟨k.val, k.isLt⟩ : Fin 128) r (lo j)) := by
  refine (shapeCast_dropUnit_apply _ _ _ _).trans ?_
  refine (congrFun hX _).trans (congrArg x0 ((emb_off1 k _ _).trans rfl))
theorem ld0_hi {X : BufTy.Contents (Elt Ideal) arg1.view.ty} (hX : arg1.view.read (Elt Ideal) X = x0) (k : Fin k0_t1_loop.trips) (r : Fin 64) (j : Fin 128) :
    shapeCast S64x128 (View.readAt (Elt Ideal) arg1.view (Rect.unit (s := S128x64x256) (k0_off2 k) S1x64x128.size (k0_off2_inb k)).toLoadRect X)
      shapeCasts_S1x64x128_S64x128 (ix2 r j) = x0 (ix3 (⟨127 - k.val, by omega⟩ : Fin 128) r (hi j)) := by
  refine (shapeCast_dropUnit_apply _ _ _ _).trans ?_
  refine (congrFun hX _).trans (congrArg x0 ((emb_off2 k _ _).trans rfl))

/-- A stored vector, at its rectangle's positions. -/
theorem addUnit0 (v : FVec Ideal S64x128 .f32) (x : S1x64x128.Idx) :
    shapeCast S1x64x128 v shapeCasts_S64x128_S1x64x128 x = v (ix2 (x 1) (x 2)) :=
  (shapeCast_addUnit_apply _ _ _ _).trans (congrArg v (eq_ix2 _))

/-- THE LOOP: before trip `k` the carried values are the two directions' states, and every store so far wrote the state
    entering its chunk. -/
theorem st0 {v0 v1 v2 v3 : Vec Ideal S64x128 .f32} {X : BufTy.Contents (Elt Ideal) arg1.view.ty}
    (h0 : ∀ r j, v0 (ix2 r j) = x1 (ix2 r (lo j))) (h1 : ∀ r j, v1 (ix2 r j) = x2 (ix2 r (lo j)))
    (h2 : ∀ r j, v2 (ix2 r j) = x1 (ix2 r (hi j))) (h3 : ∀ r j, v3 (ix2 r j) = x2 (ix2 r (hi j)))
    (hX : arg1.view.read (Elt Ideal) X = x0) : ∀ k ≤ 128,
    (∀ r j, (st_k0_t1 (F := Ideal) 𝒱 c bd i arg1 harg1 arg2 harg2 arg3 harg3 arg4 harg4 v0 v1 v2 v3 X (k0_pay1, k0_pay1) k).1.1 (ix2 r j) = H x1 x2 x0 k r (lo j))
    ∧ (∀ r j, (st_k0_t1 (F := Ideal) 𝒱 c bd i arg1 harg1 arg2 harg2 arg3 harg3 arg4 harg4 v0 v1 v2 v3 X (k0_pay1, k0_pay1) k).1.2 (ix2 r j) = H x1 x2 x0 k r (hi j))
    ∧ ∀ p ∈ (st_k0_t1 (F := Ideal) 𝒱 c bd i arg1 harg1 arg2 harg2 arg3 harg3 arg4 harg4 v0 v1 v2 v3 X (k0_pay1, k0_pay1) k).2, ∀ x, p.2 x = hin x1 x2 x0 (p.1.emb x)
  | 0, _ => by
    refine ⟨fun r j => ?_, fun r j => ?_, fun p hp => ?_⟩
    · exact Ideal.ofBits_zero_f32
    · exact Ideal.ofBits_zero_f32
    · cases hp
  | k + 1, hk => by
    obtain ⟨ih1, ih2, ih3⟩ := st0 h0 h1 h2 h3 hX k (by omega)
    have hlt : k < k0_t1_loop.trips := by show k < 128; omega
    rw [show k + 1 = (⟨k, hlt⟩ : Fin k0_t1_loop.trips).val + 1 from rfl, st_k0_t1_succ, tripR0, tripL0]
    dsimp only
    generalize hS : st_k0_t1 (F := Ideal) 𝒱 c bd i arg1 harg1 arg2 harg2 arg3 harg3 arg4 harg4 v0 v1 v2 v3 X (k0_pay1, k0_pay1) k = S at ih1 ih2 ih3
    refine ⟨fun r j => ?_, fun r j => ?_, fun p hp => ?_⟩
    · show v0 (ix2 r j) * S.1.1 (ix2 r j) + v1 (ix2 r j) * dynamicRotate 1 64#32 none S.1.1 rotates_S64x128_d1 (ix2 r j)
          + shapeCast S64x128 _ shapeCasts_S1x64x128_S64x128 (ix2 r j) = _
      rw [H_succ, sw_lo, tm_lo j (show k < 128 by omega), ← ih1, ← ih1, ← h0, ← h1, rot64, ld0_lo arg1 hX]
    · show v2 (ix2 r j) * S.1.2 (ix2 r j) + v3 (ix2 r j) * dynamicRotate 1 64#32 none S.1.2 rotates_S64x128_d1 (ix2 r j)
          + shapeCast S64x128 _ shapeCasts_S1x64x128_S64x128 (ix2 r j) = _
      rw [H_succ, sw_hi, tm_hi j (show k < 128 by omega), ← ih2, ← ih2, ← h2, ← h3, rot64, ld0_hi arg1 hX]
    · rw [List.mem_append, List.mem_cons, List.mem_singleton] at hp
      rcases hp with (rfl | rfl) | hp
      · intro (x : S1x64x128.Idx)
        refine ((addUnit0 _ x).trans (ih2 (x 1) (x 2))).trans ?_
        refine Eq.trans ?_ (congrArg (hin x1 x2 x0) (emb_off2 ⟨k, hlt⟩ (k0_off2_inb ⟨k, hlt⟩) x).symm)
        show H x1 x2 x0 k (x 1) (hi (x 2)) = H x1 x2 x0 (tm (hi (x 2)) (127 - k)).val (x 1) (hi (x 2))
        rw [tm_hi (x 2) (show 127 - k < 128 by omega)]
        show _ = H x1 x2 x0 (127 - (127 - k)) (x 1) (hi (x 2))
        rw [show 127 - (127 - k) = k by omega]
      · intro (x : S1x64x128.Idx)
        refine ((addUnit0 _ x).trans (ih1 (x 1) (x 2))).trans ?_
        refine Eq.trans ?_ (congrArg (hin x1 x2 x0) (emb_off1 ⟨k, hlt⟩ (k0_off1_inb ⟨k, hlt⟩) x).symm)
        show H x1 x2 x0 k (x 1) (lo (x 2)) = H x1 x2 x0 (tm (lo (x 2)) k).val (x 1) (lo (x 2))
        rw [tm_lo (x 2) (show k < 128 by omega)]
      · exact ih3 p hp

/-- The block the forward call leaves: the states entering the chunks. -/
theorem out0 : out0_A_3 (F := Ideal) c i arg1 harg1 arg2 harg2 arg3 harg3 arg4 harg4 x0 x1 x2 = hin x1 x2 x0 := by
  have hc := cover0_A_3 (F := Ideal) c i arg1 harg1 arg2 harg2 arg3 harg3 arg4 harg4 x0 x1 x2
  unfold out0_A_3
  rw [View.read_writes_eq_canon _ _ _ hc]
  funext y
  refine View.canon_apply_of_pieces (hin x1 x2 x0) _ ?_ y (hc y)
  unfold kernelRun0_A
  dsimp only
  refine (st0 _ c _ i arg1 harg1 arg2 harg2 arg3 harg3 arg4 harg4 ?_ ?_ ?_ ?_ (harg1.read_unread _) 128 (le_refl _)).2.2
  · exact fun r j => (congrArg (View.ld · _ _) (harg2.read_unread _)).trans (congrArg x1 (emb_lo _ r j))
  · exact fun r j => (congrArg (View.ld · _ _) (harg3.read_unread _)).trans (congrArg x2 (emb_lo _ r j))
  · exact fun r j => (congrArg (View.ld · _ _) (harg2.read_unread _)).trans (congrArg x1 (emb_hi _ r j))
  · exact fun r j => (congrArg (View.ld · _ _) (harg3.read_unread _)).trans (congrArg x2 (emb_hi _ r j))

end Cert.Carry

end
-- ==== Proof.CarryBwd.lean ====
/- The backward call of the recurrence: what its loop over chunks leaves in one block of 32 rows. -/
module

public import proofs.«01_k».proof.Proof.CarrySpec
public import proofs.«01_k».proof.Proof.Gen.KernelIdeal.Frame
public import Idealize.ShloMosaic.Lib.Pipeline.Value
public import Idealize.ShloMosaic.Lib.Pipeline.ValueKit.Basic
public import Idealize.ShloMosaic.Lib.Pipeline.ValueKit.Tiles
public import Idealize.ShloMosaic.Lib.KernelVsHost

@[expose] public section

set_option maxRecDepth 16384

noncomputable section

namespace Cert.Carry

open Idealize.ShloMosaic Idealize.ShloMosaic.TcCoe Idealize.ShloMosaic.Tactic Idealize.ShloMosaic.ValueIdx
open Cert.KernelIdeal Cert.KernelIdeal.Gen

/-- The second loop's rectangles: from the end, chunk `127 - k`'s forward half and chunk `k`'s backward half. -/
theorem emb1_off1 (k : Fin k1_t1_loop.trips) (h) (x : S1x32x128.Idx) :
    (Rect.unit (s := S128x32x256) (k1_off1 k) S1x32x128.size h).idx x = ix3 (⟨127 - k.val, by omega⟩ : Fin 128) (x 1 : Fin 32) (lo (x 2)) := by
  have h0 : (x 0).val = 0 := by have := (x 0).isLt; simp at this; omega
  funext a; apply Fin.ext; rw [Rect.idx_unit_val, congrFun (k1_off1_eq k) a]
  fin_cases a <;> simp [lo, h0]
theorem emb1_off2 (k : Fin k1_t1_loop.trips) (h) (x : S1x32x128.Idx) :
    (Rect.unit (s := S128x32x256) (k1_off2 k) S1x32x128.size h).idx x = ix3 (⟨k.val, k.isLt⟩ : Fin 128) (x 1 : Fin 32) (hi (x 2)) := by
  have h0 : (x 0).val = 0 := by have := (x 0).isLt; simp at this; omega
  funext a; apply Fin.ext; rw [Rect.idx_unit_val, congrFun (k1_off2_eq k) a]
  fin_cases a <;> simp [hi, h0]

/-- The two halves of a coefficient block. -/
theorem emb1_lo (h) (r : Fin 32) (j : Fin 128) :
    (Rect.unit (s := S32x256) ![0, 0] ![32, 128] h).idx (ix2 r j) = ix2 r (lo j) := by
  funext a; apply Fin.ext; rw [Rect.idx_unit_val]; fin_cases a <;> simp [lo]
theorem emb1_hi (h) (r : Fin 32) (j : Fin 128) :
    (Rect.unit (s := S32x256) ![0, 128] ![32, 128] h).idx (ix2 r j) = ix2 r (hi j) := by
  funext a; apply Fin.ext; rw [Rect.idx_unit_val]; fin_cases a <;> simp [hi]

theorem rot32 (x : FVec Ideal S32x128 .f32) (r : Fin 32) (j : Fin 128) :
    dynamicRotate 1 64#32 none x rotates_S32x128_d1 (ix2 r j) = x (ix2 r (rot j)) := by
  refine dynamicRotate_apply _ _ _ _ _ _ fun b => ?_
  have := j.isLt
  fin_cases b <;> simp [rot]

/-- A stored vector, at its rectangle's positions. -/
theorem addUnit1 (v : FVec Ideal S32x128 .f32) (x : S1x32x128.Idx) :
    shapeCast S1x32x128 v shapeCasts_S32x128_S1x32x128 x = v (ix2 (x 1) (x 2)) :=
  (shapeCast_addUnit_apply _ _ _ _).trans (congrArg v (eq_ix2 _))

/-- What a trip loads, as elements of the block. -/
theorem ld1_lo (arg : Memref sig .tc .vmem S128x32x256 .f32) {x0 : Arr 32} {X : BufTy.Contents (Elt Ideal) arg.view.ty} (hX : arg.view.read (Elt Ideal) X = x0) (k : Fin k1_t1_loop.trips) (r : Fin 32) (j : Fin 128) :
    shapeCast S32x128 (View.readAt (Elt Ideal) arg.view (Rect.unit (s := S128x32x256) (k1_off1 k) S1x32x128.size (k1_off1_inb k)).toLoadRect X)
      shapeCasts_S1x32x128_S32x128 (ix2 r j) = x0 (ix3 (⟨127 - k.val, by omega⟩ : Fin 128) r (lo j)) := by
  refine (shapeCast_dropUnit_apply _ _ _ _).trans ?_
  refine (congrFun hX _).trans (congrArg x0 ((emb1_off1 k _ _).trans rfl))
theorem ld1_hi (arg : Memref sig .tc .vmem S128x32x256 .f32) {x0 : Arr 32} {X : BufTy.Contents (Elt Ideal) arg.view.ty} (hX : arg.view.read (Elt Ideal) X = x0) (k : Fin k1_t1_loop.trips) (r : Fin 32) (j : Fin 128) :
    shapeCast S32x128 (View.readAt (Elt Ideal) arg.view (Rect.unit (s := S128x32x256) (k1_off2 k) S1x32x128.size (k1_off2_inb k)).toLoadRect X)
      shapeCasts_S1x32x128_S32x128 (ix2 r j) = x0 (ix3 (⟨k.val, k.isLt⟩ : Fin 128) r (hi j)) := by
  refine (shapeCast_dropUnit_apply _ _ _ _).trans ?_
  refine (congrFun hX _).trans (congrArg x0 ((emb1_off2 k _ _).trans rfl))

variable (𝒱 : Variants) (c : Dev nD) (bd : Option 𝒱.V) (i : grid1.Coords) (arg1 : Memref sig .tc .vmem S128x32x256 .f32) (harg1 : arg1.IsWhole) (arg2 : Memref sig .tc .vmem S128x32x256 .f32) (harg2 : arg2.IsWhole) (arg3 : Memref sig .tc .vmem S32x256 .f32) (harg3 : arg3.IsWhole) (arg4 : Memref sig .tc .vmem S32x256 .f32) (harg4 : arg4.IsWhole) (arg5 : Memref sig .tc .vmem S128x32x256 .f32) (harg5 : arg5.IsWhole) (arg6 : Memref sig .tc .vmem S32x256 .f32) (harg6 : arg6.IsWhole) (arg7 : Memref sig .tc .vmem S32x256 .f32) (harg7 : arg7.IsWhole)

/-- One trip: the gradients of the two directions' states and of their coefficients, and the two gradients it stores. -/
theorem tripR1 (v0 v1 v2 v3 : Vec Ideal S32x128 .f32) (X : BufTy.Contents (Elt Ideal) arg1.view.ty) (Y : BufTy.Contents (Elt Ideal) arg2.view.ty) (k : Fin k1_t1_loop.trips)
    (acc : FVec Ideal S32x128 .f32 × FVec Ideal S32x128 .f32 × FVec Ideal S32x128 .f32 × FVec Ideal S32x128 .f32 × FVec Ideal S32x128 .f32 × FVec Ideal S32x128 .f32) :
    tripR_k1_t1 (F := Ideal) 𝒱 c bd i arg1 harg1 arg2 harg2 arg3 harg3 arg4 harg4 arg5 harg5 arg6 harg6 arg7 harg7 v0 v1 v2 v3 X Y k acc
      = (k1_pay5 v0 v1 acc.1 (View.readAt (Elt Ideal) arg2.view (Rect.unit (s := S128x32x256) (k1_off1 k) S1x32x128.size (k1_off1_inb k)).toLoadRect Y),
         k1_pay6 acc.1 acc.2.1 (View.readAt (Elt Ideal) arg1.view (Rect.unit (s := S128x32x256) (k1_off1 k) S1x32x128.size (k1_off1_inb k)).toLoadRect X),
         k1_pay7 acc.1 acc.2.2.1 (View.readAt (Elt Ideal) arg1.view (Rect.unit (s := S128x32x256) (k1_off1 k) S1x32x128.size (k1_off1_inb k)).toLoadRect X),
         k1_pay10 v2 v3 acc.2.2.2.1 (View.readAt (Elt Ideal) arg2.view (Rect.unit (s := S128x32x256) (k1_off2 k) S1x32x128.size (k1_off2_inb k)).toLoadRect Y),
         k1_pay11 acc.2.2.2.1 acc.2.2.2.2.1 (View.readAt (Elt Ideal) arg1.view (Rect.unit (s := S128x32x256) (k1_off2 k) S1x32x128.size (k1_off2_inb k)).toLoadRect X),
         k1_pay2 acc.2.2.2.2.2 (k1_pay12 acc.2.2.2.1 (View.readAt (Elt Ideal) arg1.view (Rect.unit (s := S128x32x256) (k1_off2 k) S1x32x128.size (k1_off2_inb k)).toLoadRect X))) := by
  unfold tripR_k1_t1 trip_k1_t1; rfl
theorem tripL1 (v0 v1 v2 v3 : Vec Ideal S32x128 .f32) (X : BufTy.Contents (Elt Ideal) arg1.view.ty) (Y : BufTy.Contents (Elt Ideal) arg2.view.ty) (k : Fin k1_t1_loop.trips)
    (acc : FVec Ideal S32x128 .f32 × FVec Ideal S32x128 .f32 × FVec Ideal S32x128 .f32 × FVec Ideal S32x128 .f32 × FVec Ideal S32x128 .f32 × FVec Ideal S32x128 .f32) :
    tripL_k1_t1 (F := Ideal) 𝒱 c bd i arg1 harg1 arg2 harg2 arg3 harg3 arg4 harg4 arg5 harg5 arg6 harg6 arg7 harg7 v0 v1 v2 v3 X Y k acc
      = [⟨Rect.unit (s := S128x32x256) (k1_off2 k) S1x32x128.size (k1_off2_inb k), k1_pay8 acc.2.2.2.1⟩, ⟨Rect.unit (s := S128x32x256) (k1_off1 k) S1x32x128.size (k1_off1_inb k), k1_pay3 acc.1⟩] := by
  unfold tripL_k1_t1 trip_k1_t1; rfl

variable {x0 x1 : Arr 32} {x2 x3 : Mat 32}

/-- THE LOOP: before trip `k` the carried values are the gradients after `k` steps from the end, and every store so far wrote
    the gradient of its chunk's input. -/
theorem st1 {v0 v1 v2 v3 : Vec Ideal S32x128 .f32} {X : BufTy.Contents (Elt Ideal) arg1.view.ty} {Y : BufTy.Contents (Elt Ideal) arg2.view.ty}
    (h0 : ∀ r j, v0 (ix2 r j) = x2 (ix2 r (lo j))) (h1 : ∀ r j, v1 (ix2 r j) = x3 (ix2 r (lo j)))
    (h2 : ∀ r j, v2 (ix2 r j) = x2 (ix2 r (hi j))) (h3 : ∀ r j, v3 (ix2 r j) = x3 (ix2 r (hi j)))
    (hX : arg1.view.read (Elt Ideal) X = x0) (hY : arg2.view.read (Elt Ideal) Y = x1) : ∀ k ≤ 128,
    ((∀ r j, (st_k1_t1 (F := Ideal) 𝒱 c bd i arg1 harg1 arg2 harg2 arg3 harg3 arg4 harg4 arg5 harg5 arg6 harg6 arg7 harg7 v0 v1 v2 v3 X Y (k1_pay1, k1_pay1, k1_pay1, k1_pay1, k1_pay1, k1_pay1) k).1.1 (ix2 r j) = G x2 x3 x1 k r (lo j))
    ∧ (∀ r j, (st_k1_t1 (F := Ideal) 𝒱 c bd i arg1 harg1 arg2 harg2 arg3 harg3 arg4 harg4 arg5 harg5 arg6 harg6 arg7 harg7 v0 v1 v2 v3 X Y (k1_pay1, k1_pay1, k1_pay1, k1_pay1, k1_pay1, k1_pay1) k).1.2.1 (ix2 r j) = GA x2 x3 x0 x1 k r (lo j))
    ∧ (∀ r j, (st_k1_t1 (F := Ideal) 𝒱 c bd i arg1 harg1 arg2 harg2 arg3 harg3 arg4 harg4 arg5 harg5 arg6 harg6 arg7 harg7 v0 v1 v2 v3 X Y (k1_pay1, k1_pay1, k1_pay1, k1_pay1, k1_pay1, k1_pay1) k).1.2.2.1 (ix2 r j) = GB x2 x3 x0 x1 k r (lo j)))
    ∧ ((∀ r j, (st_k1_t1 (F := Ideal) 𝒱 c bd i arg1 harg1 arg2 harg2 arg3 harg3 arg4 harg4 arg5 harg5 arg6 harg6 arg7 harg7 v0 v1 v2 v3 X Y (k1_pay1, k1_pay1, k1_pay1, k1_pay1, k1_pay1, k1_pay1) k).1.2.2.2.1 (ix2 r j) = G x2 x3 x1 k r (hi j))
    ∧ (∀ r j, (st_k1_t1 (F := Ideal) 𝒱 c bd i arg1 harg1 arg2 harg2 arg3 harg3 arg4 harg4 arg5 harg5 arg6 harg6 arg7 harg7 v0 v1 v2 v3 X Y (k1_pay1, k1_pay1, k1_pay1, k1_pay1, k1_pay1, k1_pay1) k).1.2.2.2.2.1 (ix2 r j) = GA x2 x3 x0 x1 k r (hi j))
    ∧ (∀ r j, (st_k1_t1 (F := Ideal) 𝒱 c bd i arg1 harg1 arg2 harg2 arg3 harg3 arg4 harg4 arg5 harg5 arg6 harg6 arg7 harg7 v0 v1 v2 v3 X Y (k1_pay1, k1_pay1, k1_pay1, k1_pay1, k1_pay1, k1_pay1) k).1.2.2.2.2.2 (ix2 r j) = GB x2 x3 x0 x1 k r (hi j)))
    ∧ ∀ p ∈ (st_k1_t1 (F := Ideal) 𝒱 c bd i arg1 harg1 arg2 harg2 arg3 harg3 arg4 harg4 arg5 harg5 arg6 harg6 arg7 harg7 v0 v1 v2 v3 X Y (k1_pay1, k1_pay1, k1_pay1, k1_pay1, k1_pay1, k1_pay1) k).2, ∀ x, p.2 x = ds x2 x3 x1 (p.1.emb x)
  | 0, _ => by
    refine ⟨⟨fun r j => ?_, fun r j => ?_, fun r j => ?_⟩, ⟨fun r j => ?_, fun r j => ?_, fun r j => ?_⟩, fun p hp => ?_⟩
    · exact Ideal.ofBits_zero_f32
    · exact Ideal.ofBits_zero_f32
    · exact Ideal.ofBits_zero_f32
    · exact Ideal.ofBits_zero_f32
    · exact Ideal.ofBits_zero_f32
    · exact Ideal.ofBits_zero_f32
    · cases hp
  | k + 1, hk => by
    have ih := st1 h0 h1 h2 h3 hX hY k (by omega)
    have hlt : k < k1_t1_loop.trips := by show k < 128; omega
    rw [show k + 1 = (⟨k, hlt⟩ : Fin k1_t1_loop.trips).val + 1 from rfl, st_k1_t1_succ, tripR1, tripL1]
    dsimp only
    generalize hS : st_k1_t1 (F := Ideal) 𝒱 c bd i arg1 harg1 arg2 harg2 arg3 harg3 arg4 harg4 arg5 harg5 arg6 harg6 arg7 harg7 v0 v1 v2 v3 X Y (k1_pay1, k1_pay1, k1_pay1, k1_pay1, k1_pay1, k1_pay1) k = S at ih
    obtain ⟨⟨ih1, ih2, ih3⟩, ⟨ih4, ih5, ih6⟩, ih7⟩ := ih
    refine ⟨⟨fun r j => ?_, fun r j => ?_, fun r j => ?_⟩, ⟨fun r j => ?_, fun r j => ?_, fun r j => ?_⟩, fun p hp => ?_⟩
    · show shapeCast S32x128 _ shapeCasts_S1x32x128_S32x128 (ix2 r j) + v0 (ix2 r j) * S.1.1 (ix2 r j)
          + dynamicRotate 1 64#32 none (mulf v1 S.1.1) rotates_S32x128_d1 (ix2 r j) = _
      rw [G_succ, sw_lo, ← ih1, ← ih1, ← h0, ← h1, rot32, ld1_lo arg2 hY, e_lo j (show k < 128 by omega)]; rfl
    · rw [GA_succ, ← ih1, ← ih2, e_lo j (show k < 128 by omega)]
      exact congrArg (fun z => S.1.2.1 (ix2 r j) + S.1.1 (ix2 r j) * z) (ld1_lo arg1 hX ⟨k, hlt⟩ r j)
    · show S.1.2.2.1 (ix2 r j) + S.1.1 (ix2 r j) * dynamicRotate 1 64#32 none _ rotates_S32x128_d1 (ix2 r j) = _
      rw [GB_succ, ← ih1, ← ih3, sw_lo, e_lo j (show k < 128 by omega), rot32]
      exact congrArg (fun z => S.1.2.2.1 (ix2 r j) + S.1.1 (ix2 r j) * z) (ld1_lo arg1 hX _ _ _)
    · show shapeCast S32x128 _ shapeCasts_S1x32x128_S32x128 (ix2 r j) + v2 (ix2 r j) * S.1.2.2.2.1 (ix2 r j)
          + dynamicRotate 1 64#32 none (mulf v3 S.1.2.2.2.1) rotates_S32x128_d1 (ix2 r j) = _
      rw [G_succ, sw_hi, ← ih4, ← ih4, ← h2, ← h3, rot32, ld1_hi arg2 hY, e_hi j (show k < 128 by omega)]; rfl
    · rw [GA_succ, ← ih4, ← ih5, e_hi j (show k < 128 by omega)]
      exact congrArg (fun z => S.1.2.2.2.2.1 (ix2 r j) + S.1.2.2.2.1 (ix2 r j) * z) (ld1_hi arg1 hX ⟨k, hlt⟩ r j)
    · show S.1.2.2.2.2.2 (ix2 r j) + S.1.2.2.2.1 (ix2 r j) * dynamicRotate 1 64#32 none _ rotates_S32x128_d1 (ix2 r j) = _
      rw [GB_succ, ← ih4, ← ih6, sw_hi, e_hi j (show k < 128 by omega), rot32]
      exact congrArg (fun z => S.1.2.2.2.2.2 (ix2 r j) + S.1.2.2.2.1 (ix2 r j) * z) (ld1_hi arg1 hX _ _ _)
    · rw [List.mem_append, List.mem_cons, List.mem_singleton] at hp
      rcases hp with (rfl | rfl) | hp
      · intro (x : S1x32x128.Idx)
        refine ((addUnit1 _ x).trans (ih4 (x 1) (x 2))).trans ?_
        refine Eq.trans ?_ (congrArg (ds x2 x3 x1) (emb1_off2 ⟨k, hlt⟩ (k1_off2_inb ⟨k, hlt⟩) x).symm)
        show G x2 x3 x1 k (x 1) (hi (x 2)) = G x2 x3 x1 (127 - (tm (hi (x 2)) k).val) (x 1) (hi (x 2))
        rw [tm_hi (x 2) (show k < 128 by omega)]
        show _ = G x2 x3 x1 (127 - (127 - k)) (x 1) (hi (x 2))
        rw [show 127 - (127 - k) = k by omega]
      · intro (x : S1x32x128.Idx)
        refine ((addUnit1 _ x).trans (ih1 (x 1) (x 2))).trans ?_
        refine Eq.trans ?_ (congrArg (ds x2 x3 x1) (emb1_off1 ⟨k, hlt⟩ (k1_off1_inb ⟨k, hlt⟩) x).symm)
        show G x2 x3 x1 k (x 1) (lo (x 2)) = G x2 x3 x1 (127 - (tm (lo (x 2)) (127 - k)).val) (x 1) (lo (x 2))
        rw [tm_lo (x 2) (show 127 - k < 128 by omega)]
        show _ = G x2 x3 x1 (127 - (127 - k)) (x 1) (lo (x 2))
        rw [show 127 - (127 - k) = k by omega]
      · exact ih7 p hp

/-- The blocks the backward call leaves. -/
theorem lds1 (h) (X) (hX : arg3.view.read (Elt Ideal) X = x2) (r : Fin 32) (j : Fin 128) : View.readAt (Elt Ideal) arg3.view (Rect.unit (s := S32x256) ![0, 0] ![32, 128] h).toLoadRect X (ix2 r j) = x2 (ix2 r (lo j)) :=
  (congrFun hX _).trans (congrArg x2 (emb1_lo _ r j))
theorem lds1' (h) (X) (hX : arg3.view.read (Elt Ideal) X = x2) (r : Fin 32) (j : Fin 128) : View.readAt (Elt Ideal) arg3.view (Rect.unit (s := S32x256) ![0, 128] ![32, 128] h).toLoadRect X (ix2 r j) = x2 (ix2 r (hi j)) :=
  (congrFun hX _).trans (congrArg x2 (emb1_hi _ r j))
theorem out1_4 : out1_A_4 (F := Ideal) c i arg1 harg1 arg2 harg2 arg3 harg3 arg4 harg4 arg5 harg5 arg6 harg6 arg7 harg7 x0 x1 x2 x3 = ds x2 x3 x1 := by
  have hc := cover1_A_4 (F := Ideal) c i arg1 harg1 arg2 harg2 arg3 harg3 arg4 harg4 arg5 harg5 arg6 harg6 arg7 harg7 x0 x1 x2 x3
  unfold out1_A_4
  rw [View.read_writes_eq_canon _ _ _ hc]
  funext y
  refine View.canon_apply_of_pieces (ds x2 x3 x1) _ ?_ y (hc y)
  unfold kernelRun1_A
  dsimp only
  exact (st1 _ c _ i arg1 harg1 arg2 harg2 arg3 harg3 arg4 harg4 arg5 harg5 arg6 harg6 arg7 harg7 (lds1 arg3 _ _ (harg3.read_unread _)) (lds1 arg4 _ _ (harg4.read_unread _))
    (lds1' arg3 _ _ (harg3.read_unread _)) (lds1' arg4 _ _ (harg4.read_unread _)) (harg1.read_unread _) (harg2.read_unread _) 128 (le_refl _)).2.2
theorem out1_5 : out1_A_5 (F := Ideal) c i arg1 harg1 arg2 harg2 arg3 harg3 arg4 harg4 arg5 harg5 arg6 harg6 arg7 harg7 x0 x1 x2 x3 = fun y => GA x2 x3 x0 x1 128 (y 0) (y 1) := by
  have hc := cover1_A_5 (F := Ideal) c i arg1 harg1 arg2 harg2 arg3 harg3 arg4 harg4 arg5 harg5 arg6 harg6 arg7 harg7 x0 x1 x2 x3
  unfold out1_A_5
  rw [View.read_writes_eq_canon _ _ _ hc]
  funext y
  refine View.canon_apply_of_pieces (fun y => GA x2 x3 x0 x1 128 (y 0) (y 1)) _ ?_ y (hc y)
  unfold kernelRun1_A
  dsimp only
  have r1 : arg1.view.read (Elt Ideal) (harg1.unread x0) = x0 := harg1.read_unread _
  have r2 : arg2.view.read (Elt Ideal) (harg2.unread x1) = x1 := harg2.read_unread _
  have r3 : arg3.view.read (Elt Ideal) (harg3.unread x2) = x2 := harg3.read_unread _
  have r4 : arg4.view.read (Elt Ideal) (harg4.unread x3) = x3 := harg4.read_unread _
  have h := st1 (x0 := x0) (x1 := x1) (x2 := x2) (x3 := x3) Variants.none c none i arg1 harg1 arg2 harg2 arg3 harg3 arg4 harg4 arg5 harg5 arg6 harg6 arg7 harg7 (lds1 arg3 inb_S32x256_S32x128_0_0 (harg3.unread x2) r3) (lds1 arg4 inb_S32x256_S32x128_0_0 (x2 := x3) (harg4.unread x3) r4)
    (lds1' arg3 inb_S32x256_S32x128_0_128 (harg3.unread x2) r3) (lds1' arg4 inb_S32x256_S32x128_0_128 (x2 := x3) (harg4.unread x3) r4) (X := harg1.unread x0) r1 (Y := harg2.unread x1) r2 128 (le_refl _)
  intro p hp
  rw [List.mem_cons, List.mem_singleton] at hp
  rcases hp with rfl | rfl
  · intro (x : S32x128.Idx)
    refine Eq.trans ?_ (congrArg (fun y : S32x256.Idx => GA x2 x3 x0 x1 128 (y 0) (y 1)) ((congrArg _ (eq_ix2 x)).trans (emb1_hi inb_S32x256_S32x128_0_128 (x 0) (x 1))).symm)
    exact (congrArg _ (eq_ix2 x)).trans (h.2.1.2.1 (x 0) (x 1))
  · intro (x : S32x128.Idx)
    refine Eq.trans ?_ (congrArg (fun y : S32x256.Idx => GA x2 x3 x0 x1 128 (y 0) (y 1)) ((congrArg _ (eq_ix2 x)).trans (emb1_lo inb_S32x256_S32x128_0_0 (x 0) (x 1))).symm)
    exact (congrArg _ (eq_ix2 x)).trans (h.1.2.1 (x 0) (x 1))
theorem out1_6 : out1_A_6 (F := Ideal) c i arg1 harg1 arg2 harg2 arg3 harg3 arg4 harg4 arg5 harg5 arg6 harg6 arg7 harg7 x0 x1 x2 x3 = fun y => GB x2 x3 x0 x1 128 (y 0) (y 1) := by
  have hc := cover1_A_6 (F := Ideal) c i arg1 harg1 arg2 harg2 arg3 harg3 arg4 harg4 arg5 harg5 arg6 harg6 arg7 harg7 x0 x1 x2 x3
  unfold out1_A_6
  rw [View.read_writes_eq_canon _ _ _ hc]
  funext y
  refine View.canon_apply_of_pieces (fun y => GB x2 x3 x0 x1 128 (y 0) (y 1)) _ ?_ y (hc y)
  unfold kernelRun1_A
  dsimp only
  have r1 : arg1.view.read (Elt Ideal) (harg1.unread x0) = x0 := harg1.read_unread _
  have r2 : arg2.view.read (Elt Ideal) (harg2.unread x1) = x1 := harg2.read_unread _
  have r3 : arg3.view.read (Elt Ideal) (harg3.unread x2) = x2 := harg3.read_unread _
  have r4 : arg4.view.read (Elt Ideal) (harg4.unread x3) = x3 := harg4.read_unread _
  have h := st1 (x0 := x0) (x1 := x1) (x2 := x2) (x3 := x3) Variants.none c none i arg1 harg1 arg2 harg2 arg3 harg3 arg4 harg4 arg5 harg5 arg6 harg6 arg7 harg7 (lds1 arg3 inb_S32x256_S32x128_0_0 (harg3.unread x2) r3) (lds1 arg4 inb_S32x256_S32x128_0_0 (x2 := x3) (harg4.unread x3) r4)
    (lds1' arg3 inb_S32x256_S32x128_0_128 (harg3.unread x2) r3) (lds1' arg4 inb_S32x256_S32x128_0_128 (x2 := x3) (harg4.unread x3) r4) (X := harg1.unread x0) r1 (Y := harg2.unread x1) r2 128 (le_refl _)
  intro p hp
  rw [List.mem_cons, List.mem_singleton] at hp
  rcases hp with rfl | rfl
  · intro (x : S32x128.Idx)
    refine Eq.trans ?_ (congrArg (fun y : S32x256.Idx => GB x2 x3 x0 x1 128 (y 0) (y 1)) ((congrArg _ (eq_ix2 x)).trans (emb1_hi inb_S32x256_S32x128_0_128 (x 0) (x 1))).symm)
    exact (congrArg _ (eq_ix2 x)).trans (h.2.1.2.2 (x 0) (x 1))
  · intro (x : S32x128.Idx)
    refine Eq.trans ?_ (congrArg (fun y : S32x256.Idx => GB x2 x3 x0 x1 128 (y 0) (y 1)) ((congrArg _ (eq_ix2 x)).trans (emb1_lo inb_S32x256_S32x128_0_0 (x 0) (x 1))).symm)
    exact (congrArg _ (eq_ix2 x)).trans (h.1.2.2 (x 0) (x 1))

end Cert.Carry

end
-- ==== Proof.CarryRun.lean ====
/- The two calls' arrays, and the run of the kernel with its four results: each call's grid splits the rows, so block `t` of
   a result is what `CarryFwd` and `CarryBwd` say of the blocks of the arguments, and the blocks make up the array. -/
module

public import proofs.«01_k».proof.Proof.CarryFwd
public import proofs.«01_k».proof.Proof.CarryBwd

@[expose] public section

set_option maxRecDepth 16384

noncomputable section

namespace Cert.Carry

open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe Idealize.ShloMosaic.Tactic Idealize.ShloMosaic.ValueIdx
open Cert.KernelIdeal Cert.KernelIdeal.Gen
open Idealize.ShloMosaic.Rounds
open Idealize.ShloMosaic.Pipeline (Dat)

/-- Row `r` of block `t`. -/
def row0 (t : Fin cfg0.N) (r : Fin 64) : Fin 128 := ⟨64 * t.val + r.val, by have : t.val < 2 := t.isLt; omega⟩
def row1 (t : Fin cfg1.N) (r : Fin 32) : Fin 128 := ⟨32 * t.val + r.val, by have : t.val < 4 := t.isLt; omega⟩

/-! Where each window's block lies in its array. -/

theorem idx0_0 : ∀ t : Fin cfg0.N, win0_0.index t (0 : Fin 3) = 0 ∧ win0_0.index t (1 : Fin 3) = t.val ∧ win0_0.index t (2 : Fin 3) = 0 :=
  (by decide +kernel : ∀ t : Fin grid0.N, _)
theorem emb0_0 (t : Fin cfg0.N) (y : S128x64x256.Idx) : ((cfg0.win 0).blk t).view.emb y = ix3 (y 0 : Fin 128) (row0 t (y 1)) (y 2 : Fin 256) := by
  obtain ⟨e0, e1, e2⟩ := idx0_0 t
  funext a; apply Fin.ext
  match a with
  | ⟨0, _⟩ => show win0_0.index t (0 : Fin 3) * 128 + 1 * (y 0).val = (y 0).val; omega
  | ⟨1, _⟩ => show win0_0.index t (1 : Fin 3) * 64 + 1 * (y 1).val = 64 * t.val + (y 1).val; omega
  | ⟨2, _⟩ => show win0_0.index t (2 : Fin 3) * 256 + 1 * (y 2).val = (y 2).val; omega
theorem idx0_1 : ∀ t : Fin cfg0.N, win0_1.index t (0 : Fin 2) = t.val ∧ win0_1.index t (1 : Fin 2) = 0 :=
  (by decide +kernel : ∀ t : Fin grid0.N, _)
theorem emb0_1 (t : Fin cfg0.N) (y : S64x256.Idx) : ((cfg0.win 1).blk t).view.emb y = ix2 (row0 t (y 0)) (y 1 : Fin 256) := by
  obtain ⟨e0, e1⟩ := idx0_1 t
  funext a; apply Fin.ext
  match a with
  | ⟨0, _⟩ => show win0_1.index t (0 : Fin 2) * 64 + 1 * (y 0).val = 64 * t.val + (y 0).val; omega
  | ⟨1, _⟩ => show win0_1.index t (1 : Fin 2) * 256 + 1 * (y 1).val = (y 1).val; omega
theorem idx0_2 : ∀ t : Fin cfg0.N, win0_2.index t (0 : Fin 2) = t.val ∧ win0_2.index t (1 : Fin 2) = 0 :=
  (by decide +kernel : ∀ t : Fin grid0.N, _)
theorem emb0_2 (t : Fin cfg0.N) (y : S64x256.Idx) : ((cfg0.win 2).blk t).view.emb y = ix2 (row0 t (y 0)) (y 1 : Fin 256) := by
  obtain ⟨e0, e1⟩ := idx0_2 t
  funext a; apply Fin.ext
  match a with
  | ⟨0, _⟩ => show win0_2.index t (0 : Fin 2) * 64 + 1 * (y 0).val = 64 * t.val + (y 0).val; omega
  | ⟨1, _⟩ => show win0_2.index t (1 : Fin 2) * 256 + 1 * (y 1).val = (y 1).val; omega
theorem idx0_3 : ∀ t : Fin cfg0.N, win0_3.index t (0 : Fin 3) = 0 ∧ win0_3.index t (1 : Fin 3) = t.val ∧ win0_3.index t (2 : Fin 3) = 0 :=
  (by decide +kernel : ∀ t : Fin grid0.N, _)
theorem emb0_3 (t : Fin cfg0.N) (y : S128x64x256.Idx) : ((cfg0.win 3).blk t).view.emb y = ix3 (y 0 : Fin 128) (row0 t (y 1)) (y 2 : Fin 256) := by
  obtain ⟨e0, e1, e2⟩ := idx0_3 t
  funext a; apply Fin.ext
  match a with
  | ⟨0, _⟩ => show win0_3.index t (0 : Fin 3) * 128 + 1 * (y 0).val = (y 0).val; omega
  | ⟨1, _⟩ => show win0_3.index t (1 : Fin 3) * 64 + 1 * (y 1).val = 64 * t.val + (y 1).val; omega
  | ⟨2, _⟩ => show win0_3.index t (2 : Fin 3) * 256 + 1 * (y 2).val = (y 2).val; omega
theorem idx1_0 : ∀ t : Fin cfg1.N, win1_0.index t (0 : Fin 3) = 0 ∧ win1_0.index t (1 : Fin 3) = t.val ∧ win1_0.index t (2 : Fin 3) = 0 :=
  (by decide +kernel : ∀ t : Fin grid1.N, _)
theorem emb1_0 (t : Fin cfg1.N) (y : S128x32x256.Idx) : ((cfg1.win 0).blk t).view.emb y = ix3 (y 0 : Fin 128) (row1 t (y 1)) (y 2 : Fin 256) := by
  obtain ⟨e0, e1, e2⟩ := idx1_0 t
  funext a; apply Fin.ext
  match a with
  | ⟨0, _⟩ => show win1_0.index t (0 : Fin 3) * 128 + 1 * (y 0).val = (y 0).val; omega
  | ⟨1, _⟩ => show win1_0.index t (1 : Fin 3) * 32 + 1 * (y 1).val = 32 * t.val + (y 1).val; omega
  | ⟨2, _⟩ => show win1_0.index t (2 : Fin 3) * 256 + 1 * (y 2).val = (y 2).val; omega
theorem idx1_1 : ∀ t : Fin cfg1.N, win1_1.index t (0 : Fin 3) = 0 ∧ win1_1.index t (1 : Fin 3) = t.val ∧ win1_1.index t (2 : Fin 3) = 0 :=
  (by decide +kernel : ∀ t : Fin grid1.N, _)
theorem emb1_1 (t : Fin cfg1.N) (y : S128x32x256.Idx) : ((cfg1.win 1).blk t).view.emb y = ix3 (y 0 : Fin 128) (row1 t (y 1)) (y 2 : Fin 256) := by
  obtain ⟨e0, e1, e2⟩ := idx1_1 t
  funext a; apply Fin.ext
  match a with
  | ⟨0, _⟩ => show win1_1.index t (0 : Fin 3) * 128 + 1 * (y 0).val = (y 0).val; omega
  | ⟨1, _⟩ => show win1_1.index t (1 : Fin 3) * 32 + 1 * (y 1).val = 32 * t.val + (y 1).val; omega
  | ⟨2, _⟩ => show win1_1.index t (2 : Fin 3) * 256 + 1 * (y 2).val = (y 2).val; omega
theorem idx1_2 : ∀ t : Fin cfg1.N, win1_2.index t (0 : Fin 2) = t.val ∧ win1_2.index t (1 : Fin 2) = 0 :=
  (by decide +kernel : ∀ t : Fin grid1.N, _)
theorem emb1_2 (t : Fin cfg1.N) (y : S32x256.Idx) : ((cfg1.win 2).blk t).view.emb y = ix2 (row1 t (y 0)) (y 1 : Fin 256) := by
  obtain ⟨e0, e1⟩ := idx1_2 t
  funext a; apply Fin.ext
  match a with
  | ⟨0, _⟩ => show win1_2.index t (0 : Fin 2) * 32 + 1 * (y 0).val = 32 * t.val + (y 0).val; omega
  | ⟨1, _⟩ => show win1_2.index t (1 : Fin 2) * 256 + 1 * (y 1).val = (y 1).val; omega
theorem idx1_3 : ∀ t : Fin cfg1.N, win1_3.index t (0 : Fin 2) = t.val ∧ win1_3.index t (1 : Fin 2) = 0 :=
  (by decide +kernel : ∀ t : Fin grid1.N, _)
theorem emb1_3 (t : Fin cfg1.N) (y : S32x256.Idx) : ((cfg1.win 3).blk t).view.emb y = ix2 (row1 t (y 0)) (y 1 : Fin 256) := by
  obtain ⟨e0, e1⟩ := idx1_3 t
  funext a; apply Fin.ext
  match a with
  | ⟨0, _⟩ => show win1_3.index t (0 : Fin 2) * 32 + 1 * (y 0).val = 32 * t.val + (y 0).val; omega
  | ⟨1, _⟩ => show win1_3.index t (1 : Fin 2) * 256 + 1 * (y 1).val = (y 1).val; omega
theorem idx1_4 : ∀ t : Fin cfg1.N, win1_4.index t (0 : Fin 3) = 0 ∧ win1_4.index t (1 : Fin 3) = t.val ∧ win1_4.index t (2 : Fin 3) = 0 :=
  (by decide +kernel : ∀ t : Fin grid1.N, _)
theorem emb1_4 (t : Fin cfg1.N) (y : S128x32x256.Idx) : ((cfg1.win 4).blk t).view.emb y = ix3 (y 0 : Fin 128) (row1 t (y 1)) (y 2 : Fin 256) := by
  obtain ⟨e0, e1, e2⟩ := idx1_4 t
  funext a; apply Fin.ext
  match a with
  | ⟨0, _⟩ => show win1_4.index t (0 : Fin 3) * 128 + 1 * (y 0).val = (y 0).val; omega
  | ⟨1, _⟩ => show win1_4.index t (1 : Fin 3) * 32 + 1 * (y 1).val = 32 * t.val + (y 1).val; omega
  | ⟨2, _⟩ => show win1_4.index t (2 : Fin 3) * 256 + 1 * (y 2).val = (y 2).val; omega
theorem idx1_5 : ∀ t : Fin cfg1.N, win1_5.index t (0 : Fin 2) = t.val ∧ win1_5.index t (1 : Fin 2) = 0 :=
  (by decide +kernel : ∀ t : Fin grid1.N, _)
theorem emb1_5 (t : Fin cfg1.N) (y : S32x256.Idx) : ((cfg1.win 5).blk t).view.emb y = ix2 (row1 t (y 0)) (y 1 : Fin 256) := by
  obtain ⟨e0, e1⟩ := idx1_5 t
  funext a; apply Fin.ext
  match a with
  | ⟨0, _⟩ => show win1_5.index t (0 : Fin 2) * 32 + 1 * (y 0).val = 32 * t.val + (y 0).val; omega
  | ⟨1, _⟩ => show win1_5.index t (1 : Fin 2) * 256 + 1 * (y 1).val = (y 1).val; omega
theorem idx1_6 : ∀ t : Fin cfg1.N, win1_6.index t (0 : Fin 2) = t.val ∧ win1_6.index t (1 : Fin 2) = 0 :=
  (by decide +kernel : ∀ t : Fin grid1.N, _)
theorem emb1_6 (t : Fin cfg1.N) (y : S32x256.Idx) : ((cfg1.win 6).blk t).view.emb y = ix2 (row1 t (y 0)) (y 1 : Fin 256) := by
  obtain ⟨e0, e1⟩ := idx1_6 t
  funext a; apply Fin.ext
  match a with
  | ⟨0, _⟩ => show win1_6.index t (0 : Fin 2) * 32 + 1 * (y 0).val = 32 * t.val + (y 0).val; omega
  | ⟨1, _⟩ => show win1_6.index t (1 : Fin 2) * 256 + 1 * (y 1).val = (y 1).val; omega

section Arrays
variable (V : (c : Dev nD) → (b : Ref sig .tc) → Buf (Elt Ideal) ((c : Thread nD τ).loc b)) (c : Dev nD)

/-! Each window's block, element by element. -/

theorem blk0_0 (t : Fin cfg0.N) (q : Fin 128) (r : Fin 64) (j : Fin 256) : (iblk0 V c 0 t : Arr 64) (ix3 q r j) = (V c main_arg0 : Arr 128) (ix3 q (row0 t r) j) :=
  congrArg (V c main_arg0 : Arr 128) (emb0_0 t (ix3 q r j))
theorem blk0_1 (t : Fin cfg0.N) (r : Fin 64) (j : Fin 256) : (iblk0 V c 1 t : Mat 64) (ix2 r j) = (V c main_arg1 : Mat 128) (ix2 (row0 t r) j) :=
  congrArg (V c main_arg1 : Mat 128) (emb0_1 t (ix2 r j))
theorem blk0_2 (t : Fin cfg0.N) (r : Fin 64) (j : Fin 256) : (iblk0 V c 2 t : Mat 64) (ix2 r j) = (V c main_arg2 : Mat 128) (ix2 (row0 t r) j) :=
  congrArg (V c main_arg2 : Mat 128) (emb0_2 t (ix2 r j))
theorem blk1_0 (t : Fin cfg1.N) (q : Fin 128) (r : Fin 32) (j : Fin 256) : (iblk1 V c 0 t : Arr 32) (ix3 q r j) = (V c main_v0 : Arr 128) (ix3 q (row1 t r) j) :=
  congrArg (V c main_v0 : Arr 128) (emb1_0 t (ix3 q r j))
theorem blk1_1 (t : Fin cfg1.N) (q : Fin 128) (r : Fin 32) (j : Fin 256) : (iblk1 V c 1 t : Arr 32) (ix3 q r j) = (V c main_arg3 : Arr 128) (ix3 q (row1 t r) j) :=
  congrArg (V c main_arg3 : Arr 128) (emb1_1 t (ix3 q r j))
theorem blk1_2 (t : Fin cfg1.N) (r : Fin 32) (j : Fin 256) : (iblk1 V c 2 t : Mat 32) (ix2 r j) = (V c main_arg1 : Mat 128) (ix2 (row1 t r) j) :=
  congrArg (V c main_arg1 : Mat 128) (emb1_2 t (ix2 r j))
theorem blk1_3 (t : Fin cfg1.N) (r : Fin 32) (j : Fin 256) : (iblk1 V c 3 t : Mat 32) (ix2 r j) = (V c main_arg2 : Mat 128) (ix2 (row1 t r) j) :=
  congrArg (V c main_arg2 : Mat 128) (emb1_3 t (ix2 r j))

/-! The blocks of a result make up its array. -/

theorem covered0_3 (i : S128x128x256.Idx) : ∃ t : Fin cfg0.N, (cfg0.win 3).flush t = true ∧ i ∈ ((cfg0.win 3).blk t).view.set := by
  have hi : (i 1).val < 128 := (i 1).isLt
  refine ⟨(⟨(i 1).val / 64, by show (i 1).val / 64 < 2; omega⟩ : Fin cfg0.N), flush0_3 _, ?_⟩
  have h := ((cfg0.win 3).blk (⟨(i 1).val / 64, by show (i 1).val / 64 < 2; omega⟩ : Fin cfg0.N)).view.emb_mem_set
    (ix3 (i 0 : Fin 128) (⟨(i 1).val % 64, Nat.mod_lt _ (by decide)⟩ : Fin 64) (i 2 : Fin 256))
  rw [emb0_3] at h
  refine (congrArg (· ∈ _) ?_).mp h
  refine Eq.trans ?_ (eq_ix3 i).symm
  have e : row0 (⟨(i 1).val / 64, by show (i 1).val / 64 < 2; omega⟩ : Fin cfg0.N) (⟨(i 1).val % 64, Nat.mod_lt _ (by decide)⟩ : Fin 64) = (i 1 : Fin 128) :=
    Fin.ext (by show 64 * ((i 1).val / 64) + (i 1).val % 64 = (i 1).val; omega)
  exact congrArg (fun z : Fin 128 => ix3 (i 0 : Fin 128) z (i 2 : Fin 256)) e
theorem covered1_4 (i : S128x128x256.Idx) : ∃ t : Fin cfg1.N, (cfg1.win 4).flush t = true ∧ i ∈ ((cfg1.win 4).blk t).view.set := by
  have hi : (i 1).val < 128 := (i 1).isLt
  refine ⟨(⟨(i 1).val / 32, by show (i 1).val / 32 < 4; omega⟩ : Fin cfg1.N), flush1_4 _, ?_⟩
  have h := ((cfg1.win 4).blk (⟨(i 1).val / 32, by show (i 1).val / 32 < 4; omega⟩ : Fin cfg1.N)).view.emb_mem_set
    (ix3 (i 0 : Fin 128) (⟨(i 1).val % 32, Nat.mod_lt _ (by decide)⟩ : Fin 32) (i 2 : Fin 256))
  rw [emb1_4] at h
  refine (congrArg (· ∈ _) ?_).mp h
  refine Eq.trans ?_ (eq_ix3 i).symm
  have e : row1 (⟨(i 1).val / 32, by show (i 1).val / 32 < 4; omega⟩ : Fin cfg1.N) (⟨(i 1).val % 32, Nat.mod_lt _ (by decide)⟩ : Fin 32) = (i 1 : Fin 128) :=
    Fin.ext (by show 32 * ((i 1).val / 32) + (i 1).val % 32 = (i 1).val; omega)
  exact congrArg (fun z : Fin 128 => ix3 (i 0 : Fin 128) z (i 2 : Fin 256)) e
theorem covered1_5 (i : S128x256.Idx) : ∃ t : Fin cfg1.N, (cfg1.win 5).flush t = true ∧ i ∈ ((cfg1.win 5).blk t).view.set := by
  have hi : (i 0).val < 128 := (i 0).isLt
  refine ⟨(⟨(i 0).val / 32, by show (i 0).val / 32 < 4; omega⟩ : Fin cfg1.N), flush1_5 _, ?_⟩
  have h := ((cfg1.win 5).blk (⟨(i 0).val / 32, by show (i 0).val / 32 < 4; omega⟩ : Fin cfg1.N)).view.emb_mem_set
    (ix2 (⟨(i 0).val % 32, Nat.mod_lt _ (by decide)⟩ : Fin 32) (i 1 : Fin 256))
  rw [emb1_5] at h
  refine (congrArg (· ∈ _) ?_).mp h
  refine Eq.trans ?_ (eq_ix2 i).symm
  have e : row1 (⟨(i 0).val / 32, by show (i 0).val / 32 < 4; omega⟩ : Fin cfg1.N) (⟨(i 0).val % 32, Nat.mod_lt _ (by decide)⟩ : Fin 32) = (i 0 : Fin 128) :=
    Fin.ext (by show 32 * ((i 0).val / 32) + (i 0).val % 32 = (i 0).val; omega)
  exact congrArg (fun z : Fin 128 => ix2 z (i 1 : Fin 256)) e
theorem covered1_6 (i : S128x256.Idx) : ∃ t : Fin cfg1.N, (cfg1.win 6).flush t = true ∧ i ∈ ((cfg1.win 6).blk t).view.set := by
  have hi : (i 0).val < 128 := (i 0).isLt
  refine ⟨(⟨(i 0).val / 32, by show (i 0).val / 32 < 4; omega⟩ : Fin cfg1.N), flush1_6 _, ?_⟩
  have h := ((cfg1.win 6).blk (⟨(i 0).val / 32, by show (i 0).val / 32 < 4; omega⟩ : Fin cfg1.N)).view.emb_mem_set
    (ix2 (⟨(i 0).val % 32, Nat.mod_lt _ (by decide)⟩ : Fin 32) (i 1 : Fin 256))
  rw [emb1_6] at h
  refine (congrArg (· ∈ _) ?_).mp h
  refine Eq.trans ?_ (eq_ix2 i).symm
  have e : row1 (⟨(i 0).val / 32, by show (i 0).val / 32 < 4; omega⟩ : Fin cfg1.N) (⟨(i 0).val % 32, Nat.mod_lt _ (by decide)⟩ : Fin 32) = (i 0 : Fin 128) :=
    Fin.ext (by show 32 * ((i 0).val / 32) + (i 0).val % 32 = (i 0).val; omega)
  exact congrArg (fun z : Fin 128 => ix2 z (i 1 : Fin 256)) e

/-- THE FORWARD CALL's result array. -/
theorem final0_3 : (dat0 V c).arrAt 3 cfg0.N = hin (n := 128) (V c main_arg1) (V c main_arg2) (V c main_arg0) := by
  refine (dat0 V c).arrAt_eq_of_cover 3 (hin (n := 128) (V c main_arg1) (V c main_arg2) (V c main_arg0)) (fun t _ => ?_) covered0_3
  show (cfg0.win 3).cut (grid0.coords t) ((dat0 V c).after 3 t) = _
  rw [after0_3, outsAt0, out0]
  funext (y : S128x64x256.Idx)
  refine Eq.trans ?_ (congrArg (hin (n := 128) (V c main_arg1) (V c main_arg2) (V c main_arg0)) (emb0_3 t y)).symm
  exact H_rows (row0 t) (blk0_1 V c t) (blk0_2 V c t) (blk0_0 V c t) _ (y 1) (y 2)

/-- THE BACKWARD CALL's result arrays. -/
theorem final1_4 : (dat1 V c).arrAt 4 cfg1.N = ds (n := 128) (V c main_arg1) (V c main_arg2) (V c main_arg3) := by
  refine (dat1 V c).arrAt_eq_of_cover 4 (ds (n := 128) (V c main_arg1) (V c main_arg2) (V c main_arg3)) (fun t _ => ?_) covered1_4
  show (cfg1.win 4).cut (grid1.coords t) ((dat1 V c).after 4 t) = _
  rw [after1_4, outsAt1, out1_4]
  funext (y : S128x32x256.Idx)
  refine Eq.trans ?_ (congrArg (ds (n := 128) (V c main_arg1) (V c main_arg2) (V c main_arg3)) (emb1_4 t y)).symm
  exact G_rows (row1 t) (blk1_2 V c t) (blk1_3 V c t) (blk1_1 V c t) _ (y 1) (y 2)
theorem final1_5 : (dat1 V c).arrAt 5 cfg1.N = (fun y => GA (n := 128) (V c main_arg1) (V c main_arg2) (V c main_v0) (V c main_arg3) 128 (y 0) (y 1)) := by
  refine (dat1 V c).arrAt_eq_of_cover 5 (fun y => GA (n := 128) (V c main_arg1) (V c main_arg2) (V c main_v0) (V c main_arg3) 128 (y 0) (y 1)) (fun t _ => ?_) covered1_5
  show (cfg1.win 5).cut (grid1.coords t) ((dat1 V c).after 5 t) = _
  rw [after1_5, outsAt1, out1_5]
  funext (y : S32x256.Idx)
  refine Eq.trans ?_ (congrArg (fun y : S128x256.Idx => GA (n := 128) (V c main_arg1) (V c main_arg2) (V c main_v0) (V c main_arg3) 128 (y 0) (y 1)) (emb1_5 t y)).symm
  exact GA_rows (row1 t) (blk1_2 V c t) (blk1_3 V c t) (blk1_0 V c t) (blk1_1 V c t) 128 (y 0) (y 1)
theorem final1_6 : (dat1 V c).arrAt 6 cfg1.N = (fun y => GB (n := 128) (V c main_arg1) (V c main_arg2) (V c main_v0) (V c main_arg3) 128 (y 0) (y 1)) := by
  refine (dat1 V c).arrAt_eq_of_cover 6 (fun y => GB (n := 128) (V c main_arg1) (V c main_arg2) (V c main_v0) (V c main_arg3) 128 (y 0) (y 1)) (fun t _ => ?_) covered1_6
  show (cfg1.win 6).cut (grid1.coords t) ((dat1 V c).after 6 t) = _
  rw [after1_6, outsAt1, out1_6]
  funext (y : S32x256.Idx)
  refine Eq.trans ?_ (congrArg (fun y : S128x256.Idx => GB (n := 128) (V c main_arg1) (V c main_arg2) (V c main_v0) (V c main_arg3) 128 (y 0) (y 1)) (emb1_6 t y)).symm
  exact GB_rows (row1 t) (blk1_2 V c t) (blk1_3 V c t) (blk1_0 V c t) (blk1_1 V c t) 128 (y 0) (y 1)

end Arrays

section Run
variable (m : (ℓ : Loc nD τ sig) → Buf (Elt Ideal) ℓ) (ρ : Dev nD → PrngReg)

/-- The arguments on device `c`. -/
abbrev argS (c : Dev nD) : Arr 128 := m ((c.tc : Thread nD τ).loc main_arg0)
abbrev argA (c : Dev nD) : Mat 128 := m ((c.tc : Thread nD τ).loc main_arg1)
abbrev argB (c : Dev nD) : Mat 128 := m ((c.tc : Thread nD τ).loc main_arg2)
abbrev argD (c : Dev nD) : Arr 128 := m ((c.tc : Thread nD τ).loc main_arg3)

/-- The contents at the end, at the four result arrays. -/
theorem end_v0 (c : Dev nD) : W1 m ρ c (Proc.devRef .tc main_v0) = hin (argA m c) (argB m c) (argS m c) :=
  (W1_arr m ρ c 3).trans (final0_3 (V0 m ρ) c)
theorem end2_v0 (c : Dev nD) : W2 m ρ c (Proc.devRef .tc main_v0) = hin (argA m c) (argB m c) (argS m c) :=
  (W2_of m ρ c main_v0 (by decide)).trans (end_v0 m ρ c)
theorem V1_arg (c : Dev nD) (r : Ref sig .tc) (h : r ∈ argRefs) : V1 m ρ c r = m ((c.tc : Thread nD τ).loc r) := W1_args m ρ c r h
theorem end_v1_0 (c : Dev nD) : W2 m ρ c (Proc.devRef .tc main_v1_0) = ds (argA m c) (argB m c) (argD m c) := by
  refine ((W2_arr m ρ c 4).trans (final1_4 (V1 m ρ) c)).trans ?_
  rw [V1_arg m ρ c main_arg1 (by decide), V1_arg m ρ c main_arg2 (by decide), V1_arg m ρ c main_arg3 (by decide)]
theorem end_v1_1 (c : Dev nD) : W2 m ρ c (Proc.devRef .tc main_v1_1)
    = (fun y : S128x256.Idx => GA (argA m c) (argB m c) (hin (argA m c) (argB m c) (argS m c)) (argD m c) 128 (y 0) (y 1)) := by
  refine ((W2_arr m ρ c 5).trans (final1_5 (V1 m ρ) c)).trans ?_
  rw [V1_arg m ρ c main_arg1 (by decide), V1_arg m ρ c main_arg2 (by decide), V1_arg m ρ c main_arg3 (by decide),
    show V1 m ρ c main_v0 = _ from end_v0 m ρ c]
  rfl
theorem end_v1_2 (c : Dev nD) : W2 m ρ c (Proc.devRef .tc main_v1_2)
    = (fun y : S128x256.Idx => GB (argA m c) (argB m c) (hin (argA m c) (argB m c) (argS m c)) (argD m c) 128 (y 0) (y 1)) := by
  refine ((W2_arr m ρ c 6).trans (final1_6 (V1 m ρ) c)).trans ?_
  rw [V1_arg m ρ c main_arg1 (by decide), V1_arg m ρ c main_arg2 (by decide), V1_arg m ρ c main_arg3 (by decide),
    show V1 m ρ c main_v0 = _ from end_v0 m ρ c]
  rfl

set_option backward.isDefEq.respectTransparency.types false in
/-- THE RUN: from any memory the two calls end with the states entering the chunks and the three gradients in the result
    arrays, and with the arguments as they were. -/
theorem run : θ_run defs (onTc (τ := τ) (main (F := Ideal))) ⟨m, fun _ => 0, ρ⟩ (fun r => ∀ c : Dev nD,
      r.2.mem ((c.tc : Thread nD τ).loc main_v0) = hin (argA m c) (argB m c) (argS m c)
      ∧ r.2.mem ((c.tc : Thread nD τ).loc main_v1_0) = ds (argA m c) (argB m c) (argD m c)
      ∧ r.2.mem ((c.tc : Thread nD τ).loc main_v1_1)
          = (fun y : S128x256.Idx => GA (argA m c) (argB m c) (hin (argA m c) (argB m c) (argS m c)) (argD m c) 128 (y 0) (y 1))
      ∧ r.2.mem ((c.tc : Thread nD τ).loc main_v1_2)
          = (fun y : S128x256.Idx => GB (argA m c) (argB m c) (hin (argA m c) (argB m c) (argS m c)) (argD m c) 128 (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨(h c _ (mem_uc main_v0 (by decide))).trans (end2_v0 m ρ c),
       (h c _ (mem_uc main_v1_0 (by decide))).trans (end_v1_0 m ρ c),
       (h c _ (mem_uc main_v1_1 (by decide))).trans (end_v1_1 m ρ c),
       (h c _ (mem_uc main_v1_2 (by decide))).trans (end_v1_2 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Run

end Cert.Carry

end
-- ==== Proof.TwoLoops.lean ====
/- A host program of the form  stretch ; loop ; stretch ; loop ; stretch  whose loops are counted: every weakly fair
   execution terminates and each buffer ends at the fold of the operations, each loop's body folded as often as the
   loop runs. -/
module

public import Idealize.ShloMosaic.Lib.Pipeline.Regions
public import Idealize.ShloMosaic.Lib.Pipeline.RegionsLoop
public import Idealize.ShloMosaic.Lib.StableHlo.RunLoop

@[expose] public section

noncomputable section

namespace Cert.TwoLoops

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs CSeg PCfg Ticket)

variable {nD : Nat} {τ : Topo} {sig : RefSig} {F : FTy → Type} [FloatOps F] {Λ₀ : Labels}

/-- Programs over the labels of `nL` host loops and no kernel launch. -/
abbrev HProg (pcs : Fin 0 → PCfg sig Λ₀ (Elt F)) (nL : ℕ) (A : Type) : Type 1 :=
  Prog (TpuEff nD τ sig (Elt F) (HostLoop.Sig (Pipeline.Sig Λ₀ (Fin 0) fun p => (pcs p).Adm) nL) .tc) A

/-- A counted host loop: its label's index, its two regions, their operations and its number of trips. -/
structure Counted (nD : Nat) (τ : Topo) (pcs : Fin 0 → PCfg sig Λ₀ (Elt F)) {nL : ℕ}
    (loops : Fin nL → HProg (nD := nD) (τ := τ) pcs nL PUnit) where
  l : Fin nL
  cond : HProg (nD := nD) (τ := τ) pcs nL (Elt F .i1)
  body : HProg (nD := nD) (τ := τ) pcs nL PUnit
  step : loops l = HostLoop.step l cond body
  test : List (HloOp τ sig (Elt F))
  ops : List (List (HloOp τ sig (Elt F)))
  plain : Plain ops
  chain : body = Pipeline.chain (ops.map fun os => (seq os : Prog _ PUnit))
  trips : ℕ

variable {pcs : Fin 0 → PCfg sig Λ₀ (Elt F)} {defs₀ : Defs nD τ sig (Elt F) Λ₀} {nL : ℕ}
  {loops : Fin nL → HProg (nD := nD) (τ := τ) pcs nL PUnit}

/-- What the buffers hold when a counted loop entered at `W` has returned. -/
def Counted.leave (q : Counted nD τ pcs loops) (W : Dev nD → Valuation τ sig (Elt F)) (c : Dev nD) :
    Valuation τ sig (Elt F) := after q.test (atTrip q.test q.ops W q.trips c)

/-- The loop's condition, run for the `k`-th time from buffers folded `k` times, is 1 exactly for `k < trips`. -/
abbrev Counted.Exits (defs₀ : Defs nD τ sig (Elt F) Λ₀) (q : Counted nD τ pcs loops) (W : Dev nD → Valuation τ sig (Elt F)) : Prop :=
  CondSpec pcs defs₀ loops q.cond q.test q.ops W q.trips

/-- There is no staging ticket. -/
abbrev noTk : Fin 0 → Ticket (nD := nD) (τ := τ) (Ix := Unit) (Name := ℕ) (U := Option PUnit) (Lvl := ℕ) pcs (fun p => p.elim0) :=
  fun j => j.elim0

/-- What every segment carries beside the buffers. -/
abbrev side (c : Dev nD) : sProp (MT nD τ sig Unit (Elt F) ℕ (Option PUnit) ℕ) :=
  iprop(∃ W, owes (c : Thread nD τ) (0 : CellTallies nD τ sig Unit) W)

theorem Counted.Exits.carrying {q : Counted nD τ pcs loops} {W : Dev nD → Valuation τ sig (Elt F)} (hq : q.Exits defs₀ W) :
    LoopCond pcs defs₀ Variants.none loops side q.cond q.test q.ops W q.trips := by
  intro k hk c bd
  have swap : ∀ v : Elt F .i1,
      iprop(iprop(⌜v = 1#1 ↔ k < q.trips⌝ ∗ boundary (c : Thread nD τ)
          ∗ held (c : Thread nD τ) (ucRefs τ sig) (after q.test (atTrip q.test q.ops W k c))) ∗ side c)
        ⊢ iprop(⌜v = 1#1 ↔ k < q.trips⌝ ∗ boundary (c : Thread nD τ)
          ∗ held (c : Thread nD τ) (ucRefs τ sig) (after q.test (atTrip q.test q.ops W k c)) ∗ side c) := fun v => by
    iintro ⟨⟨%hv, Hb, Hh⟩, Hs⟩
    isplitr; · ipureintro; exact hv
    isplitl [Hb]; · iexact Hb
    isplitl [Hh] <;> iassumption
  have framed := (sep_mono_left (Q := side c) (hq k hk c bd)).trans (wp_frame_r _ _ _)
  refine BIBase.Entails.trans ?_ (framed.trans (wp_mono _ _ _ swap))
  iintro ⟨Hb, Hh, Hs⟩
  isplitl [Hb Hh]
  · isplitl [Hb] <;> iassumption
  iexact Hs

/-- The buffers when the program of two loops ends. -/
def finals (q r : Counted nD τ pcs loops) (pre mid post : List (List (HloOp τ sig (Elt F))))
    (m : (ℓ : Loc nD τ sig) → Buf (Elt F) ℓ) (c : Dev nD) : Valuation τ sig (Elt F) :=
  afterL post (r.leave (fun c => afterL mid (q.leave (entryContents pre m) c)) c)

section Segs

variable (q r : Counted nD τ pcs loops) {pre mid post : List (List (HloOp τ sig (Elt F)))}
  (hpre : Plain pre) (hmid : Plain mid) (hpost : Plain post) (m : (ℓ : Loc nD τ sig) → Buf (Elt F) ℓ)
  (hq : q.Exits defs₀ (entryContents pre m))
  (hr : r.Exits defs₀ (fun c => afterL mid (q.leave (entryContents pre m) c)))

/-- A loop as a segment of the program. -/
def one {q : Counted nD τ pcs loops} {W : Dev nD → Valuation τ sig (Elt F)} (hq : q.Exits defs₀ W) :
    CSeg pcs (fun p => p.elim0) defs₀ Variants.none (fun _ => (∅ : Finset Unit)) (fun _ _ => (0 : ℕ)) loops noTk :=
  loopSeg _ _ _ _ _ _ _ _ q.l q.cond q.body q.step q.test q.ops q.plain q.chain q.trips W side hq.carrying

/-- A list of stretches as segments of the program. -/
def flat {ops : List (List (HloOp τ sig (Elt F)))} (h : Plain ops) (W : Dev nD → Valuation τ sig (Elt F)) :
    List (CSeg pcs (fun p => p.elim0) defs₀ Variants.none (fun _ => (∅ : Finset Unit)) (fun _ _ => (0 : ℕ)) loops noTk) :=
  segsOf _ _ _ _ _ _ _ _ side ops h W

/-- The program's segments in order. -/
def segs : List (CSeg pcs (fun p => p.elim0) defs₀ Variants.none (fun _ => (∅ : Finset Unit)) (fun _ _ => (0 : ℕ)) loops noTk) :=
  flat hpre (launchContents m) ++ one hq :: (flat hmid (q.leave (entryContents pre m)) ++ one hr ::
    flat hpost (r.leave (fun c => afterL mid (q.leave (entryContents pre m) c))))

theorem segs_prog : (segs q r hpre hmid hpost m hq hr).map CSeg.prog
    = (pre.map fun os => (seq os : Prog _ PUnit)) ++ HostLoop.enter q.l ::
      ((mid.map fun os => (seq os : Prog _ PUnit)) ++ HostLoop.enter r.l :: post.map fun os => (seq os : Prog _ PUnit)) := by
  unfold segs flat
  rw [List.map_append, List.map_cons, List.map_append, List.map_cons, segsOf_prog, segsOf_prog, segsOf_prog]
  rfl

theorem segs_chains : CSeg.Chains (fun c => iprop(held (c : Thread nD τ) (ucRefs τ sig) (launchContents m c) ∗ side c))
    (segs q r hpre hmid hpost m hq hr)
    (fun c => iprop(iprop(held (c : Thread nD τ) (ucRefs τ sig) (finals q r pre mid post m c))
      ∗ ∃ W, owes (c : Thread nD τ) (0 : CellTallies nD τ sig Unit) W)) := by
  unfold segs flat
  exact CSeg.Chains.append (segsOf_chains _ _ _ _ _ _ _ _ side pre hpre _)
    ⟨fun _ => .rfl, CSeg.Chains.append (segsOf_chains _ _ _ _ _ _ _ _ side mid hmid _)
      ⟨fun _ => .rfl, segsOf_chains _ _ _ _ _ _ _ _ side post hpost _⟩⟩

end Segs

/-- Every weakly fair execution terminates, each TensorCore buffer outside the kernels' scratch at `finals`. -/
theorem run [∀ e, Nonempty (Elt F e)] (main : Dev nD → HProg (nD := nD) (τ := τ) pcs nL PUnit)
    (q r : Counted nD τ pcs loops) {pre mid post : List (List (HloOp τ sig (Elt F)))}
    (hpre : Plain pre) (hmid : Plain mid) (hpost : Plain post)
    (hmain : ∀ c, main c = Pipeline.chain ((pre.map fun os => (seq os : Prog _ PUnit)) ++ HostLoop.enter q.l ::
      ((mid.map fun os => (seq os : Prog _ PUnit)) ++ HostLoop.enter r.l :: post.map fun os => (seq os : Prog _ PUnit))))
    (m : (ℓ : Loc nD τ sig) → Buf (Elt F) ℓ) (ρ : Dev nD → PrngReg)
    (hq : q.Exits defs₀ (entryContents pre m))
    (hr : r.Exits defs₀ (fun c => afterL mid (q.leave (entryContents pre m) c))) :
    θ_run (HostLoop.defs loops (Pipeline.defs pcs defs₀)) (onTc (τ := τ) main) ⟨m, fun _ => 0, ρ⟩
      (fun o => ∀ (c : Dev nD) (b : Ref sig .tc), (Proc.devRef .tc b : DevRef τ sig).isScoped = false →
        o.2.mem ((c.tc : Thread nD τ).loc b) = finals q r pre mid post m c (Proc.devRef .tc b)) := by
  refine Pipeline.θ_run_regions_loop_kit (Ix := Unit) (Name := ℕ) (U := Option PUnit) (Lvl := ℕ) (J := Fin 0) (P := Fin 0)
    (Val := Elt F) pcs (fun p => p.elim0) (fun k => k.1.elim0) defs₀ Variants.none (fun _ => ∅) (fun _ _ => 0) loops noTk m ρ main
    (segs q r hpre hmid hpost m hq hr) ?main
    (CSeg.pairwise_disjoint_of_T_empty _ fun s _ => Finset.eq_empty_of_isEmpty s.T)
    (O₀ := 0) (hL := fun _ _ => rfl) (G := fun _ => iprop(emp)) (u₀ := 1) ?ghost
    (T₀ := fun c => iprop(held (c : Thread nD τ) (ucRefs τ sig) (launchContents m c) ∗ side c))
    (Tₙ := fun c => iprop(held (c : Thread nD τ) (ucRefs τ sig) (finals q r pre mid post m c)))
    (hch := segs_chains q r hpre hmid hpost m hq hr) ?start
    (QY := fun c s => ∀ b ∈ ucRefs τ sig, s.mem ((c : Dev nD), b) = finals q r pre mid post m c b) ?stop
    (hQ := fun _ h c b hb => h c _ (devRef_mem_ucRefs b hb))
  case main =>
    intro c Q
    rw [hmain c]
    show wp _ _ _ (Pipeline.chain ((segs q r hpre hmid hpost m hq hr).map CSeg.prog)) Q ⊢ _
    rw [segs_prog]
  case ghost =>
    iintro -
    imodintro
    isplitl []
    · rw [Finset.univ_eq_empty, BI.bigSep_empty]; iempintro
    · iapply (show (BI.emp : sProp (MT nD τ sig Unit (Elt F) ℕ (Option PUnit) ℕ))
        ⊢ bigSep Finset.univ (fun _ : Dev nD => (BI.emp : sProp (MT nD τ sig Unit (Elt F) ℕ (Option PUnit) ℕ)))
        from by rw [BI.bigSep_emp_const])
      iempintro
  case start =>
    refine Pipeline.initEach (fun _ => ∅) (fun _ _ => 0) fun c => ?_
    rw [show unscopedBufs c (fun b => m ((c : Thread nD τ).loc b)) = held (c : Thread nD τ) (ucRefs τ sig) (launchContents m c)
      from Pipeline.unscopedBufs_held c (launchContents m c)]
    iintro ⟨⟨Hh, -, HO, -, -, -⟩, -⟩
    imodintro
    isplitl [Hh]
    · iexact Hh
    iexists ∅
    iexact HO
  case stop =>
    intro c s'
    unfold held
    iintro ⟨Hh, HS⟩
    ihave Hr := (pointsTo_read_all (ucRefs τ sig) (fun b => ((c : Dev nD), b)) (fun b => finals q r pre mid post m c b) s') $$ [Hh HS]
    · isplitl [Hh] <;> iassumption
    icases Hr with ⟨%h, HS⟩
    imodintro
    isplitr
    · ipureintro; exact h
    iexact HS

end Cert.TwoLoops

end
-- ==== Proof.CarryRefOps.lean ====
/- The reference's host operations as lists, in the order they run: before the first loop, the first loop's body,
   between the loops, the second loop's body, and after it; what each list writes; and `main` as their chain. -/
module

public import proofs.«01_k».proof.Proof.Gen.ReferenceIdeal
public import proofs.«01_k».proof.Proof.TwoLoops
public import Idealize.ShloMosaic.Lib.StableHlo.RunRead
public import Idealize.ShloMosaic.Lib.Scf.ExitTest
public import Idealize.ShloMosaic.Lib.Scf.Counter

@[expose] public section

noncomputable section

namespace Cert.CarryRef

open Cert.ReferenceIdeal Cert.ReferenceIdeal.Gen
open Idealize.ShloMosaic Idealize.ShloMosaic.TcCoe Idealize.ShloMosaic.Tactic
open Idealize.SL Idealize.SL.Sem
open Idealize.ShloMosaic.StableHlo (Plain)

/-- The contents of a matrix of 128 rows and 256 columns. -/
abbrev Mat (F : FTy → Type) := (⟨S128x256, .f32⟩ : BufTy).Contents (Elt F)

variable {F : FTy → Type} [FloatOps F]

/-- A call of the first loop's body. -/
abbrev fwd0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v7_0 : StableHlo.TRef sig ⟨S128x128x256, .f32⟩) ![(.of main_v7_3 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x128x256, .f32⟩) (fun x i => Host.dynamicSlice S1x128x256 x (fun k => (i k (Shape.Idx.first h_S_)).toInt) sliceFits_S128x128x256_S1x128x256),
    StableHlo.TRef.reshape (.of main_while0b_call0_v0 : StableHlo.TRef sig ⟨S1x128x256, .f32⟩) (.of main_while0b_v30 : StableHlo.TRef sig ⟨S128x256, .f32⟩) (rfl : (.f32 : EltTy) = .f32) shapeCasts_S1x128x256_S128x256 ]

theorem fwd0_sub : (fwd0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

theorem fwd0_fresh : (fwd0 : List (HloOp τ sig (Elt F))).Forall fun op => op.fresh = ∅ :=
  StableHlo.forall_fresh_of_map rfl

abbrev fwd0W : List (Ref sig .tc) := [main_while0b_call0_c, main_while0b_call0_c_0, main_while0b_call0_v0, main_while0b_v30]

theorem fwd0_writes : (fwd0 : List (HloOp τ sig (Elt F))).Forall fun op =>
    op.writes ⊆ (fwd0W.map (Proc.devRef (τ := τ) .tc)).toFinset :=
  StableHlo.forall_writes_sub_of_map rfl

/-- Operations of the first loop's body. -/
abbrev fwd1 : List (HloOp τ sig (Elt F)) :=
  [ StableHlo.reshape main_v7_4 main_while0b_v31 (rfl : (.f32 : EltTy) = .f32) shapeCasts_S128x256_S128x2x2x64,
    StableHlo.unary main_while0b_v31 main_while0b_v32 (Host.reverse [2] : (⟨S128x2x2x64, .f32⟩ : BufTy).Contents (Elt F) → (⟨S128x2x2x64, .f32⟩ : BufTy).Contents (Elt F)),
    StableHlo.reshape main_while0b_v32 main_while0b_v33 (rfl : (.f32 : EltTy) = .f32) shapeCasts_S128x2x2x64_S128x256,
    StableHlo.binary main_v7_1 main_v7_4 main_while0b_v34 (mulf : Mat F → Mat F → Mat F),
    StableHlo.binary main_v7_2 main_while0b_v33 main_while0b_v35 (mulf : Mat F → Mat F → Mat F),
    StableHlo.binary main_while0b_v34 main_while0b_v35 main_while0b_v36 (addf : Mat F → Mat F → Mat F),
    StableHlo.binary main_while0b_v36 main_while0b_v30 main_while0b_v37 (addf : Mat F → Mat F → Mat F) ]

theorem fwd1_sub : (fwd1 : List (HloOp τ sig (Elt F))).Forall fun op => op.bufs ⊆ StableHlo.tcRefs τ sig :=
  ⟨StableHlo.reshape_bufs_sub .., StableHlo.unary_bufs_sub .., StableHlo.reshape_bufs_sub .., StableHlo.binary_bufs_sub .., StableHlo.binary_bufs_sub .., StableHlo.binary_bufs_sub .., StableHlo.binary_bufs_sub ..⟩

theorem fwd1_fresh : (fwd1 : List (HloOp τ sig (Elt F))).Forall fun op => op.fresh = ∅ :=
  StableHlo.forall_fresh_of_map rfl

abbrev fwd1W : List (Ref sig .tc) := [main_while0b_v31, main_while0b_v32, main_while0b_v33, main_while0b_v34, main_while0b_v35, main_while0b_v36, main_while0b_v37]

theorem fwd1_writes : (fwd1 : List (HloOp τ sig (Elt F))).Forall fun op =>
    op.writes ⊆ (fwd1W.map (Proc.devRef (τ := τ) .tc)).toFinset :=
  StableHlo.forall_writes_sub_of_map rfl

/-- A call of the first loop's body. -/
abbrev fwd2 : List (HloOp τ sig (Elt F)) :=
  [ StableHlo.TRef.unary (.of main_v7_4 : StableHlo.TRef sig ⟨S128x256, .f32⟩) (.of main_while0b_call1_v0 : StableHlo.TRef sig ⟨S1x128x256, .f32⟩) (broadcastInDim S1x128x256 ![1, 2] bcast_S128x256_S1x128x256_1_2),
    StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.binaryIndexed (.of main_v7_5 : StableHlo.TRef sig ⟨S128x128x256, .f32⟩) (.of main_while0b_call1_v0 : StableHlo.TRef sig ⟨S1x128x256, .f32⟩) ![(.of main_v7_3 : StableHlo.TRef sig ⟨S_, .i32⟩), (.of main_while0b_call1_c : StableHlo.TRef sig ⟨S_, .i32⟩), (.of main_while0b_call1_c_0 : StableHlo.TRef sig ⟨S_, .i32⟩)] (.of main_while0b_v38 : StableHlo.TRef sig ⟨S128x128x256, .f32⟩) (fun x u i => Host.dynamicUpdateSlice x u (fun k => (i k (Shape.Idx.first h_S_)).toInt) updateFits_S128x128x256_S1x128x256) ]

theorem fwd2_sub : (fwd2 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

theorem fwd2_fresh : (fwd2 : List (HloOp τ sig (Elt F))).Forall fun op => op.fresh = ∅ :=
  StableHlo.forall_fresh_of_map rfl

abbrev fwd2W : List (Ref sig .tc) := [main_while0b_call1_v0, main_while0b_call1_c, main_while0b_call1_c_0, main_while0b_v38]

theorem fwd2_writes : (fwd2 : List (HloOp τ sig (Elt F))).Forall fun op =>
    op.writes ⊆ (fwd2W.map (Proc.devRef (τ := τ) .tc)).toFinset :=
  StableHlo.forall_writes_sub_of_map rfl

/-- A call of the first loop's body. -/
abbrev fwd3 : List (HloOp τ sig (Elt F)) :=
  [ StableHlo.TRef.unary (.of main_while0b_v33 : StableHlo.TRef sig ⟨S128x256, .f32⟩) (.of main_while0b_call2_v0 : StableHlo.TRef sig ⟨S1x128x256, .f32⟩) (broadcastInDim S1x128x256 ![1, 2] bcast_S128x256_S1x128x256_1_2),
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.binaryIndexed (.of main_v7_6 : StableHlo.TRef sig ⟨S128x128x256, .f32⟩) (.of main_while0b_call2_v0 : StableHlo.TRef sig ⟨S1x128x256, .f32⟩) ![(.of main_v7_3 : StableHlo.TRef sig ⟨S_, .i32⟩), (.of main_while0b_call2_c : StableHlo.TRef sig ⟨S_, .i32⟩), (.of main_while0b_call2_c_0 : StableHlo.TRef sig ⟨S_, .i32⟩)] (.of main_while0b_v39 : StableHlo.TRef sig ⟨S128x128x256, .f32⟩) (fun x u i => Host.dynamicUpdateSlice x u (fun k => (i k (Shape.Idx.first h_S_)).toInt) updateFits_S128x128x256_S1x128x256) ]

theorem fwd3_sub : (fwd3 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

theorem fwd3_fresh : (fwd3 : List (HloOp τ sig (Elt F))).Forall fun op => op.fresh = ∅ :=
  StableHlo.forall_fresh_of_map rfl

abbrev fwd3W : List (Ref sig .tc) := [main_while0b_call2_v0, main_while0b_call2_c, main_while0b_call2_c_0, main_while0b_v39]

theorem fwd3_writes : (fwd3 : List (HloOp τ sig (Elt F))).Forall fun op =>
    op.writes ⊆ (fwd3W.map (Proc.devRef (τ := τ) .tc)).toFinset :=
  StableHlo.forall_writes_sub_of_map rfl

/-- Operations of the first loop's body. -/
abbrev fwd4 : List (HloOp τ sig (Elt F)) :=
  [ StableHlo.nullary main_while0b_c_18 (constantI S_ 32 1#32),
    StableHlo.binary main_v7_3 main_while0b_c_18 main_while0b_v40 (addi : (⟨S_, .i32⟩ : BufTy).Contents (Elt F) → (⟨S_, .i32⟩ : BufTy).Contents (Elt F) → (⟨S_, .i32⟩ : BufTy).Contents (Elt F)),
    StableHlo.unary main_while0b_v40 main_v7_3 id,
    StableHlo.unary main_while0b_v37 main_v7_4 id,
    StableHlo.unary main_while0b_v38 main_v7_5 id,
    StableHlo.unary main_while0b_v39 main_v7_6 id ]

theorem fwd4_sub : (fwd4 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

theorem fwd4_fresh : (fwd4 : List (HloOp τ sig (Elt F))).Forall fun op => op.fresh = ∅ :=
  StableHlo.forall_fresh_of_map rfl

abbrev fwd4W : List (Ref sig .tc) := [main_while0b_c_18, main_while0b_v40, main_v7_3, main_v7_4, main_v7_5, main_v7_6]

theorem fwd4_writes : (fwd4 : List (HloOp τ sig (Elt F))).Forall fun op =>
    op.writes ⊆ (fwd4W.map (Proc.devRef (τ := τ) .tc)).toFinset :=
  StableHlo.forall_writes_sub_of_map rfl

abbrev fwdBody : List (List (HloOp τ sig (Elt F))) := [fwd0, fwd1, fwd2, fwd3, fwd4]

theorem fwdBody_plain : Plain (fwdBody (F := F)) := .cons fwd0_sub (hf := List.forall_iff_forall_mem.mp fwd0_fresh) (.cons fwd1_sub (hf := List.forall_iff_forall_mem.mp fwd1_fresh) (.cons fwd2_sub (hf := List.forall_iff_forall_mem.mp fwd2_fresh) (.cons fwd3_sub (hf := List.forall_iff_forall_mem.mp fwd3_fresh) (.cons fwd4_sub (hf := List.forall_iff_forall_mem.mp fwd4_fresh) (.nil)))))

set_option maxHeartbeats 4000000 in
theorem fwd_chain : main_while0_body (F := F) = (Pipeline.chain
  [ StableHlo.seq fwd0,
    StableHlo.seq fwd1,
    StableHlo.seq fwd2,
    StableHlo.seq fwd3,
    StableHlo.seq fwd4 ] : Prog (TpuEff nD τ sig (Elt F) (HostLoop.Sig (Pipeline.Sig Λ₀ (Fin 0) fun p => (pcfgs (F := F) p).Adm) 2) .tc) PUnit) := by
  rewrite [Pipeline.chain_cons, StableHlo.chain_seq_cons, Pipeline.chain_cons, Pipeline.chain_cons]
  chain_rfl

/-- The first loop's condition. -/
abbrev fwdTest : List (HloOp τ sig (Elt F)) :=
  [ StableHlo.nullary main_while0c_c_18 (constantI S_ 32 128#32),
    StableHlo.binary main_v7_3 main_while0c_c_18 main_while0c_v30 (cmpi .slt : (⟨S_, .i32⟩ : BufTy).Contents (Elt F) → (⟨S_, .i32⟩ : BufTy).Contents (Elt F) → (⟨S_, .i1⟩ : BufTy).Contents (Elt F)) ]

theorem fwdTest_sub : (fwdTest : List (HloOp τ sig (Elt F))).Forall fun op => op.bufs ⊆ StableHlo.tcRefs τ sig :=
  ⟨StableHlo.nullary_bufs_sub .., StableHlo.binary_bufs_sub ..⟩

theorem fwdTest_fresh : (fwdTest : List (HloOp τ sig (Elt F))).Forall fun op => op.fresh = ∅ :=
  StableHlo.forall_fresh_of_map rfl

abbrev fwdTestW : List (Ref sig .tc) := [main_while0c_c_18, main_while0c_v30]

theorem fwdTest_writes : (fwdTest : List (HloOp τ sig (Elt F))).Forall fun op =>
    op.writes ⊆ (fwdTestW.map (Proc.devRef (τ := τ) .tc)).toFinset :=
  StableHlo.forall_writes_sub_of_map rfl

/-- Operations of the second loop's body. -/
abbrev bwd0 : List (HloOp τ sig (Elt F)) :=
  [ StableHlo.nullary main_while1b_c_21 (constantI S_ 32 128#32),
    StableHlo.binary main_while1b_c_21 main_v23_5 main_while1b_v30 (subi : (⟨S_, .i32⟩ : BufTy).Contents (Elt F) → (⟨S_, .i32⟩ : BufTy).Contents (Elt F) → (⟨S_, .i32⟩ : BufTy).Contents (Elt F)),
    StableHlo.nullary main_while1b_c_22 (constantI S_ 32 1#32),
    StableHlo.binary main_while1b_v30 main_while1b_c_22 main_while1b_v31 (subi : (⟨S_, .i32⟩ : BufTy).Contents (Elt F) → (⟨S_, .i32⟩ : BufTy).Contents (Elt F) → (⟨S_, .i32⟩ : BufTy).Contents (Elt F)) ]

theorem bwd0_sub : (bwd0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩

theorem bwd0_fresh : (bwd0 : List (HloOp τ sig (Elt F))).Forall fun op => op.fresh = ∅ :=
  StableHlo.forall_fresh_of_map rfl

abbrev bwd0W : List (Ref sig .tc) := [main_while1b_c_21, main_while1b_v30, main_while1b_c_22, main_while1b_v31]

theorem bwd0_writes : (bwd0 : List (HloOp τ sig (Elt F))).Forall fun op =>
    op.writes ⊆ (bwd0W.map (Proc.devRef (τ := τ) .tc)).toFinset :=
  StableHlo.forall_writes_sub_of_map rfl

/-- A call of the second loop's body. -/
abbrev bwd1 : List (HloOp τ sig (Elt F)) :=
  [ StableHlo.TRef.nullary (.of main_while1b_call3_c : StableHlo.TRef sig ⟨S_, .i32⟩) (constantI S_ 32 0#32),
    StableHlo.TRef.nullary (.of main_while1b_call3_c_0 : StableHlo.TRef sig ⟨S_, .i32⟩) (constantI S_ 32 0#32),
    StableHlo.TRef.unaryIndexed (.of main_v23_0 : StableHlo.TRef sig ⟨S128x128x256, .f32⟩) ![(.of main_while1b_v31 : StableHlo.TRef sig ⟨S_, .i32⟩), (.of main_while1b_call3_c : StableHlo.TRef sig ⟨S_, .i32⟩), (.of main_while1b_call3_c_0 : StableHlo.TRef sig ⟨S_, .i32⟩)] (.of main_while1b_call3_v0 : StableHlo.TRef sig ⟨S1x128x256, .f32⟩) (fun x i => Host.dynamicSlice S1x128x256 x (fun k => (i k (Shape.Idx.first h_S_)).toInt) sliceFits_S128x128x256_S1x128x256),
    StableHlo.TRef.reshape (.of main_while1b_call3_v0 : StableHlo.TRef sig ⟨S1x128x256, .f32⟩) (.of main_while1b_v32 : StableHlo.TRef sig ⟨S128x256, .f32⟩) (rfl : (.f32 : EltTy) = .f32) shapeCasts_S1x128x256_S128x256 ]

theorem bwd1_sub : (bwd1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

theorem bwd1_fresh : (bwd1 : List (HloOp τ sig (Elt F))).Forall fun op => op.fresh = ∅ :=
  StableHlo.forall_fresh_of_map rfl

abbrev bwd1W : List (Ref sig .tc) := [main_while1b_call3_c, main_while1b_call3_c_0, main_while1b_call3_v0, main_while1b_v32]

theorem bwd1_writes : (bwd1 : List (HloOp τ sig (Elt F))).Forall fun op =>
    op.writes ⊆ (bwd1W.map (Proc.devRef (τ := τ) .tc)).toFinset :=
  StableHlo.forall_writes_sub_of_map rfl

/-- A call of the second loop's body. -/
abbrev bwd2 : List (HloOp τ sig (Elt F)) :=
  [ StableHlo.TRef.nullary (.of main_while1b_call4_c : StableHlo.TRef sig ⟨S_, .i32⟩) (constantI S_ 32 0#32),
    StableHlo.TRef.nullary (.of main_while1b_call4_c_0 : StableHlo.TRef sig ⟨S_, .i32⟩) (constantI S_ 32 0#32),
    StableHlo.TRef.unaryIndexed (.of main_v23_1 : StableHlo.TRef sig ⟨S128x128x256, .f32⟩) ![(.of main_while1b_v31 : StableHlo.TRef sig ⟨S_, .i32⟩), (.of main_while1b_call4_c : StableHlo.TRef sig ⟨S_, .i32⟩), (.of main_while1b_call4_c_0 : StableHlo.TRef sig ⟨S_, .i32⟩)] (.of main_while1b_call4_v0 : StableHlo.TRef sig ⟨S1x128x256, .f32⟩) (fun x i => Host.dynamicSlice S1x128x256 x (fun k => (i k (Shape.Idx.first h_S_)).toInt) sliceFits_S128x128x256_S1x128x256),
    StableHlo.TRef.reshape (.of main_while1b_call4_v0 : StableHlo.TRef sig ⟨S1x128x256, .f32⟩) (.of main_while1b_v33 : StableHlo.TRef sig ⟨S128x256, .f32⟩) (rfl : (.f32 : EltTy) = .f32) shapeCasts_S1x128x256_S128x256 ]

theorem bwd2_sub : (bwd2 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

theorem bwd2_fresh : (bwd2 : List (HloOp τ sig (Elt F))).Forall fun op => op.fresh = ∅ :=
  StableHlo.forall_fresh_of_map rfl

abbrev bwd2W : List (Ref sig .tc) := [main_while1b_call4_c, main_while1b_call4_c_0, main_while1b_call4_v0, main_while1b_v33]

theorem bwd2_writes : (bwd2 : List (HloOp τ sig (Elt F))).Forall fun op =>
    op.writes ⊆ (bwd2W.map (Proc.devRef (τ := τ) .tc)).toFinset :=
  StableHlo.forall_writes_sub_of_map rfl

/-- A call of the second loop's body. -/
abbrev bwd3 : List (HloOp τ sig (Elt F)) :=
  [ StableHlo.TRef.nullary (.of main_while1b_call5_c : StableHlo.TRef sig ⟨S_, .i32⟩) (constantI S_ 32 0#32),
    StableHlo.TRef.nullary (.of main_while1b_call5_c_0 : StableHlo.TRef sig ⟨S_, .i32⟩) (constantI S_ 32 0#32),
    StableHlo.TRef.unaryIndexed (.of main_v23_2 : StableHlo.TRef sig ⟨S128x128x256, .f32⟩) ![(.of main_while1b_v31 : StableHlo.TRef sig ⟨S_, .i32⟩), (.of main_while1b_call5_c : StableHlo.TRef sig ⟨S_, .i32⟩), (.of main_while1b_call5_c_0 : StableHlo.TRef sig ⟨S_, .i32⟩)] (.of main_while1b_call5_v0 : StableHlo.TRef sig ⟨S1x128x256, .f32⟩) (fun x i => Host.dynamicSlice S1x128x256 x (fun k => (i k (Shape.Idx.first h_S_)).toInt) sliceFits_S128x128x256_S1x128x256),
    StableHlo.TRef.reshape (.of main_while1b_call5_v0 : StableHlo.TRef sig ⟨S1x128x256, .f32⟩) (.of main_while1b_v34 : StableHlo.TRef sig ⟨S128x256, .f32⟩) (rfl : (.f32 : EltTy) = .f32) shapeCasts_S1x128x256_S128x256 ]

theorem bwd3_sub : (bwd3 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

theorem bwd3_fresh : (bwd3 : List (HloOp τ sig (Elt F))).Forall fun op => op.fresh = ∅ :=
  StableHlo.forall_fresh_of_map rfl

abbrev bwd3W : List (Ref sig .tc) := [main_while1b_call5_c, main_while1b_call5_c_0, main_while1b_call5_v0, main_while1b_v34]

theorem bwd3_writes : (bwd3 : List (HloOp τ sig (Elt F))).Forall fun op =>
    op.writes ⊆ (bwd3W.map (Proc.devRef (τ := τ) .tc)).toFinset :=
  StableHlo.forall_writes_sub_of_map rfl

/-- Operations of the second loop's body. -/
abbrev bwd4 : List (HloOp τ sig (Elt F)) :=
  [ StableHlo.binary main_v23_4 main_v23_8 main_while1b_v35 (mulf : Mat F → Mat F → Mat F),
    StableHlo.binary main_v23_8 main_while1b_v34 main_while1b_v36 (mulf : Mat F → Mat F → Mat F),
    StableHlo.binary main_v23_7 main_while1b_v36 main_while1b_v37 (addf : Mat F → Mat F → Mat F),
    StableHlo.binary main_v23_3 main_v23_8 main_while1b_v38 (mulf : Mat F → Mat F → Mat F),
    StableHlo.binary main_while1b_v32 main_while1b_v38 main_while1b_v39 (addf : Mat F → Mat F → Mat F),
    StableHlo.binary main_v23_8 main_while1b_v33 main_while1b_v40 (mulf : Mat F → Mat F → Mat F),
    StableHlo.binary main_v23_6 main_while1b_v40 main_while1b_v41 (addf : Mat F → Mat F → Mat F),
    StableHlo.reshape main_while1b_v35 main_while1b_v42 (rfl : (.f32 : EltTy) = .f32) shapeCasts_S128x256_S128x2x2x64,
    StableHlo.unary main_while1b_v42 main_while1b_v43 (Host.reverse [2] : (⟨S128x2x2x64, .f32⟩ : BufTy).Contents (Elt F) → (⟨S128x2x2x64, .f32⟩ : BufTy).Contents (Elt F)),
    StableHlo.reshape main_while1b_v43 main_while1b_v44 (rfl : (.f32 : EltTy) = .f32) shapeCasts_S128x2x2x64_S128x256,
    StableHlo.binary main_while1b_v39 main_while1b_v44 main_while1b_v45 (addf : Mat F → Mat F → Mat F) ]

theorem bwd4_sub : (bwd4 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.reshape_bufs_sub .., StableHlo.unary_bufs_sub .., StableHlo.reshape_bufs_sub .., StableHlo.binary_bufs_sub ..⟩

theorem bwd4_fresh : (bwd4 : List (HloOp τ sig (Elt F))).Forall fun op => op.fresh = ∅ :=
  StableHlo.forall_fresh_of_map rfl

abbrev bwd4W : List (Ref sig .tc) := [main_while1b_v35, main_while1b_v36, main_while1b_v37, main_while1b_v38, main_while1b_v39, main_while1b_v40, main_while1b_v41, main_while1b_v42, main_while1b_v43, main_while1b_v44, main_while1b_v45]

theorem bwd4_writes : (bwd4 : List (HloOp τ sig (Elt F))).Forall fun op =>
    op.writes ⊆ (bwd4W.map (Proc.devRef (τ := τ) .tc)).toFinset :=
  StableHlo.forall_writes_sub_of_map rfl

/-- A call of the second loop's body. -/
abbrev bwd5 : List (HloOp τ sig (Elt F)) :=
  [ StableHlo.TRef.unary (.of main_v23_8 : StableHlo.TRef sig ⟨S128x256, .f32⟩) (.of main_while1b_call6_v0 : StableHlo.TRef sig ⟨S1x128x256, .f32⟩) (broadcastInDim S1x128x256 ![1, 2] bcast_S128x256_S1x128x256_1_2),
    StableHlo.TRef.nullary (.of main_while1b_call6_c : StableHlo.TRef sig ⟨S_, .i32⟩) (constantI S_ 32 0#32),
    StableHlo.TRef.nullary (.of main_while1b_call6_c_0 : StableHlo.TRef sig ⟨S_, .i32⟩) (constantI S_ 32 0#32),
    StableHlo.TRef.binaryIndexed (.of main_v23_9 : StableHlo.TRef sig ⟨S128x128x256, .f32⟩) (.of main_while1b_call6_v0 : StableHlo.TRef sig ⟨S1x128x256, .f32⟩) ![(.of main_while1b_v31 : StableHlo.TRef sig ⟨S_, .i32⟩), (.of main_while1b_call6_c : StableHlo.TRef sig ⟨S_, .i32⟩), (.of main_while1b_call6_c_0 : StableHlo.TRef sig ⟨S_, .i32⟩)] (.of main_while1b_v46 : StableHlo.TRef sig ⟨S128x128x256, .f32⟩) (fun x u i => Host.dynamicUpdateSlice x u (fun k => (i k (Shape.Idx.first h_S_)).toInt) updateFits_S128x128x256_S1x128x256) ]

theorem bwd5_sub : (bwd5 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

theorem bwd5_fresh : (bwd5 : List (HloOp τ sig (Elt F))).Forall fun op => op.fresh = ∅ :=
  StableHlo.forall_fresh_of_map rfl

abbrev bwd5W : List (Ref sig .tc) := [main_while1b_call6_v0, main_while1b_call6_c, main_while1b_call6_c_0, main_while1b_v46]

theorem bwd5_writes : (bwd5 : List (HloOp τ sig (Elt F))).Forall fun op =>
    op.writes ⊆ (bwd5W.map (Proc.devRef (τ := τ) .tc)).toFinset :=
  StableHlo.forall_writes_sub_of_map rfl

/-- Operations of the second loop's body. -/
abbrev bwd6 : List (HloOp τ sig (Elt F)) :=
  [ StableHlo.nullary main_while1b_c_23 (constantI S_ 32 1#32),
    StableHlo.binary main_v23_5 main_while1b_c_23 main_while1b_v47 (addi : (⟨S_, .i32⟩ : BufTy).Contents (Elt F) → (⟨S_, .i32⟩ : BufTy).Contents (Elt F) → (⟨S_, .i32⟩ : BufTy).Contents (Elt F)),
    StableHlo.unary main_while1b_v47 main_v23_5 id,
    StableHlo.unary main_while1b_v41 main_v23_6 id,
    StableHlo.unary main_while1b_v37 main_v23_7 id,
    StableHlo.unary main_while1b_v45 main_v23_8 id,
    StableHlo.unary main_while1b_v46 main_v23_9 id ]

theorem bwd6_sub : (bwd6 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub ..⟩

theorem bwd6_fresh : (bwd6 : List (HloOp τ sig (Elt F))).Forall fun op => op.fresh = ∅ :=
  StableHlo.forall_fresh_of_map rfl

abbrev bwd6W : List (Ref sig .tc) := [main_while1b_c_23, main_while1b_v47, main_v23_5, main_v23_6, main_v23_7, main_v23_8, main_v23_9]

theorem bwd6_writes : (bwd6 : List (HloOp τ sig (Elt F))).Forall fun op =>
    op.writes ⊆ (bwd6W.map (Proc.devRef (τ := τ) .tc)).toFinset :=
  StableHlo.forall_writes_sub_of_map rfl

abbrev bwdBody : List (List (HloOp τ sig (Elt F))) := [bwd0, bwd1, bwd2, bwd3, bwd4, bwd5, bwd6]

theorem bwdBody_plain : Plain (bwdBody (F := F)) := .cons bwd0_sub (hf := List.forall_iff_forall_mem.mp bwd0_fresh) (.cons bwd1_sub (hf := List.forall_iff_forall_mem.mp bwd1_fresh) (.cons bwd2_sub (hf := List.forall_iff_forall_mem.mp bwd2_fresh) (.cons bwd3_sub (hf := List.forall_iff_forall_mem.mp bwd3_fresh) (.cons bwd4_sub (hf := List.forall_iff_forall_mem.mp bwd4_fresh) (.cons bwd5_sub (hf := List.forall_iff_forall_mem.mp bwd5_fresh) (.cons bwd6_sub (hf := List.forall_iff_forall_mem.mp bwd6_fresh) (.nil)))))))

set_option maxHeartbeats 4000000 in
theorem bwd_chain : main_while1_body (F := F) = (Pipeline.chain
  [ StableHlo.seq bwd0,
    StableHlo.seq bwd1,
    StableHlo.seq bwd2,
    StableHlo.seq bwd3,
    StableHlo.seq bwd4,
    StableHlo.seq bwd5,
    StableHlo.seq bwd6 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, StableHlo.chain_seq_cons, Pipeline.chain_cons]
  chain_rfl

/-- The second loop's condition. -/
abbrev bwdTest : List (HloOp τ sig (Elt F)) :=
  [ StableHlo.nullary main_while1c_c_21 (constantI S_ 32 128#32),
    StableHlo.binary main_v23_5 main_while1c_c_21 main_while1c_v30 (cmpi .slt : (⟨S_, .i32⟩ : BufTy).Contents (Elt F) → (⟨S_, .i32⟩ : BufTy).Contents (Elt F) → (⟨S_, .i1⟩ : BufTy).Contents (Elt F)) ]

theorem bwdTest_sub : (bwdTest : List (HloOp τ sig (Elt F))).Forall fun op => op.bufs ⊆ StableHlo.tcRefs τ sig :=
  ⟨StableHlo.nullary_bufs_sub .., StableHlo.binary_bufs_sub ..⟩

theorem bwdTest_fresh : (bwdTest : List (HloOp τ sig (Elt F))).Forall fun op => op.fresh = ∅ :=
  StableHlo.forall_fresh_of_map rfl

abbrev bwdTestW : List (Ref sig .tc) := [main_while1c_c_21, main_while1c_v30]

theorem bwdTest_writes : (bwdTest : List (HloOp τ sig (Elt F))).Forall fun op =>
    op.writes ⊆ (bwdTestW.map (Proc.devRef (τ := τ) .tc)).toFinset :=
  StableHlo.forall_writes_sub_of_map rfl

/-- Before the first loop. -/
abbrev pre0 : List (HloOp τ sig (Elt F)) :=
  [ StableHlo.nullary main_cst (constant S_ .f32 0x00000000#32),
    StableHlo.unary main_cst main_v0 (broadcastInDim S128x256 ![] bcast_S_S128x256 : (⟨S_, .f32⟩ : BufTy).Contents (Elt F) → Mat F),
    StableHlo.unary main_arg0 main_v1 ((extractStridedSlice S128x128x128 ![0, 0, 0] · slices_S128x128x256_S128x128x128_0_0_0) : (⟨S128x128x256, .f32⟩ : BufTy).Contents (Elt F) → (⟨S128x128x128, .f32⟩ : BufTy).Contents (Elt F)),
    StableHlo.unary main_arg0 main_v2 ((extractStridedSlice S128x128x128 ![0, 0, 128] · slices_S128x128x256_S128x128x128_0_0_128) : (⟨S128x128x256, .f32⟩ : BufTy).Contents (Elt F) → (⟨S128x128x128, .f32⟩ : BufTy).Contents (Elt F)),
    StableHlo.unary main_v2 main_v3 (Host.reverse [0] : (⟨S128x128x128, .f32⟩ : BufTy).Contents (Elt F) → (⟨S128x128x128, .f32⟩ : BufTy).Contents (Elt F)),
    StableHlo.binary main_v1 main_v3 main_v4 ((fun a b => concatenate S128x128x256 2 [⟨S128x128x128, a⟩, ⟨S128x128x128, b⟩] concatenates_S128x128x128_S128x128x128_S128x128x256_d2) : (⟨S128x128x128, .f32⟩ : BufTy).Contents (Elt F) → (⟨S128x128x128, .f32⟩ : BufTy).Contents (Elt F) → (⟨S128x128x256, .f32⟩ : BufTy).Contents (Elt F)),
    StableHlo.nullary main_cst_0 (constant S_ .f32 0x00000000#32),
    StableHlo.unary main_cst_0 main_v5 (broadcastInDim S128x128x256 ![] bcast_S_S128x128x256 : (⟨S_, .f32⟩ : BufTy).Contents (Elt F) → (⟨S128x128x256, .f32⟩ : BufTy).Contents (Elt F)),
    StableHlo.nullary main_cst_1 (constant S_ .f32 0x00000000#32),
    StableHlo.unary main_cst_1 main_v6 (broadcastInDim S128x128x256 ![] bcast_S_S128x128x256 : (⟨S_, .f32⟩ : BufTy).Contents (Elt F) → (⟨S128x128x256, .f32⟩ : BufTy).Contents (Elt F)),
    StableHlo.nullary main_c (constantI S_ 32 0#32),
    StableHlo.unary main_v4 main_v7_0 id,
    StableHlo.unary main_arg1 main_v7_1 id,
    StableHlo.unary main_arg2 main_v7_2 id,
    StableHlo.unary main_c main_v7_3 id,
    StableHlo.unary main_v0 main_v7_4 id,
    StableHlo.unary main_v5 main_v7_5 id,
    StableHlo.unary main_v6 main_v7_6 id ]

theorem pre0_sub : (pre0 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem pre0_fresh : (pre0 : List (HloOp τ sig (Elt F))).Forall fun op => op.fresh = ∅ :=
  StableHlo.forall_fresh_of_map rfl

abbrev pre0W : List (Ref sig .tc) := [main_cst, main_v0, main_v1, main_v2, main_v3, main_v4, main_cst_0, main_v5, main_cst_1, main_v6, main_c, main_v7_0, main_v7_1, main_v7_2, main_v7_3, main_v7_4, main_v7_5, main_v7_6]

theorem pre0_writes : (pre0 : List (HloOp τ sig (Elt F))).Forall fun op =>
    op.writes ⊆ (pre0W.map (Proc.devRef (τ := τ) .tc)).toFinset :=
  StableHlo.forall_writes_sub_of_map rfl

/-- Between the loops. -/
abbrev mid0 : List (HloOp τ sig (Elt F)) :=
  [ StableHlo.unary main_v7_5 main_v8 ((extractStridedSlice S128x128x128 ![0, 0, 0] · slices_S128x128x256_S128x128x128_0_0_0) : (⟨S128x128x256, .f32⟩ : BufTy).Contents (Elt F) → (⟨S128x128x128, .f32⟩ : BufTy).Contents (Elt F)),
    StableHlo.unary main_v7_5 main_v9 ((extractStridedSlice S128x128x128 ![0, 0, 128] · slices_S128x128x256_S128x128x128_0_0_128) : (⟨S128x128x256, .f32⟩ : BufTy).Contents (Elt F) → (⟨S128x128x128, .f32⟩ : BufTy).Contents (Elt F)),
    StableHlo.unary main_v9 main_v10 (Host.reverse [0] : (⟨S128x128x128, .f32⟩ : BufTy).Contents (Elt F) → (⟨S128x128x128, .f32⟩ : BufTy).Contents (Elt F)),
    StableHlo.binary main_v8 main_v10 main_v11 ((fun a b => concatenate S128x128x256 2 [⟨S128x128x128, a⟩, ⟨S128x128x128, b⟩] concatenates_S128x128x128_S128x128x128_S128x128x256_d2) : (⟨S128x128x128, .f32⟩ : BufTy).Contents (Elt F) → (⟨S128x128x128, .f32⟩ : BufTy).Contents (Elt F) → (⟨S128x128x256, .f32⟩ : BufTy).Contents (Elt F)),
    StableHlo.nullary main_cst_2 (constant S_ .f32 0x00000000#32),
    StableHlo.unary main_cst_2 main_v12 (broadcastInDim S128x256 ![] bcast_S_S128x256 : (⟨S_, .f32⟩ : BufTy).Contents (Elt F) → Mat F),
    StableHlo.unary main_arg3 main_v13 ((extractStridedSlice S128x128x128 ![0, 0, 0] · slices_S128x128x256_S128x128x128_0_0_0) : (⟨S128x128x256, .f32⟩ : BufTy).Contents (Elt F) → (⟨S128x128x128, .f32⟩ : BufTy).Contents (Elt F)),
    StableHlo.unary main_arg3 main_v14 ((extractStridedSlice S128x128x128 ![0, 0, 128] · slices_S128x128x256_S128x128x128_0_0_128) : (⟨S128x128x256, .f32⟩ : BufTy).Contents (Elt F) → (⟨S128x128x128, .f32⟩ : BufTy).Contents (Elt F)),
    StableHlo.unary main_v14 main_v15 (Host.reverse [0] : (⟨S128x128x128, .f32⟩ : BufTy).Contents (Elt F) → (⟨S128x128x128, .f32⟩ : BufTy).Contents (Elt F)),
    StableHlo.nullary main_cst_3 (constant S_ .f32 0x00000000#32),
    StableHlo.binary main_v15 main_cst_3 main_v16 ((fun x v => pad S128x128x256 ![0, 0, 128] ![0, 0, 0] ![0, 0, 0] x v pads_S128x128x128_S128x128x256_000_000_12800 h_S_) : (⟨S128x128x128, .f32⟩ : BufTy).Contents (Elt F) → (⟨S_, .f32⟩ : BufTy).Contents (Elt F) → (⟨S128x128x256, .f32⟩ : BufTy).Contents (Elt F)),
    StableHlo.nullary main_cst_4 (constant S_ .f32 0x00000000#32),
    StableHlo.binary main_v13 main_cst_4 main_v17 ((fun x v => pad S128x128x256 ![0, 0, 0] ![0, 0, 128] ![0, 0, 0] x v pads_S128x128x128_S128x128x256_000_000_01280 h_S_) : (⟨S128x128x128, .f32⟩ : BufTy).Contents (Elt F) → (⟨S_, .f32⟩ : BufTy).Contents (Elt F) → (⟨S128x128x256, .f32⟩ : BufTy).Contents (Elt F)),
    StableHlo.binary main_v16 main_v17 main_v18 (addf : (⟨S128x128x256, .f32⟩ : BufTy).Contents (Elt F) → (⟨S128x128x256, .f32⟩ : BufTy).Contents (Elt F) → (⟨S128x128x256, .f32⟩ : BufTy).Contents (Elt F)),
    StableHlo.nullary main_cst_5 (constant S_ .f32 0x00000000#32),
    StableHlo.unary main_cst_5 main_v19 (broadcastInDim S128x256 ![] bcast_S_S128x256 : (⟨S_, .f32⟩ : BufTy).Contents (Elt F) → Mat F),
    StableHlo.nullary main_cst_6 (constant S_ .f32 0x00000000#32),
    StableHlo.unary main_cst_6 main_v20 (broadcastInDim S128x256 ![] bcast_S_S128x256 : (⟨S_, .f32⟩ : BufTy).Contents (Elt F) → Mat F),
    StableHlo.nullary main_cst_7 (constant S_ .f32 0x00000000#32),
    StableHlo.unary main_cst_7 main_v21 (broadcastInDim S128x256 ![] bcast_S_S128x256 : (⟨S_, .f32⟩ : BufTy).Contents (Elt F) → Mat F),
    StableHlo.nullary main_cst_8 (constant S_ .f32 0x00000000#32),
    StableHlo.unary main_cst_8 main_v22 (broadcastInDim S128x128x256 ![] bcast_S_S128x128x256 : (⟨S_, .f32⟩ : BufTy).Contents (Elt F) → (⟨S128x128x256, .f32⟩ : BufTy).Contents (Elt F)),
    StableHlo.nullary main_c_9 (constantI S_ 32 0#32),
    StableHlo.unary main_v18 main_v23_0 id,
    StableHlo.unary main_v7_5 main_v23_1 id,
    StableHlo.unary main_v7_6 main_v23_2 id,
    StableHlo.unary main_arg1 main_v23_3 id,
    StableHlo.unary main_arg2 main_v23_4 id,
    StableHlo.unary main_c_9 main_v23_5 id,
    StableHlo.unary main_v20 main_v23_6 id,
    StableHlo.unary main_v21 main_v23_7 id,
    StableHlo.unary main_v19 main_v23_8 id,
    StableHlo.unary main_v22 main_v23_9 id ]

theorem mid0_sub : (mid0 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub .., StableHlo.nullary_bufs_sub .., StableHlo.binary_bufs_sub .., StableHlo.nullary_bufs_sub .., StableHlo.binary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem mid0_fresh : (mid0 : List (HloOp τ sig (Elt F))).Forall fun op => op.fresh = ∅ :=
  StableHlo.forall_fresh_of_map rfl

abbrev mid0W : List (Ref sig .tc) := [main_v8, main_v9, main_v10, main_v11, main_cst_2, main_v12, main_v13, main_v14, main_v15, main_cst_3, main_v16, main_cst_4, main_v17, main_v18, main_cst_5, main_v19, main_cst_6, main_v20, main_cst_7, main_v21, main_cst_8, main_v22, main_c_9, main_v23_0, main_v23_1, main_v23_2, main_v23_3, main_v23_4, main_v23_5, main_v23_6, main_v23_7, main_v23_8, main_v23_9]

theorem mid0_writes : (mid0 : List (HloOp τ sig (Elt F))).Forall fun op =>
    op.writes ⊆ (mid0W.map (Proc.devRef (τ := τ) .tc)).toFinset :=
  StableHlo.forall_writes_sub_of_map rfl

/-- After the second loop. -/
abbrev post0 : List (HloOp τ sig (Elt F)) :=
  [ StableHlo.unary main_v23_9 main_v24 ((extractStridedSlice S128x128x128 ![0, 0, 0] · slices_S128x128x256_S128x128x128_0_0_0) : (⟨S128x128x256, .f32⟩ : BufTy).Contents (Elt F) → (⟨S128x128x128, .f32⟩ : BufTy).Contents (Elt F)),
    StableHlo.unary main_v23_9 main_v25 ((extractStridedSlice S128x128x128 ![0, 0, 128] · slices_S128x128x256_S128x128x128_0_0_128) : (⟨S128x128x256, .f32⟩ : BufTy).Contents (Elt F) → (⟨S128x128x128, .f32⟩ : BufTy).Contents (Elt F)),
    StableHlo.unary main_v25 main_v26 (Host.reverse [0] : (⟨S128x128x128, .f32⟩ : BufTy).Contents (Elt F) → (⟨S128x128x128, .f32⟩ : BufTy).Contents (Elt F)),
    StableHlo.nullary main_cst_10 (constant S_ .f32 0x00000000#32),
    StableHlo.binary main_v26 main_cst_10 main_v27 ((fun x v => pad S128x128x256 ![0, 0, 128] ![0, 0, 0] ![0, 0, 0] x v pads_S128x128x128_S128x128x256_000_000_12800 h_S_) : (⟨S128x128x128, .f32⟩ : BufTy).Contents (Elt F) → (⟨S_, .f32⟩ : BufTy).Contents (Elt F) → (⟨S128x128x256, .f32⟩ : BufTy).Contents (Elt F)),
    StableHlo.nullary main_cst_11 (constant S_ .f32 0x00000000#32),
    StableHlo.binary main_v24 main_cst_11 main_v28 ((fun x v => pad S128x128x256 ![0, 0, 0] ![0, 0, 128] ![0, 0, 0] x v pads_S128x128x128_S128x128x256_000_000_01280 h_S_) : (⟨S128x128x128, .f32⟩ : BufTy).Contents (Elt F) → (⟨S_, .f32⟩ : BufTy).Contents (Elt F) → (⟨S128x128x256, .f32⟩ : BufTy).Contents (Elt F)),
    StableHlo.binary main_v27 main_v28 main_v29 (addf : (⟨S128x128x256, .f32⟩ : BufTy).Contents (Elt F) → (⟨S128x128x256, .f32⟩ : BufTy).Contents (Elt F) → (⟨S128x128x256, .f32⟩ : BufTy).Contents (Elt F)) ]

theorem post0_sub : (post0 : List (HloOp τ sig (Elt F))).Forall fun op => op.bufs ⊆ StableHlo.tcRefs τ sig :=
  ⟨StableHlo.unary_bufs_sub .., StableHlo.unary_bufs_sub .., StableHlo.unary_bufs_sub .., StableHlo.nullary_bufs_sub .., StableHlo.binary_bufs_sub .., StableHlo.nullary_bufs_sub .., StableHlo.binary_bufs_sub .., StableHlo.binary_bufs_sub ..⟩

theorem post0_fresh : (post0 : List (HloOp τ sig (Elt F))).Forall fun op => op.fresh = ∅ :=
  StableHlo.forall_fresh_of_map rfl

abbrev post0W : List (Ref sig .tc) := [main_v24, main_v25, main_v26, main_cst_10, main_v27, main_cst_11, main_v28, main_v29]

theorem post0_writes : (post0 : List (HloOp τ sig (Elt F))).Forall fun op =>
    op.writes ⊆ (post0W.map (Proc.devRef (τ := τ) .tc)).toFinset :=
  StableHlo.forall_writes_sub_of_map rfl

abbrev pre : List (List (HloOp τ sig (Elt F))) := [pre0]

theorem pre_plain : Plain (pre (F := F)) := .cons pre0_sub (hf := List.forall_iff_forall_mem.mp pre0_fresh) (.nil)

abbrev mid : List (List (HloOp τ sig (Elt F))) := [mid0]

theorem mid_plain : Plain (mid (F := F)) := .cons mid0_sub (hf := List.forall_iff_forall_mem.mp mid0_fresh) (.nil)

abbrev post : List (List (HloOp τ sig (Elt F))) := [post0]

theorem post_plain : Plain (post (F := F)) := .cons post0_sub (hf := List.forall_iff_forall_mem.mp post0_fresh) (.nil)

set_option maxHeartbeats 4000000 in
theorem main_chain (c : Dev nD) : main (F := F) c = (Pipeline.chain
  [ StableHlo.seq pre0, HostLoop.enter 0, StableHlo.seq mid0, HostLoop.enter 1, StableHlo.seq post0 ] :
  Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  unfold main_part0 main_part1
  rewrite [StableHlo.chain_seq_cons, Pipeline.chain_cons, StableHlo.chain_seq_cons, Pipeline.chain_cons]
  chain_rfl

end Cert.CarryRef

end
-- ==== Proof.CarryRefRun.lean ====
/- The reference's run: both of its loops are counted to 128, so every weakly fair execution terminates with each buffer
   at the fold of the operations. -/
module

public import proofs.«01_k».proof.Proof.CarryRefOps

@[expose] public section

noncomputable section

namespace Cert.CarryRef

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- The first loop: 128 trips. -/
def fwdLoop : TwoLoops.Counted nD τ (pcfgs (F := F)) loops where
  l := 0
  cond := main_while0_cond
  body := main_while0_body
  step := rfl
  test := fwdTest
  ops := fwdBody
  plain := fwdBody_plain
  chain := by rw [fwd_chain]; rfl
  trips := 128

set_option maxRecDepth 100000 in
/-- One trip of the first loop adds 1 to its counter. -/
theorem fwd_count (X : Valuation τ sig (Elt F)) : afterL fwdBody (after fwdTest X) (Proc.devRef .tc main_v7_3)
    = addi (X (Proc.devRef .tc main_v7_3)) (constantI S_ 32 1#32) := by
  have last : ∀ Y : Valuation τ sig (Elt F), after fwd4 Y (Proc.devRef .tc main_v7_3)
      = addi (Y (Proc.devRef .tc main_v7_3)) (constantI S_ 32 1#32) := fun Y => by after_results; rfl
  simp only [afterL_cons, afterL_nil]
  rw [last, after_of_writes_sub fwd3 _ fwd3_writes (r := main_v7_3) (by decide +kernel),
    after_of_writes_sub fwd2 _ fwd2_writes (r := main_v7_3) (by decide +kernel),
    after_of_writes_sub fwd1 _ fwd1_writes (r := main_v7_3) (by decide +kernel),
    after_of_writes_sub fwd0 _ fwd0_writes (r := main_v7_3) (by decide +kernel),
    after_of_writes_sub fwdTest _ fwdTest_writes (r := main_v7_3) (by decide +kernel)]

/-- A counter that starts at 0 is the trip's number. -/
theorem fwd_counter (W : Dev nD → Valuation τ sig (Elt F)) (c : Dev nD)
    (h0 : W c (Proc.devRef .tc main_v7_3) = fun _ => (0#32 : BitVec 32)) :
    ∀ k, atTrip fwdTest fwdBody W k c (Proc.devRef .tc main_v7_3) = fun _ => Scf.iv 0#32 1#32 k
  | 0 => h0.trans (by rw [Scf.iv_zero])
  | k + 1 => by
    refine (fwd_count (atTrip fwdTest fwdBody W k c)).trans ?_
    rw [fwd_counter W c h0 k, Scf.iv_succ]
    rfl

set_option backward.isDefEq.respectTransparency.types false in
/-- The first loop's condition holds before the trips 0 … 127 and fails before trip 128. -/
theorem fwd_exits (W : Dev nD → Valuation τ sig (Elt F))
    (h0 : ∀ c, W c (Proc.devRef .tc main_v7_3) = fun _ => (0#32 : BitVec 32)) :
    fwdLoop.Exits defs₀ W := by
  suffices h : CondSpec (pcfgs (F := F)) defs₀ loops main_while0_cond fwdTest fwdBody W 128 from h
  intro k hk c bd
  have hc := fwd_counter W c (h0 c) k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip fwdTest fwdBody W k c) main_v7_3 HostLoop.idx0)
        (HloOp.result _ (atTrip fwdTest fwdBody W k c) main_while0c_c_18 HostLoop.idx0) = 1#1) (k < 128)
    rw [nullary_result_ne _ _ _ _ (by decide), nullary_result, hc]
    exact Scf.cmpi_slt_iv_ub_iff (lb := 0#32) (ub := 128#32) (st := 1#32) (by decide) (show k ≤ Scf.trips 0#32 128#32 1#32 from hk)
  isplitl [Hb]
  · iexact Hb
  rw [after_cons, after_cons, after_nil]; iexact Hh

/-- The second loop: 128 trips. -/
def bwdLoop : TwoLoops.Counted nD τ (pcfgs (F := F)) loops where
  l := 1
  cond := main_while1_cond
  body := main_while1_body
  step := rfl
  test := bwdTest
  ops := bwdBody
  plain := bwdBody_plain
  chain := by rw [bwd_chain]; rfl
  trips := 128

set_option maxRecDepth 100000 in
/-- One trip of the second loop adds 1 to its counter. -/
theorem bwd_count (X : Valuation τ sig (Elt F)) : afterL bwdBody (after bwdTest X) (Proc.devRef .tc main_v23_5)
    = addi (X (Proc.devRef .tc main_v23_5)) (constantI S_ 32 1#32) := by
  have last : ∀ Y : Valuation τ sig (Elt F), after bwd6 Y (Proc.devRef .tc main_v23_5)
      = addi (Y (Proc.devRef .tc main_v23_5)) (constantI S_ 32 1#32) := fun Y => by after_results; rfl
  simp only [afterL_cons, afterL_nil]
  rw [last, after_of_writes_sub bwd5 _ bwd5_writes (r := main_v23_5) (by decide +kernel),
    after_of_writes_sub bwd4 _ bwd4_writes (r := main_v23_5) (by decide +kernel),
    after_of_writes_sub bwd3 _ bwd3_writes (r := main_v23_5) (by decide +kernel),
    after_of_writes_sub bwd2 _ bwd2_writes (r := main_v23_5) (by decide +kernel),
    after_of_writes_sub bwd1 _ bwd1_writes (r := main_v23_5) (by decide +kernel),
    after_of_writes_sub bwd0 _ bwd0_writes (r := main_v23_5) (by decide +kernel),
    after_of_writes_sub bwdTest _ bwdTest_writes (r := main_v23_5) (by decide +kernel)]

/-- A counter that starts at 0 is the trip's number. -/
theorem bwd_counter (W : Dev nD → Valuation τ sig (Elt F)) (c : Dev nD)
    (h0 : W c (Proc.devRef .tc main_v23_5) = fun _ => (0#32 : BitVec 32)) :
    ∀ k, atTrip bwdTest bwdBody W k c (Proc.devRef .tc main_v23_5) = fun _ => Scf.iv 0#32 1#32 k
  | 0 => h0.trans (by rw [Scf.iv_zero])
  | k + 1 => by
    refine (bwd_count (atTrip bwdTest bwdBody W k c)).trans ?_
    rw [bwd_counter W c h0 k, Scf.iv_succ]
    rfl

set_option backward.isDefEq.respectTransparency.types false in
/-- The second loop's condition holds before the trips 0 … 127 and fails before trip 128. -/
theorem bwd_exits (W : Dev nD → Valuation τ sig (Elt F))
    (h0 : ∀ c, W c (Proc.devRef .tc main_v23_5) = fun _ => (0#32 : BitVec 32)) :
    bwdLoop.Exits defs₀ W := by
  suffices h : CondSpec (pcfgs (F := F)) defs₀ loops main_while1_cond bwdTest bwdBody W 128 from h
  intro k hk c bd
  have hc := bwd_counter W c (h0 c) k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip bwdTest bwdBody W k c) main_v23_5 HostLoop.idx0)
        (HloOp.result _ (atTrip bwdTest bwdBody W k c) main_while1c_c_21 HostLoop.idx0) = 1#1) (k < 128)
    rw [nullary_result_ne _ _ _ _ (by decide), nullary_result, hc]
    exact Scf.cmpi_slt_iv_ub_iff (lb := 0#32) (ub := 128#32) (st := 1#32) (by decide) (show k ≤ Scf.trips 0#32 128#32 1#32 from hk)
  isplitl [Hb]
  · iexact Hb
  rw [after_cons, after_cons, after_nil]; iexact Hh

variable (m : (ℓ : Loc nD τ sig) → Buf (Elt F) ℓ) (ρ : Dev nD → PrngReg)

/-- The buffers when the first loop is entered. -/
abbrev entry (c : Dev nD) : Valuation τ sig (Elt F) := entryContents pre m c

/-- The buffers when the second loop is entered. -/
abbrev entry' (c : Dev nD) : Valuation τ sig (Elt F) := afterL mid (fwdLoop.leave (entry m) c)

set_option maxRecDepth 100000 in
theorem entry_counter (c : Dev nD) : entry m c (Proc.devRef .tc main_v7_3) = fun _ => (0#32 : BitVec 32) := by
  simp only [entry, entryContents, afterL_cons, afterL_nil]
  after_reads_simp
  rfl

set_option maxRecDepth 100000 in
theorem entry'_counter (c : Dev nD) : entry' m c (Proc.devRef .tc main_v23_5) = fun _ => (0#32 : BitVec 32) := by
  simp only [entry', afterL_cons, afterL_nil]
  generalize fwdLoop.leave (entry m) c = X
  after_results
  rfl

/-- What each buffer holds at the end. -/
abbrev fin (c : Dev nD) : Valuation τ sig (Elt F) := TwoLoops.finals fwdLoop bwdLoop pre mid post m c

theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = fin m c (Proc.devRef .tc b)) :=
  TwoLoops.run main fwdLoop bwdLoop pre_plain mid_plain post_plain (fun c => by rw [main_chain]; rfl) m ρ
    (fwd_exits (entry m) (entry_counter m)) (bwd_exits (entry' m) (entry'_counter m))

end Cert.CarryRef

end
-- ==== Proof.CarryRefTrip.lean ====
/- One trip of each of the reference's loops, as a function of what the buffers hold before it. -/
module

public import proofs.«01_k».proof.Proof.CarryRefRun

@[expose] public section

set_option maxRecDepth 100000

noncomputable section

namespace Cert.CarryRef

open Cert.ReferenceIdeal Cert.ReferenceIdeal.Gen
open Idealize.ShloMosaic Idealize.ShloMosaic.TcCoe Idealize.ShloMosaic.Tactic
open Idealize.SL Idealize.SL.Sem
open Idealize.ShloMosaic.StableHlo

variable {F : FTy → Type} [FloatOps F] (X : Valuation τ sig (Elt F))

/-- Row `j` of a stack of 128 matrices. -/
def rowT (x : (⟨S128x128x256, .f32⟩ : BufTy).Contents (Elt F)) (j : (⟨S_, .i32⟩ : BufTy).Contents (Elt F)) :
    Mat F :=
  shapeCast S128x256 (Host.dynamicSlice S1x128x256 x
    (fun k => ((![j, constantI S_ 32 0#32, constantI S_ 32 0#32] : Fin 3 → (⟨S_, .i32⟩ : BufTy).Contents (Elt F)) k (Shape.Idx.first h_S_)).toInt)
    sliceFits_S128x128x256_S1x128x256) shapeCasts_S1x128x256_S128x256

/-- A stack of 128 matrices with `u` put at row `j`. -/
def putT (x : (⟨S128x128x256, .f32⟩ : BufTy).Contents (Elt F)) (u : Mat F)
    (j : (⟨S_, .i32⟩ : BufTy).Contents (Elt F)) : (⟨S128x128x256, .f32⟩ : BufTy).Contents (Elt F) :=
  Host.dynamicUpdateSlice x (broadcastInDim S1x128x256 ![1, 2] bcast_S128x256_S1x128x256_1_2 u)
    (fun k => ((![j, constantI S_ 32 0#32, constantI S_ 32 0#32] : Fin 3 → (⟨S_, .i32⟩ : BufTy).Contents (Elt F)) k (Shape.Idx.first h_S_)).toInt)
    updateFits_S128x128x256_S1x128x256

/-- The real and the imaginary halves of each direction exchanged. -/
def swapT (x : Mat F) : Mat F :=
  shapeCast S128x256 (Host.reverse [2] (shapeCast S128x2x2x64 x shapeCasts_S128x256_S128x2x2x64 :
    (⟨S128x2x2x64, .f32⟩ : BufTy).Contents (Elt F))) shapeCasts_S128x2x2x64_S128x256

/-- The row a trip of the second loop works on, counted from the last. -/
abbrev downT (j : (⟨S_, .i32⟩ : BufTy).Contents (Elt F)) : (⟨S_, .i32⟩ : BufTy).Contents (Elt F) :=
  subi (subi (constantI S_ 32 128#32) j) (constantI S_ 32 1#32)

theorem fwd0_main_while0b_v30 (Y : Valuation τ sig (Elt F)) : after fwd0 Y (Proc.devRef .tc main_while0b_v30)
    = rowT (Y (Proc.devRef .tc main_v7_0)) (Y (Proc.devRef .tc main_v7_3)) := by
  unfold rowT
  simp only [fwd0]
  after_results_entrywise [cast_eq]

theorem fwd1_main_while0b_v33 (Y : Valuation τ sig (Elt F)) : after fwd1 Y (Proc.devRef .tc main_while0b_v33)
    = swapT (Y (Proc.devRef .tc main_v7_4)) := by
  after_results <;> rfl

theorem fwd1_main_while0b_v37 (Y : Valuation τ sig (Elt F)) : after fwd1 Y (Proc.devRef .tc main_while0b_v37)
    = addf (addf (mulf (Y (Proc.devRef .tc main_v7_1)) (Y (Proc.devRef .tc main_v7_4))) (mulf (Y (Proc.devRef .tc main_v7_2)) (swapT (Y (Proc.devRef .tc main_v7_4))))) (Y (Proc.devRef .tc main_while0b_v30)) := by
  after_results <;> rfl

theorem fwd2_main_while0b_v38 (Y : Valuation τ sig (Elt F)) : after fwd2 Y (Proc.devRef .tc main_while0b_v38)
    = putT (Y (Proc.devRef .tc main_v7_5)) (Y (Proc.devRef .tc main_v7_4)) (Y (Proc.devRef .tc main_v7_3)) := by
  unfold putT
  simp only [fwd2]
  after_results_entrywise [cast_eq]

theorem fwd3_main_while0b_v39 (Y : Valuation τ sig (Elt F)) : after fwd3 Y (Proc.devRef .tc main_while0b_v39)
    = putT (Y (Proc.devRef .tc main_v7_6)) (Y (Proc.devRef .tc main_while0b_v33)) (Y (Proc.devRef .tc main_v7_3)) := by
  unfold putT
  simp only [fwd3]
  after_results_entrywise [cast_eq]

theorem fwd4_main_v7_4 (Y : Valuation τ sig (Elt F)) : after fwd4 Y (Proc.devRef .tc main_v7_4)
    = (Y (Proc.devRef .tc main_while0b_v37)) := by
  after_results <;> rfl

theorem fwd4_main_v7_5 (Y : Valuation τ sig (Elt F)) : after fwd4 Y (Proc.devRef .tc main_v7_5)
    = (Y (Proc.devRef .tc main_while0b_v38)) := by
  after_results <;> rfl

theorem fwd4_main_v7_6 (Y : Valuation τ sig (Elt F)) : after fwd4 Y (Proc.devRef .tc main_v7_6)
    = (Y (Proc.devRef .tc main_while0b_v39)) := by
  after_results <;> rfl

theorem bwd0_main_while1b_v31 (Y : Valuation τ sig (Elt F)) : after bwd0 Y (Proc.devRef .tc main_while1b_v31)
    = downT (Y (Proc.devRef .tc main_v23_5)) := by
  after_results <;> rfl

theorem bwd1_main_while1b_v32 (Y : Valuation τ sig (Elt F)) : after bwd1 Y (Proc.devRef .tc main_while1b_v32)
    = rowT (Y (Proc.devRef .tc main_v23_0)) (Y (Proc.devRef .tc main_while1b_v31)) := by
  unfold rowT
  simp only [bwd1]
  after_results_entrywise [cast_eq]

theorem bwd2_main_while1b_v33 (Y : Valuation τ sig (Elt F)) : after bwd2 Y (Proc.devRef .tc main_while1b_v33)
    = rowT (Y (Proc.devRef .tc main_v23_1)) (Y (Proc.devRef .tc main_while1b_v31)) := by
  unfold rowT
  simp only [bwd2]
  after_results_entrywise [cast_eq]

theorem bwd3_main_while1b_v34 (Y : Valuation τ sig (Elt F)) : after bwd3 Y (Proc.devRef .tc main_while1b_v34)
    = rowT (Y (Proc.devRef .tc main_v23_2)) (Y (Proc.devRef .tc main_while1b_v31)) := by
  unfold rowT
  simp only [bwd3]
  after_results_entrywise [cast_eq]

theorem bwd4_main_while1b_v37 (Y : Valuation τ sig (Elt F)) : after bwd4 Y (Proc.devRef .tc main_while1b_v37)
    = addf (Y (Proc.devRef .tc main_v23_7)) (mulf (Y (Proc.devRef .tc main_v23_8)) (Y (Proc.devRef .tc main_while1b_v34))) := by
  after_results <;> rfl

theorem bwd4_main_while1b_v41 (Y : Valuation τ sig (Elt F)) : after bwd4 Y (Proc.devRef .tc main_while1b_v41)
    = addf (Y (Proc.devRef .tc main_v23_6)) (mulf (Y (Proc.devRef .tc main_v23_8)) (Y (Proc.devRef .tc main_while1b_v33))) := by
  after_results <;> rfl

theorem bwd4_main_while1b_v45 (Y : Valuation τ sig (Elt F)) : after bwd4 Y (Proc.devRef .tc main_while1b_v45)
    = addf (addf (Y (Proc.devRef .tc main_while1b_v32)) (mulf (Y (Proc.devRef .tc main_v23_3)) (Y (Proc.devRef .tc main_v23_8)))) (swapT (mulf (Y (Proc.devRef .tc main_v23_4)) (Y (Proc.devRef .tc main_v23_8)))) := by
  after_results <;> rfl

theorem bwd5_main_while1b_v46 (Y : Valuation τ sig (Elt F)) : after bwd5 Y (Proc.devRef .tc main_while1b_v46)
    = putT (Y (Proc.devRef .tc main_v23_9)) (Y (Proc.devRef .tc main_v23_8)) (Y (Proc.devRef .tc main_while1b_v31)) := by
  unfold putT
  simp only [bwd5]
  after_results_entrywise [cast_eq]

theorem bwd6_main_v23_6 (Y : Valuation τ sig (Elt F)) : after bwd6 Y (Proc.devRef .tc main_v23_6)
    = (Y (Proc.devRef .tc main_while1b_v41)) := by
  after_results <;> rfl

theorem bwd6_main_v23_7 (Y : Valuation τ sig (Elt F)) : after bwd6 Y (Proc.devRef .tc main_v23_7)
    = (Y (Proc.devRef .tc main_while1b_v37)) := by
  after_results <;> rfl

theorem bwd6_main_v23_8 (Y : Valuation τ sig (Elt F)) : after bwd6 Y (Proc.devRef .tc main_v23_8)
    = (Y (Proc.devRef .tc main_while1b_v45)) := by
  after_results <;> rfl

theorem bwd6_main_v23_9 (Y : Valuation τ sig (Elt F)) : after bwd6 Y (Proc.devRef .tc main_v23_9)
    = (Y (Proc.devRef .tc main_while1b_v46)) := by
  after_results <;> rfl

/-! ## What a trip's operations leave as it is -/

variable {r : Ref sig .tc}

theorem kept {A W : List (Ref sig .tc)} {ops : List (HloOp τ sig (Elt F))} {V : Valuation τ sig (Elt F)}
    (hW : ops.Forall fun op => op.writes ⊆ (W.map (Proc.devRef (τ := τ) .tc)).toFinset) (h : r ∉ A ++ W)
    (hV : r ∉ A → V (Proc.devRef .tc r) = X (Proc.devRef .tc r)) : after ops V (Proc.devRef .tc r) = X (Proc.devRef .tc r) :=
  (after_of_writes_sub ops V hW fun hr => h (List.mem_append_right _ hr)).trans (hV fun hr => h (List.mem_append_left _ hr))

theorem fwd_keep0 (h : r ∉ fwdTestW) : after fwdTest X (Proc.devRef .tc r) = X (Proc.devRef .tc r) :=
  after_of_writes_sub fwdTest X fwdTest_writes h

theorem fwd_keep1 (h : r ∉ fwdTestW ++ fwd0W) :
    after fwd0 (after fwdTest X) (Proc.devRef .tc r) = X (Proc.devRef .tc r) :=
  kept X fwd0_writes h (fwd_keep0 X)

theorem fwd_keep2 (h : r ∉ fwdTestW ++ fwd0W ++ fwd1W) :
    after fwd1 (after fwd0 (after fwdTest X)) (Proc.devRef .tc r) = X (Proc.devRef .tc r) :=
  kept X fwd1_writes h (fwd_keep1 X)

theorem fwd_keep3 (h : r ∉ fwdTestW ++ fwd0W ++ fwd1W ++ fwd2W) :
    after fwd2 (after fwd1 (after fwd0 (after fwdTest X))) (Proc.devRef .tc r) = X (Proc.devRef .tc r) :=
  kept X fwd2_writes h (fwd_keep2 X)

theorem fwd_keep4 (h : r ∉ fwdTestW ++ fwd0W ++ fwd1W ++ fwd2W ++ fwd3W) :
    after fwd3 (after fwd2 (after fwd1 (after fwd0 (after fwdTest X)))) (Proc.devRef .tc r) = X (Proc.devRef .tc r) :=
  kept X fwd3_writes h (fwd_keep3 X)

theorem fwd_keep5 (h : r ∉ fwdTestW ++ fwd0W ++ fwd1W ++ fwd2W ++ fwd3W ++ fwd4W) :
    after fwd4 (after fwd3 (after fwd2 (after fwd1 (after fwd0 (after fwdTest X))))) (Proc.devRef .tc r) = X (Proc.devRef .tc r) :=
  kept X fwd4_writes h (fwd_keep4 X)

theorem bwd_keep0 (h : r ∉ bwdTestW) : after bwdTest X (Proc.devRef .tc r) = X (Proc.devRef .tc r) :=
  after_of_writes_sub bwdTest X bwdTest_writes h

theorem bwd_keep1 (h : r ∉ bwdTestW ++ bwd0W) :
    after bwd0 (after bwdTest X) (Proc.devRef .tc r) = X (Proc.devRef .tc r) :=
  kept X bwd0_writes h (bwd_keep0 X)

theorem bwd_keep2 (h : r ∉ bwdTestW ++ bwd0W ++ bwd1W) :
    after bwd1 (after bwd0 (after bwdTest X)) (Proc.devRef .tc r) = X (Proc.devRef .tc r) :=
  kept X bwd1_writes h (bwd_keep1 X)

theorem bwd_keep3 (h : r ∉ bwdTestW ++ bwd0W ++ bwd1W ++ bwd2W) :
    after bwd2 (after bwd1 (after bwd0 (after bwdTest X))) (Proc.devRef .tc r) = X (Proc.devRef .tc r) :=
  kept X bwd2_writes h (bwd_keep2 X)

theorem bwd_keep4 (h : r ∉ bwdTestW ++ bwd0W ++ bwd1W ++ bwd2W ++ bwd3W) :
    after bwd3 (after bwd2 (after bwd1 (after bwd0 (after bwdTest X)))) (Proc.devRef .tc r) = X (Proc.devRef .tc r) :=
  kept X bwd3_writes h (bwd_keep3 X)

theorem bwd_keep5 (h : r ∉ bwdTestW ++ bwd0W ++ bwd1W ++ bwd2W ++ bwd3W ++ bwd4W) :
    after bwd4 (after bwd3 (after bwd2 (after bwd1 (after bwd0 (after bwdTest X))))) (Proc.devRef .tc r) = X (Proc.devRef .tc r) :=
  kept X bwd4_writes h (bwd_keep4 X)

theorem bwd_keep6 (h : r ∉ bwdTestW ++ bwd0W ++ bwd1W ++ bwd2W ++ bwd3W ++ bwd4W ++ bwd5W) :
    after bwd5 (after bwd4 (after bwd3 (after bwd2 (after bwd1 (after bwd0 (after bwdTest X)))))) (Proc.devRef .tc r) = X (Proc.devRef .tc r) :=
  kept X bwd5_writes h (bwd_keep5 X)

theorem bwd_keep7 (h : r ∉ bwdTestW ++ bwd0W ++ bwd1W ++ bwd2W ++ bwd3W ++ bwd4W ++ bwd5W ++ bwd6W) :
    after bwd6 (after bwd5 (after bwd4 (after bwd3 (after bwd2 (after bwd1 (after bwd0 (after bwdTest X))))))) (Proc.devRef .tc r) = X (Proc.devRef .tc r) :=
  kept X bwd6_writes h (bwd_keep6 X)

/-! ## One trip -/

theorem fwd_trip_0 : afterL fwdBody (after fwdTest X) (Proc.devRef .tc main_v7_0)
    = X (Proc.devRef .tc main_v7_0) := by
  simp only [afterL_cons, afterL_nil]
  exact fwd_keep5 X (by decide +kernel)

theorem fwd_trip_1 : afterL fwdBody (after fwdTest X) (Proc.devRef .tc main_v7_1)
    = X (Proc.devRef .tc main_v7_1) := by
  simp only [afterL_cons, afterL_nil]
  exact fwd_keep5 X (by decide +kernel)

theorem fwd_trip_2 : afterL fwdBody (after fwdTest X) (Proc.devRef .tc main_v7_2)
    = X (Proc.devRef .tc main_v7_2) := by
  simp only [afterL_cons, afterL_nil]
  exact fwd_keep5 X (by decide +kernel)

theorem fwd_trip_4 : afterL fwdBody (after fwdTest X) (Proc.devRef .tc main_v7_4)
    = addf (addf (mulf (X (Proc.devRef .tc main_v7_1)) (X (Proc.devRef .tc main_v7_4))) (mulf (X (Proc.devRef .tc main_v7_2)) (swapT (X (Proc.devRef .tc main_v7_4))))) (rowT (X (Proc.devRef .tc main_v7_0)) (X (Proc.devRef .tc main_v7_3))) := by
  simp only [afterL_cons, afterL_nil]
  rw [fwd4_main_v7_4,
    after_of_writes_sub fwd3 _ fwd3_writes (r := main_while0b_v37) (by decide +kernel),
    after_of_writes_sub fwd2 _ fwd2_writes (r := main_while0b_v37) (by decide +kernel),
    fwd1_main_while0b_v37,
    fwd_keep1 X (r := main_v7_1) (by decide +kernel),
    fwd_keep1 X (r := main_v7_4) (by decide +kernel),
    fwd_keep1 X (r := main_v7_2) (by decide +kernel),
    fwd0_main_while0b_v30,
    fwd_keep0 X (r := main_v7_0) (by decide +kernel),
    fwd_keep0 X (r := main_v7_3) (by decide +kernel)]

theorem fwd_trip_5 : afterL fwdBody (after fwdTest X) (Proc.devRef .tc main_v7_5)
    = putT (X (Proc.devRef .tc main_v7_5)) (X (Proc.devRef .tc main_v7_4)) (X (Proc.devRef .tc main_v7_3)) := by
  simp only [afterL_cons, afterL_nil]
  rw [fwd4_main_v7_5,
    after_of_writes_sub fwd3 _ fwd3_writes (r := main_while0b_v38) (by decide +kernel),
    fwd2_main_while0b_v38,
    fwd_keep2 X (r := main_v7_5) (by decide +kernel),
    fwd_keep2 X (r := main_v7_4) (by decide +kernel),
    fwd_keep2 X (r := main_v7_3) (by decide +kernel)]

theorem fwd_trip_6 : afterL fwdBody (after fwdTest X) (Proc.devRef .tc main_v7_6)
    = putT (X (Proc.devRef .tc main_v7_6)) (swapT (X (Proc.devRef .tc main_v7_4))) (X (Proc.devRef .tc main_v7_3)) := by
  simp only [afterL_cons, afterL_nil]
  rw [fwd4_main_v7_6,
    fwd3_main_while0b_v39,
    fwd_keep3 X (r := main_v7_6) (by decide +kernel),
    after_of_writes_sub fwd2 _ fwd2_writes (r := main_while0b_v33) (by decide +kernel),
    fwd1_main_while0b_v33,
    fwd_keep1 X (r := main_v7_4) (by decide +kernel),
    fwd_keep3 X (r := main_v7_3) (by decide +kernel)]

theorem bwd_trip_0 : afterL bwdBody (after bwdTest X) (Proc.devRef .tc main_v23_0)
    = X (Proc.devRef .tc main_v23_0) := by
  simp only [afterL_cons, afterL_nil]
  exact bwd_keep7 X (by decide +kernel)

theorem bwd_trip_1 : afterL bwdBody (after bwdTest X) (Proc.devRef .tc main_v23_1)
    = X (Proc.devRef .tc main_v23_1) := by
  simp only [afterL_cons, afterL_nil]
  exact bwd_keep7 X (by decide +kernel)

theorem bwd_trip_2 : afterL bwdBody (after bwdTest X) (Proc.devRef .tc main_v23_2)
    = X (Proc.devRef .tc main_v23_2) := by
  simp only [afterL_cons, afterL_nil]
  exact bwd_keep7 X (by decide +kernel)

theorem bwd_trip_3 : afterL bwdBody (after bwdTest X) (Proc.devRef .tc main_v23_3)
    = X (Proc.devRef .tc main_v23_3) := by
  simp only [afterL_cons, afterL_nil]
  exact bwd_keep7 X (by decide +kernel)

theorem bwd_trip_4 : afterL bwdBody (after bwdTest X) (Proc.devRef .tc main_v23_4)
    = X (Proc.devRef .tc main_v23_4) := by
  simp only [afterL_cons, afterL_nil]
  exact bwd_keep7 X (by decide +kernel)

theorem bwd_trip_6 : afterL bwdBody (after bwdTest X) (Proc.devRef .tc main_v23_6)
    = addf (X (Proc.devRef .tc main_v23_6)) (mulf (X (Proc.devRef .tc main_v23_8)) (rowT (X (Proc.devRef .tc main_v23_1)) (downT (X (Proc.devRef .tc main_v23_5))))) := by
  simp only [afterL_cons, afterL_nil]
  rw [bwd6_main_v23_6,
    after_of_writes_sub bwd5 _ bwd5_writes (r := main_while1b_v41) (by decide +kernel),
    bwd4_main_while1b_v41,
    bwd_keep4 X (r := main_v23_6) (by decide +kernel),
    bwd_keep4 X (r := main_v23_8) (by decide +kernel),
    after_of_writes_sub bwd3 _ bwd3_writes (r := main_while1b_v33) (by decide +kernel),
    bwd2_main_while1b_v33,
    bwd_keep2 X (r := main_v23_1) (by decide +kernel),
    after_of_writes_sub bwd1 _ bwd1_writes (r := main_while1b_v31) (by decide +kernel),
    bwd0_main_while1b_v31,
    bwd_keep0 X (r := main_v23_5) (by decide +kernel)]

theorem bwd_trip_7 : afterL bwdBody (after bwdTest X) (Proc.devRef .tc main_v23_7)
    = addf (X (Proc.devRef .tc main_v23_7)) (mulf (X (Proc.devRef .tc main_v23_8)) (rowT (X (Proc.devRef .tc main_v23_2)) (downT (X (Proc.devRef .tc main_v23_5))))) := by
  simp only [afterL_cons, afterL_nil]
  rw [bwd6_main_v23_7,
    after_of_writes_sub bwd5 _ bwd5_writes (r := main_while1b_v37) (by decide +kernel),
    bwd4_main_while1b_v37,
    bwd_keep4 X (r := main_v23_7) (by decide +kernel),
    bwd_keep4 X (r := main_v23_8) (by decide +kernel),
    bwd3_main_while1b_v34,
    bwd_keep3 X (r := main_v23_2) (by decide +kernel),
    after_of_writes_sub bwd2 _ bwd2_writes (r := main_while1b_v31) (by decide +kernel),
    after_of_writes_sub bwd1 _ bwd1_writes (r := main_while1b_v31) (by decide +kernel),
    bwd0_main_while1b_v31,
    bwd_keep0 X (r := main_v23_5) (by decide +kernel)]

theorem bwd_trip_8 : afterL bwdBody (after bwdTest X) (Proc.devRef .tc main_v23_8)
    = addf (addf (rowT (X (Proc.devRef .tc main_v23_0)) (downT (X (Proc.devRef .tc main_v23_5)))) (mulf (X (Proc.devRef .tc main_v23_3)) (X (Proc.devRef .tc main_v23_8)))) (swapT (mulf (X (Proc.devRef .tc main_v23_4)) (X (Proc.devRef .tc main_v23_8)))) := by
  simp only [afterL_cons, afterL_nil]
  rw [bwd6_main_v23_8,
    after_of_writes_sub bwd5 _ bwd5_writes (r := main_while1b_v45) (by decide +kernel),
    bwd4_main_while1b_v45,
    after_of_writes_sub bwd3 _ bwd3_writes (r := main_while1b_v32) (by decide +kernel),
    after_of_writes_sub bwd2 _ bwd2_writes (r := main_while1b_v32) (by decide +kernel),
    bwd1_main_while1b_v32,
    bwd_keep1 X (r := main_v23_0) (by decide +kernel),
    bwd0_main_while1b_v31,
    bwd_keep0 X (r := main_v23_5) (by decide +kernel),
    bwd_keep4 X (r := main_v23_3) (by decide +kernel),
    bwd_keep4 X (r := main_v23_8) (by decide +kernel),
    bwd_keep4 X (r := main_v23_4) (by decide +kernel)]

theorem bwd_trip_9 : afterL bwdBody (after bwdTest X) (Proc.devRef .tc main_v23_9)
    = putT (X (Proc.devRef .tc main_v23_9)) (X (Proc.devRef .tc main_v23_8)) (downT (X (Proc.devRef .tc main_v23_5))) := by
  simp only [afterL_cons, afterL_nil]
  rw [bwd6_main_v23_9,
    bwd5_main_while1b_v46,
    bwd_keep5 X (r := main_v23_9) (by decide +kernel),
    bwd_keep5 X (r := main_v23_8) (by decide +kernel),
    after_of_writes_sub bwd4 _ bwd4_writes (r := main_while1b_v31) (by decide +kernel),
    after_of_writes_sub bwd3 _ bwd3_writes (r := main_while1b_v31) (by decide +kernel),
    after_of_writes_sub bwd2 _ bwd2_writes (r := main_while1b_v31) (by decide +kernel),
    after_of_writes_sub bwd1 _ bwd1_writes (r := main_while1b_v31) (by decide +kernel),
    bwd0_main_while1b_v31,
    bwd_keep0 X (r := main_v23_5) (by decide +kernel)]

end Cert.CarryRef

end
-- ==== Proof.CarryRefValue.lean ====
/- The values of the reference: after 128 trips of each loop its four results are the states, the inputs' gradient and the
   two coefficients' gradients of `CarrySpec`. -/
module

public import proofs.«01_k».proof.Proof.CarryRefTrip
public import proofs.«01_k».proof.Proof.CarrySpec
public import Idealize.ShloMosaic.Lib.KernelVsHost
public import Idealize.ShloMosaic.Lib.ValueIdx
public import Idealize.ShloMosaic.Lib.Pipeline.Value
public import Idealize.ShloMosaic.Lib.Pointwise.ShapeOpsCore
public import Idealize.ShloMosaic.Lib.Quiescent

@[expose] public section

set_option maxRecDepth 16384

noncomputable section

namespace Cert.CarryRef

open Cert.ReferenceIdeal Cert.ReferenceIdeal.Gen Cert.Carry
open Idealize.ShloMosaic Idealize.ShloMosaic.TcCoe Idealize.ShloMosaic.Tactic Idealize.ShloMosaic.ValueIdx
open Idealize.SL Idealize.SL.Sem
open Idealize.ShloMosaic.StableHlo

/-! ## The array operations read at an index -/

abbrev A3 := (⟨S128x128x256, .f32⟩ : BufTy).Contents (Elt Ideal)
abbrev A2 := (⟨S128x256, .f32⟩ : BufTy).Contents (Elt Ideal)
abbrev W0 := (⟨S_, .i32⟩ : BufTy).Contents (Elt Ideal)
abbrev Half := (⟨S128x128x128, .f32⟩ : BufTy).Contents (Elt Ideal)

/-- The starts `(n, 0, 0)` of a slice of one matrix. -/
theorem starts {j : W0} {n : ℕ} (hn : n < 128) (hj : (j (Shape.Idx.first h_S_)).toInt = n) (a : Fin 3) :
    Host.clampedStart S128x128x256 S1x128x256 rfl
      (fun k => ((![j, constantI S_ 32 0#32, constantI S_ 32 0#32] : Fin 3 → W0) k (Shape.Idx.first h_S_)).toInt) a
      = (![n, 0, 0] : Fin 3 → ℕ) a := by
  match a with
  | ⟨0, _⟩ => exact Host.clampedStart_of_le (s := S128x128x256) (t := S1x128x256) rfl _ (0 : Fin 3) n hj (by show n + 1 ≤ 128; omega)
  | ⟨1, _⟩ => exact Host.clampedStart_of_le (s := S128x128x256) (t := S1x128x256) rfl _ (1 : Fin 3) 0 (by rfl) (by show 0 + 128 ≤ 128; omega)
  | ⟨2, _⟩ => exact Host.clampedStart_of_le (s := S128x128x256) (t := S1x128x256) rfl _ (2 : Fin 3) 0 (by rfl) (by show 0 + 256 ≤ 256; omega)

theorem rowT_apply (x : A3) {j : W0} {n : ℕ} (hn : n < 128) (hj : (j (Shape.Idx.first h_S_)).toInt = n) (r : Fin 128) (c : Fin 256) :
    rowT x j (ValueIdx.ix2 r c) = x (ValueIdx.ix3 ⟨n, hn⟩ r c) := by
  unfold rowT
  refine (shapeCast_apply _ shapeCasts_S1x128x256_S128x256 (ValueIdx.ix2 r c) (ValueIdx.ix3 (0 : Fin 1) r c) ?_).trans ?_
  · rw [Shape.rowMajor_val_three, Shape.rowMajor_val_two]
    show ((0 : Fin 1).val * 128 + r.val) * 256 + c.val = r.val * 256 + c.val
    simp
  · refine (Host.dynamicSlice_apply x _ sliceFits_S128x128x256_S1x128x256 _).trans (congrArg x (funext fun a => Fin.ext ?_))
    refine (congrArg (· + _) (starts hn hj a)).trans ?_
    match a with
    | ⟨0, _⟩ => show n + 0 = n; omega
    | ⟨1, _⟩ => show 0 + r.val = r.val; omega
    | ⟨2, _⟩ => show 0 + c.val = c.val; omega

theorem putT_apply_at (x : A3) (u : A2) {j : W0} {n : ℕ} (hn : n < 128) (hj : (j (Shape.Idx.first h_S_)).toInt = n)
    (q r : Fin 128) (c : Fin 256) (hq : q.val = n) : putT x u j (ValueIdx.ix3 q r c) = u (ValueIdx.ix2 r c) := by
  unfold putT
  rw [Host.dynamicUpdateSlice_apply]
  have hs := starts (j := j) hn hj
  rw [dif_pos (fun a => by
    rw [hs a]
    match a with
    | ⟨0, _⟩ => exact ⟨(show n ≤ q.val by omega), (show q.val < n + 1 by omega)⟩
    | ⟨1, _⟩ => exact ⟨Nat.zero_le _, (show r.val < 0 + 128 by omega)⟩
    | ⟨2, _⟩ => exact ⟨Nat.zero_le _, (show c.val < 0 + 256 by omega)⟩)]
  refine congrArg u (funext fun a => Fin.ext ?_)
  match a with
  | ⟨0, _⟩ => exact congrArg (fun z => r.val - z) (hs 1)
  | ⟨1, _⟩ => exact congrArg (fun z => c.val - z) (hs 2)

theorem putT_apply_ne (x : A3) (u : A2) {j : W0} {n : ℕ} (hn : n < 128) (hj : (j (Shape.Idx.first h_S_)).toInt = n)
    (q r : Fin 128) (c : Fin 256) (hq : q.val ≠ n) : putT x u j (ValueIdx.ix3 q r c) = x (ValueIdx.ix3 q r c) := by
  unfold putT
  rw [Host.dynamicUpdateSlice_apply]
  have hs := starts (j := j) hn hj
  rw [dif_neg (fun h => hq (by
    have h0 := h (0 : Fin 3)
    rw [hs 0] at h0
    have h1 : n ≤ q.val := h0.1
    have h2 : q.val < n + 1 := h0.2
    omega))]

theorem swapT_apply (x : A2) (r : Fin 128) (j : Fin 256) : swapT x (ValueIdx.ix2 r j) = x (ValueIdx.ix2 r (sw j)) := by
  have hj := j.isLt
  have hsw : (sw j).val = if j.val % 128 < 64 then j.val + 64 else j.val - 64 := rfl
  unfold swapT
  refine (shapeCast_apply _ shapeCasts_S128x2x2x64_S128x256 (ValueIdx.ix2 r j)
    (ValueIdx.ix4 r (⟨j.val / 128, by omega⟩ : Fin 2) (⟨j.val / 64 % 2, by omega⟩ : Fin 2) (⟨j.val % 64, by omega⟩ : Fin 64)) ?_).trans ?_
  · rw [Shape.rowMajor_val_four, Shape.rowMajor_val_two]
    show ((r.val * 2 + j.val / 128) * 2 + j.val / 64 % 2) * 64 + j.val % 64 = r.val * 256 + j.val
    omega
  · refine (Host.reverse_apply _ _ _).trans ?_
    refine (shapeCast_apply x shapeCasts_S128x256_S128x2x2x64 _ (ValueIdx.ix2 r (sw j)) ?_)
    rw [Shape.rowMajor_val_four, Shape.rowMajor_val_two]
    show r.val * 256 + (sw j).val = ((r.val * 2 + j.val / 128) * 2 + (2 - (j.val / 64 % 2 + 1))) * 64 + j.val % 64
    split at hsw <;> omega

/-- The two halves of the columns. -/
theorem slice_lo (x : A3) (q r : Fin 128) (c : Fin 128) :
    extractStridedSlice S128x128x128 ![0, 0, 0] x slices_S128x128x256_S128x128x128_0_0_0 (ValueIdx.ix3 q r c) = x (ValueIdx.ix3 q r (lo c)) :=
  extractStridedSlice_apply _ x _ _ _ (fun a => by
    match a with
    | ⟨0, _⟩ => show q.val = 0 + q.val; omega
    | ⟨1, _⟩ => show r.val = 0 + r.val; omega
    | ⟨2, _⟩ => show c.val = 0 + c.val; omega)
theorem slice_hi (x : A3) (q r : Fin 128) (c : Fin 128) :
    extractStridedSlice S128x128x128 ![0, 0, 128] x slices_S128x128x256_S128x128x128_0_0_128 (ValueIdx.ix3 q r c) = x (ValueIdx.ix3 q r (hi c)) :=
  extractStridedSlice_apply _ x _ _ _ (fun a => by
    match a with
    | ⟨0, _⟩ => show q.val = 0 + q.val; omega
    | ⟨1, _⟩ => show r.val = 0 + r.val; omega
    | ⟨2, _⟩ => show 128 + c.val = 128 + c.val; omega)
theorem rev_apply (x : Half) (q r c : Fin 128) :
    (Host.reverse [0] x : Half) (ValueIdx.ix3 q r c) = x (ValueIdx.ix3 ⟨127 - q.val, by omega⟩ r c) := by
  refine (Host.reverse_apply (s := S128x128x128) [0] x (ValueIdx.ix3 q r c)).trans (congrArg x (funext fun a => Fin.ext ?_))
  match a with
  | ⟨0, _⟩ => show 128 - (q.val + 1) = 127 - q.val; omega
  | ⟨1, _⟩ => rfl
  | ⟨2, _⟩ => rfl

/-- The backward direction's half with its chunks in the opposite order. -/
def flipT (x : A3) : A3 :=
  concatenate S128x128x256 2 [⟨S128x128x128, (extractStridedSlice S128x128x128 ![0, 0, 0] x slices_S128x128x256_S128x128x128_0_0_0 : Half)⟩,
    ⟨S128x128x128, (Host.reverse [0] (extractStridedSlice S128x128x128 ![0, 0, 128] x slices_S128x128x256_S128x128x128_0_0_128 : Half) : Half)⟩]
    concatenates_S128x128x128_S128x128x128_S128x128x256_d2

theorem flipT_apply (x : A3) (q r : Fin 128) (j : Fin 256) : flipT x (ValueIdx.ix3 q r j) = x (ValueIdx.ix3 (tm j q.val) r j) := by
  unfold flipT
  rcases lo_or_hi j with ⟨i, rfl⟩ | ⟨i, rfl⟩
  · rw [tm_lo i q.isLt]
    refine (concatenate_pair_apply_left (s₁ := S128x128x128) (s₂ := S128x128x128) (t := S128x128x256) 2 _ _ _ _ rfl (ValueIdx.ix3 q r i) (fun b => ?_)).trans (slice_lo x q r i)
    match b with
    | ⟨0, _⟩ => rfl
    | ⟨1, _⟩ => rfl
    | ⟨2, _⟩ => rfl
  · rw [tm_hi i q.isLt]
    refine (concatenate_pair_apply_right (s₁ := S128x128x128) (s₂ := S128x128x128) (t := S128x128x256) 2 _ _ _ _ rfl rfl (ValueIdx.ix3 q r i) (fun b hb => ?_) ?_).trans
      ((rev_apply _ q r i).trans (slice_hi x _ r i))
    · match b with
      | ⟨0, _⟩ => rfl
      | ⟨1, _⟩ => rfl
      | ⟨2, _⟩ => exact absurd rfl hb
    · show i.val + 128 = 128 + i.val; omega

/-- The transpose of `flipT`: each half padded with zeros to the whole width, and the two added. -/
def unflipT (x : A3) : A3 :=
  addf (F := Ideal) (φ := .f32) (pad S128x128x256 ![0, 0, 128] ![0, 0, 0] ![0, 0, 0]
      (Host.reverse [0] (extractStridedSlice S128x128x128 ![0, 0, 128] x slices_S128x128x256_S128x128x128_0_0_128 : Half) : Half)
      (constant (F := Ideal) S_ .f32 0x00000000#32) pads_S128x128x128_S128x128x256_000_000_12800 h_S_ : A3)
    (pad S128x128x256 ![0, 0, 0] ![0, 0, 128] ![0, 0, 0]
      (extractStridedSlice S128x128x128 ![0, 0, 0] x slices_S128x128x256_S128x128x128_0_0_0 : Half)
      (constant (F := Ideal) S_ .f32 0x00000000#32) pads_S128x128x128_S128x128x256_000_000_01280 h_S_ : A3)

theorem zero_word (i : S_.Idx) : constant (F := Ideal) S_ .f32 0x00000000#32 i = (0 : EReal) := Ideal.ofBits_zero_f32

theorem unflipT_apply (x : A3) (q r : Fin 128) (j : Fin 256) : unflipT x (ValueIdx.ix3 q r j) = x (ValueIdx.ix3 (tm j q.val) r j) := by
  unfold unflipT
  show (_ + _ : EReal) = _
  rcases lo_or_hi j with ⟨i, rfl⟩ | ⟨i, rfl⟩
  · rw [tm_lo i q.isLt]
    rw [pad_apply_of_not_inside (s := S128x128x128) (t := S128x128x256) ![0, 0, 128] ![0, 0, 0] ![0, 0, 0] _ _ _ h_S_ (ValueIdx.ix3 q r (lo i)) (2 : Fin 3)
        (fun h => by have h1 : 128 ≤ i.val := h.1; omega), zero_word, zero_add]
    refine (pad_apply_of_inside (s := S128x128x128) (t := S128x128x256) ![0, 0, 0] ![0, 0, 128] ![0, 0, 0] _ _ _ h_S_ (ValueIdx.ix3 q r (lo i)) (ValueIdx.ix3 q r i) (fun a => ?_)).trans (slice_lo x q r i)
    match a with
    | ⟨0, _⟩ => show q.val = 0 + q.val * 1; omega
    | ⟨1, _⟩ => show r.val = 0 + r.val * 1; omega
    | ⟨2, _⟩ => show i.val = 0 + i.val * 1; omega
  · rw [tm_hi i q.isLt]
    rw [pad_apply_of_not_inside (s := S128x128x128) (t := S128x128x256) ![0, 0, 0] ![0, 0, 128] ![0, 0, 0] _ _ _ h_S_ (ValueIdx.ix3 q r (hi i)) (2 : Fin 3)
        (fun h => by
          have h1 : (128 + i.val - 0) / 1 < 128 := h.2.2
          omega), zero_word, add_zero]
    refine (pad_apply_of_inside (s := S128x128x128) (t := S128x128x256) ![0, 0, 128] ![0, 0, 0] ![0, 0, 0] _ _ _ h_S_ (ValueIdx.ix3 q r (hi i)) (ValueIdx.ix3 q r i) (fun a => ?_)).trans
      ((rev_apply _ q r i).trans (slice_hi x _ r i))
    match a with
    | ⟨0, _⟩ => show q.val = 0 + q.val * 1; omega
    | ⟨1, _⟩ => show r.val = 0 + r.val * 1; omega
    | ⟨2, _⟩ => show 128 + i.val = 128 + i.val * 1; omega

/-- The trip's number, and the chunk the second loop visits at that trip. -/
theorem word_k (k : ℕ) (hk : k < 128) : (Scf.iv 0#32 1#32 k).toInt = k := by
  have : ∀ k : Fin 128, (Scf.iv 0#32 1#32 k.val).toInt = (k.val : ℤ) := by decide +kernel
  exact this ⟨k, hk⟩
theorem word_r (k : ℕ) (hk : k < 128) : ((128#32 - Scf.iv 0#32 1#32 k) - 1#32).toInt = (127 - k : ℕ) := by
  have : ∀ k : Fin 128, ((128#32 - Scf.iv 0#32 1#32 k.val) - 1#32).toInt = ((127 - k.val : ℕ) : ℤ) := by decide +kernel
  exact this ⟨k, hk⟩

/-- A buffer that neither the body nor the condition writes keeps its contents through the loop. -/
theorem fwd_keep (W : Dev nD → Valuation τ sig (Elt Ideal)) (c : Dev nD) (b : Ref sig .tc) (hb : b ∉ fwd0W++fwd1W++fwd2W++fwd3W++fwd4W++fwdTestW) :
    ∀ k, atTrip fwdTest fwdBody W k c (Proc.devRef .tc b) = W c (Proc.devRef .tc b)
  | 0 => rfl
  | k + 1 => by
    have hb' := hb
    simp only [List.mem_append, not_or] at hb'
    obtain ⟨⟨⟨⟨⟨h0, h1⟩, h2⟩, h3⟩, h4⟩, h5⟩ := hb'
    refine Eq.trans (?_ : _ = atTrip fwdTest fwdBody W k c (Proc.devRef .tc b)) (fwd_keep W c b hb k)
    show afterL fwdBody (after fwdTest (atTrip fwdTest fwdBody W k c)) (Proc.devRef .tc b) = _
    simp only [afterL_cons, afterL_nil]
    rw [after_of_writes_sub fwd4 _ fwd4_writes h4, after_of_writes_sub fwd3 _ fwd3_writes h3, after_of_writes_sub fwd2 _ fwd2_writes h2, after_of_writes_sub fwd1 _ fwd1_writes h1, after_of_writes_sub fwd0 _ fwd0_writes h0,
      after_of_writes_sub fwdTest _ fwdTest_writes h5]

theorem fwd_keep' (W : Dev nD → Valuation τ sig (Elt Ideal)) (c : Dev nD) (b : Ref sig .tc) (hb : b ∉ fwd0W++fwd1W++fwd2W++fwd3W++fwd4W++fwdTestW) :
    fwdLoop.leave W c (Proc.devRef .tc b) = W c (Proc.devRef .tc b) :=
  (after_of_writes_sub fwdTest _ fwdTest_writes (fun h => hb (List.mem_append_right _ h))).trans (fwd_keep W c b hb 128)

/-- A buffer that neither the body nor the condition writes keeps its contents through the loop. -/
theorem bwd_keep (W : Dev nD → Valuation τ sig (Elt Ideal)) (c : Dev nD) (b : Ref sig .tc) (hb : b ∉ bwd0W++bwd1W++bwd2W++bwd3W++bwd4W++bwd5W++bwd6W++bwdTestW) :
    ∀ k, atTrip bwdTest bwdBody W k c (Proc.devRef .tc b) = W c (Proc.devRef .tc b)
  | 0 => rfl
  | k + 1 => by
    have hb' := hb
    simp only [List.mem_append, not_or] at hb'
    obtain ⟨⟨⟨⟨⟨⟨⟨h0, h1⟩, h2⟩, h3⟩, h4⟩, h5⟩, h6⟩, h7⟩ := hb'
    refine Eq.trans (?_ : _ = atTrip bwdTest bwdBody W k c (Proc.devRef .tc b)) (bwd_keep W c b hb k)
    show afterL bwdBody (after bwdTest (atTrip bwdTest bwdBody W k c)) (Proc.devRef .tc b) = _
    simp only [afterL_cons, afterL_nil]
    rw [after_of_writes_sub bwd6 _ bwd6_writes h6, after_of_writes_sub bwd5 _ bwd5_writes h5, after_of_writes_sub bwd4 _ bwd4_writes h4, after_of_writes_sub bwd3 _ bwd3_writes h3, after_of_writes_sub bwd2 _ bwd2_writes h2, after_of_writes_sub bwd1 _ bwd1_writes h1, after_of_writes_sub bwd0 _ bwd0_writes h0,
      after_of_writes_sub bwdTest _ bwdTest_writes h7]

theorem bwd_keep' (W : Dev nD → Valuation τ sig (Elt Ideal)) (c : Dev nD) (b : Ref sig .tc) (hb : b ∉ bwd0W++bwd1W++bwd2W++bwd3W++bwd4W++bwd5W++bwd6W++bwdTestW) :
    bwdLoop.leave W c (Proc.devRef .tc b) = W c (Proc.devRef .tc b) :=
  (after_of_writes_sub bwdTest _ bwdTest_writes (fun h => hb (List.mem_append_right _ h))).trans (bwd_keep W c b hb 128)

/-! ## The first loop -/

/-- What the buffers hold before trip `k` of the first loop, for the arguments `s`, `a`, `b`. -/
structure Fwd (a b : A2) (s : A3) (V : Valuation τ sig (Elt Ideal)) (k : ℕ) : Prop where
  x0 : V (Proc.devRef .tc main_v7_0) = flipT s
  x1 : V (Proc.devRef .tc main_v7_1) = a
  x2 : V (Proc.devRef .tc main_v7_2) = b
  x3 : V (Proc.devRef .tc main_v7_3) = fun _ => Scf.iv 0#32 1#32 k
  x4 : ∀ r j, (V (Proc.devRef .tc main_v7_4) : A2) (ValueIdx.ix2 r j) = H a b s k r j
  x5 : ∀ q r j, q.val < k → (V (Proc.devRef .tc main_v7_5) : A3) (ValueIdx.ix3 q r j) = H a b s q.val r j
  x6 : ∀ q r j, q.val < k → (V (Proc.devRef .tc main_v7_6) : A3) (ValueIdx.ix3 q r j) = H a b s q.val r (sw j)

theorem fwd_step {a b : A2} {s : A3} {V : Valuation τ sig (Elt Ideal)} {k : ℕ} (hk : k < 128) (h : Fwd a b s V k) :
    Fwd a b s (afterL fwdBody (after fwdTest V)) (k + 1) where
  x0 := (fwd_trip_0 V).trans h.x0
  x1 := (fwd_trip_1 V).trans h.x1
  x2 := (fwd_trip_2 V).trans h.x2
  x3 := by rw [fwd_count V, h.x3, Scf.iv_succ]; rfl
  x4 := fun r j => by
    rw [fwd_trip_4 V, h.x0, h.x1, h.x2, h.x3, H_succ]
    show ((a (ValueIdx.ix2 r j) * (V (Proc.devRef .tc main_v7_4) : A2) (ValueIdx.ix2 r j) + b (ValueIdx.ix2 r j) * swapT (V (Proc.devRef .tc main_v7_4)) (ValueIdx.ix2 r j))
      + rowT (flipT s) (fun _ => Scf.iv 0#32 1#32 k) (ValueIdx.ix2 r j) : EReal) = _
    rw [swapT_apply, h.x4, h.x4, rowT_apply _ hk (word_k k hk), flipT_apply]
  x5 := fun q r j hq => by
    rw [fwd_trip_5 V, h.x3]
    by_cases e : q.val = k
    · rw [putT_apply_at _ _ hk (word_k k hk) q r j e, h.x4, e]
    · rw [putT_apply_ne _ _ hk (word_k k hk) q r j e, h.x5 q r j (by omega)]
  x6 := fun q r j hq => by
    rw [fwd_trip_6 V, h.x3]
    by_cases e : q.val = k
    · rw [putT_apply_at _ _ hk (word_k k hk) q r j e, swapT_apply, h.x4, e]
    · rw [putT_apply_ne _ _ hk (word_k k hk) q r j e, h.x6 q r j (by omega)]

theorem fwd_all {a b : A2} {s : A3} {W : Dev nD → Valuation τ sig (Elt Ideal)} {c : Dev nD} (h : Fwd a b s (W c) 0) :
    ∀ k ≤ 128, Fwd a b s (atTrip fwdTest fwdBody W k c) k
  | 0, _ => h
  | k + 1, hk => fwd_step (by omega) (fwd_all h k (by omega))

/-! ## The second loop -/

/-- What the buffers hold before trip `k` of the second loop, for the coefficients `a`, `b`, the states `h` the first loop
    stacked, and the states' cotangent `d`. -/
structure Bwd (a b : A2) (s d : A3) (V : Valuation τ sig (Elt Ideal)) (k : ℕ) : Prop where
  x0 : ∀ q r j, (V (Proc.devRef .tc main_v23_0) : A3) (ValueIdx.ix3 q r j) = d (ValueIdx.ix3 (tm j q.val) r j)
  x1 : ∀ q r j, (V (Proc.devRef .tc main_v23_1) : A3) (ValueIdx.ix3 q r j) = H a b s q.val r j
  x2 : ∀ q r j, (V (Proc.devRef .tc main_v23_2) : A3) (ValueIdx.ix3 q r j) = H a b s q.val r (sw j)
  x3 : V (Proc.devRef .tc main_v23_3) = a
  x4 : V (Proc.devRef .tc main_v23_4) = b
  x5 : V (Proc.devRef .tc main_v23_5) = fun _ => Scf.iv 0#32 1#32 k
  x6 : ∀ r j, (V (Proc.devRef .tc main_v23_6) : A2) (ValueIdx.ix2 r j) = GA a b (hin a b s) d k r j
  x7 : ∀ r j, (V (Proc.devRef .tc main_v23_7) : A2) (ValueIdx.ix2 r j) = GB a b (hin a b s) d k r j
  x8 : ∀ r j, (V (Proc.devRef .tc main_v23_8) : A2) (ValueIdx.ix2 r j) = G a b d k r j
  x9 : ∀ q r j, 128 - k ≤ q.val → (V (Proc.devRef .tc main_v23_9) : A3) (ValueIdx.ix3 q r j) = G a b d (127 - q.val) r j

theorem hin_at (a b : A2) (s : A3) (n : ℕ) (hn : n < 128) (r : Fin 128) (j : Fin 256) :
    hin a b s (ValueIdx.ix3 (tm j n) r j) = H a b s n r j := by
  show H a b s (tm j (tm j n).val).val r j = _
  rw [tm_tm j ⟨n, hn⟩]
theorem hin_at_sw (a b : A2) (s : A3) (n : ℕ) (hn : n < 128) (r : Fin 128) (j : Fin 256) :
    hin a b s (ValueIdx.ix3 (tm j n) r (sw j)) = H a b s n r (sw j) := by
  rw [← tm_sw j n, hin_at a b s n hn]

/-- The word of the chunk the second loop visits at trip `k`. -/
abbrev visit (k : ℕ) : W0 := subi (subi (constantI S_ 32 128#32) (fun _ => Scf.iv 0#32 1#32 k)) (constantI S_ 32 1#32)

set_option maxHeartbeats 2000000 in
theorem bwd_step {a b : A2} {s d : A3} {V : Valuation τ sig (Elt Ideal)} {k : ℕ} (hk : k < 128) (h : Bwd a b s d V k) :
    Bwd a b s d (afterL bwdBody (after bwdTest V)) (k + 1) where
  x0 := by rw [bwd_trip_0 V]; exact h.x0
  x1 := by rw [bwd_trip_1 V]; exact h.x1
  x2 := by rw [bwd_trip_2 V]; exact h.x2
  x3 := (bwd_trip_3 V).trans h.x3
  x4 := (bwd_trip_4 V).trans h.x4
  x5 := by rw [bwd_count V, h.x5, Scf.iv_succ]; rfl
  x6 := fun r j => by
    rw [bwd_trip_6 V, h.x5, GA_succ]
    refine congrArg₂ (fun x y : EReal => x + y) (h.x6 r j) (congrArg₂ (fun x y : EReal => x * y) (h.x8 r j) ?_)
    exact (rowT_apply _ (show 127 - k < 128 by omega) (word_r k hk) r j).trans ((h.x1 _ r j).trans (hin_at a b s _ (by omega) r j).symm)
  x7 := fun r j => by
    rw [bwd_trip_7 V, h.x5, GB_succ]
    refine congrArg₂ (fun x y : EReal => x + y) (h.x7 r j) (congrArg₂ (fun x y : EReal => x * y) (h.x8 r j) ?_)
    exact (rowT_apply _ (show 127 - k < 128 by omega) (word_r k hk) r j).trans ((h.x2 _ r j).trans (hin_at_sw a b s _ (by omega) r j).symm)
  x8 := fun r j => by
    rw [bwd_trip_8 V, h.x5, h.x3, h.x4, G_succ]
    refine congrArg₂ (fun x y : EReal => x + y) (congrArg₂ (fun x y : EReal => x + y) ?_
      (congrArg (fun y : EReal => a (ValueIdx.ix2 r j) * y) (h.x8 r j))) ?_
    · exact (rowT_apply _ (show 127 - k < 128 by omega) (word_r k hk) r j).trans (h.x0 _ r j)
    · exact (swapT_apply _ r j).trans (congrArg (fun y : EReal => b (ValueIdx.ix2 r (sw j)) * y) (h.x8 r (sw j)))
  x9 := fun q r j hq => by
    rw [bwd_trip_9 V, h.x5]
    by_cases e : q.val = 127 - k
    · rw [putT_apply_at _ _ (show 127 - k < 128 by omega) (word_r k hk) q r j e, h.x8, e, show 127 - (127 - k) = k by omega]
    · rw [putT_apply_ne _ _ (show 127 - k < 128 by omega) (word_r k hk) q r j e, h.x9 q r j (by omega)]

theorem bwd_all {a b : A2} {s d : A3} {W : Dev nD → Valuation τ sig (Elt Ideal)} {c : Dev nD} (h : Bwd a b s d (W c) 0) :
    ∀ k ≤ 128, Bwd a b s d (atTrip bwdTest bwdBody W k c) k
  | 0, _ => h
  | k + 1, hk => bwd_step (by omega) (bwd_all h k (by omega))

/-! ## The stretches before, between and after the loops -/

variable (m : (ℓ : Loc nD τ sig) → Buf (Elt Ideal) ℓ) (ρ : Dev nD → PrngReg) (c : Dev nD)

abbrev argS : A3 := m ((c.tc : Thread nD τ).loc main_arg0)
abbrev argA : A2 := m ((c.tc : Thread nD τ).loc main_arg1)
abbrev argB : A2 := m ((c.tc : Thread nD τ).loc main_arg2)
abbrev argD : A3 := m ((c.tc : Thread nD τ).loc main_arg3)

theorem pre_keep (b : Ref sig .tc) (hb : b ∉ pre0W) : entry m c (Proc.devRef .tc b) = m ((c.tc : Thread nD τ).loc b) :=
  after_of_writes_sub pre0 _ pre0_writes hb

set_option maxRecDepth 100000 in
theorem pre0_main_v7_0 (Y : Valuation τ sig (Elt Ideal)) : after pre0 Y (Proc.devRef .tc main_v7_0)
    = flipT (Y (Proc.devRef .tc main_arg0)) := by
  after_results <;> rfl

set_option maxRecDepth 100000 in
theorem pre0_main_v7_1 (Y : Valuation τ sig (Elt Ideal)) : after pre0 Y (Proc.devRef .tc main_v7_1)
    = (Y (Proc.devRef .tc main_arg1)) := by
  after_results <;> rfl

set_option maxRecDepth 100000 in
theorem pre0_main_v7_2 (Y : Valuation τ sig (Elt Ideal)) : after pre0 Y (Proc.devRef .tc main_v7_2)
    = (Y (Proc.devRef .tc main_arg2)) := by
  after_results <;> rfl

set_option maxRecDepth 100000 in
theorem pre0_main_v7_4 (Y : Valuation τ sig (Elt Ideal)) : after pre0 Y (Proc.devRef .tc main_v7_4)
    = (broadcastInDim S128x256 ![] bcast_S_S128x256 (constant (F := Ideal) S_ .f32 0x00000000#32) : A2) := by
  after_results <;> rfl

set_option maxRecDepth 100000 in
theorem mid0_main_v11 (Y : Valuation τ sig (Elt Ideal)) : after mid0 Y (Proc.devRef .tc main_v11)
    = flipT (Y (Proc.devRef .tc main_v7_5)) := by
  after_results <;> rfl

set_option maxRecDepth 100000 in
theorem mid0_main_v23_0 (Y : Valuation τ sig (Elt Ideal)) : after mid0 Y (Proc.devRef .tc main_v23_0)
    = unflipT (Y (Proc.devRef .tc main_arg3)) := by
  after_results <;> rfl

set_option maxRecDepth 100000 in
theorem mid0_main_v23_1 (Y : Valuation τ sig (Elt Ideal)) : after mid0 Y (Proc.devRef .tc main_v23_1)
    = (Y (Proc.devRef .tc main_v7_5)) := by
  after_results <;> rfl

set_option maxRecDepth 100000 in
theorem mid0_main_v23_2 (Y : Valuation τ sig (Elt Ideal)) : after mid0 Y (Proc.devRef .tc main_v23_2)
    = (Y (Proc.devRef .tc main_v7_6)) := by
  after_results <;> rfl

set_option maxRecDepth 100000 in
theorem mid0_main_v23_3 (Y : Valuation τ sig (Elt Ideal)) : after mid0 Y (Proc.devRef .tc main_v23_3)
    = (Y (Proc.devRef .tc main_arg1)) := by
  after_results <;> rfl

set_option maxRecDepth 100000 in
theorem mid0_main_v23_4 (Y : Valuation τ sig (Elt Ideal)) : after mid0 Y (Proc.devRef .tc main_v23_4)
    = (Y (Proc.devRef .tc main_arg2)) := by
  after_results <;> rfl

set_option maxRecDepth 100000 in
theorem mid0_main_v23_6 (Y : Valuation τ sig (Elt Ideal)) : after mid0 Y (Proc.devRef .tc main_v23_6)
    = (broadcastInDim S128x256 ![] bcast_S_S128x256 (constant (F := Ideal) S_ .f32 0x00000000#32) : A2) := by
  after_results <;> rfl

set_option maxRecDepth 100000 in
theorem mid0_main_v23_7 (Y : Valuation τ sig (Elt Ideal)) : after mid0 Y (Proc.devRef .tc main_v23_7)
    = (broadcastInDim S128x256 ![] bcast_S_S128x256 (constant (F := Ideal) S_ .f32 0x00000000#32) : A2) := by
  after_results <;> rfl

set_option maxRecDepth 100000 in
theorem mid0_main_v23_8 (Y : Valuation τ sig (Elt Ideal)) : after mid0 Y (Proc.devRef .tc main_v23_8)
    = (broadcastInDim S128x256 ![] bcast_S_S128x256 (constant (F := Ideal) S_ .f32 0x00000000#32) : A2) := by
  after_results <;> rfl

set_option maxRecDepth 100000 in
theorem post0_main_v29 (Y : Valuation τ sig (Elt Ideal)) : after post0 Y (Proc.devRef .tc main_v29)
    = unflipT (Y (Proc.devRef .tc main_v23_9)) := by
  after_results <;> rfl

theorem zeros (r : Fin 128) (j : Fin 256) :
    (broadcastInDim S128x256 ![] bcast_S_S128x256 (constant (F := Ideal) S_ .f32 0x00000000#32) : A2) (ValueIdx.ix2 r j) = (0 : EReal) := zero_word _

theorem fwd_start : Fwd (argA m c) (argB m c) (argS m c) (entry m c) 0 where
  x0 := pre0_main_v7_0 _
  x1 := pre0_main_v7_1 _
  x2 := pre0_main_v7_2 _
  x3 := (entry_counter m c).trans (by rw [Scf.iv_zero])
  x4 := fun r j => (congrFun (pre0_main_v7_4 _) (ValueIdx.ix2 r j)).trans (zeros r j)
  x5 := fun q r j hq => absurd hq (Nat.not_lt_zero _)
  x6 := fun q r j hq => absurd hq (Nat.not_lt_zero _)

theorem fwd_end : Fwd (argA m c) (argB m c) (argS m c) (atTrip fwdTest fwdBody (entry m) 128 c) 128 :=
  fwd_all (fwd_start m c) 128 le_rfl

/-- A buffer that the condition does not write, after the first loop. -/
theorem leave_fwd (b : Ref sig .tc) (hb : b ∉ fwdTestW) :
    fwdLoop.leave (entry m) c (Proc.devRef .tc b) = atTrip fwdTest fwdBody (entry m) 128 c (Proc.devRef .tc b) :=
  after_of_writes_sub fwdTest _ fwdTest_writes hb
theorem leave_bwd (b : Ref sig .tc) (hb : b ∉ bwdTestW) :
    bwdLoop.leave (entry' m) c (Proc.devRef .tc b) = atTrip bwdTest bwdBody (entry' m) 128 c (Proc.devRef .tc b) :=
  after_of_writes_sub bwdTest _ bwdTest_writes hb

/-- An argument is as it was when the second loop is entered. -/
theorem mid_keep (b : Ref sig .tc) (h0 : b ∉ pre0W) (h1 : b ∉ fwd0W ++ fwd1W ++ fwd2W ++ fwd3W ++ fwd4W ++ fwdTestW) :
    fwdLoop.leave (entry m) c (Proc.devRef .tc b) = m ((c.tc : Thread nD τ).loc b) :=
  (fwd_keep' (entry m) c b h1).trans (pre_keep m c b h0)

theorem bwd_start : Bwd (argA m c) (argB m c) (argS m c) (argD m c) (entry' m c) 0 where
  x0 := fun q r j => by
    refine (congrFun (mid0_main_v23_0 _) (ValueIdx.ix3 q r j)).trans ?_
    rw [mid_keep m c main_arg3 (by decide +kernel) (by decide +kernel), unflipT_apply]
  x1 := fun q r j => by
    refine (congrFun (mid0_main_v23_1 _) (ValueIdx.ix3 q r j)).trans ?_
    rw [leave_fwd m c main_v7_5 (by decide +kernel), (fwd_end m c).x5 q r j q.isLt]
  x2 := fun q r j => by
    refine (congrFun (mid0_main_v23_2 _) (ValueIdx.ix3 q r j)).trans ?_
    rw [leave_fwd m c main_v7_6 (by decide +kernel), (fwd_end m c).x6 q r j q.isLt]
  x3 := (mid0_main_v23_3 _).trans (mid_keep m c main_arg1 (by decide +kernel) (by decide +kernel))
  x4 := (mid0_main_v23_4 _).trans (mid_keep m c main_arg2 (by decide +kernel) (by decide +kernel))
  x5 := (entry'_counter m c).trans (by rw [Scf.iv_zero])
  x6 := fun r j => (congrFun (mid0_main_v23_6 _) (ValueIdx.ix2 r j)).trans (zeros r j)
  x7 := fun r j => (congrFun (mid0_main_v23_7 _) (ValueIdx.ix2 r j)).trans (zeros r j)
  x8 := fun r j => (congrFun (mid0_main_v23_8 _) (ValueIdx.ix2 r j)).trans (zeros r j)
  x9 := fun q r j hq => absurd q.isLt (by omega)

theorem bwd_end : Bwd (argA m c) (argB m c) (argS m c) (argD m c) (atTrip bwdTest bwdBody (entry' m) 128 c) 128 :=
  bwd_all (bwd_start m c) 128 le_rfl

/-! ## The results -/

theorem afterL_post (X : Valuation τ sig (Elt Ideal)) : afterL post X = after post0 X := rfl
theorem afterL_mid (X : Valuation τ sig (Elt Ideal)) : afterL mid X = after mid0 X := rfl

/-- A buffer the last stretch does not write keeps what the second loop left. -/
theorem fin_of_post (b : Ref sig .tc) (h : b ∉ post0W) :
    fin m c (Proc.devRef .tc b) = bwdLoop.leave (entry' m) c (Proc.devRef .tc b) := by
  unfold fin TwoLoops.finals
  rw [afterL_post, after_of_writes_sub post0 _ post0_writes h]
theorem entry'_of_mid (b : Ref sig .tc) (h : b ∉ mid0W) :
    entry' m c (Proc.devRef .tc b) = fwdLoop.leave (entry m) c (Proc.devRef .tc b) := by
  unfold entry'
  rw [afterL_mid, after_of_writes_sub mid0 _ mid0_writes h]

theorem fin_v11 : fin m c (Proc.devRef .tc main_v11) = hin (argA m c) (argB m c) (argS m c) := by
  refine (fin_of_post m c main_v11 (by decide +kernel)).trans ?_
  refine (bwd_keep' (entry' m) c main_v11 (by decide +kernel)).trans ?_
  unfold entry'
  rw [afterL_mid, mid0_main_v11, leave_fwd m c main_v7_5 (by decide +kernel)]
  funext y
  obtain ⟨q, r, j, rfl⟩ : ∃ q r j, y = ValueIdx.ix3 q r j := ⟨_, _, _, ValueIdx.eq_ix3 y⟩
  refine (flipT_apply _ q r j).trans ?_
  exact (fwd_end m c).x5 _ _ _ (Fin.isLt _)

theorem fin_v29 : fin m c (Proc.devRef .tc main_v29) = ds (argA m c) (argB m c) (argD m c) := by
  unfold fin TwoLoops.finals
  rw [afterL_post, post0_main_v29]
  funext y
  change unflipT (bwdLoop.leave (entry' m) c (Proc.devRef .tc main_v23_9)) y = _
  rw [leave_bwd m c main_v23_9 (by decide +kernel)]
  obtain ⟨q, r, j, rfl⟩ : ∃ q r j, y = ValueIdx.ix3 q r j := ⟨_, _, _, ValueIdx.eq_ix3 y⟩
  refine (unflipT_apply _ q r j).trans ?_
  exact (bwd_end m c).x9 _ _ _ (Nat.zero_le _)

theorem fin_v23_6 : fin m c (Proc.devRef .tc main_v23_6)
    = (fun y : S128x256.Idx => GA (argA m c) (argB m c) (hin (argA m c) (argB m c) (argS m c)) (argD m c) 128 (y 0) (y 1)) := by
  refine (fin_of_post m c main_v23_6 (by decide +kernel)).trans ?_
  refine (leave_bwd m c main_v23_6 (by decide +kernel)).trans (funext fun y => ?_)
  obtain ⟨r, j, rfl⟩ : ∃ r j, y = ValueIdx.ix2 r j := ⟨_, _, ValueIdx.eq_ix2 y⟩
  exact (bwd_end m c).x6 r j

theorem fin_v23_7 : fin m c (Proc.devRef .tc main_v23_7)
    = (fun y : S128x256.Idx => GB (argA m c) (argB m c) (hin (argA m c) (argB m c) (argS m c)) (argD m c) 128 (y 0) (y 1)) := by
  refine (fin_of_post m c main_v23_7 (by decide +kernel)).trans ?_
  refine (leave_bwd m c main_v23_7 (by decide +kernel)).trans (funext fun y => ?_)
  obtain ⟨r, j, rfl⟩ : ∃ r j, y = ValueIdx.ix2 r j := ⟨_, _, ValueIdx.eq_ix2 y⟩
  exact (bwd_end m c).x7 r j

theorem fin_arg (b : Ref sig .tc) (h0 : b ∉ pre0W) (h1 : b ∉ fwd0W ++ fwd1W ++ fwd2W ++ fwd3W ++ fwd4W ++ fwdTestW) (h2 : b ∉ mid0W)
    (h3 : b ∉ bwd0W ++ bwd1W ++ bwd2W ++ bwd3W ++ bwd4W ++ bwd5W ++ bwd6W ++ bwdTestW) (h4 : b ∉ post0W) :
    fin m c (Proc.devRef .tc b) = m ((c.tc : Thread nD τ).loc b) :=
  (fin_of_post m c b h4).trans ((bwd_keep' (entry' m) c b h3).trans ((entry'_of_mid m c b h2).trans (mid_keep m c b h0 h1)))

/-- THE RUN: the four results are `CarrySpec`'s functions of the arguments, and the arguments are as they were. -/
theorem run : θ_run (defs (F := Ideal)) (onTc (τ := τ) (main (F := Ideal))) ⟨m, fun _ => 0, ρ⟩ (fun r => ∀ c : Dev nD,
      r.2.mem ((c.tc : Thread nD τ).loc main_v11) = hin (argA m c) (argB m c) (argS m c)
      ∧ r.2.mem ((c.tc : Thread nD τ).loc main_v29) = ds (argA m c) (argB m c) (argD m c)
      ∧ r.2.mem ((c.tc : Thread nD τ).loc main_v23_6)
          = (fun y : S128x256.Idx => GA (argA m c) (argB m c) (hin (argA m c) (argB m c) (argS m c)) (argD m c) 128 (y 0) (y 1))
      ∧ r.2.mem ((c.tc : Thread nD τ).loc main_v23_7)
          = (fun y : S128x256.Idx => GB (argA m c) (argB m c) (hin (argA m c) (argB m c) (argS m c)) (argD m c) 128 (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) (onTc (τ := τ) (main (F := Ideal))) ⟨m, fun _ => 0, ρ⟩).mono (fun _ h c =>
    ⟨(h c main_v11 (by decide)).trans (fin_v11 m c), (h c main_v29 (by decide)).trans (fin_v29 m c),
     (h c main_v23_6 (by decide)).trans (fin_v23_6 m c), (h c main_v23_7 (by decide)).trans (fin_v23_7 m c),
     (h c main_arg0 (by decide)).trans (fin_arg m c main_arg0 (by decide +kernel) (by decide +kernel) (by decide +kernel) (by decide +kernel) (by decide +kernel)),
     (h c main_arg1 (by decide)).trans (fin_arg m c main_arg1 (by decide +kernel) (by decide +kernel) (by decide +kernel) (by decide +kernel) (by decide +kernel)),
     (h c main_arg2 (by decide)).trans (fin_arg m c main_arg2 (by decide +kernel) (by decide +kernel) (by decide +kernel) (by decide +kernel) (by decide +kernel)),
     (h c main_arg3 (by decide)).trans (fin_arg m c main_arg3 (by decide +kernel) (by decide +kernel) (by decide +kernel) (by decide +kernel) (by decide +kernel))⟩)
    (run_fold (F := Ideal) m ρ)

/-- The reference has no semaphore. -/
theorem no_sems (s : MemSt nD τ sig (Elt Ideal)) : s.sem = fun _ => 0 := sem_eq_zero_of_no_sems rfl s

end Cert.CarryRef

end
-- ==== Proof.CarryClaims.lean ====
/- The claims about the carried states: the reference's frame, and the equality of the four results. -/
module

public import proofs.«01_k».proof.Defs
public import proofs.«01_k».proof.Proof.CarryRun
public import proofs.«01_k».proof.Proof.CarryRefValue

@[expose] public section

noncomputable section

namespace Cert.CarryClaims

open Idealize.ShloMosaic Idealize.SL.Sem Cert.Carry

/-- The reference ends, with its arguments as they were; it has no semaphore. -/
theorem frame_reference : Cert.quiescent_ReferenceIdeal := fun m ρ _ =>
  (θ_run Cert.ReferenceIdeal.defs _ _).mono (fun _ h => ⟨fun c => (h c).2.2.2.2, Cert.CarryRef.no_sems _⟩) (Cert.CarryRef.run m ρ)

/-- Kernel and reference end with the same states and the same three gradients. -/
theorem algebraic : Cert.algebraic_KernelIdeal_ReferenceIdeal := fun m ρ m' ρ' _ hag =>
  ⟨fun c => hin (argA m c) (argB m c) (argS m c),
   fun c => ds (argA m c) (argB m c) (argD m c),
   fun c => (fun y : Cert.KernelIdeal.S128x256.Idx => GA (argA m c) (argB m c) (hin (argA m c) (argB m c) (argS m c)) (argD m c) 128 (y 0) (y 1)),
   fun c => (fun y : Cert.KernelIdeal.S128x256.Idx => GB (argA m c) (argB m c) (hin (argA m c) (argB m c) (argS m c)) (argD m c) 128 (y 0) (y 1)),
   run m ρ,
   (θ_run Cert.ReferenceIdeal.defs _ _).mono (fun r h c => by
      have e0 : Cert.CarryRef.argS m' c = argS m c := (hag c).1
      have e1 : Cert.CarryRef.argA m' c = argA m c := (hag c).2.1
      have e2 : Cert.CarryRef.argB m' c = argB m c := (hag c).2.2.1
      have e3 : Cert.CarryRef.argD m' c = argD m c := (hag c).2.2.2
      have hc := h c
      rw [e0, e1, e2, e3] at hc
      exact hc) (Cert.CarryRef.run m' ρ')⟩

end Cert.CarryClaims

end
-- ==== Proof.Dots.lean ====
/- A product of two matrices, read at an index, in the three layouts the programs use, and the gradient of a
   product's weight, tile by tile. -/
module

public import Idealize.ShloMosaic.Lib.ValueIdx
public import Idealize.ShloMosaic.Lib.MatmulPlain
public import Idealize.ShloMosaic.Lib.Pointwise.Contract
public import Idealize.ShloMosaic.Lib.Pointwise.Sums

@[expose] public section

noncomputable section

namespace Cert.Dots

open Idealize.ShloMosaic

variable {M K N : Nat}

/-- `K×M` by `K×N`, both contracted on the first axis. -/
def firsts (M K N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem plain (x : (⟨2, ![M, K]⟩ : Shape).Idx → EReal) (y : (⟨2, ![K, N]⟩ : Shape).Idx → EReal) (acc : (⟨2, ![M, N]⟩ : Shape).Idx → EReal) (r : Fin M) (c : Fin N) :
    Ideal.matmul (DotDims.plain M K N) x y acc (ValueIdx.ix2 r c) = acc (ValueIdx.ix2 r c) + ∑ k : Fin K, x (ValueIdx.ix2 r k) * y (ValueIdx.ix2 k c) :=
  Ideal.matmul_plain_apply (φ₁ := .f32) (φ₂ := .f32) none x y acc r c

theorem rows (x : (⟨2, ![M, K]⟩ : Shape).Idx → EReal) (y : (⟨2, ![N, K]⟩ : Shape).Idx → EReal) (acc : (⟨2, ![M, N]⟩ : Shape).Idx → EReal) (r : Fin M) (c : Fin N) :
    Ideal.matmul (DotDims.transposedRhs M K N) x y acc (ValueIdx.ix2 r c) = acc (ValueIdx.ix2 r c) + ∑ k : Fin K, x (ValueIdx.ix2 r k) * y (ValueIdx.ix2 c k) :=
  Ideal.matmul_transposedRhs_apply (φ₁ := .f32) (φ₂ := .f32) none x y acc r c

theorem cols (x : (⟨2, ![K, M]⟩ : Shape).Idx → EReal) (y : (⟨2, ![K, N]⟩ : Shape).Idx → EReal) (acc : (⟨2, ![M, N]⟩ : Shape).Idx → EReal) (r : Fin M) (c : Fin N) :
    Ideal.matmul (firsts M K N) x y acc (ValueIdx.ix2 r c) = acc (ValueIdx.ix2 r c) + ∑ k : Fin K, x (ValueIdx.ix2 k r) * y (ValueIdx.ix2 k c) := by
  refine Ideal.matmul_apply₁_of (firsts M K N) rfl rfl x y acc _ _ _ (fun k => ?_) (fun k => ?_)
  · funext a; apply Fin.ext
    match a with
    | ⟨0, _⟩ => exact ((firsts M K N).lhsIdx_val_of_single rfl _ _).trans rfl
    | ⟨1, _⟩ => rfl
  · funext a; apply Fin.ext
    match a with
    | ⟨0, _⟩ => exact ((firsts M K N).rhsIdx_val_of_single rfl _ _).trans rfl
    | ⟨1, _⟩ => rfl

/-- The gradient of the weight of a product: over every token, the input times the cotangent. -/
def grad {T : Nat} (a : (⟨2, ![T, M]⟩ : Shape).Idx → EReal) (b : (⟨2, ![T, N]⟩ : Shape).Idx → EReal) (i : (⟨2, ![M, N]⟩ : Shape).Idx) : EReal :=
  ∑ t : Fin T, a (ValueIdx.ix2 t (i 0 : Fin M)) * b (ValueIdx.ix2 t (i 1 : Fin N))

/-- The gradient is what four tiles of `B` tokens add up to: `x` and `y` are the tiles, read at the column `r` and `c` of theirs. -/
theorem grad_tiles {T B R C : Nat} (hT : T = 4 * B) (a : (⟨2, ![T, M]⟩ : Shape).Idx → EReal) (b : (⟨2, ![T, N]⟩ : Shape).Idx → EReal)
    (i : (⟨2, ![M, N]⟩ : Shape).Idx) (x : Fin 4 → (⟨2, ![B, R]⟩ : Shape).Idx → EReal) (y : Fin 4 → (⟨2, ![B, C]⟩ : Shape).Idx → EReal) (r : Fin R) (c : Fin C)
    (hx : ∀ q k (p : Fin T), p.val = q.val * B + k.val → x q (ValueIdx.ix2 k r) = a (ValueIdx.ix2 p (i 0 : Fin M)))
    (hy : ∀ q k (p : Fin T), p.val = q.val * B + k.val → y q (ValueIdx.ix2 k c) = b (ValueIdx.ix2 p (i 1 : Fin N))) :
    (∑ k, x 0 (ValueIdx.ix2 k r) * y 0 (ValueIdx.ix2 k c)) + (∑ k, x 1 (ValueIdx.ix2 k r) * y 1 (ValueIdx.ix2 k c))
      + (∑ k, x 2 (ValueIdx.ix2 k r) * y 2 (ValueIdx.ix2 k c)) + (∑ k, x 3 (ValueIdx.ix2 k r) * y 3 (ValueIdx.ix2 k c)) = grad a b i := by
  refine Eq.trans ?_ (Fin.sum_univ_tiles 4 B hT.symm _).symm
  refine (Fin.sum_univ_four (fun q => ∑ k, x q (ValueIdx.ix2 k r) * y q (ValueIdx.ix2 k c))).symm.trans ?_
  exact Finset.sum_congr rfl fun q _ => Finset.sum_congr rfl fun k _ => congrArg₂ (fun u v : EReal => u * v) (hx q k _ rfl) (hy q k _ rfl)

/-- Two indices of a matrix with the same coordinates. -/
theorem same (x : (⟨2, ![M, N]⟩ : Shape).Idx → EReal) {i j : (⟨2, ![M, N]⟩ : Shape).Idx} (h0 : (i 0).val = (j 0).val) (h1 : (i 1).val = (j 1).val) : x i = x j :=
  congrArg x (funext fun a => Fin.ext (by match a with | ⟨0, _⟩ => exact h0 | ⟨1, _⟩ => exact h1))

end Cert.Dots

end
-- ==== Proof.Product2.lean ====
/- The gradients of the two halves of the channel mixer's first weight (`ffn_up_dw_val`, `ffn_up_dw_gate`): what the kernel accumulates over its four tiles of tokens is the sum over
   all the tokens, which is what the pull-back of the product computes. -/
module

public import proofs.«01_k».proof.Defs
public import proofs.«01_k».proof.Proof.Dots
public import proofs.«01_k».proof.Proof.Gen.Kernel2Ideal.Value
public import proofs.«01_k».proof.Proof.Gen.Reference2Ideal.Run
public import proofs.«01_k».proof.Proof.Gen.Reference2Ideal.Read
public import Idealize.ShloMosaic.Lib.ValueIdx
public import Idealize.ShloMosaic.Lib.Pointwise.Sums
public import Idealize.ShloMosaic.Lib.Pointwise.Contract
public import Idealize.ShloMosaic.Lib.Quiescent

@[expose] public section

set_option maxRecDepth 16384

noncomputable section

namespace Cert.Product2

open Cert.Kernel2Ideal Cert.Kernel2Ideal.Gen Cert.Kernel2Ideal.Value
open Cert.Reference2Ideal.Read
open Idealize.ShloMosaic Idealize.ShloMosaic.TcCoe Idealize.SL.Sem

/-- The gradient of the weight of a product: over every token, the input times the cotangent. -/
def grad (a : (⟨S8192x1024, .bf16⟩ : BufTy).Contents (Elt Ideal)) (b : (⟨S8192x3072, .bf16⟩ : BufTy).Contents (Elt Ideal)) :
    (⟨S4x1024x768, .f32⟩ : BufTy).Contents (Elt Ideal) := fun i =>
  ∑ t : Fin 8192, (a (ValueIdx.ix2 t (⟨(i 1).val, by have h0 : (i 0).val < 4 := (i 0).isLt; have h1 : (i 1).val < 1024 := (i 1).isLt; have h2 : (i 2).val < 768 := (i 2).isLt; omega⟩ : Fin 1024)) : EReal)
    * (b (ValueIdx.ix2 t (⟨((i 0).val * 768 + (i 2).val), by have h0 : (i 0).val < 4 := (i 0).isLt; have h1 : (i 1).val < 1024 := (i 1).isLt; have h2 : (i 2).val < 768 := (i 2).isLt; omega⟩ : Fin 3072)) : EReal)

/-! ## One tile -/

theorem dot_at (x : (⟨2, ![2048, 1024]⟩ : Shape).Idx → EReal) (y : (⟨2, ![2048, 768]⟩ : Shape).Idx → EReal) (acc : S1024x768.Idx → EReal) (r : Fin 1024) (c : Fin 768) :
    Ideal.matmul dot_S2048x1024_S2048x768_S1024x768_0_0_1_1_n_n x y acc (ValueIdx.ix2 r c)
      = acc (ValueIdx.ix2 r c) + ∑ k : Fin 2048, x (ValueIdx.ix2 k r) * y (ValueIdx.ix2 k c) :=
  Dots.cols x y acc r c

theorem first_at (r : Fin 1024) (c : Fin 768) : k0_pay1 (F := Ideal) (ValueIdx.ix3 (0 : Fin 1) r c) = (0 : EReal) := by
  unfold k0_pay1
  exact (shapeCast_apply _ shapeCasts_S1024x768_S1x1024x768 _ (ValueIdx.ix2 r c) (by
    rw [Shape.rowMajor_val_two, Shape.rowMajor_val_three]
    show r.val * 768 + c.val = ((0 : Fin 1).val * 1024 + r.val) * 768 + c.val
    simp)).trans Ideal.ofBits_zero_f32

/-- A step adds the tile's product to what the staging buffer holds. -/
theorem step_at (acc : Vec Ideal S1x1024x768 .f32) (x : Vec Ideal S2048x1024 .bf16) (y : Vec Ideal S2048x768 .bf16) (r : Fin 1024) (c : Fin 768) :
    k0_pay2 (F := Ideal) acc x y (ValueIdx.ix3 (0 : Fin 1) r c)
      = ((acc (ValueIdx.ix3 (0 : Fin 1) r c) : EReal) + ∑ k : Fin 2048, (x (ValueIdx.ix2 k r) : EReal) * (y (ValueIdx.ix2 k c) : EReal) : EReal) := by
  unfold k0_pay2
  refine (shapeCast_apply _ shapeCasts_S1024x768_S1x1024x768 _ (ValueIdx.ix2 r c) ?_).trans ?_
  · rw [Shape.rowMajor_val_two, Shape.rowMajor_val_three]
    show r.val * 768 + c.val = ((0 : Fin 1).val * 1024 + r.val) * 768 + c.val
    simp
  refine congrArg₂ (fun x y : EReal => x + y) (shapeCast_apply _ shapeCasts_S1x1024x768_S1024x768 _ (ValueIdx.ix3 (0 : Fin 1) r c) ?_) ?_
  · rw [Shape.rowMajor_val_two, Shape.rowMajor_val_three]
    show ((0 : Fin 1).val * 1024 + r.val) * 768 + c.val = r.val * 768 + c.val
    simp
  refine (dot_at x y _ r c).trans ?_
  exact (congrArg (fun z : EReal => z + _) Ideal.ofBits_zero_f32).trans (zero_add _)

variable (m : (ℓ : Loc nD τ sig) → Buf (Elt Ideal) ℓ) (ρ : Dev nD → PrngReg) (c : Dev nD)

abbrev argA : (⟨S8192x1024, .bf16⟩ : BufTy).Contents (Elt Ideal) := m ((c.tc : Thread nD τ).loc main_arg0)
abbrev argB : (⟨S8192x3072, .bf16⟩ : BufTy).Contents (Elt Ideal) := m ((c.tc : Thread nD τ).loc main_arg1)

/-- The blocks a grid point works on. -/
abbrev blkA (t : Fin cfg0.N) : S2048x1024.Idx → EReal := iblk m c 0 t
abbrev blkB (t : Fin cfg0.N) : S2048x768.Idx → EReal := iblk m c 1 t

theorem index0 : ∀ t : Fin cfg0.N, win0_0.index t (0 : Fin 2) = t.val % 4 ∧ win0_0.index t (1 : Fin 2) = t.val / 4 / 4 ∧ t.val / 4 / 4 < 1
    ∧ win0_1.index t (0 : Fin 2) = t.val % 4 ∧ win0_1.index t (1 : Fin 2) = t.val / 4 % 4 :=
  (by decide +kernel : ∀ t : Fin grid0.N, _)

theorem block0 (t : Fin cfg0.N) (k : Fin 2048) (r : Fin 1024) (p : Fin 8192) (q : Fin 1024) (hp : p.val = t.val % 4 * 2048 + k.val)
    (hq : q.val = t.val / 4 / 4 * 1024 + r.val) : blkA m c t (ValueIdx.ix2 k r) = argA m c (ValueIdx.ix2 p q) := by
  obtain ⟨e0, e1, -, -, -⟩ := index0 t
  refine congrArg (argA m c) (funext fun a => Fin.ext ?_)
  match a with
  | ⟨0, _⟩ => show win0_0.index t (0 : Fin 2) * 2048 + 1 * k.val = p.val; omega
  | ⟨1, _⟩ => show win0_0.index t (1 : Fin 2) * 1024 + 1 * r.val = q.val; omega

theorem block1 (t : Fin cfg0.N) (k : Fin 2048) (r : Fin 768) (p : Fin 8192) (q : Fin 3072) (hp : p.val = t.val % 4 * 2048 + k.val)
    (hq : q.val = t.val / 4 % 4 * 768 + r.val) : blkB m c t (ValueIdx.ix2 k r) = argB m c (ValueIdx.ix2 p q) := by
  obtain ⟨-, -, -, e0, e1⟩ := index0 t
  refine congrArg (argB m c) (funext fun a => Fin.ext ?_)
  match a with
  | ⟨0, _⟩ => show win0_1.index t (0 : Fin 2) * 2048 + 1 * k.val = p.val; omega
  | ⟨1, _⟩ => show win0_1.index t (1 : Fin 2) * 768 + 1 * r.val = q.val; omega

/-- The tile's part of the sum over the tokens. -/
theorem tile (i : S4x1024x768.Idx) (q : Fin 4) (h : 4 * run2Of i + q.val < cfg0.N) :
    (∑ k : Fin 2048, blkA m c ⟨4 * run2Of i + q.val, h⟩ (ValueIdx.ix2 k (⟨(i 1).val % 1024, Nat.mod_lt _ (by decide)⟩ : Fin 1024))
        * blkB m c ⟨4 * run2Of i + q.val, h⟩ (ValueIdx.ix2 k (⟨(i 2).val % 768, Nat.mod_lt _ (by decide)⟩ : Fin 768)))
      = ∑ k : Fin 2048, (argA m c (ValueIdx.ix2 (⟨q.val * 2048 + k.val, by omega⟩ : Fin 8192) (⟨(i 1).val, by have h0 : (i 0).val < 4 := (i 0).isLt; have h1 : (i 1).val < 1024 := (i 1).isLt; have h2 : (i 2).val < 768 := (i 2).isLt; omega⟩ : Fin 1024)) : EReal)
          * (argB m c (ValueIdx.ix2 (⟨q.val * 2048 + k.val, by omega⟩ : Fin 8192) (⟨((i 0).val * 768 + (i 2).val), by have h0 : (i 0).val < 4 := (i 0).isLt; have h1 : (i 1).val < 1024 := (i 1).isLt; have h2 : (i 2).val < 768 := (i 2).isLt; omega⟩ : Fin 3072)) : EReal) := by
  have h0 : (i 0).val < 4 := (i 0).isLt; have h1 : (i 1).val < 1024 := (i 1).isLt; have h2 : (i 2).val < 768 := (i 2).isLt
  have hr : run2Of i = 1 * ((i 0).val / 1 - 0) + 1 * ((i 1).val / 1024 - 0) + 1 * ((i 2).val / 768 - 0) := rfl
  have hq := q.isLt
  refine Finset.sum_congr rfl fun k _ => ?_
  rw [block0 m c ⟨4 * run2Of i + q.val, h⟩ k _ (⟨q.val * 2048 + k.val, by omega⟩ : Fin 8192) (⟨(i 1).val, by omega⟩ : Fin 1024)
      (by show q.val * 2048 + k.val = (4 * run2Of i + q.val) % 4 * 2048 + k.val; omega)
      (by show (i 1).val = (4 * run2Of i + q.val) / 4 / 4 * 1024 + (i 1).val % 1024; omega),
    block1 m c ⟨4 * run2Of i + q.val, h⟩ k _ (⟨q.val * 2048 + k.val, by omega⟩ : Fin 8192) (⟨((i 0).val * 768 + (i 2).val), by omega⟩ : Fin 3072)
      (by show q.val * 2048 + k.val = (4 * run2Of i + q.val) % 4 * 2048 + k.val; omega)
      (by show ((i 0).val * 768 + (i 2).val) = (4 * run2Of i + q.val) / 4 % 4 * 768 + (i 2).val % 768; omega)]

theorem result : G2 m c = grad (argA m c) (argB m c) := by
  funext i
  have h0 : (i 0).val < 4 := (i 0).isLt; have h1 : (i 1).val < 1024 := (i 1).isLt; have h2 : (i 2).val < 768 := (i 2).isLt
  have hr : run2Of i = 1 * ((i 0).val / 1 - 0) + 1 * ((i 1).val / 1024 - 0) + 1 * ((i 2).val / 768 - 0) := rfl
  have hN : cfg0.N = 16 := N_0
  have hx : 4 * run2Of i + 3 < cfg0.N := by omega
  unfold G2
  rw [dif_pos hx]
  have hl : loc2Of i = (ValueIdx.ix3 (0 : Fin 1) (⟨(i 1).val % 1024, Nat.mod_lt _ (by decide)⟩ : Fin 1024) (⟨(i 2).val % 768, Nat.mod_lt _ (by decide)⟩ : Fin 768)) := by
    funext a; apply Fin.ext
    match a with
    | ⟨0, _⟩ => show (i 0).val % 1 = 0; omega
    | ⟨1, _⟩ => rfl
    | ⟨2, _⟩ => rfl
  rw [hl]
  have e1 : 4 * run2Of i + 1 < cfg0.N := by omega
  have e2 : 4 * run2Of i + 2 < cfg0.N := by omega
  have e0 : 4 * run2Of i + 0 < cfg0.N := by omega
  show step2 m c (4 * run2Of i + 3) hx (step2 m c (4 * run2Of i + 2) e2 (step2 m c (4 * run2Of i + 1) e1 (reset2 m c (4 * run2Of i) e0))) (ValueIdx.ix3 (0 : Fin 1) (⟨(i 1).val % 1024, Nat.mod_lt _ (by decide)⟩ : Fin 1024) (⟨(i 2).val % 768, Nat.mod_lt _ (by decide)⟩ : Fin 768)) = _
  unfold step2 reset2
  rw [step_at, step_at, step_at, step_at, first_at, zero_add]
  rw [show grad (argA m c) (argB m c) i = _ from Fin.sum_univ_tiles 4 2048 rfl _, Fin.sum_univ_four]
  exact congrArg₂ (fun x y : EReal => x + y) (congrArg₂ (fun x y : EReal => x + y) (congrArg₂ (fun x y : EReal => x + y)
    (tile m c i 0 e0) (tile m c i 1 e1)) (tile m c i 2 e2)) (tile m c i 3 hx)

/-! ## The reference -/

theorem reference (x0 : (⟨S8192x1024, .bf16⟩ : BufTy).Contents (Elt Ideal)) (x1 : (⟨S8192x3072, .bf16⟩ : BufTy).Contents (Elt Ideal)) :
    val_main_v7 (F := Ideal) x0 x1 = grad x0 x1 := by
  funext i
  have h0 : (i 0).val < 4 := (i 0).isLt; have h1 : (i 1).val < 1024 := (i 1).isLt; have h2 : (i 2).val < 768 := (i 2).isLt
  rw [val_main_v7_apply, val_main_v6_apply, val_main_v5_apply,
    val_main_v4_apply]
  refine Finset.sum_congr rfl fun k _ => ?_
  refine (mul_comm (G := EReal) _ _).trans (congrArg₂ (fun x y : EReal => x * y) ?_ ?_)
  · show (x0 _ : EReal) = x0 _
    refine congrArg x0 (funext fun a => Fin.ext ?_)
    match a with
    | ⟨0, _⟩ => rfl
    | ⟨1, _⟩ => show (((i 1).val * 4 + (i 0).val) * 768 + (i 2).val) / 3072 = (i 1).val; omega
  · show (x1 _ : EReal) = x1 _
    refine congrArg x1 (funext fun a => Fin.ext ?_)
    match a with
    | ⟨0, _⟩ => rfl
    | ⟨1, _⟩ => show (((i 1).val * 4 + (i 0).val) * 768 + (i 2).val) % 3072 = (i 0).val * 768 + (i 2).val; omega

/-! ## The claims -/

theorem frame_reference : Cert.quiescent_Reference2Ideal := fun m ρ _ =>
  (θ_run Cert.Reference2Ideal.defs _ _).mono (fun _ h => ⟨fun c => (h c).2, sem_eq_zero_of_no_sems rfl _⟩) (Cert.Reference2Ideal.Value.run (F := Ideal) m ρ)

theorem algebraic : Cert.algebraic_Kernel2Ideal_Reference2Ideal := fun m ρ m' ρ' _ hag =>
  ⟨fun c => grad (argA m c) (argB m c),
   (θ_run Cert.Kernel2Ideal.defs _ _).mono (fun _ h c => ⟨(h c).1.trans (result m c), (h c).2⟩) (Cert.Kernel2Ideal.Value.run (F := Ideal) m ρ),
   (θ_run Cert.Reference2Ideal.defs _ _).mono (fun _ h c => ⟨(h c).1.trans (by
      rw [(hag c).1, (hag c).2]
      exact reference _ _), (h c).2⟩) (Cert.Reference2Ideal.Value.run (F := Ideal) m' ρ')⟩

end Cert.Product2

end
-- ==== Proof.Product3.lean ====
/- The gradient of the channel mixer's second weight (`ffn_down_dw`): what the kernel accumulates over its four tiles of tokens is the sum over
   all the tokens, which is what the pull-back of the product computes. -/
module

public import proofs.«01_k».proof.Defs
public import proofs.«01_k».proof.Proof.Dots
public import proofs.«01_k».proof.Proof.Gen.Kernel3Ideal.Value
public import proofs.«01_k».proof.Proof.Gen.Reference3Ideal.Run
public import proofs.«01_k».proof.Proof.Gen.Reference3Ideal.Read
public import Idealize.ShloMosaic.Lib.ValueIdx
public import Idealize.ShloMosaic.Lib.Pointwise.Sums
public import Idealize.ShloMosaic.Lib.Pointwise.Contract
public import Idealize.ShloMosaic.Lib.Quiescent

@[expose] public section

set_option maxRecDepth 16384

noncomputable section

namespace Cert.Product3

open Cert.Kernel3Ideal Cert.Kernel3Ideal.Gen Cert.Kernel3Ideal.Value
open Cert.Reference3Ideal.Read
open Idealize.ShloMosaic Idealize.ShloMosaic.TcCoe Idealize.SL.Sem

/-! ## One tile -/

/-- A step adds the tile's product to what the staging buffer holds. -/
theorem step_at (acc : Vec Ideal S1536x1024 .f32) (x : Vec Ideal S2048x1536 .bf16) (y : Vec Ideal S2048x1024 .f32) (r : Fin 1536) (c : Fin 1024) :
    k0_pay2 (F := Ideal) acc x y (ValueIdx.ix2 r c)
      = ((acc (ValueIdx.ix2 r c) : EReal) + ∑ k : Fin 2048, (x (ValueIdx.ix2 k r) : EReal) * (y (ValueIdx.ix2 k c) : EReal) : EReal) := by
  unfold k0_pay2
  exact congrArg₂ (fun x y : EReal => x + y) (congrFun (shapeCast_self _ _) _)
    ((Dots.cols x y _ r c).trans ((congrArg (fun z : EReal => z + _) Ideal.ofBits_zero_f32).trans (zero_add _)))

variable (m : (ℓ : Loc nD τ sig) → Buf (Elt Ideal) ℓ) (ρ : Dev nD → PrngReg) (c : Dev nD)

abbrev argA : S8192x3072.Idx → EReal := m ((c.tc : Thread nD τ).loc main_arg0)
abbrev argB : S8192x1024.Idx → EReal := m ((c.tc : Thread nD τ).loc main_arg1)

/-- The blocks a grid point works on. -/
abbrev blkA (t : Fin cfg0.N) : S2048x1536.Idx → EReal := iblk m c 0 t
abbrev blkB (t : Fin cfg0.N) : S2048x1024.Idx → EReal := iblk m c 1 t

theorem index0 : ∀ t : Fin cfg0.N, win0_0.index t (0 : Fin 2) = t.val % 4 ∧ win0_0.index t (1 : Fin 2) = t.val / 4 / 1 ∧ t.val / 4 / 1 < 2
    ∧ win0_1.index t (0 : Fin 2) = t.val % 4 ∧ win0_1.index t (1 : Fin 2) = t.val / 4 % 1 :=
  (by decide +kernel : ∀ t : Fin grid0.N, _)

theorem block0 (t : Fin cfg0.N) (k : Fin 2048) (r : Fin 1536) (p : Fin 8192) (q : Fin 3072) (hp : p.val = t.val % 4 * 2048 + k.val)
    (hq : q.val = t.val / 4 / 1 * 1536 + r.val) : blkA m c t (ValueIdx.ix2 k r) = argA m c (ValueIdx.ix2 p q) := by
  obtain ⟨e0, e1, -, -, -⟩ := index0 t
  exact Dots.same (argA m c) (by show win0_0.index t (0 : Fin 2) * 2048 + 1 * k.val = p.val; omega) (by show win0_0.index t (1 : Fin 2) * 1536 + 1 * r.val = q.val; omega)

theorem block1 (t : Fin cfg0.N) (k : Fin 2048) (r : Fin 1024) (p : Fin 8192) (q : Fin 1024) (hp : p.val = t.val % 4 * 2048 + k.val)
    (hq : q.val = t.val / 4 % 1 * 1024 + r.val) : blkB m c t (ValueIdx.ix2 k r) = argB m c (ValueIdx.ix2 p q) := by
  obtain ⟨-, -, -, e0, e1⟩ := index0 t
  exact Dots.same (argB m c) (by show win0_1.index t (0 : Fin 2) * 2048 + 1 * k.val = p.val; omega) (by show win0_1.index t (1 : Fin 2) * 1024 + 1 * r.val = q.val; omega)

theorem result : G2 m c = Dots.grad (argA m c) (argB m c) := by
  funext i
  have h0 : (i 0).val < 3072 := (i 0).isLt; have h1 : (i 1).val < 1024 := (i 1).isLt
  have hr : run2Of i = 1 * ((i 0).val / 1536 - 0) + 1 * ((i 1).val / 1024 - 0) := rfl
  have hN : cfg0.N = 8 := N_0
  have e (q : Fin 4) : 4 * run2Of i + q.val < cfg0.N := by omega
  obtain ⟨r, s, hl, er, es⟩ : ∃ (r : Fin 1536) (s : Fin 1024), loc2Of i = ValueIdx.ix2 r s ∧ r.val = (i 0).val % 1536 ∧ s.val = (i 1).val % 1024 :=
    ⟨loc2Of i 0, loc2Of i 1, ValueIdx.eq_ix2 _, rfl, rfl⟩
  unfold G2
  rw [dif_pos (show 4 * run2Of i + 3 < cfg0.N from e 3)]
  show step2 m c (4 * run2Of i + 3) (e 3) (step2 m c (4 * run2Of i + 2) (e 2) (step2 m c (4 * run2Of i + 1) (e 1) (reset2 m c (4 * run2Of i) (e 0)))) (loc2Of i) = _
  unfold step2 reset2
  rw [hl, step_at, step_at, step_at, step_at, show k0_pay1 (F := Ideal) _ = (0 : EReal) from Ideal.ofBits_zero_f32, zero_add]
  exact Dots.grad_tiles rfl (argA m c) (argB m c) i (fun q => blkA m c ⟨_, e q⟩) (fun q => blkB m c ⟨_, e q⟩) _ _
    (fun q k p hp => block0 m c _ k _ p (i 0) (by show p.val = (4 * run2Of i + q.val) % 4 * 2048 + k.val; omega)
      (by show (i 0).val = (4 * run2Of i + q.val) / 4 / 1 * 1536 + r.val; omega))
    (fun q k p hp => block1 m c _ k _ p (i 1) (by show p.val = (4 * run2Of i + q.val) % 4 * 2048 + k.val; omega)
      (by show (i 1).val = (4 * run2Of i + q.val) / 4 % 1 * 1024 + s.val; omega))

/-! ## The reference -/

theorem reference (x0 : S8192x3072.Idx → EReal) (x1 : S8192x1024.Idx → EReal) : val_main_v4 (F := Ideal) x0 x1 = Dots.grad x0 x1 := by
  funext i
  rw [val_main_v4_apply, val_main_v3_apply]
  exact Finset.sum_congr rfl fun k _ => (mul_comm (G := EReal) _ _).trans (congrArg₂ (fun x y : EReal => x * y) (Dots.same x0 rfl rfl) (Dots.same x1 rfl rfl))

/-! ## The claims -/

theorem frame_reference : Cert.quiescent_Reference3Ideal := fun m ρ _ =>
  (θ_run Cert.Reference3Ideal.defs _ _).mono (fun _ h => ⟨fun c => (h c).2, sem_eq_zero_of_no_sems rfl _⟩) (Cert.Reference3Ideal.Value.run (F := Ideal) m ρ)

theorem algebraic : Cert.algebraic_Kernel3Ideal_Reference3Ideal := fun m ρ m' ρ' _ hag =>
  ⟨fun c => Dots.grad (argA m c) (argB m c),
   (θ_run Cert.Kernel3Ideal.defs _ _).mono (fun _ h c => ⟨(h c).1.trans (result m c), (h c).2⟩) (Cert.Kernel3Ideal.Value.run (F := Ideal) m ρ),
   (θ_run Cert.Reference3Ideal.defs _ _).mono (fun _ h c => ⟨(h c).1.trans (by
      rw [(hag c).1, (hag c).2]
      exact reference _ _), (h c).2⟩) (Cert.Reference3Ideal.Value.run (F := Ideal) m' ρ')⟩

end Cert.Product3

end
-- ==== Proof.Product4.lean ====
/- The gradient of the channel mixer's activation (`ffn_down_dx`): each grid point writes one block of the product, and
   together the blocks are the product. -/
module

public import proofs.«01_k».proof.Defs
public import proofs.«01_k».proof.Proof.Dots
public import proofs.«01_k».proof.Proof.Gen.Kernel4Ideal.Value
public import proofs.«01_k».proof.Proof.Gen.Reference4Ideal.Run
public import proofs.«01_k».proof.Proof.Gen.Reference4Ideal.Read
public import Idealize.ShloMosaic.Lib.ValueIdx
public import Idealize.ShloMosaic.Lib.Pointwise.Contract
public import Idealize.ShloMosaic.Lib.Quiescent

@[expose] public section

set_option maxRecDepth 16384

noncomputable section

namespace Cert.Product4

open Cert.Kernel4Ideal Cert.Kernel4Ideal.Gen Cert.Kernel4Ideal.Value
open Cert.Reference4Ideal.Read
open Idealize.ShloMosaic Idealize.ShloMosaic.TcCoe Idealize.ShloMosaic.Tactic Idealize.ShloMosaic.StableHlo Idealize.SL.Sem

/-- The product of the tokens' rows with the weight. -/
def prod (a : S8192x1024.Idx → EReal) (w : S3072x1024.Idx → EReal) : S8192x3072.Idx → EReal := fun i =>
  ∑ k : Fin 1024, a (ValueIdx.ix2 (i 0 : Fin 8192) k) * w (ValueIdx.ix2 (i 1 : Fin 3072) k)

/-! ## One block -/

theorem dot_at (x : (⟨2, ![1024, 1024]⟩ : Shape).Idx → EReal) (y : S1536x1024.Idx → EReal) (acc : S1024x1536.Idx → EReal) (r : Fin 1024) (c : Fin 1536) :
    Ideal.matmul dot_S1024x1024_S1536x1024_S1024x1536_1_1_0_0_n_n x y acc (ValueIdx.ix2 r c)
      = acc (ValueIdx.ix2 r c) + ∑ k : Fin 1024, x (ValueIdx.ix2 r k) * y (ValueIdx.ix2 c k) :=
  Dots.rows x y acc r c

theorem block_at (x : Vec Ideal S1024x1024 .f32) (y : Vec Ideal S1536x1024 .bf16) (r : Fin 1024) (cc : Fin 1536) :
    k0_pay1 (F := Ideal) x y (ValueIdx.ix2 r cc) = (∑ k : Fin 1024, (x (ValueIdx.ix2 r k) : EReal) * (y (ValueIdx.ix2 cc k) : EReal) : EReal) := by
  unfold k0_pay1
  show Ideal.matmul dot_S1024x1024_S1536x1024_S1024x1536_1_1_0_0_n_n x (shapeCast S1536x1024 y shapeCasts_S1536x1024_S1536x1024) (constant (F := Ideal) S1024x1536 .f32 0x00000000#32) (ValueIdx.ix2 r cc) = _
  refine (dot_at x _ _ r cc).trans ?_
  refine (congrArg (fun z : EReal => z + _) Ideal.ofBits_zero_f32).trans ((zero_add _).trans ?_)
  exact Finset.sum_congr rfl fun k _ => congrArg (fun z : EReal => (x (ValueIdx.ix2 r k) : EReal) * z) (congrFun (shapeCast_self _ _) _)

variable (m : (ℓ : Loc nD τ sig) → Buf (Elt Ideal) ℓ) (ρ : Dev nD → PrngReg) (c : Dev nD)

abbrev argA : S8192x1024.Idx → EReal := m ((c.tc : Thread nD τ).loc main_arg0)
/-- The weight as the kernel receives it. -/
abbrev argW : S3072x1024.Idx → EReal := V m c main_v2

/-- The blocks a grid point works on. -/
abbrev blkA (t : Fin cfg0.N) : S1024x1024.Idx → EReal := iblk m c 0 t
abbrev blkB (t : Fin cfg0.N) : S1536x1024.Idx → EReal := iblk m c 1 t

theorem index : ∀ t : Fin cfg0.N, win0_0.index t (0 : Fin 2) = t.val / 2 ∧ win0_0.index t (1 : Fin 2) = 0
    ∧ win0_1.index t (0 : Fin 2) = t.val % 2 ∧ win0_1.index t (1 : Fin 2) = 0
    ∧ win0_2.index t (0 : Fin 2) = t.val / 2 ∧ win0_2.index t (1 : Fin 2) = t.val % 2 :=
  (by decide +kernel : ∀ t : Fin grid0.N, _)

theorem block0 (t : Fin cfg0.N) (r : Fin 1024) (k : Fin 1024) (p : Fin 8192) (hp : p.val = t.val / 2 * 1024 + r.val) :
    blkA m c t (ValueIdx.ix2 r k) = argA m c (ValueIdx.ix2 p k) := by
  obtain ⟨e0, e1, -, -, -, -⟩ := index t
  refine (congrFun (V_main_arg0 m c) _).trans (congrArg (argA m c) (funext fun a => Fin.ext ?_))
  match a with
  | ⟨0, _⟩ => show win0_0.index t (0 : Fin 2) * 1024 + 1 * r.val = p.val; omega
  | ⟨1, _⟩ => show win0_0.index t (1 : Fin 2) * 1024 + 1 * k.val = k.val; omega

theorem block1 (t : Fin cfg0.N) (cc : Fin 1536) (k : Fin 1024) (i : S8192x3072.Idx) (hi : (i 1).val = t.val % 2 * 1536 + cc.val) :
    blkB m c t (ValueIdx.ix2 cc k) = argW m c (ValueIdx.ix2 (i 1 : Fin 3072) k) := by
  obtain ⟨-, -, e0, e1, -, -⟩ := index t
  refine congrArg (argW m c) (funext fun a => Fin.ext ?_)
  match a with
  | ⟨0, _⟩ => show win0_1.index t (0 : Fin 2) * 1536 + 1 * cc.val = (i 1).val; omega
  | ⟨1, _⟩ => show win0_1.index t (1 : Fin 2) * 1024 + 1 * k.val = k.val; omega

theorem block2 (t : Fin cfg0.N) (y : S1024x1536.Idx) : (((cfg0.win 2).blk t).view.emb y (0 : Fin 2)).val = t.val / 2 * 1024 + (y 0).val
    ∧ (((cfg0.win 2).blk t).view.emb y (1 : Fin 2)).val = t.val % 2 * 1536 + (y 1).val := by
  obtain ⟨-, -, -, -, e0, e1⟩ := index t
  constructor
  · show win0_2.index t (0 : Fin 2) * 1024 + 1 * (y 0).val = _; omega
  · show win0_2.index t (1 : Fin 2) * 1536 + 1 * (y 1).val = _; omega

theorem flushes : ∀ t : Fin cfg0.N, (cfg0.win 2).flush t = true := (by decide +kernel : ∀ t : Fin grid0.N, win0_2.flush t = true)

theorem covered (i : S8192x3072.Idx) : ∃ t : Fin cfg0.N, (cfg0.win 2).flush t = true ∧ i ∈ ((cfg0.win 2).blk t).view.set := by
  have h0 : (i 0).val < 8192 := (i 0).isLt
  have h1 : (i 1).val < 3072 := (i 1).isLt
  have hN : cfg0.N = 16 := N_0
  have ht : (i 0).val / 1024 * 2 + (i 1).val / 1536 < cfg0.N := by omega
  refine ⟨⟨(i 0).val / 1024 * 2 + (i 1).val / 1536, ht⟩, flushes _, ?_⟩
  have h := ((cfg0.win 2).blk ⟨(i 0).val / 1024 * 2 + (i 1).val / 1536, ht⟩).view.emb_mem_set
    (ValueIdx.ix2 (⟨(i 0).val % 1024, Nat.mod_lt _ (by decide)⟩ : Fin 1024) (⟨(i 1).val % 1536, Nat.mod_lt _ (by decide)⟩ : Fin 1536))
  have hb := block2 ⟨(i 0).val / 1024 * 2 + (i 1).val / 1536, ht⟩
    (ValueIdx.ix2 (⟨(i 0).val % 1024, Nat.mod_lt _ (by decide)⟩ : Fin 1024) (⟨(i 1).val % 1536, Nat.mod_lt _ (by decide)⟩ : Fin 1536))
  refine (congrArg (· ∈ _) ?_).mp h
  funext a; apply Fin.ext
  match a with
  | ⟨0, _⟩ =>
    refine hb.1.trans ?_
    show ((i 0).val / 1024 * 2 + (i 1).val / 1536) / 2 * 1024 + (i 0).val % 1024 = (i 0).val; omega
  | ⟨1, _⟩ =>
    refine hb.2.trans ?_
    show ((i 0).val / 1024 * 2 + (i 1).val / 1536) % 2 * 1536 + (i 1).val % 1536 = (i 1).val; omega

theorem result : (dats m 0 c).arrAt 2 cfg0.N = prod (argA m c) (argW m c) := by
  refine (dats m 0 c).arrAt_eq_of_cover 2 (prod (argA m c) (argW m c)) (fun t _ => ?_) covered
  refine (flushed2 m c t).trans ?_
  funext (y : S1024x1536.Idx)
  obtain ⟨r, cc, rfl⟩ : ∃ r cc, y = ValueIdx.ix2 r cc := ⟨_, _, ValueIdx.eq_ix2 y⟩
  show out0_2 (iblk m c 0 t) (iblk m c 1 t) (ValueIdx.ix2 r cc) = prod (argA m c) (argW m c) (((cfg0.win 2).blk t).view.emb (ValueIdx.ix2 r cc))
  unfold out0_2
  refine (congrFun (View.canon_unit_zero (S := S1024x1536) (by decide) _ _) _).trans ?_
  rw [View.ld_unit_zero (S := S1024x1024) (by decide), View.ld_unit_zero (S := S1536x1024) (by decide)]
  refine (block_at _ _ r cc).trans ?_
  obtain ⟨hb0, hb1⟩ := block2 t (ValueIdx.ix2 r cc)
  refine Finset.sum_congr rfl fun k _ => congrArg₂ (fun x y : EReal => x * y) ?_ ?_
  · exact block0 m c t r k _ hb0
  · exact block1 m c t cc k _ hb1

/-! ## The prepared weight and the reference -/

theorem weight : argW m c = val_main_v1 (F := Ideal) (m ((c.tc : Thread nD τ).loc main_arg1)) := by
  show StableHlo.after (List.flatten [hostOps0, hostOps0_1, hostOps0_2]) (fun b => m (c, b)) (Proc.devRef .tc main_v2) = _
  simp only [hostOps0, hostOps0_1, hostOps0_2, List.flatten_cons, List.flatten_nil, List.append_nil, List.cons_append, List.nil_append, TRef.binary, TRef.unary, TRef.toBuf, TRef.ofBuf, cast_eq]
  after_results <;> rfl

theorem reference (x0 : (⟨S8192x1024, .f32⟩ : BufTy).Contents (Elt Ideal)) (x1 : (⟨S4x704x1024, .f32⟩ : BufTy).Contents (Elt Ideal)) :
    val_main_v5 (F := Ideal) x0 x1 = prod x0 (val_main_v1 (F := Ideal) x1) := by
  funext i
  refine Eq.trans (b := val_main_v4 (F := Ideal) x0 x1 i) rfl ?_
  rw [val_main_v4_apply]
  refine Finset.sum_congr rfl fun k _ => congrArg₂ (fun x y : EReal => x * y) ?_ ?_
  · show (x0 _ : EReal) = x0 _
    refine congrArg x0 (funext fun a => Fin.ext ?_)
    match a with
    | ⟨0, _⟩ => rfl
    | ⟨1, _⟩ => rfl
  · refine congrArg (val_main_v1 (F := Ideal) x1) (funext fun a => Fin.ext ?_)
    match a with
    | ⟨0, _⟩ => rfl
    | ⟨1, _⟩ => rfl

/-! ## The claims -/

theorem frame_reference : Cert.quiescent_Reference4Ideal := fun m ρ _ =>
  (θ_run Cert.Reference4Ideal.defs _ _).mono (fun _ h => ⟨fun c => (h c).2, sem_eq_zero_of_no_sems rfl _⟩) (Cert.Reference4Ideal.Value.run (F := Ideal) m ρ)

theorem algebraic : Cert.algebraic_Kernel4Ideal_Reference4Ideal := fun m ρ m' ρ' _ hag =>
  ⟨fun c => prod (argA m c) (argW m c),
   (θ_run Cert.Kernel4Ideal.defs _ _).mono (fun _ h c => ⟨(h c).1.trans (result m c), (h c).2⟩) (Cert.Kernel4Ideal.Value.run_blocks (F := Ideal) m ρ),
   (θ_run Cert.Reference4Ideal.defs _ _).mono (fun _ h c => ⟨(h c).1.trans (by
      rw [(hag c).1, (hag c).2]
      exact (reference _ _).trans (congrArg (prod _) (weight m c).symm)), (h c).2⟩) (Cert.Reference4Ideal.Value.run (F := Ideal) m' ρ')⟩

end Cert.Product4

end
-- ==== Proof.Product5.lean ====
/- The gradient of the output projection's input (`out_proj_dx`): each grid point writes one block of the product, and
   together the blocks are the product. -/
module

public import proofs.«01_k».proof.Defs
public import proofs.«01_k».proof.Proof.Dots
public import proofs.«01_k».proof.Proof.Gen.Kernel5Ideal.Value
public import proofs.«01_k».proof.Proof.Gen.Reference5Ideal.Run
public import proofs.«01_k».proof.Proof.Gen.Reference5Ideal.Read
public import Idealize.ShloMosaic.Lib.ValueIdx
public import Idealize.ShloMosaic.Lib.Pointwise.Contract
public import Idealize.ShloMosaic.Lib.Quiescent

@[expose] public section

set_option maxRecDepth 16384

noncomputable section

namespace Cert.Product5

open Cert.Kernel5Ideal Cert.Kernel5Ideal.Gen Cert.Kernel5Ideal.Value
open Cert.Reference5Ideal.Read
open Idealize.ShloMosaic Idealize.ShloMosaic.TcCoe Idealize.ShloMosaic.Tactic Idealize.ShloMosaic.StableHlo Idealize.SL.Sem

/-- The product of the tokens' rows with the weight. -/
def prod (a : S8192x1024.Idx → EReal) (w : S1536x1024.Idx → EReal) : S8192x1536.Idx → EReal := fun i =>
  ∑ k : Fin 1024, a (ValueIdx.ix2 (i 0 : Fin 8192) k) * w (ValueIdx.ix2 (i 1 : Fin 1536) k)

/-! ## One block -/

theorem dot_at (x : (⟨2, ![1024, 1024]⟩ : Shape).Idx → EReal) (y : S1536x1024.Idx → EReal) (acc : S1024x1536.Idx → EReal) (r : Fin 1024) (c : Fin 1536) :
    Ideal.matmul dot_S1024x1024_S1536x1024_S1024x1536_1_1_0_0_n_n x y acc (ValueIdx.ix2 r c)
      = acc (ValueIdx.ix2 r c) + ∑ k : Fin 1024, x (ValueIdx.ix2 r k) * y (ValueIdx.ix2 c k) :=
  Dots.rows x y acc r c

theorem block_at (x : Vec Ideal S1024x1024 .f32) (y : Vec Ideal S1536x1024 .bf16) (r : Fin 1024) (cc : Fin 1536) :
    k0_pay1 (F := Ideal) x y (ValueIdx.ix2 r cc) = (∑ k : Fin 1024, (x (ValueIdx.ix2 r k) : EReal) * (y (ValueIdx.ix2 cc k) : EReal) : EReal) := by
  unfold k0_pay1
  show Ideal.matmul dot_S1024x1024_S1536x1024_S1024x1536_1_1_0_0_n_n x (shapeCast S1536x1024 y shapeCasts_S1536x1024_S1536x1024) (constant (F := Ideal) S1024x1536 .f32 0x00000000#32) (ValueIdx.ix2 r cc) = _
  refine (dot_at x _ _ r cc).trans ?_
  refine (congrArg (fun z : EReal => z + _) Ideal.ofBits_zero_f32).trans ((zero_add _).trans ?_)
  exact Finset.sum_congr rfl fun k _ => congrArg (fun z : EReal => (x (ValueIdx.ix2 r k) : EReal) * z) (congrFun (shapeCast_self _ _) _)

variable (m : (ℓ : Loc nD τ sig) → Buf (Elt Ideal) ℓ) (ρ : Dev nD → PrngReg) (c : Dev nD)

abbrev argA : S8192x1024.Idx → EReal := m ((c.tc : Thread nD τ).loc main_arg0)
/-- The weight as the kernel receives it. -/
abbrev argW : S1536x1024.Idx → EReal := V m c main_v0

/-- The blocks a grid point works on. -/
abbrev blkA (t : Fin cfg0.N) : S1024x1024.Idx → EReal := iblk m c 0 t
abbrev blkB (t : Fin cfg0.N) : S1536x1024.Idx → EReal := iblk m c 1 t

theorem index : ∀ t : Fin cfg0.N, win0_0.index t (0 : Fin 2) = t.val / 1 ∧ win0_0.index t (1 : Fin 2) = 0
    ∧ win0_1.index t (0 : Fin 2) = t.val % 1 ∧ win0_1.index t (1 : Fin 2) = 0
    ∧ win0_2.index t (0 : Fin 2) = t.val / 1 ∧ win0_2.index t (1 : Fin 2) = t.val % 1 :=
  (by decide +kernel : ∀ t : Fin grid0.N, _)

theorem block0 (t : Fin cfg0.N) (r : Fin 1024) (k : Fin 1024) (p : Fin 8192) (hp : p.val = t.val / 1 * 1024 + r.val) :
    blkA m c t (ValueIdx.ix2 r k) = argA m c (ValueIdx.ix2 p k) := by
  obtain ⟨e0, e1, -, -, -, -⟩ := index t
  refine (congrFun (V_main_arg0 m c) _).trans (congrArg (argA m c) (funext fun a => Fin.ext ?_))
  match a with
  | ⟨0, _⟩ => show win0_0.index t (0 : Fin 2) * 1024 + 1 * r.val = p.val; omega
  | ⟨1, _⟩ => show win0_0.index t (1 : Fin 2) * 1024 + 1 * k.val = k.val; omega

theorem block1 (t : Fin cfg0.N) (cc : Fin 1536) (k : Fin 1024) (i : S8192x1536.Idx) (hi : (i 1).val = t.val % 1 * 1536 + cc.val) :
    blkB m c t (ValueIdx.ix2 cc k) = argW m c (ValueIdx.ix2 (i 1 : Fin 1536) k) := by
  obtain ⟨-, -, e0, e1, -, -⟩ := index t
  refine congrArg (argW m c) (funext fun a => Fin.ext ?_)
  match a with
  | ⟨0, _⟩ => show win0_1.index t (0 : Fin 2) * 1536 + 1 * cc.val = (i 1).val; omega
  | ⟨1, _⟩ => show win0_1.index t (1 : Fin 2) * 1024 + 1 * k.val = k.val; omega

theorem block2 (t : Fin cfg0.N) (y : S1024x1536.Idx) : (((cfg0.win 2).blk t).view.emb y (0 : Fin 2)).val = t.val / 1 * 1024 + (y 0).val
    ∧ (((cfg0.win 2).blk t).view.emb y (1 : Fin 2)).val = t.val % 1 * 1536 + (y 1).val := by
  obtain ⟨-, -, -, -, e0, e1⟩ := index t
  constructor
  · show win0_2.index t (0 : Fin 2) * 1024 + 1 * (y 0).val = _; omega
  · show win0_2.index t (1 : Fin 2) * 1536 + 1 * (y 1).val = _; omega

theorem flushes : ∀ t : Fin cfg0.N, (cfg0.win 2).flush t = true := (by decide +kernel : ∀ t : Fin grid0.N, win0_2.flush t = true)

theorem covered (i : S8192x1536.Idx) : ∃ t : Fin cfg0.N, (cfg0.win 2).flush t = true ∧ i ∈ ((cfg0.win 2).blk t).view.set := by
  have h0 : (i 0).val < 8192 := (i 0).isLt
  have h1 : (i 1).val < 1536 := (i 1).isLt
  have hN : cfg0.N = 8 := N_0
  have ht : (i 0).val / 1024 * 1 + (i 1).val / 1536 < cfg0.N := by omega
  refine ⟨⟨(i 0).val / 1024 * 1 + (i 1).val / 1536, ht⟩, flushes _, ?_⟩
  have h := ((cfg0.win 2).blk ⟨(i 0).val / 1024 * 1 + (i 1).val / 1536, ht⟩).view.emb_mem_set
    (ValueIdx.ix2 (⟨(i 0).val % 1024, Nat.mod_lt _ (by decide)⟩ : Fin 1024) (⟨(i 1).val % 1536, Nat.mod_lt _ (by decide)⟩ : Fin 1536))
  have hb := block2 ⟨(i 0).val / 1024 * 1 + (i 1).val / 1536, ht⟩
    (ValueIdx.ix2 (⟨(i 0).val % 1024, Nat.mod_lt _ (by decide)⟩ : Fin 1024) (⟨(i 1).val % 1536, Nat.mod_lt _ (by decide)⟩ : Fin 1536))
  refine (congrArg (· ∈ _) ?_).mp h
  funext a; apply Fin.ext
  match a with
  | ⟨0, _⟩ =>
    refine hb.1.trans ?_
    show ((i 0).val / 1024 * 1 + (i 1).val / 1536) / 1 * 1024 + (i 0).val % 1024 = (i 0).val; omega
  | ⟨1, _⟩ =>
    refine hb.2.trans ?_
    show ((i 0).val / 1024 * 1 + (i 1).val / 1536) % 1 * 1536 + (i 1).val % 1536 = (i 1).val; omega

theorem result : (dats m 0 c).arrAt 2 cfg0.N = prod (argA m c) (argW m c) := by
  refine (dats m 0 c).arrAt_eq_of_cover 2 (prod (argA m c) (argW m c)) (fun t _ => ?_) covered
  refine (flushed2 m c t).trans ?_
  funext (y : S1024x1536.Idx)
  obtain ⟨r, cc, rfl⟩ : ∃ r cc, y = ValueIdx.ix2 r cc := ⟨_, _, ValueIdx.eq_ix2 y⟩
  show out0_2 (iblk m c 0 t) (iblk m c 1 t) (ValueIdx.ix2 r cc) = prod (argA m c) (argW m c) (((cfg0.win 2).blk t).view.emb (ValueIdx.ix2 r cc))
  unfold out0_2
  refine (congrFun (View.canon_unit_zero (S := S1024x1536) (by decide) _ _) _).trans ?_
  rw [View.ld_unit_zero (S := S1024x1024) (by decide), View.ld_unit_zero (S := S1536x1024) (by decide)]
  refine (block_at _ _ r cc).trans ?_
  obtain ⟨hb0, hb1⟩ := block2 t (ValueIdx.ix2 r cc)
  refine Finset.sum_congr rfl fun k _ => congrArg₂ (fun x y : EReal => x * y) ?_ ?_
  · exact block0 m c t r k _ hb0
  · exact block1 m c t cc k _ hb1

/-! ## The prepared weight and the reference -/

theorem weight : argW m c = m ((c.tc : Thread nD τ).loc main_arg1) := by
  show StableHlo.after hostOps0 (fun b => m (c, b)) (Proc.devRef .tc main_v0) = _
  simp only [hostOps0, List.flatten_cons, List.flatten_nil, List.append_nil, List.cons_append, List.nil_append, TRef.binary, TRef.unary, TRef.toBuf, TRef.ofBuf, cast_eq]
  after_results <;> rfl

theorem reference (x0 : (⟨S8192x1024, .f32⟩ : BufTy).Contents (Elt Ideal)) (x1 : (⟨S1536x1024, .f32⟩ : BufTy).Contents (Elt Ideal)) :
    val_main_v2 (F := Ideal) x0 x1 = prod x0 x1 := by
  funext i
  rw [val_main_v2_apply]
  refine Finset.sum_congr rfl fun k _ => congrArg₂ (fun x y : EReal => x * y) ?_ ?_
  · show (x0 _ : EReal) = x0 _
    refine congrArg x0 (funext fun a => Fin.ext ?_)
    match a with
    | ⟨0, _⟩ => rfl
    | ⟨1, _⟩ => rfl
  · show (x1 _ : EReal) = x1 _
    refine congrArg x1 (funext fun a => Fin.ext ?_)
    match a with
    | ⟨0, _⟩ => rfl
    | ⟨1, _⟩ => rfl

/-! ## The claims -/

theorem frame_reference : Cert.quiescent_Reference5Ideal := fun m ρ _ =>
  (θ_run Cert.Reference5Ideal.defs _ _).mono (fun _ h => ⟨fun c => (h c).2, sem_eq_zero_of_no_sems rfl _⟩) (Cert.Reference5Ideal.Value.run (F := Ideal) m ρ)

theorem algebraic : Cert.algebraic_Kernel5Ideal_Reference5Ideal := fun m ρ m' ρ' _ hag =>
  ⟨fun c => prod (argA m c) (argW m c),
   (θ_run Cert.Kernel5Ideal.defs _ _).mono (fun _ h c => ⟨(h c).1.trans (result m c), (h c).2⟩) (Cert.Kernel5Ideal.Value.run_blocks (F := Ideal) m ρ),
   (θ_run Cert.Reference5Ideal.defs _ _).mono (fun _ h c => ⟨(h c).1.trans (by
      rw [(hag c).1, (hag c).2]
      exact (reference _ _).trans (congrArg (prod _) (weight m c).symm)), (h c).2⟩) (Cert.Reference5Ideal.Value.run (F := Ideal) m' ρ')⟩

end Cert.Product5

end
-- ==== Proof.Product6.lean ====
/- The gradient of the input projection's weight, the convolution's part (`in_proj_dw_1`): what the kernel accumulates over its four tiles of tokens is the sum over
   all the tokens, which is what the pull-back of the product computes. -/
module

public import proofs.«01_k».proof.Defs
public import proofs.«01_k».proof.Proof.Dots
public import proofs.«01_k».proof.Proof.Gen.Kernel6Ideal.Value
public import proofs.«01_k».proof.Proof.Gen.Reference6Ideal.Run
public import proofs.«01_k».proof.Proof.Gen.Reference6Ideal.Read
public import Idealize.ShloMosaic.Lib.ValueIdx
public import Idealize.ShloMosaic.Lib.Pointwise.Sums
public import Idealize.ShloMosaic.Lib.Pointwise.Contract
public import Idealize.ShloMosaic.Lib.Quiescent

@[expose] public section

set_option maxRecDepth 16384

noncomputable section

namespace Cert.Product6

open Cert.Kernel6Ideal Cert.Kernel6Ideal.Gen Cert.Kernel6Ideal.Value
open Cert.Reference6Ideal.Read
open Idealize.ShloMosaic Idealize.ShloMosaic.TcCoe Idealize.SL.Sem

/-! ## One tile -/

/-- A step adds the tile's product to what the staging buffer holds. -/
theorem step_at (acc : Vec Ideal S1024x1024 .f32) (x : Vec Ideal S2048x1024 .bf16) (y : Vec Ideal S2048x1024 .f32) (r : Fin 1024) (c : Fin 1024) :
    k0_pay2 (F := Ideal) acc x y (ValueIdx.ix2 r c)
      = ((acc (ValueIdx.ix2 r c) : EReal) + ∑ k : Fin 2048, (x (ValueIdx.ix2 k r) : EReal) * (y (ValueIdx.ix2 k c) : EReal) : EReal) := by
  unfold k0_pay2
  exact congrArg₂ (fun x y : EReal => x + y) (congrFun (shapeCast_self _ _) _)
    ((Dots.cols x y _ r c).trans ((congrArg (fun z : EReal => z + _) Ideal.ofBits_zero_f32).trans (zero_add _)))

variable (m : (ℓ : Loc nD τ sig) → Buf (Elt Ideal) ℓ) (ρ : Dev nD → PrngReg) (c : Dev nD)

abbrev argA : S8192x1024.Idx → EReal := m ((c.tc : Thread nD τ).loc main_arg0)
abbrev argB : S8192x2048.Idx → EReal := m ((c.tc : Thread nD τ).loc main_arg1)

/-- The blocks a grid point works on. -/
abbrev blkA (t : Fin cfg0.N) : S2048x1024.Idx → EReal := iblk m c 0 t
abbrev blkB (t : Fin cfg0.N) : S2048x1024.Idx → EReal := iblk m c 1 t

theorem index0 : ∀ t : Fin cfg0.N, win0_0.index t (0 : Fin 2) = t.val % 4 ∧ win0_0.index t (1 : Fin 2) = t.val / 4 / 2 ∧ t.val / 4 / 2 < 1
    ∧ win0_1.index t (0 : Fin 2) = t.val % 4 ∧ win0_1.index t (1 : Fin 2) = t.val / 4 % 2 :=
  (by decide +kernel : ∀ t : Fin grid0.N, _)

theorem block0 (t : Fin cfg0.N) (k : Fin 2048) (r : Fin 1024) (p : Fin 8192) (q : Fin 1024) (hp : p.val = t.val % 4 * 2048 + k.val)
    (hq : q.val = t.val / 4 / 2 * 1024 + r.val) : blkA m c t (ValueIdx.ix2 k r) = argA m c (ValueIdx.ix2 p q) := by
  obtain ⟨e0, e1, -, -, -⟩ := index0 t
  exact Dots.same (argA m c) (by show win0_0.index t (0 : Fin 2) * 2048 + 1 * k.val = p.val; omega) (by show win0_0.index t (1 : Fin 2) * 1024 + 1 * r.val = q.val; omega)

theorem block1 (t : Fin cfg0.N) (k : Fin 2048) (r : Fin 1024) (p : Fin 8192) (q : Fin 2048) (hp : p.val = t.val % 4 * 2048 + k.val)
    (hq : q.val = t.val / 4 % 2 * 1024 + r.val) : blkB m c t (ValueIdx.ix2 k r) = argB m c (ValueIdx.ix2 p q) := by
  obtain ⟨-, -, -, e0, e1⟩ := index0 t
  exact Dots.same (argB m c) (by show win0_1.index t (0 : Fin 2) * 2048 + 1 * k.val = p.val; omega) (by show win0_1.index t (1 : Fin 2) * 1024 + 1 * r.val = q.val; omega)

theorem result : G2 m c = Dots.grad (argA m c) (argB m c) := by
  funext i
  have h0 : (i 0).val < 1024 := (i 0).isLt; have h1 : (i 1).val < 2048 := (i 1).isLt
  have hr : run2Of i = 2 * ((i 0).val / 1024 - 0) + 1 * ((i 1).val / 1024 - 0) := rfl
  have hN : cfg0.N = 8 := N_0
  have e (q : Fin 4) : 4 * run2Of i + q.val < cfg0.N := by omega
  obtain ⟨r, s, hl, er, es⟩ : ∃ (r : Fin 1024) (s : Fin 1024), loc2Of i = ValueIdx.ix2 r s ∧ r.val = (i 0).val % 1024 ∧ s.val = (i 1).val % 1024 :=
    ⟨loc2Of i 0, loc2Of i 1, ValueIdx.eq_ix2 _, rfl, rfl⟩
  unfold G2
  rw [dif_pos (show 4 * run2Of i + 3 < cfg0.N from e 3)]
  show step2 m c (4 * run2Of i + 3) (e 3) (step2 m c (4 * run2Of i + 2) (e 2) (step2 m c (4 * run2Of i + 1) (e 1) (reset2 m c (4 * run2Of i) (e 0)))) (loc2Of i) = _
  unfold step2 reset2
  rw [hl, step_at, step_at, step_at, step_at, show k0_pay1 (F := Ideal) _ = (0 : EReal) from Ideal.ofBits_zero_f32, zero_add]
  exact Dots.grad_tiles rfl (argA m c) (argB m c) i (fun q => blkA m c ⟨_, e q⟩) (fun q => blkB m c ⟨_, e q⟩) _ _
    (fun q k p hp => block0 m c _ k _ p (i 0) (by show p.val = (4 * run2Of i + q.val) % 4 * 2048 + k.val; omega)
      (by show (i 0).val = (4 * run2Of i + q.val) / 4 / 2 * 1024 + r.val; omega))
    (fun q k p hp => block1 m c _ k _ p (i 1) (by show p.val = (4 * run2Of i + q.val) % 4 * 2048 + k.val; omega)
      (by show (i 1).val = (4 * run2Of i + q.val) / 4 % 2 * 1024 + s.val; omega))

/-! ## The reference -/

theorem reference (x0 : S8192x1024.Idx → EReal) (x1 : S8192x2048.Idx → EReal) : val_main_v4 (F := Ideal) x0 x1 = Dots.grad x0 x1 := by
  funext i
  rw [val_main_v4_apply, val_main_v3_apply]
  exact Finset.sum_congr rfl fun k _ => (mul_comm (G := EReal) _ _).trans (congrArg₂ (fun x y : EReal => x * y) (Dots.same x0 rfl rfl) (Dots.same x1 rfl rfl))

/-! ## The claims -/

theorem frame_reference : Cert.quiescent_Reference6Ideal := fun m ρ _ =>
  (θ_run Cert.Reference6Ideal.defs _ _).mono (fun _ h => ⟨fun c => (h c).2, sem_eq_zero_of_no_sems rfl _⟩) (Cert.Reference6Ideal.Value.run (F := Ideal) m ρ)

theorem algebraic : Cert.algebraic_Kernel6Ideal_Reference6Ideal := fun m ρ m' ρ' _ hag =>
  ⟨fun c => Dots.grad (argA m c) (argB m c),
   (θ_run Cert.Kernel6Ideal.defs _ _).mono (fun _ h c => ⟨(h c).1.trans (result m c), (h c).2⟩) (Cert.Kernel6Ideal.Value.run (F := Ideal) m ρ),
   (θ_run Cert.Reference6Ideal.defs _ _).mono (fun _ h c => ⟨(h c).1.trans (by
      rw [(hag c).1, (hag c).2]
      exact reference _ _), (h c).2⟩) (Cert.Reference6Ideal.Value.run (F := Ideal) m' ρ')⟩

end Cert.Product6

end
-- ==== Proof.Product7.lean ====
/- The gradient of the input projection's weight, the gate's part (`in_proj_dw_0`): what the kernel accumulates over its four tiles of tokens is the sum over
   all the tokens, which is what the pull-back of the product computes. -/
module

public import proofs.«01_k».proof.Defs
public import proofs.«01_k».proof.Proof.Dots
public import proofs.«01_k».proof.Proof.Gen.Kernel7Ideal.Value
public import proofs.«01_k».proof.Proof.Gen.Reference7Ideal.Run
public import proofs.«01_k».proof.Proof.Gen.Reference7Ideal.Read
public import Idealize.ShloMosaic.Lib.ValueIdx
public import Idealize.ShloMosaic.Lib.Pointwise.Sums
public import Idealize.ShloMosaic.Lib.Pointwise.Contract
public import Idealize.ShloMosaic.Lib.Quiescent

@[expose] public section

set_option maxRecDepth 16384

noncomputable section

namespace Cert.Product7

open Cert.Kernel7Ideal Cert.Kernel7Ideal.Gen Cert.Kernel7Ideal.Value
open Cert.Reference7Ideal.Read
open Idealize.ShloMosaic Idealize.ShloMosaic.TcCoe Idealize.SL.Sem

/-! ## One tile -/

/-- A step adds the tile's product to what the staging buffer holds. -/
theorem step_at (acc : Vec Ideal S1024x1024 .f32) (x : Vec Ideal S2048x1024 .bf16) (y : Vec Ideal S2048x1024 .bf16) (r : Fin 1024) (c : Fin 1024) :
    k0_pay2 (F := Ideal) acc x y (ValueIdx.ix2 r c)
      = ((acc (ValueIdx.ix2 r c) : EReal) + ∑ k : Fin 2048, (x (ValueIdx.ix2 k r) : EReal) * (y (ValueIdx.ix2 k c) : EReal) : EReal) := by
  unfold k0_pay2
  exact congrArg₂ (fun x y : EReal => x + y) (congrFun (shapeCast_self _ _) _)
    ((Dots.cols x y _ r c).trans ((congrArg (fun z : EReal => z + _) Ideal.ofBits_zero_f32).trans (zero_add _)))

variable (m : (ℓ : Loc nD τ sig) → Buf (Elt Ideal) ℓ) (ρ : Dev nD → PrngReg) (c : Dev nD)

abbrev argA : S8192x1024.Idx → EReal := m ((c.tc : Thread nD τ).loc main_arg0)
abbrev argB : S8192x1024.Idx → EReal := m ((c.tc : Thread nD τ).loc main_arg1)

/-- The blocks a grid point works on. -/
abbrev blkA (t : Fin cfg0.N) : S2048x1024.Idx → EReal := iblk m c 0 t
abbrev blkB (t : Fin cfg0.N) : S2048x1024.Idx → EReal := iblk m c 1 t

theorem index0 : ∀ t : Fin cfg0.N, win0_0.index t (0 : Fin 2) = t.val % 4 ∧ win0_0.index t (1 : Fin 2) = t.val / 4 / 1 ∧ t.val / 4 / 1 < 1
    ∧ win0_1.index t (0 : Fin 2) = t.val % 4 ∧ win0_1.index t (1 : Fin 2) = t.val / 4 % 1 :=
  (by decide +kernel : ∀ t : Fin grid0.N, _)

theorem block0 (t : Fin cfg0.N) (k : Fin 2048) (r : Fin 1024) (p : Fin 8192) (q : Fin 1024) (hp : p.val = t.val % 4 * 2048 + k.val)
    (hq : q.val = t.val / 4 / 1 * 1024 + r.val) : blkA m c t (ValueIdx.ix2 k r) = argA m c (ValueIdx.ix2 p q) := by
  obtain ⟨e0, e1, -, -, -⟩ := index0 t
  exact Dots.same (argA m c) (by show win0_0.index t (0 : Fin 2) * 2048 + 1 * k.val = p.val; omega) (by show win0_0.index t (1 : Fin 2) * 1024 + 1 * r.val = q.val; omega)

theorem block1 (t : Fin cfg0.N) (k : Fin 2048) (r : Fin 1024) (p : Fin 8192) (q : Fin 1024) (hp : p.val = t.val % 4 * 2048 + k.val)
    (hq : q.val = t.val / 4 % 1 * 1024 + r.val) : blkB m c t (ValueIdx.ix2 k r) = argB m c (ValueIdx.ix2 p q) := by
  obtain ⟨-, -, -, e0, e1⟩ := index0 t
  exact Dots.same (argB m c) (by show win0_1.index t (0 : Fin 2) * 2048 + 1 * k.val = p.val; omega) (by show win0_1.index t (1 : Fin 2) * 1024 + 1 * r.val = q.val; omega)

theorem result : G2 m c = Dots.grad (argA m c) (argB m c) := by
  funext i
  have h0 : (i 0).val < 1024 := (i 0).isLt; have h1 : (i 1).val < 1024 := (i 1).isLt
  have hr : run2Of i = 1 * ((i 0).val / 1024 - 0) + 1 * ((i 1).val / 1024 - 0) := rfl
  have hN : cfg0.N = 4 := N_0
  have e (q : Fin 4) : 4 * run2Of i + q.val < cfg0.N := by omega
  obtain ⟨r, s, hl, er, es⟩ : ∃ (r : Fin 1024) (s : Fin 1024), loc2Of i = ValueIdx.ix2 r s ∧ r.val = (i 0).val % 1024 ∧ s.val = (i 1).val % 1024 :=
    ⟨loc2Of i 0, loc2Of i 1, ValueIdx.eq_ix2 _, rfl, rfl⟩
  unfold G2
  rw [dif_pos (show 4 * run2Of i + 3 < cfg0.N from e 3)]
  show step2 m c (4 * run2Of i + 3) (e 3) (step2 m c (4 * run2Of i + 2) (e 2) (step2 m c (4 * run2Of i + 1) (e 1) (reset2 m c (4 * run2Of i) (e 0)))) (loc2Of i) = _
  unfold step2 reset2
  rw [hl, step_at, step_at, step_at, step_at, show k0_pay1 (F := Ideal) _ = (0 : EReal) from Ideal.ofBits_zero_f32, zero_add]
  exact Dots.grad_tiles rfl (argA m c) (argB m c) i (fun q => blkA m c ⟨_, e q⟩) (fun q => blkB m c ⟨_, e q⟩) _ _
    (fun q k p hp => block0 m c _ k _ p (i 0) (by show p.val = (4 * run2Of i + q.val) % 4 * 2048 + k.val; omega)
      (by show (i 0).val = (4 * run2Of i + q.val) / 4 / 1 * 1024 + r.val; omega))
    (fun q k p hp => block1 m c _ k _ p (i 1) (by show p.val = (4 * run2Of i + q.val) % 4 * 2048 + k.val; omega)
      (by show (i 1).val = (4 * run2Of i + q.val) / 4 % 1 * 1024 + s.val; omega))

/-! ## The reference -/

theorem reference (x0 : S8192x1024.Idx → EReal) (x1 : S8192x1024.Idx → EReal) : val_main_v5 (F := Ideal) x0 x1 = Dots.grad x0 x1 := by
  funext i
  rw [val_main_v5_apply, val_main_v4_apply]
  exact Finset.sum_congr rfl fun k _ => (mul_comm (G := EReal) _ _).trans (congrArg₂ (fun x y : EReal => x * y) (Dots.same x0 rfl rfl) (Dots.same x1 rfl rfl))

/-! ## The claims -/

theorem frame_reference : Cert.quiescent_Reference7Ideal := fun m ρ _ =>
  (θ_run Cert.Reference7Ideal.defs _ _).mono (fun _ h => ⟨fun c => (h c).2, sem_eq_zero_of_no_sems rfl _⟩) (Cert.Reference7Ideal.Value.run (F := Ideal) m ρ)

theorem algebraic : Cert.algebraic_Kernel7Ideal_Reference7Ideal := fun m ρ m' ρ' _ hag =>
  ⟨fun c => Dots.grad (argA m c) (argB m c),
   (θ_run Cert.Kernel7Ideal.defs _ _).mono (fun _ h c => ⟨(h c).1.trans (result m c), (h c).2⟩) (Cert.Kernel7Ideal.Value.run (F := Ideal) m ρ),
   (θ_run Cert.Reference7Ideal.defs _ _).mono (fun _ h c => ⟨(h c).1.trans (by
      rw [(hag c).1, (hag c).2]
      exact reference _ _), (h c).2⟩) (Cert.Reference7Ideal.Value.run (F := Ideal) m' ρ')⟩

end Cert.Product7

end
-- ==== Proof.Product8.lean ====
/- The gradient of the input projection's weight, the S5 layer's part (`in_proj_dw_3`): what the kernel accumulates over its four tiles of tokens is the sum over
   all the tokens, which is what the pull-back of the product computes. -/
module

public import proofs.«01_k».proof.Defs
public import proofs.«01_k».proof.Proof.Dots
public import proofs.«01_k».proof.Proof.Gen.Kernel8Ideal.Value
public import proofs.«01_k».proof.Proof.Gen.Reference8Ideal.Run
public import proofs.«01_k».proof.Proof.Gen.Reference8Ideal.Read
public import Idealize.ShloMosaic.Lib.ValueIdx
public import Idealize.ShloMosaic.Lib.Pointwise.Sums
public import Idealize.ShloMosaic.Lib.Pointwise.Contract
public import Idealize.ShloMosaic.Lib.Quiescent

@[expose] public section

set_option maxRecDepth 16384

noncomputable section

namespace Cert.Product8

open Cert.Kernel8Ideal Cert.Kernel8Ideal.Gen Cert.Kernel8Ideal.Value
open Cert.Reference8Ideal.Read
open Idealize.ShloMosaic Idealize.ShloMosaic.TcCoe Idealize.SL.Sem

/-! ## One tile -/

/-- A step adds the tile's product to what the staging buffer holds. -/
theorem step_at (acc : Vec Ideal S1024x512 .f32) (x : Vec Ideal S2048x1024 .bf16) (y : Vec Ideal S2048x512 .f32) (r : Fin 1024) (c : Fin 512) :
    k0_pay2 (F := Ideal) acc x y (ValueIdx.ix2 r c)
      = ((acc (ValueIdx.ix2 r c) : EReal) + ∑ k : Fin 2048, (x (ValueIdx.ix2 k r) : EReal) * (y (ValueIdx.ix2 k c) : EReal) : EReal) := by
  unfold k0_pay2
  exact congrArg₂ (fun x y : EReal => x + y) (congrFun (shapeCast_self _ _) _)
    ((Dots.cols x y _ r c).trans ((congrArg (fun z : EReal => z + _) Ideal.ofBits_zero_f32).trans (zero_add _)))

variable (m : (ℓ : Loc nD τ sig) → Buf (Elt Ideal) ℓ) (ρ : Dev nD → PrngReg) (c : Dev nD)

abbrev argA : S8192x1024.Idx → EReal := m ((c.tc : Thread nD τ).loc main_arg0)
abbrev argB : S8192x512.Idx → EReal := m ((c.tc : Thread nD τ).loc main_arg1)

/-- The blocks a grid point works on. -/
abbrev blkA (t : Fin cfg0.N) : S2048x1024.Idx → EReal := iblk m c 0 t
abbrev blkB (t : Fin cfg0.N) : S2048x512.Idx → EReal := iblk m c 1 t

theorem index0 : ∀ t : Fin cfg0.N, win0_0.index t (0 : Fin 2) = t.val % 4 ∧ win0_0.index t (1 : Fin 2) = t.val / 4 / 1 ∧ t.val / 4 / 1 < 1
    ∧ win0_1.index t (0 : Fin 2) = t.val % 4 ∧ win0_1.index t (1 : Fin 2) = t.val / 4 % 1 :=
  (by decide +kernel : ∀ t : Fin grid0.N, _)

theorem block0 (t : Fin cfg0.N) (k : Fin 2048) (r : Fin 1024) (p : Fin 8192) (q : Fin 1024) (hp : p.val = t.val % 4 * 2048 + k.val)
    (hq : q.val = t.val / 4 / 1 * 1024 + r.val) : blkA m c t (ValueIdx.ix2 k r) = argA m c (ValueIdx.ix2 p q) := by
  obtain ⟨e0, e1, -, -, -⟩ := index0 t
  exact Dots.same (argA m c) (by show win0_0.index t (0 : Fin 2) * 2048 + 1 * k.val = p.val; omega) (by show win0_0.index t (1 : Fin 2) * 1024 + 1 * r.val = q.val; omega)

theorem block1 (t : Fin cfg0.N) (k : Fin 2048) (r : Fin 512) (p : Fin 8192) (q : Fin 512) (hp : p.val = t.val % 4 * 2048 + k.val)
    (hq : q.val = t.val / 4 % 1 * 512 + r.val) : blkB m c t (ValueIdx.ix2 k r) = argB m c (ValueIdx.ix2 p q) := by
  obtain ⟨-, -, -, e0, e1⟩ := index0 t
  exact Dots.same (argB m c) (by show win0_1.index t (0 : Fin 2) * 2048 + 1 * k.val = p.val; omega) (by show win0_1.index t (1 : Fin 2) * 512 + 1 * r.val = q.val; omega)

theorem result : G2 m c = Dots.grad (argA m c) (argB m c) := by
  funext i
  have h0 : (i 0).val < 1024 := (i 0).isLt; have h1 : (i 1).val < 512 := (i 1).isLt
  have hr : run2Of i = 1 * ((i 0).val / 1024 - 0) + 1 * ((i 1).val / 512 - 0) := rfl
  have hN : cfg0.N = 4 := N_0
  have e (q : Fin 4) : 4 * run2Of i + q.val < cfg0.N := by omega
  obtain ⟨r, s, hl, er, es⟩ : ∃ (r : Fin 1024) (s : Fin 512), loc2Of i = ValueIdx.ix2 r s ∧ r.val = (i 0).val % 1024 ∧ s.val = (i 1).val % 512 :=
    ⟨loc2Of i 0, loc2Of i 1, ValueIdx.eq_ix2 _, rfl, rfl⟩
  unfold G2
  rw [dif_pos (show 4 * run2Of i + 3 < cfg0.N from e 3)]
  show step2 m c (4 * run2Of i + 3) (e 3) (step2 m c (4 * run2Of i + 2) (e 2) (step2 m c (4 * run2Of i + 1) (e 1) (reset2 m c (4 * run2Of i) (e 0)))) (loc2Of i) = _
  unfold step2 reset2
  rw [hl, step_at, step_at, step_at, step_at, show k0_pay1 (F := Ideal) _ = (0 : EReal) from Ideal.ofBits_zero_f32, zero_add]
  exact Dots.grad_tiles rfl (argA m c) (argB m c) i (fun q => blkA m c ⟨_, e q⟩) (fun q => blkB m c ⟨_, e q⟩) _ _
    (fun q k p hp => block0 m c _ k _ p (i 0) (by show p.val = (4 * run2Of i + q.val) % 4 * 2048 + k.val; omega)
      (by show (i 0).val = (4 * run2Of i + q.val) / 4 / 1 * 1024 + r.val; omega))
    (fun q k p hp => block1 m c _ k _ p (i 1) (by show p.val = (4 * run2Of i + q.val) % 4 * 2048 + k.val; omega)
      (by show (i 1).val = (4 * run2Of i + q.val) / 4 % 1 * 512 + s.val; omega))

/-! ## The reference -/

theorem reference (x0 : S8192x1024.Idx → EReal) (x1 : S8192x512.Idx → EReal) : val_main_v4 (F := Ideal) x0 x1 = Dots.grad x0 x1 := by
  funext i
  rw [val_main_v4_apply, val_main_v3_apply]
  exact Finset.sum_congr rfl fun k _ => (mul_comm (G := EReal) _ _).trans (congrArg₂ (fun x y : EReal => x * y) (Dots.same x0 rfl rfl) (Dots.same x1 rfl rfl))

/-! ## The claims -/

theorem frame_reference : Cert.quiescent_Reference8Ideal := fun m ρ _ =>
  (θ_run Cert.Reference8Ideal.defs _ _).mono (fun _ h => ⟨fun c => (h c).2, sem_eq_zero_of_no_sems rfl _⟩) (Cert.Reference8Ideal.Value.run (F := Ideal) m ρ)

theorem algebraic : Cert.algebraic_Kernel8Ideal_Reference8Ideal := fun m ρ m' ρ' _ hag =>
  ⟨fun c => Dots.grad (argA m c) (argB m c),
   (θ_run Cert.Kernel8Ideal.defs _ _).mono (fun _ h c => ⟨(h c).1.trans (result m c), (h c).2⟩) (Cert.Kernel8Ideal.Value.run (F := Ideal) m ρ),
   (θ_run Cert.Reference8Ideal.defs _ _).mono (fun _ h c => ⟨(h c).1.trans (by
      rw [(hag c).1, (hag c).2]
      exact reference _ _), (h c).2⟩) (Cert.Reference8Ideal.Value.run (F := Ideal) m' ρ')⟩

end Cert.Product8

end
-- ==== Proof.Product9.lean ====
/- The gradient of the input projection's weight, the step sizes' part (`in_proj_dw_2`): what the kernel accumulates over its four tiles of tokens is the sum over
   all the tokens, which is what the pull-back of the product computes. -/
module

public import proofs.«01_k».proof.Defs
public import proofs.«01_k».proof.Proof.Dots
public import proofs.«01_k».proof.Proof.Gen.Kernel9Ideal.Value
public import proofs.«01_k».proof.Proof.Gen.Reference9Ideal.Run
public import proofs.«01_k».proof.Proof.Gen.Reference9Ideal.Read
public import Idealize.ShloMosaic.Lib.ValueIdx
public import Idealize.ShloMosaic.Lib.Pointwise.Sums
public import Idealize.ShloMosaic.Lib.Pointwise.Contract
public import Idealize.ShloMosaic.Lib.Quiescent

@[expose] public section

set_option maxRecDepth 16384

noncomputable section

namespace Cert.Product9

open Cert.Kernel9Ideal Cert.Kernel9Ideal.Gen Cert.Kernel9Ideal.Value
open Cert.Reference9Ideal.Read
open Idealize.ShloMosaic Idealize.ShloMosaic.TcCoe Idealize.SL.Sem

/-! ## One tile -/

/-- A step adds the tile's product to what the staging buffer holds. -/
theorem step_at (acc : Vec Ideal S1024x32 .f32) (x : Vec Ideal S2048x1024 .bf16) (y : Vec Ideal S2048x32 .f32) (r : Fin 1024) (c : Fin 32) :
    k0_pay2 (F := Ideal) acc x y (ValueIdx.ix2 r c)
      = ((acc (ValueIdx.ix2 r c) : EReal) + ∑ k : Fin 2048, (x (ValueIdx.ix2 k r) : EReal) * (y (ValueIdx.ix2 k c) : EReal) : EReal) := by
  unfold k0_pay2
  exact congrArg₂ (fun x y : EReal => x + y) (congrFun (shapeCast_self _ _) _)
    ((Dots.cols x y _ r c).trans ((congrArg (fun z : EReal => z + _) Ideal.ofBits_zero_f32).trans (zero_add _)))

variable (m : (ℓ : Loc nD τ sig) → Buf (Elt Ideal) ℓ) (ρ : Dev nD → PrngReg) (c : Dev nD)

abbrev argA : S8192x1024.Idx → EReal := m ((c.tc : Thread nD τ).loc main_arg0)
abbrev argB : S8192x32.Idx → EReal := m ((c.tc : Thread nD τ).loc main_arg1)

/-- The blocks a grid point works on. -/
abbrev blkA (t : Fin cfg0.N) : S2048x1024.Idx → EReal := iblk m c 0 t
abbrev blkB (t : Fin cfg0.N) : S2048x32.Idx → EReal := iblk m c 1 t

theorem index0 : ∀ t : Fin cfg0.N, win0_0.index t (0 : Fin 2) = t.val % 4 ∧ win0_0.index t (1 : Fin 2) = t.val / 4 / 1 ∧ t.val / 4 / 1 < 1
    ∧ win0_1.index t (0 : Fin 2) = t.val % 4 ∧ win0_1.index t (1 : Fin 2) = t.val / 4 % 1 :=
  (by decide +kernel : ∀ t : Fin grid0.N, _)

theorem block0 (t : Fin cfg0.N) (k : Fin 2048) (r : Fin 1024) (p : Fin 8192) (q : Fin 1024) (hp : p.val = t.val % 4 * 2048 + k.val)
    (hq : q.val = t.val / 4 / 1 * 1024 + r.val) : blkA m c t (ValueIdx.ix2 k r) = argA m c (ValueIdx.ix2 p q) := by
  obtain ⟨e0, e1, -, -, -⟩ := index0 t
  exact Dots.same (argA m c) (by show win0_0.index t (0 : Fin 2) * 2048 + 1 * k.val = p.val; omega) (by show win0_0.index t (1 : Fin 2) * 1024 + 1 * r.val = q.val; omega)

theorem block1 (t : Fin cfg0.N) (k : Fin 2048) (r : Fin 32) (p : Fin 8192) (q : Fin 32) (hp : p.val = t.val % 4 * 2048 + k.val)
    (hq : q.val = t.val / 4 % 1 * 32 + r.val) : blkB m c t (ValueIdx.ix2 k r) = argB m c (ValueIdx.ix2 p q) := by
  obtain ⟨-, -, -, e0, e1⟩ := index0 t
  exact Dots.same (argB m c) (by show win0_1.index t (0 : Fin 2) * 2048 + 1 * k.val = p.val; omega) (by show win0_1.index t (1 : Fin 2) * 32 + 1 * r.val = q.val; omega)

theorem result : G2 m c = Dots.grad (argA m c) (argB m c) := by
  funext i
  have h0 : (i 0).val < 1024 := (i 0).isLt; have h1 : (i 1).val < 32 := (i 1).isLt
  have hr : run2Of i = 1 * ((i 0).val / 1024 - 0) + 1 * ((i 1).val / 32 - 0) := rfl
  have hN : cfg0.N = 4 := N_0
  have e (q : Fin 4) : 4 * run2Of i + q.val < cfg0.N := by omega
  obtain ⟨r, s, hl, er, es⟩ : ∃ (r : Fin 1024) (s : Fin 32), loc2Of i = ValueIdx.ix2 r s ∧ r.val = (i 0).val % 1024 ∧ s.val = (i 1).val % 32 :=
    ⟨loc2Of i 0, loc2Of i 1, ValueIdx.eq_ix2 _, rfl, rfl⟩
  unfold G2
  rw [dif_pos (show 4 * run2Of i + 3 < cfg0.N from e 3)]
  show step2 m c (4 * run2Of i + 3) (e 3) (step2 m c (4 * run2Of i + 2) (e 2) (step2 m c (4 * run2Of i + 1) (e 1) (reset2 m c (4 * run2Of i) (e 0)))) (loc2Of i) = _
  unfold step2 reset2
  rw [hl, step_at, step_at, step_at, step_at, show k0_pay1 (F := Ideal) _ = (0 : EReal) from Ideal.ofBits_zero_f32, zero_add]
  exact Dots.grad_tiles rfl (argA m c) (argB m c) i (fun q => blkA m c ⟨_, e q⟩) (fun q => blkB m c ⟨_, e q⟩) _ _
    (fun q k p hp => block0 m c _ k _ p (i 0) (by show p.val = (4 * run2Of i + q.val) % 4 * 2048 + k.val; omega)
      (by show (i 0).val = (4 * run2Of i + q.val) / 4 / 1 * 1024 + r.val; omega))
    (fun q k p hp => block1 m c _ k _ p (i 1) (by show p.val = (4 * run2Of i + q.val) % 4 * 2048 + k.val; omega)
      (by show (i 1).val = (4 * run2Of i + q.val) / 4 % 1 * 32 + s.val; omega))

/-! ## The reference -/

theorem reference (x0 : S8192x1024.Idx → EReal) (x1 : S8192x32.Idx → EReal) : val_main_v4 (F := Ideal) x0 x1 = Dots.grad x0 x1 := by
  funext i
  rw [val_main_v4_apply, val_main_v3_apply]
  exact Finset.sum_congr rfl fun k _ => (mul_comm (G := EReal) _ _).trans (congrArg₂ (fun x y : EReal => x * y) (Dots.same x0 rfl rfl) (Dots.same x1 rfl rfl))

/-! ## The claims -/

theorem frame_reference : Cert.quiescent_Reference9Ideal := fun m ρ _ =>
  (θ_run Cert.Reference9Ideal.defs _ _).mono (fun _ h => ⟨fun c => (h c).2, sem_eq_zero_of_no_sems rfl _⟩) (Cert.Reference9Ideal.Value.run (F := Ideal) m ρ)

theorem algebraic : Cert.algebraic_Kernel9Ideal_Reference9Ideal := fun m ρ m' ρ' _ hag =>
  ⟨fun c => Dots.grad (argA m c) (argB m c),
   (θ_run Cert.Kernel9Ideal.defs _ _).mono (fun _ h c => ⟨(h c).1.trans (result m c), (h c).2⟩) (Cert.Kernel9Ideal.Value.run (F := Ideal) m ρ),
   (θ_run Cert.Reference9Ideal.defs _ _).mono (fun _ h c => ⟨(h c).1.trans (by
      rw [(hag c).1, (hag c).2]
      exact reference _ _), (h c).2⟩) (Cert.Reference9Ideal.Value.run (F := Ideal) m' ρ')⟩

end Cert.Product9

end
-- ==== Proof.Product10.lean ====
/- The gradient of the output projection's weight, the SSD rows (`out_proj_dw_ssd`): what the kernel accumulates over its four tiles of tokens is the sum over
   all the tokens, which is what the pull-back of the product computes. -/
module

public import proofs.«01_k».proof.Defs
public import proofs.«01_k».proof.Proof.Dots
public import proofs.«01_k».proof.Proof.Gen.Kernel10Ideal.Value
public import proofs.«01_k».proof.Proof.Gen.Reference10Ideal.Run
public import proofs.«01_k».proof.Proof.Gen.Reference10Ideal.Read
public import Idealize.ShloMosaic.Lib.ValueIdx
public import Idealize.ShloMosaic.Lib.Pointwise.Sums
public import Idealize.ShloMosaic.Lib.Pointwise.Contract
public import Idealize.ShloMosaic.Lib.Quiescent

@[expose] public section

set_option maxRecDepth 16384

noncomputable section

namespace Cert.Product10

open Cert.Kernel10Ideal Cert.Kernel10Ideal.Gen Cert.Kernel10Ideal.Value
open Cert.Reference10Ideal.Read
open Idealize.ShloMosaic Idealize.ShloMosaic.TcCoe Idealize.SL.Sem

/-! ## One tile -/

/-- A step adds the tile's product to what the staging buffer holds. -/
theorem step_at (acc : Vec Ideal S1024x1024 .f32) (x : Vec Ideal S2048x1024 .bf16) (y : Vec Ideal S2048x1024 .f32) (r : Fin 1024) (c : Fin 1024) :
    k0_pay2 (F := Ideal) acc x y (ValueIdx.ix2 r c)
      = ((acc (ValueIdx.ix2 r c) : EReal) + ∑ k : Fin 2048, (x (ValueIdx.ix2 k r) : EReal) * (y (ValueIdx.ix2 k c) : EReal) : EReal) := by
  unfold k0_pay2
  exact congrArg₂ (fun x y : EReal => x + y) (congrFun (shapeCast_self _ _) _)
    ((Dots.cols x y _ r c).trans ((congrArg (fun z : EReal => z + _) Ideal.ofBits_zero_f32).trans (zero_add _)))

variable (m : (ℓ : Loc nD τ sig) → Buf (Elt Ideal) ℓ) (ρ : Dev nD → PrngReg) (c : Dev nD)

abbrev argA : S8192x1024.Idx → EReal := m ((c.tc : Thread nD τ).loc main_arg0)
abbrev argB : S8192x1024.Idx → EReal := m ((c.tc : Thread nD τ).loc main_arg1)

/-- The blocks a grid point works on. -/
abbrev blkA (t : Fin cfg0.N) : S2048x1024.Idx → EReal := iblk m c 0 t
abbrev blkB (t : Fin cfg0.N) : S2048x1024.Idx → EReal := iblk m c 1 t

theorem index0 : ∀ t : Fin cfg0.N, win0_0.index t (0 : Fin 2) = t.val % 4 ∧ win0_0.index t (1 : Fin 2) = t.val / 4 / 1 ∧ t.val / 4 / 1 < 1
    ∧ win0_1.index t (0 : Fin 2) = t.val % 4 ∧ win0_1.index t (1 : Fin 2) = t.val / 4 % 1 :=
  (by decide +kernel : ∀ t : Fin grid0.N, _)

theorem block0 (t : Fin cfg0.N) (k : Fin 2048) (r : Fin 1024) (p : Fin 8192) (q : Fin 1024) (hp : p.val = t.val % 4 * 2048 + k.val)
    (hq : q.val = t.val / 4 / 1 * 1024 + r.val) : blkA m c t (ValueIdx.ix2 k r) = argA m c (ValueIdx.ix2 p q) := by
  obtain ⟨e0, e1, -, -, -⟩ := index0 t
  exact Dots.same (argA m c) (by show win0_0.index t (0 : Fin 2) * 2048 + 1 * k.val = p.val; omega) (by show win0_0.index t (1 : Fin 2) * 1024 + 1 * r.val = q.val; omega)

theorem block1 (t : Fin cfg0.N) (k : Fin 2048) (r : Fin 1024) (p : Fin 8192) (q : Fin 1024) (hp : p.val = t.val % 4 * 2048 + k.val)
    (hq : q.val = t.val / 4 % 1 * 1024 + r.val) : blkB m c t (ValueIdx.ix2 k r) = argB m c (ValueIdx.ix2 p q) := by
  obtain ⟨-, -, -, e0, e1⟩ := index0 t
  exact Dots.same (argB m c) (by show win0_1.index t (0 : Fin 2) * 2048 + 1 * k.val = p.val; omega) (by show win0_1.index t (1 : Fin 2) * 1024 + 1 * r.val = q.val; omega)

theorem result : G2 m c = Dots.grad (argA m c) (argB m c) := by
  funext i
  have h0 : (i 0).val < 1024 := (i 0).isLt; have h1 : (i 1).val < 1024 := (i 1).isLt
  have hr : run2Of i = 1 * ((i 0).val / 1024 - 0) + 1 * ((i 1).val / 1024 - 0) := rfl
  have hN : cfg0.N = 4 := N_0
  have e (q : Fin 4) : 4 * run2Of i + q.val < cfg0.N := by omega
  obtain ⟨r, s, hl, er, es⟩ : ∃ (r : Fin 1024) (s : Fin 1024), loc2Of i = ValueIdx.ix2 r s ∧ r.val = (i 0).val % 1024 ∧ s.val = (i 1).val % 1024 :=
    ⟨loc2Of i 0, loc2Of i 1, ValueIdx.eq_ix2 _, rfl, rfl⟩
  unfold G2
  rw [dif_pos (show 4 * run2Of i + 3 < cfg0.N from e 3)]
  show step2 m c (4 * run2Of i + 3) (e 3) (step2 m c (4 * run2Of i + 2) (e 2) (step2 m c (4 * run2Of i + 1) (e 1) (reset2 m c (4 * run2Of i) (e 0)))) (loc2Of i) = _
  unfold step2 reset2
  rw [hl, step_at, step_at, step_at, step_at, show k0_pay1 (F := Ideal) _ = (0 : EReal) from Ideal.ofBits_zero_f32, zero_add]
  exact Dots.grad_tiles rfl (argA m c) (argB m c) i (fun q => blkA m c ⟨_, e q⟩) (fun q => blkB m c ⟨_, e q⟩) _ _
    (fun q k p hp => block0 m c _ k _ p (i 0) (by show p.val = (4 * run2Of i + q.val) % 4 * 2048 + k.val; omega)
      (by show (i 0).val = (4 * run2Of i + q.val) / 4 / 1 * 1024 + r.val; omega))
    (fun q k p hp => block1 m c _ k _ p (i 1) (by show p.val = (4 * run2Of i + q.val) % 4 * 2048 + k.val; omega)
      (by show (i 1).val = (4 * run2Of i + q.val) / 4 % 1 * 1024 + s.val; omega))

/-! ## The reference -/

theorem reference (x0 : S8192x1024.Idx → EReal) (x1 : S8192x1024.Idx → EReal) : val_main_v4 (F := Ideal) x0 x1 = Dots.grad x0 x1 := by
  funext i
  rw [val_main_v4_apply, val_main_v3_apply]
  exact Finset.sum_congr rfl fun k _ => (mul_comm (G := EReal) _ _).trans (congrArg₂ (fun x y : EReal => x * y) (Dots.same x0 rfl rfl) (Dots.same x1 rfl rfl))

/-! ## The claims -/

theorem frame_reference : Cert.quiescent_Reference10Ideal := fun m ρ _ =>
  (θ_run Cert.Reference10Ideal.defs _ _).mono (fun _ h => ⟨fun c => (h c).2, sem_eq_zero_of_no_sems rfl _⟩) (Cert.Reference10Ideal.Value.run (F := Ideal) m ρ)

theorem algebraic : Cert.algebraic_Kernel10Ideal_Reference10Ideal := fun m ρ m' ρ' _ hag =>
  ⟨fun c => Dots.grad (argA m c) (argB m c),
   (θ_run Cert.Kernel10Ideal.defs _ _).mono (fun _ h c => ⟨(h c).1.trans (result m c), (h c).2⟩) (Cert.Kernel10Ideal.Value.run (F := Ideal) m ρ),
   (θ_run Cert.Reference10Ideal.defs _ _).mono (fun _ h c => ⟨(h c).1.trans (by
      rw [(hag c).1, (hag c).2]
      exact reference _ _), (h c).2⟩) (Cert.Reference10Ideal.Value.run (F := Ideal) m' ρ')⟩

end Cert.Product10

end
-- ==== Proof.Product11.lean ====
/- The gradient of the output projection's weight, the S5 rows (`out_proj_dw_s5`): what the kernel accumulates over its four tiles of tokens is the sum over
   all the tokens, which is what the pull-back of the product computes. -/
module

public import proofs.«01_k».proof.Defs
public import proofs.«01_k».proof.Proof.Dots
public import proofs.«01_k».proof.Proof.Gen.Kernel11Ideal.Value
public import proofs.«01_k».proof.Proof.Gen.Reference11Ideal.Run
public import proofs.«01_k».proof.Proof.Gen.Reference11Ideal.Read
public import Idealize.ShloMosaic.Lib.ValueIdx
public import Idealize.ShloMosaic.Lib.Pointwise.Sums
public import Idealize.ShloMosaic.Lib.Pointwise.Contract
public import Idealize.ShloMosaic.Lib.Quiescent

@[expose] public section

set_option maxRecDepth 16384

noncomputable section

namespace Cert.Product11

open Cert.Kernel11Ideal Cert.Kernel11Ideal.Gen Cert.Kernel11Ideal.Value
open Cert.Reference11Ideal.Read
open Idealize.ShloMosaic Idealize.ShloMosaic.TcCoe Idealize.SL.Sem

/-! ## One tile -/

/-- A step adds the tile's product to what the staging buffer holds. -/
theorem step_at (acc : Vec Ideal S512x1024 .f32) (x : Vec Ideal S2048x512 .bf16) (y : Vec Ideal S2048x1024 .f32) (r : Fin 512) (c : Fin 1024) :
    k0_pay2 (F := Ideal) acc x y (ValueIdx.ix2 r c)
      = ((acc (ValueIdx.ix2 r c) : EReal) + ∑ k : Fin 2048, (x (ValueIdx.ix2 k r) : EReal) * (y (ValueIdx.ix2 k c) : EReal) : EReal) := by
  unfold k0_pay2
  exact congrArg₂ (fun x y : EReal => x + y) (congrFun (shapeCast_self _ _) _)
    ((Dots.cols x y _ r c).trans ((congrArg (fun z : EReal => z + _) Ideal.ofBits_zero_f32).trans (zero_add _)))

variable (m : (ℓ : Loc nD τ sig) → Buf (Elt Ideal) ℓ) (ρ : Dev nD → PrngReg) (c : Dev nD)

abbrev argA : S8192x512.Idx → EReal := m ((c.tc : Thread nD τ).loc main_arg0)
abbrev argB : S8192x1024.Idx → EReal := m ((c.tc : Thread nD τ).loc main_arg1)

/-- The blocks a grid point works on. -/
abbrev blkA (t : Fin cfg0.N) : S2048x512.Idx → EReal := iblk m c 0 t
abbrev blkB (t : Fin cfg0.N) : S2048x1024.Idx → EReal := iblk m c 1 t

theorem index0 : ∀ t : Fin cfg0.N, win0_0.index t (0 : Fin 2) = t.val % 4 ∧ win0_0.index t (1 : Fin 2) = t.val / 4 / 1 ∧ t.val / 4 / 1 < 1
    ∧ win0_1.index t (0 : Fin 2) = t.val % 4 ∧ win0_1.index t (1 : Fin 2) = t.val / 4 % 1 :=
  (by decide +kernel : ∀ t : Fin grid0.N, _)

theorem block0 (t : Fin cfg0.N) (k : Fin 2048) (r : Fin 512) (p : Fin 8192) (q : Fin 512) (hp : p.val = t.val % 4 * 2048 + k.val)
    (hq : q.val = t.val / 4 / 1 * 512 + r.val) : blkA m c t (ValueIdx.ix2 k r) = argA m c (ValueIdx.ix2 p q) := by
  obtain ⟨e0, e1, -, -, -⟩ := index0 t
  exact Dots.same (argA m c) (by show win0_0.index t (0 : Fin 2) * 2048 + 1 * k.val = p.val; omega) (by show win0_0.index t (1 : Fin 2) * 512 + 1 * r.val = q.val; omega)

theorem block1 (t : Fin cfg0.N) (k : Fin 2048) (r : Fin 1024) (p : Fin 8192) (q : Fin 1024) (hp : p.val = t.val % 4 * 2048 + k.val)
    (hq : q.val = t.val / 4 % 1 * 1024 + r.val) : blkB m c t (ValueIdx.ix2 k r) = argB m c (ValueIdx.ix2 p q) := by
  obtain ⟨-, -, -, e0, e1⟩ := index0 t
  exact Dots.same (argB m c) (by show win0_1.index t (0 : Fin 2) * 2048 + 1 * k.val = p.val; omega) (by show win0_1.index t (1 : Fin 2) * 1024 + 1 * r.val = q.val; omega)

theorem result : G2 m c = Dots.grad (argA m c) (argB m c) := by
  funext i
  have h0 : (i 0).val < 512 := (i 0).isLt; have h1 : (i 1).val < 1024 := (i 1).isLt
  have hr : run2Of i = 1 * ((i 0).val / 512 - 0) + 1 * ((i 1).val / 1024 - 0) := rfl
  have hN : cfg0.N = 4 := N_0
  have e (q : Fin 4) : 4 * run2Of i + q.val < cfg0.N := by omega
  obtain ⟨r, s, hl, er, es⟩ : ∃ (r : Fin 512) (s : Fin 1024), loc2Of i = ValueIdx.ix2 r s ∧ r.val = (i 0).val % 512 ∧ s.val = (i 1).val % 1024 :=
    ⟨loc2Of i 0, loc2Of i 1, ValueIdx.eq_ix2 _, rfl, rfl⟩
  unfold G2
  rw [dif_pos (show 4 * run2Of i + 3 < cfg0.N from e 3)]
  show step2 m c (4 * run2Of i + 3) (e 3) (step2 m c (4 * run2Of i + 2) (e 2) (step2 m c (4 * run2Of i + 1) (e 1) (reset2 m c (4 * run2Of i) (e 0)))) (loc2Of i) = _
  unfold step2 reset2
  rw [hl, step_at, step_at, step_at, step_at, show k0_pay1 (F := Ideal) _ = (0 : EReal) from Ideal.ofBits_zero_f32, zero_add]
  exact Dots.grad_tiles rfl (argA m c) (argB m c) i (fun q => blkA m c ⟨_, e q⟩) (fun q => blkB m c ⟨_, e q⟩) _ _
    (fun q k p hp => block0 m c _ k _ p (i 0) (by show p.val = (4 * run2Of i + q.val) % 4 * 2048 + k.val; omega)
      (by show (i 0).val = (4 * run2Of i + q.val) / 4 / 1 * 512 + r.val; omega))
    (fun q k p hp => block1 m c _ k _ p (i 1) (by show p.val = (4 * run2Of i + q.val) % 4 * 2048 + k.val; omega)
      (by show (i 1).val = (4 * run2Of i + q.val) / 4 % 1 * 1024 + s.val; omega))

/-! ## The reference -/

theorem reference (x0 : S8192x512.Idx → EReal) (x1 : S8192x1024.Idx → EReal) : val_main_v4 (F := Ideal) x0 x1 = Dots.grad x0 x1 := by
  funext i
  rw [val_main_v4_apply, val_main_v3_apply]
  exact Finset.sum_congr rfl fun k _ => (mul_comm (G := EReal) _ _).trans (congrArg₂ (fun x y : EReal => x * y) (Dots.same x0 rfl rfl) (Dots.same x1 rfl rfl))

/-! ## The claims -/

theorem frame_reference : Cert.quiescent_Reference11Ideal := fun m ρ _ =>
  (θ_run Cert.Reference11Ideal.defs _ _).mono (fun _ h => ⟨fun c => (h c).2, sem_eq_zero_of_no_sems rfl _⟩) (Cert.Reference11Ideal.Value.run (F := Ideal) m ρ)

theorem algebraic : Cert.algebraic_Kernel11Ideal_Reference11Ideal := fun m ρ m' ρ' _ hag =>
  ⟨fun c => Dots.grad (argA m c) (argB m c),
   (θ_run Cert.Kernel11Ideal.defs _ _).mono (fun _ h c => ⟨(h c).1.trans (result m c), (h c).2⟩) (Cert.Kernel11Ideal.Value.run (F := Ideal) m ρ),
   (θ_run Cert.Reference11Ideal.defs _ _).mono (fun _ h c => ⟨(h c).1.trans (by
      rw [(hag c).1, (hag c).2]
      exact reference _ _), (h c).2⟩) (Cert.Reference11Ideal.Value.run (F := Ideal) m' ρ')⟩

end Cert.Product11

end
-- ==== Proof.Product12.lean ====
/- The channel mixer's first product (`ffn_up`): each grid point writes one block of the product, and
   together the blocks are the product. -/
module

public import proofs.«01_k».proof.Defs
public import proofs.«01_k».proof.Proof.Dots
public import proofs.«01_k».proof.Proof.Gen.Kernel12Ideal.Value
public import proofs.«01_k».proof.Proof.Gen.Reference12Ideal.Run
public import proofs.«01_k».proof.Proof.Gen.Reference12Ideal.Read
public import Idealize.ShloMosaic.Lib.ValueIdx
public import Idealize.ShloMosaic.Lib.Pointwise.Contract
public import Idealize.ShloMosaic.Lib.Quiescent

@[expose] public section

set_option maxRecDepth 16384

noncomputable section

namespace Cert.Product12

open Cert.Kernel12Ideal Cert.Kernel12Ideal.Gen Cert.Kernel12Ideal.Value
open Cert.Reference12Ideal.Read
open Idealize.ShloMosaic Idealize.ShloMosaic.TcCoe Idealize.ShloMosaic.Tactic Idealize.ShloMosaic.StableHlo Idealize.SL.Sem

/-- The product of the tokens' rows with the weight. -/
def prod (a : S8192x1024.Idx → EReal) (w : S8x1024x768.Idx → EReal) : S8192x6144.Idx → EReal := fun i =>
  ∑ k : Fin 1024, a (ValueIdx.ix2 (i 0 : Fin 8192) k) * w (ValueIdx.ix3 (⟨(i 1).val / 768, by have h : (i 1).val < 6144 := (i 1).isLt; omega⟩ : Fin 8) k (⟨(i 1).val % 768, Nat.mod_lt _ (by decide)⟩ : Fin 768))

/-! ## One block -/

theorem dot_at (x : (⟨2, ![2048, 1024]⟩ : Shape).Idx → EReal) (y : S1024x768.Idx → EReal) (acc : S2048x768.Idx → EReal) (r : Fin 2048) (c : Fin 768) :
    Ideal.matmul dot_S2048x1024_S1024x768_S2048x768_1_0_0_1_n_n x y acc (ValueIdx.ix2 r c)
      = acc (ValueIdx.ix2 r c) + ∑ k : Fin 1024, x (ValueIdx.ix2 r k) * y (ValueIdx.ix2 k c) :=
  Dots.plain x y acc r c

theorem block_at (x : Vec Ideal S2048x1024 .bf16) (y : Vec Ideal S1x1024x768 .bf16) (r : Fin 2048) (cc : Fin 768) :
    k0_pay1 (F := Ideal) x y (ValueIdx.ix2 r cc) = (∑ k : Fin 1024, (x (ValueIdx.ix2 r k) : EReal) * (y (ValueIdx.ix3 (0 : Fin 1) k cc) : EReal) : EReal) := by
  unfold k0_pay1
  show Ideal.matmul dot_S2048x1024_S1024x768_S2048x768_1_0_0_1_n_n x (shapeCast S1024x768 y shapeCasts_S1x1024x768_S1024x768) (constant (F := Ideal) S2048x768 .f32 0x00000000#32) (ValueIdx.ix2 r cc) = _
  refine (dot_at x _ _ r cc).trans ?_
  refine (congrArg (fun z : EReal => z + _) Ideal.ofBits_zero_f32).trans ((zero_add _).trans ?_)
  exact Finset.sum_congr rfl fun k _ => congrArg (fun z : EReal => (x (ValueIdx.ix2 r k) : EReal) * z) (shapeCast_apply _ shapeCasts_S1x1024x768_S1024x768 _ (ValueIdx.ix3 (0 : Fin 1) k cc) (by
    rw [Shape.rowMajor_val_two, Shape.rowMajor_val_three]
    show ((0 : Fin 1).val * 1024 + k.val) * 768 + cc.val = k.val * 768 + cc.val
    simp))

variable (m : (ℓ : Loc nD τ sig) → Buf (Elt Ideal) ℓ) (ρ : Dev nD → PrngReg) (c : Dev nD)

abbrev argA : S8192x1024.Idx → EReal := m ((c.tc : Thread nD τ).loc main_arg0)
/-- The weight as the kernel receives it. -/
abbrev argW : S8x1024x768.Idx → EReal := V m c main_v1

/-- The blocks a grid point works on. -/
abbrev blkA (t : Fin cfg0.N) : S2048x1024.Idx → EReal := iblk m c 0 t
abbrev blkB (t : Fin cfg0.N) : S1x1024x768.Idx → EReal := iblk m c 1 t

theorem index : ∀ t : Fin cfg0.N, win0_0.index t (0 : Fin 2) = t.val / 8 ∧ win0_0.index t (1 : Fin 2) = 0
    ∧ win0_1.index t (0 : Fin 3) = t.val % 8 ∧ win0_1.index t (1 : Fin 3) = 0 ∧ win0_1.index t (2 : Fin 3) = 0
    ∧ win0_2.index t (0 : Fin 2) = t.val / 8 ∧ win0_2.index t (1 : Fin 2) = t.val % 8 :=
  (by decide +kernel : ∀ t : Fin grid0.N, _)

theorem block0 (t : Fin cfg0.N) (r : Fin 2048) (k : Fin 1024) (p : Fin 8192) (hp : p.val = t.val / 8 * 2048 + r.val) :
    blkA m c t (ValueIdx.ix2 r k) = argA m c (ValueIdx.ix2 p k) := by
  obtain ⟨e0, e1, -, -, -, -, -⟩ := index t
  refine (congrFun (V_main_arg0 m c) _).trans (congrArg (argA m c) (funext fun a => Fin.ext ?_))
  match a with
  | ⟨0, _⟩ => show win0_0.index t (0 : Fin 2) * 2048 + 1 * r.val = p.val; omega
  | ⟨1, _⟩ => show win0_0.index t (1 : Fin 2) * 1024 + 1 * k.val = k.val; omega

theorem block1 (t : Fin cfg0.N) (cc : Fin 768) (k : Fin 1024) (i : S8192x6144.Idx) (hi : (i 1).val = t.val % 8 * 768 + cc.val) :
    blkB m c t (ValueIdx.ix3 (0 : Fin 1) k cc) = argW m c (ValueIdx.ix3 (⟨(i 1).val / 768, by have h : (i 1).val < 6144 := (i 1).isLt; omega⟩ : Fin 8) k (⟨(i 1).val % 768, Nat.mod_lt _ (by decide)⟩ : Fin 768)) := by
  obtain ⟨-, -, e0, e1, e2, -, -⟩ := index t
  have hc := cc.isLt
  refine congrArg (argW m c) (funext fun a => Fin.ext ?_)
  match a with
  | ⟨0, _⟩ => show win0_1.index t (0 : Fin 3) * 1 + 1 * (0 : Fin 1).val = (i 1).val / 768; rw [show (0 : Fin 1).val = 0 from rfl]; omega
  | ⟨1, _⟩ => show win0_1.index t (1 : Fin 3) * 1024 + 1 * k.val = k.val; omega
  | ⟨2, _⟩ => show win0_1.index t (2 : Fin 3) * 768 + 1 * cc.val = (i 1).val % 768; omega

theorem block2 (t : Fin cfg0.N) (y : S2048x768.Idx) : (((cfg0.win 2).blk t).view.emb y (0 : Fin 2)).val = t.val / 8 * 2048 + (y 0).val
    ∧ (((cfg0.win 2).blk t).view.emb y (1 : Fin 2)).val = t.val % 8 * 768 + (y 1).val := by
  obtain ⟨-, -, -, -, -, e0, e1⟩ := index t
  constructor
  · show win0_2.index t (0 : Fin 2) * 2048 + 1 * (y 0).val = _; omega
  · show win0_2.index t (1 : Fin 2) * 768 + 1 * (y 1).val = _; omega

theorem flushes : ∀ t : Fin cfg0.N, (cfg0.win 2).flush t = true := (by decide +kernel : ∀ t : Fin grid0.N, win0_2.flush t = true)

theorem covered (i : S8192x6144.Idx) : ∃ t : Fin cfg0.N, (cfg0.win 2).flush t = true ∧ i ∈ ((cfg0.win 2).blk t).view.set := by
  have h0 : (i 0).val < 8192 := (i 0).isLt
  have h1 : (i 1).val < 6144 := (i 1).isLt
  have hN : cfg0.N = 32 := N_0
  have ht : (i 0).val / 2048 * 8 + (i 1).val / 768 < cfg0.N := by omega
  refine ⟨⟨(i 0).val / 2048 * 8 + (i 1).val / 768, ht⟩, flushes _, ?_⟩
  have h := ((cfg0.win 2).blk ⟨(i 0).val / 2048 * 8 + (i 1).val / 768, ht⟩).view.emb_mem_set
    (ValueIdx.ix2 (⟨(i 0).val % 2048, Nat.mod_lt _ (by decide)⟩ : Fin 2048) (⟨(i 1).val % 768, Nat.mod_lt _ (by decide)⟩ : Fin 768))
  have hb := block2 ⟨(i 0).val / 2048 * 8 + (i 1).val / 768, ht⟩
    (ValueIdx.ix2 (⟨(i 0).val % 2048, Nat.mod_lt _ (by decide)⟩ : Fin 2048) (⟨(i 1).val % 768, Nat.mod_lt _ (by decide)⟩ : Fin 768))
  refine (congrArg (· ∈ _) ?_).mp h
  funext a; apply Fin.ext
  match a with
  | ⟨0, _⟩ =>
    refine hb.1.trans ?_
    show ((i 0).val / 2048 * 8 + (i 1).val / 768) / 8 * 2048 + (i 0).val % 2048 = (i 0).val; omega
  | ⟨1, _⟩ =>
    refine hb.2.trans ?_
    show ((i 0).val / 2048 * 8 + (i 1).val / 768) % 8 * 768 + (i 1).val % 768 = (i 1).val; omega

theorem result : (dats m 0 c).arrAt 2 cfg0.N = prod (argA m c) (argW m c) := by
  refine (dats m 0 c).arrAt_eq_of_cover 2 (prod (argA m c) (argW m c)) (fun t _ => ?_) covered
  refine (flushed2 m c t).trans ?_
  funext (y : S2048x768.Idx)
  obtain ⟨r, cc, rfl⟩ : ∃ r cc, y = ValueIdx.ix2 r cc := ⟨_, _, ValueIdx.eq_ix2 y⟩
  show out0_2 (iblk m c 0 t) (iblk m c 1 t) (ValueIdx.ix2 r cc) = prod (argA m c) (argW m c) (((cfg0.win 2).blk t).view.emb (ValueIdx.ix2 r cc))
  unfold out0_2
  refine (congrFun (View.canon_unit_zero (S := S2048x768) (by decide) _ _) _).trans ?_
  rw [View.ld_unit_zero (S := S2048x1024) (by decide), View.ld_unit_zero (S := S1x1024x768) (by decide)]
  refine (block_at _ _ r cc).trans ?_
  obtain ⟨hb0, hb1⟩ := block2 t (ValueIdx.ix2 r cc)
  refine Finset.sum_congr rfl fun k _ => congrArg₂ (fun x y : EReal => x * y) ?_ ?_
  · exact block0 m c t r k _ hb0
  · exact block1 m c t cc k _ hb1

/-! ## The prepared weight and the reference -/

theorem weight : argW m c = val_main_v0 (F := Ideal) (m ((c.tc : Thread nD τ).loc main_arg1)) := by
  show StableHlo.after (List.flatten [hostOps0, hostOps0_1]) (fun b => m (c, b)) (Proc.devRef .tc main_v1) = _
  simp only [hostOps0, hostOps0_1, List.flatten_cons, List.flatten_nil, List.append_nil, List.cons_append, List.nil_append, TRef.binary, TRef.unary, TRef.toBuf, TRef.ofBuf, cast_eq]
  after_results <;> rfl

theorem reference (x0 : (⟨S8192x1024, .bf16⟩ : BufTy).Contents (Elt Ideal)) (x1 : (⟨S8x1024x704, .f32⟩ : BufTy).Contents (Elt Ideal)) :
    val_main_v5 (F := Ideal) x0 x1 = prod x0 (val_main_v0 (F := Ideal) x1) := by
  funext i
  have h1 : (i 1).val < 6144 := (i 1).isLt
  refine Eq.trans (b := val_main_v4 (F := Ideal) x0 x1 i) rfl ?_
  rw [val_main_v4_apply]
  refine Finset.sum_congr rfl fun k _ => congrArg₂ (fun x y : EReal => x * y) ?_ ?_
  · show (x0 _ : EReal) = x0 _
    refine congrArg x0 (funext fun a => Fin.ext ?_)
    match a with
    | ⟨0, _⟩ => rfl
    | ⟨1, _⟩ => rfl
  · rw [val_main_v2_apply, val_main_v1_apply]
    have hk := k.isLt
    refine congrArg (val_main_v0 (F := Ideal) x1) (funext fun a => Fin.ext ?_)
    match a with
    | ⟨0, _⟩ => show (k.val * 6144 + (i 1).val) / 768 % 8 = (i 1).val / 768; omega
    | ⟨1, _⟩ => show (k.val * 6144 + (i 1).val) / 6144 = k.val; omega
    | ⟨2, _⟩ => show (k.val * 6144 + (i 1).val) % 768 = (i 1).val % 768; omega

/-! ## The claims -/

theorem frame_reference : Cert.quiescent_Reference12Ideal := fun m ρ _ =>
  (θ_run Cert.Reference12Ideal.defs _ _).mono (fun _ h => ⟨fun c => (h c).2, sem_eq_zero_of_no_sems rfl _⟩) (Cert.Reference12Ideal.Value.run (F := Ideal) m ρ)

theorem algebraic : Cert.algebraic_Kernel12Ideal_Reference12Ideal := fun m ρ m' ρ' _ hag =>
  ⟨fun c => prod (argA m c) (argW m c),
   (θ_run Cert.Kernel12Ideal.defs _ _).mono (fun _ h c => ⟨(h c).1.trans (result m c), (h c).2⟩) (Cert.Kernel12Ideal.Value.run_blocks (F := Ideal) m ρ),
   (θ_run Cert.Reference12Ideal.defs _ _).mono (fun _ h c => ⟨(h c).1.trans (by
      rw [(hag c).1, (hag c).2]
      exact (reference _ _).trans (congrArg (prod _) (weight m c).symm)), (h c).2⟩) (Cert.Reference12Ideal.Value.run (F := Ideal) m' ρ')⟩

end Cert.Product12

end
-- ==== Proof.Product13.lean ====
/- The four input projections (`in_proj`): each grid point writes one block of rows of every product, and
   together the blocks are the products. -/
module

public import proofs.«01_k».proof.Defs
public import proofs.«01_k».proof.Proof.Dots
public import proofs.«01_k».proof.Proof.Gen.Kernel13Ideal.Value
public import proofs.«01_k».proof.Proof.Gen.Reference13Ideal.Run
public import proofs.«01_k».proof.Proof.Gen.Reference13Ideal.Read
public import Idealize.ShloMosaic.Lib.ValueIdx
public import Idealize.ShloMosaic.Lib.Pointwise.Contract
public import Idealize.ShloMosaic.Lib.Quiescent

@[expose] public section

set_option maxRecDepth 16384

noncomputable section

namespace Cert.Product13

open Cert.Kernel13Ideal Cert.Kernel13Ideal.Gen Cert.Kernel13Ideal.Value
open Cert.Reference13Ideal.Read
open Idealize.ShloMosaic Idealize.ShloMosaic.TcCoe Idealize.SL.Sem

/-- The product of the tokens' rows with a weight of `n` columns. -/
def prod {n : Nat} (a : (⟨2, ![8192, 1024]⟩ : Shape).Idx → EReal) (w : (⟨2, ![1024, n]⟩ : Shape).Idx → EReal) : (⟨2, ![8192, n]⟩ : Shape).Idx → EReal := fun i =>
  ∑ k : Fin 1024, a (ValueIdx.ix2 (i 0 : Fin 8192) k) * w (ValueIdx.ix2 k (i 1 : Fin n))

variable (m : (ℓ : Loc nD τ sig) → Buf (Elt Ideal) ℓ) (ρ : Dev nD → PrngReg) (c : Dev nD)

abbrev argA : S8192x1024.Idx → EReal := m ((c.tc : Thread nD τ).loc main_arg0)

/-- The block of rows a grid point works on. -/
abbrev blkA (t : Fin cfg0.N) : S512x1024.Idx → EReal := iblk m c 0 t

theorem index0 : ∀ t : Fin cfg0.N, win0_0.index t (0 : Fin 2) = t.val ∧ win0_0.index t (1 : Fin 2) = 0 :=
  (by decide +kernel : ∀ t : Fin grid0.N, _)

theorem block0 (t : Fin cfg0.N) (r : Fin 512) (k : Fin 1024) (p : Fin 8192) (hp : p.val = t.val * 512 + r.val) :
    blkA m c t (ValueIdx.ix2 r k) = argA m c (ValueIdx.ix2 p k) := by
  obtain ⟨e0, e1⟩ := index0 t
  refine congrArg (argA m c) (funext fun a => Fin.ext ?_)
  match a with
  | ⟨0, _⟩ => show win0_0.index t (0 : Fin 2) * 512 + 1 * r.val = p.val; omega
  | ⟨1, _⟩ => show win0_0.index t (1 : Fin 2) * 1024 + 1 * k.val = k.val; omega

/-! ## The product with weight 1 -/

theorem dot_at1 (x : S512x1024.Idx → EReal) (y : S1024x1024.Idx → EReal) (acc : S512x1024.Idx → EReal) (r : Fin 512) (c : Fin 1024) :
    Ideal.matmul dot_S512x1024_S1024x1024_S512x1024_1_0_0_1_n_n x y acc (ValueIdx.ix2 r c)
      = acc (ValueIdx.ix2 r c) + ∑ k : Fin 1024, x (ValueIdx.ix2 r k) * y (ValueIdx.ix2 k c) :=
  Dots.plain x y acc r c

theorem block_at1 (x : Vec Ideal S512x1024 .bf16) (y : Vec Ideal S1024x1024 .bf16) (r : Fin 512) (cc : Fin 1024) :
    k0_pay1 (F := Ideal) x y (ValueIdx.ix2 r cc) = (∑ k : Fin 1024, (x (ValueIdx.ix2 r k) : EReal) * (y (ValueIdx.ix2 k cc) : EReal) : EReal) := by
  unfold k0_pay1
  show Ideal.matmul dot_S512x1024_S1024x1024_S512x1024_1_0_0_1_n_n x y (constant (F := Ideal) S512x1024 .f32 0x00000000#32) (ValueIdx.ix2 r cc) = _
  exact (dot_at1 x y _ r cc).trans ((congrArg (fun z : EReal => z + _) Ideal.ofBits_zero_f32).trans (zero_add _))

abbrev arg1 : S1024x1024.Idx → EReal := m ((c.tc : Thread nD τ).loc main_arg1)
abbrev blk1 (t : Fin cfg0.N) : S1024x1024.Idx → EReal := iblk m c 1 t

theorem index1 : ∀ t : Fin cfg0.N, win0_1.index t (0 : Fin 2) = 0 ∧ win0_1.index t (1 : Fin 2) = 0
    ∧ win0_5.index t (0 : Fin 2) = t.val ∧ win0_5.index t (1 : Fin 2) = 0 :=
  (by decide +kernel : ∀ t : Fin grid0.N, _)

theorem block1 (t : Fin cfg0.N) (k : Fin 1024) (cc : Fin 1024) (q : Fin 1024) (hq : q.val = cc.val) :
    blk1 m c t (ValueIdx.ix2 k cc) = arg1 m c (ValueIdx.ix2 k q) := by
  obtain ⟨e0, e1, -, -⟩ := index1 t
  refine congrArg (arg1 m c) (funext fun a => Fin.ext ?_)
  match a with
  | ⟨0, _⟩ => show win0_1.index t (0 : Fin 2) * 1024 + 1 * k.val = k.val; omega
  | ⟨1, _⟩ => show win0_1.index t (1 : Fin 2) * 1024 + 1 * cc.val = q.val; omega

theorem out1 (t : Fin cfg0.N) (y : S512x1024.Idx) : (((cfg0.win 5).blk t).view.emb y (0 : Fin 2)).val = t.val * 512 + (y 0).val
    ∧ (((cfg0.win 5).blk t).view.emb y (1 : Fin 2)).val = (y 1).val := by
  obtain ⟨-, -, e0, e1⟩ := index1 t
  constructor
  · show win0_5.index t (0 : Fin 2) * 512 + 1 * (y 0).val = _; omega
  · show win0_5.index t (1 : Fin 2) * 1024 + 1 * (y 1).val = _; omega

theorem flushes1 : ∀ t : Fin cfg0.N, (cfg0.win 5).flush t = true := (by decide +kernel : ∀ t : Fin grid0.N, win0_5.flush t = true)

theorem covered1 (i : S8192x1024.Idx) : ∃ t : Fin cfg0.N, (cfg0.win 5).flush t = true ∧ i ∈ ((cfg0.win 5).blk t).view.set := by
  have h0 : (i 0).val < 8192 := (i 0).isLt
  have hN : cfg0.N = 16 := N_0
  have ht : (i 0).val / 512 < cfg0.N := by omega
  refine ⟨⟨(i 0).val / 512, ht⟩, flushes1 _, ?_⟩
  have h := ((cfg0.win 5).blk ⟨(i 0).val / 512, ht⟩).view.emb_mem_set
    (ValueIdx.ix2 (⟨(i 0).val % 512, Nat.mod_lt _ (by decide)⟩ : Fin 512) (i 1 : Fin 1024))
  have hb := out1 ⟨(i 0).val / 512, ht⟩ (ValueIdx.ix2 (⟨(i 0).val % 512, Nat.mod_lt _ (by decide)⟩ : Fin 512) (i 1 : Fin 1024))
  refine (congrArg (· ∈ _) ?_).mp h
  funext a; apply Fin.ext
  match a with
  | ⟨0, _⟩ =>
    refine hb.1.trans ?_
    show (i 0).val / 512 * 512 + (i 0).val % 512 = (i 0).val; omega
  | ⟨1, _⟩ => exact hb.2

theorem result1 : (dats m 0 c).arrAt 5 cfg0.N = prod (argA m c) (arg1 m c) := by
  refine (dats m 0 c).arrAt_eq_of_cover 5 (prod (argA m c) (arg1 m c)) (fun t _ => ?_) covered1
  refine (flushed5 m c t).trans ?_
  funext (y : S512x1024.Idx)
  obtain ⟨r, cc, rfl⟩ : ∃ r cc, y = ValueIdx.ix2 r cc := ⟨_, _, ValueIdx.eq_ix2 y⟩
  show out0_5 (iblk m c 0 t) (iblk m c 1 t) (iblk m c 2 t) (iblk m c 3 t) (iblk m c 4 t) (ValueIdx.ix2 r cc) = prod (argA m c) (arg1 m c) (((cfg0.win 5).blk t).view.emb (ValueIdx.ix2 r cc))
  unfold out0_5
  refine (congrFun (View.canon_unit_zero (S := S512x1024) (by decide) _ _) _).trans ?_
  rw [View.ld_unit_zero (S := S512x1024) (by decide), View.ld_unit_zero (S := S1024x1024) (by decide)]
  refine (block_at1 _ _ r cc).trans ?_
  obtain ⟨hb0, hb1⟩ := out1 t (ValueIdx.ix2 r cc)
  refine Finset.sum_congr rfl fun k _ => congrArg₂ (fun x y : EReal => x * y) ?_ ?_
  · exact block0 m c t r k _ hb0
  · exact block1 m c t k cc _ hb1

theorem reference1 (x0 : (⟨S8192x1024, .bf16⟩ : BufTy).Contents (Elt Ideal)) (x1 : (⟨S1024x1024, .bf16⟩ : BufTy).Contents (Elt Ideal)) :
    val_main_v2 (F := Ideal) x0 x1 = prod x0 x1 := by
  funext i
  rw [val_main_v2_apply]
  refine Finset.sum_congr rfl fun k _ => congrArg₂ (fun x y : EReal => x * y) ?_ ?_
  · show (x0 _ : EReal) = x0 _
    refine congrArg x0 (funext fun a => Fin.ext ?_)
    match a with
    | ⟨0, _⟩ => rfl
    | ⟨1, _⟩ => rfl
  · show (x1 _ : EReal) = x1 _
    refine congrArg x1 (funext fun a => Fin.ext ?_)
    match a with
    | ⟨0, _⟩ => rfl
    | ⟨1, _⟩ => rfl

/-! ## The product with weight 2 -/

theorem dot_at2 (x : S512x1024.Idx → EReal) (y : S1024x2048.Idx → EReal) (acc : S512x2048.Idx → EReal) (r : Fin 512) (c : Fin 2048) :
    Ideal.matmul dot_S512x1024_S1024x2048_S512x2048_1_0_0_1_n_n x y acc (ValueIdx.ix2 r c)
      = acc (ValueIdx.ix2 r c) + ∑ k : Fin 1024, x (ValueIdx.ix2 r k) * y (ValueIdx.ix2 k c) :=
  Dots.plain x y acc r c

theorem block_at2 (x : Vec Ideal S512x1024 .bf16) (y : Vec Ideal S1024x2048 .bf16) (r : Fin 512) (cc : Fin 2048) :
    k0_pay2 (F := Ideal) x y (ValueIdx.ix2 r cc) = (∑ k : Fin 1024, (x (ValueIdx.ix2 r k) : EReal) * (y (ValueIdx.ix2 k cc) : EReal) : EReal) := by
  unfold k0_pay2
  show Ideal.matmul dot_S512x1024_S1024x2048_S512x2048_1_0_0_1_n_n x y (constant (F := Ideal) S512x2048 .f32 0x00000000#32) (ValueIdx.ix2 r cc) = _
  exact (dot_at2 x y _ r cc).trans ((congrArg (fun z : EReal => z + _) Ideal.ofBits_zero_f32).trans (zero_add _))

abbrev arg2 : S1024x2048.Idx → EReal := m ((c.tc : Thread nD τ).loc main_arg2)
abbrev blk2 (t : Fin cfg0.N) : S1024x2048.Idx → EReal := iblk m c 2 t

theorem index2 : ∀ t : Fin cfg0.N, win0_2.index t (0 : Fin 2) = 0 ∧ win0_2.index t (1 : Fin 2) = 0
    ∧ win0_6.index t (0 : Fin 2) = t.val ∧ win0_6.index t (1 : Fin 2) = 0 :=
  (by decide +kernel : ∀ t : Fin grid0.N, _)

theorem block2 (t : Fin cfg0.N) (k : Fin 1024) (cc : Fin 2048) (q : Fin 2048) (hq : q.val = cc.val) :
    blk2 m c t (ValueIdx.ix2 k cc) = arg2 m c (ValueIdx.ix2 k q) := by
  obtain ⟨e0, e1, -, -⟩ := index2 t
  refine congrArg (arg2 m c) (funext fun a => Fin.ext ?_)
  match a with
  | ⟨0, _⟩ => show win0_2.index t (0 : Fin 2) * 1024 + 1 * k.val = k.val; omega
  | ⟨1, _⟩ => show win0_2.index t (1 : Fin 2) * 2048 + 1 * cc.val = q.val; omega

theorem out2 (t : Fin cfg0.N) (y : S512x2048.Idx) : (((cfg0.win 6).blk t).view.emb y (0 : Fin 2)).val = t.val * 512 + (y 0).val
    ∧ (((cfg0.win 6).blk t).view.emb y (1 : Fin 2)).val = (y 1).val := by
  obtain ⟨-, -, e0, e1⟩ := index2 t
  constructor
  · show win0_6.index t (0 : Fin 2) * 512 + 1 * (y 0).val = _; omega
  · show win0_6.index t (1 : Fin 2) * 2048 + 1 * (y 1).val = _; omega

theorem flushes2 : ∀ t : Fin cfg0.N, (cfg0.win 6).flush t = true := (by decide +kernel : ∀ t : Fin grid0.N, win0_6.flush t = true)

theorem covered2 (i : S8192x2048.Idx) : ∃ t : Fin cfg0.N, (cfg0.win 6).flush t = true ∧ i ∈ ((cfg0.win 6).blk t).view.set := by
  have h0 : (i 0).val < 8192 := (i 0).isLt
  have hN : cfg0.N = 16 := N_0
  have ht : (i 0).val / 512 < cfg0.N := by omega
  refine ⟨⟨(i 0).val / 512, ht⟩, flushes2 _, ?_⟩
  have h := ((cfg0.win 6).blk ⟨(i 0).val / 512, ht⟩).view.emb_mem_set
    (ValueIdx.ix2 (⟨(i 0).val % 512, Nat.mod_lt _ (by decide)⟩ : Fin 512) (i 1 : Fin 2048))
  have hb := out2 ⟨(i 0).val / 512, ht⟩ (ValueIdx.ix2 (⟨(i 0).val % 512, Nat.mod_lt _ (by decide)⟩ : Fin 512) (i 1 : Fin 2048))
  refine (congrArg (· ∈ _) ?_).mp h
  funext a; apply Fin.ext
  match a with
  | ⟨0, _⟩ =>
    refine hb.1.trans ?_
    show (i 0).val / 512 * 512 + (i 0).val % 512 = (i 0).val; omega
  | ⟨1, _⟩ => exact hb.2

theorem result2 : (dats m 0 c).arrAt 6 cfg0.N = prod (argA m c) (arg2 m c) := by
  refine (dats m 0 c).arrAt_eq_of_cover 6 (prod (argA m c) (arg2 m c)) (fun t _ => ?_) covered2
  refine (flushed6 m c t).trans ?_
  funext (y : S512x2048.Idx)
  obtain ⟨r, cc, rfl⟩ : ∃ r cc, y = ValueIdx.ix2 r cc := ⟨_, _, ValueIdx.eq_ix2 y⟩
  show out0_6 (iblk m c 0 t) (iblk m c 1 t) (iblk m c 2 t) (iblk m c 3 t) (iblk m c 4 t) (ValueIdx.ix2 r cc) = prod (argA m c) (arg2 m c) (((cfg0.win 6).blk t).view.emb (ValueIdx.ix2 r cc))
  unfold out0_6
  refine (congrFun (View.canon_unit_zero (S := S512x2048) (by decide) _ _) _).trans ?_
  rw [View.ld_unit_zero (S := S512x1024) (by decide), View.ld_unit_zero (S := S1024x2048) (by decide)]
  refine (block_at2 _ _ r cc).trans ?_
  obtain ⟨hb0, hb1⟩ := out2 t (ValueIdx.ix2 r cc)
  refine Finset.sum_congr rfl fun k _ => congrArg₂ (fun x y : EReal => x * y) ?_ ?_
  · exact block0 m c t r k _ hb0
  · exact block2 m c t k cc _ hb1

theorem reference2 (x0 : (⟨S8192x1024, .bf16⟩ : BufTy).Contents (Elt Ideal)) (x2 : (⟨S1024x2048, .bf16⟩ : BufTy).Contents (Elt Ideal)) :
    val_main_v5 (F := Ideal) x0 x2 = prod x0 x2 := by
  funext i
  rw [val_main_v5_apply]
  refine Finset.sum_congr rfl fun k _ => congrArg₂ (fun x y : EReal => x * y) ?_ ?_
  · show (x0 _ : EReal) = x0 _
    refine congrArg x0 (funext fun a => Fin.ext ?_)
    match a with
    | ⟨0, _⟩ => rfl
    | ⟨1, _⟩ => rfl
  · show (x2 _ : EReal) = x2 _
    refine congrArg x2 (funext fun a => Fin.ext ?_)
    match a with
    | ⟨0, _⟩ => rfl
    | ⟨1, _⟩ => rfl

/-! ## The product with weight 3 -/

theorem dot_at3 (x : S512x1024.Idx → EReal) (y : S1024x32.Idx → EReal) (acc : S512x32.Idx → EReal) (r : Fin 512) (c : Fin 32) :
    Ideal.matmul dot_S512x1024_S1024x32_S512x32_1_0_0_1_n_n x y acc (ValueIdx.ix2 r c)
      = acc (ValueIdx.ix2 r c) + ∑ k : Fin 1024, x (ValueIdx.ix2 r k) * y (ValueIdx.ix2 k c) :=
  Dots.plain x y acc r c

theorem block_at3 (x : Vec Ideal S512x1024 .bf16) (y : Vec Ideal S1024x32 .bf16) (r : Fin 512) (cc : Fin 32) :
    k0_pay3 (F := Ideal) x y (ValueIdx.ix2 r cc) = (∑ k : Fin 1024, (x (ValueIdx.ix2 r k) : EReal) * (y (ValueIdx.ix2 k cc) : EReal) : EReal) := by
  unfold k0_pay3
  show Ideal.matmul dot_S512x1024_S1024x32_S512x32_1_0_0_1_n_n x y (constant (F := Ideal) S512x32 .f32 0x00000000#32) (ValueIdx.ix2 r cc) = _
  exact (dot_at3 x y _ r cc).trans ((congrArg (fun z : EReal => z + _) Ideal.ofBits_zero_f32).trans (zero_add _))

abbrev arg3 : S1024x32.Idx → EReal := m ((c.tc : Thread nD τ).loc main_arg3)
abbrev blk3 (t : Fin cfg0.N) : S1024x32.Idx → EReal := iblk m c 3 t

theorem index3 : ∀ t : Fin cfg0.N, win0_3.index t (0 : Fin 2) = 0 ∧ win0_3.index t (1 : Fin 2) = 0
    ∧ win0_7.index t (0 : Fin 2) = t.val ∧ win0_7.index t (1 : Fin 2) = 0 :=
  (by decide +kernel : ∀ t : Fin grid0.N, _)

theorem block3 (t : Fin cfg0.N) (k : Fin 1024) (cc : Fin 32) (q : Fin 32) (hq : q.val = cc.val) :
    blk3 m c t (ValueIdx.ix2 k cc) = arg3 m c (ValueIdx.ix2 k q) := by
  obtain ⟨e0, e1, -, -⟩ := index3 t
  refine congrArg (arg3 m c) (funext fun a => Fin.ext ?_)
  match a with
  | ⟨0, _⟩ => show win0_3.index t (0 : Fin 2) * 1024 + 1 * k.val = k.val; omega
  | ⟨1, _⟩ => show win0_3.index t (1 : Fin 2) * 32 + 1 * cc.val = q.val; omega

theorem out3 (t : Fin cfg0.N) (y : S512x32.Idx) : (((cfg0.win 7).blk t).view.emb y (0 : Fin 2)).val = t.val * 512 + (y 0).val
    ∧ (((cfg0.win 7).blk t).view.emb y (1 : Fin 2)).val = (y 1).val := by
  obtain ⟨-, -, e0, e1⟩ := index3 t
  constructor
  · show win0_7.index t (0 : Fin 2) * 512 + 1 * (y 0).val = _; omega
  · show win0_7.index t (1 : Fin 2) * 32 + 1 * (y 1).val = _; omega

theorem flushes3 : ∀ t : Fin cfg0.N, (cfg0.win 7).flush t = true := (by decide +kernel : ∀ t : Fin grid0.N, win0_7.flush t = true)

theorem covered3 (i : S8192x32.Idx) : ∃ t : Fin cfg0.N, (cfg0.win 7).flush t = true ∧ i ∈ ((cfg0.win 7).blk t).view.set := by
  have h0 : (i 0).val < 8192 := (i 0).isLt
  have hN : cfg0.N = 16 := N_0
  have ht : (i 0).val / 512 < cfg0.N := by omega
  refine ⟨⟨(i 0).val / 512, ht⟩, flushes3 _, ?_⟩
  have h := ((cfg0.win 7).blk ⟨(i 0).val / 512, ht⟩).view.emb_mem_set
    (ValueIdx.ix2 (⟨(i 0).val % 512, Nat.mod_lt _ (by decide)⟩ : Fin 512) (i 1 : Fin 32))
  have hb := out3 ⟨(i 0).val / 512, ht⟩ (ValueIdx.ix2 (⟨(i 0).val % 512, Nat.mod_lt _ (by decide)⟩ : Fin 512) (i 1 : Fin 32))
  refine (congrArg (· ∈ _) ?_).mp h
  funext a; apply Fin.ext
  match a with
  | ⟨0, _⟩ =>
    refine hb.1.trans ?_
    show (i 0).val / 512 * 512 + (i 0).val % 512 = (i 0).val; omega
  | ⟨1, _⟩ => exact hb.2

theorem result3 : (dats m 0 c).arrAt 7 cfg0.N = prod (argA m c) (arg3 m c) := by
  refine (dats m 0 c).arrAt_eq_of_cover 7 (prod (argA m c) (arg3 m c)) (fun t _ => ?_) covered3
  refine (flushed7 m c t).trans ?_
  funext (y : S512x32.Idx)
  obtain ⟨r, cc, rfl⟩ : ∃ r cc, y = ValueIdx.ix2 r cc := ⟨_, _, ValueIdx.eq_ix2 y⟩
  show out0_7 (iblk m c 0 t) (iblk m c 1 t) (iblk m c 2 t) (iblk m c 3 t) (iblk m c 4 t) (ValueIdx.ix2 r cc) = prod (argA m c) (arg3 m c) (((cfg0.win 7).blk t).view.emb (ValueIdx.ix2 r cc))
  unfold out0_7
  refine (congrFun (View.canon_unit_zero (S := S512x32) (by decide) _ _) _).trans ?_
  rw [View.ld_unit_zero (S := S512x1024) (by decide), View.ld_unit_zero (S := S1024x32) (by decide)]
  refine (block_at3 _ _ r cc).trans ?_
  obtain ⟨hb0, hb1⟩ := out3 t (ValueIdx.ix2 r cc)
  refine Finset.sum_congr rfl fun k _ => congrArg₂ (fun x y : EReal => x * y) ?_ ?_
  · exact block0 m c t r k _ hb0
  · exact block3 m c t k cc _ hb1

theorem reference3 (x0 : (⟨S8192x1024, .bf16⟩ : BufTy).Contents (Elt Ideal)) (x3 : (⟨S1024x32, .bf16⟩ : BufTy).Contents (Elt Ideal)) :
    val_main_v8 (F := Ideal) x0 x3 = prod x0 x3 := by
  funext i
  rw [val_main_v8_apply]
  refine Finset.sum_congr rfl fun k _ => congrArg₂ (fun x y : EReal => x * y) ?_ ?_
  · show (x0 _ : EReal) = x0 _
    refine congrArg x0 (funext fun a => Fin.ext ?_)
    match a with
    | ⟨0, _⟩ => rfl
    | ⟨1, _⟩ => rfl
  · show (x3 _ : EReal) = x3 _
    refine congrArg x3 (funext fun a => Fin.ext ?_)
    match a with
    | ⟨0, _⟩ => rfl
    | ⟨1, _⟩ => rfl

/-! ## The product with weight 4 -/

theorem dot_at4 (x : S512x1024.Idx → EReal) (y : S1024x512.Idx → EReal) (acc : S512x512.Idx → EReal) (r : Fin 512) (c : Fin 512) :
    Ideal.matmul dot_S512x1024_S1024x512_S512x512_1_0_0_1_n_n x y acc (ValueIdx.ix2 r c)
      = acc (ValueIdx.ix2 r c) + ∑ k : Fin 1024, x (ValueIdx.ix2 r k) * y (ValueIdx.ix2 k c) :=
  Dots.plain x y acc r c

theorem block_at4 (x : Vec Ideal S512x1024 .bf16) (y : Vec Ideal S1024x512 .bf16) (r : Fin 512) (cc : Fin 512) :
    k0_pay4 (F := Ideal) x y (ValueIdx.ix2 r cc) = (∑ k : Fin 1024, (x (ValueIdx.ix2 r k) : EReal) * (y (ValueIdx.ix2 k cc) : EReal) : EReal) := by
  unfold k0_pay4
  show Ideal.matmul dot_S512x1024_S1024x512_S512x512_1_0_0_1_n_n x y (constant (F := Ideal) S512x512 .f32 0x00000000#32) (ValueIdx.ix2 r cc) = _
  exact (dot_at4 x y _ r cc).trans ((congrArg (fun z : EReal => z + _) Ideal.ofBits_zero_f32).trans (zero_add _))

abbrev arg4 : S1024x512.Idx → EReal := m ((c.tc : Thread nD τ).loc main_arg4)
abbrev blk4 (t : Fin cfg0.N) : S1024x512.Idx → EReal := iblk m c 4 t

theorem index4 : ∀ t : Fin cfg0.N, win0_4.index t (0 : Fin 2) = 0 ∧ win0_4.index t (1 : Fin 2) = 0
    ∧ win0_8.index t (0 : Fin 2) = t.val ∧ win0_8.index t (1 : Fin 2) = 0 :=
  (by decide +kernel : ∀ t : Fin grid0.N, _)

theorem block4 (t : Fin cfg0.N) (k : Fin 1024) (cc : Fin 512) (q : Fin 512) (hq : q.val = cc.val) :
    blk4 m c t (ValueIdx.ix2 k cc) = arg4 m c (ValueIdx.ix2 k q) := by
  obtain ⟨e0, e1, -, -⟩ := index4 t
  refine congrArg (arg4 m c) (funext fun a => Fin.ext ?_)
  match a with
  | ⟨0, _⟩ => show win0_4.index t (0 : Fin 2) * 1024 + 1 * k.val = k.val; omega
  | ⟨1, _⟩ => show win0_4.index t (1 : Fin 2) * 512 + 1 * cc.val = q.val; omega

theorem out4 (t : Fin cfg0.N) (y : S512x512.Idx) : (((cfg0.win 8).blk t).view.emb y (0 : Fin 2)).val = t.val * 512 + (y 0).val
    ∧ (((cfg0.win 8).blk t).view.emb y (1 : Fin 2)).val = (y 1).val := by
  obtain ⟨-, -, e0, e1⟩ := index4 t
  constructor
  · show win0_8.index t (0 : Fin 2) * 512 + 1 * (y 0).val = _; omega
  · show win0_8.index t (1 : Fin 2) * 512 + 1 * (y 1).val = _; omega

theorem flushes4 : ∀ t : Fin cfg0.N, (cfg0.win 8).flush t = true := (by decide +kernel : ∀ t : Fin grid0.N, win0_8.flush t = true)

theorem covered4 (i : S8192x512.Idx) : ∃ t : Fin cfg0.N, (cfg0.win 8).flush t = true ∧ i ∈ ((cfg0.win 8).blk t).view.set := by
  have h0 : (i 0).val < 8192 := (i 0).isLt
  have hN : cfg0.N = 16 := N_0
  have ht : (i 0).val / 512 < cfg0.N := by omega
  refine ⟨⟨(i 0).val / 512, ht⟩, flushes4 _, ?_⟩
  have h := ((cfg0.win 8).blk ⟨(i 0).val / 512, ht⟩).view.emb_mem_set
    (ValueIdx.ix2 (⟨(i 0).val % 512, Nat.mod_lt _ (by decide)⟩ : Fin 512) (i 1 : Fin 512))
  have hb := out4 ⟨(i 0).val / 512, ht⟩ (ValueIdx.ix2 (⟨(i 0).val % 512, Nat.mod_lt _ (by decide)⟩ : Fin 512) (i 1 : Fin 512))
  refine (congrArg (· ∈ _) ?_).mp h
  funext a; apply Fin.ext
  match a with
  | ⟨0, _⟩ =>
    refine hb.1.trans ?_
    show (i 0).val / 512 * 512 + (i 0).val % 512 = (i 0).val; omega
  | ⟨1, _⟩ => exact hb.2

theorem result4 : (dats m 0 c).arrAt 8 cfg0.N = prod (argA m c) (arg4 m c) := by
  refine (dats m 0 c).arrAt_eq_of_cover 8 (prod (argA m c) (arg4 m c)) (fun t _ => ?_) covered4
  refine (flushed8 m c t).trans ?_
  funext (y : S512x512.Idx)
  obtain ⟨r, cc, rfl⟩ : ∃ r cc, y = ValueIdx.ix2 r cc := ⟨_, _, ValueIdx.eq_ix2 y⟩
  show out0_8 (iblk m c 0 t) (iblk m c 1 t) (iblk m c 2 t) (iblk m c 3 t) (iblk m c 4 t) (ValueIdx.ix2 r cc) = prod (argA m c) (arg4 m c) (((cfg0.win 8).blk t).view.emb (ValueIdx.ix2 r cc))
  unfold out0_8
  refine (congrFun (View.canon_unit_zero (S := S512x512) (by decide) _ _) _).trans ?_
  rw [View.ld_unit_zero (S := S512x1024) (by decide), View.ld_unit_zero (S := S1024x512) (by decide)]
  refine (block_at4 _ _ r cc).trans ?_
  obtain ⟨hb0, hb1⟩ := out4 t (ValueIdx.ix2 r cc)
  refine Finset.sum_congr rfl fun k _ => congrArg₂ (fun x y : EReal => x * y) ?_ ?_
  · exact block0 m c t r k _ hb0
  · exact block4 m c t k cc _ hb1

theorem reference4 (x0 : (⟨S8192x1024, .bf16⟩ : BufTy).Contents (Elt Ideal)) (x4 : (⟨S1024x512, .bf16⟩ : BufTy).Contents (Elt Ideal)) :
    val_main_v11 (F := Ideal) x0 x4 = prod x0 x4 := by
  funext i
  rw [val_main_v11_apply]
  refine Finset.sum_congr rfl fun k _ => congrArg₂ (fun x y : EReal => x * y) ?_ ?_
  · show (x0 _ : EReal) = x0 _
    refine congrArg x0 (funext fun a => Fin.ext ?_)
    match a with
    | ⟨0, _⟩ => rfl
    | ⟨1, _⟩ => rfl
  · show (x4 _ : EReal) = x4 _
    refine congrArg x4 (funext fun a => Fin.ext ?_)
    match a with
    | ⟨0, _⟩ => rfl
    | ⟨1, _⟩ => rfl

/-! ## The claims -/

theorem frame_reference : Cert.quiescent_Reference13Ideal := fun m ρ _ =>
  (θ_run Cert.Reference13Ideal.defs _ _).mono (fun _ h => ⟨fun c => (h c).2.2.2.2, sem_eq_zero_of_no_sems rfl _⟩) (Cert.Reference13Ideal.Value.run (F := Ideal) m ρ)

theorem algebraic : Cert.algebraic_Kernel13Ideal_Reference13Ideal := fun m ρ m' ρ' _ hag =>
  ⟨fun c => prod (argA m c) (arg1 m c), fun c => prod (argA m c) (arg2 m c), fun c => prod (argA m c) (arg3 m c), fun c => prod (argA m c) (arg4 m c),
   (θ_run Cert.Kernel13Ideal.defs _ _).mono (fun _ h c => ⟨(h c).1.trans (result1 m c), (h c).2.1.trans (result2 m c), (h c).2.2.1.trans (result3 m c),
      (h c).2.2.2.1.trans (result4 m c), (h c).2.2.2.2⟩) (Cert.Kernel13Ideal.Value.run_blocks (F := Ideal) m ρ),
   (θ_run Cert.Reference13Ideal.defs _ _).mono (fun _ h c => ⟨
      (h c).1.trans (by rw [(hag c).1, (hag c).2.1]; exact reference1 _ _),
      (h c).2.1.trans (by rw [(hag c).1, (hag c).2.2.1]; exact reference2 _ _),
      (h c).2.2.1.trans (by rw [(hag c).1, (hag c).2.2.2.1]; exact reference3 _ _),
      (h c).2.2.2.1.trans (by rw [(hag c).1, (hag c).2.2.2.2]; exact reference4 _ _), (h c).2.2.2.2⟩) (Cert.Reference13Ideal.Value.run (F := Ideal) m' ρ')⟩

end Cert.Product13

end
-- ==== Proof.NormRows.lean ====
/- The root-mean-square norm of a row of 1024 numbers and its gradient, and the readings of a block's row sums, column sums
   and broadcasts at an index. The calls that hold a norm share them. -/
module

public import Idealize.ShloMosaic.Lib.ValueIdx
public import Idealize.ShloMosaic.Lib.Pipeline.Value
public import Idealize.ShloMosaic.PureOps.Ideal.Laws

@[expose] public section

noncomputable section

namespace Cert.NormRows

open Idealize.ShloMosaic

/-! ## The norm of a row -/

/-- The width of a row, the constant under the root and minus one half, as the f32 numbers the programs hold. -/
def width : EReal := FloatOps.ofBits (F := Ideal) .f32 0x44800000#32
def eps : EReal := FloatOps.ofBits (F := Ideal) .f32 0x358637BD#32
def negHalf : EReal := FloatOps.ofBits (F := Ideal) .f32 0xBF000000#32

/-- The mean of the squares of the row, plus the constant. -/
def mean (h : Fin 1024 → EReal) : EReal := Ideal.div (∑ k, h k * h k) width + eps

/-- One over the root of it. -/
def inv (h : Fin 1024 → EReal) : EReal := Ideal.rsqrt (mean h)

/-- The normed row. -/
def norm (h w : Fin 1024 → EReal) (k : Fin 1024) : EReal := h k * inv h * w k

/-- The cotangent of one square of the row, for the cotangent `g` of the scaled row. -/
def slope (h g : Fin 1024 → EReal) : EReal :=
  Ideal.div ((∑ k, h k * g k) * (negHalf * Ideal.div (inv h) (mean h))) width

/-- The cotangent of the row: the product rule on `h * inv h`, the square counted from both of its factors, and the
    cotangent `res` that reaches the row past the norm. -/
def back (h w g res : Fin 1024 → EReal) (k : Fin 1024) : EReal :=
  g k * w k * inv h + h k * slope h (fun j => g j * w j) + slope h (fun j => g j * w j) * h k + res k

/-- The row's part of the weight's cotangent. -/
def weight (h g : Fin 1024 → EReal) (k : Fin 1024) : EReal := h k * inv h * g k

/-- The same sum with the cotangent past the norm added first. -/
theorem back_comm (h w g res : Fin 1024 → EReal) (k : Fin 1024) :
    back h w g res k
      = res k + g k * w k * inv h + h k * slope h (fun j => g j * w j) + slope h (fun j => g j * w j) * h k := by
  unfold back
  rw [add_comm _ (res k), ← add_assoc, ← add_assoc]

/-! ## A block of 512 rows read at an index -/

theorem zeros : (![0, 0] : Fin 2 → Nat) = fun _ => 0 := funext fun a => by fin_cases a <;> rfl

abbrev Block : Shape := ⟨2, ![512, 1024]⟩
abbrev Col : Shape := ⟨2, ![512, 1]⟩
abbrev Row : Shape := ⟨2, ![1, 1024]⟩
abbrev Rows : Shape := ⟨1, ![512]⟩
abbrev Cols : Shape := ⟨1, ![1024]⟩

abbrev atRow (r : Fin 512) : Rows.Idx := fun a => match a with | ⟨0, _⟩ => r
abbrev atCol (k : Fin 1024) : Cols.Idx := fun a => match a with | ⟨0, _⟩ => k

theorem row_sum (x : FVec Ideal Block .f32) (h : Block.Reduces [1] Rows) (hφ : FKind.Formats .f32)
    (hacc : (0x00000000#32 : BitVec 32) = FKind.add.neutral .f32 hφ) (r : Fin 512) :
    multiReduction .add [1] Rows x 0x00000000#32 h hφ hacc (atRow r) = ∑ k : Fin 1024, (x (ValueIdx.ix2 r k) : EReal) := by
  refine (Ideal.multiReduction_add_single x _ h hφ hacc (atRow r)).trans (Finset.sum_congr rfl fun k _ => ?_)
  exact congrArg x (funext fun a => Fin.ext (by match a with | ⟨0, _⟩ => rfl | ⟨1, _⟩ => rfl))

theorem col_sum (x : FVec Ideal Block .f32) (h : Block.Reduces [0] Cols) (hφ : FKind.Formats .f32)
    (hacc : (0x00000000#32 : BitVec 32) = FKind.add.neutral .f32 hφ) (k : Fin 1024) :
    multiReduction .add [0] Cols x 0x00000000#32 h hφ hacc (atCol k) = ∑ r : Fin 512, (x (ValueIdx.ix2 r k) : EReal) := by
  refine (Ideal.multiReduction_add_single x _ h hφ hacc (atCol k)).trans (Finset.sum_congr rfl fun r _ => ?_)
  exact congrArg x (funext fun a => Fin.ext (by match a with | ⟨0, _⟩ => rfl | ⟨1, _⟩ => rfl))

/-- The sum along an axis of length one is the only term. -/
theorem single_sum (x : FVec Ideal Col .f32) (h : Col.Reduces [1] Rows) (hφ : FKind.Formats .f32)
    (hacc : (0x00000000#32 : BitVec 32) = FKind.add.neutral .f32 hφ) (r : Fin 512) :
    multiReduction .add [1] Rows x 0x00000000#32 h hφ hacc (atRow r) = (x (ValueIdx.ix2 r 0) : EReal) := by
  refine (Ideal.multiReduction_add_single x _ h hφ hacc (atRow r)).trans ?_
  refine (Fin.sum_univ_one (M := EReal) _).trans ?_
  exact congrArg x (funext fun a => Fin.ext (by match a with | ⟨0, _⟩ => rfl | ⟨1, _⟩ => rfl))

theorem col_of_rows {α : Type} (x : Rows.Idx → α) (h : Rows.ShapeCasts Col) (r : Fin 512) :
    shapeCast Col x h (ValueIdx.ix2 r 0) = x (atRow r) :=
  shapeCast_apply x h _ _ (by rw [Shape.rowMajor_val_one, Shape.rowMajor_val_two]; show r.val = r.val * 1 + 0; omega)

theorem row_of_cols {α : Type} (x : Cols.Idx → α) (h : Cols.ShapeCasts Row) (k : Fin 1024) :
    shapeCast Row x h (ValueIdx.ix2 0 k) = x (atCol k) :=
  shapeCast_apply x h _ _ (by rw [Shape.rowMajor_val_one, Shape.rowMajor_val_two]; show k.val = 0 * 1024 + k.val; omega)

theorem spread_col {α : Type} (x : Col.Idx → α) (h : Col.Broadcasts Block) (r : Fin 512) (k : Fin 1024) :
    broadcastTo Block x h (ValueIdx.ix2 r k) = x (ValueIdx.ix2 r 0) :=
  broadcastTo_apply x h _ _ (fun a => match a with
    | ⟨0, _⟩ => by show r.val = if (512 : Nat) = 1 then 0 else r.val; rw [if_neg (by decide)]
    | ⟨1, _⟩ => by show 0 = if (1 : Nat) = 1 then 0 else k.val; rw [if_pos rfl])

theorem spread_row {α : Type} (x : Row.Idx → α) (h : Row.Broadcasts Block) (r : Fin 512) (k : Fin 1024) :
    broadcastTo Block x h (ValueIdx.ix2 r k) = x (ValueIdx.ix2 0 k) :=
  broadcastTo_apply x h _ _ (fun a => match a with
    | ⟨0, _⟩ => by show 0 = if (1 : Nat) = 1 then 0 else r.val; rw [if_pos rfl]
    | ⟨1, _⟩ => by show k.val = if (1024 : Nat) = 1 then 0 else k.val; rw [if_neg (by decide)])

/-- The mean of a block's row, as the kernels take it. -/
theorem mean_at (x : FVec Ideal Block .f32) (h : Block.Reduces [1] Rows) (hφ : FKind.Formats .f32)
    (hacc : (0x00000000#32 : BitVec 32) = FKind.add.neutral .f32 hφ) (hc : Rows.ShapeCasts Col) (r : Fin 512) :
    addf (divf (shapeCast Col (multiReduction .add [1] Rows (mulf x x) 0x00000000#32 h hφ hacc) hc)
        (broadcast Col (Scalar.ofBits (F := Ideal) .f32 0x44800000#32))) (broadcast Col (Scalar.ofBits (F := Ideal) .f32 0x358637BD#32)) (ValueIdx.ix2 r 0)
      = mean (fun k => x (ValueIdx.ix2 r k)) := by
  refine congrArg (fun z : EReal => Ideal.div z width + eps) ?_
  exact (col_of_rows _ hc r).trans (row_sum (mulf x x) h hφ hacc r)

/-! ## The 16 blocks of an array of 8192 rows -/

abbrev Tokens : Shape := ⟨2, ![8192, 1024]⟩
abbrev TokensCol : Shape := ⟨2, ![8192, 1]⟩

/-- The rows of an array normed and scaled by the weight. -/
def normed (x : Tokens.Idx → EReal) (w : Row.Idx → EReal) : Tokens.Idx → EReal := fun i =>
  norm (fun k => x (ValueIdx.ix2 (i 0 : Fin 8192) k)) (fun k => w (ValueIdx.ix2 0 k)) (i 1 : Fin 1024)

theorem column_index (i : TokensCol.Idx) (p : Fin 8192) (h : (i 0).val = p.val) : i = ValueIdx.ix2 p (0 : Fin 1) :=
  funext fun a => Fin.ext (match a with
    | ⟨0, _⟩ => h
    | ⟨1, _⟩ => Nat.lt_one_iff.mp (i 1).isLt)

theorem token_index (i : Tokens.Idx) (p : Fin 8192) (k : Fin 1024) (h0 : (i 0).val = p.val) (h1 : (i 1).val = k.val) : i = ValueIdx.ix2 p k :=
  funext fun a => Fin.ext (match a with
    | ⟨0, _⟩ => h0
    | ⟨1, _⟩ => h1)

theorem weight_index (i : Row.Idx) (k : Fin 1024) (h : (i 1).val = k.val) : i = ValueIdx.ix2 (0 : Fin 1) k :=
  funext fun a => Fin.ext (match a with
    | ⟨0, _⟩ => Nat.lt_one_iff.mp (i 0).isLt
    | ⟨1, _⟩ => h)

section
variable {N : Nat} (hN : N = 16) (emb : Fin N → Block.Idx → Tokens.Idx)
    (h : ∀ t y, (emb t y 0).val = t.val * 512 + (y 0).val ∧ (emb t y 1).val = (y 1).val)
include hN h

/-- Row `r` of block `t` is row `512 t + r` of the array. -/
theorem block_row (t : Fin N) (r : Fin 512) (k : Fin 1024) :
    ∃ p : Fin 8192, p.val = t.val * 512 + r.val ∧ emb t (ValueIdx.ix2 r k) = ValueIdx.ix2 p k :=
  ⟨⟨t.val * 512 + r.val, by have := t.isLt; have := r.isLt; omega⟩, rfl, funext fun a => Fin.ext (match a with
    | ⟨0, _⟩ => (h t _).1
    | ⟨1, _⟩ => (h t _).2)⟩

/-- Each index lies in a block. -/
theorem block_of (i : Tokens.Idx) : ∃ t y, emb t y = i := by
  have h0 : (i 0).val < 8192 := (i 0).isLt
  refine ⟨⟨(i 0).val / 512, by omega⟩, ValueIdx.ix2 (⟨(i 0).val % 512, Nat.mod_lt _ (by decide)⟩ : Fin 512) (i 1 : Fin 1024), ?_⟩
  refine funext fun a => Fin.ext ?_
  match a with
  | ⟨0, _⟩ =>
    refine (h _ _).1.trans ?_
    show (i 0).val / 512 * 512 + (i 0).val % 512 = (i 0).val
    omega
  | ⟨1, _⟩ => exact (h _ _).2

end

/-- The norm of a block's rows. -/
theorem norm_at (x : FVec Ideal Block .f32) (w : FVec Ideal Row .f32) (h : Block.Reduces [1] Rows) (hφ : FKind.Formats .f32)
    (hacc : (0x00000000#32 : BitVec 32) = FKind.add.neutral .f32 hφ) (hc : Rows.ShapeCasts Col) (hb : Col.Broadcasts Block) (hw : Row.Broadcasts Block)
    (r : Fin 512) (k : Fin 1024) :
    mulf (mulf x (broadcastTo Block (rsqrt (addf (divf (shapeCast Col (multiReduction .add [1] Rows (mulf x x) 0x00000000#32 h hφ hacc) hc)
        (broadcast Col (Scalar.ofBits (F := Ideal) .f32 0x44800000#32))) (broadcast Col (Scalar.ofBits (F := Ideal) .f32 0x358637BD#32)))) hb))
        (broadcastTo Block w hw) (ValueIdx.ix2 r k)
      = norm (fun j => x (ValueIdx.ix2 r j)) (fun j => w (ValueIdx.ix2 0 j)) k :=
  congrArg₂ (fun x y : EReal => x * y)
    (congrArg (fun y : EReal => x (ValueIdx.ix2 r k) * y) ((spread_col _ hb r k).trans (congrArg Ideal.rsqrt (mean_at x h hφ hacc hc r))))
    (spread_row w hw r k)

/-! ## The gradient of a block -/

/-- A block's row. -/
abbrev rowOf (x : Block.Idx → EReal) (r : Fin 512) : Fin 1024 → EReal := fun k => x (ValueIdx.ix2 r k)

section
variable (a h res : FVec Ideal Block .f32) (w acc : FVec Ideal Row .f32) (iv q : FVec Ideal Col .f32)
  (hR : Block.Reduces [1] Rows) (hR1 : Col.Reduces [1] Rows) (hR0 : Block.Reduces [0] Cols) (hφ : FKind.Formats .f32)
  (hacc : (0x00000000#32 : BitVec 32) = FKind.add.neutral .f32 hφ) (hc : Rows.ShapeCasts Col) (hc0 : Cols.ShapeCasts Row)
  (hs : Row.ShapeCasts Row) (hb : Col.Broadcasts Block) (hw : Row.Broadcasts Block)

theorem scaled_at (r : Fin 512) (k : Fin 1024) :
    (mulf a (broadcastTo Block w hw) : FVec Ideal Block .f32) (ValueIdx.ix2 r k) = (rowOf a r k * w (ValueIdx.ix2 0 k) : EReal) :=
  congrArg (fun z : EReal => a (ValueIdx.ix2 r k) * z) (spread_row w hw r k)

/-- The slope of a block's row, summed along an axis of length one and spread over the row. -/
theorem slope_at (r : Fin 512) (k : Fin 1024)
    (hq : q (ValueIdx.ix2 r 0) = (negHalf * Ideal.div (inv (rowOf h r)) (mean (rowOf h r)) : EReal)) :
    broadcastTo Block (shapeCast Col (multiReduction .add [1] Rows (divf (mulf (shapeCast Col
        (multiReduction .add [1] Rows (mulf h (mulf a (broadcastTo Block w hw))) 0x00000000#32 hR hφ hacc) hc) q)
        (broadcast Col (Scalar.ofBits (F := Ideal) .f32 0x44800000#32))) 0x00000000#32 hR1 hφ hacc) hc) hb (ValueIdx.ix2 r k)
      = slope (rowOf h r) (fun j => rowOf a r j * w (ValueIdx.ix2 0 j)) := by
  refine (spread_col _ hb r k).trans ((col_of_rows _ hc r).trans ((single_sum _ hR1 hφ hacc r).trans ?_))
  refine congrArg (fun z : EReal => Ideal.div z width) (congrArg₂ (fun x y : EReal => x * y) ?_ hq)
  refine (col_of_rows _ hc r).trans ((row_sum _ hR hφ hacc r).trans (Finset.sum_congr rfl fun j _ => ?_))
  exact congrArg (fun z : EReal => h (ValueIdx.ix2 r j) * z) (scaled_at a w hw r j)

theorem back_at (r : Fin 512) (k : Fin 1024) (hiv : iv (ValueIdx.ix2 r 0) = inv (rowOf h r))
    (hq : q (ValueIdx.ix2 r 0) = (negHalf * Ideal.div (inv (rowOf h r)) (mean (rowOf h r)) : EReal)) :
    addf (addf (addf (mulf (mulf a (broadcastTo Block w hw)) (broadcastTo Block iv hb))
        (mulf h (broadcastTo Block (shapeCast Col (multiReduction .add [1] Rows (divf (mulf (shapeCast Col
          (multiReduction .add [1] Rows (mulf h (mulf a (broadcastTo Block w hw))) 0x00000000#32 hR hφ hacc) hc) q)
          (broadcast Col (Scalar.ofBits (F := Ideal) .f32 0x44800000#32))) 0x00000000#32 hR1 hφ hacc) hc) hb)))
        (mulf (broadcastTo Block (shapeCast Col (multiReduction .add [1] Rows (divf (mulf (shapeCast Col
          (multiReduction .add [1] Rows (mulf h (mulf a (broadcastTo Block w hw))) 0x00000000#32 hR hφ hacc) hc) q)
          (broadcast Col (Scalar.ofBits (F := Ideal) .f32 0x44800000#32))) 0x00000000#32 hR1 hφ hacc) hc) hb) h)) res (ValueIdx.ix2 r k)
      = back (rowOf h r) (fun j => w (ValueIdx.ix2 0 j)) (rowOf a r) (rowOf res r) k := by
  have hS := slope_at a h w q hR hR1 hφ hacc hc hb hw r k hq
  refine congrArg (fun z : EReal => z + res (ValueIdx.ix2 r k)) (congrArg₂ (fun x y : EReal => x + y) (congrArg₂ (fun x y : EReal => x + y) ?_ ?_) ?_)
  · exact congrArg₂ (fun x y : EReal => x * y) (scaled_at a w hw r k) ((spread_col iv hb r k).trans hiv)
  · exact congrArg (fun z : EReal => h (ValueIdx.ix2 r k) * z) hS
  · exact congrArg (fun z : EReal => z * h (ValueIdx.ix2 r k)) hS

theorem weight_at (k : Fin 1024) (hiv : ∀ r, iv (ValueIdx.ix2 r 0) = inv (rowOf h r)) :
    (addf (shapeCast Row acc hs) (shapeCast Row (multiReduction .add [0] Cols (mulf (mulf h (broadcastTo Block iv hb)) a) 0x00000000#32 hR0 hφ hacc) hc0)
        : FVec Ideal Row .f32) (ValueIdx.ix2 0 k)
      = (acc (ValueIdx.ix2 0 k) + ∑ r : Fin 512, weight (rowOf h r) (rowOf a r) k : EReal) := by
  refine congrArg₂ (fun x y : EReal => x + y) (congrFun (shapeCast_self _ _) _) ?_
  refine (row_of_cols _ hc0 k).trans ((col_sum _ hR0 hφ hacc k).trans (Finset.sum_congr rfl fun r _ => ?_))
  exact congrArg (fun z : EReal => h (ValueIdx.ix2 r k) * z * a (ValueIdx.ix2 r k)) ((spread_col iv hb r k).trans (hiv r))

end

end Cert.NormRows

end
-- ==== Proof.Norm14.lean ====
/- The gradient of the channel mixer's first product's operand (`ffn_up_dx`): each grid point pulls the cotangents of its
   block of rows back through the weight and through the norm, and adds the block's part to the gradient of the norm's weight. -/
module

public import proofs.«01_k».proof.Defs
public import proofs.«01_k».proof.Proof.Dots
public import proofs.«01_k».proof.Proof.Gen.Kernel14Ideal.Value
public import proofs.«01_k».proof.Proof.Gen.Reference14Ideal.Run
public import proofs.«01_k».proof.Proof.Gen.Reference14Ideal.Read
public import proofs.«01_k».proof.Proof.NormRows
public import Idealize.ShloMosaic.Lib.Pipeline.Value
public import Idealize.ShloMosaic.Lib.Pointwise.Contract
public import Idealize.ShloMosaic.Lib.Pointwise.Sums
public import Idealize.ShloMosaic.Lib.Quiescent

@[expose] public section

set_option maxRecDepth 16384
set_option maxHeartbeats 1000000

noncomputable section

namespace Cert.Norm14

open Cert.Kernel14Ideal Cert.Kernel14Ideal.Gen Cert.Kernel14Ideal.Value
open Cert.Reference14Ideal.Read
open Idealize.ShloMosaic Idealize.ShloMosaic.TcCoe Idealize.ShloMosaic.Tactic Idealize.ShloMosaic.StableHlo Idealize.SL.Sem

/-- The column `k` of the tile `q` of 768 columns. -/
abbrev at3072 (q : Fin 4) (k : Fin 768) : Fin 3072 := ⟨q.val * 768 + k.val, by omega⟩

/-- A cotangent's part through one block of the weight. -/
def tile (d : S8192x3072.Idx → EReal) (w : S8x1024x768.Idx → EReal) (q : Fin 4) (e : Fin 8) (p : Fin 8192) (cc : Fin 1024) : EReal :=
  ∑ k : Fin 768, d (ValueIdx.ix2 p (at3072 q k)) * w (ValueIdx.ix3 e cc k)

/-- The two cotangents pulled back through the eight blocks of the weight. -/
def ct (dval dgate : S8192x3072.Idx → EReal) (w : S8x1024x768.Idx → EReal) : S8192x1024.Idx → EReal := fun i =>
  tile dval w 0 0 (i 0 : Fin 8192) (i 1 : Fin 1024) + tile dval w 1 1 (i 0 : Fin 8192) (i 1 : Fin 1024)
    + tile dval w 2 2 (i 0 : Fin 8192) (i 1 : Fin 1024) + tile dval w 3 3 (i 0 : Fin 8192) (i 1 : Fin 1024)
    + tile dgate w 0 4 (i 0 : Fin 8192) (i 1 : Fin 1024) + tile dgate w 1 5 (i 0 : Fin 8192) (i 1 : Fin 1024)
    + tile dgate w 2 6 (i 0 : Fin 8192) (i 1 : Fin 1024) + tile dgate w 3 7 (i 0 : Fin 8192) (i 1 : Fin 1024)

/-- The cotangent of the rows before the norm, for the cotangent `g` of the scaled rows. -/
def back (g x : S8192x1024.Idx → EReal) (w : S1x1024.Idx → EReal) (res : S8192x1024.Idx → EReal) : S8192x1024.Idx → EReal := fun i =>
  NormRows.back (fun k => x (ValueIdx.ix2 (i 0 : Fin 8192) k)) (fun k => w (ValueIdx.ix2 0 k)) (fun k => g (ValueIdx.ix2 (i 0 : Fin 8192) k))
    (fun k => res (ValueIdx.ix2 (i 0 : Fin 8192) k)) (i 1 : Fin 1024)

/-- One row's part of the gradient of the norm's weight. -/
def part (g x : S8192x1024.Idx → EReal) (k : Fin 1024) (p : Fin 8192) : EReal :=
  NormRows.weight (fun k => x (ValueIdx.ix2 p k)) (fun k => g (ValueIdx.ix2 p k)) k

/-- The gradient of the norm's weight: the sum over the rows. -/
def weights (g x : S8192x1024.Idx → EReal) : S1x1024.Idx → EReal := fun i => ∑ p : Fin 8192, part g x (i 1 : Fin 1024) p

/-! ## A block -/

theorem dot_at (x : S512x768.Idx → EReal) (y : S1024x768.Idx → EReal) (acc : S512x1024.Idx → EReal) (r : Fin 512) (c : Fin 1024) :
    Ideal.matmul dot_S512x768_S1024x768_S512x1024_1_1_0_0_n_n x y acc (ValueIdx.ix2 r c)
      = acc (ValueIdx.ix2 r c) + ∑ k : Fin 768, x (ValueIdx.ix2 r k) * y (ValueIdx.ix2 c k) :=
  Dots.rows x y acc r c

theorem tile_at (x : Vec Ideal S512x768 .bf16) (y : Vec Ideal S1x1024x768 .bf16) (r : Fin 512) (cc : Fin 1024) :
    Ideal.matmul dot_S512x768_S1024x768_S512x1024_1_1_0_0_n_n x (shapeCast S1024x768 y shapeCasts_S1x1024x768_S1024x768)
        (constant (F := Ideal) S512x1024 .f32 0x00000000#32) (ValueIdx.ix2 r cc)
      = (∑ k : Fin 768, (x (ValueIdx.ix2 r k) : EReal) * (y (ValueIdx.ix3 (0 : Fin 1) cc k) : EReal) : EReal) := by
  refine (dot_at x _ _ r cc).trans ?_
  refine (congrArg (fun z : EReal => z + _) Ideal.ofBits_zero_f32).trans ((zero_add _).trans ?_)
  exact Finset.sum_congr rfl fun k _ => congrArg (fun z : EReal => (x (ValueIdx.ix2 r k) : EReal) * z) (shapeCast_apply _ shapeCasts_S1x1024x768_S1024x768 _ (ValueIdx.ix3 (0 : Fin 1) cc k) (by
    rw [Shape.rowMajor_val_two, Shape.rowMajor_val_three]
    show ((0 : Fin 1).val * 1024 + cc.val) * 768 + k.val = cc.val * 768 + k.val
    simp))

theorem ct_at (x0 : Vec Ideal S512x768 .bf16) (x1 : Vec Ideal S512x768 .bf16) (x2 : Vec Ideal S512x768 .bf16) (x3 : Vec Ideal S512x768 .bf16) (x4 : Vec Ideal S512x768 .bf16) (x5 : Vec Ideal S512x768 .bf16) (x6 : Vec Ideal S512x768 .bf16) (x7 : Vec Ideal S512x768 .bf16) (x8 : Vec Ideal S1x1024x768 .bf16) (x9 : Vec Ideal S1x1024x768 .bf16) (x10 : Vec Ideal S1x1024x768 .bf16) (x11 : Vec Ideal S1x1024x768 .bf16) (x12 : Vec Ideal S1x1024x768 .bf16) (x13 : Vec Ideal S1x1024x768 .bf16) (x14 : Vec Ideal S1x1024x768 .bf16) (x15 : Vec Ideal S1x1024x768 .bf16) (r : Fin 512) (cc : Fin 1024) :
    k0_pay5 (F := Ideal) (k0_pay4 x0 x8 x1 x9 x2 x10 x3 x11 x4 x12) x5 x13 x6 x14 x7 x15 (ValueIdx.ix2 r cc)
      = ((∑ k : Fin 768, (x0 (ValueIdx.ix2 r k) : EReal) * (x8 (ValueIdx.ix3 (0 : Fin 1) cc k) : EReal)) + (∑ k : Fin 768, (x1 (ValueIdx.ix2 r k) : EReal) * (x9 (ValueIdx.ix3 (0 : Fin 1) cc k) : EReal)) + (∑ k : Fin 768, (x2 (ValueIdx.ix2 r k) : EReal) * (x10 (ValueIdx.ix3 (0 : Fin 1) cc k) : EReal)) + (∑ k : Fin 768, (x3 (ValueIdx.ix2 r k) : EReal) * (x11 (ValueIdx.ix3 (0 : Fin 1) cc k) : EReal)) + (∑ k : Fin 768, (x4 (ValueIdx.ix2 r k) : EReal) * (x12 (ValueIdx.ix3 (0 : Fin 1) cc k) : EReal)) + (∑ k : Fin 768, (x5 (ValueIdx.ix2 r k) : EReal) * (x13 (ValueIdx.ix3 (0 : Fin 1) cc k) : EReal)) + (∑ k : Fin 768, (x6 (ValueIdx.ix2 r k) : EReal) * (x14 (ValueIdx.ix3 (0 : Fin 1) cc k) : EReal)) + (∑ k : Fin 768, (x7 (ValueIdx.ix2 r k) : EReal) * (x15 (ValueIdx.ix3 (0 : Fin 1) cc k) : EReal)) : EReal) := by
  unfold k0_pay5 k0_pay4
  refine congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) ?_ ?_) ?_) ?_) ?_) ?_) ?_) ?_
  · exact tile_at x0 x8 r cc
  · exact tile_at x1 x9 r cc
  · exact tile_at x2 x10 r cc
  · exact tile_at x3 x11 r cc
  · exact tile_at x4 x12 r cc
  · exact tile_at x5 x13 r cc
  · exact tile_at x6 x14 r cc
  · exact tile_at x7 x15 r cc

theorem inv_at (x : Vec Ideal S512x1024 .f32) (r : Fin 512) : k0_pay7 (F := Ideal) x (ValueIdx.ix2 r 0) = NormRows.inv (NormRows.rowOf x r) :=
  congrArg Ideal.rsqrt (NormRows.mean_at x reduces_S512x1024_S512 (.inl rfl) rfl shapeCasts_S512_S512x1 r)

theorem factor_at (x : Vec Ideal S512x1024 .f32) (r : Fin 512) :
    (k0_pay8 (F := Ideal) x : FVec Ideal S512x1 .f32) (ValueIdx.ix2 r 0)
      = (NormRows.negHalf * Ideal.div (NormRows.inv (NormRows.rowOf x r)) (NormRows.mean (NormRows.rowOf x r)) : EReal) :=
  congrArg (fun z : EReal => NormRows.negHalf * z) (congrArg₂ Ideal.div (inv_at x r)
    (NormRows.mean_at x reduces_S512x1024_S512 (.inl rfl) rfl shapeCasts_S512_S512x1 r))

/-! ## What a grid point leaves in the two outputs -/

theorem zeros3 : (![0, 0, 0] : Fin 3 → Nat) = fun _ => 0 := funext fun a => by fin_cases a <;> rfl

section
variable {c : Dev nD} {i : grid0.Coords} {arg2 : Memref sig .tc .vmem S512x768 .bf16} {harg2 : arg2.IsWhole} {arg3 : Memref sig .tc .vmem S512x768 .bf16} {harg3 : arg3.IsWhole}
    {arg4 : Memref sig .tc .vmem S512x768 .bf16} {harg4 : arg4.IsWhole} {arg5 : Memref sig .tc .vmem S512x768 .bf16} {harg5 : arg5.IsWhole}
    {arg6 : Memref sig .tc .vmem S512x768 .bf16} {harg6 : arg6.IsWhole} {arg7 : Memref sig .tc .vmem S512x768 .bf16} {harg7 : arg7.IsWhole}
    {arg8 : Memref sig .tc .vmem S512x768 .bf16} {harg8 : arg8.IsWhole} {arg9 : Memref sig .tc .vmem S512x768 .bf16} {harg9 : arg9.IsWhole}
    {arg10 : Memref sig .tc .vmem S1x1024x768 .bf16} {harg10 : arg10.IsWhole} {arg11 : Memref sig .tc .vmem S1x1024x768 .bf16} {harg11 : arg11.IsWhole}
    {arg12 : Memref sig .tc .vmem S1x1024x768 .bf16} {harg12 : arg12.IsWhole} {arg13 : Memref sig .tc .vmem S1x1024x768 .bf16} {harg13 : arg13.IsWhole}
    {arg14 : Memref sig .tc .vmem S1x1024x768 .bf16} {harg14 : arg14.IsWhole} {arg15 : Memref sig .tc .vmem S1x1024x768 .bf16} {harg15 : arg15.IsWhole}
    {arg16 : Memref sig .tc .vmem S1x1024x768 .bf16} {harg16 : arg16.IsWhole} {arg17 : Memref sig .tc .vmem S1x1024x768 .bf16} {harg17 : arg17.IsWhole}
    {arg18 : Memref sig .tc .vmem S512x1024 .f32} {harg18 : arg18.IsWhole} {arg19 : Memref sig .tc .vmem S1x1024 .f32} {harg19 : arg19.IsWhole}
    {arg20 : Memref sig .tc .vmem S512x1024 .f32} {harg20 : arg20.IsWhole} {arg21 : Memref sig .tc .vmem S512x1024 .f32} {harg21 : arg21.IsWhole}
    {arg22 : Memref sig .tc .vmem S1x1024 .f32} {harg22 : arg22.IsWhole} {x0 x1 x2 x3 x4 x5 x6 x7 : Vec Ideal S512x768 .bf16}
    {x8 x9 x10 x11 x12 x13 x14 x15 : Vec Ideal S1x1024x768 .bf16} {x16 : Vec Ideal S512x1024 .f32} {x17 : Vec Ideal S1x1024 .f32} {x18 : Vec Ideal S512x1024 .f32}

theorem first19 {hc0 : cond0_0 i} :
    out0_A_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 x18
      = k0_pay1 (F := Ideal) x16 (k0_pay7 x16) (k0_pay8 x16) (k0_pay10 (k0_pay4 x0 x8 x1 x9 x2 x10 x3 x11 x4 x12) x5 x13 x6 x14 x7 x15 x17) (k0_pay11 (k0_pay4 x0 x8 x1 x9 x2 x10 x3 x11 x4 x12) x5 x13 x6 x14 x7 x15 x16 x17) x18 := by
  unfold out0_A_19
  rw [View.read_writes_eq_canon _ _ _ (cover0_A_19 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  try sl_unfold_words
  rw [View.canon_unit_zero NormRows.zeros]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread,
    View.ld_unit_zero (S := S1x1024) NormRows.zeros, View.ld_unit_zero (S := S1x1024x768) zeros3, View.ld_unit_zero (S := S512x1024) NormRows.zeros, View.ld_unit_zero (S := S512x768) NormRows.zeros, shapeCast_self]

theorem first20 {hc0 : cond0_0 i} :
    out0_A_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 x18
      = k0_pay3 (F := Ideal) (k0_pay9 (k0_pay4 x0 x8 x1 x9 x2 x10 x3 x11 x4 x12) x5 x13 x6 x14 x7 x15 x16) (k0_pay2 (F := Ideal)) := by
  unfold out0_A_20
  rw [View.read_writes_eq_canon _ _ _ (cover0_A_20 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  try sl_unfold_words
  rw [View.canon_cons_unit_zero (S := S1x1024) NormRows.zeros, View.readCov_unit_zero (S := S1x1024) _ NormRows.zeros]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread,
    View.ld_unit_zero (S := S1x1024) NormRows.zeros, View.ld_unit_zero (S := S1x1024x768) zeros3, View.ld_unit_zero (S := S512x1024) NormRows.zeros, View.ld_unit_zero (S := S512x768) NormRows.zeros, shapeCast_self]

theorem later19 {hc0 : ¬cond0_0 i} {xo20 : Vec Ideal S1x1024 .f32} :
    out0_B_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 x18 xo20
      = k0_pay1 (F := Ideal) x16 (k0_pay7 x16) (k0_pay8 x16) (k0_pay10 (k0_pay4 x0 x8 x1 x9 x2 x10 x3 x11 x4 x12) x5 x13 x6 x14 x7 x15 x17) (k0_pay11 (k0_pay4 x0 x8 x1 x9 x2 x10 x3 x11 x4 x12) x5 x13 x6 x14 x7 x15 x16 x17) x18 := by
  unfold out0_B_19
  rw [View.read_writes_eq_canon _ _ _ (cover0_B_19 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_B
  dsimp only
  try sl_unfold_words
  rw [View.canon_unit_zero NormRows.zeros]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread,
    View.ld_unit_zero (S := S1x1024) NormRows.zeros, View.ld_unit_zero (S := S1x1024x768) zeros3, View.ld_unit_zero (S := S512x1024) NormRows.zeros, View.ld_unit_zero (S := S512x768) NormRows.zeros, shapeCast_self]

theorem later20 {hc0 : ¬cond0_0 i} {xo20 : Vec Ideal S1x1024 .f32} :
    out0_B_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 x18 xo20
      = k0_pay3 (F := Ideal) (k0_pay9 (k0_pay4 x0 x8 x1 x9 x2 x10 x3 x11 x4 x12) x5 x13 x6 x14 x7 x15 x16) xo20 := by
  unfold out0_B_20
  rw [View.read_writes_eq_canon _ _ _ (cover0_B_20 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_B
  dsimp only
  try sl_unfold_words
  rw [View.canon_unit_zero NormRows.zeros]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread,
    View.ld_unit_zero (S := S1x1024) NormRows.zeros, View.ld_unit_zero (S := S1x1024x768) zeros3, View.ld_unit_zero (S := S512x1024) NormRows.zeros, View.ld_unit_zero (S := S512x768) NormRows.zeros, shapeCast_self]

end

/-! ## The blocks a grid point works on -/

variable (m : (ℓ : Loc nD τ sig) → Buf (Elt Ideal) ℓ) (ρ : Dev nD → PrngReg) (c : Dev nD)

abbrev arg0 : S8192x3072.Idx → EReal := m ((c.tc : Thread nD τ).loc main_arg0)
theorem index0 : ∀ t : Fin cfg0.N, win0_0.index t (0 : Fin 2) = t.val ∧ win0_0.index t (1 : Fin 2) = 0 :=
  (by decide +kernel : ∀ t : Fin grid0.N, _)
theorem block0 (t : Fin cfg0.N) (r : Fin 512) (k : Fin 768) (p : Fin 8192) (hp : p.val = t.val * 512 + r.val) :
    (iblk m c 0 t : S512x768.Idx → EReal) (ValueIdx.ix2 r k) = arg0 m c (ValueIdx.ix2 p (at3072 0 k)) := by
  obtain ⟨e0, e1⟩ := index0 t
  refine (congrFun (V_main_arg0 m c) _).trans (congrArg (arg0 m c) (funext fun a => Fin.ext ?_))
  match a with
  | ⟨0, _⟩ => show win0_0.index t (0 : Fin 2) * 512 + 1 * r.val = p.val; omega
  | ⟨1, _⟩ => show win0_0.index t (1 : Fin 2) * 768 + 1 * k.val = (0 : Fin 4).val * 768 + k.val; rw [e1, show (0 : Fin 4).val = 0 from rfl]; omega
theorem index1 : ∀ t : Fin cfg0.N, win0_1.index t (0 : Fin 2) = t.val ∧ win0_1.index t (1 : Fin 2) = 1 :=
  (by decide +kernel : ∀ t : Fin grid0.N, _)
theorem block1 (t : Fin cfg0.N) (r : Fin 512) (k : Fin 768) (p : Fin 8192) (hp : p.val = t.val * 512 + r.val) :
    (iblk m c 1 t : S512x768.Idx → EReal) (ValueIdx.ix2 r k) = arg0 m c (ValueIdx.ix2 p (at3072 1 k)) := by
  obtain ⟨e0, e1⟩ := index1 t
  refine (congrFun (V_main_arg0 m c) _).trans (congrArg (arg0 m c) (funext fun a => Fin.ext ?_))
  match a with
  | ⟨0, _⟩ => show win0_1.index t (0 : Fin 2) * 512 + 1 * r.val = p.val; omega
  | ⟨1, _⟩ => show win0_1.index t (1 : Fin 2) * 768 + 1 * k.val = (1 : Fin 4).val * 768 + k.val; rw [e1, show (1 : Fin 4).val = 1 from rfl]; omega
theorem index2 : ∀ t : Fin cfg0.N, win0_2.index t (0 : Fin 2) = t.val ∧ win0_2.index t (1 : Fin 2) = 2 :=
  (by decide +kernel : ∀ t : Fin grid0.N, _)
theorem block2 (t : Fin cfg0.N) (r : Fin 512) (k : Fin 768) (p : Fin 8192) (hp : p.val = t.val * 512 + r.val) :
    (iblk m c 2 t : S512x768.Idx → EReal) (ValueIdx.ix2 r k) = arg0 m c (ValueIdx.ix2 p (at3072 2 k)) := by
  obtain ⟨e0, e1⟩ := index2 t
  refine (congrFun (V_main_arg0 m c) _).trans (congrArg (arg0 m c) (funext fun a => Fin.ext ?_))
  match a with
  | ⟨0, _⟩ => show win0_2.index t (0 : Fin 2) * 512 + 1 * r.val = p.val; omega
  | ⟨1, _⟩ => show win0_2.index t (1 : Fin 2) * 768 + 1 * k.val = (2 : Fin 4).val * 768 + k.val; rw [e1, show (2 : Fin 4).val = 2 from rfl]; omega
theorem index3 : ∀ t : Fin cfg0.N, win0_3.index t (0 : Fin 2) = t.val ∧ win0_3.index t (1 : Fin 2) = 3 :=
  (by decide +kernel : ∀ t : Fin grid0.N, _)
theorem block3 (t : Fin cfg0.N) (r : Fin 512) (k : Fin 768) (p : Fin 8192) (hp : p.val = t.val * 512 + r.val) :
    (iblk m c 3 t : S512x768.Idx → EReal) (ValueIdx.ix2 r k) = arg0 m c (ValueIdx.ix2 p (at3072 3 k)) := by
  obtain ⟨e0, e1⟩ := index3 t
  refine (congrFun (V_main_arg0 m c) _).trans (congrArg (arg0 m c) (funext fun a => Fin.ext ?_))
  match a with
  | ⟨0, _⟩ => show win0_3.index t (0 : Fin 2) * 512 + 1 * r.val = p.val; omega
  | ⟨1, _⟩ => show win0_3.index t (1 : Fin 2) * 768 + 1 * k.val = (3 : Fin 4).val * 768 + k.val; rw [e1, show (3 : Fin 4).val = 3 from rfl]; omega

abbrev arg1 : S8192x3072.Idx → EReal := m ((c.tc : Thread nD τ).loc main_arg1)
theorem index4 : ∀ t : Fin cfg0.N, win0_4.index t (0 : Fin 2) = t.val ∧ win0_4.index t (1 : Fin 2) = 0 :=
  (by decide +kernel : ∀ t : Fin grid0.N, _)
theorem block4 (t : Fin cfg0.N) (r : Fin 512) (k : Fin 768) (p : Fin 8192) (hp : p.val = t.val * 512 + r.val) :
    (iblk m c 4 t : S512x768.Idx → EReal) (ValueIdx.ix2 r k) = arg1 m c (ValueIdx.ix2 p (at3072 0 k)) := by
  obtain ⟨e0, e1⟩ := index4 t
  refine (congrFun (V_main_arg1 m c) _).trans (congrArg (arg1 m c) (funext fun a => Fin.ext ?_))
  match a with
  | ⟨0, _⟩ => show win0_4.index t (0 : Fin 2) * 512 + 1 * r.val = p.val; omega
  | ⟨1, _⟩ => show win0_4.index t (1 : Fin 2) * 768 + 1 * k.val = (0 : Fin 4).val * 768 + k.val; rw [e1, show (0 : Fin 4).val = 0 from rfl]; omega
theorem index5 : ∀ t : Fin cfg0.N, win0_5.index t (0 : Fin 2) = t.val ∧ win0_5.index t (1 : Fin 2) = 1 :=
  (by decide +kernel : ∀ t : Fin grid0.N, _)
theorem block5 (t : Fin cfg0.N) (r : Fin 512) (k : Fin 768) (p : Fin 8192) (hp : p.val = t.val * 512 + r.val) :
    (iblk m c 5 t : S512x768.Idx → EReal) (ValueIdx.ix2 r k) = arg1 m c (ValueIdx.ix2 p (at3072 1 k)) := by
  obtain ⟨e0, e1⟩ := index5 t
  refine (congrFun (V_main_arg1 m c) _).trans (congrArg (arg1 m c) (funext fun a => Fin.ext ?_))
  match a with
  | ⟨0, _⟩ => show win0_5.index t (0 : Fin 2) * 512 + 1 * r.val = p.val; omega
  | ⟨1, _⟩ => show win0_5.index t (1 : Fin 2) * 768 + 1 * k.val = (1 : Fin 4).val * 768 + k.val; rw [e1, show (1 : Fin 4).val = 1 from rfl]; omega
theorem index6 : ∀ t : Fin cfg0.N, win0_6.index t (0 : Fin 2) = t.val ∧ win0_6.index t (1 : Fin 2) = 2 :=
  (by decide +kernel : ∀ t : Fin grid0.N, _)
theorem block6 (t : Fin cfg0.N) (r : Fin 512) (k : Fin 768) (p : Fin 8192) (hp : p.val = t.val * 512 + r.val) :
    (iblk m c 6 t : S512x768.Idx → EReal) (ValueIdx.ix2 r k) = arg1 m c (ValueIdx.ix2 p (at3072 2 k)) := by
  obtain ⟨e0, e1⟩ := index6 t
  refine (congrFun (V_main_arg1 m c) _).trans (congrArg (arg1 m c) (funext fun a => Fin.ext ?_))
  match a with
  | ⟨0, _⟩ => show win0_6.index t (0 : Fin 2) * 512 + 1 * r.val = p.val; omega
  | ⟨1, _⟩ => show win0_6.index t (1 : Fin 2) * 768 + 1 * k.val = (2 : Fin 4).val * 768 + k.val; rw [e1, show (2 : Fin 4).val = 2 from rfl]; omega
theorem index7 : ∀ t : Fin cfg0.N, win0_7.index t (0 : Fin 2) = t.val ∧ win0_7.index t (1 : Fin 2) = 3 :=
  (by decide +kernel : ∀ t : Fin grid0.N, _)
theorem block7 (t : Fin cfg0.N) (r : Fin 512) (k : Fin 768) (p : Fin 8192) (hp : p.val = t.val * 512 + r.val) :
    (iblk m c 7 t : S512x768.Idx → EReal) (ValueIdx.ix2 r k) = arg1 m c (ValueIdx.ix2 p (at3072 3 k)) := by
  obtain ⟨e0, e1⟩ := index7 t
  refine (congrFun (V_main_arg1 m c) _).trans (congrArg (arg1 m c) (funext fun a => Fin.ext ?_))
  match a with
  | ⟨0, _⟩ => show win0_7.index t (0 : Fin 2) * 512 + 1 * r.val = p.val; omega
  | ⟨1, _⟩ => show win0_7.index t (1 : Fin 2) * 768 + 1 * k.val = (3 : Fin 4).val * 768 + k.val; rw [e1, show (3 : Fin 4).val = 3 from rfl]; omega

/-- The weight as the kernel receives it. -/
abbrev argW : S8x1024x768.Idx → EReal := V m c main_v1
theorem index8 : ∀ t : Fin cfg0.N, win0_8.index t (0 : Fin 3) = 0 ∧ win0_8.index t (1 : Fin 3) = 0 ∧ win0_8.index t (2 : Fin 3) = 0 :=
  (by decide +kernel : ∀ t : Fin grid0.N, _)
theorem block8 (t : Fin cfg0.N) (cc : Fin 1024) (k : Fin 768) :
    (iblk m c 8 t : S1x1024x768.Idx → EReal) (ValueIdx.ix3 (0 : Fin 1) cc k) = argW m c (ValueIdx.ix3 (0 : Fin 8) cc k) := by
  obtain ⟨e0, e1, e2⟩ := index8 t
  refine congrArg (argW m c) (funext fun a => Fin.ext ?_)
  match a with
  | ⟨0, _⟩ => show win0_8.index t (0 : Fin 3) * 1 + 1 * (0 : Fin 1).val = (0 : Fin 8).val; rw [e0]; rfl
  | ⟨1, _⟩ => show win0_8.index t (1 : Fin 3) * 1024 + 1 * cc.val = cc.val; omega
  | ⟨2, _⟩ => show win0_8.index t (2 : Fin 3) * 768 + 1 * k.val = k.val; omega
theorem index9 : ∀ t : Fin cfg0.N, win0_9.index t (0 : Fin 3) = 1 ∧ win0_9.index t (1 : Fin 3) = 0 ∧ win0_9.index t (2 : Fin 3) = 0 :=
  (by decide +kernel : ∀ t : Fin grid0.N, _)
theorem block9 (t : Fin cfg0.N) (cc : Fin 1024) (k : Fin 768) :
    (iblk m c 9 t : S1x1024x768.Idx → EReal) (ValueIdx.ix3 (0 : Fin 1) cc k) = argW m c (ValueIdx.ix3 (1 : Fin 8) cc k) := by
  obtain ⟨e0, e1, e2⟩ := index9 t
  refine congrArg (argW m c) (funext fun a => Fin.ext ?_)
  match a with
  | ⟨0, _⟩ => show win0_9.index t (0 : Fin 3) * 1 + 1 * (0 : Fin 1).val = (1 : Fin 8).val; rw [e0]; rfl
  | ⟨1, _⟩ => show win0_9.index t (1 : Fin 3) * 1024 + 1 * cc.val = cc.val; omega
  | ⟨2, _⟩ => show win0_9.index t (2 : Fin 3) * 768 + 1 * k.val = k.val; omega
theorem index10 : ∀ t : Fin cfg0.N, win0_10.index t (0 : Fin 3) = 2 ∧ win0_10.index t (1 : Fin 3) = 0 ∧ win0_10.index t (2 : Fin 3) = 0 :=
  (by decide +kernel : ∀ t : Fin grid0.N, _)
theorem block10 (t : Fin cfg0.N) (cc : Fin 1024) (k : Fin 768) :
    (iblk m c 10 t : S1x1024x768.Idx → EReal) (ValueIdx.ix3 (0 : Fin 1) cc k) = argW m c (ValueIdx.ix3 (2 : Fin 8) cc k) := by
  obtain ⟨e0, e1, e2⟩ := index10 t
  refine congrArg (argW m c) (funext fun a => Fin.ext ?_)
  match a with
  | ⟨0, _⟩ => show win0_10.index t (0 : Fin 3) * 1 + 1 * (0 : Fin 1).val = (2 : Fin 8).val; rw [e0]; rfl
  | ⟨1, _⟩ => show win0_10.index t (1 : Fin 3) * 1024 + 1 * cc.val = cc.val; omega
  | ⟨2, _⟩ => show win0_10.index t (2 : Fin 3) * 768 + 1 * k.val = k.val; omega
theorem index11 : ∀ t : Fin cfg0.N, win0_11.index t (0 : Fin 3) = 3 ∧ win0_11.index t (1 : Fin 3) = 0 ∧ win0_11.index t (2 : Fin 3) = 0 :=
  (by decide +kernel : ∀ t : Fin grid0.N, _)
theorem block11 (t : Fin cfg0.N) (cc : Fin 1024) (k : Fin 768) :
    (iblk m c 11 t : S1x1024x768.Idx → EReal) (ValueIdx.ix3 (0 : Fin 1) cc k) = argW m c (ValueIdx.ix3 (3 : Fin 8) cc k) := by
  obtain ⟨e0, e1, e2⟩ := index11 t
  refine congrArg (argW m c) (funext fun a => Fin.ext ?_)
  match a with
  | ⟨0, _⟩ => show win0_11.index t (0 : Fin 3) * 1 + 1 * (0 : Fin 1).val = (3 : Fin 8).val; rw [e0]; rfl
  | ⟨1, _⟩ => show win0_11.index t (1 : Fin 3) * 1024 + 1 * cc.val = cc.val; omega
  | ⟨2, _⟩ => show win0_11.index t (2 : Fin 3) * 768 + 1 * k.val = k.val; omega
theorem index12 : ∀ t : Fin cfg0.N, win0_12.index t (0 : Fin 3) = 4 ∧ win0_12.index t (1 : Fin 3) = 0 ∧ win0_12.index t (2 : Fin 3) = 0 :=
  (by decide +kernel : ∀ t : Fin grid0.N, _)
theorem block12 (t : Fin cfg0.N) (cc : Fin 1024) (k : Fin 768) :
    (iblk m c 12 t : S1x1024x768.Idx → EReal) (ValueIdx.ix3 (0 : Fin 1) cc k) = argW m c (ValueIdx.ix3 (4 : Fin 8) cc k) := by
  obtain ⟨e0, e1, e2⟩ := index12 t
  refine congrArg (argW m c) (funext fun a => Fin.ext ?_)
  match a with
  | ⟨0, _⟩ => show win0_12.index t (0 : Fin 3) * 1 + 1 * (0 : Fin 1).val = (4 : Fin 8).val; rw [e0]; rfl
  | ⟨1, _⟩ => show win0_12.index t (1 : Fin 3) * 1024 + 1 * cc.val = cc.val; omega
  | ⟨2, _⟩ => show win0_12.index t (2 : Fin 3) * 768 + 1 * k.val = k.val; omega
theorem index13 : ∀ t : Fin cfg0.N, win0_13.index t (0 : Fin 3) = 5 ∧ win0_13.index t (1 : Fin 3) = 0 ∧ win0_13.index t (2 : Fin 3) = 0 :=
  (by decide +kernel : ∀ t : Fin grid0.N, _)
theorem block13 (t : Fin cfg0.N) (cc : Fin 1024) (k : Fin 768) :
    (iblk m c 13 t : S1x1024x768.Idx → EReal) (ValueIdx.ix3 (0 : Fin 1) cc k) = argW m c (ValueIdx.ix3 (5 : Fin 8) cc k) := by
  obtain ⟨e0, e1, e2⟩ := index13 t
  refine congrArg (argW m c) (funext fun a => Fin.ext ?_)
  match a with
  | ⟨0, _⟩ => show win0_13.index t (0 : Fin 3) * 1 + 1 * (0 : Fin 1).val = (5 : Fin 8).val; rw [e0]; rfl
  | ⟨1, _⟩ => show win0_13.index t (1 : Fin 3) * 1024 + 1 * cc.val = cc.val; omega
  | ⟨2, _⟩ => show win0_13.index t (2 : Fin 3) * 768 + 1 * k.val = k.val; omega
theorem index14 : ∀ t : Fin cfg0.N, win0_14.index t (0 : Fin 3) = 6 ∧ win0_14.index t (1 : Fin 3) = 0 ∧ win0_14.index t (2 : Fin 3) = 0 :=
  (by decide +kernel : ∀ t : Fin grid0.N, _)
theorem block14 (t : Fin cfg0.N) (cc : Fin 1024) (k : Fin 768) :
    (iblk m c 14 t : S1x1024x768.Idx → EReal) (ValueIdx.ix3 (0 : Fin 1) cc k) = argW m c (ValueIdx.ix3 (6 : Fin 8) cc k) := by
  obtain ⟨e0, e1, e2⟩ := index14 t
  refine congrArg (argW m c) (funext fun a => Fin.ext ?_)
  match a with
  | ⟨0, _⟩ => show win0_14.index t (0 : Fin 3) * 1 + 1 * (0 : Fin 1).val = (6 : Fin 8).val; rw [e0]; rfl
  | ⟨1, _⟩ => show win0_14.index t (1 : Fin 3) * 1024 + 1 * cc.val = cc.val; omega
  | ⟨2, _⟩ => show win0_14.index t (2 : Fin 3) * 768 + 1 * k.val = k.val; omega
theorem index15 : ∀ t : Fin cfg0.N, win0_15.index t (0 : Fin 3) = 7 ∧ win0_15.index t (1 : Fin 3) = 0 ∧ win0_15.index t (2 : Fin 3) = 0 :=
  (by decide +kernel : ∀ t : Fin grid0.N, _)
theorem block15 (t : Fin cfg0.N) (cc : Fin 1024) (k : Fin 768) :
    (iblk m c 15 t : S1x1024x768.Idx → EReal) (ValueIdx.ix3 (0 : Fin 1) cc k) = argW m c (ValueIdx.ix3 (7 : Fin 8) cc k) := by
  obtain ⟨e0, e1, e2⟩ := index15 t
  refine congrArg (argW m c) (funext fun a => Fin.ext ?_)
  match a with
  | ⟨0, _⟩ => show win0_15.index t (0 : Fin 3) * 1 + 1 * (0 : Fin 1).val = (7 : Fin 8).val; rw [e0]; rfl
  | ⟨1, _⟩ => show win0_15.index t (1 : Fin 3) * 1024 + 1 * cc.val = cc.val; omega
  | ⟨2, _⟩ => show win0_15.index t (2 : Fin 3) * 768 + 1 * k.val = k.val; omega

abbrev arg3 : S8192x1024.Idx → EReal := m ((c.tc : Thread nD τ).loc main_arg3)
theorem index16 : ∀ t : Fin cfg0.N, win0_16.index t (0 : Fin 2) = t.val ∧ win0_16.index t (1 : Fin 2) = 0 :=
  (by decide +kernel : ∀ t : Fin grid0.N, _)
theorem block16 (t : Fin cfg0.N) (r : Fin 512) (k : Fin 1024) (p : Fin 8192) (hp : p.val = t.val * 512 + r.val) :
    (iblk m c 16 t : S512x1024.Idx → EReal) (ValueIdx.ix2 r k) = arg3 m c (ValueIdx.ix2 p k) := by
  obtain ⟨e0, e1⟩ := index16 t
  refine (congrFun (V_main_arg3 m c) _).trans (congrArg (arg3 m c) (funext fun a => Fin.ext ?_))
  match a with
  | ⟨0, _⟩ => show win0_16.index t (0 : Fin 2) * 512 + 1 * r.val = p.val; omega
  | ⟨1, _⟩ => show win0_16.index t (1 : Fin 2) * 1024 + 1 * k.val = k.val; omega

abbrev arg4 : S1x1024.Idx → EReal := m ((c.tc : Thread nD τ).loc main_arg4)
theorem index17 : ∀ t : Fin cfg0.N, win0_17.index t (0 : Fin 2) = 0 ∧ win0_17.index t (1 : Fin 2) = 0 :=
  (by decide +kernel : ∀ t : Fin grid0.N, _)
theorem block17 (t : Fin cfg0.N) (cc : Fin 1024) :
    (iblk m c 17 t : S1x1024.Idx → EReal) (ValueIdx.ix2 0 cc) = arg4 m c (ValueIdx.ix2 0 cc) := by
  obtain ⟨e0, e1⟩ := index17 t
  refine (congrFun (V_main_arg4 m c) _).trans (congrArg (arg4 m c) (funext fun a => Fin.ext ?_))
  match a with
  | ⟨0, _⟩ => show win0_17.index t (0 : Fin 2) * 1 + 1 * 0 = 0; omega
  | ⟨1, _⟩ => show win0_17.index t (1 : Fin 2) * 1024 + 1 * cc.val = cc.val; omega

abbrev arg5 : S8192x1024.Idx → EReal := m ((c.tc : Thread nD τ).loc main_arg5)
theorem index18 : ∀ t : Fin cfg0.N, win0_18.index t (0 : Fin 2) = t.val ∧ win0_18.index t (1 : Fin 2) = 0 :=
  (by decide +kernel : ∀ t : Fin grid0.N, _)
theorem block18 (t : Fin cfg0.N) (r : Fin 512) (k : Fin 1024) (p : Fin 8192) (hp : p.val = t.val * 512 + r.val) :
    (iblk m c 18 t : S512x1024.Idx → EReal) (ValueIdx.ix2 r k) = arg5 m c (ValueIdx.ix2 p k) := by
  obtain ⟨e0, e1⟩ := index18 t
  refine (congrFun (V_main_arg5 m c) _).trans (congrArg (arg5 m c) (funext fun a => Fin.ext ?_))
  match a with
  | ⟨0, _⟩ => show win0_18.index t (0 : Fin 2) * 512 + 1 * r.val = p.val; omega
  | ⟨1, _⟩ => show win0_18.index t (1 : Fin 2) * 1024 + 1 * k.val = k.val; omega

/-- The cotangent of the scaled rows. -/
abbrev argG : S8192x1024.Idx → EReal := ct (arg0 m c) (arg1 m c) (argW m c)

theorem ct_block (t : Fin cfg0.N) (r : Fin 512) (cc : Fin 1024) (p : Fin 8192) (hp : p.val = t.val * 512 + r.val) :
    k0_pay5 (F := Ideal) (k0_pay4 (iblk m c 0 t) (iblk m c 8 t) (iblk m c 1 t) (iblk m c 9 t) (iblk m c 2 t) (iblk m c 10 t) (iblk m c 3 t) (iblk m c 11 t) (iblk m c 4 t) (iblk m c 12 t)) (iblk m c 5 t) (iblk m c 13 t) (iblk m c 6 t) (iblk m c 14 t) (iblk m c 7 t) (iblk m c 15 t) (ValueIdx.ix2 r cc) = ct (arg0 m c) (arg1 m c) (argW m c) (ValueIdx.ix2 p cc) := by
  refine (ct_at _ _ _ _ _ _ _ _ _ _ _ _ _ _ _ _ r cc).trans ?_
  refine congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) ?_ ?_) ?_) ?_) ?_) ?_) ?_) ?_
  · exact Finset.sum_congr rfl fun k _ => congrArg₂ (fun x y : EReal => x * y) (block0 m c t r k p hp) (block8 m c t cc k)
  · exact Finset.sum_congr rfl fun k _ => congrArg₂ (fun x y : EReal => x * y) (block1 m c t r k p hp) (block9 m c t cc k)
  · exact Finset.sum_congr rfl fun k _ => congrArg₂ (fun x y : EReal => x * y) (block2 m c t r k p hp) (block10 m c t cc k)
  · exact Finset.sum_congr rfl fun k _ => congrArg₂ (fun x y : EReal => x * y) (block3 m c t r k p hp) (block11 m c t cc k)
  · exact Finset.sum_congr rfl fun k _ => congrArg₂ (fun x y : EReal => x * y) (block4 m c t r k p hp) (block12 m c t cc k)
  · exact Finset.sum_congr rfl fun k _ => congrArg₂ (fun x y : EReal => x * y) (block5 m c t r k p hp) (block13 m c t cc k)
  · exact Finset.sum_congr rfl fun k _ => congrArg₂ (fun x y : EReal => x * y) (block6 m c t r k p hp) (block14 m c t cc k)
  · exact Finset.sum_congr rfl fun k _ => congrArg₂ (fun x y : EReal => x * y) (block7 m c t r k p hp) (block15 m c t cc k)

/-- The block of it a grid point computes. -/
abbrev blkG (t : Fin cfg0.N) : FVec Ideal S512x1024 .f32 := k0_pay5 (F := Ideal) (k0_pay4 (iblk m c 0 t) (iblk m c 8 t) (iblk m c 1 t) (iblk m c 9 t) (iblk m c 2 t) (iblk m c 10 t) (iblk m c 3 t) (iblk m c 11 t) (iblk m c 4 t) (iblk m c 12 t)) (iblk m c 5 t) (iblk m c 13 t) (iblk m c 6 t) (iblk m c 14 t) (iblk m c 7 t) (iblk m c 15 t)

theorem back_block (t : Fin cfg0.N) (r : Fin 512) (cc : Fin 1024) (p : Fin 8192) (hp : p.val = t.val * 512 + r.val) :
    k0_pay1 (F := Ideal) (iblk m c 16 t) (k0_pay7 (iblk m c 16 t)) (k0_pay8 (iblk m c 16 t)) (k0_pay10 (k0_pay4 (iblk m c 0 t) (iblk m c 8 t) (iblk m c 1 t) (iblk m c 9 t) (iblk m c 2 t) (iblk m c 10 t) (iblk m c 3 t) (iblk m c 11 t) (iblk m c 4 t) (iblk m c 12 t)) (iblk m c 5 t) (iblk m c 13 t) (iblk m c 6 t) (iblk m c 14 t) (iblk m c 7 t) (iblk m c 15 t) (iblk m c 17 t)) (k0_pay11 (k0_pay4 (iblk m c 0 t) (iblk m c 8 t) (iblk m c 1 t) (iblk m c 9 t) (iblk m c 2 t) (iblk m c 10 t) (iblk m c 3 t) (iblk m c 11 t) (iblk m c 4 t) (iblk m c 12 t)) (iblk m c 5 t) (iblk m c 13 t) (iblk m c 6 t) (iblk m c 14 t) (iblk m c 7 t) (iblk m c 15 t) (iblk m c 16 t) (iblk m c 17 t)) (iblk m c 18 t) (ValueIdx.ix2 r cc)
      = back (argG m c) (arg3 m c) (arg4 m c) (arg5 m c) (ValueIdx.ix2 p cc) := by
  refine Eq.trans (NormRows.back_at (blkG m c t) (iblk m c 16 t) (iblk m c 18 t) (iblk m c 17 t) (k0_pay7 (iblk m c 16 t))
    (k0_pay8 (F := Ideal) (iblk m c 16 t)) reduces_S512x1024_S512 reduces_S512x1_S512 (.inl rfl) rfl shapeCasts_S512_S512x1
    broadcasts_S512x1_S512x1024 broadcasts_S1x1024_S512x1024 r cc (inv_at _ r) (factor_at _ r)) ?_
  have eh : NormRows.rowOf (iblk m c 16 t) r = fun k => (arg3 m c) (ValueIdx.ix2 p k) := funext fun k => block16 m c t r k p hp
  have eg : NormRows.rowOf (blkG m c t) r = fun k => argG m c (ValueIdx.ix2 p k) := funext fun k => ct_block m c t r k p hp
  have er : NormRows.rowOf (iblk m c 18 t) r = fun k => (arg5 m c) (ValueIdx.ix2 p k) := funext fun k => block18 m c t r k p hp
  have ew : (fun j => (iblk m c 17 t : S1x1024.Idx → EReal) (ValueIdx.ix2 0 j)) = fun k => (arg4 m c) (ValueIdx.ix2 0 k) := funext fun k => block17 m c t k
  rw [eh, eg, er]
  exact congrArg (fun w => NormRows.back _ w _ _ cc) ew

/-- The token of row `r` of a block. -/
abbrev token (n : Nat) (r : Fin 512) : Fin 8192 := ⟨(n * 512 + r.val) % 8192, Nat.mod_lt _ (by decide)⟩

/-- A block's part of the gradient of the norm's weight. -/
def blockPart (n : Nat) : S1x1024.Idx → EReal := fun i => ∑ r : Fin 512, part (argG m c) (arg3 m c) (i 1 : Fin 1024) (token n r)

theorem weight_block (t : Fin cfg0.N) (acc : Vec Ideal S1x1024 .f32) (i : S1x1024.Idx) :
    k0_pay3 (F := Ideal) (k0_pay9 (k0_pay4 (iblk m c 0 t) (iblk m c 8 t) (iblk m c 1 t) (iblk m c 9 t) (iblk m c 2 t) (iblk m c 10 t) (iblk m c 3 t) (iblk m c 11 t) (iblk m c 4 t) (iblk m c 12 t)) (iblk m c 5 t) (iblk m c 13 t) (iblk m c 6 t) (iblk m c 14 t) (iblk m c 7 t) (iblk m c 15 t) (iblk m c 16 t)) acc i = (acc i + blockPart m c t.val i : EReal) := by
  obtain ⟨z, k, rfl⟩ : ∃ (z : Fin 1) (k : Fin 1024), i = ValueIdx.ix2 z k := ⟨_, _, ValueIdx.eq_ix2 i⟩
  obtain rfl : z = 0 := Fin.ext (Nat.lt_one_iff.mp z.isLt)
  refine Eq.trans (NormRows.weight_at (blkG m c t) (iblk m c 16 t) acc (k0_pay7 (iblk m c 16 t)) reduces_S512x1024_S1024 (.inl rfl) rfl
    shapeCasts_S1024_S1x1024 shapeCasts_S1x1024_S1x1024 broadcasts_S512x1_S512x1024 k (fun r => inv_at _ r)) ?_
  refine congrArg (fun z : EReal => acc (ValueIdx.ix2 0 k) + z) (Finset.sum_congr rfl fun r _ => ?_)
  have hN : cfg0.N = 16 := N_0
  have ht := t.isLt
  have hr := r.isLt
  have hp : (token t.val r).val = t.val * 512 + r.val := by show (t.val * 512 + r.val) % 8192 = _; omega
  have eh : NormRows.rowOf (iblk m c 16 t) r = fun k => (arg3 m c) (ValueIdx.ix2 (token t.val r) k) := funext fun k => block16 m c t r k _ hp
  have eg : NormRows.rowOf (blkG m c t) r = fun k => argG m c (ValueIdx.ix2 (token t.val r) k) := funext fun k => ct_block m c t r k _ hp
  rw [eh, eg]
  rfl

/-! ## The arrays the blocks make -/

theorem place19 : ∀ t : Fin cfg0.N, win0_19.index t (0 : Fin 2) = t.val ∧ win0_19.index t (1 : Fin 2) = 0 :=
  (by decide +kernel : ∀ t : Fin grid0.N, _)

theorem out19 (t : Fin cfg0.N) (y : S512x1024.Idx) : (((cfg0.win 19).blk t).view.emb y (0 : Fin 2)).val = t.val * 512 + (y 0).val
    ∧ (((cfg0.win 19).blk t).view.emb y (1 : Fin 2)).val = (y 1).val := by
  obtain ⟨e0, e1⟩ := place19 t
  constructor
  · show win0_19.index t (0 : Fin 2) * 512 + 1 * (y 0).val = _; omega
  · show win0_19.index t (1 : Fin 2) * 1024 + 1 * (y 1).val = _; omega

theorem flushes19 : ∀ t : Fin cfg0.N, (cfg0.win 19).flush t = true := (by decide +kernel : ∀ t : Fin grid0.N, win0_19.flush t = true)

theorem covered19 (i : S8192x1024.Idx) : ∃ t : Fin cfg0.N, (cfg0.win 19).flush t = true ∧ i ∈ ((cfg0.win 19).blk t).view.set := by
  obtain ⟨t, y, rfl⟩ := NormRows.block_of N_0 (fun t y => ((cfg0.win 19).blk t).view.emb y) out19 i
  exact ⟨t, flushes19 t, ((cfg0.win 19).blk t).view.emb_mem_set y⟩

theorem result19 : (dats m 0 c).arrAt 19 cfg0.N = back (argG m c) (arg3 m c) (arg4 m c) (arg5 m c) := by
  refine (dats m 0 c).arrAt_eq_of_cover 19 (back (argG m c) (arg3 m c) (arg4 m c) (arg5 m c)) (fun t _ => ?_) covered19
  have hN : cfg0.N = 16 := N_0
  funext (y : S512x1024.Idx)
  obtain ⟨r, cc, rfl⟩ : ∃ r cc, y = ValueIdx.ix2 r cc := ⟨_, _, ValueIdx.eq_ix2 y⟩
  obtain ⟨hb0, hb1⟩ := out19 t (ValueIdx.ix2 r cc)
  have hp : t.val * 512 + r.val < 8192 := by have := t.isLt; have := r.isLt; omega
  have he : ((cfg0.win 19).blk t).view.emb (ValueIdx.ix2 r cc) = (ValueIdx.ix2 (⟨t.val * 512 + r.val, hp⟩ : Fin 8192) cc : S8192x1024.Idx) := funext fun a => Fin.ext (by
    match a with
    | ⟨0, _⟩ => exact hb0
    | ⟨1, _⟩ => exact hb1)
  refine Eq.trans ?_ ((back_block m c t r cc ⟨t.val * 512 + r.val, hp⟩ rfl).trans (congrArg (back (argG m c) (arg3 m c) (arg4 m c) (arg5 m c)) he.symm))
  by_cases h0 : t.val % 16 = 0
  · refine (congrFun (flushed19_A m c t h0) _).trans ?_
    exact congrFun first19 (ValueIdx.ix2 r cc)
  · refine (congrFun (flushed19_B m c t h0) _).trans ?_
    exact congrFun later19 (ValueIdx.ix2 r cc)

/-- What the first point of the grid starts the sum with, and what each later one adds. -/
def step (n : Nat) (h : n < cfg0.N) (acc : S1x1024.Idx → EReal) : S1x1024.Idx → EReal := k0_pay3 (F := Ideal) (k0_pay9 (k0_pay4 (iblk m c 0 ⟨n, h⟩) (iblk m c 8 ⟨n, h⟩) (iblk m c 1 ⟨n, h⟩) (iblk m c 9 ⟨n, h⟩) (iblk m c 2 ⟨n, h⟩) (iblk m c 10 ⟨n, h⟩) (iblk m c 3 ⟨n, h⟩) (iblk m c 11 ⟨n, h⟩) (iblk m c 4 ⟨n, h⟩) (iblk m c 12 ⟨n, h⟩)) (iblk m c 5 ⟨n, h⟩) (iblk m c 13 ⟨n, h⟩) (iblk m c 6 ⟨n, h⟩) (iblk m c 14 ⟨n, h⟩) (iblk m c 7 ⟨n, h⟩) (iblk m c 15 ⟨n, h⟩) (iblk m c 16 ⟨n, h⟩)) acc
def start (n : Nat) (h : n < cfg0.N) : S1x1024.Idx → EReal := step m c n h (k0_pay2 (F := Ideal))

theorem pair_snd {A B : Type} {p : A × B} {a : A} {b : B} (h : p = (a, b)) : p.2 = b := congrArg Prod.snd h

theorem point_first (n : Nat) (h : n < cfg0.N) (hn : n % 16 = 0) : ((outsAt0 m c n h).2 : S1x1024.Idx → EReal) = start m c n h := by
  unfold start step
  exact (pair_snd (outsAt0_A m c ⟨n, h⟩ hn)).trans first20

theorem point_later (n : Nat) (h : n + 1 < cfg0.N) (hn : ¬(n + 1) % 16 = 0) :
    ((outsAt0 m c (n + 1) h).2 : S1x1024.Idx → EReal) = step m c (n + 1) h (outsAt0 m c n (Nat.lt_of_succ_lt h)).2 := by
  unfold step
  exact (pair_snd (outsAt0_B m c ⟨n + 1, h⟩ hn)).trans later20

theorem sum_over_points (t : Fin cfg0.N) (h' : 16 * (t.val / 16) + t.val % 16 < cfg0.N) :
    ((outsAt0 m c t.val t.isLt).2 : S1x1024.Idx → EReal) = Pipeline.accAt (start m c) (step m c) (16 * (t.val / 16)) (t.val % 16) h' :=
  Pipeline.eq_accAt_of_mod (N := cfg0.N) (fun n h => ((outsAt0 m c n h).2 : S1x1024.Idx → EReal)) 16 (start m c) (step m c)
    (point_first m c) (point_later m c) (by decide) t.val t.isLt h'

theorem sum_last (t : Fin cfg0.N) (ht : t.val = 15) (i : S1x1024.Idx) : ((outsAt0 m c t.val t.isLt).2 : S1x1024.Idx → EReal) i = weights (argG m c) (arg3 m c) i := by
  have hN : cfg0.N = 16 := N_0
  have hd : 16 * (t.val / 16) = 0 := by omega
  have hm : t.val % 16 = 15 := by omega
  refine (congrFun (sum_over_points m c t (by omega)) i).trans ?_
  have h := Pipeline.accAt_add_apply (N := cfg0.N) (start m c) (step m c) (fun _ => (0 : EReal)) (blockPart m c) (16 * (t.val / 16)) 15
    (fun h i => (weight_block m c ⟨_, h⟩ (k0_pay2 (F := Ideal)) i).trans (congrArg (fun z : EReal => z + _) Ideal.ofBits_zero_f32))
    (fun n h acc i _ _ => weight_block m c ⟨n, h⟩ acc i) (t.val % 16) (by omega) (by omega) i
  refine h.trans ((zero_add _).trans ?_)
  rw [hm, hd]
  refine (Finset.sum_range _).trans (Eq.trans ?_ (Fin.sum_univ_tiles 16 512 rfl (part (argG m c) (arg3 m c) (i 1 : Fin 1024))).symm)
  refine Finset.sum_congr rfl fun s _ => Finset.sum_congr rfl fun r _ => congrArg (part (argG m c) (arg3 m c) (i 1 : Fin 1024)) (Fin.ext ?_)
  have hs := s.isLt
  have hr := r.isLt
  show ((0 + s.val) * 512 + r.val) % 8192 = s.val * 512 + r.val
  omega

theorem place20 : ∀ t : Fin cfg0.N, win0_20.index t (0 : Fin 2) = 0 ∧ win0_20.index t (1 : Fin 2) = 0 :=
  (by decide +kernel : ∀ t : Fin grid0.N, _)

theorem out20 (t : Fin cfg0.N) (y : S1x1024.Idx) : ((cfg0.win 20).blk t).view.emb y = y := by
  obtain ⟨e0, e1⟩ := place20 t
  funext a; apply Fin.ext
  match a with
  | ⟨0, _⟩ => show win0_20.index t (0 : Fin 2) * 1 + 1 * (y 0).val = (y 0).val; omega
  | ⟨1, _⟩ => show win0_20.index t (1 : Fin 2) * 1024 + 1 * (y 1).val = (y 1).val; omega

theorem flushes20 : ∀ t : Fin cfg0.N, ((cfg0.win 20).flush t = true ↔ t.val = 15) := (by decide +kernel : ∀ t : Fin grid0.N, (win0_20.flush t = true ↔ t.val = 15))

theorem covered20 (i : S1x1024.Idx) : ∃ t : Fin cfg0.N, (cfg0.win 20).flush t = true ∧ i ∈ ((cfg0.win 20).blk t).view.set := by
  have ht : 15 < cfg0.N := by have hN : cfg0.N = 16 := N_0; omega
  refine ⟨⟨15, ht⟩, (flushes20 _).mpr rfl, ?_⟩
  exact (congrArg (· ∈ _) (out20 ⟨15, ht⟩ i)).mp (((cfg0.win 20).blk ⟨15, ht⟩).view.emb_mem_set i)

theorem result20 : (dats m 0 c).arrAt 20 cfg0.N = weights (argG m c) (arg3 m c) := by
  refine (dats m 0 c).arrAt_eq_of_cover 20 (weights (argG m c) (arg3 m c)) (fun t hf => ?_) covered20
  refine (flushed20 m c t).trans ?_
  funext (y : S1x1024.Idx)
  exact (sum_last m c t ((flushes20 t).mp hf) y).trans (congrArg (weights (argG m c) (arg3 m c)) (out20 t y).symm)

/-! ## The reference -/

section
variable (x0 x1 : (⟨S8192x3072, .bf16⟩ : BufTy).Contents (Elt Ideal)) (x2 : (⟨S8x1024x704, .f32⟩ : BufTy).Contents (Elt Ideal)) (x3 : (⟨S8192x1024, .f32⟩ : BufTy).Contents (Elt Ideal)) (x4 : (⟨S1x1024, .f32⟩ : BufTy).Contents (Elt Ideal)) (x5 : (⟨S8192x1024, .f32⟩ : BufTy).Contents (Elt Ideal))

theorem joined_left (p : Fin 8192) (k : Fin 3072) (k' : Fin 6144) (h : k'.val = k.val) :
    val_main_v3 (F := Ideal) x0 x1 (ValueIdx.ix2 p k') = x0 (ValueIdx.ix2 p k) :=
  concatenate_pair_apply_left (t := Cert.Reference14Ideal.S8192x6144) (s₁ := S8192x3072) (s₂ := S8192x3072) (1 : Fin 2) x0 x1 _ (ValueIdx.ix2 p k') rfl (ValueIdx.ix2 p k) (fun a => match a with
    | ⟨0, _⟩ => rfl
    | ⟨1, _⟩ => h.symm)

theorem joined_right (p : Fin 8192) (k : Fin 3072) (k' : Fin 6144) (h : k'.val = 3072 + k.val) :
    val_main_v3 (F := Ideal) x0 x1 (ValueIdx.ix2 p k') = x1 (ValueIdx.ix2 p k) :=
  concatenate_pair_apply_right (t := Cert.Reference14Ideal.S8192x6144) (s₁ := S8192x3072) (s₂ := S8192x3072) (1 : Fin 2) x0 x1 _ (ValueIdx.ix2 p k') rfl rfl (ValueIdx.ix2 p k) (fun a => match a with
    | ⟨0, _⟩ => fun _ => rfl
    | ⟨1, _⟩ => fun hne => absurd rfl hne) (by show k.val + 3072 = k'.val; omega)

theorem reference_weight (cc : Fin 1024) (e : Fin 8) (k : Fin 768) (i : Cert.Reference14Ideal.S1024x6144.Idx) (h0 : (i 0).val = cc.val) (h1 : (i 1).val = e.val * 768 + k.val) :
    val_main_v2 (F := Ideal) x2 i = val_main_v0 (F := Ideal) x2 (ValueIdx.ix3 e cc k) := by
  have hk := k.isLt
  have hc := cc.isLt
  have he := e.isLt
  rw [val_main_v2_apply, val_main_v1_apply]
  refine congrArg (val_main_v0 (F := Ideal) x2) (funext fun a => Fin.ext ?_)
  match a with
  | ⟨0, _⟩ => show ((i 0).val * 6144 + (i 1).val) / 768 % 8 = e.val; omega
  | ⟨1, _⟩ => show ((i 0).val * 6144 + (i 1).val) / 6144 = cc.val; omega
  | ⟨2, _⟩ => show ((i 0).val * 6144 + (i 1).val) % 768 = k.val; omega

theorem reference_ct : val_main_v21 (F := Ideal) x0 x1 x2 = ct x0 x1 (val_main_v0 (F := Ideal) x2) := by
  funext i
  obtain ⟨p, cc, rfl⟩ : ∃ p cc, i = ValueIdx.ix2 p cc := ⟨_, _, ValueIdx.eq_ix2 i⟩
  refine (val_main_v21_apply _ _ _ _).trans ((Fin.sum_univ_tiles 8 768 rfl _).trans ((Fin.sum_univ_eight _).trans ?_))
  refine congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) ?_ ?_) ?_) ?_) ?_) ?_) ?_) ?_
  · refine Finset.sum_congr rfl fun k _ => congrArg₂ (fun x y : EReal => x * y) ?_ (reference_weight x2 cc 0 k _ rfl rfl)
    refine Eq.trans (b := val_main_v3 (F := Ideal) x0 x1 (ValueIdx.ix2 p (⟨(0 : Fin 8).val * 768 + k.val, by show 0 * 768 + k.val < 6144; omega⟩ : Fin 6144))) ?_ (joined_left x0 x1 p (at3072 0 k) _ (by show 0 * 768 + k.val = 0 * 768 + k.val; omega))
    exact congrArg (val_main_v3 (F := Ideal) x0 x1) (funext fun a => Fin.ext (by match a with | ⟨0, _⟩ => rfl | ⟨1, _⟩ => rfl))
  · refine Finset.sum_congr rfl fun k _ => congrArg₂ (fun x y : EReal => x * y) ?_ (reference_weight x2 cc 1 k _ rfl rfl)
    refine Eq.trans (b := val_main_v3 (F := Ideal) x0 x1 (ValueIdx.ix2 p (⟨(1 : Fin 8).val * 768 + k.val, by show 1 * 768 + k.val < 6144; omega⟩ : Fin 6144))) ?_ (joined_left x0 x1 p (at3072 1 k) _ (by show 1 * 768 + k.val = 1 * 768 + k.val; omega))
    exact congrArg (val_main_v3 (F := Ideal) x0 x1) (funext fun a => Fin.ext (by match a with | ⟨0, _⟩ => rfl | ⟨1, _⟩ => rfl))
  · refine Finset.sum_congr rfl fun k _ => congrArg₂ (fun x y : EReal => x * y) ?_ (reference_weight x2 cc 2 k _ rfl rfl)
    refine Eq.trans (b := val_main_v3 (F := Ideal) x0 x1 (ValueIdx.ix2 p (⟨(2 : Fin 8).val * 768 + k.val, by show 2 * 768 + k.val < 6144; omega⟩ : Fin 6144))) ?_ (joined_left x0 x1 p (at3072 2 k) _ (by show 2 * 768 + k.val = 2 * 768 + k.val; omega))
    exact congrArg (val_main_v3 (F := Ideal) x0 x1) (funext fun a => Fin.ext (by match a with | ⟨0, _⟩ => rfl | ⟨1, _⟩ => rfl))
  · refine Finset.sum_congr rfl fun k _ => congrArg₂ (fun x y : EReal => x * y) ?_ (reference_weight x2 cc 3 k _ rfl rfl)
    refine Eq.trans (b := val_main_v3 (F := Ideal) x0 x1 (ValueIdx.ix2 p (⟨(3 : Fin 8).val * 768 + k.val, by show 3 * 768 + k.val < 6144; omega⟩ : Fin 6144))) ?_ (joined_left x0 x1 p (at3072 3 k) _ (by show 3 * 768 + k.val = 3 * 768 + k.val; omega))
    exact congrArg (val_main_v3 (F := Ideal) x0 x1) (funext fun a => Fin.ext (by match a with | ⟨0, _⟩ => rfl | ⟨1, _⟩ => rfl))
  · refine Finset.sum_congr rfl fun k _ => congrArg₂ (fun x y : EReal => x * y) ?_ (reference_weight x2 cc 4 k _ rfl rfl)
    refine Eq.trans (b := val_main_v3 (F := Ideal) x0 x1 (ValueIdx.ix2 p (⟨(4 : Fin 8).val * 768 + k.val, by show 4 * 768 + k.val < 6144; omega⟩ : Fin 6144))) ?_ (joined_right x0 x1 p (at3072 0 k) _ (by show 4 * 768 + k.val = 3072 + (0 * 768 + k.val); omega))
    exact congrArg (val_main_v3 (F := Ideal) x0 x1) (funext fun a => Fin.ext (by match a with | ⟨0, _⟩ => rfl | ⟨1, _⟩ => rfl))
  · refine Finset.sum_congr rfl fun k _ => congrArg₂ (fun x y : EReal => x * y) ?_ (reference_weight x2 cc 5 k _ rfl rfl)
    refine Eq.trans (b := val_main_v3 (F := Ideal) x0 x1 (ValueIdx.ix2 p (⟨(5 : Fin 8).val * 768 + k.val, by show 5 * 768 + k.val < 6144; omega⟩ : Fin 6144))) ?_ (joined_right x0 x1 p (at3072 1 k) _ (by show 5 * 768 + k.val = 3072 + (1 * 768 + k.val); omega))
    exact congrArg (val_main_v3 (F := Ideal) x0 x1) (funext fun a => Fin.ext (by match a with | ⟨0, _⟩ => rfl | ⟨1, _⟩ => rfl))
  · refine Finset.sum_congr rfl fun k _ => congrArg₂ (fun x y : EReal => x * y) ?_ (reference_weight x2 cc 6 k _ rfl rfl)
    refine Eq.trans (b := val_main_v3 (F := Ideal) x0 x1 (ValueIdx.ix2 p (⟨(6 : Fin 8).val * 768 + k.val, by show 6 * 768 + k.val < 6144; omega⟩ : Fin 6144))) ?_ (joined_right x0 x1 p (at3072 2 k) _ (by show 6 * 768 + k.val = 3072 + (2 * 768 + k.val); omega))
    exact congrArg (val_main_v3 (F := Ideal) x0 x1) (funext fun a => Fin.ext (by match a with | ⟨0, _⟩ => rfl | ⟨1, _⟩ => rfl))
  · refine Finset.sum_congr rfl fun k _ => congrArg₂ (fun x y : EReal => x * y) ?_ (reference_weight x2 cc 7 k _ rfl rfl)
    refine Eq.trans (b := val_main_v3 (F := Ideal) x0 x1 (ValueIdx.ix2 p (⟨(7 : Fin 8).val * 768 + k.val, by show 7 * 768 + k.val < 6144; omega⟩ : Fin 6144))) ?_ (joined_right x0 x1 p (at3072 3 k) _ (by show 7 * 768 + k.val = 3072 + (3 * 768 + k.val); omega))
    exact congrArg (val_main_v3 (F := Ideal) x0 x1) (funext fun a => Fin.ext (by match a with | ⟨0, _⟩ => rfl | ⟨1, _⟩ => rfl))

theorem reference_mean (p : Fin 8192) : val_main_v11 (F := Ideal) x3 (ValueIdx.ix2 p 0) = NormRows.mean (fun k => x3 (ValueIdx.ix2 p k)) := by
  refine congrArg₂ (fun x y : EReal => x + y) (congrArg₂ Ideal.div ?_ ?_) ?_
  · refine (val_main_v7_apply _ _).trans ((val_main_v6_apply _ _).trans ((congrArg (fun z : EReal => z + _) Ideal.ofBits_zero_f32).trans ((zero_add _).trans (Finset.sum_congr rfl fun k _ => ?_))))
    exact congrArg (fun z : S8192x1024.Idx => (x3 z * x3 z : EReal)) (NormRows.token_index _ p k rfl rfl)
  · exact val_main_v8_apply _
  · exact val_main_v10_apply _

theorem reference_inv (p : Fin 8192) : val_main_v12 (F := Ideal) x3 (ValueIdx.ix2 p 0) = NormRows.inv (fun k => x3 (ValueIdx.ix2 p k)) :=
  congrArg Ideal.rsqrt (reference_mean x3 p)

theorem reference_factor (p : Fin 8192) : val_main_v15 (F := Ideal) x3 (ValueIdx.ix2 p 0)
    = (NormRows.negHalf * Ideal.div (NormRows.inv (fun k => x3 (ValueIdx.ix2 p k))) (NormRows.mean (fun k => x3 (ValueIdx.ix2 p k))) : EReal) :=
  congrArg₂ (fun x y : EReal => x * y) (val_main_v14_apply _) (congrArg₂ Ideal.div (reference_inv x3 p) (reference_mean x3 p))

theorem reference_scaled (p : Fin 8192) (k : Fin 1024) : val_main_v26 (F := Ideal) x0 x1 x2 x4 (ValueIdx.ix2 p k)
    = (ct x0 x1 (val_main_v0 (F := Ideal) x2) (ValueIdx.ix2 p k) * x4 (ValueIdx.ix2 0 k) : EReal) :=
  congrArg₂ (fun x y : EReal => x * y) (congrFun (reference_ct x0 x1 x2) _)
    ((val_main_v25_apply _ _).trans (congrArg x4 (NormRows.weight_index _ k rfl)))

theorem reference_slope (p : Fin 8192) (k : Fin 1024) : val_main_v37 (F := Ideal) x0 x1 x2 x3 x4 (ValueIdx.ix2 p k)
    = NormRows.slope (fun k => x3 (ValueIdx.ix2 p k)) (fun j => ct x0 x1 (val_main_v0 (F := Ideal) x2) (ValueIdx.ix2 p j) * x4 (ValueIdx.ix2 0 j)) := by
  refine (val_main_v37_apply _ _ _ _ _ _).trans ((val_main_v36_apply _ _ _ _ _ _).trans ((congrArg (fun z : EReal => z + _) Ideal.ofBits_zero_f32).trans ((zero_add _).trans ((Fin.sum_univ_one _).trans ?_))))
  refine (congrArg (val_main_v35 (F := Ideal) x0 x1 x2 x3 x4) (NormRows.column_index _ p rfl)).trans (congrArg₂ Ideal.div ?_ (val_main_v34_apply _))
  refine congrArg₂ (fun x y : EReal => x * y) ?_ (reference_factor x3 p)
  refine (val_main_v29_apply _ _ _ _ _ _).trans ((val_main_v28_apply _ _ _ _ _ _).trans ((congrArg (fun z : EReal => z + _) Ideal.ofBits_zero_f32).trans ((zero_add _).trans (Finset.sum_congr rfl fun j _ => ?_))))
  exact (congrArg (val_main_v27 (F := Ideal) x0 x1 x2 x3 x4) (NormRows.token_index _ p j (show p.val * 1 + 0 = p.val by omega) rfl)).trans
    (congrArg (fun z : EReal => (x3 (ValueIdx.ix2 p j) : EReal) * z) (reference_scaled x0 x1 x2 x4 p j))

theorem reference_back : val_main_v41 (F := Ideal) x0 x1 x2 x3 x4 x5 = back (ct x0 x1 (val_main_v0 (F := Ideal) x2)) x3 x4 x5 := by
  funext i
  obtain ⟨p, k, rfl⟩ : ∃ p k, i = ValueIdx.ix2 p k := ⟨_, _, ValueIdx.eq_ix2 i⟩
  refine Eq.trans ?_ (NormRows.back_comm (fun k => x3 (ValueIdx.ix2 p k)) (fun k => x4 (ValueIdx.ix2 0 k)) (fun k => ct x0 x1 (val_main_v0 (F := Ideal) x2) (ValueIdx.ix2 p k)) (fun k => x5 (ValueIdx.ix2 p k)) k).symm
  have hS := reference_slope x0 x1 x2 x3 x4 p k
  refine congrArg₂ (fun x y : EReal => x + y) (congrArg₂ (fun x y : EReal => x + y) (congrArg (fun z : EReal => (x5 (ValueIdx.ix2 p k) : EReal) + z) ?_)
    (congrArg (fun z : EReal => (x3 (ValueIdx.ix2 p k) : EReal) * z) hS)) (congrArg (fun z : EReal => z * (x3 (ValueIdx.ix2 p k) : EReal)) hS)
  refine congrArg₂ (fun x y : EReal => x * y) (reference_scaled x0 x1 x2 x4 p k) ?_
  exact (val_main_v30_apply _ _).trans ((congrArg (val_main_v12 (F := Ideal) x3) (NormRows.column_index _ p rfl)).trans (reference_inv x3 p))

theorem reference_weights : val_main_v24 (F := Ideal) x0 x1 x2 x3 = weights (ct x0 x1 (val_main_v0 (F := Ideal) x2)) x3 := by
  funext i
  refine (val_main_v24_apply _ _ _ _ _).trans ((val_main_v23_apply _ _ _ _ _).trans ((congrArg (fun z : EReal => z + _) Ideal.ofBits_zero_f32).trans ((zero_add _).trans (Finset.sum_congr rfl fun p _ => ?_))))
  refine (congrArg (val_main_v22 (F := Ideal) x0 x1 x2 x3) (NormRows.token_index _ p (i 1 : Fin 1024) rfl (by
    have h0 : (i 0).val < 1 := (i 0).isLt
    show (i 0).val * 1024 + (i 1).val = (i 1).val
    omega))).trans ?_
  refine congrArg₂ (fun x y : EReal => x * y) (congrArg (fun z : EReal => (x3 (ValueIdx.ix2 p (i 1 : Fin 1024)) : EReal) * z) ?_) (congrFun (reference_ct x0 x1 x2) _)
  exact (val_main_v16_apply _ _).trans ((congrArg (val_main_v12 (F := Ideal) x3) (NormRows.column_index _ p rfl)).trans (reference_inv x3 p))

end

/-! ## The claims -/

theorem prepared : argW m c = val_main_v0 (F := Ideal) (m ((c.tc : Thread nD τ).loc main_arg2)) := by
  show StableHlo.after (List.flatten [hostOps0, hostOps0_1]) (fun b => m (c, b)) (Proc.devRef .tc main_v1) = _
  simp only [hostOps0, hostOps0_1, List.flatten_cons, List.flatten_nil, List.append_nil, List.cons_append, List.nil_append, TRef.binary, TRef.unary, TRef.toBuf, TRef.ofBuf, cast_eq]
  after_results <;> rfl

theorem frame_reference : Cert.quiescent_Reference14Ideal := fun m ρ _ =>
  (θ_run Cert.Reference14Ideal.defs _ _).mono (fun _ h => ⟨fun c => (h c).2.2, sem_eq_zero_of_no_sems rfl _⟩) (Cert.Reference14Ideal.Value.run (F := Ideal) m ρ)

theorem algebraic : Cert.algebraic_Kernel14Ideal_Reference14Ideal := fun m ρ m' ρ' _ hag =>
  ⟨fun c => back (argG m c) (arg3 m c) (arg4 m c) (arg5 m c), fun c => weights (argG m c) (arg3 m c),
   (θ_run Cert.Kernel14Ideal.defs _ _).mono (fun _ h c => ⟨(h c).1.trans (result19 m c), (h c).2.1.trans (result20 m c), (h c).2.2⟩) (Cert.Kernel14Ideal.Value.run_blocks (F := Ideal) m ρ),
   (θ_run Cert.Reference14Ideal.defs _ _).mono (fun _ h c => ⟨
      (h c).1.trans ((val_main_v41_eq m' c).trans (by rw [(hag c).1, (hag c).2.1, (hag c).2.2.1, (hag c).2.2.2.1, (hag c).2.2.2.2.1, (hag c).2.2.2.2.2]; exact (reference_back _ _ _ _ _ _).trans (congrArg (fun w => back (ct _ _ w) _ _ _) (prepared m c).symm))),
      (h c).2.1.trans ((val_main_v24_eq _ _ _ _).trans (by rw [(hag c).1, (hag c).2.1, (hag c).2.2.1, (hag c).2.2.2.1]; exact (reference_weights _ _ _ _).trans (congrArg (fun w => weights (ct _ _ w) _) (prepared m c).symm))), (h c).2.2⟩) (Cert.Reference14Ideal.Value.run (F := Ideal) m' ρ')⟩

end Cert.Norm14

end
-- ==== Proof.Norm15.lean ====
/- The gradient of the input projection's operand (`in_proj_dx`): each grid point pulls the cotangents of its
   block of rows back through the weight and through the norm, and adds the block's part to the gradient of the norm's weight. -/
module

public import proofs.«01_k».proof.Defs
public import proofs.«01_k».proof.Proof.Dots
public import proofs.«01_k».proof.Proof.Gen.Kernel15Ideal.Value
public import proofs.«01_k».proof.Proof.Gen.Reference15Ideal.Run
public import proofs.«01_k».proof.Proof.Gen.Reference15Ideal.Read
public import proofs.«01_k».proof.Proof.NormRows
public import Idealize.ShloMosaic.Lib.Pipeline.Value
public import Idealize.ShloMosaic.Lib.Pointwise.Contract
public import Idealize.ShloMosaic.Lib.Pointwise.Sums
public import Idealize.ShloMosaic.Lib.Quiescent

@[expose] public section

set_option maxRecDepth 16384
set_option maxHeartbeats 1000000

noncomputable section

namespace Cert.Norm15

open Cert.Kernel15Ideal Cert.Kernel15Ideal.Gen Cert.Kernel15Ideal.Value
open Cert.Reference15Ideal.Read
open Idealize.ShloMosaic Idealize.ShloMosaic.TcCoe Idealize.ShloMosaic.Tactic Idealize.ShloMosaic.StableHlo Idealize.SL.Sem

/-- The products' cotangents pulled back through the four parts of the weight. -/
def ct (z : S8192x1024.Idx → EReal) (xbc : S8192x2048.Idx → EReal) (dt : S8192x32.Idx → EReal) (u : S8192x512.Idx → EReal)
    (wz : S1024x1024.Idx → EReal) (wx : S1024x2048.Idx → EReal) (wt : S1024x32.Idx → EReal) (wu : S1024x512.Idx → EReal) : S8192x1024.Idx → EReal := fun i =>
  (∑ k : Fin 1024, z (ValueIdx.ix2 (i 0 : Fin 8192) k) * wz (ValueIdx.ix2 (i 1 : Fin 1024) k))
    + (∑ k : Fin 2048, xbc (ValueIdx.ix2 (i 0 : Fin 8192) k) * wx (ValueIdx.ix2 (i 1 : Fin 1024) k))
    + (∑ k : Fin 32, dt (ValueIdx.ix2 (i 0 : Fin 8192) k) * wt (ValueIdx.ix2 (i 1 : Fin 1024) k))
    + (∑ k : Fin 512, u (ValueIdx.ix2 (i 0 : Fin 8192) k) * wu (ValueIdx.ix2 (i 1 : Fin 1024) k))

/-- The cotangent of the rows before the norm, for the cotangent `g` of the scaled rows. -/
def back (g x : S8192x1024.Idx → EReal) (w : S1x1024.Idx → EReal) (res : S8192x1024.Idx → EReal) : S8192x1024.Idx → EReal := fun i =>
  NormRows.back (fun k => x (ValueIdx.ix2 (i 0 : Fin 8192) k)) (fun k => w (ValueIdx.ix2 0 k)) (fun k => g (ValueIdx.ix2 (i 0 : Fin 8192) k))
    (fun k => res (ValueIdx.ix2 (i 0 : Fin 8192) k)) (i 1 : Fin 1024)

/-- One row's part of the gradient of the norm's weight. -/
def part (g x : S8192x1024.Idx → EReal) (k : Fin 1024) (p : Fin 8192) : EReal :=
  NormRows.weight (fun k => x (ValueIdx.ix2 p k)) (fun k => g (ValueIdx.ix2 p k)) k

/-- The gradient of the norm's weight: the sum over the rows. -/
def weights (g x : S8192x1024.Idx → EReal) : S1x1024.Idx → EReal := fun i => ∑ p : Fin 8192, part g x (i 1 : Fin 1024) p

/-! ## A block -/

theorem dot_at0 (x : S512x1024.Idx → EReal) (y : S1024x1024.Idx → EReal) (acc : S512x1024.Idx → EReal) (r : Fin 512) (c : Fin 1024) :
    Ideal.matmul dot_S512x1024_S1024x1024_S512x1024_1_1_0_0_n_n x y acc (ValueIdx.ix2 r c)
      = acc (ValueIdx.ix2 r c) + ∑ k : Fin 1024, x (ValueIdx.ix2 r k) * y (ValueIdx.ix2 c k) :=
  Dots.rows x y acc r c

theorem dot_at1 (x : S512x2048.Idx → EReal) (y : S1024x2048.Idx → EReal) (acc : S512x1024.Idx → EReal) (r : Fin 512) (c : Fin 1024) :
    Ideal.matmul dot_S512x2048_S1024x2048_S512x1024_1_1_0_0_n_n x y acc (ValueIdx.ix2 r c)
      = acc (ValueIdx.ix2 r c) + ∑ k : Fin 2048, x (ValueIdx.ix2 r k) * y (ValueIdx.ix2 c k) :=
  Dots.rows x y acc r c

theorem dot_at2 (x : S512x32.Idx → EReal) (y : S1024x32.Idx → EReal) (acc : S512x1024.Idx → EReal) (r : Fin 512) (c : Fin 1024) :
    Ideal.matmul dot_S512x32_S1024x32_S512x1024_1_1_0_0_n_n x y acc (ValueIdx.ix2 r c)
      = acc (ValueIdx.ix2 r c) + ∑ k : Fin 32, x (ValueIdx.ix2 r k) * y (ValueIdx.ix2 c k) :=
  Dots.rows x y acc r c

theorem dot_at3 (x : S512x512.Idx → EReal) (y : S1024x512.Idx → EReal) (acc : S512x1024.Idx → EReal) (r : Fin 512) (c : Fin 1024) :
    Ideal.matmul dot_S512x512_S1024x512_S512x1024_1_1_0_0_n_n x y acc (ValueIdx.ix2 r c)
      = acc (ValueIdx.ix2 r c) + ∑ k : Fin 512, x (ValueIdx.ix2 r k) * y (ValueIdx.ix2 c k) :=
  Dots.rows x y acc r c

theorem ct_at (x0 : Vec Ideal S512x1024 .bf16) (x1 : Vec Ideal S512x2048 .f32) (x2 : Vec Ideal S512x32 .f32) (x3 : Vec Ideal S512x512 .f32) (x4 : Vec Ideal S1024x1024 .bf16) (x5 : Vec Ideal S1024x2048 .bf16) (x6 : Vec Ideal S1024x32 .bf16) (x7 : Vec Ideal S1024x512 .bf16) (r : Fin 512) (cc : Fin 1024) :
    k0_pay4 (F := Ideal) x0 x4 x1 x5 x2 x6 x3 x7 (ValueIdx.ix2 r cc)
      = ((∑ k : Fin 1024, (x0 (ValueIdx.ix2 r k) : EReal) * (x4 (ValueIdx.ix2 cc k) : EReal)) + (∑ k : Fin 2048, (x1 (ValueIdx.ix2 r k) : EReal) * (x5 (ValueIdx.ix2 cc k) : EReal)) + (∑ k : Fin 32, (x2 (ValueIdx.ix2 r k) : EReal) * (x6 (ValueIdx.ix2 cc k) : EReal)) + (∑ k : Fin 512, (x3 (ValueIdx.ix2 r k) : EReal) * (x7 (ValueIdx.ix2 cc k) : EReal)) : EReal) := by
  unfold k0_pay4
  refine congrArg₂ (fun x y : EReal => x + y) (congrArg₂ (fun x y : EReal => x + y) (congrArg₂ (fun x y : EReal => x + y) ?_ ?_) ?_) ?_
  · show Ideal.matmul dot_S512x1024_S1024x1024_S512x1024_1_1_0_0_n_n x0 x4 (constant (F := Ideal) S512x1024 .f32 0x00000000#32) (ValueIdx.ix2 r cc) = _
    exact (dot_at0 x0 x4 _ r cc).trans ((congrArg (fun z : EReal => z + _) Ideal.ofBits_zero_f32).trans (zero_add _))
  · show Ideal.matmul dot_S512x2048_S1024x2048_S512x1024_1_1_0_0_n_n x1 x5 (constant (F := Ideal) S512x1024 .f32 0x00000000#32) (ValueIdx.ix2 r cc) = _
    exact (dot_at1 x1 x5 _ r cc).trans ((congrArg (fun z : EReal => z + _) Ideal.ofBits_zero_f32).trans (zero_add _))
  · show Ideal.matmul dot_S512x32_S1024x32_S512x1024_1_1_0_0_n_n x2 x6 (constant (F := Ideal) S512x1024 .f32 0x00000000#32) (ValueIdx.ix2 r cc) = _
    exact (dot_at2 x2 x6 _ r cc).trans ((congrArg (fun z : EReal => z + _) Ideal.ofBits_zero_f32).trans (zero_add _))
  · show Ideal.matmul dot_S512x512_S1024x512_S512x1024_1_1_0_0_n_n x3 x7 (constant (F := Ideal) S512x1024 .f32 0x00000000#32) (ValueIdx.ix2 r cc) = _
    exact (dot_at3 x3 x7 _ r cc).trans ((congrArg (fun z : EReal => z + _) Ideal.ofBits_zero_f32).trans (zero_add _))

theorem inv_at (x : Vec Ideal S512x1024 .f32) (r : Fin 512) : k0_pay6 (F := Ideal) x (ValueIdx.ix2 r 0) = NormRows.inv (NormRows.rowOf x r) :=
  congrArg Ideal.rsqrt (NormRows.mean_at x reduces_S512x1024_S512 (.inl rfl) rfl shapeCasts_S512_S512x1 r)

theorem factor_at (x : Vec Ideal S512x1024 .f32) (r : Fin 512) :
    (mulf (k0_pay8 (F := Ideal)) (k0_pay7 x) : FVec Ideal S512x1 .f32) (ValueIdx.ix2 r 0)
      = (NormRows.negHalf * Ideal.div (NormRows.inv (NormRows.rowOf x r)) (NormRows.mean (NormRows.rowOf x r)) : EReal) :=
  congrArg (fun z : EReal => NormRows.negHalf * z) (congrArg₂ Ideal.div (inv_at x r)
    (NormRows.mean_at x reduces_S512x1024_S512 (.inl rfl) rfl shapeCasts_S512_S512x1 r))

/-! ## What a grid point leaves in the two outputs -/

section
variable {c : Dev nD} {i : grid0.Coords} {arg2 : Memref sig .tc .vmem S512x1024 .bf16} {harg2 : arg2.IsWhole} {arg3 : Memref sig .tc .vmem S512x2048 .f32} {harg3 : arg3.IsWhole}
    {arg4 : Memref sig .tc .vmem S512x32 .f32} {harg4 : arg4.IsWhole} {arg5 : Memref sig .tc .vmem S512x512 .f32} {harg5 : arg5.IsWhole}
    {arg6 : Memref sig .tc .vmem S1024x1024 .bf16} {harg6 : arg6.IsWhole} {arg7 : Memref sig .tc .vmem S1024x2048 .bf16} {harg7 : arg7.IsWhole}
    {arg8 : Memref sig .tc .vmem S1024x32 .bf16} {harg8 : arg8.IsWhole} {arg9 : Memref sig .tc .vmem S1024x512 .bf16} {harg9 : arg9.IsWhole}
    {arg10 : Memref sig .tc .vmem S512x1024 .f32} {harg10 : arg10.IsWhole} {arg11 : Memref sig .tc .vmem S1x1024 .f32} {harg11 : arg11.IsWhole}
    {arg12 : Memref sig .tc .vmem S512x1024 .f32} {harg12 : arg12.IsWhole} {arg13 : Memref sig .tc .vmem S512x1024 .f32} {harg13 : arg13.IsWhole}
    {arg14 : Memref sig .tc .vmem S1x1024 .f32} {harg14 : arg14.IsWhole} {x0 : Vec Ideal S512x1024 .bf16} {x1 : Vec Ideal S512x2048 .f32} {x2 : Vec Ideal S512x32 .f32}
    {x3 : Vec Ideal S512x512 .f32} {x4 : Vec Ideal S1024x1024 .bf16} {x5 : Vec Ideal S1024x2048 .bf16} {x6 : Vec Ideal S1024x32 .bf16} {x7 : Vec Ideal S1024x512 .bf16}
    {x8 : Vec Ideal S512x1024 .f32} {x9 : Vec Ideal S1x1024 .f32} {x10 : Vec Ideal S512x1024 .f32}

theorem first11 {hc0 : cond0_0 i} :
    out0_A_11 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10
      = k0_pay1 (F := Ideal) (k0_pay4 (F := Ideal) x0 x4 x1 x5 x2 x6 x3 x7) x8 x9 (k0_pay6 x8) (k0_pay7 x8) k0_pay8 x10 := by
  unfold out0_A_11
  rw [View.read_writes_eq_canon _ _ _ (cover0_A_11 _ _ _ _ _ _ _ _ _ _ _ _ _ _ _ _ _ _ _ _ _ _ _ _ _ _ _ _ _ _ _ _ _ _ _ _ _ _ _ _)]
  unfold kernelRun0_A
  dsimp only
  try sl_unfold_words
  rw [View.canon_unit_zero NormRows.zeros]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1024x1024) NormRows.zeros, View.ld_unit_zero (S := S1024x2048) NormRows.zeros, View.ld_unit_zero (S := S1024x32) NormRows.zeros, View.ld_unit_zero (S := S1024x512) NormRows.zeros, View.ld_unit_zero (S := S1x1024) NormRows.zeros, View.ld_unit_zero (S := S512x1024) NormRows.zeros, View.ld_unit_zero (S := S512x2048) NormRows.zeros, View.ld_unit_zero (S := S512x32) NormRows.zeros, View.ld_unit_zero (S := S512x512) NormRows.zeros, shapeCast_self]

theorem first12 {hc0 : cond0_0 i} :
    out0_A_12 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10
      = k0_pay3 (F := Ideal) (k0_pay4 (F := Ideal) x0 x4 x1 x5 x2 x6 x3 x7) x8 (k0_pay6 x8) (k0_pay2 (F := Ideal)) := by
  unfold out0_A_12
  rw [View.read_writes_eq_canon _ _ _ (cover0_A_12 _ _ _ _ _ _ _ _ _ _ _ _ _ _ _ _ _ _ _ _ _ _ _ _ _ _ _ _ _ _ _ _ _ _ _ _ _ _ _ _)]
  unfold kernelRun0_A
  dsimp only
  try sl_unfold_words
  rw [View.canon_cons_unit_zero (S := S1x1024) NormRows.zeros, View.readCov_unit_zero (S := S1x1024) _ NormRows.zeros]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1024x1024) NormRows.zeros, View.ld_unit_zero (S := S1024x2048) NormRows.zeros, View.ld_unit_zero (S := S1024x32) NormRows.zeros, View.ld_unit_zero (S := S1024x512) NormRows.zeros, View.ld_unit_zero (S := S1x1024) NormRows.zeros, View.ld_unit_zero (S := S512x1024) NormRows.zeros, View.ld_unit_zero (S := S512x2048) NormRows.zeros, View.ld_unit_zero (S := S512x32) NormRows.zeros, View.ld_unit_zero (S := S512x512) NormRows.zeros, shapeCast_self]

theorem later11 {hc0 : ¬cond0_0 i} {xo12 : Vec Ideal S1x1024 .f32} :
    out0_B_11 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo12
      = k0_pay1 (F := Ideal) (k0_pay4 (F := Ideal) x0 x4 x1 x5 x2 x6 x3 x7) x8 x9 (k0_pay6 x8) (k0_pay7 x8) k0_pay8 x10 := by
  unfold out0_B_11
  rw [View.read_writes_eq_canon _ _ _ (cover0_B_11 _ _ _ _ _ _ _ _ _ _ _ _ _ _ _ _ _ _ _ _ _ _ _ _ _ _ _ _ _ _ _ _ _ _ _ _ _ _ _ _ _)]
  unfold kernelRun0_B
  dsimp only
  try sl_unfold_words
  rw [View.canon_unit_zero NormRows.zeros]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1024x1024) NormRows.zeros, View.ld_unit_zero (S := S1024x2048) NormRows.zeros, View.ld_unit_zero (S := S1024x32) NormRows.zeros, View.ld_unit_zero (S := S1024x512) NormRows.zeros, View.ld_unit_zero (S := S1x1024) NormRows.zeros, View.ld_unit_zero (S := S512x1024) NormRows.zeros, View.ld_unit_zero (S := S512x2048) NormRows.zeros, View.ld_unit_zero (S := S512x32) NormRows.zeros, View.ld_unit_zero (S := S512x512) NormRows.zeros, shapeCast_self]

theorem later12 {hc0 : ¬cond0_0 i} {xo12 : Vec Ideal S1x1024 .f32} :
    out0_B_12 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo12
      = k0_pay3 (F := Ideal) (k0_pay4 (F := Ideal) x0 x4 x1 x5 x2 x6 x3 x7) x8 (k0_pay6 x8) xo12 := by
  unfold out0_B_12
  rw [View.read_writes_eq_canon _ _ _ (cover0_B_12 _ _ _ _ _ _ _ _ _ _ _ _ _ _ _ _ _ _ _ _ _ _ _ _ _ _ _ _ _ _ _ _ _ _ _ _ _ _ _ _ _)]
  unfold kernelRun0_B
  dsimp only
  try sl_unfold_words
  rw [View.canon_unit_zero NormRows.zeros]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1024x1024) NormRows.zeros, View.ld_unit_zero (S := S1024x2048) NormRows.zeros, View.ld_unit_zero (S := S1024x32) NormRows.zeros, View.ld_unit_zero (S := S1024x512) NormRows.zeros, View.ld_unit_zero (S := S1x1024) NormRows.zeros, View.ld_unit_zero (S := S512x1024) NormRows.zeros, View.ld_unit_zero (S := S512x2048) NormRows.zeros, View.ld_unit_zero (S := S512x32) NormRows.zeros, View.ld_unit_zero (S := S512x512) NormRows.zeros, shapeCast_self]

end

/-! ## The blocks a grid point works on -/

variable (m : (ℓ : Loc nD τ sig) → Buf (Elt Ideal) ℓ) (ρ : Dev nD → PrngReg) (c : Dev nD)

abbrev arg0 : S8192x1024.Idx → EReal := m ((c.tc : Thread nD τ).loc main_arg0)
theorem index0 : ∀ t : Fin cfg0.N, win0_0.index t (0 : Fin 2) = t.val ∧ win0_0.index t (1 : Fin 2) = 0 :=
  (by decide +kernel : ∀ t : Fin grid0.N, _)
theorem block0 (t : Fin cfg0.N) (r : Fin 512) (k : Fin 1024) (p : Fin 8192) (hp : p.val = t.val * 512 + r.val) :
    (iblk m c 0 t : S512x1024.Idx → EReal) (ValueIdx.ix2 r k) = arg0 m c (ValueIdx.ix2 p k) := by
  obtain ⟨e0, e1⟩ := index0 t
  refine congrArg (arg0 m c) (funext fun a => Fin.ext ?_)
  match a with
  | ⟨0, _⟩ => show win0_0.index t (0 : Fin 2) * 512 + 1 * r.val = p.val; omega
  | ⟨1, _⟩ => show win0_0.index t (1 : Fin 2) * 1024 + 1 * k.val = k.val; omega

abbrev arg1 : S8192x2048.Idx → EReal := m ((c.tc : Thread nD τ).loc main_arg1)
theorem index1 : ∀ t : Fin cfg0.N, win0_1.index t (0 : Fin 2) = t.val ∧ win0_1.index t (1 : Fin 2) = 0 :=
  (by decide +kernel : ∀ t : Fin grid0.N, _)
theorem block1 (t : Fin cfg0.N) (r : Fin 512) (k : Fin 2048) (p : Fin 8192) (hp : p.val = t.val * 512 + r.val) :
    (iblk m c 1 t : S512x2048.Idx → EReal) (ValueIdx.ix2 r k) = arg1 m c (ValueIdx.ix2 p k) := by
  obtain ⟨e0, e1⟩ := index1 t
  refine congrArg (arg1 m c) (funext fun a => Fin.ext ?_)
  match a with
  | ⟨0, _⟩ => show win0_1.index t (0 : Fin 2) * 512 + 1 * r.val = p.val; omega
  | ⟨1, _⟩ => show win0_1.index t (1 : Fin 2) * 2048 + 1 * k.val = k.val; omega

abbrev arg2 : S8192x32.Idx → EReal := m ((c.tc : Thread nD τ).loc main_arg2)
theorem index2 : ∀ t : Fin cfg0.N, win0_2.index t (0 : Fin 2) = t.val ∧ win0_2.index t (1 : Fin 2) = 0 :=
  (by decide +kernel : ∀ t : Fin grid0.N, _)
theorem block2 (t : Fin cfg0.N) (r : Fin 512) (k : Fin 32) (p : Fin 8192) (hp : p.val = t.val * 512 + r.val) :
    (iblk m c 2 t : S512x32.Idx → EReal) (ValueIdx.ix2 r k) = arg2 m c (ValueIdx.ix2 p k) := by
  obtain ⟨e0, e1⟩ := index2 t
  refine congrArg (arg2 m c) (funext fun a => Fin.ext ?_)
  match a with
  | ⟨0, _⟩ => show win0_2.index t (0 : Fin 2) * 512 + 1 * r.val = p.val; omega
  | ⟨1, _⟩ => show win0_2.index t (1 : Fin 2) * 32 + 1 * k.val = k.val; omega

abbrev arg3 : S8192x512.Idx → EReal := m ((c.tc : Thread nD τ).loc main_arg3)
theorem index3 : ∀ t : Fin cfg0.N, win0_3.index t (0 : Fin 2) = t.val ∧ win0_3.index t (1 : Fin 2) = 0 :=
  (by decide +kernel : ∀ t : Fin grid0.N, _)
theorem block3 (t : Fin cfg0.N) (r : Fin 512) (k : Fin 512) (p : Fin 8192) (hp : p.val = t.val * 512 + r.val) :
    (iblk m c 3 t : S512x512.Idx → EReal) (ValueIdx.ix2 r k) = arg3 m c (ValueIdx.ix2 p k) := by
  obtain ⟨e0, e1⟩ := index3 t
  refine congrArg (arg3 m c) (funext fun a => Fin.ext ?_)
  match a with
  | ⟨0, _⟩ => show win0_3.index t (0 : Fin 2) * 512 + 1 * r.val = p.val; omega
  | ⟨1, _⟩ => show win0_3.index t (1 : Fin 2) * 512 + 1 * k.val = k.val; omega

abbrev arg4 : S1024x1024.Idx → EReal := m ((c.tc : Thread nD τ).loc main_arg4)
theorem index4 : ∀ t : Fin cfg0.N, win0_4.index t (0 : Fin 2) = 0 ∧ win0_4.index t (1 : Fin 2) = 0 :=
  (by decide +kernel : ∀ t : Fin grid0.N, _)
theorem block4 (t : Fin cfg0.N) (k : Fin 1024) (cc : Fin 1024) :
    (iblk m c 4 t : S1024x1024.Idx → EReal) (ValueIdx.ix2 k cc) = arg4 m c (ValueIdx.ix2 k cc) := by
  obtain ⟨e0, e1⟩ := index4 t
  refine congrArg (arg4 m c) (funext fun a => Fin.ext ?_)
  match a with
  | ⟨0, _⟩ => show win0_4.index t (0 : Fin 2) * 1024 + 1 * k.val = k.val; omega
  | ⟨1, _⟩ => show win0_4.index t (1 : Fin 2) * 1024 + 1 * cc.val = cc.val; omega

abbrev arg5 : S1024x2048.Idx → EReal := m ((c.tc : Thread nD τ).loc main_arg5)
theorem index5 : ∀ t : Fin cfg0.N, win0_5.index t (0 : Fin 2) = 0 ∧ win0_5.index t (1 : Fin 2) = 0 :=
  (by decide +kernel : ∀ t : Fin grid0.N, _)
theorem block5 (t : Fin cfg0.N) (k : Fin 1024) (cc : Fin 2048) :
    (iblk m c 5 t : S1024x2048.Idx → EReal) (ValueIdx.ix2 k cc) = arg5 m c (ValueIdx.ix2 k cc) := by
  obtain ⟨e0, e1⟩ := index5 t
  refine congrArg (arg5 m c) (funext fun a => Fin.ext ?_)
  match a with
  | ⟨0, _⟩ => show win0_5.index t (0 : Fin 2) * 1024 + 1 * k.val = k.val; omega
  | ⟨1, _⟩ => show win0_5.index t (1 : Fin 2) * 2048 + 1 * cc.val = cc.val; omega

abbrev arg6 : S1024x32.Idx → EReal := m ((c.tc : Thread nD τ).loc main_arg6)
theorem index6 : ∀ t : Fin cfg0.N, win0_6.index t (0 : Fin 2) = 0 ∧ win0_6.index t (1 : Fin 2) = 0 :=
  (by decide +kernel : ∀ t : Fin grid0.N, _)
theorem block6 (t : Fin cfg0.N) (k : Fin 1024) (cc : Fin 32) :
    (iblk m c 6 t : S1024x32.Idx → EReal) (ValueIdx.ix2 k cc) = arg6 m c (ValueIdx.ix2 k cc) := by
  obtain ⟨e0, e1⟩ := index6 t
  refine congrArg (arg6 m c) (funext fun a => Fin.ext ?_)
  match a with
  | ⟨0, _⟩ => show win0_6.index t (0 : Fin 2) * 1024 + 1 * k.val = k.val; omega
  | ⟨1, _⟩ => show win0_6.index t (1 : Fin 2) * 32 + 1 * cc.val = cc.val; omega

abbrev arg7 : S1024x512.Idx → EReal := m ((c.tc : Thread nD τ).loc main_arg7)
theorem index7 : ∀ t : Fin cfg0.N, win0_7.index t (0 : Fin 2) = 0 ∧ win0_7.index t (1 : Fin 2) = 0 :=
  (by decide +kernel : ∀ t : Fin grid0.N, _)
theorem block7 (t : Fin cfg0.N) (k : Fin 1024) (cc : Fin 512) :
    (iblk m c 7 t : S1024x512.Idx → EReal) (ValueIdx.ix2 k cc) = arg7 m c (ValueIdx.ix2 k cc) := by
  obtain ⟨e0, e1⟩ := index7 t
  refine congrArg (arg7 m c) (funext fun a => Fin.ext ?_)
  match a with
  | ⟨0, _⟩ => show win0_7.index t (0 : Fin 2) * 1024 + 1 * k.val = k.val; omega
  | ⟨1, _⟩ => show win0_7.index t (1 : Fin 2) * 512 + 1 * cc.val = cc.val; omega

abbrev arg8 : S8192x1024.Idx → EReal := m ((c.tc : Thread nD τ).loc main_arg8)
theorem index8 : ∀ t : Fin cfg0.N, win0_8.index t (0 : Fin 2) = t.val ∧ win0_8.index t (1 : Fin 2) = 0 :=
  (by decide +kernel : ∀ t : Fin grid0.N, _)
theorem block8 (t : Fin cfg0.N) (r : Fin 512) (k : Fin 1024) (p : Fin 8192) (hp : p.val = t.val * 512 + r.val) :
    (iblk m c 8 t : S512x1024.Idx → EReal) (ValueIdx.ix2 r k) = arg8 m c (ValueIdx.ix2 p k) := by
  obtain ⟨e0, e1⟩ := index8 t
  refine congrArg (arg8 m c) (funext fun a => Fin.ext ?_)
  match a with
  | ⟨0, _⟩ => show win0_8.index t (0 : Fin 2) * 512 + 1 * r.val = p.val; omega
  | ⟨1, _⟩ => show win0_8.index t (1 : Fin 2) * 1024 + 1 * k.val = k.val; omega

abbrev arg9 : S1x1024.Idx → EReal := m ((c.tc : Thread nD τ).loc main_arg9)
theorem index9 : ∀ t : Fin cfg0.N, win0_9.index t (0 : Fin 2) = 0 ∧ win0_9.index t (1 : Fin 2) = 0 :=
  (by decide +kernel : ∀ t : Fin grid0.N, _)
theorem block9 (t : Fin cfg0.N) (cc : Fin 1024) :
    (iblk m c 9 t : S1x1024.Idx → EReal) (ValueIdx.ix2 0 cc) = arg9 m c (ValueIdx.ix2 0 cc) := by
  obtain ⟨e0, e1⟩ := index9 t
  refine congrArg (arg9 m c) (funext fun a => Fin.ext ?_)
  match a with
  | ⟨0, _⟩ => show win0_9.index t (0 : Fin 2) * 1 + 1 * 0 = 0; omega
  | ⟨1, _⟩ => show win0_9.index t (1 : Fin 2) * 1024 + 1 * cc.val = cc.val; omega

abbrev arg10 : S8192x1024.Idx → EReal := m ((c.tc : Thread nD τ).loc main_arg10)
theorem index10 : ∀ t : Fin cfg0.N, win0_10.index t (0 : Fin 2) = t.val ∧ win0_10.index t (1 : Fin 2) = 0 :=
  (by decide +kernel : ∀ t : Fin grid0.N, _)
theorem block10 (t : Fin cfg0.N) (r : Fin 512) (k : Fin 1024) (p : Fin 8192) (hp : p.val = t.val * 512 + r.val) :
    (iblk m c 10 t : S512x1024.Idx → EReal) (ValueIdx.ix2 r k) = arg10 m c (ValueIdx.ix2 p k) := by
  obtain ⟨e0, e1⟩ := index10 t
  refine congrArg (arg10 m c) (funext fun a => Fin.ext ?_)
  match a with
  | ⟨0, _⟩ => show win0_10.index t (0 : Fin 2) * 512 + 1 * r.val = p.val; omega
  | ⟨1, _⟩ => show win0_10.index t (1 : Fin 2) * 1024 + 1 * k.val = k.val; omega

/-- The cotangent of the scaled rows. -/
abbrev argG : S8192x1024.Idx → EReal := ct (arg0 m c) (arg1 m c) (arg2 m c) (arg3 m c) (arg4 m c) (arg5 m c) (arg6 m c) (arg7 m c)

theorem ct_block (t : Fin cfg0.N) (r : Fin 512) (cc : Fin 1024) (p : Fin 8192) (hp : p.val = t.val * 512 + r.val) :
    k0_pay4 (F := Ideal) (iblk m c 0 t) (iblk m c 4 t) (iblk m c 1 t) (iblk m c 5 t) (iblk m c 2 t) (iblk m c 6 t) (iblk m c 3 t) (iblk m c 7 t) (ValueIdx.ix2 r cc) = ct (arg0 m c) (arg1 m c) (arg2 m c) (arg3 m c) (arg4 m c) (arg5 m c) (arg6 m c) (arg7 m c) (ValueIdx.ix2 p cc) := by
  refine (ct_at _ _ _ _ _ _ _ _ r cc).trans ?_
  refine congrArg₂ (fun x y : EReal => x + y) (congrArg₂ (fun x y : EReal => x + y) (congrArg₂ (fun x y : EReal => x + y) ?_ ?_) ?_) ?_
  · exact Finset.sum_congr rfl fun k _ => congrArg₂ (fun x y : EReal => x * y) (block0 m c t r k p hp) (block4 m c t cc k)
  · exact Finset.sum_congr rfl fun k _ => congrArg₂ (fun x y : EReal => x * y) (block1 m c t r k p hp) (block5 m c t cc k)
  · exact Finset.sum_congr rfl fun k _ => congrArg₂ (fun x y : EReal => x * y) (block2 m c t r k p hp) (block6 m c t cc k)
  · exact Finset.sum_congr rfl fun k _ => congrArg₂ (fun x y : EReal => x * y) (block3 m c t r k p hp) (block7 m c t cc k)

/-- The block of it a grid point computes. -/
abbrev blkG (t : Fin cfg0.N) : FVec Ideal S512x1024 .f32 := k0_pay4 (F := Ideal) (iblk m c 0 t) (iblk m c 4 t) (iblk m c 1 t) (iblk m c 5 t) (iblk m c 2 t) (iblk m c 6 t) (iblk m c 3 t) (iblk m c 7 t)

theorem back_block (t : Fin cfg0.N) (r : Fin 512) (cc : Fin 1024) (p : Fin 8192) (hp : p.val = t.val * 512 + r.val) :
    k0_pay1 (F := Ideal) (k0_pay4 (F := Ideal) (iblk m c 0 t) (iblk m c 4 t) (iblk m c 1 t) (iblk m c 5 t) (iblk m c 2 t) (iblk m c 6 t) (iblk m c 3 t) (iblk m c 7 t)) (iblk m c 8 t) (iblk m c 9 t) (k0_pay6 (iblk m c 8 t)) (k0_pay7 (iblk m c 8 t)) k0_pay8 (iblk m c 10 t) (ValueIdx.ix2 r cc)
      = back (argG m c) (arg8 m c) (arg9 m c) (arg10 m c) (ValueIdx.ix2 p cc) := by
  refine Eq.trans (NormRows.back_at (blkG m c t) (iblk m c 8 t) (iblk m c 10 t) (iblk m c 9 t) (k0_pay6 (iblk m c 8 t))
    (mulf (k0_pay8 (F := Ideal)) (k0_pay7 (iblk m c 8 t))) reduces_S512x1024_S512 reduces_S512x1_S512 (.inl rfl) rfl shapeCasts_S512_S512x1
    broadcasts_S512x1_S512x1024 broadcasts_S1x1024_S512x1024 r cc (inv_at _ r) (factor_at _ r)) ?_
  have eh : NormRows.rowOf (iblk m c 8 t) r = fun k => (arg8 m c) (ValueIdx.ix2 p k) := funext fun k => block8 m c t r k p hp
  have eg : NormRows.rowOf (blkG m c t) r = fun k => argG m c (ValueIdx.ix2 p k) := funext fun k => ct_block m c t r k p hp
  have er : NormRows.rowOf (iblk m c 10 t) r = fun k => (arg10 m c) (ValueIdx.ix2 p k) := funext fun k => block10 m c t r k p hp
  have ew : (fun j => (iblk m c 9 t : S1x1024.Idx → EReal) (ValueIdx.ix2 0 j)) = fun k => (arg9 m c) (ValueIdx.ix2 0 k) := funext fun k => block9 m c t k
  rw [eh, eg, er]
  exact congrArg (fun w => NormRows.back _ w _ _ cc) ew

/-- The token of row `r` of a block. -/
abbrev token (n : Nat) (r : Fin 512) : Fin 8192 := ⟨(n * 512 + r.val) % 8192, Nat.mod_lt _ (by decide)⟩

/-- A block's part of the gradient of the norm's weight. -/
def blockPart (n : Nat) : S1x1024.Idx → EReal := fun i => ∑ r : Fin 512, part (argG m c) (arg8 m c) (i 1 : Fin 1024) (token n r)

theorem weight_block (t : Fin cfg0.N) (acc : Vec Ideal S1x1024 .f32) (i : S1x1024.Idx) :
    k0_pay3 (F := Ideal) (k0_pay4 (F := Ideal) (iblk m c 0 t) (iblk m c 4 t) (iblk m c 1 t) (iblk m c 5 t) (iblk m c 2 t) (iblk m c 6 t) (iblk m c 3 t) (iblk m c 7 t)) (iblk m c 8 t) (k0_pay6 (iblk m c 8 t)) acc i = (acc i + blockPart m c t.val i : EReal) := by
  obtain ⟨z, k, rfl⟩ : ∃ (z : Fin 1) (k : Fin 1024), i = ValueIdx.ix2 z k := ⟨_, _, ValueIdx.eq_ix2 i⟩
  obtain rfl : z = 0 := Fin.ext (Nat.lt_one_iff.mp z.isLt)
  refine Eq.trans (NormRows.weight_at (blkG m c t) (iblk m c 8 t) acc (k0_pay6 (iblk m c 8 t)) reduces_S512x1024_S1024 (.inl rfl) rfl
    shapeCasts_S1024_S1x1024 shapeCasts_S1x1024_S1x1024 broadcasts_S512x1_S512x1024 k (fun r => inv_at _ r)) ?_
  refine congrArg (fun z : EReal => acc (ValueIdx.ix2 0 k) + z) (Finset.sum_congr rfl fun r _ => ?_)
  have hN : cfg0.N = 16 := N_0
  have ht := t.isLt
  have hr := r.isLt
  have hp : (token t.val r).val = t.val * 512 + r.val := by show (t.val * 512 + r.val) % 8192 = _; omega
  have eh : NormRows.rowOf (iblk m c 8 t) r = fun k => (arg8 m c) (ValueIdx.ix2 (token t.val r) k) := funext fun k => block8 m c t r k _ hp
  have eg : NormRows.rowOf (blkG m c t) r = fun k => argG m c (ValueIdx.ix2 (token t.val r) k) := funext fun k => ct_block m c t r k _ hp
  rw [eh, eg]
  rfl

/-! ## The arrays the blocks make -/

theorem place11 : ∀ t : Fin cfg0.N, win0_11.index t (0 : Fin 2) = t.val ∧ win0_11.index t (1 : Fin 2) = 0 :=
  (by decide +kernel : ∀ t : Fin grid0.N, _)

theorem out11 (t : Fin cfg0.N) (y : S512x1024.Idx) : (((cfg0.win 11).blk t).view.emb y (0 : Fin 2)).val = t.val * 512 + (y 0).val
    ∧ (((cfg0.win 11).blk t).view.emb y (1 : Fin 2)).val = (y 1).val := by
  obtain ⟨e0, e1⟩ := place11 t
  constructor
  · show win0_11.index t (0 : Fin 2) * 512 + 1 * (y 0).val = _; omega
  · show win0_11.index t (1 : Fin 2) * 1024 + 1 * (y 1).val = _; omega

theorem flushes11 : ∀ t : Fin cfg0.N, (cfg0.win 11).flush t = true := (by decide +kernel : ∀ t : Fin grid0.N, win0_11.flush t = true)

theorem covered11 (i : S8192x1024.Idx) : ∃ t : Fin cfg0.N, (cfg0.win 11).flush t = true ∧ i ∈ ((cfg0.win 11).blk t).view.set := by
  obtain ⟨t, y, rfl⟩ := NormRows.block_of N_0 (fun t y => ((cfg0.win 11).blk t).view.emb y) out11 i
  exact ⟨t, flushes11 t, ((cfg0.win 11).blk t).view.emb_mem_set y⟩

theorem result11 : (dats m 0 c).arrAt 11 cfg0.N = back (argG m c) (arg8 m c) (arg9 m c) (arg10 m c) := by
  refine (dats m 0 c).arrAt_eq_of_cover 11 (back (argG m c) (arg8 m c) (arg9 m c) (arg10 m c)) (fun t _ => ?_) covered11
  have hN : cfg0.N = 16 := N_0
  funext (y : S512x1024.Idx)
  obtain ⟨r, cc, rfl⟩ : ∃ r cc, y = ValueIdx.ix2 r cc := ⟨_, _, ValueIdx.eq_ix2 y⟩
  obtain ⟨hb0, hb1⟩ := out11 t (ValueIdx.ix2 r cc)
  have hp : t.val * 512 + r.val < 8192 := by have := t.isLt; have := r.isLt; omega
  have he : ((cfg0.win 11).blk t).view.emb (ValueIdx.ix2 r cc) = (ValueIdx.ix2 (⟨t.val * 512 + r.val, hp⟩ : Fin 8192) cc : S8192x1024.Idx) := funext fun a => Fin.ext (by
    match a with
    | ⟨0, _⟩ => exact hb0
    | ⟨1, _⟩ => exact hb1)
  refine Eq.trans ?_ ((back_block m c t r cc ⟨t.val * 512 + r.val, hp⟩ rfl).trans (congrArg (back (argG m c) (arg8 m c) (arg9 m c) (arg10 m c)) he.symm))
  by_cases h0 : t.val % 16 = 0
  · refine (congrFun (flushed11_A m c t h0) _).trans ?_
    exact congrFun first11 (ValueIdx.ix2 r cc)
  · refine (congrFun (flushed11_B m c t h0) _).trans ?_
    exact congrFun later11 (ValueIdx.ix2 r cc)

/-- What the first point of the grid starts the sum with, and what each later one adds. -/
def step (n : Nat) (h : n < cfg0.N) (acc : S1x1024.Idx → EReal) : S1x1024.Idx → EReal := k0_pay3 (F := Ideal) (k0_pay4 (F := Ideal) (iblk m c 0 ⟨n, h⟩) (iblk m c 4 ⟨n, h⟩) (iblk m c 1 ⟨n, h⟩) (iblk m c 5 ⟨n, h⟩) (iblk m c 2 ⟨n, h⟩) (iblk m c 6 ⟨n, h⟩) (iblk m c 3 ⟨n, h⟩) (iblk m c 7 ⟨n, h⟩)) (iblk m c 8 ⟨n, h⟩) (k0_pay6 (iblk m c 8 ⟨n, h⟩)) acc
def start (n : Nat) (h : n < cfg0.N) : S1x1024.Idx → EReal := step m c n h (k0_pay2 (F := Ideal))

theorem pair_snd {A B : Type} {p : A × B} {a : A} {b : B} (h : p = (a, b)) : p.2 = b := congrArg Prod.snd h

theorem point_first (n : Nat) (h : n < cfg0.N) (hn : n % 16 = 0) : ((outsAt0 m c n h).2 : S1x1024.Idx → EReal) = start m c n h := by
  unfold start step
  exact (pair_snd (outsAt0_A m c ⟨n, h⟩ hn)).trans first12

theorem point_later (n : Nat) (h : n + 1 < cfg0.N) (hn : ¬(n + 1) % 16 = 0) :
    ((outsAt0 m c (n + 1) h).2 : S1x1024.Idx → EReal) = step m c (n + 1) h (outsAt0 m c n (Nat.lt_of_succ_lt h)).2 := by
  unfold step
  exact (pair_snd (outsAt0_B m c ⟨n + 1, h⟩ hn)).trans later12

theorem sum_over_points (t : Fin cfg0.N) (h' : 16 * (t.val / 16) + t.val % 16 < cfg0.N) :
    ((outsAt0 m c t.val t.isLt).2 : S1x1024.Idx → EReal) = Pipeline.accAt (start m c) (step m c) (16 * (t.val / 16)) (t.val % 16) h' :=
  Pipeline.eq_accAt_of_mod (N := cfg0.N) (fun n h => ((outsAt0 m c n h).2 : S1x1024.Idx → EReal)) 16 (start m c) (step m c)
    (point_first m c) (point_later m c) (by decide) t.val t.isLt h'

theorem sum_last (t : Fin cfg0.N) (ht : t.val = 15) (i : S1x1024.Idx) : ((outsAt0 m c t.val t.isLt).2 : S1x1024.Idx → EReal) i = weights (argG m c) (arg8 m c) i := by
  have hN : cfg0.N = 16 := N_0
  have hd : 16 * (t.val / 16) = 0 := by omega
  have hm : t.val % 16 = 15 := by omega
  refine (congrFun (sum_over_points m c t (by omega)) i).trans ?_
  have h := Pipeline.accAt_add_apply (N := cfg0.N) (start m c) (step m c) (fun _ => (0 : EReal)) (blockPart m c) (16 * (t.val / 16)) 15
    (fun h i => (weight_block m c ⟨_, h⟩ (k0_pay2 (F := Ideal)) i).trans (congrArg (fun z : EReal => z + _) Ideal.ofBits_zero_f32))
    (fun n h acc i _ _ => weight_block m c ⟨n, h⟩ acc i) (t.val % 16) (by omega) (by omega) i
  refine h.trans ((zero_add _).trans ?_)
  rw [hm, hd]
  refine (Finset.sum_range _).trans (Eq.trans ?_ (Fin.sum_univ_tiles 16 512 rfl (part (argG m c) (arg8 m c) (i 1 : Fin 1024))).symm)
  refine Finset.sum_congr rfl fun s _ => Finset.sum_congr rfl fun r _ => congrArg (part (argG m c) (arg8 m c) (i 1 : Fin 1024)) (Fin.ext ?_)
  have hs := s.isLt
  have hr := r.isLt
  show ((0 + s.val) * 512 + r.val) % 8192 = s.val * 512 + r.val
  omega

theorem place12 : ∀ t : Fin cfg0.N, win0_12.index t (0 : Fin 2) = 0 ∧ win0_12.index t (1 : Fin 2) = 0 :=
  (by decide +kernel : ∀ t : Fin grid0.N, _)

theorem out12 (t : Fin cfg0.N) (y : S1x1024.Idx) : ((cfg0.win 12).blk t).view.emb y = y := by
  obtain ⟨e0, e1⟩ := place12 t
  funext a; apply Fin.ext
  match a with
  | ⟨0, _⟩ => show win0_12.index t (0 : Fin 2) * 1 + 1 * (y 0).val = (y 0).val; omega
  | ⟨1, _⟩ => show win0_12.index t (1 : Fin 2) * 1024 + 1 * (y 1).val = (y 1).val; omega

theorem flushes12 : ∀ t : Fin cfg0.N, ((cfg0.win 12).flush t = true ↔ t.val = 15) := (by decide +kernel : ∀ t : Fin grid0.N, (win0_12.flush t = true ↔ t.val = 15))

theorem covered12 (i : S1x1024.Idx) : ∃ t : Fin cfg0.N, (cfg0.win 12).flush t = true ∧ i ∈ ((cfg0.win 12).blk t).view.set := by
  have ht : 15 < cfg0.N := by have hN : cfg0.N = 16 := N_0; omega
  refine ⟨⟨15, ht⟩, (flushes12 _).mpr rfl, ?_⟩
  exact (congrArg (· ∈ _) (out12 ⟨15, ht⟩ i)).mp (((cfg0.win 12).blk ⟨15, ht⟩).view.emb_mem_set i)

theorem result12 : (dats m 0 c).arrAt 12 cfg0.N = weights (argG m c) (arg8 m c) := by
  refine (dats m 0 c).arrAt_eq_of_cover 12 (weights (argG m c) (arg8 m c)) (fun t hf => ?_) covered12
  refine (flushed12 m c t).trans ?_
  funext (y : S1x1024.Idx)
  exact (sum_last m c t ((flushes12 t).mp hf) y).trans (congrArg (weights (argG m c) (arg8 m c)) (out12 t y).symm)

/-! ## The reference -/

section
variable (x0 : (⟨S8192x1024, .bf16⟩ : BufTy).Contents (Elt Ideal)) (x1 : (⟨S8192x2048, .f32⟩ : BufTy).Contents (Elt Ideal)) (x2 : (⟨S8192x32, .f32⟩ : BufTy).Contents (Elt Ideal)) (x3 : (⟨S8192x512, .f32⟩ : BufTy).Contents (Elt Ideal)) (x4 : (⟨S1024x1024, .bf16⟩ : BufTy).Contents (Elt Ideal)) (x5 : (⟨S1024x2048, .bf16⟩ : BufTy).Contents (Elt Ideal)) (x6 : (⟨S1024x32, .bf16⟩ : BufTy).Contents (Elt Ideal)) (x7 : (⟨S1024x512, .bf16⟩ : BufTy).Contents (Elt Ideal)) (x8 : (⟨S8192x1024, .f32⟩ : BufTy).Contents (Elt Ideal)) (x9 : (⟨S1x1024, .f32⟩ : BufTy).Contents (Elt Ideal)) (x10 : (⟨S8192x1024, .f32⟩ : BufTy).Contents (Elt Ideal))

theorem reference_part0 (p : Fin 8192) (cc : Fin 1024) : val_main_v29 (F := Ideal) x0 x4 (ValueIdx.ix2 p cc)
    = (∑ k : Fin 1024, (x0 (ValueIdx.ix2 p k) : EReal) * (x4 (ValueIdx.ix2 cc k) : EReal) : EReal) := by
  refine (val_main_v29_apply _ _ _).trans (Finset.sum_congr rfl fun k _ => congrArg₂ (fun x y : EReal => x * y) ?_ ?_)
  · exact congrArg x0 (funext fun a => Fin.ext (by match a with | ⟨0, _⟩ => rfl | ⟨1, _⟩ => rfl))
  · exact congrArg x4 (funext fun a => Fin.ext (by match a with | ⟨0, _⟩ => rfl | ⟨1, _⟩ => rfl))

theorem reference_part1 (p : Fin 8192) (cc : Fin 1024) : val_main_v27 (F := Ideal) x1 x5 (ValueIdx.ix2 p cc)
    = (∑ k : Fin 2048, (x1 (ValueIdx.ix2 p k) : EReal) * (x5 (ValueIdx.ix2 cc k) : EReal) : EReal) := by
  refine (val_main_v27_apply _ _ _).trans (Finset.sum_congr rfl fun k _ => congrArg₂ (fun x y : EReal => x * y) ?_ ?_)
  · exact congrArg x1 (funext fun a => Fin.ext (by match a with | ⟨0, _⟩ => rfl | ⟨1, _⟩ => rfl))
  · exact congrArg x5 (funext fun a => Fin.ext (by match a with | ⟨0, _⟩ => rfl | ⟨1, _⟩ => rfl))

theorem reference_part2 (p : Fin 8192) (cc : Fin 1024) : val_main_v25 (F := Ideal) x2 x6 (ValueIdx.ix2 p cc)
    = (∑ k : Fin 32, (x2 (ValueIdx.ix2 p k) : EReal) * (x6 (ValueIdx.ix2 cc k) : EReal) : EReal) := by
  refine (val_main_v25_apply _ _ _).trans (Finset.sum_congr rfl fun k _ => congrArg₂ (fun x y : EReal => x * y) ?_ ?_)
  · exact congrArg x2 (funext fun a => Fin.ext (by match a with | ⟨0, _⟩ => rfl | ⟨1, _⟩ => rfl))
  · exact congrArg x6 (funext fun a => Fin.ext (by match a with | ⟨0, _⟩ => rfl | ⟨1, _⟩ => rfl))

theorem reference_part3 (p : Fin 8192) (cc : Fin 1024) : val_main_v24 (F := Ideal) x3 x7 (ValueIdx.ix2 p cc)
    = (∑ k : Fin 512, (x3 (ValueIdx.ix2 p k) : EReal) * (x7 (ValueIdx.ix2 cc k) : EReal) : EReal) := by
  refine (val_main_v24_apply _ _ _).trans (Finset.sum_congr rfl fun k _ => congrArg₂ (fun x y : EReal => x * y) ?_ ?_)
  · exact congrArg x3 (funext fun a => Fin.ext (by match a with | ⟨0, _⟩ => rfl | ⟨1, _⟩ => rfl))
  · exact congrArg x7 (funext fun a => Fin.ext (by match a with | ⟨0, _⟩ => rfl | ⟨1, _⟩ => rfl))

theorem reversed (a b d e : EReal) : e + d + b + a = a + b + d + e := by ac_rfl

theorem reference_ct : val_main_v30 (F := Ideal) x0 x1 x2 x3 x4 x5 x6 x7 = ct x0 x1 x2 x3 x4 x5 x6 x7 := by
  funext i
  obtain ⟨p, cc, rfl⟩ : ∃ p cc, i = ValueIdx.ix2 p cc := ⟨_, _, ValueIdx.eq_ix2 i⟩
  refine (congrArg₂ (fun x y : EReal => x + y) (congrArg₂ (fun x y : EReal => x + y) (congrArg₂ (fun x y : EReal => x + y)
    (reference_part3 x3 x7 p cc) (reference_part2 x2 x6 p cc)) (reference_part1 x1 x5 p cc)) (reference_part0 x0 x4 p cc)).trans ?_
  exact reversed _ _ _ _

theorem reference_mean (p : Fin 8192) : val_main_v6 (F := Ideal) x8 (ValueIdx.ix2 p 0) = NormRows.mean (fun k => x8 (ValueIdx.ix2 p k)) := by
  refine congrArg₂ (fun x y : EReal => x + y) (congrArg₂ Ideal.div ?_ ?_) ?_
  · refine (val_main_v2_apply _ _).trans ((val_main_v1_apply _ _).trans ((congrArg (fun z : EReal => z + _) Ideal.ofBits_zero_f32).trans ((zero_add _).trans (Finset.sum_congr rfl fun k _ => ?_))))
    exact congrArg (fun z : S8192x1024.Idx => (x8 z * x8 z : EReal)) (NormRows.token_index _ p k rfl rfl)
  · exact val_main_v3_apply _
  · exact val_main_v5_apply _

theorem reference_inv (p : Fin 8192) : val_main_v7 (F := Ideal) x8 (ValueIdx.ix2 p 0) = NormRows.inv (fun k => x8 (ValueIdx.ix2 p k)) :=
  congrArg Ideal.rsqrt (reference_mean x8 p)

theorem reference_factor (p : Fin 8192) : val_main_v10 (F := Ideal) x8 (ValueIdx.ix2 p 0)
    = (NormRows.negHalf * Ideal.div (NormRows.inv (fun k => x8 (ValueIdx.ix2 p k))) (NormRows.mean (fun k => x8 (ValueIdx.ix2 p k))) : EReal) :=
  congrArg₂ (fun x y : EReal => x * y) (val_main_v9_apply _) (congrArg₂ Ideal.div (reference_inv x8 p) (reference_mean x8 p))

theorem reference_scaled (p : Fin 8192) (k : Fin 1024) : val_main_v35 (F := Ideal) x0 x1 x2 x3 x4 x5 x6 x7 x9 (ValueIdx.ix2 p k)
    = (ct x0 x1 x2 x3 x4 x5 x6 x7 (ValueIdx.ix2 p k) * x9 (ValueIdx.ix2 0 k) : EReal) :=
  congrArg₂ (fun x y : EReal => x * y) (congrFun (reference_ct x0 x1 x2 x3 x4 x5 x6 x7) _)
    ((val_main_v34_apply _ _).trans (congrArg x9 (NormRows.weight_index _ k rfl)))

theorem reference_slope (p : Fin 8192) (k : Fin 1024) : val_main_v46 (F := Ideal) x0 x1 x2 x3 x4 x5 x6 x7 x8 x9 (ValueIdx.ix2 p k)
    = NormRows.slope (fun k => x8 (ValueIdx.ix2 p k)) (fun j => ct x0 x1 x2 x3 x4 x5 x6 x7 (ValueIdx.ix2 p j) * x9 (ValueIdx.ix2 0 j)) := by
  refine (val_main_v46_apply _ _ _ _ _ _ _ _ _ _ _).trans ((val_main_v45_apply _ _ _ _ _ _ _ _ _ _ _).trans ((congrArg (fun z : EReal => z + _) Ideal.ofBits_zero_f32).trans ((zero_add _).trans ((Fin.sum_univ_one _).trans ?_))))
  refine (congrArg (val_main_v44 (F := Ideal) x0 x1 x2 x3 x4 x5 x6 x7 x8 x9) (NormRows.column_index _ p rfl)).trans (congrArg₂ Ideal.div ?_ (val_main_v43_apply _))
  refine congrArg₂ (fun x y : EReal => x * y) ?_ (reference_factor x8 p)
  refine (val_main_v38_apply _ _ _ _ _ _ _ _ _ _ _).trans ((val_main_v37_apply _ _ _ _ _ _ _ _ _ _ _).trans ((congrArg (fun z : EReal => z + _) Ideal.ofBits_zero_f32).trans ((zero_add _).trans (Finset.sum_congr rfl fun j _ => ?_))))
  exact (congrArg (val_main_v36 (F := Ideal) x0 x1 x2 x3 x4 x5 x6 x7 x8 x9) (NormRows.token_index _ p j (show p.val * 1 + 0 = p.val by omega) rfl)).trans
    (congrArg (fun z : EReal => (x8 (ValueIdx.ix2 p j) : EReal) * z) (reference_scaled x0 x1 x2 x3 x4 x5 x6 x7 x9 p j))

theorem reference_back : val_main_v50 (F := Ideal) x0 x1 x2 x3 x4 x5 x6 x7 x8 x9 x10 = back (ct x0 x1 x2 x3 x4 x5 x6 x7) x8 x9 x10 := by
  funext i
  obtain ⟨p, k, rfl⟩ : ∃ p k, i = ValueIdx.ix2 p k := ⟨_, _, ValueIdx.eq_ix2 i⟩
  refine Eq.trans ?_ (NormRows.back_comm (fun k => x8 (ValueIdx.ix2 p k)) (fun k => x9 (ValueIdx.ix2 0 k)) (fun k => ct x0 x1 x2 x3 x4 x5 x6 x7 (ValueIdx.ix2 p k)) (fun k => x10 (ValueIdx.ix2 p k)) k).symm
  have hS := reference_slope x0 x1 x2 x3 x4 x5 x6 x7 x8 x9 p k
  refine congrArg₂ (fun x y : EReal => x + y) (congrArg₂ (fun x y : EReal => x + y) (congrArg (fun z : EReal => (x10 (ValueIdx.ix2 p k) : EReal) + z) ?_)
    (congrArg (fun z : EReal => (x8 (ValueIdx.ix2 p k) : EReal) * z) hS)) (congrArg (fun z : EReal => z * (x8 (ValueIdx.ix2 p k) : EReal)) hS)
  refine congrArg₂ (fun x y : EReal => x * y) (reference_scaled x0 x1 x2 x3 x4 x5 x6 x7 x9 p k) ?_
  exact (val_main_v39_apply _ _).trans ((congrArg (val_main_v7 (F := Ideal) x8) (NormRows.column_index _ p rfl)).trans (reference_inv x8 p))

theorem reference_weights : val_main_v33 (F := Ideal) x0 x1 x2 x3 x4 x5 x6 x7 x8 = weights (ct x0 x1 x2 x3 x4 x5 x6 x7) x8 := by
  funext i
  refine (val_main_v33_apply _ _ _ _ _ _ _ _ _ _).trans ((val_main_v32_apply _ _ _ _ _ _ _ _ _ _).trans ((congrArg (fun z : EReal => z + _) Ideal.ofBits_zero_f32).trans ((zero_add _).trans (Finset.sum_congr rfl fun p _ => ?_))))
  refine (congrArg (val_main_v31 (F := Ideal) x0 x1 x2 x3 x4 x5 x6 x7 x8) (NormRows.token_index _ p (i 1 : Fin 1024) rfl (by
    have h0 : (i 0).val < 1 := (i 0).isLt
    show (i 0).val * 1024 + (i 1).val = (i 1).val
    omega))).trans ?_
  refine congrArg₂ (fun x y : EReal => x * y) (congrArg (fun z : EReal => (x8 (ValueIdx.ix2 p (i 1 : Fin 1024)) : EReal) * z) ?_) (congrFun (reference_ct x0 x1 x2 x3 x4 x5 x6 x7) _)
  exact (val_main_v11_apply _ _).trans ((congrArg (val_main_v7 (F := Ideal) x8) (NormRows.column_index _ p rfl)).trans (reference_inv x8 p))

end

/-! ## The claims -/

theorem frame_reference : Cert.quiescent_Reference15Ideal := fun m ρ _ =>
  (θ_run Cert.Reference15Ideal.defs _ _).mono (fun _ h => ⟨fun c => (h c).2.2, sem_eq_zero_of_no_sems rfl _⟩) (Cert.Reference15Ideal.Value.run (F := Ideal) m ρ)

theorem algebraic : Cert.algebraic_Kernel15Ideal_Reference15Ideal := fun m ρ m' ρ' _ hag =>
  ⟨fun c => back (argG m c) (arg8 m c) (arg9 m c) (arg10 m c), fun c => weights (argG m c) (arg8 m c),
   (θ_run Cert.Kernel15Ideal.defs _ _).mono (fun _ h c => ⟨(h c).1.trans (result11 m c), (h c).2.1.trans (result12 m c), (h c).2.2⟩) (Cert.Kernel15Ideal.Value.run_blocks (F := Ideal) m ρ),
   (θ_run Cert.Reference15Ideal.defs _ _).mono (fun _ h c => ⟨
      (h c).1.trans ((val_main_v50_eq m' c).trans (by rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2]; exact reference_back _ _ _ _ _ _ _ _ _ _ _)),
      (h c).2.1.trans ((val_main_v33_eq _ _ _ _ _ _ _ _ _).trans (by rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1]; exact reference_weights _ _ _ _ _ _ _ _ _)), (h c).2.2⟩) (Cert.Reference15Ideal.Value.run (F := Ideal) m' ρ')⟩

end Cert.Norm15

end
-- ==== Proof.Norm16.lean ====
/- The output projection (`out_proj`): each grid point writes one block of rows of the sum of the residual and the two
   branches' products, and the same rows normed. -/
module

public import proofs.«01_k».proof.Defs
public import proofs.«01_k».proof.Proof.Dots
public import proofs.«01_k».proof.Proof.Gen.Kernel16Ideal.Value
public import proofs.«01_k».proof.Proof.Gen.Reference16Ideal.Run
public import proofs.«01_k».proof.Proof.Gen.Reference16Ideal.Read
public import proofs.«01_k».proof.Proof.NormRows
public import Idealize.ShloMosaic.Lib.Pointwise.Contract
public import Idealize.ShloMosaic.Lib.Pointwise.Sums
public import Idealize.ShloMosaic.Lib.Quiescent

@[expose] public section

set_option maxRecDepth 16384
set_option maxHeartbeats 1000000

noncomputable section

namespace Cert.Norm16

open Cert.Kernel16Ideal Cert.Kernel16Ideal.Gen Cert.Kernel16Ideal.Value
open Cert.Reference16Ideal.Read
open Idealize.ShloMosaic Idealize.ShloMosaic.TcCoe Idealize.SL.Sem

/-- The sum of the two branches' products and the residual. -/
def mixed (a : S8192x1024.Idx → EReal) (b : S8192x512.Idx → EReal) (wa : S1024x1024.Idx → EReal) (wb : S512x1024.Idx → EReal)
    (x : S8192x1024.Idx → EReal) : S8192x1024.Idx → EReal := fun i =>
  (∑ k : Fin 1024, a (ValueIdx.ix2 (i 0 : Fin 8192) k) * wa (ValueIdx.ix2 k (i 1 : Fin 1024)))
    + (∑ k : Fin 512, b (ValueIdx.ix2 (i 0 : Fin 8192) k) * wb (ValueIdx.ix2 k (i 1 : Fin 1024))) + x i

/-- The rows of it normed and scaled by the norm's weight. -/
def normed (a : S8192x1024.Idx → EReal) (b : S8192x512.Idx → EReal) (wa : S1024x1024.Idx → EReal) (wb : S512x1024.Idx → EReal)
    (x : S8192x1024.Idx → EReal) (w : S1x1024.Idx → EReal) : S8192x1024.Idx → EReal := fun i =>
  NormRows.norm (fun k => mixed a b wa wb x (ValueIdx.ix2 (i 0 : Fin 8192) k)) (fun k => w (ValueIdx.ix2 0 k)) (i 1 : Fin 1024)

/-! ## A block -/

theorem dot_at1 (x : S512x1024.Idx → EReal) (y : S1024x1024.Idx → EReal) (acc : S512x1024.Idx → EReal) (r : Fin 512) (c : Fin 1024) :
    Ideal.matmul dot_S512x1024_S1024x1024_S512x1024_1_0_0_1_n_n x y acc (ValueIdx.ix2 r c)
      = acc (ValueIdx.ix2 r c) + ∑ k : Fin 1024, x (ValueIdx.ix2 r k) * y (ValueIdx.ix2 k c) :=
  Dots.plain x y acc r c

theorem dot_at2 (x : S512x512.Idx → EReal) (y : S512x1024.Idx → EReal) (acc : S512x1024.Idx → EReal) (r : Fin 512) (c : Fin 1024) :
    Ideal.matmul dot_S512x512_S512x1024_S512x1024_1_0_0_1_n_n x y acc (ValueIdx.ix2 r c)
      = acc (ValueIdx.ix2 r c) + ∑ k : Fin 512, x (ValueIdx.ix2 r k) * y (ValueIdx.ix2 k c) :=
  Dots.plain x y acc r c

theorem sum_at (a : Vec Ideal S512x1024 .bf16) (wa : Vec Ideal S1024x1024 .bf16) (b : Vec Ideal S512x512 .bf16) (wb : Vec Ideal S512x1024 .bf16)
    (x : Vec Ideal S512x1024 .f32) (r : Fin 512) (cc : Fin 1024) :
    k0_pay1 (F := Ideal) a wa b wb x (ValueIdx.ix2 r cc)
      = ((∑ k : Fin 1024, (a (ValueIdx.ix2 r k) : EReal) * (wa (ValueIdx.ix2 k cc) : EReal))
        + (∑ k : Fin 512, (b (ValueIdx.ix2 r k) : EReal) * (wb (ValueIdx.ix2 k cc) : EReal)) + (x (ValueIdx.ix2 r cc) : EReal) : EReal) := by
  unfold k0_pay1
  refine congrArg₂ (fun x y : EReal => x + y) (congrArg₂ (fun x y : EReal => x + y) ?_ ?_) rfl
  · exact (dot_at1 a wa _ r cc).trans ((congrArg (fun z : EReal => z + _) Ideal.ofBits_zero_f32).trans (zero_add _))
  · exact (dot_at2 b wb _ r cc).trans ((congrArg (fun z : EReal => z + _) Ideal.ofBits_zero_f32).trans (zero_add _))

theorem norm_at (a : Vec Ideal S512x1024 .bf16) (wa : Vec Ideal S1024x1024 .bf16) (b : Vec Ideal S512x512 .bf16) (wb : Vec Ideal S512x1024 .bf16)
    (x : Vec Ideal S512x1024 .f32) (w : Vec Ideal S1x1024 .f32) (r : Fin 512) (cc : Fin 1024) :
    k0_pay2 (F := Ideal) a wa b wb x w (ValueIdx.ix2 r cc)
      = NormRows.norm (fun k => k0_pay1 (F := Ideal) a wa b wb x (ValueIdx.ix2 r k)) (fun k => w (ValueIdx.ix2 0 k)) cc := by
  rw [lay7_0_eq]
  refine congrArg₂ (fun x y : EReal => x * y) (congrArg (fun y : EReal => _ * y) ?_) ?_
  · refine (NormRows.spread_col _ broadcasts_S512x1_S512x1024 r cc).trans ?_
    exact congrArg Ideal.rsqrt (NormRows.mean_at (k0_pay1 (F := Ideal) a wa b wb x) reduces_S512x1024_S512 (.inl rfl) rfl shapeCasts_S512_S512x1 r)
  · exact NormRows.spread_row w broadcasts_S1x1024_S512x1024 r cc

/-! ## The blocks a grid point works on -/

variable (m : (ℓ : Loc nD τ sig) → Buf (Elt Ideal) ℓ) (ρ : Dev nD → PrngReg) (c : Dev nD)

abbrev arg0 : S8192x1024.Idx → EReal := m ((c.tc : Thread nD τ).loc main_arg0)
theorem index0 : ∀ t : Fin cfg0.N, win0_0.index t (0 : Fin 2) = t.val ∧ win0_0.index t (1 : Fin 2) = 0 :=
  (by decide +kernel : ∀ t : Fin grid0.N, _)
theorem block0 (t : Fin cfg0.N) (r : Fin 512) (k : Fin 1024) (p : Fin 8192) (hp : p.val = t.val * 512 + r.val) :
    (iblk m c 0 t : S512x1024.Idx → EReal) (ValueIdx.ix2 r k) = arg0 m c (ValueIdx.ix2 p k) := by
  obtain ⟨e0, e1⟩ := index0 t
  refine congrArg (arg0 m c) (funext fun a => Fin.ext ?_)
  match a with
  | ⟨0, _⟩ => show win0_0.index t (0 : Fin 2) * 512 + 1 * r.val = p.val; omega
  | ⟨1, _⟩ => show win0_0.index t (1 : Fin 2) * 1024 + 1 * k.val = k.val; omega

abbrev arg1 : S8192x512.Idx → EReal := m ((c.tc : Thread nD τ).loc main_arg1)
theorem index1 : ∀ t : Fin cfg0.N, win0_1.index t (0 : Fin 2) = t.val ∧ win0_1.index t (1 : Fin 2) = 0 :=
  (by decide +kernel : ∀ t : Fin grid0.N, _)
theorem block1 (t : Fin cfg0.N) (r : Fin 512) (k : Fin 512) (p : Fin 8192) (hp : p.val = t.val * 512 + r.val) :
    (iblk m c 1 t : S512x512.Idx → EReal) (ValueIdx.ix2 r k) = arg1 m c (ValueIdx.ix2 p k) := by
  obtain ⟨e0, e1⟩ := index1 t
  refine congrArg (arg1 m c) (funext fun a => Fin.ext ?_)
  match a with
  | ⟨0, _⟩ => show win0_1.index t (0 : Fin 2) * 512 + 1 * r.val = p.val; omega
  | ⟨1, _⟩ => show win0_1.index t (1 : Fin 2) * 512 + 1 * k.val = k.val; omega

abbrev arg2 : S1024x1024.Idx → EReal := m ((c.tc : Thread nD τ).loc main_arg2)
theorem index2 : ∀ t : Fin cfg0.N, win0_2.index t (0 : Fin 2) = 0 ∧ win0_2.index t (1 : Fin 2) = 0 :=
  (by decide +kernel : ∀ t : Fin grid0.N, _)
theorem block2 (t : Fin cfg0.N) (k : Fin 1024) (cc : Fin 1024) :
    (iblk m c 2 t : S1024x1024.Idx → EReal) (ValueIdx.ix2 k cc) = arg2 m c (ValueIdx.ix2 k cc) := by
  obtain ⟨e0, e1⟩ := index2 t
  refine congrArg (arg2 m c) (funext fun a => Fin.ext ?_)
  match a with
  | ⟨0, _⟩ => show win0_2.index t (0 : Fin 2) * 1024 + 1 * k.val = k.val; omega
  | ⟨1, _⟩ => show win0_2.index t (1 : Fin 2) * 1024 + 1 * cc.val = cc.val; omega

abbrev arg3 : S512x1024.Idx → EReal := m ((c.tc : Thread nD τ).loc main_arg3)
theorem index3 : ∀ t : Fin cfg0.N, win0_3.index t (0 : Fin 2) = 0 ∧ win0_3.index t (1 : Fin 2) = 0 :=
  (by decide +kernel : ∀ t : Fin grid0.N, _)
theorem block3 (t : Fin cfg0.N) (k : Fin 512) (cc : Fin 1024) :
    (iblk m c 3 t : S512x1024.Idx → EReal) (ValueIdx.ix2 k cc) = arg3 m c (ValueIdx.ix2 k cc) := by
  obtain ⟨e0, e1⟩ := index3 t
  refine congrArg (arg3 m c) (funext fun a => Fin.ext ?_)
  match a with
  | ⟨0, _⟩ => show win0_3.index t (0 : Fin 2) * 512 + 1 * k.val = k.val; omega
  | ⟨1, _⟩ => show win0_3.index t (1 : Fin 2) * 1024 + 1 * cc.val = cc.val; omega

abbrev arg4 : S8192x1024.Idx → EReal := m ((c.tc : Thread nD τ).loc main_arg4)
theorem index4 : ∀ t : Fin cfg0.N, win0_4.index t (0 : Fin 2) = t.val ∧ win0_4.index t (1 : Fin 2) = 0 :=
  (by decide +kernel : ∀ t : Fin grid0.N, _)
theorem block4 (t : Fin cfg0.N) (r : Fin 512) (k : Fin 1024) (p : Fin 8192) (hp : p.val = t.val * 512 + r.val) :
    (iblk m c 4 t : S512x1024.Idx → EReal) (ValueIdx.ix2 r k) = arg4 m c (ValueIdx.ix2 p k) := by
  obtain ⟨e0, e1⟩ := index4 t
  refine congrArg (arg4 m c) (funext fun a => Fin.ext ?_)
  match a with
  | ⟨0, _⟩ => show win0_4.index t (0 : Fin 2) * 512 + 1 * r.val = p.val; omega
  | ⟨1, _⟩ => show win0_4.index t (1 : Fin 2) * 1024 + 1 * k.val = k.val; omega

abbrev arg5 : S1x1024.Idx → EReal := m ((c.tc : Thread nD τ).loc main_arg5)
theorem index5 : ∀ t : Fin cfg0.N, win0_5.index t (0 : Fin 2) = 0 ∧ win0_5.index t (1 : Fin 2) = 0 :=
  (by decide +kernel : ∀ t : Fin grid0.N, _)
theorem block5 (t : Fin cfg0.N) (cc : Fin 1024) :
    (iblk m c 5 t : S1x1024.Idx → EReal) (ValueIdx.ix2 0 cc) = arg5 m c (ValueIdx.ix2 0 cc) := by
  obtain ⟨e0, e1⟩ := index5 t
  refine congrArg (arg5 m c) (funext fun a => Fin.ext ?_)
  match a with
  | ⟨0, _⟩ => show win0_5.index t (0 : Fin 2) * 1 + 1 * 0 = 0; omega
  | ⟨1, _⟩ => show win0_5.index t (1 : Fin 2) * 1024 + 1 * cc.val = cc.val; omega

theorem sum_block (t : Fin cfg0.N) (r : Fin 512) (cc : Fin 1024) (p : Fin 8192) (hp : p.val = t.val * 512 + r.val) :
    k0_pay1 (F := Ideal) (iblk m c 0 t) (iblk m c 2 t) (iblk m c 1 t) (iblk m c 3 t) (iblk m c 4 t) (ValueIdx.ix2 r cc)
      = mixed (arg0 m c) (arg1 m c) (arg2 m c) (arg3 m c) (arg4 m c) (ValueIdx.ix2 p cc) := by
  refine (sum_at _ _ _ _ _ r cc).trans ?_
  refine congrArg₂ (fun x y : EReal => x + y) (congrArg₂ (fun x y : EReal => x + y) ?_ ?_) ?_
  · exact Finset.sum_congr rfl fun k _ => congrArg₂ (fun x y : EReal => x * y) (block0 m c t r k p hp) (block2 m c t k cc)
  · exact Finset.sum_congr rfl fun k _ => congrArg₂ (fun x y : EReal => x * y) (block1 m c t r k p hp) (block3 m c t k cc)
  · exact block4 m c t r cc p hp

/-! ## The arrays the blocks make -/

theorem place6 : ∀ t : Fin cfg0.N, win0_6.index t (0 : Fin 2) = t.val ∧ win0_6.index t (1 : Fin 2) = 0 :=
  (by decide +kernel : ∀ t : Fin grid0.N, _)

theorem out6 (t : Fin cfg0.N) (y : S512x1024.Idx) : (((cfg0.win 6).blk t).view.emb y (0 : Fin 2)).val = t.val * 512 + (y 0).val
    ∧ (((cfg0.win 6).blk t).view.emb y (1 : Fin 2)).val = (y 1).val := by
  obtain ⟨e0, e1⟩ := place6 t
  constructor
  · show win0_6.index t (0 : Fin 2) * 512 + 1 * (y 0).val = _; omega
  · show win0_6.index t (1 : Fin 2) * 1024 + 1 * (y 1).val = _; omega

theorem flushes6 : ∀ t : Fin cfg0.N, (cfg0.win 6).flush t = true := (by decide +kernel : ∀ t : Fin grid0.N, win0_6.flush t = true)

theorem covered6 (i : S8192x1024.Idx) : ∃ t : Fin cfg0.N, (cfg0.win 6).flush t = true ∧ i ∈ ((cfg0.win 6).blk t).view.set := by
  obtain ⟨t, y, rfl⟩ := NormRows.block_of N_0 (fun t y => ((cfg0.win 6).blk t).view.emb y) out6 i
  exact ⟨t, flushes6 t, ((cfg0.win 6).blk t).view.emb_mem_set y⟩

theorem place7 : ∀ t : Fin cfg0.N, win0_7.index t (0 : Fin 2) = t.val ∧ win0_7.index t (1 : Fin 2) = 0 :=
  (by decide +kernel : ∀ t : Fin grid0.N, _)

theorem out7 (t : Fin cfg0.N) (y : S512x1024.Idx) : (((cfg0.win 7).blk t).view.emb y (0 : Fin 2)).val = t.val * 512 + (y 0).val
    ∧ (((cfg0.win 7).blk t).view.emb y (1 : Fin 2)).val = (y 1).val := by
  obtain ⟨e0, e1⟩ := place7 t
  constructor
  · show win0_7.index t (0 : Fin 2) * 512 + 1 * (y 0).val = _; omega
  · show win0_7.index t (1 : Fin 2) * 1024 + 1 * (y 1).val = _; omega

theorem flushes7 : ∀ t : Fin cfg0.N, (cfg0.win 7).flush t = true := (by decide +kernel : ∀ t : Fin grid0.N, win0_7.flush t = true)

theorem covered7 (i : S8192x1024.Idx) : ∃ t : Fin cfg0.N, (cfg0.win 7).flush t = true ∧ i ∈ ((cfg0.win 7).blk t).view.set := by
  obtain ⟨t, y, rfl⟩ := NormRows.block_of N_0 (fun t y => ((cfg0.win 7).blk t).view.emb y) out7 i
  exact ⟨t, flushes7 t, ((cfg0.win 7).blk t).view.emb_mem_set y⟩

theorem result6 : (dats m 0 c).arrAt 6 cfg0.N = mixed (arg0 m c) (arg1 m c) (arg2 m c) (arg3 m c) (arg4 m c) := by
  refine (dats m 0 c).arrAt_eq_of_cover 6 (mixed (arg0 m c) (arg1 m c) (arg2 m c) (arg3 m c) (arg4 m c)) (fun t _ => ?_) covered6
  refine (flushed6 m c t).trans ?_
  funext (y : S512x1024.Idx)
  obtain ⟨r, cc, rfl⟩ : ∃ r cc, y = ValueIdx.ix2 r cc := ⟨_, _, ValueIdx.eq_ix2 y⟩
  show out0_6 (iblk m c 0 t) (iblk m c 1 t) (iblk m c 2 t) (iblk m c 3 t) (iblk m c 4 t) (iblk m c 5 t) (ValueIdx.ix2 r cc)
    = mixed (arg0 m c) (arg1 m c) (arg2 m c) (arg3 m c) (arg4 m c) (((cfg0.win 6).blk t).view.emb (ValueIdx.ix2 r cc))
  unfold out0_6
  refine (congrFun (View.canon_unit_zero (S := S512x1024) (by decide) _ _) _).trans ?_
  simp only [View.ld_unit_zero (S := S512x1024) NormRows.zeros, View.ld_unit_zero (S := S1024x1024) NormRows.zeros, View.ld_unit_zero (S := S512x512) NormRows.zeros,
    View.ld_unit_zero (S := S1x1024) NormRows.zeros]
  obtain ⟨hb0, hb1⟩ := out6 t (ValueIdx.ix2 r cc)
  have hp : t.val * 512 + r.val < 8192 := by have hN : cfg0.N = 16 := N_0; have := t.isLt; have := r.isLt; omega
  refine (sum_block m c t r cc ⟨t.val * 512 + r.val, hp⟩ rfl).trans (congrArg _ (funext fun a => Fin.ext ?_))
  match a with
  | ⟨0, _⟩ => exact hb0.symm
  | ⟨1, _⟩ => exact hb1.symm

theorem result7 : (dats m 0 c).arrAt 7 cfg0.N = normed (arg0 m c) (arg1 m c) (arg2 m c) (arg3 m c) (arg4 m c) (arg5 m c) := by
  refine (dats m 0 c).arrAt_eq_of_cover 7 (normed (arg0 m c) (arg1 m c) (arg2 m c) (arg3 m c) (arg4 m c) (arg5 m c)) (fun t _ => ?_) covered7
  refine (flushed7 m c t).trans ?_
  funext (y : S512x1024.Idx)
  obtain ⟨r, cc, rfl⟩ : ∃ r cc, y = ValueIdx.ix2 r cc := ⟨_, _, ValueIdx.eq_ix2 y⟩
  show out0_7 (iblk m c 0 t) (iblk m c 1 t) (iblk m c 2 t) (iblk m c 3 t) (iblk m c 4 t) (iblk m c 5 t) (ValueIdx.ix2 r cc)
    = normed (arg0 m c) (arg1 m c) (arg2 m c) (arg3 m c) (arg4 m c) (arg5 m c) (((cfg0.win 7).blk t).view.emb (ValueIdx.ix2 r cc))
  unfold out0_7
  refine (congrFun (View.canon_unit_zero (S := S512x1024) (by decide) _ _) _).trans ?_
  simp only [View.ld_unit_zero (S := S512x1024) NormRows.zeros, View.ld_unit_zero (S := S1024x1024) NormRows.zeros, View.ld_unit_zero (S := S512x512) NormRows.zeros,
    View.ld_unit_zero (S := S1x1024) NormRows.zeros]
  obtain ⟨hb0, hb1⟩ := out7 t (ValueIdx.ix2 r cc)
  have hp : t.val * 512 + r.val < 8192 := by have hN : cfg0.N = 16 := N_0; have := t.isLt; have := r.isLt; omega
  refine (norm_at _ _ _ _ _ _ r cc).trans ?_
  have he : ((cfg0.win 7).blk t).view.emb (ValueIdx.ix2 r cc) = (ValueIdx.ix2 (⟨t.val * 512 + r.val, hp⟩ : Fin 8192) cc : S8192x1024.Idx) := funext fun a => Fin.ext (by
    match a with
    | ⟨0, _⟩ => exact hb0
    | ⟨1, _⟩ => exact hb1)
  rw [he]
  exact congrArg₂ (fun h w => NormRows.norm h w cc) (funext fun k => sum_block m c t r k ⟨t.val * 512 + r.val, hp⟩ rfl) (funext fun k => block5 m c t k)

/-! ## The reference -/

theorem joined_left (x0 : (⟨S8192x1024, .bf16⟩ : BufTy).Contents (Elt Ideal)) (x1 : (⟨S8192x512, .bf16⟩ : BufTy).Contents (Elt Ideal)) (p : Fin 8192) (k : Fin 1024) (k' : Fin 1536) (h : k'.val = k.val) :
    val_main_v0 (F := Ideal) x0 x1 (ValueIdx.ix2 p k') = x0 (ValueIdx.ix2 p k) :=
  concatenate_pair_apply_left (t := Cert.Reference16Ideal.S8192x1536) (s₁ := S8192x1024) (s₂ := S8192x512) (1 : Fin 2) x0 x1 _ (ValueIdx.ix2 p k') rfl (ValueIdx.ix2 p k) (fun a => match a with
    | ⟨0, _⟩ => rfl
    | ⟨1, _⟩ => h.symm)

theorem joined_right (x0 : (⟨S8192x1024, .bf16⟩ : BufTy).Contents (Elt Ideal)) (x1 : (⟨S8192x512, .bf16⟩ : BufTy).Contents (Elt Ideal)) (p : Fin 8192) (k : Fin 512) (k' : Fin 1536) (h : k'.val = 1024 + k.val) :
    val_main_v0 (F := Ideal) x0 x1 (ValueIdx.ix2 p k') = x1 (ValueIdx.ix2 p k) :=
  concatenate_pair_apply_right (t := Cert.Reference16Ideal.S8192x1536) (s₁ := S8192x1024) (s₂ := S8192x512) (1 : Fin 2) x0 x1 _ (ValueIdx.ix2 p k') rfl rfl (ValueIdx.ix2 p k) (fun a => match a with
    | ⟨0, _⟩ => fun _ => rfl
    | ⟨1, _⟩ => fun hne => absurd rfl hne) (by show k.val + 1024 = k'.val; omega)

theorem weights_left (x2 : (⟨S1024x1024, .bf16⟩ : BufTy).Contents (Elt Ideal)) (x3 : (⟨S512x1024, .bf16⟩ : BufTy).Contents (Elt Ideal)) (k : Fin 1024) (cc : Fin 1024) (k' : Fin 1536) (h : k'.val = k.val) :
    val_main_v1 (F := Ideal) x2 x3 (ValueIdx.ix2 k' cc) = x2 (ValueIdx.ix2 k cc) :=
  concatenate_pair_apply_left (t := Cert.Reference16Ideal.S1536x1024) (s₁ := S1024x1024) (s₂ := S512x1024) (0 : Fin 2) x2 x3 _ (ValueIdx.ix2 k' cc) rfl (ValueIdx.ix2 k cc) (fun a => match a with
    | ⟨0, _⟩ => h.symm
    | ⟨1, _⟩ => rfl)

theorem weights_right (x2 : (⟨S1024x1024, .bf16⟩ : BufTy).Contents (Elt Ideal)) (x3 : (⟨S512x1024, .bf16⟩ : BufTy).Contents (Elt Ideal)) (k : Fin 512) (cc : Fin 1024) (k' : Fin 1536) (h : k'.val = 1024 + k.val) :
    val_main_v1 (F := Ideal) x2 x3 (ValueIdx.ix2 k' cc) = x3 (ValueIdx.ix2 k cc) :=
  concatenate_pair_apply_right (t := Cert.Reference16Ideal.S1536x1024) (s₁ := S1024x1024) (s₂ := S512x1024) (0 : Fin 2) x2 x3 _ (ValueIdx.ix2 k' cc) rfl rfl (ValueIdx.ix2 k cc) (fun a => match a with
    | ⟨0, _⟩ => fun hne => absurd rfl hne
    | ⟨1, _⟩ => fun _ => rfl) (by show k.val + 1024 = k'.val; omega)

section
variable (x0 : (⟨S8192x1024, .bf16⟩ : BufTy).Contents (Elt Ideal)) (x1 : (⟨S8192x512, .bf16⟩ : BufTy).Contents (Elt Ideal))
  (x2 : (⟨S1024x1024, .bf16⟩ : BufTy).Contents (Elt Ideal)) (x3 : (⟨S512x1024, .bf16⟩ : BufTy).Contents (Elt Ideal))
  (x4 : (⟨S8192x1024, .f32⟩ : BufTy).Contents (Elt Ideal)) (x5 : (⟨S1x1024, .f32⟩ : BufTy).Contents (Elt Ideal))

theorem reference_mixed : val_main_v5 (F := Ideal) x0 x1 x2 x3 x4 = mixed x0 x1 x2 x3 x4 := by
  funext i
  obtain ⟨p, cc, rfl⟩ : ∃ p cc, i = ValueIdx.ix2 p cc := ⟨_, _, ValueIdx.eq_ix2 i⟩
  refine (add_comm (G := EReal) (x4 (ValueIdx.ix2 p cc)) _).trans (congrArg (fun z : EReal => z + _) ?_)
  refine (val_main_v4_apply _ _ _ _ _).trans ?_
  refine (Fin.sum_univ_two_halves 1024 512 rfl _).trans ?_
  refine congrArg₂ (fun x y : EReal => x + y) (Finset.sum_congr rfl fun k _ => ?_) (Finset.sum_congr rfl fun k _ => ?_)
  · refine congrArg₂ (fun x y : EReal => x * y) ?_ ?_
    · refine Eq.trans (b := val_main_v0 (F := Ideal) x0 x1 (ValueIdx.ix2 p (⟨k.val, by omega⟩ : Fin 1536))) ?_ (joined_left x0 x1 p k _ rfl)
      exact congrArg (val_main_v0 (F := Ideal) x0 x1) (funext fun a => Fin.ext (by match a with | ⟨0, _⟩ => rfl | ⟨1, _⟩ => rfl))
    · refine Eq.trans (b := val_main_v1 (F := Ideal) x2 x3 (ValueIdx.ix2 (⟨k.val, by omega⟩ : Fin 1536) cc)) ?_ (weights_left x2 x3 k cc _ rfl)
      exact congrArg (val_main_v1 (F := Ideal) x2 x3) (funext fun a => Fin.ext (by match a with | ⟨0, _⟩ => rfl | ⟨1, _⟩ => rfl))
  · refine congrArg₂ (fun x y : EReal => x * y) ?_ ?_
    · refine Eq.trans (b := val_main_v0 (F := Ideal) x0 x1 (ValueIdx.ix2 p (⟨1024 + k.val, by omega⟩ : Fin 1536))) ?_ (joined_right x0 x1 p k _ rfl)
      exact congrArg (val_main_v0 (F := Ideal) x0 x1) (funext fun a => Fin.ext (by match a with | ⟨0, _⟩ => rfl | ⟨1, _⟩ => rfl))
    · refine Eq.trans (b := val_main_v1 (F := Ideal) x2 x3 (ValueIdx.ix2 (⟨1024 + k.val, by omega⟩ : Fin 1536) cc)) ?_ (weights_right x2 x3 k cc _ rfl)
      exact congrArg (val_main_v1 (F := Ideal) x2 x3) (funext fun a => Fin.ext (by match a with | ⟨0, _⟩ => rfl | ⟨1, _⟩ => rfl))

theorem reference_mean (p : Fin 8192) : val_main_v12 (F := Ideal) x0 x1 x2 x3 x4 (ValueIdx.ix2 p 0)
    = NormRows.mean (fun k => mixed x0 x1 x2 x3 x4 (ValueIdx.ix2 p k)) := by
  refine congrArg₂ (fun x y : EReal => x + y) (congrArg₂ Ideal.div ?_ ?_) ?_
  · refine (val_main_v8_apply _ _ _ _ _ _).trans ((val_main_v7_apply _ _ _ _ _ _).trans ?_)
    refine (congrArg (fun z : EReal => z + _) Ideal.ofBits_zero_f32).trans ((zero_add _).trans (Finset.sum_congr rfl fun k _ => ?_))
    refine (congrArg (fun z : S8192x1024.Idx → EReal => z _ * z _) (reference_mixed x0 x1 x2 x3 x4)).trans ?_
    refine congrArg (fun z : S8192x1024.Idx => mixed x0 x1 x2 x3 x4 z * mixed x0 x1 x2 x3 x4 z) (funext fun a => Fin.ext ?_)
    match a with
    | ⟨0, _⟩ => rfl
    | ⟨1, _⟩ => rfl
  · exact val_main_v9_apply _
  · exact val_main_v11_apply _

theorem reference_normed : val_main_v18 (F := Ideal) x0 x1 x2 x3 x4 x5 = normed x0 x1 x2 x3 x4 x5 := by
  funext i
  obtain ⟨p, cc, rfl⟩ : ∃ p cc, i = ValueIdx.ix2 p cc := ⟨_, _, ValueIdx.eq_ix2 i⟩
  refine congrArg₂ (fun x y : EReal => x * y) (congrArg₂ (fun x y : EReal => x * y) (congrFun (reference_mixed x0 x1 x2 x3 x4) _) ?_) ?_
  · refine (val_main_v14_apply _ _ _ _ _ _).trans (congrArg Ideal.rsqrt ?_)
    refine Eq.trans ?_ (reference_mean x0 x1 x2 x3 x4 p)
    refine congrArg (val_main_v12 (F := Ideal) x0 x1 x2 x3 x4) (funext fun a => Fin.ext ?_)
    match a with
    | ⟨0, _⟩ => rfl
    | ⟨1, _⟩ => rfl
  · refine (val_main_v16_apply _ _).trans (congrArg x5 (funext fun a => Fin.ext ?_))
    match a with
    | ⟨0, _⟩ => rfl
    | ⟨1, _⟩ => rfl

end

/-! ## The claims -/

theorem frame_reference : Cert.quiescent_Reference16Ideal := fun m ρ _ =>
  (θ_run Cert.Reference16Ideal.defs _ _).mono (fun _ h => ⟨fun c => (h c).2.2, sem_eq_zero_of_no_sems rfl _⟩) (Cert.Reference16Ideal.Value.run (F := Ideal) m ρ)

theorem algebraic : Cert.algebraic_Kernel16Ideal_Reference16Ideal := fun m ρ m' ρ' _ hag =>
  ⟨fun c => mixed (arg0 m c) (arg1 m c) (arg2 m c) (arg3 m c) (arg4 m c), fun c => normed (arg0 m c) (arg1 m c) (arg2 m c) (arg3 m c) (arg4 m c) (arg5 m c),
   (θ_run Cert.Kernel16Ideal.defs _ _).mono (fun _ h c => ⟨(h c).1.trans (result6 m c), (h c).2.1.trans (result7 m c), (h c).2.2⟩) (Cert.Kernel16Ideal.Value.run_blocks (F := Ideal) m ρ),
   (θ_run Cert.Reference16Ideal.defs _ _).mono (fun _ h c => ⟨
      (h c).1.trans (by rw [(hag c).1, (hag c).2.1, (hag c).2.2.1, (hag c).2.2.2.1, (hag c).2.2.2.2.1]; exact reference_mixed _ _ _ _ _),
      (h c).2.1.trans (by rw [(hag c).1, (hag c).2.1, (hag c).2.2.1, (hag c).2.2.2.1, (hag c).2.2.2.2.1, (hag c).2.2.2.2.2]; exact reference_normed _ _ _ _ _ _), (h c).2.2⟩) (Cert.Reference16Ideal.Value.run (F := Ideal) m' ρ')⟩

end Cert.Norm16

end
-- ==== Proof.Loss17.lean ====
/- The channel mixer's second product, the final norm and the loss (`ffn_down_loss`): each grid point computes a block of rows
   before the norm, adds the block's loss and its part of the gradient of the norm's weight to two sums, and pulls the loss's
   cotangent back through the norm. -/
module

public import proofs.«01_k».proof.Defs
public import proofs.«01_k».proof.Proof.Dots
public import proofs.«01_k».proof.Proof.Gen.Kernel17Ideal.Value
public import proofs.«01_k».proof.Proof.Gen.Reference17Ideal.Run
public import proofs.«01_k».proof.Proof.Gen.Reference17Ideal.Read
public import proofs.«01_k».proof.Proof.NormRows
public import Idealize.ShloMosaic.Lib.Pipeline.Value
public import Idealize.ShloMosaic.Lib.Pointwise.Contract
public import Idealize.ShloMosaic.Lib.Pointwise.Sums
public import Idealize.ShloMosaic.Lib.Quiescent

@[expose] public section

set_option maxRecDepth 16384
set_option maxHeartbeats 1000000

noncomputable section

namespace Cert.Loss17

open Cert.Kernel17Ideal Cert.Kernel17Ideal.Gen Cert.Kernel17Ideal.Value
open Cert.Reference17Ideal.Read
open Idealize.ShloMosaic Idealize.ShloMosaic.TcCoe Idealize.ShloMosaic.Tactic Idealize.ShloMosaic.StableHlo Idealize.SL.Sem

/-! ## The loss and its gradients -/

/-- The rows before the norm: the residual plus the product. -/
def rows (h : S8192x1024.Idx → EReal) (a : S8192x3072.Idx → EReal) (w : S3072x1024.Idx → EReal) : S8192x1024.Idx → EReal := fun i =>
  h i + ∑ k : Fin 3072, a (ValueIdx.ix2 (i 0 : Fin 8192) k) * w (ValueIdx.ix2 k (i 1 : Fin 1024))

/-- The normed rows minus the target. -/
def err (h t : S8192x1024.Idx → EReal) (w : S1x1024.Idx → EReal) : S8192x1024.Idx → EReal := fun i =>
  NormRows.norm (fun k => h (ValueIdx.ix2 (i 0 : Fin 8192) k)) (fun k => w (ValueIdx.ix2 0 k)) (i 1 : Fin 1024) - t i

/-- The f32 numbers 1/1024 and 1/2048. -/
def scale : EReal := FloatOps.ofBits (F := Ideal) .f32 0x3A800000#32
def halfScale : EReal := FloatOps.ofBits (F := Ideal) .f32 0x3A000000#32

/-- The cotangent of the normed rows. -/
def ct (h t : S8192x1024.Idx → EReal) (w : S1x1024.Idx → EReal) : S8192x1024.Idx → EReal := fun i => err h t w i * scale

/-- One row's part of the loss. -/
def lossPart (h t : S8192x1024.Idx → EReal) (w : S1x1024.Idx → EReal) (p : Fin 8192) : EReal :=
  halfScale * ∑ k : Fin 1024, err h t w (ValueIdx.ix2 p k) * err h t w (ValueIdx.ix2 p k)

/-- The loss: the sum over the rows. -/
def loss (h t : S8192x1024.Idx → EReal) (w : S1x1024.Idx → EReal) : S1x1.Idx → EReal := fun _ => ∑ p : Fin 8192, lossPart h t w p

/-- The gradient of the rows before the norm. -/
def back (h t : S8192x1024.Idx → EReal) (w : S1x1024.Idx → EReal) : S8192x1024.Idx → EReal := fun i =>
  NormRows.back (fun k => h (ValueIdx.ix2 (i 0 : Fin 8192) k)) (fun k => w (ValueIdx.ix2 0 k)) (fun k => ct h t w (ValueIdx.ix2 (i 0 : Fin 8192) k))
    (fun _ => 0) (i 1 : Fin 1024)

/-- One row's part of the gradient of the norm's weight, and the gradient. -/
def part (h t : S8192x1024.Idx → EReal) (w : S1x1024.Idx → EReal) (k : Fin 1024) (p : Fin 8192) : EReal :=
  NormRows.weight (fun k => h (ValueIdx.ix2 p k)) (fun k => ct h t w (ValueIdx.ix2 p k)) k
def weights (h t : S8192x1024.Idx → EReal) (w : S1x1024.Idx → EReal) : S1x1024.Idx → EReal := fun i => ∑ p : Fin 8192, part h t w (i 1 : Fin 1024) p

/-! ## The constants -/

theorem scale_eq : scale = ((1 / 1024 : ℝ) : EReal) := by
  show Ideal.ofBits .f32 0x3A800000#32 = _
  simp [Ideal.ofBits, Ideal.ieee, -EReal.coe_mul]; norm_num

theorem halfScale_eq : halfScale = ((1 / 2048 : ℝ) : EReal) := by
  show Ideal.ofBits .f32 0x3A000000#32 = _
  simp [Ideal.ofBits, Ideal.ieee, -EReal.coe_mul]; norm_num

theorem width_eq : Ideal.ofBits .f32 0x44800000#32 = ((1024 : ℝ) : EReal) := by
  simp [Ideal.ofBits, Ideal.ieee, -EReal.coe_mul]; norm_num

theorem half_eq : Ideal.ofBits .f32 0x3F000000#32 = ((1 / 2 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem one_eq : Ideal.ofBits .f32 0x3F800000#32 = ((1 : ℝ) : EReal) := by
  simp [Ideal.ofBits, Ideal.ieee, -EReal.coe_mul]; norm_num

/-- Division by the width is the product with its reciprocal. -/
theorem div_width (x : EReal) : Ideal.div x ((1024 : ℝ) : EReal) = x * ((1 / 1024 : ℝ) : EReal) := by
  unfold Ideal.div
  rw [if_neg (by exact_mod_cast (by norm_num : (1024 : ℝ) ≠ 0)), ← EReal.coe_inv]
  norm_num

/-- One half of the mean of a row's squares. -/
theorem half_mean (x : EReal) : ((1 / 2 : ℝ) : EReal) * (x * ((1 / 1024 : ℝ) : EReal)) = ((1 / 2048 : ℝ) : EReal) * x := by
  rw [mul_comm x, ← mul_assoc, ← EReal.coe_mul]
  norm_num

/-- The cotangent of one square times the square's derivative. -/
theorem square_slope (x : EReal) : ((1 / 2 : ℝ) : EReal) * ((1 : ℝ) : EReal) * ((1 / 1024 : ℝ) : EReal) * (((2 : ℝ) : EReal) * x) = x * ((1 / 1024 : ℝ) : EReal) := by
  rw [← mul_assoc, ← EReal.coe_mul, ← EReal.coe_mul, ← EReal.coe_mul, mul_comm x]
  norm_num

/-- A square is not negative. -/
theorem square_nonneg (x : EReal) : 0 ≤ x * x := by
  rcases le_total 0 x with h | h
  · exact EReal.mul_nonneg h h
  · have h' : 0 ≤ -x := EReal.neg_nonneg.mpr h
    have := EReal.mul_nonneg h' h'
    rwa [neg_mul_neg] at this

/-- A factor goes into a sum of numbers that are not negative. -/
theorem mul_sum {ι : Type} (s : Finset ι) (a : EReal) (f : ι → EReal) (hf : ∀ i, 0 ≤ f i) : a * ∑ i ∈ s, f i = ∑ i ∈ s, a * f i := by
  classical
  induction s using Finset.induction_on with
  | empty => simp
  | insert i s hi ih =>
    rw [Finset.sum_insert hi, Finset.sum_insert hi, EReal.left_distrib_of_nonneg (hf i) (Finset.sum_nonneg fun j _ => hf j), ih]

/-! ## A block -/

theorem dot_at (x : S512x3072.Idx → EReal) (y : S3072x1024.Idx → EReal) (acc : S512x1024.Idx → EReal) (r : Fin 512) (c : Fin 1024) :
    Ideal.matmul dot_S512x3072_S3072x1024_S512x1024_1_0_0_1_n_n x y acc (ValueIdx.ix2 r c)
      = acc (ValueIdx.ix2 r c) + ∑ k : Fin 3072, x (ValueIdx.ix2 r k) * y (ValueIdx.ix2 k c) :=
  Dots.plain x y acc r c

section
variable (x0 x1 : Vec Ideal S512x1024 .f32) (x2 : Vec Ideal S1x1024 .f32) (x3 : Vec Ideal S512x3072 .bf16) (x4 : Vec Ideal S3072x1024 .bf16)

theorem rows_at (r : Fin 512) (cc : Fin 1024) : k0_pay6 (F := Ideal) x0 x3 x4 (ValueIdx.ix2 r cc)
    = (x0 (ValueIdx.ix2 r cc) + ∑ k : Fin 3072, (x3 (ValueIdx.ix2 r k) : EReal) * (x4 (ValueIdx.ix2 k cc) : EReal) : EReal) := by
  unfold k0_pay6
  refine congrArg (fun z : EReal => x0 (ValueIdx.ix2 r cc) + z) ?_
  show Ideal.matmul dot_S512x3072_S3072x1024_S512x1024_1_0_0_1_n_n x3 (shapeCast S3072x1024 x4 shapeCasts_S3072x1024_S3072x1024) (constant (F := Ideal) S512x1024 .f32 0x00000000#32) (ValueIdx.ix2 r cc) = _
  refine (dot_at x3 _ _ r cc).trans ?_
  refine (congrArg (fun z : EReal => z + _) Ideal.ofBits_zero_f32).trans ((zero_add _).trans ?_)
  exact Finset.sum_congr rfl fun k _ => congrArg (fun z : EReal => (x3 (ValueIdx.ix2 r k) : EReal) * z) (congrFun (shapeCast_self _ _) _)

theorem mean_at (r : Fin 512) : k0_pay7 (F := Ideal) x0 x3 x4 (ValueIdx.ix2 r 0) = NormRows.mean (NormRows.rowOf (k0_pay6 (F := Ideal) x0 x3 x4) r) :=
  NormRows.mean_at (k0_pay6 (F := Ideal) x0 x3 x4) reduces_S512x1024_S512 (.inl rfl) rfl shapeCasts_S512_S512x1 r

theorem inv_at (r : Fin 512) : k0_pay8 (F := Ideal) x0 x3 x4 (ValueIdx.ix2 r 0) = NormRows.inv (NormRows.rowOf (k0_pay6 (F := Ideal) x0 x3 x4) r) :=
  congrArg Ideal.rsqrt (mean_at x0 x3 x4 r)

theorem factor_at (r : Fin 512) :
    (mulf (broadcast S512x1 (Scalar.ofBits (F := Ideal) .f32 0xBF000000#32)) (divf (k0_pay8 (F := Ideal) x0 x3 x4) (k0_pay7 (F := Ideal) x0 x3 x4)) : FVec Ideal S512x1 .f32) (ValueIdx.ix2 r 0)
      = (NormRows.negHalf * Ideal.div (NormRows.inv (NormRows.rowOf (k0_pay6 (F := Ideal) x0 x3 x4) r)) (NormRows.mean (NormRows.rowOf (k0_pay6 (F := Ideal) x0 x3 x4) r)) : EReal) :=
  congrArg (fun z : EReal => NormRows.negHalf * z) (congrArg₂ Ideal.div (inv_at x0 x3 x4 r) (mean_at x0 x3 x4 r))

theorem err_at (r : Fin 512) (k : Fin 1024) : k0_pay10 (F := Ideal) x0 x3 x4 x2 x1 (ValueIdx.ix2 r k)
    = (NormRows.norm (NormRows.rowOf (k0_pay6 (F := Ideal) x0 x3 x4) r) (fun j => x2 (ValueIdx.ix2 0 j)) k - x1 (ValueIdx.ix2 r k) : EReal) := by
  unfold k0_pay10 k0_pay9
  refine congrArg (fun z : EReal => z - x1 (ValueIdx.ix2 r k)) (congrArg₂ (fun x y : EReal => x * y) ?_ (NormRows.spread_row x2 broadcasts_S1x1024_S512x1024 r k))
  exact congrArg (fun z : EReal => (k0_pay6 (F := Ideal) x0 x3 x4 (ValueIdx.ix2 r k) : EReal) * z)
    ((NormRows.spread_col _ broadcasts_S512x1_S512x1024 r k).trans (inv_at x0 x3 x4 r))

theorem ct_at (r : Fin 512) (k : Fin 1024) : k0_pay11 (F := Ideal) x0 x3 x4 x2 x1 (ValueIdx.ix2 r k)
    = ((NormRows.norm (NormRows.rowOf (k0_pay6 (F := Ideal) x0 x3 x4) r) (fun j => x2 (ValueIdx.ix2 0 j)) k - x1 (ValueIdx.ix2 r k)) * scale : EReal) :=
  congrArg (fun z : EReal => z * scale) (err_at x0 x1 x2 x3 x4 r k)

theorem back_rows (r : Fin 512) (k : Fin 1024) : k0_pay1 (F := Ideal) (k0_pay6 x0 x3 x4) (k0_pay14 x0 x3 x4 x2 x1) (k0_pay15 x0 x3 x4 x2 x1) (ValueIdx.ix2 r k)
    = NormRows.back (NormRows.rowOf (k0_pay6 (F := Ideal) x0 x3 x4) r) (fun j => x2 (ValueIdx.ix2 0 j)) (NormRows.rowOf (k0_pay11 (F := Ideal) x0 x3 x4 x2 x1) r) (fun _ => 0) k := by
  refine (add_zero (M := EReal) _).symm.trans ?_
  exact NormRows.back_at (k0_pay11 (F := Ideal) x0 x3 x4 x2 x1) (k0_pay6 (F := Ideal) x0 x3 x4) (fun _ => (0 : EReal)) x2 (k0_pay8 (F := Ideal) x0 x3 x4)
    (mulf (broadcast S512x1 (Scalar.ofBits (F := Ideal) .f32 0xBF000000#32)) (divf (k0_pay8 (F := Ideal) x0 x3 x4) (k0_pay7 (F := Ideal) x0 x3 x4)))
    reduces_S512x1024_S512 reduces_S512x1_S512 (.inl rfl) rfl shapeCasts_S512_S512x1
    broadcasts_S512x1_S512x1024 broadcasts_S1x1024_S512x1024 r k (inv_at x0 x3 x4 r) (factor_at x0 x3 x4 r)

theorem weight_rows (acc : Vec Ideal S1x1024 .f32) (k : Fin 1024) : k0_pay5 (F := Ideal) (k0_pay12 x0 x3 x4 x2 x1) acc (ValueIdx.ix2 0 k)
    = (acc (ValueIdx.ix2 0 k) + ∑ r : Fin 512, NormRows.weight (NormRows.rowOf (k0_pay6 (F := Ideal) x0 x3 x4) r) (NormRows.rowOf (k0_pay11 (F := Ideal) x0 x3 x4 x2 x1) r) k : EReal) :=
  NormRows.weight_at (k0_pay11 (F := Ideal) x0 x3 x4 x2 x1) (k0_pay6 (F := Ideal) x0 x3 x4) acc (k0_pay8 (F := Ideal) x0 x3 x4) reduces_S512x1024_S1024 (.inl rfl) rfl
    shapeCasts_S1024_S1x1024 shapeCasts_S1x1024_S1x1024 broadcasts_S512x1_S512x1024 k (fun r => inv_at x0 x3 x4 r)

end

/-- A sum over a block, taken with a unit axis in front, is the sum over its rows and columns. -/
theorem block_sum (x : FVec Ideal S512x1024 .f32) :
    (∑ i : S1x512x1024.Idx, (shapeCast S1x512x1024 x shapeCasts_S512x1024_S1x512x1024 i : EReal)) = ∑ r : Fin 512, ∑ k : Fin 1024, (x (ValueIdx.ix2 r k) : EReal) := by
  rw [← Fintype.sum_prod_type']
  refine (Fintype.sum_equiv ⟨fun q : Fin 512 × Fin 1024 => (ValueIdx.ix3 (0 : Fin 1) q.1 q.2 : S1x512x1024.Idx), fun i => ((i 1 : Fin 512), (i 2 : Fin 1024)),
    fun _ => rfl, fun i => ?_⟩ _ _ fun q => ?_).symm
  · refine funext fun a => Fin.ext ?_
    match a with
    | ⟨0, _⟩ => exact (Nat.lt_one_iff.mp (i 0).isLt).symm
    | ⟨1, _⟩ => rfl
    | ⟨2, _⟩ => rfl
  · refine (shapeCast_apply x _ _ _ ?_).symm
    rw [Shape.rowMajor_val_two, Shape.rowMajor_val_three]
    show q.1.val * 1024 + q.2.val = ((0 : Fin 1).val * 512 + q.1.val) * 1024 + q.2.val
    simp

theorem loss_rows (e : FVec Ideal S512x1024 .f32) (acc : Vec Ideal S1x1 .f32) (i : S1x1.Idx) : k0_pay4 (F := Ideal) e acc i
    = (acc i + ∑ r : Fin 512, halfScale * ∑ k : Fin 1024, (e (ValueIdx.ix2 r k) : EReal) * e (ValueIdx.ix2 r k) : EReal) := by
  unfold k0_pay4
  refine congrArg₂ (fun x y : EReal => x + y) (congrFun (shapeCast_self _ _) _) ?_
  refine Eq.trans ?_ (mul_sum Finset.univ halfScale (fun r : Fin 512 => ∑ k : Fin 1024, (e (ValueIdx.ix2 r k) : EReal) * e (ValueIdx.ix2 r k))
    (fun r => Finset.sum_nonneg fun k _ => square_nonneg _))
  refine congrArg (fun z : EReal => halfScale * z) ?_
  refine (shapeCast_apply _ shapeCasts_S1_S1x1x1 _ (fun a => match a with | ⟨0, _⟩ => (0 : Fin 1)) ?_).trans ?_
  · rw [Shape.rowMajor_val_one, Shape.rowMajor_val_three]
    rfl
  · exact (Ideal.multiReduction_add_total _ _ reduces_S1x512x1024_S1 (fun b => by match b with | ⟨0, _⟩ => rfl) (.inl rfl) rfl _).trans (block_sum (mulf e e))

section
variable {c : Dev nD} {i : grid0.Coords} {arg1 : Memref sig .tc .vmem S512x1024 .f32} {harg1 : arg1.IsWhole} {arg2 : Memref sig .tc .vmem S512x1024 .f32} {harg2 : arg2.IsWhole}
    {arg3 : Memref sig .tc .vmem S1x1024 .f32} {harg3 : arg3.IsWhole} {arg4 : Memref sig .tc .vmem S512x3072 .bf16} {harg4 : arg4.IsWhole}
    {arg5 : Memref sig .tc .vmem S3072x1024 .bf16} {harg5 : arg5.IsWhole} {arg6 : Memref sig .tc .vmem S1x1 .f32} {harg6 : arg6.IsWhole} {arg7 : Memref sig .tc .vmem S512x1024 .f32}
    {harg7 : arg7.IsWhole} {arg8 : Memref sig .tc .vmem S1x1024 .f32} {harg8 : arg8.IsWhole} {x0 x1 : Vec Ideal S512x1024 .f32} {x2 : Vec Ideal S1x1024 .f32}
    {x3 : Vec Ideal S512x3072 .bf16} {x4 : Vec Ideal S3072x1024 .bf16}

theorem first5 {hc0 : cond0_0 i} :
    out0_A_5 (F := Ideal) c i arg1 harg1 arg2 harg2 arg3 harg3 arg4 harg4 arg5 harg5 arg6 harg6 arg7 harg7 arg8 harg8 hc0 x0 x1 x2 x3 x4
      = k0_pay4 (F := Ideal) (k0_pay10 x0 x3 x4 x2 x1) (k0_pay2 (F := Ideal)) := by
  unfold out0_A_5
  rw [View.read_writes_eq_canon _ _ _ (cover0_A_5 _ _ _ _ _ _ _ _ _ _ _ _ _ _ _ _ _ _ _ _ _ _ _ _)]
  unfold kernelRun0_A
  dsimp only
  try sl_unfold_words
  rw [View.canon_cons_unit_zero (S := S1x1) NormRows.zeros, View.readCov_unit_zero (S := S1x1) _ NormRows.zeros]
  simp only [View.readAt_eq_ld, harg1.read_unread, harg2.read_unread, harg3.read_unread, harg4.read_unread, harg5.read_unread, harg6.read_unread, harg7.read_unread, harg8.read_unread,
    View.ld_unit_zero (S := S512x1024) NormRows.zeros, View.ld_unit_zero (S := S1x1024) NormRows.zeros, View.ld_unit_zero (S := S512x3072) NormRows.zeros, View.ld_unit_zero (S := S3072x1024) NormRows.zeros, View.ld_unit_zero (S := S1x1) NormRows.zeros, shapeCast_self]

theorem first6 {hc0 : cond0_0 i} :
    out0_A_6 (F := Ideal) c i arg1 harg1 arg2 harg2 arg3 harg3 arg4 harg4 arg5 harg5 arg6 harg6 arg7 harg7 arg8 harg8 hc0 x0 x1 x2 x3 x4
      = k0_pay1 (F := Ideal) (k0_pay6 x0 x3 x4) (k0_pay14 x0 x3 x4 x2 x1) (k0_pay15 x0 x3 x4 x2 x1) := by
  unfold out0_A_6
  rw [View.read_writes_eq_canon _ _ _ (cover0_A_6 _ _ _ _ _ _ _ _ _ _ _ _ _ _ _ _ _ _ _ _ _ _ _ _)]
  unfold kernelRun0_A
  dsimp only
  try sl_unfold_words
  rw [View.canon_unit_zero NormRows.zeros]
  simp only [View.readAt_eq_ld, harg1.read_unread, harg2.read_unread, harg3.read_unread, harg4.read_unread, harg5.read_unread, harg6.read_unread, harg7.read_unread, harg8.read_unread,
    View.ld_unit_zero (S := S512x1024) NormRows.zeros, View.ld_unit_zero (S := S1x1024) NormRows.zeros, View.ld_unit_zero (S := S512x3072) NormRows.zeros, View.ld_unit_zero (S := S3072x1024) NormRows.zeros, View.ld_unit_zero (S := S1x1) NormRows.zeros, shapeCast_self]

theorem first7 {hc0 : cond0_0 i} :
    out0_A_7 (F := Ideal) c i arg1 harg1 arg2 harg2 arg3 harg3 arg4 harg4 arg5 harg5 arg6 harg6 arg7 harg7 arg8 harg8 hc0 x0 x1 x2 x3 x4
      = k0_pay5 (F := Ideal) (k0_pay12 x0 x3 x4 x2 x1) (k0_pay3 (F := Ideal)) := by
  unfold out0_A_7
  rw [View.read_writes_eq_canon _ _ _ (cover0_A_7 _ _ _ _ _ _ _ _ _ _ _ _ _ _ _ _ _ _ _ _ _ _ _ _)]
  unfold kernelRun0_A
  dsimp only
  try sl_unfold_words
  rw [View.canon_cons_unit_zero (S := S1x1024) NormRows.zeros, View.readCov_unit_zero (S := S1x1024) _ NormRows.zeros]
  simp only [View.readAt_eq_ld, harg1.read_unread, harg2.read_unread, harg3.read_unread, harg4.read_unread, harg5.read_unread, harg6.read_unread, harg7.read_unread, harg8.read_unread,
    View.ld_unit_zero (S := S512x1024) NormRows.zeros, View.ld_unit_zero (S := S1x1024) NormRows.zeros, View.ld_unit_zero (S := S512x3072) NormRows.zeros, View.ld_unit_zero (S := S3072x1024) NormRows.zeros, View.ld_unit_zero (S := S1x1) NormRows.zeros, shapeCast_self]

theorem later5 {hc0 : ¬cond0_0 i} {xo5 : Vec Ideal S1x1 .f32} {xo7 : Vec Ideal S1x1024 .f32} :
    out0_B_5 (F := Ideal) c i arg1 harg1 arg2 harg2 arg3 harg3 arg4 harg4 arg5 harg5 arg6 harg6 arg7 harg7 arg8 harg8 hc0 x0 x1 x2 x3 x4 xo5 xo7
      = k0_pay4 (F := Ideal) (k0_pay10 x0 x3 x4 x2 x1) xo5 := by
  unfold out0_B_5
  rw [View.read_writes_eq_canon _ _ _ (cover0_B_5 _ _ _ _ _ _ _ _ _ _ _ _ _ _ _ _ _ _ _ _ _ _ _ _ _ _)]
  unfold kernelRun0_B
  dsimp only
  try sl_unfold_words
  rw [View.canon_unit_zero NormRows.zeros]
  simp only [View.readAt_eq_ld, harg1.read_unread, harg2.read_unread, harg3.read_unread, harg4.read_unread, harg5.read_unread, harg6.read_unread, harg7.read_unread, harg8.read_unread,
    View.ld_unit_zero (S := S512x1024) NormRows.zeros, View.ld_unit_zero (S := S1x1024) NormRows.zeros, View.ld_unit_zero (S := S512x3072) NormRows.zeros, View.ld_unit_zero (S := S3072x1024) NormRows.zeros, View.ld_unit_zero (S := S1x1) NormRows.zeros, shapeCast_self]

theorem later6 {hc0 : ¬cond0_0 i} {xo5 : Vec Ideal S1x1 .f32} {xo7 : Vec Ideal S1x1024 .f32} :
    out0_B_6 (F := Ideal) c i arg1 harg1 arg2 harg2 arg3 harg3 arg4 harg4 arg5 harg5 arg6 harg6 arg7 harg7 arg8 harg8 hc0 x0 x1 x2 x3 x4 xo5 xo7
      = k0_pay1 (F := Ideal) (k0_pay6 x0 x3 x4) (k0_pay14 x0 x3 x4 x2 x1) (k0_pay15 x0 x3 x4 x2 x1) := by
  unfold out0_B_6
  rw [View.read_writes_eq_canon _ _ _ (cover0_B_6 _ _ _ _ _ _ _ _ _ _ _ _ _ _ _ _ _ _ _ _ _ _ _ _ _ _)]
  unfold kernelRun0_B
  dsimp only
  try sl_unfold_words
  rw [View.canon_unit_zero NormRows.zeros]
  simp only [View.readAt_eq_ld, harg1.read_unread, harg2.read_unread, harg3.read_unread, harg4.read_unread, harg5.read_unread, harg6.read_unread, harg7.read_unread, harg8.read_unread,
    View.ld_unit_zero (S := S512x1024) NormRows.zeros, View.ld_unit_zero (S := S1x1024) NormRows.zeros, View.ld_unit_zero (S := S512x3072) NormRows.zeros, View.ld_unit_zero (S := S3072x1024) NormRows.zeros, View.ld_unit_zero (S := S1x1) NormRows.zeros, shapeCast_self]

theorem later7 {hc0 : ¬cond0_0 i} {xo5 : Vec Ideal S1x1 .f32} {xo7 : Vec Ideal S1x1024 .f32} :
    out0_B_7 (F := Ideal) c i arg1 harg1 arg2 harg2 arg3 harg3 arg4 harg4 arg5 harg5 arg6 harg6 arg7 harg7 arg8 harg8 hc0 x0 x1 x2 x3 x4 xo5 xo7
      = k0_pay5 (F := Ideal) (k0_pay12 x0 x3 x4 x2 x1) xo7 := by
  unfold out0_B_7
  rw [View.read_writes_eq_canon _ _ _ (cover0_B_7 _ _ _ _ _ _ _ _ _ _ _ _ _ _ _ _ _ _ _ _ _ _ _ _ _ _)]
  unfold kernelRun0_B
  dsimp only
  try sl_unfold_words
  rw [View.canon_unit_zero NormRows.zeros]
  simp only [View.readAt_eq_ld, harg1.read_unread, harg2.read_unread, harg3.read_unread, harg4.read_unread, harg5.read_unread, harg6.read_unread, harg7.read_unread, harg8.read_unread,
    View.ld_unit_zero (S := S512x1024) NormRows.zeros, View.ld_unit_zero (S := S1x1024) NormRows.zeros, View.ld_unit_zero (S := S512x3072) NormRows.zeros, View.ld_unit_zero (S := S3072x1024) NormRows.zeros, View.ld_unit_zero (S := S1x1) NormRows.zeros, shapeCast_self]

end

theorem third {A B C : Type} {p : A × B × C} {a : A} {b : B} {d : C} (h : p = (a, b, d)) : p.2.2 = d := congrArg (fun q : A × B × C => q.2.2) h

theorem first_of {A B : Type} {p : A × B} {a : A} {b : B} (h : p = (a, b)) : p.1 = a := congrArg Prod.fst h

variable (m : (ℓ : Loc nD τ sig) → Buf (Elt Ideal) ℓ) (ρ : Dev nD → PrngReg) (c : Dev nD)

abbrev arg0 : S8192x1024.Idx → EReal := m ((c.tc : Thread nD τ).loc main_arg0)
theorem index0 : ∀ t : Fin cfg0.N, win0_0.index t (0 : Fin 2) = t.val ∧ win0_0.index t (1 : Fin 2) = 0 :=
  (by decide +kernel : ∀ t : Fin grid0.N, _)
theorem block0 (t : Fin cfg0.N) (r : Fin 512) (k : Fin 1024) (p : Fin 8192) (hp : p.val = t.val * 512 + r.val) :
    (iblk m c 0 t : S512x1024.Idx → EReal) (ValueIdx.ix2 r k) = arg0 m c (ValueIdx.ix2 p k) := by
  obtain ⟨e0, e1⟩ := index0 t
  refine (congrFun (V_main_arg0 m c) _).trans (congrArg (arg0 m c) (funext fun a => Fin.ext ?_))
  match a with
  | ⟨0, _⟩ => show win0_0.index t (0 : Fin 2) * 512 + 1 * r.val = p.val; omega
  | ⟨1, _⟩ => show win0_0.index t (1 : Fin 2) * 1024 + 1 * k.val = k.val; omega

abbrev arg1 : S8192x1024.Idx → EReal := m ((c.tc : Thread nD τ).loc main_arg1)
theorem index1 : ∀ t : Fin cfg0.N, win0_1.index t (0 : Fin 2) = t.val ∧ win0_1.index t (1 : Fin 2) = 0 :=
  (by decide +kernel : ∀ t : Fin grid0.N, _)
theorem block1 (t : Fin cfg0.N) (r : Fin 512) (k : Fin 1024) (p : Fin 8192) (hp : p.val = t.val * 512 + r.val) :
    (iblk m c 1 t : S512x1024.Idx → EReal) (ValueIdx.ix2 r k) = arg1 m c (ValueIdx.ix2 p k) := by
  obtain ⟨e0, e1⟩ := index1 t
  refine (congrFun (V_main_arg1 m c) _).trans (congrArg (arg1 m c) (funext fun a => Fin.ext ?_))
  match a with
  | ⟨0, _⟩ => show win0_1.index t (0 : Fin 2) * 512 + 1 * r.val = p.val; omega
  | ⟨1, _⟩ => show win0_1.index t (1 : Fin 2) * 1024 + 1 * k.val = k.val; omega

abbrev arg2 : S1x1024.Idx → EReal := m ((c.tc : Thread nD τ).loc main_arg2)
theorem index2 : ∀ t : Fin cfg0.N, win0_2.index t (0 : Fin 2) = 0 ∧ win0_2.index t (1 : Fin 2) = 0 :=
  (by decide +kernel : ∀ t : Fin grid0.N, _)
theorem block2 (t : Fin cfg0.N) (cc : Fin 1024) :
    (iblk m c 2 t : S1x1024.Idx → EReal) (ValueIdx.ix2 0 cc) = arg2 m c (ValueIdx.ix2 0 cc) := by
  obtain ⟨e0, e1⟩ := index2 t
  refine (congrFun (V_main_arg2 m c) _).trans (congrArg (arg2 m c) (funext fun a => Fin.ext ?_))
  match a with
  | ⟨0, _⟩ => show win0_2.index t (0 : Fin 2) * 1 + 1 * 0 = 0; omega
  | ⟨1, _⟩ => show win0_2.index t (1 : Fin 2) * 1024 + 1 * cc.val = cc.val; omega

abbrev arg3 : S8192x3072.Idx → EReal := m ((c.tc : Thread nD τ).loc main_arg3)
theorem index3 : ∀ t : Fin cfg0.N, win0_3.index t (0 : Fin 2) = t.val ∧ win0_3.index t (1 : Fin 2) = 0 :=
  (by decide +kernel : ∀ t : Fin grid0.N, _)
theorem block3 (t : Fin cfg0.N) (r : Fin 512) (k : Fin 3072) (p : Fin 8192) (hp : p.val = t.val * 512 + r.val) :
    (iblk m c 3 t : S512x3072.Idx → EReal) (ValueIdx.ix2 r k) = arg3 m c (ValueIdx.ix2 p k) := by
  obtain ⟨e0, e1⟩ := index3 t
  refine (congrFun (V_main_arg3 m c) _).trans (congrArg (arg3 m c) (funext fun a => Fin.ext ?_))
  match a with
  | ⟨0, _⟩ => show win0_3.index t (0 : Fin 2) * 512 + 1 * r.val = p.val; omega
  | ⟨1, _⟩ => show win0_3.index t (1 : Fin 2) * 3072 + 1 * k.val = k.val; omega

/-- The second product's weight as the kernel receives it. -/
abbrev argW : S3072x1024.Idx → EReal := V m c main_v2

theorem index4 : ∀ t : Fin cfg0.N, win0_4.index t (0 : Fin 2) = 0 ∧ win0_4.index t (1 : Fin 2) = 0 :=
  (by decide +kernel : ∀ t : Fin grid0.N, _)
theorem block4 (t : Fin cfg0.N) (k : Fin 3072) (cc : Fin 1024) :
    (iblk m c 4 t : S3072x1024.Idx → EReal) (ValueIdx.ix2 k cc) = argW m c (ValueIdx.ix2 k cc) := by
  obtain ⟨e0, e1⟩ := index4 t
  refine congrArg (argW m c) (funext fun a => Fin.ext ?_)
  match a with
  | ⟨0, _⟩ => show win0_4.index t (0 : Fin 2) * 3072 + 1 * k.val = k.val; omega
  | ⟨1, _⟩ => show win0_4.index t (1 : Fin 2) * 1024 + 1 * cc.val = cc.val; omega

/-- The rows before the norm. -/
abbrev argH : S8192x1024.Idx → EReal := rows (arg0 m c) (arg3 m c) (argW m c)

theorem rows_block (t : Fin cfg0.N) (r : Fin 512) (p : Fin 8192) (hp : p.val = t.val * 512 + r.val) :
    NormRows.rowOf (k0_pay6 (F := Ideal) (iblk m c 0 t) (iblk m c 3 t) (iblk m c 4 t)) r = fun k => argH m c (ValueIdx.ix2 p k) := by
  funext k
  refine (rows_at _ _ _ r k).trans ?_
  refine congrArg₂ (fun x y : EReal => x + y) (block0 m c t r k p hp) (Finset.sum_congr rfl fun j _ => ?_)
  exact congrArg₂ (fun x y : EReal => x * y) (block3 m c t r j p hp) (block4 m c t j k)

theorem norm_weight (t : Fin cfg0.N) : (fun j => (iblk m c 2 t : S1x1024.Idx → EReal) (ValueIdx.ix2 0 j)) = fun k => arg2 m c (ValueIdx.ix2 0 k) :=
  funext fun k => block2 m c t k

theorem err_block (t : Fin cfg0.N) (r : Fin 512) (k : Fin 1024) (p : Fin 8192) (hp : p.val = t.val * 512 + r.val) :
    k0_pay10 (F := Ideal) (iblk m c 0 t) (iblk m c 3 t) (iblk m c 4 t) (iblk m c 2 t) (iblk m c 1 t) (ValueIdx.ix2 r k) = err (argH m c) (arg1 m c) (arg2 m c) (ValueIdx.ix2 p k) := by
  refine (err_at _ _ _ _ _ r k).trans ?_
  refine congrArg₂ (fun x y : EReal => x - y) ?_ (block1 m c t r k p hp)
  rw [rows_block m c t r p hp]
  exact congrArg (fun w => NormRows.norm _ w k) (norm_weight m c t)

theorem ct_block (t : Fin cfg0.N) (r : Fin 512) (p : Fin 8192) (hp : p.val = t.val * 512 + r.val) :
    NormRows.rowOf (k0_pay11 (F := Ideal) (iblk m c 0 t) (iblk m c 3 t) (iblk m c 4 t) (iblk m c 2 t) (iblk m c 1 t)) r = fun k => ct (argH m c) (arg1 m c) (arg2 m c) (ValueIdx.ix2 p k) :=
  funext fun k => congrArg (fun z : EReal => z * scale) (err_block m c t r k p hp)

theorem back_block (t : Fin cfg0.N) (r : Fin 512) (cc : Fin 1024) (p : Fin 8192) (hp : p.val = t.val * 512 + r.val) :
    k0_pay1 (F := Ideal) (k0_pay6 (iblk m c 0 t) (iblk m c 3 t) (iblk m c 4 t)) (k0_pay14 (iblk m c 0 t) (iblk m c 3 t) (iblk m c 4 t) (iblk m c 2 t) (iblk m c 1 t)) (k0_pay15 (iblk m c 0 t) (iblk m c 3 t) (iblk m c 4 t) (iblk m c 2 t) (iblk m c 1 t)) (ValueIdx.ix2 r cc) = back (argH m c) (arg1 m c) (arg2 m c) (ValueIdx.ix2 p cc) := by
  refine (back_rows _ _ _ _ _ r cc).trans ?_
  rw [rows_block m c t r p hp, ct_block m c t r p hp]
  exact congrArg (fun w => NormRows.back _ w _ _ cc) (norm_weight m c t)

/-- The token of row `r` of a block. -/
abbrev token (n : Nat) (r : Fin 512) : Fin 8192 := ⟨(n * 512 + r.val) % 8192, Nat.mod_lt _ (by decide)⟩

theorem token_val (t : Fin cfg0.N) (r : Fin 512) : (token t.val r).val = t.val * 512 + r.val := by
  have hN : cfg0.N = 16 := N_0
  have ht := t.isLt
  have hr := r.isLt
  show (t.val * 512 + r.val) % 8192 = _
  omega

/-- A block's parts of the loss and of the gradient of the norm's weight. -/
def blockPart5 (n : Nat) : S1x1.Idx → EReal := fun _ => ∑ r : Fin 512, lossPart (argH m c) (arg1 m c) (arg2 m c) (token n r)
def blockPart7 (n : Nat) : S1x1024.Idx → EReal := fun i => ∑ r : Fin 512, part (argH m c) (arg1 m c) (arg2 m c) (i 1 : Fin 1024) (token n r)

theorem sum_block5 (t : Fin cfg0.N) (acc : Vec Ideal S1x1 .f32) (i : S1x1.Idx) :
    k0_pay4 (F := Ideal) (k0_pay10 (iblk m c 0 t) (iblk m c 3 t) (iblk m c 4 t) (iblk m c 2 t) (iblk m c 1 t)) acc i = (acc i + blockPart5 m c t.val i : EReal) := by
  refine (loss_rows _ acc i).trans (congrArg (fun z : EReal => acc i + z) (Finset.sum_congr rfl fun r _ => ?_))
  refine congrArg (fun z : EReal => halfScale * z) (Finset.sum_congr rfl fun k _ => ?_)
  exact congrArg (fun z : EReal => z * z) (err_block m c t r k _ (token_val t r))

theorem sum_block7 (t : Fin cfg0.N) (acc : Vec Ideal S1x1024 .f32) (i : S1x1024.Idx) :
    k0_pay5 (F := Ideal) (k0_pay12 (iblk m c 0 t) (iblk m c 3 t) (iblk m c 4 t) (iblk m c 2 t) (iblk m c 1 t)) acc i = (acc i + blockPart7 m c t.val i : EReal) := by
  obtain ⟨z, k, rfl⟩ : ∃ (z : Fin 1) (k : Fin 1024), i = ValueIdx.ix2 z k := ⟨_, _, ValueIdx.eq_ix2 i⟩
  obtain rfl : z = 0 := Fin.ext (Nat.lt_one_iff.mp z.isLt)
  refine (weight_rows _ _ _ _ _ acc k).trans ?_
  refine congrArg (fun z : EReal => acc (ValueIdx.ix2 0 k) + z) (Finset.sum_congr rfl fun r _ => ?_)
  rw [rows_block m c t r _ (token_val t r), ct_block m c t r _ (token_val t r)]
  rfl

/-! ## The arrays the blocks make -/

theorem place6 : ∀ t : Fin cfg0.N, win0_6.index t (0 : Fin 2) = t.val ∧ win0_6.index t (1 : Fin 2) = 0 :=
  (by decide +kernel : ∀ t : Fin grid0.N, _)

theorem out6 (t : Fin cfg0.N) (y : S512x1024.Idx) : (((cfg0.win 6).blk t).view.emb y (0 : Fin 2)).val = t.val * 512 + (y 0).val
    ∧ (((cfg0.win 6).blk t).view.emb y (1 : Fin 2)).val = (y 1).val := by
  obtain ⟨e0, e1⟩ := place6 t
  constructor
  · show win0_6.index t (0 : Fin 2) * 512 + 1 * (y 0).val = _; omega
  · show win0_6.index t (1 : Fin 2) * 1024 + 1 * (y 1).val = _; omega

theorem flushes6 : ∀ t : Fin cfg0.N, (cfg0.win 6).flush t = true := (by decide +kernel : ∀ t : Fin grid0.N, win0_6.flush t = true)

theorem covered6 (i : S8192x1024.Idx) : ∃ t : Fin cfg0.N, (cfg0.win 6).flush t = true ∧ i ∈ ((cfg0.win 6).blk t).view.set := by
  obtain ⟨t, y, rfl⟩ := NormRows.block_of N_0 (fun t y => ((cfg0.win 6).blk t).view.emb y) out6 i
  exact ⟨t, flushes6 t, ((cfg0.win 6).blk t).view.emb_mem_set y⟩

theorem result6 : (dats m 0 c).arrAt 6 cfg0.N = back (argH m c) (arg1 m c) (arg2 m c) := by
  refine (dats m 0 c).arrAt_eq_of_cover 6 (back (argH m c) (arg1 m c) (arg2 m c)) (fun t _ => ?_) covered6
  have hN : cfg0.N = 16 := N_0
  funext (y : S512x1024.Idx)
  obtain ⟨r, cc, rfl⟩ : ∃ r cc, y = ValueIdx.ix2 r cc := ⟨_, _, ValueIdx.eq_ix2 y⟩
  obtain ⟨hb0, hb1⟩ := out6 t (ValueIdx.ix2 r cc)
  have hp : t.val * 512 + r.val < 8192 := by have := t.isLt; have := r.isLt; omega
  have he : ((cfg0.win 6).blk t).view.emb (ValueIdx.ix2 r cc) = (ValueIdx.ix2 (⟨t.val * 512 + r.val, hp⟩ : Fin 8192) cc : S8192x1024.Idx) := funext fun a => Fin.ext (by
    match a with
    | ⟨0, _⟩ => exact hb0
    | ⟨1, _⟩ => exact hb1)
  refine Eq.trans ?_ ((back_block m c t r cc ⟨t.val * 512 + r.val, hp⟩ rfl).trans (congrArg (back (argH m c) (arg1 m c) (arg2 m c)) he.symm))
  by_cases h0 : t.val % 16 = 0
  · refine (congrFun (flushed6_A m c t h0) _).trans ?_
    exact congrFun first6 (ValueIdx.ix2 r cc)
  · refine (congrFun (flushed6_B m c t h0) _).trans ?_
    exact congrFun later6 (ValueIdx.ix2 r cc)

/-- What the first point of the grid starts the sum with, and what each later one adds. -/
def step5 (n : Nat) (h : n < cfg0.N) (acc : S1x1.Idx → EReal) : S1x1.Idx → EReal := k0_pay4 (F := Ideal) (k0_pay10 (iblk m c 0 ⟨n, h⟩) (iblk m c 3 ⟨n, h⟩) (iblk m c 4 ⟨n, h⟩) (iblk m c 2 ⟨n, h⟩) (iblk m c 1 ⟨n, h⟩)) acc
def start5 (n : Nat) (h : n < cfg0.N) : S1x1.Idx → EReal := step5 m c n h (k0_pay2 (F := Ideal))

theorem point_first5 (n : Nat) (h : n < cfg0.N) (hn : n % 16 = 0) : ((outsAt0 m c n h).1 : S1x1.Idx → EReal) = start5 m c n h := by
  unfold start5 step5
  exact (first_of (outsAt0_A m c ⟨n, h⟩ hn)).trans first5

theorem point_later5 (n : Nat) (h : n + 1 < cfg0.N) (hn : ¬(n + 1) % 16 = 0) :
    ((outsAt0 m c (n + 1) h).1 : S1x1.Idx → EReal) = step5 m c (n + 1) h (outsAt0 m c n (Nat.lt_of_succ_lt h)).1 := by
  unfold step5
  exact (first_of (outsAt0_B m c ⟨n + 1, h⟩ hn)).trans later5

theorem sum_over_points5 (t : Fin cfg0.N) (h' : 16 * (t.val / 16) + t.val % 16 < cfg0.N) :
    ((outsAt0 m c t.val t.isLt).1 : S1x1.Idx → EReal) = Pipeline.accAt (start5 m c) (step5 m c) (16 * (t.val / 16)) (t.val % 16) h' :=
  Pipeline.eq_accAt_of_mod (N := cfg0.N) (fun n h => ((outsAt0 m c n h).1 : S1x1.Idx → EReal)) 16 (start5 m c) (step5 m c)
    (point_first5 m c) (point_later5 m c) (by decide) t.val t.isLt h'

theorem sum_last5 (t : Fin cfg0.N) (ht : t.val = 15) (i : S1x1.Idx) : ((outsAt0 m c t.val t.isLt).1 : S1x1.Idx → EReal) i = loss (argH m c) (arg1 m c) (arg2 m c) i := by
  have hN : cfg0.N = 16 := N_0
  have hd : 16 * (t.val / 16) = 0 := by omega
  have hm : t.val % 16 = 15 := by omega
  refine (congrFun (sum_over_points5 m c t (by omega)) i).trans ?_
  have h := Pipeline.accAt_add_apply (N := cfg0.N) (start5 m c) (step5 m c) (fun _ => (0 : EReal)) (blockPart5 m c) (16 * (t.val / 16)) 15
    (fun h i => (sum_block5 m c ⟨_, h⟩ (k0_pay2 (F := Ideal)) i).trans (congrArg (fun z : EReal => z + _) Ideal.ofBits_zero_f32))
    (fun n h acc i _ _ => sum_block5 m c ⟨n, h⟩ acc i) (t.val % 16) (by omega) (by omega) i
  refine h.trans ((zero_add _).trans ?_)
  rw [hm, hd]
  refine (Finset.sum_range _).trans (Eq.trans ?_ (Fin.sum_univ_tiles 16 512 rfl (lossPart (argH m c) (arg1 m c) (arg2 m c))).symm)
  refine Finset.sum_congr rfl fun s _ => Finset.sum_congr rfl fun r _ => congrArg (lossPart (argH m c) (arg1 m c) (arg2 m c)) (Fin.ext ?_)
  have hs := s.isLt
  have hr := r.isLt
  show ((0 + s.val) * 512 + r.val) % 8192 = s.val * 512 + r.val
  omega

theorem place5 : ∀ t : Fin cfg0.N, win0_5.index t (0 : Fin 2) = 0 ∧ win0_5.index t (1 : Fin 2) = 0 :=
  (by decide +kernel : ∀ t : Fin grid0.N, _)

theorem out5 (t : Fin cfg0.N) (y : S1x1.Idx) : ((cfg0.win 5).blk t).view.emb y = y := by
  obtain ⟨e0, e1⟩ := place5 t
  funext a; apply Fin.ext
  match a with
  | ⟨0, _⟩ => show win0_5.index t (0 : Fin 2) * 1 + 1 * (y 0).val = (y 0).val; omega
  | ⟨1, _⟩ => show win0_5.index t (1 : Fin 2) * 1 + 1 * (y 1).val = (y 1).val; omega

theorem flushes5 : ∀ t : Fin cfg0.N, ((cfg0.win 5).flush t = true ↔ t.val = 15) := (by decide +kernel : ∀ t : Fin grid0.N, (win0_5.flush t = true ↔ t.val = 15))

theorem covered5 (i : S1x1.Idx) : ∃ t : Fin cfg0.N, (cfg0.win 5).flush t = true ∧ i ∈ ((cfg0.win 5).blk t).view.set := by
  have ht : 15 < cfg0.N := by have hN : cfg0.N = 16 := N_0; omega
  refine ⟨⟨15, ht⟩, (flushes5 _).mpr rfl, ?_⟩
  exact (congrArg (· ∈ _) (out5 ⟨15, ht⟩ i)).mp (((cfg0.win 5).blk ⟨15, ht⟩).view.emb_mem_set i)

theorem result5 : (dats m 0 c).arrAt 5 cfg0.N = loss (argH m c) (arg1 m c) (arg2 m c) := by
  refine (dats m 0 c).arrAt_eq_of_cover 5 (loss (argH m c) (arg1 m c) (arg2 m c)) (fun t hf => ?_) covered5
  refine (flushed5 m c t).trans ?_
  funext (y : S1x1.Idx)
  exact (sum_last5 m c t ((flushes5 t).mp hf) y).trans (congrArg (loss (argH m c) (arg1 m c) (arg2 m c)) (out5 t y).symm)

/-- What the first point of the grid starts the sum with, and what each later one adds. -/
def start7 (n : Nat) (h : n < cfg0.N) : S1x1024.Idx → EReal := k0_pay5 (F := Ideal) (k0_pay12 (iblk m c 0 ⟨n, h⟩) (iblk m c 3 ⟨n, h⟩) (iblk m c 4 ⟨n, h⟩) (iblk m c 2 ⟨n, h⟩) (iblk m c 1 ⟨n, h⟩)) (k0_pay3 (F := Ideal))
def step7 (n : Nat) (h : n < cfg0.N) (acc : S1x1024.Idx → EReal) : S1x1024.Idx → EReal := k0_pay5 (F := Ideal) (k0_pay12 (iblk m c 0 ⟨n, h⟩) (iblk m c 3 ⟨n, h⟩) (iblk m c 4 ⟨n, h⟩) (iblk m c 2 ⟨n, h⟩) (iblk m c 1 ⟨n, h⟩)) acc

theorem point_first7 (n : Nat) (h : n < cfg0.N) (hn : n % 16 = 0) : ((outsAt0 m c n h).2.2 : S1x1024.Idx → EReal) = start7 m c n h := by
  unfold start7
  exact (third (outsAt0_A m c ⟨n, h⟩ hn)).trans first7

theorem point_later7 (n : Nat) (h : n + 1 < cfg0.N) (hn : ¬(n + 1) % 16 = 0) :
    ((outsAt0 m c (n + 1) h).2.2 : S1x1024.Idx → EReal) = step7 m c (n + 1) h (outsAt0 m c n (Nat.lt_of_succ_lt h)).2.2 := by
  unfold step7
  exact (third (outsAt0_B m c ⟨n + 1, h⟩ hn)).trans later7

theorem sum_over_points7 (t : Fin cfg0.N) (h' : 16 * (t.val / 16) + t.val % 16 < cfg0.N) :
    ((outsAt0 m c t.val t.isLt).2.2 : S1x1024.Idx → EReal) = Pipeline.accAt (start7 m c) (step7 m c) (16 * (t.val / 16)) (t.val % 16) h' :=
  Pipeline.eq_accAt_of_mod (N := cfg0.N) (fun n h => ((outsAt0 m c n h).2.2 : S1x1024.Idx → EReal)) 16 (start7 m c) (step7 m c)
    (point_first7 m c) (point_later7 m c) (by decide) t.val t.isLt h'

theorem sum_last7 (t : Fin cfg0.N) (ht : t.val = 15) (i : S1x1024.Idx) : ((outsAt0 m c t.val t.isLt).2.2 : S1x1024.Idx → EReal) i = weights (argH m c) (arg1 m c) (arg2 m c) i := by
  have hN : cfg0.N = 16 := N_0
  have hd : 16 * (t.val / 16) = 0 := by omega
  have hm : t.val % 16 = 15 := by omega
  refine (congrFun (sum_over_points7 m c t (by omega)) i).trans ?_
  have h := Pipeline.accAt_add_apply (N := cfg0.N) (start7 m c) (step7 m c) (fun _ => (0 : EReal)) (blockPart7 m c) (16 * (t.val / 16)) 15
    (fun h i => (sum_block7 m c ⟨_, h⟩ (k0_pay3 (F := Ideal)) i).trans (congrArg (fun z : EReal => z + _) Ideal.ofBits_zero_f32))
    (fun n h acc i _ _ => sum_block7 m c ⟨n, h⟩ acc i) (t.val % 16) (by omega) (by omega) i
  refine h.trans ((zero_add _).trans ?_)
  rw [hm, hd]
  refine (Finset.sum_range _).trans (Eq.trans ?_ (Fin.sum_univ_tiles 16 512 rfl (part (argH m c) (arg1 m c) (arg2 m c) (i 1 : Fin 1024))).symm)
  refine Finset.sum_congr rfl fun s _ => Finset.sum_congr rfl fun r _ => congrArg (part (argH m c) (arg1 m c) (arg2 m c) (i 1 : Fin 1024)) (Fin.ext ?_)
  have hs := s.isLt
  have hr := r.isLt
  show ((0 + s.val) * 512 + r.val) % 8192 = s.val * 512 + r.val
  omega

theorem place7 : ∀ t : Fin cfg0.N, win0_7.index t (0 : Fin 2) = 0 ∧ win0_7.index t (1 : Fin 2) = 0 :=
  (by decide +kernel : ∀ t : Fin grid0.N, _)

theorem out7 (t : Fin cfg0.N) (y : S1x1024.Idx) : ((cfg0.win 7).blk t).view.emb y = y := by
  obtain ⟨e0, e1⟩ := place7 t
  funext a; apply Fin.ext
  match a with
  | ⟨0, _⟩ => show win0_7.index t (0 : Fin 2) * 1 + 1 * (y 0).val = (y 0).val; omega
  | ⟨1, _⟩ => show win0_7.index t (1 : Fin 2) * 1024 + 1 * (y 1).val = (y 1).val; omega

theorem flushes7 : ∀ t : Fin cfg0.N, ((cfg0.win 7).flush t = true ↔ t.val = 15) := (by decide +kernel : ∀ t : Fin grid0.N, (win0_7.flush t = true ↔ t.val = 15))

theorem covered7 (i : S1x1024.Idx) : ∃ t : Fin cfg0.N, (cfg0.win 7).flush t = true ∧ i ∈ ((cfg0.win 7).blk t).view.set := by
  have ht : 15 < cfg0.N := by have hN : cfg0.N = 16 := N_0; omega
  refine ⟨⟨15, ht⟩, (flushes7 _).mpr rfl, ?_⟩
  exact (congrArg (· ∈ _) (out7 ⟨15, ht⟩ i)).mp (((cfg0.win 7).blk ⟨15, ht⟩).view.emb_mem_set i)

theorem result7 : (dats m 0 c).arrAt 7 cfg0.N = weights (argH m c) (arg1 m c) (arg2 m c) := by
  refine (dats m 0 c).arrAt_eq_of_cover 7 (weights (argH m c) (arg1 m c) (arg2 m c)) (fun t hf => ?_) covered7
  refine (flushed7 m c t).trans ?_
  funext (y : S1x1024.Idx)
  exact (sum_last7 m c t ((flushes7 t).mp hf) y).trans (congrArg (weights (argH m c) (arg1 m c) (arg2 m c)) (out7 t y).symm)

/-! ## The reference -/

/-- A sum over the tokens' indices. -/
theorem sum_rows (f : Cert.Reference17Ideal.S8192.Idx → EReal) : ∑ j, f j = ∑ p : Fin 8192, f (fun a => match a with | ⟨0, _⟩ => p) :=
  (Fintype.sum_equiv ⟨fun p : Fin 8192 => (fun a => match a with | ⟨0, _⟩ => p : Cert.Reference17Ideal.S8192.Idx), fun j => (j 0 : Fin 8192), fun _ => rfl,
    fun j => funext fun a => by match a with | ⟨0, _⟩ => rfl⟩ _ _ fun _ => rfl).symm

section
variable (x0 x1 : (⟨S8192x1024, .f32⟩ : BufTy).Contents (Elt Ideal)) (x2 : (⟨S1x1024, .f32⟩ : BufTy).Contents (Elt Ideal)) (x3 : (⟨S8192x3072, .bf16⟩ : BufTy).Contents (Elt Ideal)) (x4 : (⟨S4x704x1024, .f32⟩ : BufTy).Contents (Elt Ideal))

theorem reference_rows : val_main_v4 (F := Ideal) x0 x3 x4 = rows x0 x3 (val_main_v1 (F := Ideal) x4) := by
  funext i
  obtain ⟨p, cc, rfl⟩ : ∃ p cc, i = ValueIdx.ix2 p cc := ⟨_, _, ValueIdx.eq_ix2 i⟩
  refine congrArg (fun z : EReal => (x0 (ValueIdx.ix2 p cc) : EReal) + z) ?_
  refine (val_main_v3_apply _ _ _).trans (Finset.sum_congr rfl fun k _ => congrArg₂ (fun x y : EReal => x * y) ?_ ?_)
  · exact congrArg x3 (funext fun a => Fin.ext (by match a with | ⟨0, _⟩ => rfl | ⟨1, _⟩ => rfl))
  · exact congrArg (val_main_v1 (F := Ideal) x4) (funext fun a => Fin.ext (by match a with | ⟨0, _⟩ => rfl | ⟨1, _⟩ => rfl))

theorem reference_mean (p : Fin 8192) : val_main_v11 (F := Ideal) x0 x3 x4 (ValueIdx.ix2 p 0) = NormRows.mean (fun k => rows x0 x3 (val_main_v1 (F := Ideal) x4) (ValueIdx.ix2 p k)) := by
  refine congrArg₂ (fun x y : EReal => x + y) (congrArg₂ Ideal.div ?_ (val_main_v8_apply _)) (val_main_v10_apply _)
  refine (val_main_v7_apply _ _ _ _).trans ((val_main_v6_apply _ _ _ _).trans ((congrArg (fun z : EReal => z + _) Ideal.ofBits_zero_f32).trans ((zero_add _).trans (Finset.sum_congr rfl fun k _ => ?_))))
  refine (congrArg (val_main_v5 (F := Ideal) x0 x3 x4) (NormRows.token_index _ p k rfl rfl)).trans ?_
  exact congrArg (fun z : EReal => z * z) (congrFun (reference_rows x0 x3 x4) (ValueIdx.ix2 p k))

theorem reference_inv (p : Fin 8192) : val_main_v12 (F := Ideal) x0 x3 x4 (ValueIdx.ix2 p 0) = NormRows.inv (fun k => rows x0 x3 (val_main_v1 (F := Ideal) x4) (ValueIdx.ix2 p k)) :=
  congrArg Ideal.rsqrt (reference_mean x0 x3 x4 p)

theorem reference_factor (p : Fin 8192) : val_main_v15 (F := Ideal) x0 x3 x4 (ValueIdx.ix2 p 0)
    = (NormRows.negHalf * Ideal.div (NormRows.inv (fun k => rows x0 x3 (val_main_v1 (F := Ideal) x4) (ValueIdx.ix2 p k))) (NormRows.mean (fun k => rows x0 x3 (val_main_v1 (F := Ideal) x4) (ValueIdx.ix2 p k))) : EReal) :=
  congrArg₂ (fun x y : EReal => x * y) (val_main_v14_apply _) (congrArg₂ Ideal.div (reference_inv x0 x3 x4 p) (reference_mean x0 x3 x4 p))

theorem reference_normed (p : Fin 8192) (k : Fin 1024) : val_main_v17 (F := Ideal) x0 x3 x4 (ValueIdx.ix2 p k)
    = (rows x0 x3 (val_main_v1 (F := Ideal) x4) (ValueIdx.ix2 p k) * NormRows.inv (fun k => rows x0 x3 (val_main_v1 (F := Ideal) x4) (ValueIdx.ix2 p k)) : EReal) := by
  refine congrArg₂ (fun x y : EReal => x * y) (congrFun (reference_rows x0 x3 x4) _) ?_
  exact (val_main_v16_apply _ _ _ _).trans ((congrArg (val_main_v12 (F := Ideal) x0 x3 x4) (NormRows.column_index _ p rfl)).trans (reference_inv x0 x3 x4 p))

theorem reference_err (p : Fin 8192) (k : Fin 1024) : val_main_v20 (F := Ideal) x0 x1 x2 x3 x4 (ValueIdx.ix2 p k) = err (rows x0 x3 (val_main_v1 (F := Ideal) x4)) x1 x2 (ValueIdx.ix2 p k) :=
  congrArg (fun z : EReal => z - (x1 (ValueIdx.ix2 p k) : EReal)) (congrArg₂ (fun x y : EReal => x * y) (reference_normed x0 x3 x4 p k)
    ((val_main_v18_apply _ _).trans (congrArg x2 (NormRows.weight_index _ k rfl))))

theorem reference_ct (p : Fin 8192) (k : Fin 1024) : val_main_v34 (F := Ideal) x0 x1 x2 x3 x4 (ValueIdx.ix2 p k) = ct (rows x0 x3 (val_main_v1 (F := Ideal) x4)) x1 x2 (ValueIdx.ix2 p k) := by
  refine Eq.trans (b := (Ideal.div (Ideal.ofBits .f32 0x3F000000#32 * Ideal.ofBits .f32 0x3F800000#32) (Ideal.ofBits .f32 0x44800000#32)
    * (Ideal.ofBits .f32 0x40000000#32 * err (rows x0 x3 (val_main_v1 (F := Ideal) x4)) x1 x2 (ValueIdx.ix2 p k)) : EReal)) ?_ ?_
  · refine congrArg₂ (fun x y : EReal => x * y) ?_ (congrArg₂ (fun x y : EReal => x * y) (val_main_v22_apply _) (reference_err x0 x1 x2 x3 x4 p k))
    exact (val_main_v33_apply _).trans ((val_main_v32_apply _).trans (congrArg₂ Ideal.div ((val_main_v30_apply _).trans (val_main_v29_apply _)) (val_main_v31_apply _)))
  · rw [width_eq, half_eq, one_eq, two_eq, div_width]
    refine (square_slope _).trans (congrArg (fun z : EReal => err (rows x0 x3 (val_main_v1 (F := Ideal) x4)) x1 x2 (ValueIdx.ix2 p k) * z) scale_eq.symm)

theorem reference_loss : val_main_v54 (F := Ideal) x0 x1 x2 x3 x4 = loss (rows x0 x3 (val_main_v1 (F := Ideal) x4)) x1 x2 := by
  funext i
  refine Eq.trans (b := val_main_v28 (F := Ideal) x0 x1 x2 x3 x4 (fun a => a.elim0)) ?_ ?_
  · exact shapeCast_apply _ _ _ _ (by
      have h0 : (i 0).val < 1 := (i 0).isLt
      have h1 : (i 1).val < 1 := (i 1).isLt
      rw [Shape.rowMajor_val_two]
      show _ = (i 0).val * 1 + (i 1).val
      exact (Nat.lt_one_iff.mp (Fin.isLt _)).trans (by omega))
  · refine (congrArg (fun z : EReal => Ideal.ofBits .f32 0x3F000000#32 * z) ((val_main_v27_apply _ _ _ _ _ _).trans ((congrArg (fun z : EReal => z + _) Ideal.ofBits_zero_f32).trans ((zero_add _).trans (sum_rows _))))).trans ?_
    refine Eq.trans (b := (Ideal.ofBits .f32 0x3F000000#32 * ∑ p : Fin 8192, (∑ k : Fin 1024, err (rows x0 x3 (val_main_v1 (F := Ideal) x4)) x1 x2 (ValueIdx.ix2 p k) * err (rows x0 x3 (val_main_v1 (F := Ideal) x4)) x1 x2 (ValueIdx.ix2 p k)) * ((1 / 1024 : ℝ) : EReal) : EReal)) ?_ ?_
    · refine congrArg (fun z : EReal => Ideal.ofBits .f32 0x3F000000#32 * z) (Finset.sum_congr rfl fun p _ => ?_)
      refine Eq.trans (congrArg₂ Ideal.div ?_ ((val_main_v25_apply _).trans width_eq)) (div_width _)
      refine (val_main_v24_apply _ _ _ _ _ _).trans ((congrArg (fun z : EReal => z + _) Ideal.ofBits_zero_f32).trans ((zero_add _).trans (Finset.sum_congr rfl fun k _ => ?_)))
      refine (congrArg (val_main_v21 (F := Ideal) x0 x1 x2 x3 x4) (NormRows.token_index _ p k rfl rfl)).trans ?_
      exact congrArg (fun z : EReal => z * z) (reference_err x0 x1 x2 x3 x4 p k)
    · refine (mul_sum Finset.univ _ _ (fun p => EReal.mul_nonneg (Finset.sum_nonneg fun k _ => square_nonneg _) (by exact_mod_cast (by norm_num : (0 : ℝ) ≤ 1 / 1024)))).trans ?_
      refine Finset.sum_congr rfl fun p _ => ?_
      rw [half_eq]
      exact (half_mean _).trans (congrArg (fun z : EReal => z * ∑ k : Fin 1024, err (rows x0 x3 (val_main_v1 (F := Ideal) x4)) x1 x2 (ValueIdx.ix2 p k) * err (rows x0 x3 (val_main_v1 (F := Ideal) x4)) x1 x2 (ValueIdx.ix2 p k)) halfScale_eq.symm)

theorem reference_scaled (p : Fin 8192) (k : Fin 1024) : val_main_v39 (F := Ideal) x0 x1 x2 x3 x4 (ValueIdx.ix2 p k)
    = (ct (rows x0 x3 (val_main_v1 (F := Ideal) x4)) x1 x2 (ValueIdx.ix2 p k) * x2 (ValueIdx.ix2 0 k) : EReal) :=
  congrArg₂ (fun x y : EReal => x * y) (reference_ct x0 x1 x2 x3 x4 p k)
    ((val_main_v38_apply _ _).trans (congrArg x2 (NormRows.weight_index _ k rfl)))

theorem reference_slope (p : Fin 8192) (k : Fin 1024) : val_main_v49 (F := Ideal) x0 x1 x2 x3 x4 (ValueIdx.ix2 p k)
    = NormRows.slope (fun k => rows x0 x3 (val_main_v1 (F := Ideal) x4) (ValueIdx.ix2 p k)) (fun j => ct (rows x0 x3 (val_main_v1 (F := Ideal) x4)) x1 x2 (ValueIdx.ix2 p j) * x2 (ValueIdx.ix2 0 j)) := by
  refine (val_main_v49_apply _ _ _ _ _ _).trans ((val_main_v48_apply _ _ _ _ _ _).trans ((congrArg (fun z : EReal => z + _) Ideal.ofBits_zero_f32).trans ((zero_add _).trans ((Fin.sum_univ_one _).trans ?_))))
  refine (congrArg (val_main_v47 (F := Ideal) x0 x1 x2 x3 x4) (NormRows.column_index _ p rfl)).trans (congrArg₂ Ideal.div ?_ (val_main_v46_apply _))
  refine congrArg₂ (fun x y : EReal => x * y) ?_ (reference_factor x0 x3 x4 p)
  refine (val_main_v42_apply _ _ _ _ _ _).trans ((val_main_v41_apply _ _ _ _ _ _).trans ((congrArg (fun z : EReal => z + _) Ideal.ofBits_zero_f32).trans ((zero_add _).trans (Finset.sum_congr rfl fun j _ => ?_))))
  refine (congrArg (val_main_v40 (F := Ideal) x0 x1 x2 x3 x4) (NormRows.token_index _ p j (show p.val * 1 + 0 = p.val by omega) rfl)).trans ?_
  exact congrArg₂ (fun x y : EReal => x * y) (congrFun (reference_rows x0 x3 x4) _) (reference_scaled x0 x1 x2 x3 x4 p j)

theorem reference_back : val_main_v53 (F := Ideal) x0 x1 x2 x3 x4 = back (rows x0 x3 (val_main_v1 (F := Ideal) x4)) x1 x2 := by
  funext i
  obtain ⟨p, k, rfl⟩ : ∃ p k, i = ValueIdx.ix2 p k := ⟨_, _, ValueIdx.eq_ix2 i⟩
  refine Eq.trans ?_ (add_zero (M := EReal) _).symm
  have hS := reference_slope x0 x1 x2 x3 x4 p k
  have hR := congrFun (reference_rows x0 x3 x4) (ValueIdx.ix2 p k)
  refine congrArg₂ (fun x y : EReal => x + y) (congrArg₂ (fun x y : EReal => x + y) ?_
    (congrArg₂ (fun x y : EReal => x * y) hR hS)) (congrArg₂ (fun x y : EReal => x * y) hS hR)
  refine congrArg₂ (fun x y : EReal => x * y) (reference_scaled x0 x1 x2 x3 x4 p k) ?_
  exact (val_main_v43_apply _ _ _ _).trans ((congrArg (val_main_v12 (F := Ideal) x0 x3 x4) (NormRows.column_index _ p rfl)).trans (reference_inv x0 x3 x4 p))

theorem reference_weights : val_main_v37 (F := Ideal) x0 x1 x2 x3 x4 = weights (rows x0 x3 (val_main_v1 (F := Ideal) x4)) x1 x2 := by
  funext i
  refine (val_main_v37_apply _ _ _ _ _ _).trans ((val_main_v36_apply _ _ _ _ _ _).trans ((congrArg (fun z : EReal => z + _) Ideal.ofBits_zero_f32).trans ((zero_add _).trans (Finset.sum_congr rfl fun p _ => ?_))))
  refine (congrArg (val_main_v35 (F := Ideal) x0 x1 x2 x3 x4) (NormRows.token_index _ p (i 1 : Fin 1024) rfl (by
    have h0 : (i 0).val < 1 := (i 0).isLt
    show (i 0).val * 1024 + (i 1).val = (i 1).val
    omega))).trans ?_
  exact congrArg₂ (fun x y : EReal => x * y) (reference_normed x0 x3 x4 p (i 1 : Fin 1024)) (reference_ct x0 x1 x2 x3 x4 p (i 1 : Fin 1024))

end

/-! ## The claims -/

theorem prepared : argW m c = val_main_v1 (F := Ideal) (m ((c.tc : Thread nD τ).loc main_arg4)) := by
  show StableHlo.after (List.flatten [hostOps0, hostOps0_1, hostOps0_2]) (fun b => m (c, b)) (Proc.devRef .tc main_v2) = _
  simp only [hostOps0, hostOps0_1, hostOps0_2, List.flatten_cons, List.flatten_nil, List.append_nil, List.cons_append, List.nil_append, TRef.binary, TRef.unary, TRef.toBuf, TRef.ofBuf, cast_eq]
  after_results <;> rfl

theorem frame_reference : Cert.quiescent_Reference17Ideal := fun m ρ _ =>
  (θ_run Cert.Reference17Ideal.defs _ _).mono (fun _ h => ⟨fun c => (h c).2.2.2, sem_eq_zero_of_no_sems rfl _⟩) (Cert.Reference17Ideal.Value.run (F := Ideal) m ρ)

theorem algebraic : Cert.algebraic_Kernel17Ideal_Reference17Ideal := fun m ρ m' ρ' _ hag =>
  ⟨fun c => loss (argH m c) (arg1 m c) (arg2 m c), fun c => back (argH m c) (arg1 m c) (arg2 m c), fun c => weights (argH m c) (arg1 m c) (arg2 m c),
   (θ_run Cert.Kernel17Ideal.defs _ _).mono (fun _ h c => ⟨(h c).1.trans (result5 m c), (h c).2.1.trans (result6 m c), (h c).2.2.1.trans (result7 m c), (h c).2.2.2⟩) (Cert.Kernel17Ideal.Value.run_blocks (F := Ideal) m ρ),
   (θ_run Cert.Reference17Ideal.defs _ _).mono (fun _ h c => ⟨
      (h c).1.trans ((val_main_v54_eq _ _ _ _ _).trans (by
        rw [(hag c).1, (hag c).2.1, (hag c).2.2.1, (hag c).2.2.2.1, (hag c).2.2.2.2]
        exact (reference_loss _ _ _ _ _).trans (congrArg (fun w => loss (rows _ _ w) _ _) (prepared m c).symm))),
      (h c).2.1.trans ((val_main_v53_eq m' c).trans (by
        rw [(hag c).1, (hag c).2.1, (hag c).2.2.1, (hag c).2.2.2.1, (hag c).2.2.2.2]
        exact (reference_back _ _ _ _ _).trans (congrArg (fun w => back (rows _ _ w) _ _) (prepared m c).symm))),
      (h c).2.2.1.trans ((val_main_v37_eq _ _ _ _ _).trans (by
        rw [(hag c).1, (hag c).2.1, (hag c).2.2.1, (hag c).2.2.2.1, (hag c).2.2.2.2]
        exact (reference_weights _ _ _ _ _).trans (congrArg (fun w => weights (rows _ _ w) _ _) (prepared m c).symm))), (h c).2.2.2⟩) (Cert.Reference17Ideal.Value.run (F := Ideal) m' ρ')⟩

end Cert.Loss17

end
-- ==== Proof.AdamRows.lean ====
/- One step of the optimiser: the two moments and the change of the weight, on one number and on a weight of `R` rows and `C`
   columns whose gradient is the sum of eight. The optimiser's calls share it. -/
module

public import Idealize.ShloMosaic.Lib.ValueIdx
public import Idealize.ShloMosaic.PureOps.Ideal.Laws

@[expose] public section

noncomputable section

namespace Cert.AdamRows

open Idealize.ShloMosaic

/-- An f32 constant of the programs as the number it stands for. -/
def num (b : BitVec 32) : EReal := FloatOps.ofBits (F := Ideal) .f32 b

/-- The new first moment: 0.9 of the old one and 0.1 of the gradient. -/
def moment (g m : EReal) : EReal := num 0x3F666666#32 * m + num 0x3DCCCCCD#32 * g

/-- The new second moment: 0.999 of the old one and 0.001 of the gradient's square. -/
def square (g v : EReal) : EReal := num 0x3F7FBE77#32 * v + num 0x3A83126F#32 * (g * g)

/-- The change of the weight `w` for the new moments `n` and `s`: minus the rate, times the corrected first moment over the
    root of the corrected second one plus the weight's decay. -/
def change (n s w : EReal) : EReal :=
  num 0xBA83126F#32 * (Ideal.div (Ideal.div n (num 0x3F26BD02#32))
    (Ideal.sqrt (Ideal.div s (num 0x3C231ACC#32)) + num 0x322BCC77#32) + num 0x3C23D70A#32 * w)

/-- The change of the weight for the gradient and the old moments. -/
def delta (g w m v : EReal) : EReal := change (moment g m) (square g v) w

variable {R C : Nat} (p : (⟨3, ![8, R, C]⟩ : Shape).Idx → EReal) (w m v : (⟨2, ![R, C]⟩ : Shape).Idx → EReal)
  (i : (⟨2, ![R, C]⟩ : Shape).Idx)

/-- The sum of the devices' gradients, and the step on the whole weight. -/
def grad : EReal := ∑ e : Fin 8, p (ValueIdx.ix3 e (i 0 : Fin R) (i 1 : Fin C))
def deltas : EReal := delta (grad p i) (w i) (m i) (v i)
def moments : EReal := moment (grad p i) (m i)
def squares : EReal := square (grad p i) (v i)

/-- Blocks of `B` rows, one after another, reach every row. -/
theorem reached {N B : Nat} (hB : 0 < B) (hR : R = N * B) (f : Fin N → (⟨2, ![B, C]⟩ : Shape).Idx → (⟨2, ![R, C]⟩ : Shape).Idx)
    (h : ∀ t y, (f t y 0).val = t.val * B + (y 0).val ∧ (f t y 1).val = (y 1).val) : ∃ t y, f t y = i := by
  have hi : (i 0).val < N * B := hR ▸ (i 0).isLt
  refine ⟨⟨(i 0).val / B, Nat.div_lt_of_lt_mul (Nat.mul_comm N B ▸ hi)⟩, ValueIdx.ix2 (⟨(i 0).val % B, Nat.mod_lt _ hB⟩ : Fin B) (i 1 : Fin C),
    funext fun a => Fin.ext ?_⟩
  match a with
  | ⟨0, _⟩ => exact (h _ _).1.trans (Nat.div_add_mod' _ _)
  | ⟨1, _⟩ => exact (h _ _).2

theorem zeros : (![0, 0] : Fin 2 → Nat) = fun _ => 0 := funext fun a => by fin_cases a <;> rfl

end Cert.AdamRows

end
-- ==== Proof.Adam18.lean ====
/- The optimiser's step on w_in (`adamw`): each grid point adds the eight devices' gradients of one block of rows and
   updates the block's moments, and together the blocks are the step on the whole weight. -/
module

public import proofs.«01_k».proof.Defs
public import proofs.«01_k».proof.Proof.AdamRows
public import proofs.«01_k».proof.Proof.Gen.Kernel18Ideal.Value
public import proofs.«01_k».proof.Proof.Gen.Reference18Ideal.Run
public import proofs.«01_k».proof.Proof.Gen.Reference18Ideal.Read
public import Idealize.ShloMosaic.Lib.Quiescent

@[expose] public section

set_option maxRecDepth 16384

noncomputable section

namespace Cert.Adam18

open Cert.AdamRows Cert.Kernel18Ideal Cert.Kernel18Ideal.Gen Cert.Kernel18Ideal.Value
open Cert.Reference18Ideal.Read
open Idealize.ShloMosaic Idealize.ShloMosaic.TcCoe Idealize.SL.Sem

abbrev Block : Shape := ⟨2, ![256, 452]⟩
abbrev Weight : Shape := ⟨2, ![1024, 452]⟩
abbrev Parts : Shape := ⟨3, ![8, 1024, 452]⟩

section
variable (x0 : (⟨3, ![8, 256, 452]⟩ : Shape).Idx → EReal) (x1 x2 x3 : Block.Idx → EReal) (y : Block.Idx)

theorem at6 : out0_6 (F := Ideal) x0 x1 x2 x3 y = moment (k0_pay5 (F := Ideal) x0 x1 x2 x3 y) (x2 y) := by
  refine (congrFun (View.canon_unit_zero (S := Block) zeros _ _) y).trans ?_
  rw [View.ld_unit_zero (S := Block) zeros]
  generalize k0_pay5 (F := Ideal) x0 x1 x2 x3 = g
  rfl

theorem at7 : out0_7 (F := Ideal) x0 x1 x2 x3 y = square (k0_pay5 (F := Ideal) x0 x1 x2 x3 y) (x3 y) := by
  refine (congrFun (View.canon_unit_zero (S := Block) zeros _ _) y).trans ?_
  rw [View.ld_unit_zero (S := Block) zeros]
  generalize k0_pay5 (F := Ideal) x0 x1 x2 x3 = g
  rfl

theorem at5 : out0_5 (F := Ideal) x0 x1 x2 x3 y = delta (k0_pay5 (F := Ideal) x0 x1 x2 x3 y) (x1 y) (x2 y) (x3 y) := by
  refine (congrFun (View.canon_unit_zero (S := Block) zeros _ _) y).trans ?_
  rw [View.ld_unit_zero (S := Block) zeros, View.ld_unit_zero (S := Block) zeros, View.ld_unit_zero (S := Block) zeros]
  generalize k0_pay5 (F := Ideal) x0 x1 x2 x3 = g
  rfl

end

section
variable (m : (ℓ : Loc nD τ sig) → Buf (Elt Ideal) ℓ) (c : Dev nD)

/-- The arrays the call is given: the devices' gradients, the weight and its two moments. -/
abbrev arr0 : Parts.Idx → EReal := m ((c.tc : Thread nD τ).loc main_arg0)
abbrev arr1 : Weight.Idx → EReal := m ((c.tc : Thread nD τ).loc main_arg1)
abbrev arr2 : Weight.Idx → EReal := m ((c.tc : Thread nD τ).loc main_arg2)
abbrev arr3 : Weight.Idx → EReal := m ((c.tc : Thread nD τ).loc main_arg3)

theorem index : ∀ t : Fin cfg0.N, win0_0.index t (0 : Fin 3) = 0 ∧ win0_0.index t (1 : Fin 3) = t.val ∧ win0_0.index t (2 : Fin 3) = 0
    ∧ win0_4.index t (0 : Fin 2) = t.val ∧ win0_4.index t (1 : Fin 2) = 0 ∧ (cfg0.win 4).flush t = true :=
  (by decide +kernel : ∀ t : Fin grid0.N, _)

/-- Where a block's index lies in the array. -/
abbrev place (t : Fin cfg0.N) (y : Block.Idx) : Weight.Idx := ((cfg0.win 4).blk t).view.emb y

theorem place_at (t : Fin cfg0.N) (y : Block.Idx) : (place t y 0).val = t.val * 256 + (y 0).val ∧ (place t y 1).val = (y 1).val := by
  have := index t
  constructor
  · show win0_4.index t (0 : Fin 2) * 256 + 1 * (y 0).val = _; omega
  · show win0_4.index t (1 : Fin 2) * 452 + 1 * (y 1).val = _; omega

theorem part (t : Fin cfg0.N) (y : Block.Idx) (j : (⟨3, ![8, 256, 452]⟩ : Shape).Idx) (e : Fin 8) (h0 : (j 0).val = e.val) (h1 : (j 1).val = (y 0).val)
    (h2 : (j 2).val = (y 1).val) : iblk m c 0 t j = arr0 m c (ValueIdx.ix3 e (place t y 0 : Fin 1024) (place t y 1 : Fin 452)) := by
  have e0 := index t
  have p := place_at t y
  refine congrArg (arr0 m c) (funext fun a => Fin.ext ?_)
  match a with
  | ⟨0, _⟩ => show win0_0.index t (0 : Fin 3) * 8 + 1 * (j 0).val = e.val; omega
  | ⟨1, _⟩ => show win0_0.index t (1 : Fin 3) * 256 + 1 * (j 1).val = (place t y 0).val; omega
  | ⟨2, _⟩ => show win0_0.index t (2 : Fin 3) * 452 + 1 * (j 2).val = (place t y 1).val; omega

theorem grad_at (t : Fin cfg0.N) (y : Block.Idx) :
    k0_pay5 (iblk m c 0 t) (iblk m c 1 t) (iblk m c 2 t) (iblk m c 3 t) y = grad (arr0 m c) (place t y) := by
  refine (congrFun (View.canon_unit_zero (S := Block) zeros _ _) y).symm.trans ((canon4_eq _ _ _ _ _ _ _ _ y).trans ?_)
  refine Eq.trans ?_ (Fin.sum_univ_eight _).symm
  have add {a b a' b' : EReal} (h : a = a') (h' : b = b') : a + b = a' + b' := congrArg₂ _ h h'
  refine add (add (add (add (add (add (add ?_ ?_) ?_) ?_) ?_) ?_) ?_) ?_
  all_goals exact part m c t y _ _ rfl (by show 0 + 1 * (y 0).val = _; omega) (by show 0 + 1 * (y 1).val = _; omega)

theorem covered (i : Weight.Idx) : ∃ t : Fin cfg0.N, (cfg0.win 4).flush t = true ∧ i ∈ ((cfg0.win 4).blk t).view.set := by
  obtain ⟨t, y, h⟩ := reached (N := cfg0.N) (B := 256) i (by decide) (by decide) place place_at
  exact ⟨t, (index t).2.2.2.2.2, h ▸ ((cfg0.win 4).blk t).view.emb_mem_set y⟩

theorem results : (dats m 0 c).arrAt 4 cfg0.N = grad (arr0 m c) ∧ (dats m 0 c).arrAt 5 cfg0.N = deltas (arr0 m c) (arr1 m c) (arr2 m c) (arr3 m c)
    ∧ (dats m 0 c).arrAt 6 cfg0.N = moments (arr0 m c) (arr2 m c) ∧ (dats m 0 c).arrAt 7 cfg0.N = squares (arr0 m c) (arr3 m c) := by
  refine ⟨(dats m 0 c).arrAt_eq_of_cover 4 _ (fun t _ => (flushed4 m c t).trans (funext fun (y : Block.Idx) => ?_)) covered,
    (dats m 0 c).arrAt_eq_of_cover 5 _ (fun t _ => (flushed5 m c t).trans (funext fun (y : Block.Idx) => (at5 _ _ _ _ y).trans ?_)) covered,
    (dats m 0 c).arrAt_eq_of_cover 6 _ (fun t _ => (flushed6 m c t).trans (funext fun (y : Block.Idx) => (at6 _ _ _ _ y).trans ?_)) covered,
    (dats m 0 c).arrAt_eq_of_cover 7 _ (fun t _ => (flushed7 m c t).trans (funext fun (y : Block.Idx) => (at7 _ _ _ _ y).trans ?_)) covered⟩
  · exact (congrFun (View.canon_unit_zero (S := Block) zeros _ _) y).trans (grad_at m c t y)
  all_goals rw [grad_at]; rfl
end

section
variable (x0 : Parts.Idx → EReal) (x1 x2 x3 : Weight.Idx → EReal)

theorem ref4 (i : Weight.Idx) : val_main_v1 (F := Ideal) x0 i = grad x0 i := by
  refine (val_main_v1_apply x0 i).trans ((congrArg (fun x : EReal => x + _) Ideal.ofBits_zero_f32).trans ((zero_add _).trans (Finset.sum_congr rfl fun e _ => ?_)))
  exact congrArg x0 (funext fun a => Fin.ext (by match a with | ⟨0, _⟩ => rfl | ⟨1, _⟩ => rfl | ⟨2, _⟩ => rfl))

theorem ref5 : val_main_v25 (F := Ideal) x0 x1 x2 x3 = deltas x0 x1 x2 x3 := funext fun i => by unfold deltas; rw [← ref4 x0 i]; rfl

theorem ref6 : val_main_v6 (F := Ideal) x0 x2 = moments x0 x2 := funext fun i => by unfold moments; rw [← ref4 x0 i]; rfl

theorem ref7 : val_main_v12 (F := Ideal) x0 x3 = squares x0 x3 := funext fun i => by unfold squares; rw [← ref4 x0 i]; rfl
end

theorem frame_reference : Cert.quiescent_Reference18Ideal := fun m ρ _ =>
  (θ_run Cert.Reference18Ideal.defs _ _).mono (fun _ h => ⟨fun c => (h c).2.2.2.2, sem_eq_zero_of_no_sems rfl _⟩) (Cert.Reference18Ideal.Value.run (F := Ideal) m ρ)

theorem algebraic : Cert.algebraic_Kernel18Ideal_Reference18Ideal := fun m ρ m' ρ' _ hag =>
  ⟨fun c => grad (arr0 m c), fun c => deltas (arr0 m c) (arr1 m c) (arr2 m c) (arr3 m c), fun c => moments (arr0 m c) (arr2 m c), fun c => squares (arr0 m c) (arr3 m c),
   (θ_run Cert.Kernel18Ideal.defs _ _).mono (fun _ h c => ⟨(h c).1.trans (results m c).1, (h c).2.1.trans (results m c).2.1,
      (h c).2.2.1.trans (results m c).2.2.1, (h c).2.2.2.1.trans (results m c).2.2.2, (h c).2.2.2.2⟩) (Cert.Kernel18Ideal.Value.run_blocks (F := Ideal) m ρ),
   (θ_run Cert.Reference18Ideal.defs _ _).mono (fun _ h c => by
      obtain ⟨h0, h1, h2, h3⟩ := hag c
      obtain ⟨g0, g1, g2, g3, hk⟩ := h c
      rw [h0] at g0; rw [h0, h1, h2, h3] at g1; rw [h0, h2] at g2; rw [h0, h3] at g3
      exact ⟨g0.trans (funext (ref4 _)), g1.trans (ref5 _ _ _ _), g2.trans (ref6 _ _), g3.trans (ref7 _ _), hk⟩)
     (Cert.Reference18Ideal.Value.run (F := Ideal) m' ρ')⟩

end Cert.Adam18

end
-- ==== Proof.Adam19.lean ====
/- The optimiser's step on w_out (`adamw`): each grid point adds the eight devices' gradients of one block of rows and
   updates the block's moments, and together the blocks are the step on the whole weight. -/
module

public import proofs.«01_k».proof.Defs
public import proofs.«01_k».proof.Proof.AdamRows
public import proofs.«01_k».proof.Proof.Gen.Kernel19Ideal.Value
public import proofs.«01_k».proof.Proof.Gen.Reference19Ideal.Run
public import proofs.«01_k».proof.Proof.Gen.Reference19Ideal.Read
public import Idealize.ShloMosaic.Lib.Quiescent

@[expose] public section

set_option maxRecDepth 16384

noncomputable section

namespace Cert.Adam19

open Cert.AdamRows Cert.Kernel19Ideal Cert.Kernel19Ideal.Gen Cert.Kernel19Ideal.Value
open Cert.Reference19Ideal.Read
open Idealize.ShloMosaic Idealize.ShloMosaic.TcCoe Idealize.SL.Sem

abbrev Block : Shape := ⟨2, ![192, 1024]⟩
abbrev Weight : Shape := ⟨2, ![192, 1024]⟩
abbrev Parts : Shape := ⟨3, ![8, 192, 1024]⟩

section
variable (x0 : (⟨3, ![8, 192, 1024]⟩ : Shape).Idx → EReal) (x1 x2 x3 : Block.Idx → EReal) (y : Block.Idx)

theorem at6 : out0_6 (F := Ideal) x0 x1 x2 x3 y = moment (k0_pay5 (F := Ideal) x0 x1 x2 x3 y) (x2 y) := by
  refine (congrFun (View.canon_unit_zero (S := Block) zeros _ _) y).trans ?_
  rw [View.ld_unit_zero (S := Block) zeros]
  generalize k0_pay5 (F := Ideal) x0 x1 x2 x3 = g
  rfl

theorem at7 : out0_7 (F := Ideal) x0 x1 x2 x3 y = square (k0_pay5 (F := Ideal) x0 x1 x2 x3 y) (x3 y) := by
  refine (congrFun (View.canon_unit_zero (S := Block) zeros _ _) y).trans ?_
  rw [View.ld_unit_zero (S := Block) zeros]
  generalize k0_pay5 (F := Ideal) x0 x1 x2 x3 = g
  rfl

theorem at5 : out0_5 (F := Ideal) x0 x1 x2 x3 y = delta (k0_pay5 (F := Ideal) x0 x1 x2 x3 y) (x1 y) (x2 y) (x3 y) := by
  refine (congrFun (View.canon_unit_zero (S := Block) zeros _ _) y).trans ?_
  rw [View.ld_unit_zero (S := Block) zeros, View.ld_unit_zero (S := Block) zeros, View.ld_unit_zero (S := Block) zeros]
  generalize k0_pay5 (F := Ideal) x0 x1 x2 x3 = g
  rfl

end

section
variable (m : (ℓ : Loc nD τ sig) → Buf (Elt Ideal) ℓ) (c : Dev nD)

/-- The arrays the call is given: the devices' gradients, the weight and its two moments. -/
abbrev arr0 : Parts.Idx → EReal := m ((c.tc : Thread nD τ).loc main_arg0)
abbrev arr1 : Weight.Idx → EReal := m ((c.tc : Thread nD τ).loc main_arg1)
abbrev arr2 : Weight.Idx → EReal := m ((c.tc : Thread nD τ).loc main_arg2)
abbrev arr3 : Weight.Idx → EReal := m ((c.tc : Thread nD τ).loc main_arg3)

theorem index : ∀ t : Fin cfg0.N, win0_0.index t (0 : Fin 3) = 0 ∧ win0_0.index t (1 : Fin 3) = t.val ∧ win0_0.index t (2 : Fin 3) = 0
    ∧ win0_4.index t (0 : Fin 2) = t.val ∧ win0_4.index t (1 : Fin 2) = 0 ∧ (cfg0.win 4).flush t = true :=
  (by decide +kernel : ∀ t : Fin grid0.N, _)

/-- Where a block's index lies in the array. -/
abbrev place (t : Fin cfg0.N) (y : Block.Idx) : Weight.Idx := ((cfg0.win 4).blk t).view.emb y

theorem place_at (t : Fin cfg0.N) (y : Block.Idx) : (place t y 0).val = t.val * 192 + (y 0).val ∧ (place t y 1).val = (y 1).val := by
  have := index t
  constructor
  · show win0_4.index t (0 : Fin 2) * 192 + 1 * (y 0).val = _; omega
  · show win0_4.index t (1 : Fin 2) * 1024 + 1 * (y 1).val = _; omega

theorem part (t : Fin cfg0.N) (y : Block.Idx) (j : (⟨3, ![8, 192, 1024]⟩ : Shape).Idx) (e : Fin 8) (h0 : (j 0).val = e.val) (h1 : (j 1).val = (y 0).val)
    (h2 : (j 2).val = (y 1).val) : iblk m c 0 t j = arr0 m c (ValueIdx.ix3 e (place t y 0 : Fin 192) (place t y 1 : Fin 1024)) := by
  have e0 := index t
  have p := place_at t y
  refine congrArg (arr0 m c) (funext fun a => Fin.ext ?_)
  match a with
  | ⟨0, _⟩ => show win0_0.index t (0 : Fin 3) * 8 + 1 * (j 0).val = e.val; omega
  | ⟨1, _⟩ => show win0_0.index t (1 : Fin 3) * 192 + 1 * (j 1).val = (place t y 0).val; omega
  | ⟨2, _⟩ => show win0_0.index t (2 : Fin 3) * 1024 + 1 * (j 2).val = (place t y 1).val; omega

theorem grad_at (t : Fin cfg0.N) (y : Block.Idx) :
    k0_pay5 (iblk m c 0 t) (iblk m c 1 t) (iblk m c 2 t) (iblk m c 3 t) y = grad (arr0 m c) (place t y) := by
  refine (congrFun (View.canon_unit_zero (S := Block) zeros _ _) y).symm.trans ((canon4_eq _ _ _ _ _ _ _ _ y).trans ?_)
  refine Eq.trans ?_ (Fin.sum_univ_eight _).symm
  have add {a b a' b' : EReal} (h : a = a') (h' : b = b') : a + b = a' + b' := congrArg₂ _ h h'
  refine add (add (add (add (add (add (add ?_ ?_) ?_) ?_) ?_) ?_) ?_) ?_
  all_goals exact part m c t y _ _ rfl (by show 0 + 1 * (y 0).val = _; omega) (by show 0 + 1 * (y 1).val = _; omega)

theorem covered (i : Weight.Idx) : ∃ t : Fin cfg0.N, (cfg0.win 4).flush t = true ∧ i ∈ ((cfg0.win 4).blk t).view.set := by
  obtain ⟨t, y, h⟩ := reached (N := cfg0.N) (B := 192) i (by decide) (by decide) place place_at
  exact ⟨t, (index t).2.2.2.2.2, h ▸ ((cfg0.win 4).blk t).view.emb_mem_set y⟩

theorem results : (dats m 0 c).arrAt 4 cfg0.N = grad (arr0 m c) ∧ (dats m 0 c).arrAt 5 cfg0.N = deltas (arr0 m c) (arr1 m c) (arr2 m c) (arr3 m c)
    ∧ (dats m 0 c).arrAt 6 cfg0.N = moments (arr0 m c) (arr2 m c) ∧ (dats m 0 c).arrAt 7 cfg0.N = squares (arr0 m c) (arr3 m c) := by
  refine ⟨(dats m 0 c).arrAt_eq_of_cover 4 _ (fun t _ => (flushed4 m c t).trans (funext fun (y : Block.Idx) => ?_)) covered,
    (dats m 0 c).arrAt_eq_of_cover 5 _ (fun t _ => (flushed5 m c t).trans (funext fun (y : Block.Idx) => (at5 _ _ _ _ y).trans ?_)) covered,
    (dats m 0 c).arrAt_eq_of_cover 6 _ (fun t _ => (flushed6 m c t).trans (funext fun (y : Block.Idx) => (at6 _ _ _ _ y).trans ?_)) covered,
    (dats m 0 c).arrAt_eq_of_cover 7 _ (fun t _ => (flushed7 m c t).trans (funext fun (y : Block.Idx) => (at7 _ _ _ _ y).trans ?_)) covered⟩
  · exact (congrFun (View.canon_unit_zero (S := Block) zeros _ _) y).trans (grad_at m c t y)
  all_goals rw [grad_at]; rfl
end

section
variable (x0 : Parts.Idx → EReal) (x1 x2 x3 : Weight.Idx → EReal)

theorem ref4 (i : Weight.Idx) : val_main_v1 (F := Ideal) x0 i = grad x0 i := by
  refine (val_main_v1_apply x0 i).trans ((congrArg (fun x : EReal => x + _) Ideal.ofBits_zero_f32).trans ((zero_add _).trans (Finset.sum_congr rfl fun e _ => ?_)))
  exact congrArg x0 (funext fun a => Fin.ext (by match a with | ⟨0, _⟩ => rfl | ⟨1, _⟩ => rfl | ⟨2, _⟩ => rfl))

theorem ref5 : val_main_v25 (F := Ideal) x0 x1 x2 x3 = deltas x0 x1 x2 x3 := funext fun i => by unfold deltas; rw [← ref4 x0 i]; rfl

theorem ref6 : val_main_v6 (F := Ideal) x0 x2 = moments x0 x2 := funext fun i => by unfold moments; rw [← ref4 x0 i]; rfl

theorem ref7 : val_main_v12 (F := Ideal) x0 x3 = squares x0 x3 := funext fun i => by unfold squares; rw [← ref4 x0 i]; rfl
end

theorem frame_reference : Cert.quiescent_Reference19Ideal := fun m ρ _ =>
  (θ_run Cert.Reference19Ideal.defs _ _).mono (fun _ h => ⟨fun c => (h c).2.2.2.2, sem_eq_zero_of_no_sems rfl _⟩) (Cert.Reference19Ideal.Value.run (F := Ideal) m ρ)

theorem algebraic : Cert.algebraic_Kernel19Ideal_Reference19Ideal := fun m ρ m' ρ' _ hag =>
  ⟨fun c => grad (arr0 m c), fun c => deltas (arr0 m c) (arr1 m c) (arr2 m c) (arr3 m c), fun c => moments (arr0 m c) (arr2 m c), fun c => squares (arr0 m c) (arr3 m c),
   (θ_run Cert.Kernel19Ideal.defs _ _).mono (fun _ h c => ⟨(h c).1.trans (results m c).1, (h c).2.1.trans (results m c).2.1,
      (h c).2.2.1.trans (results m c).2.2.1, (h c).2.2.2.1.trans (results m c).2.2.2, (h c).2.2.2.2⟩) (Cert.Kernel19Ideal.Value.run_blocks (F := Ideal) m ρ),
   (θ_run Cert.Reference19Ideal.defs _ _).mono (fun _ h c => by
      obtain ⟨h0, h1, h2, h3⟩ := hag c
      obtain ⟨g0, g1, g2, g3, hk⟩ := h c
      rw [h0] at g0; rw [h0, h1, h2, h3] at g1; rw [h0, h2] at g2; rw [h0, h3] at g3
      exact ⟨g0.trans (funext (ref4 _)), g1.trans (ref5 _ _ _ _), g2.trans (ref6 _ _), g3.trans (ref7 _ _), hk⟩)
     (Cert.Reference19Ideal.Value.run (F := Ideal) m' ρ')⟩

end Cert.Adam19

end
-- ==== Proof.Adam20.lean ====
/- The optimiser's step on ffn_w_up (`adamw`): each grid point adds the eight devices' gradients of one block of rows and
   updates the block's moments, and together the blocks are the step on the whole weight. -/
module

public import proofs.«01_k».proof.Defs
public import proofs.«01_k».proof.Proof.AdamRows
public import proofs.«01_k».proof.Proof.Gen.Kernel20Ideal.Value
public import proofs.«01_k».proof.Proof.Gen.Reference20Ideal.Run
public import proofs.«01_k».proof.Proof.Gen.Reference20Ideal.Read
public import Idealize.ShloMosaic.Lib.Quiescent

@[expose] public section

set_option maxRecDepth 16384

noncomputable section

namespace Cert.Adam20

open Cert.AdamRows Cert.Kernel20Ideal Cert.Kernel20Ideal.Gen Cert.Kernel20Ideal.Value
open Cert.Reference20Ideal.Read
open Idealize.ShloMosaic Idealize.ShloMosaic.TcCoe Idealize.SL.Sem

abbrev Block : Shape := ⟨2, ![256, 704]⟩
abbrev Weight : Shape := ⟨2, ![1024, 704]⟩
abbrev Parts : Shape := ⟨3, ![8, 1024, 704]⟩

section
variable (x0 : (⟨3, ![8, 256, 704]⟩ : Shape).Idx → EReal) (x1 x2 x3 : Block.Idx → EReal) (y : Block.Idx)

theorem at6 : out0_6 (F := Ideal) x0 x1 x2 x3 y = moment (k0_pay5 (F := Ideal) x0 x1 x2 x3 y) (x2 y) := by
  refine (congrFun (View.canon_unit_zero (S := Block) zeros _ _) y).trans ?_
  rw [View.ld_unit_zero (S := Block) zeros]
  generalize k0_pay5 (F := Ideal) x0 x1 x2 x3 = g
  rfl

theorem at7 : out0_7 (F := Ideal) x0 x1 x2 x3 y = square (k0_pay5 (F := Ideal) x0 x1 x2 x3 y) (x3 y) := by
  refine (congrFun (View.canon_unit_zero (S := Block) zeros _ _) y).trans ?_
  rw [View.ld_unit_zero (S := Block) zeros]
  generalize k0_pay5 (F := Ideal) x0 x1 x2 x3 = g
  rfl

theorem at5 : out0_5 (F := Ideal) x0 x1 x2 x3 y = delta (k0_pay5 (F := Ideal) x0 x1 x2 x3 y) (x1 y) (x2 y) (x3 y) := by
  refine (congrFun (View.canon_unit_zero (S := Block) zeros _ _) y).trans ?_
  rw [View.ld_unit_zero (S := Block) zeros, View.ld_unit_zero (S := Block) zeros, View.ld_unit_zero (S := Block) zeros]
  generalize k0_pay5 (F := Ideal) x0 x1 x2 x3 = g
  rfl

end

section
variable (m : (ℓ : Loc nD τ sig) → Buf (Elt Ideal) ℓ) (c : Dev nD)

/-- The arrays the call is given: the devices' gradients, the weight and its two moments. -/
abbrev arr0 : Parts.Idx → EReal := m ((c.tc : Thread nD τ).loc main_arg0)
abbrev arr1 : Weight.Idx → EReal := m ((c.tc : Thread nD τ).loc main_arg1)
abbrev arr2 : Weight.Idx → EReal := m ((c.tc : Thread nD τ).loc main_arg2)
abbrev arr3 : Weight.Idx → EReal := m ((c.tc : Thread nD τ).loc main_arg3)

theorem index : ∀ t : Fin cfg0.N, win0_0.index t (0 : Fin 3) = 0 ∧ win0_0.index t (1 : Fin 3) = t.val ∧ win0_0.index t (2 : Fin 3) = 0
    ∧ win0_4.index t (0 : Fin 2) = t.val ∧ win0_4.index t (1 : Fin 2) = 0 ∧ (cfg0.win 4).flush t = true :=
  (by decide +kernel : ∀ t : Fin grid0.N, _)

/-- Where a block's index lies in the array. -/
abbrev place (t : Fin cfg0.N) (y : Block.Idx) : Weight.Idx := ((cfg0.win 4).blk t).view.emb y

theorem place_at (t : Fin cfg0.N) (y : Block.Idx) : (place t y 0).val = t.val * 256 + (y 0).val ∧ (place t y 1).val = (y 1).val := by
  have := index t
  constructor
  · show win0_4.index t (0 : Fin 2) * 256 + 1 * (y 0).val = _; omega
  · show win0_4.index t (1 : Fin 2) * 704 + 1 * (y 1).val = _; omega

theorem part (t : Fin cfg0.N) (y : Block.Idx) (j : (⟨3, ![8, 256, 704]⟩ : Shape).Idx) (e : Fin 8) (h0 : (j 0).val = e.val) (h1 : (j 1).val = (y 0).val)
    (h2 : (j 2).val = (y 1).val) : iblk m c 0 t j = arr0 m c (ValueIdx.ix3 e (place t y 0 : Fin 1024) (place t y 1 : Fin 704)) := by
  have e0 := index t
  have p := place_at t y
  refine congrArg (arr0 m c) (funext fun a => Fin.ext ?_)
  match a with
  | ⟨0, _⟩ => show win0_0.index t (0 : Fin 3) * 8 + 1 * (j 0).val = e.val; omega
  | ⟨1, _⟩ => show win0_0.index t (1 : Fin 3) * 256 + 1 * (j 1).val = (place t y 0).val; omega
  | ⟨2, _⟩ => show win0_0.index t (2 : Fin 3) * 704 + 1 * (j 2).val = (place t y 1).val; omega

theorem grad_at (t : Fin cfg0.N) (y : Block.Idx) :
    k0_pay5 (iblk m c 0 t) (iblk m c 1 t) (iblk m c 2 t) (iblk m c 3 t) y = grad (arr0 m c) (place t y) := by
  refine (congrFun (View.canon_unit_zero (S := Block) zeros _ _) y).symm.trans ((canon4_eq _ _ _ _ _ _ _ _ y).trans ?_)
  refine Eq.trans ?_ (Fin.sum_univ_eight _).symm
  have add {a b a' b' : EReal} (h : a = a') (h' : b = b') : a + b = a' + b' := congrArg₂ _ h h'
  refine add (add (add (add (add (add (add ?_ ?_) ?_) ?_) ?_) ?_) ?_) ?_
  all_goals exact part m c t y _ _ rfl (by show 0 + 1 * (y 0).val = _; omega) (by show 0 + 1 * (y 1).val = _; omega)

theorem covered (i : Weight.Idx) : ∃ t : Fin cfg0.N, (cfg0.win 4).flush t = true ∧ i ∈ ((cfg0.win 4).blk t).view.set := by
  obtain ⟨t, y, h⟩ := reached (N := cfg0.N) (B := 256) i (by decide) (by decide) place place_at
  exact ⟨t, (index t).2.2.2.2.2, h ▸ ((cfg0.win 4).blk t).view.emb_mem_set y⟩

theorem results : (dats m 0 c).arrAt 4 cfg0.N = grad (arr0 m c) ∧ (dats m 0 c).arrAt 5 cfg0.N = deltas (arr0 m c) (arr1 m c) (arr2 m c) (arr3 m c)
    ∧ (dats m 0 c).arrAt 6 cfg0.N = moments (arr0 m c) (arr2 m c) ∧ (dats m 0 c).arrAt 7 cfg0.N = squares (arr0 m c) (arr3 m c) := by
  refine ⟨(dats m 0 c).arrAt_eq_of_cover 4 _ (fun t _ => (flushed4 m c t).trans (funext fun (y : Block.Idx) => ?_)) covered,
    (dats m 0 c).arrAt_eq_of_cover 5 _ (fun t _ => (flushed5 m c t).trans (funext fun (y : Block.Idx) => (at5 _ _ _ _ y).trans ?_)) covered,
    (dats m 0 c).arrAt_eq_of_cover 6 _ (fun t _ => (flushed6 m c t).trans (funext fun (y : Block.Idx) => (at6 _ _ _ _ y).trans ?_)) covered,
    (dats m 0 c).arrAt_eq_of_cover 7 _ (fun t _ => (flushed7 m c t).trans (funext fun (y : Block.Idx) => (at7 _ _ _ _ y).trans ?_)) covered⟩
  · exact (congrFun (View.canon_unit_zero (S := Block) zeros _ _) y).trans (grad_at m c t y)
  all_goals rw [grad_at]; rfl
end

section
variable (x0 : Parts.Idx → EReal) (x1 x2 x3 : Weight.Idx → EReal)

theorem ref4 (i : Weight.Idx) : val_main_v1 (F := Ideal) x0 i = grad x0 i := by
  refine (val_main_v1_apply x0 i).trans ((congrArg (fun x : EReal => x + _) Ideal.ofBits_zero_f32).trans ((zero_add _).trans (Finset.sum_congr rfl fun e _ => ?_)))
  exact congrArg x0 (funext fun a => Fin.ext (by match a with | ⟨0, _⟩ => rfl | ⟨1, _⟩ => rfl | ⟨2, _⟩ => rfl))

theorem ref5 : val_main_v25 (F := Ideal) x0 x1 x2 x3 = deltas x0 x1 x2 x3 := funext fun i => by unfold deltas; rw [← ref4 x0 i]; rfl

theorem ref6 : val_main_v6 (F := Ideal) x0 x2 = moments x0 x2 := funext fun i => by unfold moments; rw [← ref4 x0 i]; rfl

theorem ref7 : val_main_v12 (F := Ideal) x0 x3 = squares x0 x3 := funext fun i => by unfold squares; rw [← ref4 x0 i]; rfl
end

theorem frame_reference : Cert.quiescent_Reference20Ideal := fun m ρ _ =>
  (θ_run Cert.Reference20Ideal.defs _ _).mono (fun _ h => ⟨fun c => (h c).2.2.2.2, sem_eq_zero_of_no_sems rfl _⟩) (Cert.Reference20Ideal.Value.run (F := Ideal) m ρ)

theorem algebraic : Cert.algebraic_Kernel20Ideal_Reference20Ideal := fun m ρ m' ρ' _ hag =>
  ⟨fun c => grad (arr0 m c), fun c => deltas (arr0 m c) (arr1 m c) (arr2 m c) (arr3 m c), fun c => moments (arr0 m c) (arr2 m c), fun c => squares (arr0 m c) (arr3 m c),
   (θ_run Cert.Kernel20Ideal.defs _ _).mono (fun _ h c => ⟨(h c).1.trans (results m c).1, (h c).2.1.trans (results m c).2.1,
      (h c).2.2.1.trans (results m c).2.2.1, (h c).2.2.2.1.trans (results m c).2.2.2, (h c).2.2.2.2⟩) (Cert.Kernel20Ideal.Value.run_blocks (F := Ideal) m ρ),
   (θ_run Cert.Reference20Ideal.defs _ _).mono (fun _ h c => by
      obtain ⟨h0, h1, h2, h3⟩ := hag c
      obtain ⟨g0, g1, g2, g3, hk⟩ := h c
      rw [h0] at g0; rw [h0, h1, h2, h3] at g1; rw [h0, h2] at g2; rw [h0, h3] at g3
      exact ⟨g0.trans (funext (ref4 _)), g1.trans (ref5 _ _ _ _), g2.trans (ref6 _ _), g3.trans (ref7 _ _), hk⟩)
     (Cert.Reference20Ideal.Value.run (F := Ideal) m' ρ')⟩

end Cert.Adam20

end
-- ==== Proof.Adam21.lean ====
/- The optimiser's step on ffn_w_down (`adamw`): each grid point adds the eight devices' gradients of one block of rows and
   updates the block's moments, and together the blocks are the step on the whole weight. -/
module

public import proofs.«01_k».proof.Defs
public import proofs.«01_k».proof.Proof.AdamRows
public import proofs.«01_k».proof.Proof.Gen.Kernel21Ideal.Value
public import proofs.«01_k».proof.Proof.Gen.Reference21Ideal.Run
public import proofs.«01_k».proof.Proof.Gen.Reference21Ideal.Read
public import Idealize.ShloMosaic.Lib.Quiescent

@[expose] public section

set_option maxRecDepth 16384

noncomputable section

namespace Cert.Adam21

open Cert.AdamRows Cert.Kernel21Ideal Cert.Kernel21Ideal.Gen Cert.Kernel21Ideal.Value
open Cert.Reference21Ideal.Read
open Idealize.ShloMosaic Idealize.ShloMosaic.TcCoe Idealize.SL.Sem

abbrev Block : Shape := ⟨2, ![176, 1024]⟩
abbrev Weight : Shape := ⟨2, ![352, 1024]⟩
abbrev Parts : Shape := ⟨3, ![8, 352, 1024]⟩

section
variable (x0 : (⟨3, ![8, 176, 1024]⟩ : Shape).Idx → EReal) (x1 x2 x3 : Block.Idx → EReal) (y : Block.Idx)

theorem at6 : out0_6 (F := Ideal) x0 x1 x2 x3 y = moment (k0_pay5 (F := Ideal) x0 x1 x2 x3 y) (x2 y) := by
  refine (congrFun (View.canon_unit_zero (S := Block) zeros _ _) y).trans ?_
  rw [View.ld_unit_zero (S := Block) zeros]
  generalize k0_pay5 (F := Ideal) x0 x1 x2 x3 = g
  rfl

theorem at7 : out0_7 (F := Ideal) x0 x1 x2 x3 y = square (k0_pay5 (F := Ideal) x0 x1 x2 x3 y) (x3 y) := by
  refine (congrFun (View.canon_unit_zero (S := Block) zeros _ _) y).trans ?_
  rw [View.ld_unit_zero (S := Block) zeros]
  generalize k0_pay5 (F := Ideal) x0 x1 x2 x3 = g
  rfl

theorem at5 : out0_5 (F := Ideal) x0 x1 x2 x3 y = delta (k0_pay5 (F := Ideal) x0 x1 x2 x3 y) (x1 y) (x2 y) (x3 y) := by
  refine (congrFun (View.canon_unit_zero (S := Block) zeros _ _) y).trans ?_
  rw [View.ld_unit_zero (S := Block) zeros, View.ld_unit_zero (S := Block) zeros, View.ld_unit_zero (S := Block) zeros]
  generalize k0_pay5 (F := Ideal) x0 x1 x2 x3 = g
  rfl

end

section
variable (m : (ℓ : Loc nD τ sig) → Buf (Elt Ideal) ℓ) (c : Dev nD)

/-- The arrays the call is given: the devices' gradients, the weight and its two moments. -/
abbrev arr0 : Parts.Idx → EReal := m ((c.tc : Thread nD τ).loc main_arg0)
abbrev arr1 : Weight.Idx → EReal := m ((c.tc : Thread nD τ).loc main_arg1)
abbrev arr2 : Weight.Idx → EReal := m ((c.tc : Thread nD τ).loc main_arg2)
abbrev arr3 : Weight.Idx → EReal := m ((c.tc : Thread nD τ).loc main_arg3)

theorem index : ∀ t : Fin cfg0.N, win0_0.index t (0 : Fin 3) = 0 ∧ win0_0.index t (1 : Fin 3) = t.val ∧ win0_0.index t (2 : Fin 3) = 0
    ∧ win0_4.index t (0 : Fin 2) = t.val ∧ win0_4.index t (1 : Fin 2) = 0 ∧ (cfg0.win 4).flush t = true :=
  (by decide +kernel : ∀ t : Fin grid0.N, _)

/-- Where a block's index lies in the array. -/
abbrev place (t : Fin cfg0.N) (y : Block.Idx) : Weight.Idx := ((cfg0.win 4).blk t).view.emb y

theorem place_at (t : Fin cfg0.N) (y : Block.Idx) : (place t y 0).val = t.val * 176 + (y 0).val ∧ (place t y 1).val = (y 1).val := by
  have := index t
  constructor
  · show win0_4.index t (0 : Fin 2) * 176 + 1 * (y 0).val = _; omega
  · show win0_4.index t (1 : Fin 2) * 1024 + 1 * (y 1).val = _; omega

theorem part (t : Fin cfg0.N) (y : Block.Idx) (j : (⟨3, ![8, 176, 1024]⟩ : Shape).Idx) (e : Fin 8) (h0 : (j 0).val = e.val) (h1 : (j 1).val = (y 0).val)
    (h2 : (j 2).val = (y 1).val) : iblk m c 0 t j = arr0 m c (ValueIdx.ix3 e (place t y 0 : Fin 352) (place t y 1 : Fin 1024)) := by
  have e0 := index t
  have p := place_at t y
  refine congrArg (arr0 m c) (funext fun a => Fin.ext ?_)
  match a with
  | ⟨0, _⟩ => show win0_0.index t (0 : Fin 3) * 8 + 1 * (j 0).val = e.val; omega
  | ⟨1, _⟩ => show win0_0.index t (1 : Fin 3) * 176 + 1 * (j 1).val = (place t y 0).val; omega
  | ⟨2, _⟩ => show win0_0.index t (2 : Fin 3) * 1024 + 1 * (j 2).val = (place t y 1).val; omega

theorem grad_at (t : Fin cfg0.N) (y : Block.Idx) :
    k0_pay5 (iblk m c 0 t) (iblk m c 1 t) (iblk m c 2 t) (iblk m c 3 t) y = grad (arr0 m c) (place t y) := by
  refine (congrFun (View.canon_unit_zero (S := Block) zeros _ _) y).symm.trans ((canon4_eq _ _ _ _ _ _ _ _ y).trans ?_)
  refine Eq.trans ?_ (Fin.sum_univ_eight _).symm
  have add {a b a' b' : EReal} (h : a = a') (h' : b = b') : a + b = a' + b' := congrArg₂ _ h h'
  refine add (add (add (add (add (add (add ?_ ?_) ?_) ?_) ?_) ?_) ?_) ?_
  all_goals exact part m c t y _ _ rfl (by show 0 + 1 * (y 0).val = _; omega) (by show 0 + 1 * (y 1).val = _; omega)

theorem covered (i : Weight.Idx) : ∃ t : Fin cfg0.N, (cfg0.win 4).flush t = true ∧ i ∈ ((cfg0.win 4).blk t).view.set := by
  obtain ⟨t, y, h⟩ := reached (N := cfg0.N) (B := 176) i (by decide) (by decide) place place_at
  exact ⟨t, (index t).2.2.2.2.2, h ▸ ((cfg0.win 4).blk t).view.emb_mem_set y⟩

theorem results : (dats m 0 c).arrAt 4 cfg0.N = grad (arr0 m c) ∧ (dats m 0 c).arrAt 5 cfg0.N = deltas (arr0 m c) (arr1 m c) (arr2 m c) (arr3 m c)
    ∧ (dats m 0 c).arrAt 6 cfg0.N = moments (arr0 m c) (arr2 m c) ∧ (dats m 0 c).arrAt 7 cfg0.N = squares (arr0 m c) (arr3 m c) := by
  refine ⟨(dats m 0 c).arrAt_eq_of_cover 4 _ (fun t _ => (flushed4 m c t).trans (funext fun (y : Block.Idx) => ?_)) covered,
    (dats m 0 c).arrAt_eq_of_cover 5 _ (fun t _ => (flushed5 m c t).trans (funext fun (y : Block.Idx) => (at5 _ _ _ _ y).trans ?_)) covered,
    (dats m 0 c).arrAt_eq_of_cover 6 _ (fun t _ => (flushed6 m c t).trans (funext fun (y : Block.Idx) => (at6 _ _ _ _ y).trans ?_)) covered,
    (dats m 0 c).arrAt_eq_of_cover 7 _ (fun t _ => (flushed7 m c t).trans (funext fun (y : Block.Idx) => (at7 _ _ _ _ y).trans ?_)) covered⟩
  · exact (congrFun (View.canon_unit_zero (S := Block) zeros _ _) y).trans (grad_at m c t y)
  all_goals rw [grad_at]; rfl
end

section
variable (x0 : Parts.Idx → EReal) (x1 x2 x3 : Weight.Idx → EReal)

theorem ref4 (i : Weight.Idx) : val_main_v1 (F := Ideal) x0 i = grad x0 i := by
  refine (val_main_v1_apply x0 i).trans ((congrArg (fun x : EReal => x + _) Ideal.ofBits_zero_f32).trans ((zero_add _).trans (Finset.sum_congr rfl fun e _ => ?_)))
  exact congrArg x0 (funext fun a => Fin.ext (by match a with | ⟨0, _⟩ => rfl | ⟨1, _⟩ => rfl | ⟨2, _⟩ => rfl))

theorem ref5 : val_main_v25 (F := Ideal) x0 x1 x2 x3 = deltas x0 x1 x2 x3 := funext fun i => by unfold deltas; rw [← ref4 x0 i]; rfl

theorem ref6 : val_main_v6 (F := Ideal) x0 x2 = moments x0 x2 := funext fun i => by unfold moments; rw [← ref4 x0 i]; rfl

theorem ref7 : val_main_v12 (F := Ideal) x0 x3 = squares x0 x3 := funext fun i => by unfold squares; rw [← ref4 x0 i]; rfl
end

theorem frame_reference : Cert.quiescent_Reference21Ideal := fun m ρ _ =>
  (θ_run Cert.Reference21Ideal.defs _ _).mono (fun _ h => ⟨fun c => (h c).2.2.2.2, sem_eq_zero_of_no_sems rfl _⟩) (Cert.Reference21Ideal.Value.run (F := Ideal) m ρ)

theorem algebraic : Cert.algebraic_Kernel21Ideal_Reference21Ideal := fun m ρ m' ρ' _ hag =>
  ⟨fun c => grad (arr0 m c), fun c => deltas (arr0 m c) (arr1 m c) (arr2 m c) (arr3 m c), fun c => moments (arr0 m c) (arr2 m c), fun c => squares (arr0 m c) (arr3 m c),
   (θ_run Cert.Kernel21Ideal.defs _ _).mono (fun _ h c => ⟨(h c).1.trans (results m c).1, (h c).2.1.trans (results m c).2.1,
      (h c).2.2.1.trans (results m c).2.2.1, (h c).2.2.2.1.trans (results m c).2.2.2, (h c).2.2.2.2⟩) (Cert.Kernel21Ideal.Value.run_blocks (F := Ideal) m ρ),
   (θ_run Cert.Reference21Ideal.defs _ _).mono (fun _ h c => by
      obtain ⟨h0, h1, h2, h3⟩ := hag c
      obtain ⟨g0, g1, g2, g3, hk⟩ := h c
      rw [h0] at g0; rw [h0, h1, h2, h3] at g1; rw [h0, h2] at g2; rw [h0, h3] at g3
      exact ⟨g0.trans (funext (ref4 _)), g1.trans (ref5 _ _ _ _), g2.trans (ref6 _ _), g3.trans (ref7 _ _), hk⟩)
     (Cert.Reference21Ideal.Value.run (F := Ideal) m' ρ')⟩

end Cert.Adam21

end
-- ==== Proof.Adam22.lean ====
/- The optimiser's step on norm_mix_w (`adamw`): each grid point adds the eight devices' gradients of one block of rows and
   updates the block's moments, and together the blocks are the step on the whole weight. -/
module

public import proofs.«01_k».proof.Defs
public import proofs.«01_k».proof.Proof.AdamRows
public import proofs.«01_k».proof.Proof.Gen.Kernel22Ideal.Value
public import proofs.«01_k».proof.Proof.Gen.Reference22Ideal.Run
public import proofs.«01_k».proof.Proof.Gen.Reference22Ideal.Read
public import Idealize.ShloMosaic.Lib.Quiescent

@[expose] public section

set_option maxRecDepth 16384

noncomputable section

namespace Cert.Adam22

open Cert.AdamRows Cert.Kernel22Ideal Cert.Kernel22Ideal.Gen Cert.Kernel22Ideal.Value
open Cert.Reference22Ideal.Read
open Idealize.ShloMosaic Idealize.ShloMosaic.TcCoe Idealize.SL.Sem

abbrev Block : Shape := ⟨2, ![8, 128]⟩
abbrev Weight : Shape := ⟨2, ![8, 128]⟩
abbrev Parts : Shape := ⟨3, ![8, 8, 128]⟩

section
variable (x0 : (⟨3, ![8, 8, 128]⟩ : Shape).Idx → EReal) (x1 x2 x3 : Block.Idx → EReal) (y : Block.Idx)

theorem at6 : out0_6 (F := Ideal) x0 x1 x2 x3 y = moment (k0_pay5 (F := Ideal) x0 x1 x2 x3 y) (x2 y) := by
  refine (congrFun (View.canon_unit_zero (S := Block) zeros _ _) y).trans ?_
  unfold k0_pay6 k0_pay5
  rw [View.ld_unit_zero (S := Block) zeros]
  rfl

theorem at7 : out0_7 (F := Ideal) x0 x1 x2 x3 y = square (k0_pay5 (F := Ideal) x0 x1 x2 x3 y) (x3 y) := by
  refine (congrFun (View.canon_unit_zero (S := Block) zeros _ _) y).trans ?_
  rw [View.ld_unit_zero (S := Block) zeros]
  generalize k0_pay5 (F := Ideal) x0 x1 x2 x3 = g
  rfl

theorem at5 : out0_5 (F := Ideal) x0 x1 x2 x3 y = delta (k0_pay5 (F := Ideal) x0 x1 x2 x3 y) (x1 y) (x2 y) (x3 y) := by
  refine (congrFun (View.canon_unit_zero (S := Block) zeros _ _) y).trans ?_
  have h : k0_pay6 (F := Ideal) x0 x1 x2 x3 y = _ := (congrFun (View.canon_unit_zero (S := Block) zeros _ _) y).symm.trans (at6 x0 x1 x2 x3 y)
  unfold delta
  rw [View.ld_unit_zero (S := Block) zeros, View.ld_unit_zero (S := Block) zeros, ← h]
  generalize k0_pay5 (F := Ideal) x0 x1 x2 x3 = g
  generalize k0_pay6 (F := Ideal) x0 x1 x2 x3 = n
  rfl

end

section
variable (m : (ℓ : Loc nD τ sig) → Buf (Elt Ideal) ℓ) (c : Dev nD)

/-- The arrays the call is given: the devices' gradients, the weight and its two moments. -/
abbrev arr0 : Parts.Idx → EReal := m ((c.tc : Thread nD τ).loc main_arg0)
abbrev arr1 : Weight.Idx → EReal := m ((c.tc : Thread nD τ).loc main_arg1)
abbrev arr2 : Weight.Idx → EReal := m ((c.tc : Thread nD τ).loc main_arg2)
abbrev arr3 : Weight.Idx → EReal := m ((c.tc : Thread nD τ).loc main_arg3)

theorem index : ∀ t : Fin cfg0.N, win0_0.index t (0 : Fin 3) = 0 ∧ win0_0.index t (1 : Fin 3) = t.val ∧ win0_0.index t (2 : Fin 3) = 0
    ∧ win0_4.index t (0 : Fin 2) = t.val ∧ win0_4.index t (1 : Fin 2) = 0 ∧ (cfg0.win 4).flush t = true :=
  (by decide +kernel : ∀ t : Fin grid0.N, _)

/-- Where a block's index lies in the array. -/
abbrev place (t : Fin cfg0.N) (y : Block.Idx) : Weight.Idx := ((cfg0.win 4).blk t).view.emb y

theorem place_at (t : Fin cfg0.N) (y : Block.Idx) : (place t y 0).val = t.val * 8 + (y 0).val ∧ (place t y 1).val = (y 1).val := by
  have := index t
  constructor
  · show win0_4.index t (0 : Fin 2) * 8 + 1 * (y 0).val = _; omega
  · show win0_4.index t (1 : Fin 2) * 128 + 1 * (y 1).val = _; omega

theorem part (t : Fin cfg0.N) (y : Block.Idx) (j : (⟨3, ![8, 8, 128]⟩ : Shape).Idx) (e : Fin 8) (h0 : (j 0).val = e.val) (h1 : (j 1).val = (y 0).val)
    (h2 : (j 2).val = (y 1).val) : iblk m c 0 t j = arr0 m c (ValueIdx.ix3 e (place t y 0 : Fin 8) (place t y 1 : Fin 128)) := by
  have e0 := index t
  have p := place_at t y
  refine congrArg (arr0 m c) (funext fun a => Fin.ext ?_)
  match a with
  | ⟨0, _⟩ => show win0_0.index t (0 : Fin 3) * 8 + 1 * (j 0).val = e.val; omega
  | ⟨1, _⟩ => show win0_0.index t (1 : Fin 3) * 8 + 1 * (j 1).val = (place t y 0).val; omega
  | ⟨2, _⟩ => show win0_0.index t (2 : Fin 3) * 128 + 1 * (j 2).val = (place t y 1).val; omega

theorem grad_at (t : Fin cfg0.N) (y : Block.Idx) :
    k0_pay5 (iblk m c 0 t) (iblk m c 1 t) (iblk m c 2 t) (iblk m c 3 t) y = grad (arr0 m c) (place t y) := by
  refine (congrFun (View.canon_unit_zero (S := Block) zeros _ _) y).symm.trans ((canon4_eq _ _ _ _ _ _ _ _ y).trans ?_)
  refine Eq.trans ?_ (Fin.sum_univ_eight _).symm
  have add {a b a' b' : EReal} (h : a = a') (h' : b = b') : a + b = a' + b' := congrArg₂ _ h h'
  refine add (add (add (add (add (add (add ?_ ?_) ?_) ?_) ?_) ?_) ?_) ?_
  all_goals exact part m c t y _ _ rfl (by show 0 + 1 * (y 0).val = _; omega) (by show 0 + 1 * (y 1).val = _; omega)

theorem covered (i : Weight.Idx) : ∃ t : Fin cfg0.N, (cfg0.win 4).flush t = true ∧ i ∈ ((cfg0.win 4).blk t).view.set := by
  obtain ⟨t, y, h⟩ := reached (N := cfg0.N) (B := 8) i (by decide) (by decide) place place_at
  exact ⟨t, (index t).2.2.2.2.2, h ▸ ((cfg0.win 4).blk t).view.emb_mem_set y⟩

theorem results : (dats m 0 c).arrAt 4 cfg0.N = grad (arr0 m c) ∧ (dats m 0 c).arrAt 5 cfg0.N = deltas (arr0 m c) (arr1 m c) (arr2 m c) (arr3 m c)
    ∧ (dats m 0 c).arrAt 6 cfg0.N = moments (arr0 m c) (arr2 m c) ∧ (dats m 0 c).arrAt 7 cfg0.N = squares (arr0 m c) (arr3 m c) := by
  refine ⟨(dats m 0 c).arrAt_eq_of_cover 4 _ (fun t _ => (flushed4 m c t).trans (funext fun (y : Block.Idx) => ?_)) covered,
    (dats m 0 c).arrAt_eq_of_cover 5 _ (fun t _ => (flushed5 m c t).trans (funext fun (y : Block.Idx) => (at5 _ _ _ _ y).trans ?_)) covered,
    (dats m 0 c).arrAt_eq_of_cover 6 _ (fun t _ => (flushed6 m c t).trans (funext fun (y : Block.Idx) => (at6 _ _ _ _ y).trans ?_)) covered,
    (dats m 0 c).arrAt_eq_of_cover 7 _ (fun t _ => (flushed7 m c t).trans (funext fun (y : Block.Idx) => (at7 _ _ _ _ y).trans ?_)) covered⟩
  · exact (congrFun (View.canon_unit_zero (S := Block) zeros _ _) y).trans (grad_at m c t y)
  all_goals rw [grad_at]; rfl
end

section
variable (x0 : Parts.Idx → EReal) (x1 x2 x3 : Weight.Idx → EReal)

theorem ref4 (i : Weight.Idx) : val_main_v0 (F := Ideal) x0 i = grad x0 i := by
  refine (val_main_v0_apply x0 i).trans ((congrArg (fun x : EReal => x + _) Ideal.ofBits_zero_f32).trans ((zero_add _).trans (Finset.sum_congr rfl fun e _ => ?_)))
  exact congrArg x0 (funext fun a => Fin.ext (by match a with | ⟨0, _⟩ => rfl | ⟨1, _⟩ => rfl | ⟨2, _⟩ => rfl))

theorem ref5 : val_main_v24 (F := Ideal) x0 x1 x2 x3 = deltas x0 x1 x2 x3 := funext fun i => by unfold deltas; rw [← ref4 x0 i]; rfl

theorem ref6 : val_main_v5 (F := Ideal) x0 x2 = moments x0 x2 := funext fun i => by unfold moments; rw [← ref4 x0 i]; rfl

theorem ref7 : val_main_v11 (F := Ideal) x0 x3 = squares x0 x3 := funext fun i => by unfold squares; rw [← ref4 x0 i]; rfl
end

theorem frame_reference : Cert.quiescent_Reference22Ideal := fun m ρ _ =>
  (θ_run Cert.Reference22Ideal.defs _ _).mono (fun _ h => ⟨fun c => (h c).2.2.2.2, sem_eq_zero_of_no_sems rfl _⟩) (Cert.Reference22Ideal.Value.run (F := Ideal) m ρ)

theorem algebraic : Cert.algebraic_Kernel22Ideal_Reference22Ideal := fun m ρ m' ρ' _ hag =>
  ⟨fun c => grad (arr0 m c), fun c => deltas (arr0 m c) (arr1 m c) (arr2 m c) (arr3 m c), fun c => moments (arr0 m c) (arr2 m c), fun c => squares (arr0 m c) (arr3 m c),
   (θ_run Cert.Kernel22Ideal.defs _ _).mono (fun _ h c => ⟨(h c).1.trans (results m c).1, (h c).2.1.trans (results m c).2.1,
      (h c).2.2.1.trans (results m c).2.2.1, (h c).2.2.2.1.trans (results m c).2.2.2, (h c).2.2.2.2⟩) (Cert.Kernel22Ideal.Value.run_blocks (F := Ideal) m ρ),
   (θ_run Cert.Reference22Ideal.defs _ _).mono (fun _ h c => by
      obtain ⟨h0, h1, h2, h3⟩ := hag c
      obtain ⟨g0, g1, g2, g3, hk⟩ := h c
      rw [h0] at g0; rw [h0, h1, h2, h3] at g1; rw [h0, h2] at g2; rw [h0, h3] at g3
      exact ⟨g0.trans (funext (ref4 _)), g1.trans (ref5 _ _ _ _), g2.trans (ref6 _ _), g3.trans (ref7 _ _), hk⟩)
     (Cert.Reference22Ideal.Value.run (F := Ideal) m' ρ')⟩

end Cert.Adam22

end
-- ==== Proof.Adam23.lean ====
/- The optimiser's step on the packed small weights (`adamw`): each grid point adds the eight devices' gradients of one block of rows and
   updates the block's moments, and together the blocks are the step on the whole weight. -/
module

public import proofs.«01_k».proof.Defs
public import proofs.«01_k».proof.Proof.AdamRows
public import proofs.«01_k».proof.Proof.Gen.Kernel23Ideal.Value
public import proofs.«01_k».proof.Proof.Gen.Reference23Ideal.Run
public import proofs.«01_k».proof.Proof.Gen.Reference23Ideal.Read
public import Idealize.ShloMosaic.Lib.Quiescent

@[expose] public section

set_option maxRecDepth 16384

noncomputable section

namespace Cert.Adam23

open Cert.AdamRows Cert.Kernel23Ideal Cert.Kernel23Ideal.Gen Cert.Kernel23Ideal.Value
open Cert.Reference23Ideal.Read
open Idealize.ShloMosaic Idealize.ShloMosaic.TcCoe Idealize.SL.Sem

abbrev Block : Shape := ⟨2, ![1024, 128]⟩
abbrev Weight : Shape := ⟨2, ![2048, 128]⟩
abbrev Parts : Shape := ⟨3, ![8, 2048, 128]⟩

section
variable (x0 : (⟨3, ![8, 1024, 128]⟩ : Shape).Idx → EReal) (x1 x2 x3 : Block.Idx → EReal) (y : Block.Idx)

theorem at6 : out0_6 (F := Ideal) x0 x1 x2 x3 y = moment (k0_pay5 (F := Ideal) x0 x1 x2 x3 y) (x2 y) := by
  refine (congrFun (View.canon_unit_zero (S := Block) zeros _ _) y).trans ?_
  unfold k0_pay6 k0_pay5
  rw [View.ld_unit_zero (S := Block) zeros]
  rfl

theorem at7 : out0_7 (F := Ideal) x0 x1 x2 x3 y = square (k0_pay5 (F := Ideal) x0 x1 x2 x3 y) (x3 y) := by
  refine (congrFun (View.canon_unit_zero (S := Block) zeros _ _) y).trans ?_
  rw [View.ld_unit_zero (S := Block) zeros]
  generalize k0_pay5 (F := Ideal) x0 x1 x2 x3 = g
  rfl

theorem at5 : out0_5 (F := Ideal) x0 x1 x2 x3 y = delta (k0_pay5 (F := Ideal) x0 x1 x2 x3 y) (x1 y) (x2 y) (x3 y) := by
  refine (congrFun (View.canon_unit_zero (S := Block) zeros _ _) y).trans ?_
  have h : k0_pay6 (F := Ideal) x0 x1 x2 x3 y = _ := (congrFun (View.canon_unit_zero (S := Block) zeros _ _) y).symm.trans (at6 x0 x1 x2 x3 y)
  unfold delta
  rw [View.ld_unit_zero (S := Block) zeros, View.ld_unit_zero (S := Block) zeros, ← h]
  generalize k0_pay5 (F := Ideal) x0 x1 x2 x3 = g
  generalize k0_pay6 (F := Ideal) x0 x1 x2 x3 = n
  rfl

end

section
variable (m : (ℓ : Loc nD τ sig) → Buf (Elt Ideal) ℓ) (c : Dev nD)

/-- The arrays the call is given: the devices' gradients, the weight and its two moments. -/
abbrev arr0 : Parts.Idx → EReal := m ((c.tc : Thread nD τ).loc main_arg0)
abbrev arr1 : Weight.Idx → EReal := m ((c.tc : Thread nD τ).loc main_arg1)
abbrev arr2 : Weight.Idx → EReal := m ((c.tc : Thread nD τ).loc main_arg2)
abbrev arr3 : Weight.Idx → EReal := m ((c.tc : Thread nD τ).loc main_arg3)

theorem index : ∀ t : Fin cfg0.N, win0_0.index t (0 : Fin 3) = 0 ∧ win0_0.index t (1 : Fin 3) = t.val ∧ win0_0.index t (2 : Fin 3) = 0
    ∧ win0_4.index t (0 : Fin 2) = t.val ∧ win0_4.index t (1 : Fin 2) = 0 ∧ (cfg0.win 4).flush t = true :=
  (by decide +kernel : ∀ t : Fin grid0.N, _)

/-- Where a block's index lies in the array. -/
abbrev place (t : Fin cfg0.N) (y : Block.Idx) : Weight.Idx := ((cfg0.win 4).blk t).view.emb y

theorem place_at (t : Fin cfg0.N) (y : Block.Idx) : (place t y 0).val = t.val * 1024 + (y 0).val ∧ (place t y 1).val = (y 1).val := by
  have := index t
  constructor
  · show win0_4.index t (0 : Fin 2) * 1024 + 1 * (y 0).val = _; omega
  · show win0_4.index t (1 : Fin 2) * 128 + 1 * (y 1).val = _; omega

theorem part (t : Fin cfg0.N) (y : Block.Idx) (j : (⟨3, ![8, 1024, 128]⟩ : Shape).Idx) (e : Fin 8) (h0 : (j 0).val = e.val) (h1 : (j 1).val = (y 0).val)
    (h2 : (j 2).val = (y 1).val) : iblk m c 0 t j = arr0 m c (ValueIdx.ix3 e (place t y 0 : Fin 2048) (place t y 1 : Fin 128)) := by
  have e0 := index t
  have p := place_at t y
  refine congrArg (arr0 m c) (funext fun a => Fin.ext ?_)
  match a with
  | ⟨0, _⟩ => show win0_0.index t (0 : Fin 3) * 8 + 1 * (j 0).val = e.val; omega
  | ⟨1, _⟩ => show win0_0.index t (1 : Fin 3) * 1024 + 1 * (j 1).val = (place t y 0).val; omega
  | ⟨2, _⟩ => show win0_0.index t (2 : Fin 3) * 128 + 1 * (j 2).val = (place t y 1).val; omega

theorem grad_at (t : Fin cfg0.N) (y : Block.Idx) :
    k0_pay5 (iblk m c 0 t) (iblk m c 1 t) (iblk m c 2 t) (iblk m c 3 t) y = grad (arr0 m c) (place t y) := by
  refine (congrFun (View.canon_unit_zero (S := Block) zeros _ _) y).symm.trans ((canon4_eq _ _ _ _ _ _ _ _ y).trans ?_)
  refine Eq.trans ?_ (Fin.sum_univ_eight _).symm
  have add {a b a' b' : EReal} (h : a = a') (h' : b = b') : a + b = a' + b' := congrArg₂ _ h h'
  refine add (add (add (add (add (add (add ?_ ?_) ?_) ?_) ?_) ?_) ?_) ?_
  all_goals exact part m c t y _ _ rfl (by show 0 + 1 * (y 0).val = _; omega) (by show 0 + 1 * (y 1).val = _; omega)

theorem covered (i : Weight.Idx) : ∃ t : Fin cfg0.N, (cfg0.win 4).flush t = true ∧ i ∈ ((cfg0.win 4).blk t).view.set := by
  obtain ⟨t, y, h⟩ := reached (N := cfg0.N) (B := 1024) i (by decide) (by decide) place place_at
  exact ⟨t, (index t).2.2.2.2.2, h ▸ ((cfg0.win 4).blk t).view.emb_mem_set y⟩

theorem results : (dats m 0 c).arrAt 4 cfg0.N = grad (arr0 m c) ∧ (dats m 0 c).arrAt 5 cfg0.N = deltas (arr0 m c) (arr1 m c) (arr2 m c) (arr3 m c)
    ∧ (dats m 0 c).arrAt 6 cfg0.N = moments (arr0 m c) (arr2 m c) ∧ (dats m 0 c).arrAt 7 cfg0.N = squares (arr0 m c) (arr3 m c) := by
  refine ⟨(dats m 0 c).arrAt_eq_of_cover 4 _ (fun t _ => (flushed4 m c t).trans (funext fun (y : Block.Idx) => ?_)) covered,
    (dats m 0 c).arrAt_eq_of_cover 5 _ (fun t _ => (flushed5 m c t).trans (funext fun (y : Block.Idx) => (at5 _ _ _ _ y).trans ?_)) covered,
    (dats m 0 c).arrAt_eq_of_cover 6 _ (fun t _ => (flushed6 m c t).trans (funext fun (y : Block.Idx) => (at6 _ _ _ _ y).trans ?_)) covered,
    (dats m 0 c).arrAt_eq_of_cover 7 _ (fun t _ => (flushed7 m c t).trans (funext fun (y : Block.Idx) => (at7 _ _ _ _ y).trans ?_)) covered⟩
  · exact (congrFun (View.canon_unit_zero (S := Block) zeros _ _) y).trans (grad_at m c t y)
  all_goals rw [grad_at]; rfl
end

section
variable (x0 : Parts.Idx → EReal) (x1 x2 x3 : Weight.Idx → EReal)

theorem ref4 (i : Weight.Idx) : val_main_v0 (F := Ideal) x0 i = grad x0 i := by
  refine (val_main_v0_apply x0 i).trans ((congrArg (fun x : EReal => x + _) Ideal.ofBits_zero_f32).trans ((zero_add _).trans (Finset.sum_congr rfl fun e _ => ?_)))
  exact congrArg x0 (funext fun a => Fin.ext (by match a with | ⟨0, _⟩ => rfl | ⟨1, _⟩ => rfl | ⟨2, _⟩ => rfl))

theorem ref5 : val_main_v24 (F := Ideal) x0 x1 x2 x3 = deltas x0 x1 x2 x3 := funext fun i => by unfold deltas; rw [← ref4 x0 i]; rfl

theorem ref6 : val_main_v5 (F := Ideal) x0 x2 = moments x0 x2 := funext fun i => by unfold moments; rw [← ref4 x0 i]; rfl

theorem ref7 : val_main_v11 (F := Ideal) x0 x3 = squares x0 x3 := funext fun i => by unfold squares; rw [← ref4 x0 i]; rfl
end

theorem frame_reference : Cert.quiescent_Reference23Ideal := fun m ρ _ =>
  (θ_run Cert.Reference23Ideal.defs _ _).mono (fun _ h => ⟨fun c => (h c).2.2.2.2, sem_eq_zero_of_no_sems rfl _⟩) (Cert.Reference23Ideal.Value.run (F := Ideal) m ρ)

theorem algebraic : Cert.algebraic_Kernel23Ideal_Reference23Ideal := fun m ρ m' ρ' _ hag =>
  ⟨fun c => grad (arr0 m c), fun c => deltas (arr0 m c) (arr1 m c) (arr2 m c) (arr3 m c), fun c => moments (arr0 m c) (arr2 m c), fun c => squares (arr0 m c) (arr3 m c),
   (θ_run Cert.Kernel23Ideal.defs _ _).mono (fun _ h c => ⟨(h c).1.trans (results m c).1, (h c).2.1.trans (results m c).2.1,
      (h c).2.2.1.trans (results m c).2.2.1, (h c).2.2.2.1.trans (results m c).2.2.2, (h c).2.2.2.2⟩) (Cert.Kernel23Ideal.Value.run_blocks (F := Ideal) m ρ),
   (θ_run Cert.Reference23Ideal.defs _ _).mono (fun _ h c => by
      obtain ⟨h0, h1, h2, h3⟩ := hag c
      obtain ⟨g0, g1, g2, g3, hk⟩ := h c
      rw [h0] at g0; rw [h0, h1, h2, h3] at g1; rw [h0, h2] at g2; rw [h0, h3] at g3
      exact ⟨g0.trans (funext (ref4 _)), g1.trans (ref5 _ _ _ _), g2.trans (ref6 _ _), g3.trans (ref7 _ _), hk⟩)
     (Cert.Reference23Ideal.Value.run (F := Ideal) m' ρ')⟩

end Cert.Adam23

end
-- ==== Proof.Gate24.lean ====
/- The gate and the norm after the SSD scan, backward (`ssd_post_bwd`): each grid point pulls a block's cotangent back through the
   norm and the gate, and adds the block's part of the gradient of the norm's weight to a sum. -/
module

public import proofs.«01_k».proof.Defs
public import proofs.«01_k».proof.Proof.Gen.Kernel24Ideal.Value
public import proofs.«01_k».proof.Proof.Gen.Reference24Ideal.Run
public import proofs.«01_k».proof.Proof.Gen.Reference24Ideal.Read
public import proofs.«01_k».proof.Proof.NormRows
public import Idealize.ShloMosaic.Lib.Pipeline.Value
public import Idealize.ShloMosaic.Lib.Pointwise.Sums
public import Idealize.ShloMosaic.Lib.Quiescent

@[expose] public section

set_option maxRecDepth 16384
set_option maxHeartbeats 1000000

noncomputable section

namespace Cert.Gate24

open Cert.Kernel24Ideal Cert.Kernel24Ideal.Gen Cert.Kernel24Ideal.Value
open Cert.Reference24Ideal.Read
open Idealize.ShloMosaic Idealize.ShloMosaic.TcCoe Idealize.ShloMosaic.Tactic Idealize.ShloMosaic.StableHlo Idealize.SL.Sem

/-! ## The gated rows and the gradients -/

/-- `silu`. -/
def silu (z : EReal) : EReal := z * Ideal.logistic z

/-- The gated rows, which the norm takes. -/
def gated (y z : S8192x1024.Idx → EReal) : S8192x1024.Idx → EReal := fun i => y i * silu (z i)

/-- The SSD's columns of the cotangent of both branches. -/
def left (d : S8192x1536.Idx → EReal) : S8192x1024.Idx → EReal := fun i =>
  d (ValueIdx.ix2 (i 0 : Fin 8192) (⟨(i 1).val, Nat.lt_trans (i 1).isLt (by decide : 1024 < 1536)⟩ : Fin 1536))

/-- The cotangent of the gated rows `h`. -/
def back (h : S8192x1024.Idx → EReal) (w : S1x1024.Idx → EReal) (g : S8192x1024.Idx → EReal) : S8192x1024.Idx → EReal := fun i =>
  NormRows.back (fun k => h (ValueIdx.ix2 (i 0 : Fin 8192) k)) (fun k => w (ValueIdx.ix2 0 k)) (fun k => g (ValueIdx.ix2 (i 0 : Fin 8192) k))
    (fun _ => 0) (i 1 : Fin 1024)

/-- The gradient of the scan's result, and the gate's for the cotangent `q` of `silu`: its derivative by the product rule. -/
def scanned (y z : S8192x1024.Idx → EReal) (w : S1x1024.Idx → EReal) (g : S8192x1024.Idx → EReal) : S8192x1024.Idx → EReal := fun i =>
  back (gated y z) w g i * silu (z i)
def siluBack (z q : EReal) : EReal := q * Ideal.logistic z + z * q * (Ideal.logistic z * (1 - Ideal.logistic z))
def gates (y z : S8192x1024.Idx → EReal) (w : S1x1024.Idx → EReal) (g : S8192x1024.Idx → EReal) : S8192x1024.Idx → EReal := fun i =>
  siluBack (z i) (y i * back (gated y z) w g i)

/-- One row's part of the gradient of the norm's weight, and the gradient. -/
def part (h g : S8192x1024.Idx → EReal) (k : Fin 1024) (p : Fin 8192) : EReal :=
  NormRows.weight (fun k => h (ValueIdx.ix2 p k)) (fun k => g (ValueIdx.ix2 p k)) k
def weights (h g : S8192x1024.Idx → EReal) : S1x1024.Idx → EReal := fun i => ∑ p : Fin 8192, part h g (i 1 : Fin 1024) p

theorem one_eq : Ideal.ofBits .f32 0x3F800000#32 = 1 := by
  refine Eq.trans (b := ((1 : ℝ) : EReal)) ?_ EReal.coe_one
  simp [Ideal.ofBits, Ideal.ieee, -EReal.coe_mul]; norm_num

/-! ## A block -/

section
variable (x0 x1 x3 : Vec Ideal S512x1024 .f32) (x2 : Vec Ideal S1x1024 .f32)

theorem mean_at (r : Fin 512) : k0_pay10 (F := Ideal) x0 x1 (ValueIdx.ix2 r 0) = NormRows.mean (NormRows.rowOf (k0_pay9 (F := Ideal) x0 x1) r) :=
  NormRows.mean_at (k0_pay9 (F := Ideal) x0 x1) reduces_S512x1024_S512 (.inl rfl) rfl shapeCasts_S512_S512x1 r

theorem inv_at (r : Fin 512) : k0_pay11 (F := Ideal) x0 x1 (ValueIdx.ix2 r 0) = NormRows.inv (NormRows.rowOf (k0_pay9 (F := Ideal) x0 x1) r) :=
  congrArg Ideal.rsqrt (mean_at x0 x1 r)

theorem factor_at (r : Fin 512) :
    (mulf (broadcast S512x1 (Scalar.ofBits (F := Ideal) .f32 0xBF000000#32)) (divf (k0_pay11 (F := Ideal) x0 x1) (k0_pay10 (F := Ideal) x0 x1)) : FVec Ideal S512x1 .f32) (ValueIdx.ix2 r 0)
      = (NormRows.negHalf * Ideal.div (NormRows.inv (NormRows.rowOf (k0_pay9 (F := Ideal) x0 x1) r)) (NormRows.mean (NormRows.rowOf (k0_pay9 (F := Ideal) x0 x1) r)) : EReal) :=
  congrArg (fun z : EReal => NormRows.negHalf * z) (congrArg₂ Ideal.div (inv_at x0 x1 r) (mean_at x0 x1 r))

theorem back_rows (r : Fin 512) (k : Fin 1024) : k0_pay1 (F := Ideal) (k0_pay15 x0 x1 x2 x3) (k0_pay16 x0 x1 x2 x3) (ValueIdx.ix2 r k)
    = NormRows.back (NormRows.rowOf (k0_pay9 (F := Ideal) x0 x1) r) (fun j => x2 (ValueIdx.ix2 0 j)) (NormRows.rowOf x3 r) (fun _ => 0) k := by
  refine (add_zero (M := EReal) _).symm.trans ?_
  exact NormRows.back_at x3 (k0_pay9 (F := Ideal) x0 x1) (fun _ => (0 : EReal)) x2 (k0_pay11 (F := Ideal) x0 x1)
    (mulf (broadcast S512x1 (Scalar.ofBits (F := Ideal) .f32 0xBF000000#32)) (divf (k0_pay11 (F := Ideal) x0 x1) (k0_pay10 (F := Ideal) x0 x1)))
    reduces_S512x1024_S512 reduces_S512x1_S512 (.inl rfl) rfl shapeCasts_S512_S512x1
    broadcasts_S512x1_S512x1024 broadcasts_S1x1024_S512x1024 r k (inv_at x0 x1 r) (factor_at x0 x1 r)

theorem weight_rows (acc : Vec Ideal S1x1024 .f32) (k : Fin 1024) : k0_pay5 (F := Ideal) (k0_pay12 x0 x1 x3) acc (ValueIdx.ix2 0 k)
    = (acc (ValueIdx.ix2 0 k) + ∑ r : Fin 512, NormRows.weight (NormRows.rowOf (k0_pay9 (F := Ideal) x0 x1) r) (NormRows.rowOf x3 r) k : EReal) :=
  NormRows.weight_at x3 (k0_pay9 (F := Ideal) x0 x1) acc (k0_pay11 (F := Ideal) x0 x1) reduces_S512x1024_S1024 (.inl rfl) rfl
    shapeCasts_S1024_S1x1024 shapeCasts_S1x1024_S1x1024 broadcasts_S512x1_S512x1024 k (fun r => inv_at x0 x1 r)

/-- What a point stores in the two arrays of rows. -/
abbrev scannedOut : Vec Ideal S512x1024 .f32 := k0_pay2 (F := Ideal) (k0_pay8 x1) (k0_pay15 x0 x1 x2 x3) (k0_pay16 x0 x1 x2 x3)
abbrev gatesOut : Vec Ideal S512x1024 .bf16 := k0_pay3 (F := Ideal) x0 x1 (k0_pay6 x1) (k0_pay7 x1) (k0_pay15 x0 x1 x2 x3) (k0_pay16 x0 x1 x2 x3)

theorem scanned_rows (i : S512x1024.Idx) : scannedOut x0 x1 x3 x2 i = (k0_pay1 (F := Ideal) (k0_pay15 x0 x1 x2 x3) (k0_pay16 x0 x1 x2 x3) i * silu (x1 i) : EReal) := rfl

theorem gates_rows (i : S512x1024.Idx) : gatesOut x0 x1 x3 x2 i
    = siluBack (x1 i) (x0 i * k0_pay1 (F := Ideal) (k0_pay15 x0 x1 x2 x3) (k0_pay16 x0 x1 x2 x3) i : EReal) := by
  unfold siluBack
  rw [← one_eq]
  rfl

end

section
variable {c : Dev nD} {i : grid0.Coords} {arg1 : Memref sig .tc .vmem S512x1024 .f32} {harg1 : arg1.IsWhole} {arg2 : Memref sig .tc .vmem S512x1024 .f32} {harg2 : arg2.IsWhole}
    {arg3 : Memref sig .tc .vmem S1x1024 .f32} {harg3 : arg3.IsWhole} {arg4 : Memref sig .tc .vmem S512x1024 .f32} {harg4 : arg4.IsWhole}
    {arg5 : Memref sig .tc .vmem S512x1024 .f32} {harg5 : arg5.IsWhole} {arg6 : Memref sig .tc .vmem S512x1024 .bf16} {harg6 : arg6.IsWhole} {arg7 : Memref sig .tc .vmem S1x1024 .f32}
    {harg7 : arg7.IsWhole} {x0 x1 x3 : Vec Ideal S512x1024 .f32} {x2 : Vec Ideal S1x1024 .f32}

theorem first4 {hc0 : cond0_0 i} :
    out0_A_4 (F := Ideal) c i arg1 harg1 arg2 harg2 arg3 harg3 arg4 harg4 arg5 harg5 arg6 harg6 arg7 harg7 hc0 x0 x1 x2 x3
      = scannedOut x0 x1 x3 x2 := by
  unfold out0_A_4
  rw [View.read_writes_eq_canon _ _ _ (cover0_A_4 _ _ _ _ _ _ _ _ _ _ _ _ _ _ _ _ _ _ _ _ _)]
  unfold kernelRun0_A
  dsimp only
  try sl_unfold_words
  rw [View.canon_unit_zero NormRows.zeros]
  simp only [View.readAt_eq_ld, harg1.read_unread, harg2.read_unread, harg3.read_unread, harg4.read_unread, harg5.read_unread, harg6.read_unread, harg7.read_unread,
    View.ld_unit_zero (S := S512x1024) NormRows.zeros, View.ld_unit_zero (S := S1x1024) NormRows.zeros, shapeCast_self]

theorem first5 {hc0 : cond0_0 i} :
    out0_A_5 (F := Ideal) c i arg1 harg1 arg2 harg2 arg3 harg3 arg4 harg4 arg5 harg5 arg6 harg6 arg7 harg7 hc0 x0 x1 x2 x3
      = gatesOut x0 x1 x3 x2 := by
  unfold out0_A_5
  rw [View.read_writes_eq_canon _ _ _ (cover0_A_5 _ _ _ _ _ _ _ _ _ _ _ _ _ _ _ _ _ _ _ _ _)]
  unfold kernelRun0_A
  dsimp only
  try sl_unfold_words
  rw [View.canon_unit_zero NormRows.zeros]
  simp only [View.readAt_eq_ld, harg1.read_unread, harg2.read_unread, harg3.read_unread, harg4.read_unread, harg5.read_unread, harg6.read_unread, harg7.read_unread,
    View.ld_unit_zero (S := S512x1024) NormRows.zeros, View.ld_unit_zero (S := S1x1024) NormRows.zeros, shapeCast_self]

theorem first6 {hc0 : cond0_0 i} :
    out0_A_6 (F := Ideal) c i arg1 harg1 arg2 harg2 arg3 harg3 arg4 harg4 arg5 harg5 arg6 harg6 arg7 harg7 hc0 x0 x1 x2 x3
      = k0_pay5 (F := Ideal) (k0_pay12 x0 x1 x3) (k0_pay4 (F := Ideal)) := by
  unfold out0_A_6
  rw [View.read_writes_eq_canon _ _ _ (cover0_A_6 _ _ _ _ _ _ _ _ _ _ _ _ _ _ _ _ _ _ _ _ _)]
  unfold kernelRun0_A
  dsimp only
  try sl_unfold_words
  rw [View.canon_cons_unit_zero (S := S1x1024) NormRows.zeros, View.readCov_unit_zero (S := S1x1024) _ NormRows.zeros]
  simp only [View.readAt_eq_ld, harg1.read_unread, harg2.read_unread, harg3.read_unread, harg4.read_unread, harg5.read_unread, harg6.read_unread, harg7.read_unread,
    View.ld_unit_zero (S := S512x1024) NormRows.zeros, View.ld_unit_zero (S := S1x1024) NormRows.zeros, shapeCast_self]

theorem later4 {hc0 : ¬cond0_0 i} {xo6 : Vec Ideal S1x1024 .f32} :
    out0_B_4 (F := Ideal) c i arg1 harg1 arg2 harg2 arg3 harg3 arg4 harg4 arg5 harg5 arg6 harg6 arg7 harg7 hc0 x0 x1 x2 x3 xo6
      = scannedOut x0 x1 x3 x2 := by
  unfold out0_B_4
  rw [View.read_writes_eq_canon _ _ _ (cover0_B_4 _ _ _ _ _ _ _ _ _ _ _ _ _ _ _ _ _ _ _ _ _ _)]
  unfold kernelRun0_B
  dsimp only
  try sl_unfold_words
  rw [View.canon_unit_zero NormRows.zeros]
  simp only [View.readAt_eq_ld, harg1.read_unread, harg2.read_unread, harg3.read_unread, harg4.read_unread, harg5.read_unread, harg6.read_unread, harg7.read_unread,
    View.ld_unit_zero (S := S512x1024) NormRows.zeros, View.ld_unit_zero (S := S1x1024) NormRows.zeros, shapeCast_self]

theorem later5 {hc0 : ¬cond0_0 i} {xo6 : Vec Ideal S1x1024 .f32} :
    out0_B_5 (F := Ideal) c i arg1 harg1 arg2 harg2 arg3 harg3 arg4 harg4 arg5 harg5 arg6 harg6 arg7 harg7 hc0 x0 x1 x2 x3 xo6
      = gatesOut x0 x1 x3 x2 := by
  unfold out0_B_5
  rw [View.read_writes_eq_canon _ _ _ (cover0_B_5 _ _ _ _ _ _ _ _ _ _ _ _ _ _ _ _ _ _ _ _ _ _)]
  unfold kernelRun0_B
  dsimp only
  try sl_unfold_words
  rw [View.canon_unit_zero NormRows.zeros]
  simp only [View.readAt_eq_ld, harg1.read_unread, harg2.read_unread, harg3.read_unread, harg4.read_unread, harg5.read_unread, harg6.read_unread, harg7.read_unread,
    View.ld_unit_zero (S := S512x1024) NormRows.zeros, View.ld_unit_zero (S := S1x1024) NormRows.zeros, shapeCast_self]

theorem later6 {hc0 : ¬cond0_0 i} {xo6 : Vec Ideal S1x1024 .f32} :
    out0_B_6 (F := Ideal) c i arg1 harg1 arg2 harg2 arg3 harg3 arg4 harg4 arg5 harg5 arg6 harg6 arg7 harg7 hc0 x0 x1 x2 x3 xo6
      = k0_pay5 (F := Ideal) (k0_pay12 x0 x1 x3) xo6 := by
  unfold out0_B_6
  rw [View.read_writes_eq_canon _ _ _ (cover0_B_6 _ _ _ _ _ _ _ _ _ _ _ _ _ _ _ _ _ _ _ _ _ _)]
  unfold kernelRun0_B
  dsimp only
  try sl_unfold_words
  rw [View.canon_unit_zero NormRows.zeros]
  simp only [View.readAt_eq_ld, harg1.read_unread, harg2.read_unread, harg3.read_unread, harg4.read_unread, harg5.read_unread, harg6.read_unread, harg7.read_unread,
    View.ld_unit_zero (S := S512x1024) NormRows.zeros, View.ld_unit_zero (S := S1x1024) NormRows.zeros, shapeCast_self]

end

theorem third {A B C : Type} {p : A × B × C} {a : A} {b : B} {d : C} (h : p = (a, b, d)) : p.2.2 = d := congrArg (fun q : A × B × C => q.2.2) h

variable (m : (ℓ : Loc nD τ sig) → Buf (Elt Ideal) ℓ) (ρ : Dev nD → PrngReg) (c : Dev nD)

abbrev arg0 : S8192x1024.Idx → EReal := m ((c.tc : Thread nD τ).loc main_arg0)
theorem index0 : ∀ t : Fin cfg0.N, win0_0.index t (0 : Fin 2) = t.val ∧ win0_0.index t (1 : Fin 2) = 0 :=
  (by decide +kernel : ∀ t : Fin grid0.N, _)
theorem block0 (t : Fin cfg0.N) (r : Fin 512) (k : Fin 1024) (p : Fin 8192) (hp : p.val = t.val * 512 + r.val) :
    (iblk m c 0 t : S512x1024.Idx → EReal) (ValueIdx.ix2 r k) = arg0 m c (ValueIdx.ix2 p k) := by
  obtain ⟨e0, e1⟩ := index0 t
  refine (congrFun (V_main_arg0 m c) _).trans (congrArg (arg0 m c) (funext fun a => Fin.ext ?_))
  match a with
  | ⟨0, _⟩ => show win0_0.index t (0 : Fin 2) * 512 + 1 * r.val = p.val; omega
  | ⟨1, _⟩ => show win0_0.index t (1 : Fin 2) * 1024 + 1 * k.val = k.val; omega

abbrev arg1 : S8192x1024.Idx → EReal := m ((c.tc : Thread nD τ).loc main_arg1)
theorem index1 : ∀ t : Fin cfg0.N, win0_1.index t (0 : Fin 2) = t.val ∧ win0_1.index t (1 : Fin 2) = 0 :=
  (by decide +kernel : ∀ t : Fin grid0.N, _)
theorem block1 (t : Fin cfg0.N) (r : Fin 512) (k : Fin 1024) (p : Fin 8192) (hp : p.val = t.val * 512 + r.val) :
    (iblk m c 1 t : S512x1024.Idx → EReal) (ValueIdx.ix2 r k) = arg1 m c (ValueIdx.ix2 p k) := by
  obtain ⟨e0, e1⟩ := index1 t
  refine (congrFun (V_main_arg1 m c) _).trans (congrArg (arg1 m c) (funext fun a => Fin.ext ?_))
  match a with
  | ⟨0, _⟩ => show win0_1.index t (0 : Fin 2) * 512 + 1 * r.val = p.val; omega
  | ⟨1, _⟩ => show win0_1.index t (1 : Fin 2) * 1024 + 1 * k.val = k.val; omega

abbrev arg2 : S1x1024.Idx → EReal := m ((c.tc : Thread nD τ).loc main_arg2)
theorem index2 : ∀ t : Fin cfg0.N, win0_2.index t (0 : Fin 2) = 0 ∧ win0_2.index t (1 : Fin 2) = 0 :=
  (by decide +kernel : ∀ t : Fin grid0.N, _)
theorem block2 (t : Fin cfg0.N) (cc : Fin 1024) :
    (iblk m c 2 t : S1x1024.Idx → EReal) (ValueIdx.ix2 0 cc) = arg2 m c (ValueIdx.ix2 0 cc) := by
  obtain ⟨e0, e1⟩ := index2 t
  refine (congrFun (V_main_arg2 m c) _).trans (congrArg (arg2 m c) (funext fun a => Fin.ext ?_))
  match a with
  | ⟨0, _⟩ => show win0_2.index t (0 : Fin 2) * 1 + 1 * 0 = 0; omega
  | ⟨1, _⟩ => show win0_2.index t (1 : Fin 2) * 1024 + 1 * cc.val = cc.val; omega

/-- The cotangent of the SSD's columns. -/
abbrev argG : S8192x1024.Idx → EReal := left (m ((c.tc : Thread nD τ).loc main_arg3))

theorem index3 : ∀ t : Fin cfg0.N, win0_3.index t (0 : Fin 2) = t.val ∧ win0_3.index t (1 : Fin 2) = 0 :=
  (by decide +kernel : ∀ t : Fin grid0.N, _)
theorem block3 (t : Fin cfg0.N) (r : Fin 512) (k : Fin 1024) (p : Fin 8192) (hp : p.val = t.val * 512 + r.val) :
    (X0_3 m c t : S512x1024.Idx → EReal) (ValueIdx.ix2 r k) = argG m c (ValueIdx.ix2 p k) := by
  obtain ⟨e0, e1⟩ := index3 t
  unfold X0_3 Pipeline.Window.fill
  rw [dif_pos (moved0_3 t _)]
  refine (congrFun (V_main_arg3 m c) _).trans (congrArg (m ((c.tc : Thread nD τ).loc main_arg3) : S8192x1536.Idx → EReal) (funext fun a => Fin.ext ?_))
  match a with
  | ⟨0, _⟩ => show win0_3.index t (0 : Fin 2) * 512 + 1 * r.val = p.val; omega
  | ⟨1, _⟩ => show win0_3.index t (1 : Fin 2) * 1024 + 1 * k.val = k.val; omega

/-- The gated rows. -/
abbrev argH : S8192x1024.Idx → EReal := gated (arg0 m c) (arg1 m c)

theorem rows_block (t : Fin cfg0.N) (r : Fin 512) (p : Fin 8192) (hp : p.val = t.val * 512 + r.val) :
    NormRows.rowOf (k0_pay9 (F := Ideal) (iblk m c 0 t) (iblk m c 1 t)) r = fun k => argH m c (ValueIdx.ix2 p k) :=
  funext fun k => congrArg₂ (fun x y : EReal => x * silu y) (block0 m c t r k p hp) (block1 m c t r k p hp)

theorem ct_block (t : Fin cfg0.N) (r : Fin 512) (p : Fin 8192) (hp : p.val = t.val * 512 + r.val) :
    NormRows.rowOf (X0_3 m c t) r = fun k => argG m c (ValueIdx.ix2 p k) :=
  funext fun k => block3 m c t r k p hp

theorem norm_weight (t : Fin cfg0.N) : (fun j => (iblk m c 2 t : S1x1024.Idx → EReal) (ValueIdx.ix2 0 j)) = fun k => arg2 m c (ValueIdx.ix2 0 k) :=
  funext fun k => block2 m c t k

theorem back_block (t : Fin cfg0.N) (r : Fin 512) (cc : Fin 1024) (p : Fin 8192) (hp : p.val = t.val * 512 + r.val) :
    k0_pay1 (F := Ideal) (k0_pay15 (iblk m c 0 t) (iblk m c 1 t) (iblk m c 2 t) (X0_3 m c t)) (k0_pay16 (iblk m c 0 t) (iblk m c 1 t) (iblk m c 2 t) (X0_3 m c t)) (ValueIdx.ix2 r cc)
      = back (argH m c) (arg2 m c) (argG m c) (ValueIdx.ix2 p cc) := by
  refine (back_rows _ _ _ _ r cc).trans ?_
  rw [rows_block m c t r p hp, ct_block m c t r p hp]
  exact congrArg (fun w => NormRows.back _ w _ _ cc) (norm_weight m c t)

theorem block_rows4 (t : Fin cfg0.N) (r : Fin 512) (cc : Fin 1024) (p : Fin 8192) (hp : p.val = t.val * 512 + r.val) :
    scannedOut (iblk m c 0 t) (iblk m c 1 t) (X0_3 m c t) (iblk m c 2 t) (ValueIdx.ix2 r cc) = scanned (arg0 m c) (arg1 m c) (arg2 m c) (argG m c) (ValueIdx.ix2 p cc) :=
  (scanned_rows _ _ _ _ _).trans (congrArg₂ (fun x y : EReal => x * silu y) (back_block m c t r cc p hp) (block1 m c t r cc p hp))

theorem block_rows5 (t : Fin cfg0.N) (r : Fin 512) (cc : Fin 1024) (p : Fin 8192) (hp : p.val = t.val * 512 + r.val) :
    gatesOut (iblk m c 0 t) (iblk m c 1 t) (X0_3 m c t) (iblk m c 2 t) (ValueIdx.ix2 r cc) = gates (arg0 m c) (arg1 m c) (arg2 m c) (argG m c) (ValueIdx.ix2 p cc) :=
  (gates_rows _ _ _ _ _).trans (congrArg₂ siluBack (block1 m c t r cc p hp)
    (congrArg₂ (fun x y : EReal => x * y) (block0 m c t r cc p hp) (back_block m c t r cc p hp)))

/-- The token of row `r` of a block. -/
abbrev token (n : Nat) (r : Fin 512) : Fin 8192 := ⟨(n * 512 + r.val) % 8192, Nat.mod_lt _ (by decide)⟩

theorem token_val (t : Fin cfg0.N) (r : Fin 512) : (token t.val r).val = t.val * 512 + r.val := by
  have hN : cfg0.N = 16 := N_0
  have ht := t.isLt
  have hr := r.isLt
  show (t.val * 512 + r.val) % 8192 = _
  omega

/-- A block's part of the gradient of the norm's weight. -/
def blockPart (n : Nat) : S1x1024.Idx → EReal := fun i => ∑ r : Fin 512, part (argH m c) (argG m c) (i 1 : Fin 1024) (token n r)

theorem sum_block (t : Fin cfg0.N) (acc : Vec Ideal S1x1024 .f32) (i : S1x1024.Idx) :
    k0_pay5 (F := Ideal) (k0_pay12 (iblk m c 0 t) (iblk m c 1 t) (X0_3 m c t)) acc i = (acc i + blockPart m c t.val i : EReal) := by
  obtain ⟨z, k, rfl⟩ : ∃ (z : Fin 1) (k : Fin 1024), i = ValueIdx.ix2 z k := ⟨_, _, ValueIdx.eq_ix2 i⟩
  obtain rfl : z = 0 := Fin.ext (Nat.lt_one_iff.mp z.isLt)
  refine (weight_rows _ _ _ acc k).trans ?_
  refine congrArg (fun z : EReal => acc (ValueIdx.ix2 0 k) + z) (Finset.sum_congr rfl fun r _ => ?_)
  rw [rows_block m c t r _ (token_val t r), ct_block m c t r _ (token_val t r)]
  rfl

/-! ## The arrays the blocks make -/

theorem place4 : ∀ t : Fin cfg0.N, win0_4.index t (0 : Fin 2) = t.val ∧ win0_4.index t (1 : Fin 2) = 0 :=
  (by decide +kernel : ∀ t : Fin grid0.N, _)

theorem out4 (t : Fin cfg0.N) (y : S512x1024.Idx) : (((cfg0.win 4).blk t).view.emb y (0 : Fin 2)).val = t.val * 512 + (y 0).val
    ∧ (((cfg0.win 4).blk t).view.emb y (1 : Fin 2)).val = (y 1).val := by
  obtain ⟨e0, e1⟩ := place4 t
  constructor
  · show win0_4.index t (0 : Fin 2) * 512 + 1 * (y 0).val = _; omega
  · show win0_4.index t (1 : Fin 2) * 1024 + 1 * (y 1).val = _; omega

theorem flushes4 : ∀ t : Fin cfg0.N, (cfg0.win 4).flush t = true := (by decide +kernel : ∀ t : Fin grid0.N, win0_4.flush t = true)

theorem covered4 (i : S8192x1024.Idx) : ∃ t : Fin cfg0.N, (cfg0.win 4).flush t = true ∧ i ∈ ((cfg0.win 4).blk t).view.set := by
  obtain ⟨t, y, rfl⟩ := NormRows.block_of N_0 (fun t y => ((cfg0.win 4).blk t).view.emb y) out4 i
  exact ⟨t, flushes4 t, ((cfg0.win 4).blk t).view.emb_mem_set y⟩

theorem result4 : (dats m 0 c).arrAt 4 cfg0.N = scanned (arg0 m c) (arg1 m c) (arg2 m c) (argG m c) := by
  refine (dats m 0 c).arrAt_eq_of_cover 4 (scanned (arg0 m c) (arg1 m c) (arg2 m c) (argG m c)) (fun t _ => ?_) covered4
  have hN : cfg0.N = 16 := N_0
  funext (y : S512x1024.Idx)
  obtain ⟨r, cc, rfl⟩ : ∃ r cc, y = ValueIdx.ix2 r cc := ⟨_, _, ValueIdx.eq_ix2 y⟩
  obtain ⟨hb0, hb1⟩ := out4 t (ValueIdx.ix2 r cc)
  have hp : t.val * 512 + r.val < 8192 := by have := t.isLt; have := r.isLt; omega
  have he : ((cfg0.win 4).blk t).view.emb (ValueIdx.ix2 r cc) = (ValueIdx.ix2 (⟨t.val * 512 + r.val, hp⟩ : Fin 8192) cc : S8192x1024.Idx) := funext fun a => Fin.ext (by
    match a with
    | ⟨0, _⟩ => exact hb0
    | ⟨1, _⟩ => exact hb1)
  refine Eq.trans ?_ ((block_rows4 m c t r cc ⟨t.val * 512 + r.val, hp⟩ rfl).trans (congrArg (scanned (arg0 m c) (arg1 m c) (arg2 m c) (argG m c)) he.symm))
  by_cases h0 : t.val % 16 = 0
  · refine (congrFun (flushed4_A m c t h0) _).trans ?_
    exact congrFun first4 (ValueIdx.ix2 r cc)
  · refine (congrFun (flushed4_B m c t h0) _).trans ?_
    exact congrFun later4 (ValueIdx.ix2 r cc)

theorem place5 : ∀ t : Fin cfg0.N, win0_5.index t (0 : Fin 2) = t.val ∧ win0_5.index t (1 : Fin 2) = 0 :=
  (by decide +kernel : ∀ t : Fin grid0.N, _)

theorem out5 (t : Fin cfg0.N) (y : S512x1024.Idx) : (((cfg0.win 5).blk t).view.emb y (0 : Fin 2)).val = t.val * 512 + (y 0).val
    ∧ (((cfg0.win 5).blk t).view.emb y (1 : Fin 2)).val = (y 1).val := by
  obtain ⟨e0, e1⟩ := place5 t
  constructor
  · show win0_5.index t (0 : Fin 2) * 512 + 1 * (y 0).val = _; omega
  · show win0_5.index t (1 : Fin 2) * 1024 + 1 * (y 1).val = _; omega

theorem flushes5 : ∀ t : Fin cfg0.N, (cfg0.win 5).flush t = true := (by decide +kernel : ∀ t : Fin grid0.N, win0_5.flush t = true)

theorem covered5 (i : S8192x1024.Idx) : ∃ t : Fin cfg0.N, (cfg0.win 5).flush t = true ∧ i ∈ ((cfg0.win 5).blk t).view.set := by
  obtain ⟨t, y, rfl⟩ := NormRows.block_of N_0 (fun t y => ((cfg0.win 5).blk t).view.emb y) out5 i
  exact ⟨t, flushes5 t, ((cfg0.win 5).blk t).view.emb_mem_set y⟩

theorem result5 : (dats m 0 c).arrAt 5 cfg0.N = gates (arg0 m c) (arg1 m c) (arg2 m c) (argG m c) := by
  refine (dats m 0 c).arrAt_eq_of_cover 5 (gates (arg0 m c) (arg1 m c) (arg2 m c) (argG m c)) (fun t _ => ?_) covered5
  have hN : cfg0.N = 16 := N_0
  funext (y : S512x1024.Idx)
  obtain ⟨r, cc, rfl⟩ : ∃ r cc, y = ValueIdx.ix2 r cc := ⟨_, _, ValueIdx.eq_ix2 y⟩
  obtain ⟨hb0, hb1⟩ := out5 t (ValueIdx.ix2 r cc)
  have hp : t.val * 512 + r.val < 8192 := by have := t.isLt; have := r.isLt; omega
  have he : ((cfg0.win 5).blk t).view.emb (ValueIdx.ix2 r cc) = (ValueIdx.ix2 (⟨t.val * 512 + r.val, hp⟩ : Fin 8192) cc : S8192x1024.Idx) := funext fun a => Fin.ext (by
    match a with
    | ⟨0, _⟩ => exact hb0
    | ⟨1, _⟩ => exact hb1)
  refine Eq.trans ?_ ((block_rows5 m c t r cc ⟨t.val * 512 + r.val, hp⟩ rfl).trans (congrArg (gates (arg0 m c) (arg1 m c) (arg2 m c) (argG m c)) he.symm))
  by_cases h0 : t.val % 16 = 0
  · refine (congrFun (flushed5_A m c t h0) _).trans ?_
    exact congrFun first5 (ValueIdx.ix2 r cc)
  · refine (congrFun (flushed5_B m c t h0) _).trans ?_
    exact congrFun later5 (ValueIdx.ix2 r cc)

/-- What the first point of the grid starts the sum with, and what each later one adds. -/
def start (n : Nat) (h : n < cfg0.N) : S1x1024.Idx → EReal := k0_pay5 (F := Ideal) (k0_pay12 (iblk m c 0 ⟨n, h⟩) (iblk m c 1 ⟨n, h⟩) (X0_3 m c ⟨n, h⟩)) (k0_pay4 (F := Ideal))
def step (n : Nat) (h : n < cfg0.N) (acc : S1x1024.Idx → EReal) : S1x1024.Idx → EReal := k0_pay5 (F := Ideal) (k0_pay12 (iblk m c 0 ⟨n, h⟩) (iblk m c 1 ⟨n, h⟩) (X0_3 m c ⟨n, h⟩)) acc

theorem point_first (n : Nat) (h : n < cfg0.N) (hn : n % 16 = 0) : ((outsAt0 m c n h).2.2 : S1x1024.Idx → EReal) = start m c n h := by
  unfold start
  exact (third (outsAt0_A m c ⟨n, h⟩ hn)).trans first6

theorem point_later (n : Nat) (h : n + 1 < cfg0.N) (hn : ¬(n + 1) % 16 = 0) :
    ((outsAt0 m c (n + 1) h).2.2 : S1x1024.Idx → EReal) = step m c (n + 1) h (outsAt0 m c n (Nat.lt_of_succ_lt h)).2.2 := by
  unfold step
  exact (third (outsAt0_B m c ⟨n + 1, h⟩ hn)).trans later6

theorem sum_over_points (t : Fin cfg0.N) (h' : 16 * (t.val / 16) + t.val % 16 < cfg0.N) :
    ((outsAt0 m c t.val t.isLt).2.2 : S1x1024.Idx → EReal) = Pipeline.accAt (start m c) (step m c) (16 * (t.val / 16)) (t.val % 16) h' :=
  Pipeline.eq_accAt_of_mod (N := cfg0.N) (fun n h => ((outsAt0 m c n h).2.2 : S1x1024.Idx → EReal)) 16 (start m c) (step m c)
    (point_first m c) (point_later m c) (by decide) t.val t.isLt h'

theorem sum_last (t : Fin cfg0.N) (ht : t.val = 15) (i : S1x1024.Idx) : ((outsAt0 m c t.val t.isLt).2.2 : S1x1024.Idx → EReal) i = weights (argH m c) (argG m c) i := by
  have hN : cfg0.N = 16 := N_0
  have hd : 16 * (t.val / 16) = 0 := by omega
  have hm : t.val % 16 = 15 := by omega
  refine (congrFun (sum_over_points m c t (by omega)) i).trans ?_
  have h := Pipeline.accAt_add_apply (N := cfg0.N) (start m c) (step m c) (fun _ => (0 : EReal)) (blockPart m c) (16 * (t.val / 16)) 15
    (fun h i => (sum_block m c ⟨_, h⟩ (k0_pay4 (F := Ideal)) i).trans (congrArg (fun z : EReal => z + _) Ideal.ofBits_zero_f32))
    (fun n h acc i _ _ => sum_block m c ⟨n, h⟩ acc i) (t.val % 16) (by omega) (by omega) i
  refine h.trans ((zero_add _).trans ?_)
  rw [hm, hd]
  refine (Finset.sum_range _).trans (Eq.trans ?_ (Fin.sum_univ_tiles 16 512 rfl (part (argH m c) (argG m c) (i 1 : Fin 1024))).symm)
  refine Finset.sum_congr rfl fun s _ => Finset.sum_congr rfl fun r _ => congrArg (part (argH m c) (argG m c) (i 1 : Fin 1024)) (Fin.ext ?_)
  have hs := s.isLt
  have hr := r.isLt
  show ((0 + s.val) * 512 + r.val) % 8192 = s.val * 512 + r.val
  omega

theorem place6 : ∀ t : Fin cfg0.N, win0_6.index t (0 : Fin 2) = 0 ∧ win0_6.index t (1 : Fin 2) = 0 :=
  (by decide +kernel : ∀ t : Fin grid0.N, _)

theorem out6 (t : Fin cfg0.N) (y : S1x1024.Idx) : ((cfg0.win 6).blk t).view.emb y = y := by
  obtain ⟨e0, e1⟩ := place6 t
  funext a; apply Fin.ext
  match a with
  | ⟨0, _⟩ => show win0_6.index t (0 : Fin 2) * 1 + 1 * (y 0).val = (y 0).val; omega
  | ⟨1, _⟩ => show win0_6.index t (1 : Fin 2) * 1024 + 1 * (y 1).val = (y 1).val; omega

theorem flushes6 : ∀ t : Fin cfg0.N, ((cfg0.win 6).flush t = true ↔ t.val = 15) := (by decide +kernel : ∀ t : Fin grid0.N, (win0_6.flush t = true ↔ t.val = 15))

theorem covered6 (i : S1x1024.Idx) : ∃ t : Fin cfg0.N, (cfg0.win 6).flush t = true ∧ i ∈ ((cfg0.win 6).blk t).view.set := by
  have ht : 15 < cfg0.N := by have hN : cfg0.N = 16 := N_0; omega
  refine ⟨⟨15, ht⟩, (flushes6 _).mpr rfl, ?_⟩
  exact (congrArg (· ∈ _) (out6 ⟨15, ht⟩ i)).mp (((cfg0.win 6).blk ⟨15, ht⟩).view.emb_mem_set i)

theorem result6 : (dats m 0 c).arrAt 6 cfg0.N = weights (argH m c) (argG m c) := by
  refine (dats m 0 c).arrAt_eq_of_cover 6 (weights (argH m c) (argG m c)) (fun t hf => ?_) covered6
  refine (flushed6 m c t).trans ?_
  funext (y : S1x1024.Idx)
  exact (sum_last m c t ((flushes6 t).mp hf) y).trans (congrArg (weights (argH m c) (argG m c)) (out6 t y).symm)

/-! ## The reference -/

section
variable (x0 x1 : (⟨S8192x1024, .f32⟩ : BufTy).Contents (Elt Ideal)) (x2 : (⟨S1x1024, .f32⟩ : BufTy).Contents (Elt Ideal)) (x3 : (⟨S8192x1536, .f32⟩ : BufTy).Contents (Elt Ideal))

theorem reference_logistic (i : S8192x1024.Idx) : val_main_v0_2 (F := Ideal) x1 i = Ideal.logistic (x1 i) := by
  refine (congrArg₂ Ideal.div ((val_main_call0_v4_apply _).trans one_eq) ?_)
  exact congrArg (fun z : EReal => z + Ideal.exp (-(x1 i : EReal))) ((val_main_call0_v2_apply _).trans one_eq)

theorem reference_silu (i : S8192x1024.Idx) : val_main_v0_0 (F := Ideal) x1 i = silu (x1 i) :=
  congrArg (fun z : EReal => x1 i * z) (reference_logistic x1 i)

theorem reference_rows : val_main_v1 (F := Ideal) x0 x1 = gated x0 x1 :=
  funext fun i => congrArg (fun z : EReal => x0 i * z) (reference_silu x1 i)

theorem reference_left : val_main_v17 (F := Ideal) x3 = left x3 :=
  funext fun i => (val_main_v17_apply _ _).trans (congrArg x3 (funext fun a => Fin.ext (by match a with | ⟨0, _⟩ => rfl | ⟨1, _⟩ => rfl)))

theorem reference_mean (p : Fin 8192) : val_main_v8 (F := Ideal) x0 x1 (ValueIdx.ix2 p 0) = NormRows.mean (fun k => gated x0 x1 (ValueIdx.ix2 p k)) := by
  refine congrArg₂ (fun x y : EReal => x + y) (congrArg₂ Ideal.div ?_ (val_main_v5_apply _)) (val_main_v7_apply _)
  refine (val_main_v4_apply _ _ _).trans ((val_main_v3_apply _ _ _).trans ((congrArg (fun z : EReal => z + _) Ideal.ofBits_zero_f32).trans ((zero_add _).trans (Finset.sum_congr rfl fun k _ => ?_))))
  refine (congrArg (val_main_v2 (F := Ideal) x0 x1) (NormRows.token_index _ p k rfl rfl)).trans ?_
  exact congrArg (fun z : EReal => z * z) (congrFun (reference_rows x0 x1) (ValueIdx.ix2 p k))

theorem reference_inv (p : Fin 8192) : val_main_v9 (F := Ideal) x0 x1 (ValueIdx.ix2 p 0) = NormRows.inv (fun k => gated x0 x1 (ValueIdx.ix2 p k)) :=
  congrArg Ideal.rsqrt (reference_mean x0 x1 p)

theorem reference_factor (p : Fin 8192) : val_main_v12 (F := Ideal) x0 x1 (ValueIdx.ix2 p 0)
    = (NormRows.negHalf * Ideal.div (NormRows.inv (fun k => gated x0 x1 (ValueIdx.ix2 p k))) (NormRows.mean (fun k => gated x0 x1 (ValueIdx.ix2 p k))) : EReal) :=
  congrArg₂ (fun x y : EReal => x * y) (val_main_v11_apply _) (congrArg₂ Ideal.div (reference_inv x0 x1 p) (reference_mean x0 x1 p))

theorem reference_normed (p : Fin 8192) (k : Fin 1024) : val_main_v14 (F := Ideal) x0 x1 (ValueIdx.ix2 p k)
    = (gated x0 x1 (ValueIdx.ix2 p k) * NormRows.inv (fun k => gated x0 x1 (ValueIdx.ix2 p k)) : EReal) := by
  refine congrArg₂ (fun x y : EReal => x * y) (congrFun (reference_rows x0 x1) _) ?_
  exact (val_main_v13_apply _ _ _).trans ((congrArg (val_main_v9 (F := Ideal) x0 x1) (NormRows.column_index _ p rfl)).trans (reference_inv x0 x1 p))

theorem reference_scaled (p : Fin 8192) (k : Fin 1024) : val_main_v22 (F := Ideal) x2 x3 (ValueIdx.ix2 p k) = (left x3 (ValueIdx.ix2 p k) * x2 (ValueIdx.ix2 0 k) : EReal) :=
  congrArg₂ (fun x y : EReal => x * y) (congrFun (reference_left x3) _) ((val_main_v21_apply _ _).trans (congrArg x2 (NormRows.weight_index _ k rfl)))

theorem reference_slope (p : Fin 8192) (k : Fin 1024) : val_main_v32 (F := Ideal) x0 x1 x2 x3 (ValueIdx.ix2 p k)
    = NormRows.slope (fun k => gated x0 x1 (ValueIdx.ix2 p k)) (fun j => left x3 (ValueIdx.ix2 p j) * x2 (ValueIdx.ix2 0 j)) := by
  refine (val_main_v32_apply _ _ _ _ _).trans ((val_main_v31_apply _ _ _ _ _).trans ((congrArg (fun z : EReal => z + _) Ideal.ofBits_zero_f32).trans ((zero_add _).trans ((Fin.sum_univ_one _).trans ?_))))
  refine (congrArg (val_main_v30 (F := Ideal) x0 x1 x2 x3) (NormRows.column_index _ p rfl)).trans (congrArg₂ Ideal.div ?_ (val_main_v29_apply _))
  refine congrArg₂ (fun x y : EReal => x * y) ?_ (reference_factor x0 x1 p)
  refine (val_main_v25_apply _ _ _ _ _).trans ((val_main_v24_apply _ _ _ _ _).trans ((congrArg (fun z : EReal => z + _) Ideal.ofBits_zero_f32).trans ((zero_add _).trans (Finset.sum_congr rfl fun j _ => ?_))))
  refine (congrArg (val_main_v23 (F := Ideal) x0 x1 x2 x3) (NormRows.token_index _ p j (show p.val * 1 + 0 = p.val by omega) rfl)).trans ?_
  exact congrArg₂ (fun x y : EReal => x * y) (congrFun (reference_rows x0 x1) _) (reference_scaled x2 x3 p j)

theorem reference_back : val_main_v36 (F := Ideal) x0 x1 x2 x3 = back (gated x0 x1) x2 (left x3) := by
  funext i
  obtain ⟨p, k, rfl⟩ : ∃ p k, i = ValueIdx.ix2 p k := ⟨_, _, ValueIdx.eq_ix2 i⟩
  refine Eq.trans ?_ (add_zero (M := EReal) _).symm
  have hS := reference_slope x0 x1 x2 x3 p k
  have hR := congrFun (reference_rows x0 x1) (ValueIdx.ix2 p k)
  refine congrArg₂ (fun x y : EReal => x + y) (congrArg₂ (fun x y : EReal => x + y) ?_
    (congrArg₂ (fun x y : EReal => x * y) hR hS)) (congrArg₂ (fun x y : EReal => x * y) hS hR)
  refine congrArg₂ (fun x y : EReal => x * y) (reference_scaled x2 x3 p k) ?_
  exact (val_main_v26_apply _ _ _).trans ((congrArg (val_main_v9 (F := Ideal) x0 x1) (NormRows.column_index _ p rfl)).trans (reference_inv x0 x1 p))

theorem reference_scanned : val_main_v38 (F := Ideal) x0 x1 x2 x3 = scanned x0 x1 x2 (left x3) :=
  funext fun i => congrArg₂ (fun x y : EReal => x * y) (congrFun (reference_back x0 x1 x2 x3) i) (reference_silu x1 i)

theorem reference_gates : val_main_v40 (F := Ideal) x0 x1 x2 x3 = gates x0 x1 x2 (left x3) := by
  funext i
  have hL := reference_logistic x1 i
  have hQ : val_main_v37 (F := Ideal) x0 x1 x2 x3 i = (x0 i * back (gated x0 x1) x2 (left x3) i : EReal) :=
    congrArg (fun z : EReal => x0 i * z) (congrFun (reference_back x0 x1 x2 x3) i)
  refine congrArg₂ (fun x y : EReal => x + y) (congrArg₂ (fun x y : EReal => x * y) hQ hL)
    (congrArg₂ (fun x y : EReal => x * y) (congrArg (fun z : EReal => x1 i * z) hQ) (congrArg₂ (fun x y : EReal => x * y) hL ?_))
  exact congrArg₂ (fun x y : EReal => x - y) ((val_main_call0_v6_apply _).trans one_eq) hL

theorem reference_weights : val_main_v20 (F := Ideal) x0 x1 x3 = weights (gated x0 x1) (left x3) := by
  funext i
  refine (val_main_v20_apply _ _ _ _).trans ((val_main_v19_apply _ _ _ _).trans ((congrArg (fun z : EReal => z + _) Ideal.ofBits_zero_f32).trans ((zero_add _).trans (Finset.sum_congr rfl fun p _ => ?_))))
  refine (congrArg (val_main_v18 (F := Ideal) x0 x1 x3) (NormRows.token_index _ p (i 1 : Fin 1024) rfl (by
    have h0 : (i 0).val < 1 := (i 0).isLt
    show (i 0).val * 1024 + (i 1).val = (i 1).val
    omega))).trans ?_
  exact congrArg₂ (fun x y : EReal => x * y) (reference_normed x0 x1 p (i 1 : Fin 1024)) (congrFun (reference_left x3) _)

end

/-! ## The claims -/

theorem frame_reference : Cert.quiescent_Reference24Ideal := fun m ρ _ =>
  (θ_run Cert.Reference24Ideal.defs _ _).mono (fun _ h => ⟨fun c => (h c).2.2.2, sem_eq_zero_of_no_sems rfl _⟩) (Cert.Reference24Ideal.Value.run (F := Ideal) m ρ)

theorem algebraic : Cert.algebraic_Kernel24Ideal_Reference24Ideal := fun m ρ m' ρ' _ hag =>
  ⟨fun c => scanned (arg0 m c) (arg1 m c) (arg2 m c) (argG m c), fun c => gates (arg0 m c) (arg1 m c) (arg2 m c) (argG m c), fun c => weights (argH m c) (argG m c),
   (θ_run Cert.Kernel24Ideal.defs _ _).mono (fun _ h c => ⟨(h c).1.trans (result4 m c), (h c).2.1.trans (result5 m c), (h c).2.2.1.trans (result6 m c), (h c).2.2.2⟩) (Cert.Kernel24Ideal.Value.run_blocks (F := Ideal) m ρ),
   (θ_run Cert.Reference24Ideal.defs _ _).mono (fun _ h c => ⟨
      (h c).1.trans ((val_main_v38_eq m' c).trans (by
        rw [(hag c).1, (hag c).2.1, (hag c).2.2.1, (hag c).2.2.2]
        exact reference_scanned _ _ _ _)),
      (h c).2.1.trans ((val_main_v40_eq m' c).trans (by
        rw [(hag c).1, (hag c).2.1, (hag c).2.2.1, (hag c).2.2.2]
        exact reference_gates _ _ _ _)),
      (h c).2.2.1.trans ((val_main_v20_eq _ _ _).trans (by
        rw [(hag c).1, (hag c).2.1, (hag c).2.2.2]
        exact reference_weights _ _ _)), (h c).2.2.2⟩) (Cert.Reference24Ideal.Value.run (F := Ideal) m' ρ')⟩

end Cert.Gate24

end
-- ==== Proof.Gate25.lean ====
/- The gate and the norm after the SSD scan (`ssd_post`): each grid point gates and norms a block of rows. -/
module

public import proofs.«01_k».proof.Defs
public import proofs.«01_k».proof.Proof.Gen.Kernel25Ideal.Value
public import proofs.«01_k».proof.Proof.Gen.Reference25Ideal.Run
public import proofs.«01_k».proof.Proof.Gen.Reference25Ideal.Read
public import proofs.«01_k».proof.Proof.Gate24
public import Idealize.ShloMosaic.Lib.Pointwise.Sums
public import Idealize.ShloMosaic.Lib.Quiescent

@[expose] public section

set_option maxRecDepth 16384
set_option maxHeartbeats 1000000

noncomputable section

namespace Cert.Gate25

open Cert.Kernel25Ideal Cert.Kernel25Ideal.Gen Cert.Kernel25Ideal.Value
open Cert.Reference25Ideal.Read
open Idealize.ShloMosaic Idealize.ShloMosaic.TcCoe Idealize.SL.Sem

/-! ## A block -/

theorem norm_at (y z : Vec Ideal S512x1024 .f32) (w : Vec Ideal S1x1024 .f32) (r : Fin 512) (k : Fin 1024) :
    k0_pay1 (F := Ideal) y z w (ValueIdx.ix2 r k)
      = NormRows.norm (fun j => y (ValueIdx.ix2 r j) * Gate24.silu (z (ValueIdx.ix2 r j))) (fun j => w (ValueIdx.ix2 0 j)) k :=
  NormRows.norm_at (mulf y (mulf z (logistic z))) w reduces_S512x1024_S512 (.inl rfl) rfl shapeCasts_S512_S512x1
    broadcasts_S512x1_S512x1024 broadcasts_S1x1024_S512x1024 r k

/-! ## The blocks a grid point works on -/

variable (m : (ℓ : Loc nD τ sig) → Buf (Elt Ideal) ℓ) (ρ : Dev nD → PrngReg) (c : Dev nD)

abbrev arg0 : S8192x1024.Idx → EReal := m ((c.tc : Thread nD τ).loc main_arg0)
abbrev arg1 : S8192x1024.Idx → EReal := m ((c.tc : Thread nD τ).loc main_arg1)
abbrev arg2 : S1x1024.Idx → EReal := m ((c.tc : Thread nD τ).loc main_arg2)

/-- The gated rows normed. -/
abbrev rows : S8192x1024.Idx → EReal := NormRows.normed (Gate24.gated (arg0 m c) (arg1 m c)) (arg2 m c)

theorem index0 : ∀ t : Fin cfg0.N, win0_0.index t (0 : Fin 2) = t.val ∧ win0_0.index t (1 : Fin 2) = 0 :=
  (by decide +kernel : ∀ t : Fin grid0.N, _)
theorem block0 (t : Fin cfg0.N) (r : Fin 512) (k : Fin 1024) (p : Fin 8192) (hp : p.val = t.val * 512 + r.val) :
    (iblk m c 0 t : S512x1024.Idx → EReal) (ValueIdx.ix2 r k) = arg0 m c (ValueIdx.ix2 p k) := by
  obtain ⟨e0, e1⟩ := index0 t
  refine congrArg (arg0 m c) (funext fun a => Fin.ext ?_)
  match a with
  | ⟨0, _⟩ => show win0_0.index t (0 : Fin 2) * 512 + 1 * r.val = p.val; omega
  | ⟨1, _⟩ => show win0_0.index t (1 : Fin 2) * 1024 + 1 * k.val = k.val; omega

theorem index1 : ∀ t : Fin cfg0.N, win0_1.index t (0 : Fin 2) = t.val ∧ win0_1.index t (1 : Fin 2) = 0 :=
  (by decide +kernel : ∀ t : Fin grid0.N, _)
theorem block1 (t : Fin cfg0.N) (r : Fin 512) (k : Fin 1024) (p : Fin 8192) (hp : p.val = t.val * 512 + r.val) :
    (iblk m c 1 t : S512x1024.Idx → EReal) (ValueIdx.ix2 r k) = arg1 m c (ValueIdx.ix2 p k) := by
  obtain ⟨e0, e1⟩ := index1 t
  refine congrArg (arg1 m c) (funext fun a => Fin.ext ?_)
  match a with
  | ⟨0, _⟩ => show win0_1.index t (0 : Fin 2) * 512 + 1 * r.val = p.val; omega
  | ⟨1, _⟩ => show win0_1.index t (1 : Fin 2) * 1024 + 1 * k.val = k.val; omega

theorem index2 : ∀ t : Fin cfg0.N, win0_2.index t (0 : Fin 2) = 0 ∧ win0_2.index t (1 : Fin 2) = 0 :=
  (by decide +kernel : ∀ t : Fin grid0.N, _)
theorem block2 (t : Fin cfg0.N) (k : Fin 1024) : (iblk m c 2 t : S1x1024.Idx → EReal) (ValueIdx.ix2 0 k) = arg2 m c (ValueIdx.ix2 0 k) := by
  obtain ⟨e0, e1⟩ := index2 t
  refine congrArg (arg2 m c) (funext fun a => Fin.ext ?_)
  match a with
  | ⟨0, _⟩ => show win0_2.index t (0 : Fin 2) * 1 + 1 * 0 = 0; omega
  | ⟨1, _⟩ => show win0_2.index t (1 : Fin 2) * 1024 + 1 * k.val = k.val; omega

/-! ## The array the blocks make -/

theorem place3 : ∀ t : Fin cfg0.N, win0_3.index t (0 : Fin 2) = t.val ∧ win0_3.index t (1 : Fin 2) = 0 :=
  (by decide +kernel : ∀ t : Fin grid0.N, _)

theorem out3 (t : Fin cfg0.N) (y : S512x1024.Idx) : (((cfg0.win 3).blk t).view.emb y (0 : Fin 2)).val = t.val * 512 + (y 0).val
    ∧ (((cfg0.win 3).blk t).view.emb y (1 : Fin 2)).val = (y 1).val := by
  obtain ⟨e0, e1⟩ := place3 t
  constructor
  · show win0_3.index t (0 : Fin 2) * 512 + 1 * (y 0).val = _; omega
  · show win0_3.index t (1 : Fin 2) * 1024 + 1 * (y 1).val = _; omega

theorem flushes3 : ∀ t : Fin cfg0.N, (cfg0.win 3).flush t = true := (by decide +kernel : ∀ t : Fin grid0.N, win0_3.flush t = true)

theorem covered3 (i : S8192x1024.Idx) : ∃ t : Fin cfg0.N, (cfg0.win 3).flush t = true ∧ i ∈ ((cfg0.win 3).blk t).view.set := by
  obtain ⟨t, y, rfl⟩ := NormRows.block_of N_0 (fun t y => ((cfg0.win 3).blk t).view.emb y) out3 i
  exact ⟨t, flushes3 t, ((cfg0.win 3).blk t).view.emb_mem_set y⟩

theorem result3 : (dats m 0 c).arrAt 3 cfg0.N = rows m c := by
  refine (dats m 0 c).arrAt_eq_of_cover 3 (rows m c) (fun t _ => ?_) covered3
  refine (flushed3 m c t).trans ?_
  funext (y : S512x1024.Idx)
  obtain ⟨r, k, rfl⟩ : ∃ r k, y = ValueIdx.ix2 r k := ⟨_, _, ValueIdx.eq_ix2 y⟩
  show out0_3 (iblk m c 0 t) (iblk m c 1 t) (iblk m c 2 t) (ValueIdx.ix2 r k)
    = rows m c (((cfg0.win 3).blk t).view.emb (ValueIdx.ix2 r k))
  unfold out0_3
  refine (congrFun (View.canon_unit_zero (S := S512x1024) (by decide) _ _) _).trans ?_
  simp only [View.ld_unit_zero (S := S512x1024) NormRows.zeros, View.ld_unit_zero (S := S1x1024) NormRows.zeros]
  obtain ⟨p, hp, he⟩ := NormRows.block_row N_0 (fun t y => ((cfg0.win 3).blk t).view.emb y) out3 t r k
  refine (norm_at _ _ _ r k).trans (Eq.trans ?_ (congrArg (rows m c) he.symm))
  exact congrArg₂ (fun h w => NormRows.norm h w k)
    (funext fun j => congrArg₂ (fun y z : EReal => y * Gate24.silu z) (block0 m c t r j p hp) (block1 m c t r j p hp)) (funext fun j => block2 m c t j)

/-! ## The reference -/

section
variable (x0 x1 : (⟨S8192x1024, .f32⟩ : BufTy).Contents (Elt Ideal)) (x2 : (⟨S1x1024, .f32⟩ : BufTy).Contents (Elt Ideal))

theorem reference_rows : val_main_v1 (F := Ideal) x0 x1 = Gate24.gated x0 x1 := by
  funext i
  refine congrArg (fun z : EReal => x0 i * (x1 i * z)) (congrArg₂ Ideal.div ((val_main_call0_v4_apply _).trans Gate24.one_eq) ?_)
  exact congrArg (fun z : EReal => z + Ideal.exp (-(x1 i : EReal))) ((val_main_call0_v2_apply _).trans Gate24.one_eq)

theorem reference_mean (p : Fin 8192) : val_main_v8 (F := Ideal) x0 x1 (ValueIdx.ix2 p 0) = NormRows.mean (fun k => Gate24.gated x0 x1 (ValueIdx.ix2 p k)) := by
  refine congrArg₂ (fun x y : EReal => x + y) (congrArg₂ Ideal.div ?_ (val_main_v5_apply _)) (val_main_v7_apply _)
  refine (val_main_v4_apply _ _ _).trans ((val_main_v3_apply _ _ _).trans ((congrArg (fun z : EReal => z + _) Ideal.ofBits_zero_f32).trans ((zero_add _).trans (Finset.sum_congr rfl fun k _ => ?_))))
  refine (congrArg (val_main_v2 (F := Ideal) x0 x1) (NormRows.token_index _ p k rfl rfl)).trans ?_
  exact congrArg (fun z : EReal => z * z) (congrFun (reference_rows x0 x1) (ValueIdx.ix2 p k))

theorem reference_normed : val_main_v14 (F := Ideal) x0 x1 x2 = NormRows.normed (Gate24.gated x0 x1) x2 := by
  funext i
  obtain ⟨p, k, rfl⟩ : ∃ p k, i = ValueIdx.ix2 p k := ⟨_, _, ValueIdx.eq_ix2 i⟩
  refine congrArg₂ (fun x y : EReal => x * y) (congrArg₂ (fun x y : EReal => x * y) (congrFun (reference_rows x0 x1) _) ?_) ?_
  · refine (val_main_v10_apply _ _ _).trans (congrArg Ideal.rsqrt ?_)
    exact (congrArg (val_main_v8 (F := Ideal) x0 x1) (NormRows.column_index _ p rfl)).trans (reference_mean x0 x1 p)
  · exact (val_main_v12_apply _ _).trans (congrArg x2 (NormRows.weight_index _ k rfl))

end

/-! ## The claims -/

theorem frame_reference : Cert.quiescent_Reference25Ideal := fun m ρ _ =>
  (θ_run Cert.Reference25Ideal.defs _ _).mono (fun _ h => ⟨fun c => (h c).2, sem_eq_zero_of_no_sems rfl _⟩) (Cert.Reference25Ideal.Value.run (F := Ideal) m ρ)

theorem algebraic : Cert.algebraic_Kernel25Ideal_Reference25Ideal := fun m ρ m' ρ' _ hag =>
  ⟨fun c => rows m c,
   (θ_run Cert.Kernel25Ideal.defs _ _).mono (fun _ h c => ⟨(h c).1.trans (result3 m c), (h c).2⟩) (Cert.Kernel25Ideal.Value.run_blocks (F := Ideal) m ρ),
   (θ_run Cert.Reference25Ideal.defs _ _).mono (fun _ h c => ⟨
      (h c).1.trans ((val_main_v14_eq _ _ _).trans (by
        rw [(hag c).1, (hag c).2.1, (hag c).2.2]
        exact reference_normed _ _ _)), (h c).2⟩) (Cert.Reference25Ideal.Value.run (F := Ideal) m' ρ')⟩

end Cert.Gate25

end
-- ==== Proof.Norm26.lean ====
/- The first RMS norm (`rms_mix`): each grid point norms a block of rows. -/
module

public import proofs.«01_k».proof.Defs
public import proofs.«01_k».proof.Proof.Gen.Kernel26Ideal.Value
public import proofs.«01_k».proof.Proof.Gen.Reference26Ideal.Run
public import proofs.«01_k».proof.Proof.Gen.Reference26Ideal.Read
public import proofs.«01_k».proof.Proof.NormRows
public import Idealize.ShloMosaic.Lib.Pointwise.Sums
public import Idealize.ShloMosaic.Lib.Quiescent

@[expose] public section

set_option maxRecDepth 16384
set_option maxHeartbeats 1000000

noncomputable section

namespace Cert.Norm26

open Cert.Kernel26Ideal Cert.Kernel26Ideal.Gen Cert.Kernel26Ideal.Value
open Cert.Reference26Ideal.Read
open Idealize.ShloMosaic Idealize.ShloMosaic.TcCoe Idealize.SL.Sem

/-! ## A block -/

theorem norm_at (x : Vec Ideal S512x1024 .f32) (w : Vec Ideal S1x1024 .f32) (r : Fin 512) (k : Fin 1024) :
    k0_pay1 (F := Ideal) x w (ValueIdx.ix2 r k) = NormRows.norm (NormRows.rowOf x r) (fun j => w (ValueIdx.ix2 0 j)) k :=
  NormRows.norm_at x w reduces_S512x1024_S512 (.inl rfl) rfl shapeCasts_S512_S512x1 broadcasts_S512x1_S512x1024 broadcasts_S1x1024_S512x1024 r k

/-! ## The blocks a grid point works on -/

variable (m : (ℓ : Loc nD τ sig) → Buf (Elt Ideal) ℓ) (ρ : Dev nD → PrngReg) (c : Dev nD)

abbrev arg0 : S8192x1024.Idx → EReal := m ((c.tc : Thread nD τ).loc main_arg0)
abbrev arg1 : S1x1024.Idx → EReal := m ((c.tc : Thread nD τ).loc main_arg1)

theorem index0 : ∀ t : Fin cfg0.N, win0_0.index t (0 : Fin 2) = t.val ∧ win0_0.index t (1 : Fin 2) = 0 :=
  (by decide +kernel : ∀ t : Fin grid0.N, _)
theorem block0 (t : Fin cfg0.N) (r : Fin 512) (k : Fin 1024) (p : Fin 8192) (hp : p.val = t.val * 512 + r.val) :
    (iblk m c 0 t : S512x1024.Idx → EReal) (ValueIdx.ix2 r k) = arg0 m c (ValueIdx.ix2 p k) := by
  obtain ⟨e0, e1⟩ := index0 t
  refine congrArg (arg0 m c) (funext fun a => Fin.ext ?_)
  match a with
  | ⟨0, _⟩ => show win0_0.index t (0 : Fin 2) * 512 + 1 * r.val = p.val; omega
  | ⟨1, _⟩ => show win0_0.index t (1 : Fin 2) * 1024 + 1 * k.val = k.val; omega

theorem index1 : ∀ t : Fin cfg0.N, win0_1.index t (0 : Fin 2) = 0 ∧ win0_1.index t (1 : Fin 2) = 0 :=
  (by decide +kernel : ∀ t : Fin grid0.N, _)
theorem block1 (t : Fin cfg0.N) (k : Fin 1024) : (iblk m c 1 t : S1x1024.Idx → EReal) (ValueIdx.ix2 0 k) = arg1 m c (ValueIdx.ix2 0 k) := by
  obtain ⟨e0, e1⟩ := index1 t
  refine congrArg (arg1 m c) (funext fun a => Fin.ext ?_)
  match a with
  | ⟨0, _⟩ => show win0_1.index t (0 : Fin 2) * 1 + 1 * 0 = 0; omega
  | ⟨1, _⟩ => show win0_1.index t (1 : Fin 2) * 1024 + 1 * k.val = k.val; omega

/-! ## The array the blocks make -/

theorem place2 : ∀ t : Fin cfg0.N, win0_2.index t (0 : Fin 2) = t.val ∧ win0_2.index t (1 : Fin 2) = 0 :=
  (by decide +kernel : ∀ t : Fin grid0.N, _)

theorem out2 (t : Fin cfg0.N) (y : S512x1024.Idx) : (((cfg0.win 2).blk t).view.emb y (0 : Fin 2)).val = t.val * 512 + (y 0).val
    ∧ (((cfg0.win 2).blk t).view.emb y (1 : Fin 2)).val = (y 1).val := by
  obtain ⟨e0, e1⟩ := place2 t
  constructor
  · show win0_2.index t (0 : Fin 2) * 512 + 1 * (y 0).val = _; omega
  · show win0_2.index t (1 : Fin 2) * 1024 + 1 * (y 1).val = _; omega

theorem flushes2 : ∀ t : Fin cfg0.N, (cfg0.win 2).flush t = true := (by decide +kernel : ∀ t : Fin grid0.N, win0_2.flush t = true)

theorem covered2 (i : S8192x1024.Idx) : ∃ t : Fin cfg0.N, (cfg0.win 2).flush t = true ∧ i ∈ ((cfg0.win 2).blk t).view.set := by
  obtain ⟨t, y, rfl⟩ := NormRows.block_of N_0 (fun t y => ((cfg0.win 2).blk t).view.emb y) out2 i
  exact ⟨t, flushes2 t, ((cfg0.win 2).blk t).view.emb_mem_set y⟩

theorem result2 : (dats m 0 c).arrAt 2 cfg0.N = NormRows.normed (arg0 m c) (arg1 m c) := by
  refine (dats m 0 c).arrAt_eq_of_cover 2 (NormRows.normed (arg0 m c) (arg1 m c)) (fun t _ => ?_) covered2
  refine (flushed2 m c t).trans ?_
  funext (y : S512x1024.Idx)
  obtain ⟨r, k, rfl⟩ : ∃ r k, y = ValueIdx.ix2 r k := ⟨_, _, ValueIdx.eq_ix2 y⟩
  show out0_2 (iblk m c 0 t) (iblk m c 1 t) (ValueIdx.ix2 r k)
    = NormRows.normed (arg0 m c) (arg1 m c) (((cfg0.win 2).blk t).view.emb (ValueIdx.ix2 r k))
  unfold out0_2
  refine (congrFun (View.canon_unit_zero (S := S512x1024) (by decide) _ _) _).trans ?_
  simp only [View.ld_unit_zero (S := S512x1024) NormRows.zeros, View.ld_unit_zero (S := S1x1024) NormRows.zeros]
  obtain ⟨p, hp, he⟩ := NormRows.block_row N_0 (fun t y => ((cfg0.win 2).blk t).view.emb y) out2 t r k
  refine (norm_at _ _ r k).trans (Eq.trans ?_ (congrArg (NormRows.normed (arg0 m c) (arg1 m c)) he.symm))
  exact congrArg₂ (fun h w => NormRows.norm h w k) (funext fun j => block0 m c t r j p hp) (funext fun j => block1 m c t j)

/-! ## The reference -/

section
variable (x0 : (⟨S8192x1024, .f32⟩ : BufTy).Contents (Elt Ideal)) (x1 : (⟨S1x1024, .f32⟩ : BufTy).Contents (Elt Ideal))

theorem reference_mean (p : Fin 8192) : val_main_v6 (F := Ideal) x0 (ValueIdx.ix2 p 0) = NormRows.mean (fun k => x0 (ValueIdx.ix2 p k)) := by
  refine congrArg₂ (fun x y : EReal => x + y) (congrArg₂ Ideal.div ?_ (val_main_v3_apply _)) (val_main_v5_apply _)
  refine (val_main_v2_apply _ _).trans ((val_main_v1_apply _ _).trans ((congrArg (fun z : EReal => z + _) Ideal.ofBits_zero_f32).trans ((zero_add _).trans (Finset.sum_congr rfl fun k _ => ?_))))
  exact congrArg (fun i : S8192x1024.Idx => (x0 i * x0 i : EReal)) (NormRows.token_index _ p k rfl rfl)

theorem reference_normed : val_main_v12 (F := Ideal) x0 x1 = NormRows.normed x0 x1 := by
  funext i
  obtain ⟨p, k, rfl⟩ : ∃ p k, i = ValueIdx.ix2 p k := ⟨_, _, ValueIdx.eq_ix2 i⟩
  refine congrArg₂ (fun x y : EReal => x * y) (congrArg (fun y : EReal => x0 (ValueIdx.ix2 p k) * y) ?_) ?_
  · refine (val_main_v8_apply _ _).trans (congrArg Ideal.rsqrt ?_)
    exact (congrArg (val_main_v6 (F := Ideal) x0) (NormRows.column_index _ p rfl)).trans (reference_mean x0 p)
  · exact (val_main_v10_apply _ _).trans (congrArg x1 (NormRows.weight_index _ k rfl))

end

/-! ## The claims -/

theorem frame_reference : Cert.quiescent_Reference26Ideal := fun m ρ _ =>
  (θ_run Cert.Reference26Ideal.defs _ _).mono (fun _ h => ⟨fun c => (h c).2, sem_eq_zero_of_no_sems rfl _⟩) (Cert.Reference26Ideal.Value.run (F := Ideal) m ρ)

theorem algebraic : Cert.algebraic_Kernel26Ideal_Reference26Ideal := fun m ρ m' ρ' _ hag =>
  ⟨fun c => NormRows.normed (arg0 m c) (arg1 m c),
   (θ_run Cert.Kernel26Ideal.defs _ _).mono (fun _ h c => ⟨(h c).1.trans (result2 m c), (h c).2⟩) (Cert.Kernel26Ideal.Value.run_blocks (F := Ideal) m ρ),
   (θ_run Cert.Reference26Ideal.defs _ _).mono (fun _ h c => ⟨
      (h c).1.trans ((val_main_v12_eq _ _).trans (by
        rw [(hag c).1, (hag c).2]
        exact reference_normed _ _)), (h c).2⟩) (Cert.Reference26Ideal.Value.run (F := Ideal) m' ρ')⟩

end Cert.Norm26

end
-- ==== Proof.Convs.lean ====
/- A sequence of 2048 numbers moved by a few places, zero outside it: as a kernel rotates a block of 256 channels and masks
   the rows that come from the other end. -/
module

public import Idealize.ShloMosaic.Lib.ValueIdx
public import Idealize.ShloMosaic.Lib.Pipeline.Value
public import Idealize.ShloMosaic.Lib.KernelVsHost
public import Idealize.ShloMosaic.PureOps.Ideal.Laws

@[expose] public section

set_option maxRecDepth 16384

noncomputable section

namespace Cert.Convs

open Idealize.ShloMosaic

/-- The sequence behind `half` zeros, and zeros after it. -/
def padded (half : Nat) (f : Fin 2048 → EReal) (n : Nat) : EReal :=
  if h : half ≤ n ∧ n < half + 2048 then f ⟨n - half, by omega⟩ else 0

theorem padded_center (half : Nat) (f : Fin 2048 → EReal) (r : Fin 2048) : padded half f (r.val + half) = f r := by
  have := r.isLt
  unfold padded
  rw [dif_pos ⟨by omega, by omega⟩]
  exact congrArg f (Fin.ext (Nat.add_sub_cancel _ _))

abbrev Block : Shape := ⟨2, ![2048, 256]⟩
abbrev Row : Shape := ⟨2, ![1, 256]⟩

/-- The mask of the rows that stay inside the sequence when moved. -/
abbrev inside (hi : Block.Iotas .tc 32 [0]) (by_ : BitVec 32) : IVec Block 1 :=
  andi (cmpi .sge (addi (iota .tc Block 32 [0] hi) (broadcast Block by_)) (broadcast Block 0#32))
    (cmpi .slt (addi (iota .tc Block 32 [0] hi) (broadcast Block by_)) (broadcast Block 2048#32))

/-- The words a move by `j - half` takes: the mask is where the row stays inside, and there the rotation reads that row. -/
def Moves (half j : Nat) (turn by_ : BitVec 32) : Prop :=
  ∀ r : Fin 2048, IntOp.andi (IntOp.cmpi .sge (IntOp.addi (BitVec.ofNat 32 r.val) by_) 0#32) (IntOp.cmpi .slt (IntOp.addi (BitVec.ofNat 32 r.val) by_) 2048#32)
      = (if half ≤ r.val + j ∧ r.val + j < half + 2048 then 1#1 else 0#1)
    ∧ (half ≤ r.val + j ∧ r.val + j < half + 2048 → r.val + j - half = (r.val + 2048 - turn.toNat % 2048) % 2048)

instance (half j : Nat) (turn by_ : BitVec 32) : Decidable (Moves half j turn by_) := inferInstanceAs (Decidable (∀ _, _))

/-- The block moved. -/
theorem moved (half j : Nat) (turn by_ : BitVec 32) (hm : Moves half j turn by_) (x : FVec Ideal Block .f32) (hi : Block.Iotas .tc 32 [0])
    (hr : Block.Rotates 0 none) (r : Fin 2048) (k : Fin 256) :
    select (inside hi by_) (dynamicRotate 0 turn none x hr) (broadcast Block (Scalar.ofBits (F := Ideal) .f32 0x00000000#32)) (ValueIdx.ix2 r k)
      = padded half (fun t => x (ValueIdx.ix2 t k)) (r.val + j) := by
  obtain ⟨hc, ht⟩ := hm r
  have hio : iota .tc Block 32 [0] hi (ValueIdx.ix2 r k) = BitVec.ofNat 32 r.val := iota_single_apply _ _ _ _ _ _
  have hmask : inside hi by_ (ValueIdx.ix2 r k) = (if half ≤ r.val + j ∧ r.val + j < half + 2048 then 1#1 else 0#1) :=
    Eq.trans (by show IntOp.andi (IntOp.cmpi .sge (IntOp.addi (iota .tc Block 32 [0] hi (ValueIdx.ix2 r k)) by_) 0#32)
                    (IntOp.cmpi .slt (IntOp.addi (iota .tc Block 32 [0] hi (ValueIdx.ix2 r k)) by_) 2048#32) = _
                 rw [hio]) hc
  rw [ValueIdx.select_apply, hmask]
  unfold padded
  by_cases h : half ≤ r.val + j ∧ r.val + j < half + 2048
  · rw [if_pos h, dif_pos h]
    refine Eq.trans rfl (dynamicRotate_apply (0 : Fin 2) turn x hr (ValueIdx.ix2 r k) (ValueIdx.ix2 ⟨r.val + j - half, by omega⟩ k) (fun b => ?_))
    match b with
    | ⟨0, _⟩ => exact ht h
    | ⟨1, _⟩ => rfl
  · rw [if_neg h, dif_neg h]
    exact Ideal.ofBits_zero_f32

/-- A row of weights spread over the block. -/
theorem spread {α : Type} {n : Nat} (w : (⟨2, ![n, 256]⟩ : Shape).Idx → α) (j : Fin n) (hs : Shape.Slices ⟨2, ![n, 256]⟩ ![j.val, 0] Row)
    (hb : Row.Broadcasts Block) (r : Fin 2048) (k : Fin 256) :
    broadcastTo Block (extractStridedSlice Row ![j.val, 0] w hs) hb (ValueIdx.ix2 r k) = w (ValueIdx.ix2 j k) :=
  (broadcastTo_apply _ hb _ (ValueIdx.ix2 (0 : Fin 1) k) (fun a => match a with
    | ⟨0, _⟩ => by show 0 = if (1 : Nat) = 1 then 0 else r.val; rw [if_pos rfl]
    | ⟨1, _⟩ => by show k.val = if (256 : Nat) = 1 then 0 else k.val; rw [if_neg (by decide)])).trans
  (extractStridedSlice_apply ![j.val, 0] w hs _ (ValueIdx.ix2 j k) (fun a => match a with
    | ⟨0, _⟩ => rfl
    | ⟨1, _⟩ => (Nat.zero_add _).symm))

end Cert.Convs

end
-- ==== Proof.Conv27.lean ====
/- The depthwise convolution before the SSD scan (`ssd_conv`), with its activation: each grid point convolves 256 channels
   of one sequence. -/
module

public import proofs.«01_k».proof.Defs
public import proofs.«01_k».proof.Proof.Gen.Kernel27Ideal.Value
public import proofs.«01_k».proof.Proof.Gen.Reference27Ideal.Run
public import proofs.«01_k».proof.Proof.Gen.Reference27Ideal.Read
public import proofs.«01_k».proof.Proof.Gate24
public import proofs.«01_k».proof.Proof.Convs
public import Idealize.ShloMosaic.Lib.Quiescent

@[expose] public section

set_option maxRecDepth 16384
set_option maxHeartbeats 1000000

noncomputable section

namespace Cert.Conv27

open Cert.Kernel27Ideal Cert.Kernel27Ideal.Gen Cert.Kernel27Ideal.Value
open Cert.Reference27Ideal.Read
open Idealize.ShloMosaic Idealize.ShloMosaic.TcCoe Idealize.SL.Sem

/-! ## The convolution -/

/-- The five taps on one channel of a sequence, and the bias. -/
def conv (f : Fin 2048 → EReal) (w : Fin 5 → EReal) (b : EReal) (r : Fin 2048) : EReal :=
  (∑ j : Fin 5, w j * Convs.padded 2 f (r.val + j.val)) + b

/-- Channel `k` of sequence `s`. -/
abbrev channel (x : S8192x2048.Idx → EReal) (s : Fin 4) (k : Fin 2048) (t : Fin 2048) : EReal :=
  x (ValueIdx.ix2 (⟨s.val * 2048 + t.val, by have := s.isLt; have := t.isLt; omega⟩ : Fin 8192) k)

/-- The activated convolution of each sequence. -/
def rows (x : S8192x2048.Idx → EReal) (w : S5x2048.Idx → EReal) (b : S1x2048.Idx → EReal) : S8192x2048.Idx → EReal := fun i =>
  Gate24.silu (conv (channel x ⟨(i 0).val / 2048, by have : (i 0).val < 8192 := (i 0).isLt; omega⟩ (i 1))
    (fun j => w (ValueIdx.ix2 j (i 1 : Fin 2048))) (b (ValueIdx.ix2 0 (i 1 : Fin 2048))) ⟨(i 0).val % 2048, Nat.mod_lt _ (by decide)⟩)

/-- The rows of sequence `s`. -/
theorem rows_at (x : S8192x2048.Idx → EReal) (w : S5x2048.Idx → EReal) (b : S1x2048.Idx → EReal) (i : S8192x2048.Idx) (s : Fin 4) (r k : Fin 2048)
    (h0 : (i 0).val = s.val * 2048 + r.val) (h1 : (i 1).val = k.val) :
    rows x w b i = Gate24.silu (conv (channel x s k) (fun j => w (ValueIdx.ix2 j k)) (b (ValueIdx.ix2 0 k)) r) := by
  have hr := r.isLt
  have es : (⟨(i 0).val / 2048, by have : (i 0).val < 8192 := (i 0).isLt; omega⟩ : Fin 4) = s := Fin.ext (by show (i 0).val / 2048 = s.val; omega)
  have er : (⟨(i 0).val % 2048, Nat.mod_lt _ (by decide)⟩ : Fin 2048) = r := Fin.ext (by show (i 0).val % 2048 = r.val; omega)
  have ek : (i 1 : Fin 2048) = k := Fin.ext h1
  unfold rows
  rw [es, er, ek]

/-! ## A block -/

theorem moves0 : Convs.Moves 2 (0 : Fin 5).val 2#32 4294967294#32 := by decide +kernel
theorem moves1 : Convs.Moves 2 (1 : Fin 5).val 1#32 4294967295#32 := by decide +kernel
theorem moves3 : Convs.Moves 2 (3 : Fin 5).val 2047#32 1#32 := by decide +kernel
theorem moves4 : Convs.Moves 2 (4 : Fin 5).val 2046#32 2#32 := by decide +kernel

theorem sort (b t0 t1 t2 t3 t4 : EReal) : b + t2 + t0 + t1 + t3 + t4 = t0 + t1 + t2 + t3 + t4 + b := by
  ac_rfl

section
variable (x : FVec Ideal S2048x256 .f32) (w : FVec Ideal S5x256 .f32) (b : FVec Ideal S1x256 .f32) (r : Fin 2048) (k : Fin 256)

/-- One tap on the block. -/
def term (j : Fin 5) : EReal := w (ValueIdx.ix2 j k) * Convs.padded 2 (fun t => x (ValueIdx.ix2 t k)) (r.val + j.val)

theorem term_at (j : Fin 5) (y : FVec Ideal S2048x256 .f32) (h : y (ValueIdx.ix2 r k) = Convs.padded 2 (fun t => x (ValueIdx.ix2 t k)) (r.val + j.val))
    (hs : Shape.Slices S5x256 ![j.val, 0] S1x256) :
    mulf (F := Ideal) (φ := .f32) (broadcastTo S2048x256 (extractStridedSlice S1x256 ![j.val, 0] w hs) broadcasts_S1x256_S2048x256) y (ValueIdx.ix2 r k)
      = term x w r k j :=
  congrArg₂ (fun a b : EReal => a * b) (Convs.spread w j hs _ r k) h

theorem add_at (u v : FVec Ideal S2048x256 .f32) (p q : EReal) (hu : u (ValueIdx.ix2 r k) = p) (hv : v (ValueIdx.ix2 r k) = q) :
    addf (F := Ideal) u v (ValueIdx.ix2 r k) = p + q := congrArg₂ (fun a b : EReal => a + b) hu hv

theorem pay2_at : k0_pay2 (F := Ideal) x w b (ValueIdx.ix2 r k) = b (ValueIdx.ix2 0 k) + term x w r k 2 + term x w r k 0 := by
  unfold k0_pay2
  refine add_at r k _ _ _ _ (add_at r k _ _ _ _ ?_ ?_) ?_
  · exact broadcastTo_apply _ _ _ (ValueIdx.ix2 (0 : Fin 1) k) (fun a => match a with
      | ⟨0, _⟩ => by show 0 = if (1 : Nat) = 1 then 0 else r.val; rw [if_pos rfl]
      | ⟨1, _⟩ => by show k.val = if (256 : Nat) = 1 then 0 else k.val; rw [if_neg (by decide)])
  · exact term_at x w r k 2 x (Convs.padded_center 2 (fun t => x (ValueIdx.ix2 t k)) r).symm slices_S5x256_o2_0_S1x256
  · exact term_at x w r k 0 _ (Convs.moved 2 _ _ _ moves0 x _ _ r k) slices_S5x256_o0_0_S1x256

theorem pay34_at : mulf (F := Ideal) (k0_pay4 (F := Ideal) w) (k0_pay3 (F := Ideal) x) (ValueIdx.ix2 r k) = term x w r k 1 := by
  unfold k0_pay4 k0_pay3
  exact term_at x w r k 1 _ (Convs.moved 2 _ _ _ moves1 x _ _ r k) slices_S5x256_o1_0_S1x256

theorem silu_at (v : FVec Ideal S2048x256 .f32) (i : S2048x256.Idx) (e : EReal) (h : v i = e) : mulf (F := Ideal) v (logistic v) i = Gate24.silu e :=
  congrArg Gate24.silu h

theorem conv_at : k0_pay1 (F := Ideal) x w (k0_pay2 x w b) (k0_pay3 x) (k0_pay4 w) (ValueIdx.ix2 r k)
      = Gate24.silu (conv (fun t => x (ValueIdx.ix2 t k)) (fun j => w (ValueIdx.ix2 j k)) (b (ValueIdx.ix2 0 k)) r) := by
  unfold k0_pay1
  refine silu_at _ _ _ ((add_at r k _ _ _ _ (add_at r k _ _ _ _ (add_at r k _ _ _ _ (pay2_at x w b r k) (pay34_at x w r k)) ?_) ?_).trans
    ((sort (b (ValueIdx.ix2 0 k)) (term x w r k 0) (term x w r k 1) (term x w r k 2) (term x w r k 3) (term x w r k 4)).trans
      (congrArg (fun z : EReal => z + b (ValueIdx.ix2 0 k)) (Fin.sum_univ_five (term x w r k)).symm)))
  · exact term_at x w r k 3 _ (Convs.moved 2 _ _ _ moves3 x _ _ r k) slices_S5x256_o3_0_S1x256
  · exact term_at x w r k 4 _ (Convs.moved 2 _ _ _ moves4 x _ _ r k) slices_S5x256_o4_0_S1x256

end

/-! ## The blocks a grid point works on -/

variable (m : (ℓ : Loc nD τ sig) → Buf (Elt Ideal) ℓ) (ρ : Dev nD → PrngReg) (c : Dev nD)

abbrev arg0 : S8192x2048.Idx → EReal := m ((c.tc : Thread nD τ).loc main_arg0)
abbrev arg1 : S5x2048.Idx → EReal := m ((c.tc : Thread nD τ).loc main_arg1)
abbrev arg2 : S1x2048.Idx → EReal := m ((c.tc : Thread nD τ).loc main_arg2)

theorem index0 : ∀ t : Fin cfg0.N, win0_0.index t (0 : Fin 2) = t.val % 4 ∧ win0_0.index t (1 : Fin 2) = t.val / 4 :=
  (by decide +kernel : ∀ t : Fin grid0.N, _)
theorem block0 (t : Fin cfg0.N) (s : Fin 4) (hs : s.val = t.val % 4) (q : Fin 256) (k : Fin 2048) (hk : k.val = t.val / 4 * 256 + q.val) (r : Fin 2048) :
    (iblk m c 0 t : S2048x256.Idx → EReal) (ValueIdx.ix2 r q) = channel (arg0 m c) s k r := by
  obtain ⟨e0, e1⟩ := index0 t
  refine congrArg (arg0 m c) (funext fun a => Fin.ext ?_)
  match a with
  | ⟨0, _⟩ => show win0_0.index t (0 : Fin 2) * 2048 + 1 * r.val = s.val * 2048 + r.val; rw [e0, hs]; omega
  | ⟨1, _⟩ => show win0_0.index t (1 : Fin 2) * 256 + 1 * q.val = k.val; rw [e1]; omega

theorem index1 : ∀ t : Fin cfg0.N, win0_1.index t (0 : Fin 2) = 0 ∧ win0_1.index t (1 : Fin 2) = t.val / 4 :=
  (by decide +kernel : ∀ t : Fin grid0.N, _)
theorem block1 (t : Fin cfg0.N) (q : Fin 256) (k : Fin 2048) (hk : k.val = t.val / 4 * 256 + q.val) (j : Fin 5) :
    (iblk m c 1 t : S5x256.Idx → EReal) (ValueIdx.ix2 j q) = arg1 m c (ValueIdx.ix2 j k) := by
  obtain ⟨e0, e1⟩ := index1 t
  refine congrArg (arg1 m c) (funext fun a => Fin.ext ?_)
  match a with
  | ⟨0, _⟩ => show win0_1.index t (0 : Fin 2) * 5 + 1 * j.val = j.val; rw [e0]; omega
  | ⟨1, _⟩ => show win0_1.index t (1 : Fin 2) * 256 + 1 * q.val = k.val; rw [e1]; omega

theorem index2 : ∀ t : Fin cfg0.N, win0_2.index t (0 : Fin 2) = 0 ∧ win0_2.index t (1 : Fin 2) = t.val / 4 :=
  (by decide +kernel : ∀ t : Fin grid0.N, _)
theorem block2 (t : Fin cfg0.N) (q : Fin 256) (k : Fin 2048) (hk : k.val = t.val / 4 * 256 + q.val) :
    (iblk m c 2 t : S1x256.Idx → EReal) (ValueIdx.ix2 0 q) = arg2 m c (ValueIdx.ix2 0 k) := by
  obtain ⟨e0, e1⟩ := index2 t
  refine congrArg (arg2 m c) (funext fun a => Fin.ext ?_)
  match a with
  | ⟨0, _⟩ => show win0_2.index t (0 : Fin 2) * 1 + 1 * 0 = 0; rw [e0]
  | ⟨1, _⟩ => show win0_2.index t (1 : Fin 2) * 256 + 1 * q.val = k.val; rw [e1]; omega

/-! ## The array the blocks make -/

theorem place3 : ∀ t : Fin cfg0.N, win0_3.index t (0 : Fin 2) = t.val % 4 ∧ win0_3.index t (1 : Fin 2) = t.val / 4 :=
  (by decide +kernel : ∀ t : Fin grid0.N, _)

theorem out3 (t : Fin cfg0.N) (y : S2048x256.Idx) : (((cfg0.win 3).blk t).view.emb y (0 : Fin 2)).val = t.val % 4 * 2048 + (y 0).val
    ∧ (((cfg0.win 3).blk t).view.emb y (1 : Fin 2)).val = t.val / 4 * 256 + (y 1).val := by
  obtain ⟨e0, e1⟩ := place3 t
  constructor
  · show win0_3.index t (0 : Fin 2) * 2048 + 1 * (y 0).val = _; rw [e0]; omega
  · show win0_3.index t (1 : Fin 2) * 256 + 1 * (y 1).val = _; rw [e1]; omega

theorem flushes3 : ∀ t : Fin cfg0.N, (cfg0.win 3).flush t = true := (by decide +kernel : ∀ t : Fin grid0.N, win0_3.flush t = true)

theorem covered3 (i : S8192x2048.Idx) : ∃ t : Fin cfg0.N, (cfg0.win 3).flush t = true ∧ i ∈ ((cfg0.win 3).blk t).view.set := by
  have h0 : (i 0).val < 8192 := (i 0).isLt
  have h1 : (i 1).val < 2048 := (i 1).isLt
  have hN : cfg0.N = 32 := N_0
  obtain ⟨t, ht⟩ : ∃ t : Fin cfg0.N, t.val = (i 1).val / 256 * 4 + (i 0).val / 2048 := ⟨⟨(i 1).val / 256 * 4 + (i 0).val / 2048, by omega⟩, rfl⟩
  have e : ((cfg0.win 3).blk t).view.emb (ValueIdx.ix2 (⟨(i 0).val % 2048, by omega⟩ : Fin 2048) (⟨(i 1).val % 256, by omega⟩ : Fin 256)) = i :=
    funext fun a => Fin.ext (match a with
      | ⟨0, _⟩ => (out3 t _).1.trans (by show t.val % 4 * 2048 + (i 0).val % 2048 = (i 0).val; omega)
      | ⟨1, _⟩ => (out3 t _).2.trans (by show t.val / 4 * 256 + (i 1).val % 256 = (i 1).val; omega))
  exact ⟨t, flushes3 t, e ▸ ((cfg0.win 3).blk t).view.emb_mem_set _⟩

theorem result3 : (dats m 0 c).arrAt 3 cfg0.N = rows (arg0 m c) (arg1 m c) (arg2 m c) := by
  refine (dats m 0 c).arrAt_eq_of_cover 3 (rows (arg0 m c) (arg1 m c) (arg2 m c)) (fun t _ => ?_) covered3
  refine (flushed3 m c t).trans ?_
  funext (y : S2048x256.Idx)
  obtain ⟨r, q, rfl⟩ : ∃ r q, y = ValueIdx.ix2 r q := ⟨_, _, ValueIdx.eq_ix2 y⟩
  show out0_3 (iblk m c 0 t) (iblk m c 1 t) (iblk m c 2 t) (ValueIdx.ix2 r q)
    = rows (arg0 m c) (arg1 m c) (arg2 m c) (((cfg0.win 3).blk t).view.emb (ValueIdx.ix2 r q))
  unfold out0_3
  refine (congrFun (View.canon_unit_zero (S := S2048x256) (by decide) _ _) _).trans ?_
  simp only [View.ld_unit_zero (S := S2048x256) NormRows.zeros, View.ld_unit_zero (S := S5x256) NormRows.zeros, View.ld_unit_zero (S := S1x256) NormRows.zeros]
  have ht : t.val < 32 := Nat.lt_of_lt_of_eq t.isLt N_0
  have hq := q.isLt
  obtain ⟨s, hs⟩ : ∃ s : Fin 4, s.val = t.val % 4 := ⟨⟨t.val % 4, by omega⟩, rfl⟩
  obtain ⟨k, hk⟩ : ∃ k : Fin 2048, k.val = t.val / 4 * 256 + q.val := ⟨⟨t.val / 4 * 256 + q.val, by omega⟩, rfl⟩
  refine (conv_at _ _ _ r q).trans (Eq.trans ?_ (rows_at _ _ _ _ s r k ((out3 t _).1.trans (by rw [hs])) ((out3 t _).2.trans hk.symm)).symm)
  rw [block2 m c t q k hk, funext (block0 m c t s hs q k hk), funext (block1 m c t q k hk)]

/-! ## The reference -/

section
variable (x0 : (⟨S8192x2048, .f32⟩ : BufTy).Contents (Elt Ideal)) (x1 : (⟨S5x2048, .f32⟩ : BufTy).Contents (Elt Ideal))
    (x2 : (⟨S1x2048, .f32⟩ : BufTy).Contents (Elt Ideal)) (s : Fin 4) (r k : Fin 2048)

theorem pad_value (i : Cert.Reference27Ideal.S_.Idx) : val_main_call0_v0 (F := Ideal) i = (0 : EReal) := by
  show (((0#32 : BitVec 32).toInt : ℝ) : EReal) = 0
  simp

/-- The padded sequences. -/
theorem reference_padded (i : Cert.Reference27Ideal.S4x2052x2048.Idx) (n : Nat) (h0 : (i 0).val = s.val) (h1 : (i 1).val = n) (h2 : (i 2).val = k.val) :
    val_main_v2 (F := Ideal) x0 i = Convs.padded 2 (channel x0 s k) n := by
  unfold val_main_v2 Convs.padded
  have hk := k.isLt
  by_cases h : 2 ≤ n ∧ n < 2 + 2048
  · rw [dif_pos h]
    refine (pad_apply_of_inside _ _ _ _ _ _ _ _ (ValueIdx.ix3 s (⟨n - 2, by omega⟩ : Fin 2048) k) (fun a => match a with
      | ⟨0, _⟩ => by show (i 0).val = 0 + s.val * (0 + 1); omega
      | ⟨1, _⟩ => by show (i 1).val = 2 + (n - 2) * (0 + 1); omega
      | ⟨2, _⟩ => by show (i 2).val = 0 + k.val * (0 + 1); omega)).trans ?_
    refine (val_main_v0_apply _ _).trans (congrArg x0 (funext fun a => Fin.ext ?_))
    match a with
    | ⟨0, _⟩ => show ((s.val * 2048 + (n - 2)) * 2048 + k.val) / 2048 = s.val * 2048 + (n - 2); omega
    | ⟨1, _⟩ => show ((s.val * 2048 + (n - 2)) * 2048 + k.val) % 2048 = k.val; omega
  · rw [dif_neg h]
    refine (pad_apply_of_not_inside _ _ _ _ _ _ _ _ (1 : Fin 3) ?_).trans (pad_value _)
    show ¬(2 ≤ (i 1).val ∧ ((i 1).val - 2) % (0 + 1) = 0 ∧ ((i 1).val - 2) / (0 + 1) < 2048)
    omega

theorem tap_index (i : S5x2048.Idx) (j : Fin 5) (h0 : (i 0).val = j.val) (h1 : (i 1).val = k.val % 2048) : i = ValueIdx.ix2 j k :=
  funext fun a => Fin.ext (match a with
    | ⟨0, _⟩ => h0
    | ⟨1, _⟩ => h1.trans (Nat.mod_eq_of_lt k.isLt))

theorem reference_conv : val_main_v39 (F := Ideal) x0 x1 x2 (ValueIdx.ix3 s r k)
    = conv (channel x0 s k) (fun j => x1 (ValueIdx.ix2 j k)) (x2 (ValueIdx.ix2 0 k)) r := by
  unfold conv
  rw [Fin.sum_univ_five]
  refine congrArg₂ (fun a b : EReal => a + b) (congrArg₂ (fun a b : EReal => a + b) (congrArg₂ (fun a b : EReal => a + b)
    (congrArg₂ (fun a b : EReal => a + b) (congrArg₂ (fun a b : EReal => a + b) ?_ ?_) ?_) ?_) ?_) ?_
  · refine congrArg₂ (fun a b : EReal => a * b) ?_ ((val_main_v5_apply _ _).trans (reference_padded x0 s k _ _ rfl rfl rfl))
    exact ((val_main_v7_apply _ _).trans ((val_main_v6_apply _ _).trans ((val_main_v4_apply _ _).trans (val_main_v3_apply _ _)))).trans (congrArg x1 (tap_index k _ 0 rfl rfl))
  · refine congrArg₂ (fun a b : EReal => a * b) ?_ ((val_main_v11_apply _ _).trans (reference_padded x0 s k _ _ rfl (Nat.add_comm 1 r.val) rfl))
    exact ((val_main_v13_apply _ _).trans ((val_main_v12_apply _ _).trans ((val_main_v10_apply _ _).trans (val_main_v9_apply _ _)))).trans (congrArg x1 (tap_index k _ 1 rfl rfl))
  · refine congrArg₂ (fun a b : EReal => a * b) ?_ ((val_main_v17_apply _ _).trans (reference_padded x0 s k _ _ rfl (Nat.add_comm 2 r.val) rfl))
    exact ((val_main_v19_apply _ _).trans ((val_main_v18_apply _ _).trans ((val_main_v16_apply _ _).trans (val_main_v15_apply _ _)))).trans (congrArg x1 (tap_index k _ 2 rfl rfl))
  · refine congrArg₂ (fun a b : EReal => a * b) ?_ ((val_main_v23_apply _ _).trans (reference_padded x0 s k _ _ rfl (Nat.add_comm 3 r.val) rfl))
    exact ((val_main_v25_apply _ _).trans ((val_main_v24_apply _ _).trans ((val_main_v22_apply _ _).trans (val_main_v21_apply _ _)))).trans (congrArg x1 (tap_index k _ 3 rfl rfl))
  · refine congrArg₂ (fun a b : EReal => a * b) ?_ ((val_main_v29_apply _ _).trans (reference_padded x0 s k _ _ rfl (Nat.add_comm 4 r.val) rfl))
    exact ((val_main_v31_apply _ _).trans ((val_main_v30_apply _ _).trans ((val_main_v28_apply _ _).trans (val_main_v27_apply _ _)))).trans (congrArg x1 (tap_index k _ 4 rfl rfl))
  · refine ((val_main_v38_apply _ _).trans ((val_main_v37_apply _ _).trans (val_main_v1_apply _ _))).trans (congrArg x2 (funext fun a => Fin.ext ?_))
    match a with
    | ⟨0, _⟩ => rfl
    | ⟨1, _⟩ => exact Nat.mod_eq_of_lt k.isLt

theorem reference_rows : val_main_v41 (F := Ideal) x0 x1 x2 = rows x0 x1 x2 := by
  funext i
  have h0 : (i 0).val < 8192 := (i 0).isLt
  have h1 : (i 1).val < 2048 := (i 1).isLt
  obtain ⟨s, hs⟩ : ∃ s : Fin 4, s.val = (i 0).val / 2048 := ⟨⟨(i 0).val / 2048, by omega⟩, rfl⟩
  obtain ⟨r, hr⟩ : ∃ r : Fin 2048, r.val = (i 0).val % 2048 := ⟨⟨(i 0).val % 2048, by omega⟩, rfl⟩
  have e : idx_main_v41 i = ValueIdx.ix3 s r (i 1 : Fin 2048) := funext fun a => Fin.ext (match a with
    | ⟨0, _⟩ => by show ((i 0).val * 2048 + (i 1).val) / 4194304 = s.val; omega
    | ⟨1, _⟩ => by show ((i 0).val * 2048 + (i 1).val) / 2048 % 2048 = r.val; omega
    | ⟨2, _⟩ => by show ((i 0).val * 2048 + (i 1).val) % 2048 = (i 1).val; omega)
  refine (val_main_v41_apply _ _ _ i).trans ((congrArg _ e).trans (Eq.trans ?_ (rows_at x0 x1 x2 i s r (i 1 : Fin 2048) (by omega) rfl).symm))
  have hc := reference_conv x0 x1 x2 s r (i 1 : Fin 2048)
  refine congrArg₂ (fun a b : EReal => a * b) hc (congrArg₂ Ideal.div ((val_main_call1_v4_apply _).trans Gate24.one_eq) ?_)
  exact congrArg₂ (fun a b : EReal => a + Ideal.exp (-b)) ((val_main_call1_v2_apply _).trans Gate24.one_eq) hc

end

/-! ## The claims -/

theorem frame_reference : Cert.quiescent_Reference27Ideal := fun m ρ _ =>
  (θ_run Cert.Reference27Ideal.defs _ _).mono (fun _ h => ⟨fun c => (h c).2, sem_eq_zero_of_no_sems rfl _⟩) (Cert.Reference27Ideal.Value.run (F := Ideal) m ρ)

theorem algebraic : Cert.algebraic_Kernel27Ideal_Reference27Ideal := fun m ρ m' ρ' _ hag =>
  ⟨fun c => rows (arg0 m c) (arg1 m c) (arg2 m c),
   (θ_run Cert.Kernel27Ideal.defs _ _).mono (fun _ h c => ⟨(h c).1.trans (result3 m c), (h c).2⟩) (Cert.Kernel27Ideal.Value.run_blocks (F := Ideal) m ρ),
   (θ_run Cert.Reference27Ideal.defs _ _).mono (fun _ h c => ⟨
      (h c).1.trans ((val_main_v41_eq _ _).trans (by
        rw [(hag c).1, (hag c).2.1, (hag c).2.2]
        exact reference_rows _ _ _)), (h c).2⟩) (Cert.Reference27Ideal.Value.run (F := Ideal) m' ρ')⟩

end Cert.Conv27

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.CarryClaims
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Product2
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Product3
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Product4
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Product5
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Product6
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Product7
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Product8
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Product9
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Product10
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Product11
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Product12
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Product13
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Norm14
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Norm15
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Norm16
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Loss17
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Adam18
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Adam19
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Adam20
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Adam21
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Adam22
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Adam23
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gate24
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Gate25
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.Norm26
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Reference27Ideal.Read
public import proofs.«01_k».proof.Proof.Conv27

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts,
   Cert.Kernel7.Gen.facts, Cert.Kernel7Ideal.Gen.facts, Cert.Reference7Ideal.Gen.facts,
   Cert.Kernel8.Gen.facts, Cert.Kernel8Ideal.Gen.facts, Cert.Reference8Ideal.Gen.facts,
   Cert.Kernel9.Gen.facts, Cert.Kernel9Ideal.Gen.facts, Cert.Reference9Ideal.Gen.facts,
   Cert.Kernel10.Gen.facts, Cert.Kernel10Ideal.Gen.facts, Cert.Reference10Ideal.Gen.facts,
   Cert.Kernel11.Gen.facts, Cert.Kernel11Ideal.Gen.facts, Cert.Reference11Ideal.Gen.facts,
   Cert.Kernel12.Gen.facts, Cert.Kernel12Ideal.Gen.facts, Cert.Reference12Ideal.Gen.facts,
   Cert.Kernel13.Gen.facts, Cert.Kernel13Ideal.Gen.facts, Cert.Reference13Ideal.Gen.facts,
   Cert.Kernel14.Gen.facts, Cert.Kernel14Ideal.Gen.facts, Cert.Reference14Ideal.Gen.facts,
   Cert.Kernel15.Gen.facts, Cert.Kernel15Ideal.Gen.facts, Cert.Reference15Ideal.Gen.facts,
   Cert.Kernel16.Gen.facts, Cert.Kernel16Ideal.Gen.facts, Cert.Reference16Ideal.Gen.facts,
   Cert.Kernel17.Gen.facts, Cert.Kernel17Ideal.Gen.facts, Cert.Reference17Ideal.Gen.facts,
   Cert.Kernel18.Gen.facts, Cert.Kernel18Ideal.Gen.facts, Cert.Reference18Ideal.Gen.facts,
   Cert.Kernel19.Gen.facts, Cert.Kernel19Ideal.Gen.facts, Cert.Reference19Ideal.Gen.facts,
   Cert.Kernel20.Gen.facts, Cert.Kernel20Ideal.Gen.facts, Cert.Reference20Ideal.Gen.facts,
   Cert.Kernel21.Gen.facts, Cert.Kernel21Ideal.Gen.facts, Cert.Reference21Ideal.Gen.facts,
   Cert.Kernel22.Gen.facts, Cert.Kernel22Ideal.Gen.facts, Cert.Reference22Ideal.Gen.facts,
   Cert.Kernel23.Gen.facts, Cert.Kernel23Ideal.Gen.facts, Cert.Reference23Ideal.Gen.facts,
   Cert.Kernel24.Gen.facts, Cert.Kernel24Ideal.Gen.facts, Cert.Reference24Ideal.Gen.facts,
   Cert.Kernel25.Gen.facts, Cert.Kernel25Ideal.Gen.facts, Cert.Reference25Ideal.Gen.facts,
   Cert.Kernel26.Gen.facts, Cert.Kernel26Ideal.Gen.facts, Cert.Reference26Ideal.Gen.facts,
   Cert.Kernel27.Gen.facts, Cert.Kernel27Ideal.Gen.facts, Cert.Reference27Ideal.Gen.facts,
   fun m ρ _ => Cert.Kernel.Gen.frame m ρ, fun m ρ _ => Cert.KernelIdeal.Gen.frame m ρ, Cert.CarryClaims.frame_reference,
   fun m ρ _ => Cert.Kernel2.Gen.frame m ρ, fun m ρ _ => Cert.Kernel2Ideal.Gen.frame m ρ, Cert.Product2.frame_reference,
   fun m ρ _ => Cert.Kernel3.Gen.frame m ρ, fun m ρ _ => Cert.Kernel3Ideal.Gen.frame m ρ, Cert.Product3.frame_reference,
   fun m ρ _ => Cert.Kernel4.Gen.frame m ρ, fun m ρ _ => Cert.Kernel4Ideal.Gen.frame m ρ, Cert.Product4.frame_reference,
   fun m ρ _ => Cert.Kernel5.Gen.frame m ρ, fun m ρ _ => Cert.Kernel5Ideal.Gen.frame m ρ, Cert.Product5.frame_reference,
   fun m ρ _ => Cert.Kernel6.Gen.frame m ρ, fun m ρ _ => Cert.Kernel6Ideal.Gen.frame m ρ, Cert.Product6.frame_reference,
   fun m ρ _ => Cert.Kernel7.Gen.frame m ρ, fun m ρ _ => Cert.Kernel7Ideal.Gen.frame m ρ, Cert.Product7.frame_reference,
   fun m ρ _ => Cert.Kernel8.Gen.frame m ρ, fun m ρ _ => Cert.Kernel8Ideal.Gen.frame m ρ, Cert.Product8.frame_reference,
   fun m ρ _ => Cert.Kernel9.Gen.frame m ρ, fun m ρ _ => Cert.Kernel9Ideal.Gen.frame m ρ, Cert.Product9.frame_reference,
   fun m ρ _ => Cert.Kernel10.Gen.frame m ρ, fun m ρ _ => Cert.Kernel10Ideal.Gen.frame m ρ, Cert.Product10.frame_reference,
   fun m ρ _ => Cert.Kernel11.Gen.frame m ρ, fun m ρ _ => Cert.Kernel11Ideal.Gen.frame m ρ, Cert.Product11.frame_reference,
   fun m ρ _ => Cert.Kernel12.Gen.frame m ρ, fun m ρ _ => Cert.Kernel12Ideal.Gen.frame m ρ, Cert.Product12.frame_reference,
   fun m ρ _ => Cert.Kernel13.Gen.frame m ρ, fun m ρ _ => Cert.Kernel13Ideal.Gen.frame m ρ, Cert.Product13.frame_reference,
   fun m ρ _ => Cert.Kernel14.Gen.frame m ρ, fun m ρ _ => Cert.Kernel14Ideal.Gen.frame m ρ, Cert.Norm14.frame_reference,
   fun m ρ _ => Cert.Kernel15.Gen.frame m ρ, fun m ρ _ => Cert.Kernel15Ideal.Gen.frame m ρ, Cert.Norm15.frame_reference,
   fun m ρ _ => Cert.Kernel16.Gen.frame m ρ, fun m ρ _ => Cert.Kernel16Ideal.Gen.frame m ρ, Cert.Norm16.frame_reference,
   fun m ρ _ => Cert.Kernel17.Gen.frame m ρ, fun m ρ _ => Cert.Kernel17Ideal.Gen.frame m ρ, Cert.Loss17.frame_reference,
   fun m ρ _ => Cert.Kernel18.Gen.frame m ρ, fun m ρ _ => Cert.Kernel18Ideal.Gen.frame m ρ, Cert.Adam18.frame_reference,
   fun m ρ _ => Cert.Kernel19.Gen.frame m ρ, fun m ρ _ => Cert.Kernel19Ideal.Gen.frame m ρ, Cert.Adam19.frame_reference,
   fun m ρ _ => Cert.Kernel20.Gen.frame m ρ, fun m ρ _ => Cert.Kernel20Ideal.Gen.frame m ρ, Cert.Adam20.frame_reference,
   fun m ρ _ => Cert.Kernel21.Gen.frame m ρ, fun m ρ _ => Cert.Kernel21Ideal.Gen.frame m ρ, Cert.Adam21.frame_reference,
   fun m ρ _ => Cert.Kernel22.Gen.frame m ρ, fun m ρ _ => Cert.Kernel22Ideal.Gen.frame m ρ, Cert.Adam22.frame_reference,
   fun m ρ _ => Cert.Kernel23.Gen.frame m ρ, fun m ρ _ => Cert.Kernel23Ideal.Gen.frame m ρ, Cert.Adam23.frame_reference,
   fun m ρ _ => Cert.Kernel24.Gen.frame m ρ, fun m ρ _ => Cert.Kernel24Ideal.Gen.frame m ρ, Cert.Gate24.frame_reference,
   fun m ρ _ => Cert.Kernel25.Gen.frame m ρ, fun m ρ _ => Cert.Kernel25Ideal.Gen.frame m ρ, Cert.Gate25.frame_reference,
   fun m ρ _ => Cert.Kernel26.Gen.frame m ρ, fun m ρ _ => Cert.Kernel26Ideal.Gen.frame m ρ, Cert.Norm26.frame_reference,
   fun m ρ _ => Cert.Kernel27.Gen.frame m ρ, fun m ρ _ => Cert.Kernel27Ideal.Gen.frame m ρ, Cert.Conv27.frame_reference,
   trivial, Cert.CarryClaims.algebraic,
   trivial, Cert.Product2.algebraic,
   trivial, Cert.Product3.algebraic,
   trivial, Cert.Product4.algebraic,
   trivial, Cert.Product5.algebraic,
   trivial, Cert.Product6.algebraic,
   trivial, Cert.Product7.algebraic,
   trivial, Cert.Product8.algebraic,
   trivial, Cert.Product9.algebraic,
   trivial, Cert.Product10.algebraic,
   trivial, Cert.Product11.algebraic,
   trivial, Cert.Product12.algebraic,
   trivial, Cert.Product13.algebraic,
   trivial, Cert.Norm14.algebraic,
   trivial, Cert.Norm15.algebraic,
   trivial, Cert.Norm16.algebraic,
   trivial, Cert.Loss17.algebraic,
   trivial, Cert.Adam18.algebraic,
   trivial, Cert.Adam19.algebraic,
   trivial, Cert.Adam20.algebraic,
   trivial, Cert.Adam21.algebraic,
   trivial, Cert.Adam22.algebraic,
   trivial, Cert.Adam23.algebraic,
   trivial, Cert.Gate24.algebraic,
   trivial, Cert.Gate25.algebraic,
   trivial, Cert.Norm26.algebraic,
   trivial, Cert.Conv27.algebraic⟩

end Cert.Proof

end
